-- ==== Defs.lean ====
def Pre_Kernel [hPre_in_grid : Cert.Pre_in_grid.Facts] (m : (ℓ : Loc Cert.Kernel.nD Cert.Kernel.τ Cert.Kernel.sig) → Buf (Elt Bits) ℓ) : Prop :=
  ∀ c : Dev Cert.Kernel.nD,
    (Cert.Pre_in_grid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_grid : Cert.Pre_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_grid [hPre_in_grid : Cert.Pre_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Assign (m : (ℓ : Loc Cert.Assign.nD Cert.Assign.τ Cert.Assign.sig) → Buf (Elt Bits) ℓ) : Prop :=
  True

def Pre_AssignIdeal (m : (ℓ : Loc Cert.AssignIdeal.nD Cert.AssignIdeal.τ Cert.AssignIdeal.sig) → Buf (Elt Ideal) ℓ) : Prop :=
  True

def Pre_AssignmentIdeal (m : (ℓ : Loc Cert.AssignmentIdeal.nD Cert.AssignmentIdeal.τ Cert.AssignmentIdeal.sig) → Buf (Elt Ideal) ℓ) : Prop :=
  True

def quiescent_Kernel [hKernel : Cert.Kernel.Facts] [hPre_in_grid : Cert.Pre_in_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_grid [hReferenceIdeal : Cert.ReferenceIdeal.Facts] [hPre_in_grid : Cert.Pre_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Assign [hAssign : Cert.Assign.Facts] : Prop :=
  ∀ (m : (ℓ : Loc Cert.Assign.nD Cert.Assign.τ Cert.Assign.sig) → Buf (Elt Bits) ℓ) (g : Dev Cert.Assign.nD → PrngReg), Pre_Assign m →
    θ_run (Cert.Assign.defs (F := Bits)) (onTc (τ := Cert.Assign.τ) (Cert.Assign.main (F := Bits))) ⟨m, fun _ => 0, g⟩ (fun r => (∀ c : Dev Cert.Assign.nD,
      r.2.mem ((c.tc : Thread Cert.Assign.nD Cert.Assign.τ).loc Cert.Assign.main_arg0) = m ((c.tc : Thread Cert.Assign.nD Cert.Assign.τ).loc Cert.Assign.main_arg0)
      ∧ r.2.mem ((c.tc : Thread Cert.Assign.nD Cert.Assign.τ).loc Cert.Assign.main_arg1) = m ((c.tc : Thread Cert.Assign.nD Cert.Assign.τ).loc Cert.Assign.main_arg1))
      ∧ r.2.sem = fun _ => 0)

def quiescent_AssignIdeal [hAssignIdeal : Cert.AssignIdeal.Facts] : Prop :=
  ∀ (m : (ℓ : Loc Cert.AssignIdeal.nD Cert.AssignIdeal.τ Cert.AssignIdeal.sig) → Buf (Elt Ideal) ℓ) (g : Dev Cert.AssignIdeal.nD → PrngReg), Pre_AssignIdeal m →
    θ_run (Cert.AssignIdeal.defs (F := Ideal)) (onTc (τ := Cert.AssignIdeal.τ) (Cert.AssignIdeal.main (F := Ideal))) ⟨m, fun _ => 0, g⟩ (fun r => (∀ c : Dev Cert.AssignIdeal.nD,
      r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
      ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ r.2.sem = fun _ => 0)

def quiescent_AssignmentIdeal [hAssignmentIdeal : Cert.AssignmentIdeal.Facts] : Prop :=
  ∀ (m : (ℓ : Loc Cert.AssignmentIdeal.nD Cert.AssignmentIdeal.τ Cert.AssignmentIdeal.sig) → Buf (Elt Ideal) ℓ) (g : Dev Cert.AssignmentIdeal.nD → PrngReg), Pre_AssignmentIdeal m →
    θ_run (Cert.AssignmentIdeal.defs (F := Ideal)) (onTc (τ := Cert.AssignmentIdeal.τ) (Cert.AssignmentIdeal.main (F := Ideal))) ⟨m, fun _ => 0, g⟩ (fun r => (∀ c : Dev Cert.AssignmentIdeal.nD,
      r.2.mem ((c.tc : Thread Cert.AssignmentIdeal.nD Cert.AssignmentIdeal.τ).loc Cert.AssignmentIdeal.main_arg0) = m ((c.tc : Thread Cert.AssignmentIdeal.nD Cert.AssignmentIdeal.τ).loc Cert.AssignmentIdeal.main_arg0)
      ∧ r.2.mem ((c.tc : Thread Cert.AssignmentIdeal.nD Cert.AssignmentIdeal.τ).loc Cert.AssignmentIdeal.main_arg1) = m ((c.tc : Thread Cert.AssignmentIdeal.nD Cert.AssignmentIdeal.τ).loc Cert.AssignmentIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v739) = v0 c
          ∧ r.2.mem ((c.tc : Thread Cert.ReferenceIdeal.nD Cert.ReferenceIdeal.τ).loc Cert.ReferenceIdeal.main_v743) = v1 c
          ∧ r.2.mem ((c.tc : Thread Cert.ReferenceIdeal.nD Cert.ReferenceIdeal.τ).loc Cert.ReferenceIdeal.main_v747) = v2 c
          ∧ r.2.mem ((c.tc : Thread Cert.ReferenceIdeal.nD Cert.ReferenceIdeal.τ).loc Cert.ReferenceIdeal.main_v751) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Assign_AssignIdeal : Prop :=
  True

def algebraic_AssignIdeal_AssignmentIdeal [hAssignIdeal : Cert.AssignIdeal.Facts] [hAssignmentIdeal : Cert.AssignmentIdeal.Facts] : Prop :=
  ∀ (m : (ℓ : Loc Cert.AssignIdeal.nD Cert.AssignIdeal.τ Cert.AssignIdeal.sig) → Buf (Elt Ideal) ℓ) (g : Dev Cert.AssignIdeal.nD → PrngReg)
    (m' : (ℓ : Loc Cert.AssignmentIdeal.nD Cert.AssignmentIdeal.τ Cert.AssignmentIdeal.sig) → Buf (Elt Ideal) ℓ) (g' : Dev Cert.AssignmentIdeal.nD → PrngReg), Pre_AssignIdeal m →
    (∀ c : Dev Cert.AssignIdeal.nD,
      m' ((c.tc : Thread Cert.AssignmentIdeal.nD Cert.AssignmentIdeal.τ).loc Cert.AssignmentIdeal.main_arg0) = m ((c.tc : Thread Cert.AssignIdeal.nD Cert.AssignIdeal.τ).loc Cert.AssignIdeal.main_arg0)
      ∧ m' ((c.tc : Thread Cert.AssignmentIdeal.nD Cert.AssignmentIdeal.τ).loc Cert.AssignmentIdeal.main_arg1) = m ((c.tc : Thread Cert.AssignIdeal.nD Cert.AssignIdeal.τ).loc Cert.AssignIdeal.main_arg1)) →
    ∃ (v0 : (c : Dev Cert.AssignIdeal.nD) → Buf (Elt Ideal) ((c.tc : Thread Cert.AssignIdeal.nD Cert.AssignIdeal.τ).loc Cert.AssignIdeal.main_v2_0)) (v1 : (c : Dev Cert.AssignIdeal.nD) → Buf (Elt Ideal) ((c.tc : Thread Cert.AssignIdeal.nD Cert.AssignIdeal.τ).loc Cert.AssignIdeal.main_v2_1)) (v2 : (c : Dev Cert.AssignIdeal.nD) → Buf (Elt Ideal) ((c.tc : Thread Cert.AssignIdeal.nD Cert.AssignIdeal.τ).loc Cert.AssignIdeal.main_v2_2)),
      θ_run (Cert.AssignIdeal.defs (F := Ideal)) (onTc (τ := Cert.AssignIdeal.τ) (Cert.AssignIdeal.main (F := Ideal))) ⟨m, fun _ => 0, g⟩ (fun r => ∀ c : Dev Cert.AssignIdeal.nD,
          r.2.mem ((c.tc : Thread Cert.AssignIdeal.nD Cert.AssignIdeal.τ).loc Cert.AssignIdeal.main_v2_0) = v0 c
          ∧ r.2.mem ((c.tc : Thread Cert.AssignIdeal.nD Cert.AssignIdeal.τ).loc Cert.AssignIdeal.main_v2_1) = v1 c
          ∧ r.2.mem ((c.tc : Thread Cert.AssignIdeal.nD Cert.AssignIdeal.τ).loc Cert.AssignIdeal.main_v2_2) = v2 c
          ∧ r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
          ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ θ_run (Cert.AssignmentIdeal.defs (F := Ideal)) (onTc (τ := Cert.AssignmentIdeal.τ) (Cert.AssignmentIdeal.main (F := Ideal))) ⟨m', fun _ => 0, g'⟩ (fun r => ∀ c : Dev Cert.AssignmentIdeal.nD,
          r.2.mem ((c.tc : Thread Cert.AssignmentIdeal.nD Cert.AssignmentIdeal.τ).loc Cert.AssignmentIdeal.main_v587) = v0 c
          ∧ r.2.mem ((c.tc : Thread Cert.AssignmentIdeal.nD Cert.AssignmentIdeal.τ).loc Cert.AssignmentIdeal.main_v591) = v1 c
          ∧ r.2.mem ((c.tc : Thread Cert.AssignmentIdeal.nD Cert.AssignmentIdeal.τ).loc Cert.AssignmentIdeal.main_v595) = v2 c
          ∧ r.2.mem ((c.tc : Thread Cert.AssignmentIdeal.nD Cert.AssignmentIdeal.τ).loc Cert.AssignmentIdeal.main_arg0) = m' ((c.tc : Thread Cert.AssignmentIdeal.nD Cert.AssignmentIdeal.τ).loc Cert.AssignmentIdeal.main_arg0)
          ∧ r.2.mem ((c.tc : Thread Cert.AssignmentIdeal.nD Cert.AssignmentIdeal.τ).loc Cert.AssignmentIdeal.main_arg1) = m' ((c.tc : Thread Cert.AssignmentIdeal.nD Cert.AssignmentIdeal.τ).loc Cert.AssignmentIdeal.main_arg1))

def Claim : Prop :=
  ∃ (hKernel : Cert.Kernel.Facts) (hKernelIdeal : Cert.KernelIdeal.Facts) (hReferenceIdeal : Cert.ReferenceIdeal.Facts) (hAssign : Cert.Assign.Facts) (hAssignIdeal : Cert.AssignIdeal.Facts) (hAssignmentIdeal : Cert.AssignmentIdeal.Facts) (hPre_in_grid : Cert.Pre_in_grid.Facts),
    quiescent_Kernel (hKernel := hKernel) (hPre_in_grid := hPre_in_grid)
    ∧ quiescent_KernelIdeal (hKernelIdeal := hKernelIdeal) (hPre_in_grid := hPre_in_grid)
    ∧ quiescent_ReferenceIdeal (hReferenceIdeal := hReferenceIdeal)
    ∧ quiescent_ReferenceIdeal_pre_in_grid (hReferenceIdeal := hReferenceIdeal) (hPre_in_grid := hPre_in_grid)
    ∧ quiescent_Assign (hAssign := hAssign)
    ∧ quiescent_AssignIdeal (hAssignIdeal := hAssignIdeal)
    ∧ quiescent_AssignmentIdeal (hAssignmentIdeal := hAssignmentIdeal)
    ∧ preserves_Kernel_KernelIdeal
    ∧ algebraic_KernelIdeal_ReferenceIdeal (hKernelIdeal := hKernelIdeal) (hReferenceIdeal := hReferenceIdeal) (hPre_in_grid := hPre_in_grid)
    ∧ preserves_Assign_AssignIdeal
    ∧ algebraic_AssignIdeal_AssignmentIdeal (hAssignIdeal := hAssignIdeal) (hAssignmentIdeal := hAssignmentIdeal)
-- ==== Pre_in_grid.lean ====
abbrev S3x9x4 : Shape := ⟨3, ![3, 9, 4]⟩
abbrev S8x100x6 : Shape := ⟨3, ![8, 100, 6]⟩
abbrev S3x8x9x80x80x5 : Shape := ⟨6, ![3, 8, 9, 80, 80, 5]⟩
abbrev S3x8x9x80x80x20 : Shape := ⟨6, ![3, 8, 9, 80, 80, 20]⟩
abbrev S_ : Shape := ⟨0, ![]⟩
abbrev S8x128x6 : Shape := ⟨3, ![8, 128, 6]⟩
abbrev S8x128x1 : Shape := ⟨3, ![8, 128, 1]⟩
abbrev S8x128 : Shape := ⟨2, ![8, 128]⟩

class Facts : Prop where
  pads_S8x100x6_S8x128x6_000_0280_000 : S8x100x6.Pads (![0, 0, 0] : Fin 3 → Nat) ![0, 28, 0] ![0, 0, 0] S8x128x6
  h_S_ : 0 < S_.numel
  slices_S8x128x6_S8x128x1_0_0_2 : S8x128x6.Slices ![0, 0, 2] S8x128x1
  shapeCasts_S8x128x1_S8x128 : S8x128x1.ShapeCasts S8x128
  slices_S8x128x6_S8x128x1_0_0_0 : S8x128x6.Slices ![0, 0, 0] S8x128x1
  slices_S8x128x6_S8x128x1_0_0_3 : S8x128x6.Slices ![0, 0, 3] S8x128x1
  slices_S8x128x6_S8x128x1_0_0_1 : S8x128x6.Slices ![0, 0, 1] S8x128x1
  bcast_S_S8x128 : S_.BroadcastsInDim S8x128 (![] : Fin 0 → Fin S8x128.rank)
  reducesTo_S8x128_S_d0_1 : S8x128.ReducesTo [0, 1] S_

variable [Facts]

def fn_pad {F : FTy → Type} [FloatOps F] (arg0 : FVec F S8x100x6 .f32) (arg1 : IVec S_ 32) : FVec F S8x128x6 .f32 :=
  let v0 : FVec F S_ .f32 := sitofp .f32 arg1
  let v1 : FVec F S8x128x6 .f32 := (fun x v => pad S8x128x6 ![0, 0, 0] ![0, 28, 0] ![0, 0, 0] x v pads_S8x100x6_S8x128x6_000_0280_000 h_S_) arg0 v0
  v1

def fn_part3 {F : FTy → Type} [FloatOps F] (main_v48 : IVec S_ 1) (main_v51 : IVec S8x128 32) (main_v53 : FVec F S8x128 .f32) : IVec S_ 1 :=
  let main_v54 : IVec S8x128 32 := fptosi 32 main_v53
  let main_c_16 : IVec S_ 32 := constantI S_ 32 0#32
  let main_v55 : IVec S8x128 32 := broadcastInDim S8x128 ![] bcast_S_S8x128 main_c_16
  let main_v56 : IVec S8x128 1 := cmpi .sge main_v51 main_v55
  let main_c_17 : IVec S_ 32 := constantI S_ 32 80#32
  let main_v57 : IVec S8x128 32 := broadcastInDim S8x128 ![] bcast_S_S8x128 main_c_17
  let main_v58 : IVec S8x128 1 := cmpi .slt main_v51 main_v57
  let main_v59 : IVec S8x128 1 := andi main_v56 main_v58
  let main_c_18 : IVec S_ 32 := constantI S_ 32 0#32
  let main_v60 : IVec S8x128 32 := broadcastInDim S8x128 ![] bcast_S_S8x128 main_c_18
  let main_v61 : IVec S8x128 1 := cmpi .sge main_v54 main_v60
  let main_v62 : IVec S8x128 1 := andi main_v59 main_v61
  let main_c_19 : IVec S_ 32 := constantI S_ 32 80#32
  let main_v63 : IVec S8x128 32 := broadcastInDim S8x128 ![] bcast_S_S8x128 main_c_19
  let main_v64 : IVec S8x128 1 := cmpi .slt main_v54 main_v63
  let main_v65 : IVec S8x128 1 := andi main_v62 main_v64
  let main_c_20 : IVec S_ 1 := constantI S_ 1 1#1
  let main_v66 : IVec S_ 1 := (fun x v => Host.reduce IntOp.andi x v reducesTo_S8x128_S_d0_1 h_S_) main_v65 main_c_20
  let main_v67 : IVec S_ 1 := andi main_v48 main_v66
  main_v67

def fn_part2 {F : FTy → Type} [FloatOps F] (main_v5 : FVec F S8x128 .f32) (main_v10 : FVec F S8x128 .f32) (main_v29 : IVec S_ 1) (main_v32 : IVec S8x128 32) (main_v35 : IVec S8x128 32) (main_c_9 : IVec S_ 32) : IVec S_ 1 :=
  let main_v36 : IVec S8x128 32 := broadcastInDim S8x128 ![] bcast_S_S8x128 main_c_9
  let main_v37 : IVec S8x128 1 := cmpi .sge main_v32 main_v36
  let main_c_10 : IVec S_ 32 := constantI S_ 32 80#32
  let main_v38 : IVec S8x128 32 := broadcastInDim S8x128 ![] bcast_S_S8x128 main_c_10
  let main_v39 : IVec S8x128 1 := cmpi .slt main_v32 main_v38
  let main_v40 : IVec S8x128 1 := andi main_v37 main_v39
  let main_c_11 : IVec S_ 32 := constantI S_ 32 0#32
  let main_v41 : IVec S8x128 32 := broadcastInDim S8x128 ![] bcast_S_S8x128 main_c_11
  let main_v42 : IVec S8x128 1 := cmpi .sge main_v35 main_v41
  let main_v43 : IVec S8x128 1 := andi main_v40 main_v42
  let main_c_12 : IVec S_ 32 := constantI S_ 32 80#32
  let main_v44 : IVec S8x128 32 := broadcastInDim S8x128 ![] bcast_S_S8x128 main_c_12
  let main_v45 : IVec S8x128 1 := cmpi .slt main_v35 main_v44
  let main_v46 : IVec S8x128 1 := andi main_v43 main_v45
  let main_c_13 : IVec S_ 1 := constantI S_ 1 1#1
  let main_v47 : IVec S_ 1 := (fun x v => Host.reduce IntOp.andi x v reducesTo_S8x128_S_d0_1 h_S_) main_v46 main_c_13
  let main_v48 : IVec S_ 1 := andi main_v29 main_v47
  let main_cst_14 : FVec F S_ .f32 := constant S_ .f32 0x3D800000#32
  let main_v49 : FVec F S8x128 .f32 := broadcastInDim S8x128 ![] bcast_S_S8x128 main_cst_14
  let main_v50 : FVec F S8x128 .f32 := mulf main_v5 main_v49
  let main_v51 : IVec S8x128 32 := fptosi 32 main_v50
  let main_cst_15 : FVec F S_ .f32 := constant S_ .f32 0x3D800000#32
  let main_v52 : FVec F S8x128 .f32 := broadcastInDim S8x128 ![] bcast_S_S8x128 main_cst_15
  let main_v53 : FVec F S8x128 .f32 := mulf main_v10 main_v52
  fn_part3 (F := F) main_v48 main_v51 main_v53

def fn_part1 {F : FTy → Type} [FloatOps F] (main_v5 : FVec F S8x128 .f32) (main_v10 : FVec F S8x128 .f32) (main_v13 : IVec S8x128 32) (main_v16 : IVec S8x128 32) (main_v18 : IVec S8x128 1) (main_c_2 : IVec S_ 32) : IVec S_ 1 :=
  let main_v19 : IVec S8x128 32 := broadcastInDim S8x128 ![] bcast_S_S8x128 main_c_2
  let main_v20 : IVec S8x128 1 := cmpi .slt main_v13 main_v19
  let main_v21 : IVec S8x128 1 := andi main_v18 main_v20
  let main_c_3 : IVec S_ 32 := constantI S_ 32 0#32
  let main_v22 : IVec S8x128 32 := broadcastInDim S8x128 ![] bcast_S_S8x128 main_c_3
  let main_v23 : IVec S8x128 1 := cmpi .sge main_v16 main_v22
  let main_v24 : IVec S8x128 1 := andi main_v21 main_v23
  let main_c_4 : IVec S_ 32 := constantI S_ 32 80#32
  let main_v25 : IVec S8x128 32 := broadcastInDim S8x128 ![] bcast_S_S8x128 main_c_4
  let main_v26 : IVec S8x128 1 := cmpi .slt main_v16 main_v25
  let main_v27 : IVec S8x128 1 := andi main_v24 main_v26
  let main_c_5 : IVec S_ 1 := constantI S_ 1 1#1
  let main_v28 : IVec S_ 1 := (fun x v => Host.reduce IntOp.andi x v reducesTo_S8x128_S_d0_1 h_S_) main_v27 main_c_5
  let main_c_6 : IVec S_ 1 := constantI S_ 1 1#1
  let main_v29 : IVec S_ 1 := andi main_c_6 main_v28
  let main_cst_7 : FVec F S_ .f32 := constant S_ .f32 0x3D000000#32
  let main_v30 : FVec F S8x128 .f32 := broadcastInDim S8x128 ![] bcast_S_S8x128 main_cst_7
  let main_v31 : FVec F S8x128 .f32 := mulf main_v5 main_v30
  let main_v32 : IVec S8x128 32 := fptosi 32 main_v31
  let main_cst_8 : FVec F S_ .f32 := constant S_ .f32 0x3D000000#32
  let main_v33 : FVec F S8x128 .f32 := broadcastInDim S8x128 ![] bcast_S_S8x128 main_cst_8
  let main_v34 : FVec F S8x128 .f32 := mulf main_v10 main_v33
  let main_v35 : IVec S8x128 32 := fptosi 32 main_v34
  let main_c_9 : IVec S_ 32 := constantI S_ 32 0#32
  fn_part2 (F := F) main_v5 main_v10 main_v29 main_v32 main_v35 main_c_9

def fn {F : FTy → Type} [FloatOps F] (main_arg0 : FVec F S3x9x4 .f32) (main_arg1 : FVec F S8x100x6 .f32) (main_arg2 : FVec F S3x8x9x80x80x5 .f32) (main_arg3 : FVec F S3x8x9x80x80x20 .f32) : IVec S_ 1 :=
  let main_c : IVec S_ 32 := constantI S_ 32 0#32
  let main_v0 : FVec F S8x128x6 .f32 := fn_pad (F := F) main_arg1 main_c
  let main_v1 : FVec F S8x128x1 .f32 := (extractStridedSlice S8x128x1 ![0, 0, 2] · slices_S8x128x6_S8x128x1_0_0_2) main_v0
  let main_v2 : FVec F S8x128 .f32 := shapeCast S8x128 main_v1 shapeCasts_S8x128x1_S8x128
  let main_v3 : FVec F S8x128x1 .f32 := (extractStridedSlice S8x128x1 ![0, 0, 0] · slices_S8x128x6_S8x128x1_0_0_0) main_v0
  let main_v4 : FVec F S8x128 .f32 := shapeCast S8x128 main_v3 shapeCasts_S8x128x1_S8x128
  let main_v5 : FVec F S8x128 .f32 := subf main_v2 main_v4
  let main_v6 : FVec F S8x128x1 .f32 := (extractStridedSlice S8x128x1 ![0, 0, 3] · slices_S8x128x6_S8x128x1_0_0_3) main_v0
  let main_v7 : FVec F S8x128 .f32 := shapeCast S8x128 main_v6 shapeCasts_S8x128x1_S8x128
  let main_v8 : FVec F S8x128x1 .f32 := (extractStridedSlice S8x128x1 ![0, 0, 1] · slices_S8x128x6_S8x128x1_0_0_1) main_v0
  let main_v9 : FVec F S8x128 .f32 := shapeCast S8x128 main_v8 shapeCasts_S8x128x1_S8x128
  let main_v10 : FVec F S8x128 .f32 := subf main_v7 main_v9
  let main_cst : FVec F S_ .f32 := constant S_ .f32 0x3C800000#32
  let main_v11 : FVec F S8x128 .f32 := broadcastInDim S8x128 ![] bcast_S_S8x128 main_cst
  let main_v12 : FVec F S8x128 .f32 := mulf main_v5 main_v11
  let main_v13 : IVec S8x128 32 := fptosi 32 main_v12
  let main_cst_0 : FVec F S_ .f32 := constant S_ .f32 0x3C800000#32
  let main_v14 : FVec F S8x128 .f32 := broadcastInDim S8x128 ![] bcast_S_S8x128 main_cst_0
  let main_v15 : FVec F S8x128 .f32 := mulf main_v10 main_v14
  let main_v16 : IVec S8x128 32 := fptosi 32 main_v15
  let main_c_1 : IVec S_ 32 := constantI S_ 32 0#32
  let main_v17 : IVec S8x128 32 := broadcastInDim S8x128 ![] bcast_S_S8x128 main_c_1
  let main_v18 : IVec S8x128 1 := cmpi .sge main_v13 main_v17
  let main_c_2 : IVec S_ 32 := constantI S_ 32 80#32
  fn_part1 (F := F) main_v5 main_v10 main_v13 main_v16 main_v18 main_c_2
-- ==== Kernel.lean ====
abbrev S3x9x4 : Shape := ⟨3, ![3, 9, 4]⟩
abbrev S8x100x6 : Shape := ⟨3, ![8, 100, 6]⟩
abbrev S3x8x9x80x80x5 : Shape := ⟨6, ![3, 8, 9, 80, 80, 5]⟩
abbrev S3x8x9x80x80x20 : Shape := ⟨6, ![3, 8, 9, 80, 80, 20]⟩
abbrev S6x8x100 : Shape := ⟨3, ![6, 8, 100]⟩
abbrev S_ : Shape := ⟨0, ![]⟩
abbrev S6x8x128 : Shape := ⟨3, ![6, 8, 128]⟩
abbrev S3x8x128 : Shape := ⟨3, ![3, 8, 128]⟩
abbrev S3x8x100x4 : Shape := ⟨4, ![3, 8, 100, 4]⟩
abbrev S3x8x100x20 : Shape := ⟨4, ![3, 8, 100, 20]⟩
abbrev S1x8x128 : Shape := ⟨3, ![1, 8, 128]⟩
abbrev S8x128 : Shape := ⟨2, ![8, 128]⟩
abbrev S8x100 : Shape := ⟨2, ![8, 100]⟩
abbrev S8x100x20 : Shape := ⟨3, ![8, 100, 20]⟩
abbrev S8x100x1 : Shape := ⟨3, ![8, 100, 1]⟩
abbrev S1x1x1 : Shape := ⟨3, ![1, 1, 1]⟩
abbrev S8x100x4 : Shape := ⟨3, ![8, 100, 4]⟩
abbrev S1x8x100x4 : Shape := ⟨4, ![1, 8, 100, 4]⟩
abbrev S1x8x100x20 : Shape := ⟨4, ![1, 8, 100, 20]⟩
abbrev S3072 : Shape := ⟨1, ![3072]⟩
abbrev S24x100x20 : Shape := ⟨3, ![24, 100, 20]⟩
abbrev S24x128x5 : Shape := ⟨3, ![24, 128, 5]⟩
abbrev S128 : Shape := ⟨1, ![128]⟩
abbrev S32x8x20 : Shape := ⟨3, ![32, 8, 20]⟩
abbrev S32x8x5 : Shape := ⟨3, ![32, 8, 5]⟩
abbrev S128x20 : Shape := ⟨2, ![128, 20]⟩
abbrev S128x5 : Shape := ⟨2, ![128, 5]⟩
abbrev S16 : Shape := ⟨1, ![16]⟩
abbrev S1 : Shape := ⟨1, ![1]⟩
abbrev S1x8x20 : Shape := ⟨3, ![1, 8, 20]⟩
abbrev S8x20 : Shape := ⟨2, ![8, 20]⟩
abbrev S1x1x1x1x8x20 : Shape := ⟨6, ![1, 1, 1, 1, 8, 20]⟩
abbrev S1x8x5 : Shape := ⟨3, ![1, 8, 5]⟩
abbrev S8x5 : Shape := ⟨2, ![8, 5]⟩
abbrev S1x1x1x1x8x5 : Shape := ⟨6, ![1, 1, 1, 1, 8, 5]⟩
abbrev S100x20 : Shape := ⟨2, ![100, 20]⟩
abbrev S1x100x20 : Shape := ⟨3, ![1, 100, 20]⟩
abbrev S1x128x5 : Shape := ⟨3, ![1, 128, 5]⟩
abbrev S24x100x5 : Shape := ⟨3, ![24, 100, 5]⟩
abbrev S3x8x100x5 : Shape := ⟨4, ![3, 8, 100, 5]⟩

abbrev nBuf : Table → Nat
  | .hbm => 17
  | .local .tc .vmem => 4
  | .local .tc .smem => 1
  | .local .scVector .vmem => 5
  | _ => 0

abbrev bufTy : (tb : Table) → Fin (nBuf tb) → BufTy
  | .hbm, ⟨0, _⟩ => ⟨S3x9x4, .f32⟩
  | .hbm, ⟨1, _⟩ => ⟨S8x100x6, .f32⟩
  | .hbm, ⟨2, _⟩ => ⟨S3x8x9x80x80x5, .f32⟩
  | .hbm, ⟨3, _⟩ => ⟨S3x8x9x80x80x20, .f32⟩
  | .hbm, ⟨4, _⟩ => ⟨S6x8x100, .f32⟩
  | .hbm, ⟨5, _⟩ => ⟨S_, .i32⟩
  | .hbm, ⟨6, _⟩ => ⟨S_, .f32⟩
  | .hbm, ⟨7, _⟩ => ⟨S6x8x128, .f32⟩
  | .hbm, ⟨8, _⟩ => ⟨S3x8x128, .i32⟩
  | .hbm, ⟨9, _⟩ => ⟨S3x8x100x4, .f32⟩
  | .hbm, ⟨10, _⟩ => ⟨S3x8x100x20, .f32⟩
  | .hbm, ⟨11, _⟩ => ⟨S3072, .i32⟩
  | .hbm, ⟨12, _⟩ => ⟨S24x100x20, .f32⟩
  | .hbm, ⟨13, _⟩ => ⟨S24x128x5, .f32⟩
  | .hbm, ⟨14, _⟩ => ⟨S3x8x100x20, .f32⟩
  | .hbm, ⟨15, _⟩ => ⟨S24x100x5, .f32⟩
  | .hbm, ⟨16, _⟩ => ⟨S3x8x100x5, .f32⟩
  | .local .tc .vmem, ⟨0, _⟩ => ⟨S6x8x128, .f32⟩
  | .local .tc .vmem, ⟨1, _⟩ => ⟨S3x8x128, .i32⟩
  | .local .tc .vmem, ⟨2, _⟩ => ⟨S3x8x100x4, .f32⟩
  | .local .tc .vmem, ⟨3, _⟩ => ⟨S3x8x100x20, .f32⟩
  | .local .tc .smem, ⟨0, _⟩ => ⟨S3x9x4, .f32⟩
  | .local .scVector .vmem, ⟨0, _⟩ => ⟨S128, .i32⟩
  | .local .scVector .vmem, ⟨1, _⟩ => ⟨S32x8x20, .f32⟩
  | .local .scVector .vmem, ⟨2, _⟩ => ⟨S32x8x5, .f32⟩
  | .local .scVector .vmem, ⟨3, _⟩ => ⟨S128x20, .f32⟩
  | .local .scVector .vmem, ⟨4, _⟩ => ⟨S128x5, .f32⟩
  | _, _ => ⟨S3x9x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg3_scv : Ref sig .scVector := ⟨.hbm, 3, rfl⟩
abbrev main_arg2_scv : Ref sig .scVector := ⟨.hbm, 2, rfl⟩
abbrev main_v3_scv : Ref sig .scVector := ⟨.hbm, 11, rfl⟩
abbrev main_v4_0_scv : Ref sig .scVector := ⟨.hbm, 12, rfl⟩
abbrev main_v4_1_scv : Ref sig .scVector := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .smem S3x9x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8x100x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x100x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let v3 : BitVec 32 := Scalar.extui v2
  let c0_i32 : BitVec 32 := 0#32
  let v4 : BitVec 1 := Scalar.cmpi .ne v3 c0_i32
  v4

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v23 : BitVec 32 := Scalar.muli v1 c128_i32
  ![v23.toNat]
def k1_off2 (i : grid1.Coords) (v37 : BitVec 32) (v39 : BitVec 32) (v41 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_6 : BitVec 32 := 8#32
  let v42 : BitVec 32 := Scalar.muli v41 c8_i32_6
  let c0_i32_10 : BitVec 32 := 0#32
  ![v21.toNat, v22.toNat, v37.toNat, v39.toNat, v42.toNat, 0]

def k1_off3 (i : grid1.Coords) (v37 : BitVec 32) (v39 : BitVec 32) (v41 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_6 : BitVec 32 := 8#32
  let v42 : BitVec 32 := Scalar.muli v41 c8_i32_6
  let c0_i32_17 : BitVec 32 := 0#32
  ![v21.toNat, v22.toNat, v37.toNat, v39.toNat, v42.toNat, 0]
def k1_off4 (i : grid1.Coords) (v60 : BitVec 32) (v62 : BitVec 32) (v64 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_21 : BitVec 32 := 8#32
  let v65 : BitVec 32 := Scalar.muli v64 c8_i32_21
  let c0_i32_25 : BitVec 32 := 0#32
  ![v21.toNat, v22.toNat, v60.toNat, v62.toNat, v65.toNat, 0]

def k1_off5 (i : grid1.Coords) (v60 : BitVec 32) (v62 : BitVec 32) (v64 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_21 : BitVec 32 := 8#32
  let v65 : BitVec 32 := Scalar.muli v64 c8_i32_21
  let c0_i32_32 : BitVec 32 := 0#32
  ![v21.toNat, v22.toNat, v60.toNat, v62.toNat, v65.toNat, 0]
def k1_off6 (i : grid1.Coords) (v83 : BitVec 32) (v85 : BitVec 32) (v87 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_36 : BitVec 32 := 8#32
  let v88 : BitVec 32 := Scalar.muli v87 c8_i32_36
  let c0_i32_40 : BitVec 32 := 0#32
  ![v21.toNat, v22.toNat, v83.toNat, v85.toNat, v88.toNat, 0]

def k1_off7 (i : grid1.Coords) (v83 : BitVec 32) (v85 : BitVec 32) (v87 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_36 : BitVec 32 := 8#32
  let v88 : BitVec 32 := Scalar.muli v87 c8_i32_36
  let c0_i32_47 : BitVec 32 := 0#32
  ![v21.toNat, v22.toNat, v83.toNat, v85.toNat, v88.toNat, 0]
def k1_off8 (i : grid1.Coords) (v106 : BitVec 32) (v108 : BitVec 32) (v110 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_51 : BitVec 32 := 8#32
  let v111 : BitVec 32 := Scalar.muli v110 c8_i32_51
  let c0_i32_55 : BitVec 32 := 0#32
  ![v21.toNat, v22.toNat, v106.toNat, v108.toNat, v111.toNat, 0]

def k1_off9 (i : grid1.Coords) (v106 : BitVec 32) (v108 : BitVec 32) (v110 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_51 : BitVec 32 := 8#32
  let v111 : BitVec 32 := Scalar.muli v110 c8_i32_51
  let c0_i32_62 : BitVec 32 := 0#32
  ![v21.toNat, v22.toNat, v106.toNat, v108.toNat, v111.toNat, 0]
def k1_off10 (i : grid1.Coords) (v129 : BitVec 32) (v131 : BitVec 32) (v133 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_66 : BitVec 32 := 8#32
  let v134 : BitVec 32 := Scalar.muli v133 c8_i32_66
  let c0_i32_69 : BitVec 32 := 0#32
  ![v21.toNat, v22.toNat, v129.toNat, v131.toNat, v134.toNat, 0]

def k1_off11 (i : grid1.Coords) (v129 : BitVec 32) (v131 : BitVec 32) (v133 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_66 : BitVec 32 := 8#32
  let v134 : BitVec 32 := Scalar.muli v133 c8_i32_66
  let c0_i32_76 : BitVec 32 := 0#32
  ![v21.toNat, v22.toNat, v129.toNat, v131.toNat, v134.toNat, 0]
def k1_off12 (i : grid1.Coords) (v152 : BitVec 32) (v154 : BitVec 32) (v156 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_80 : BitVec 32 := 8#32
  let v157 : BitVec 32 := Scalar.muli v156 c8_i32_80
  let c0_i32_83 : BitVec 32 := 0#32
  ![v21.toNat, v22.toNat, v152.toNat, v154.toNat, v157.toNat, 0]

def k1_off13 (i : grid1.Coords) (v152 : BitVec 32) (v154 : BitVec 32) (v156 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_80 : BitVec 32 := 8#32
  let v157 : BitVec 32 := Scalar.muli v156 c8_i32_80
  let c0_i32_90 : BitVec 32 := 0#32
  ![v21.toNat, v22.toNat, v152.toNat, v154.toNat, v157.toNat, 0]
def k1_off14 (i : grid1.Coords) (v175 : BitVec 32) (v177 : BitVec 32) (v179 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_94 : BitVec 32 := 8#32
  let v180 : BitVec 32 := Scalar.muli v179 c8_i32_94
  let c0_i32_97 : BitVec 32 := 0#32
  ![v21.toNat, v22.toNat, v175.toNat, v177.toNat, v180.toNat, 0]

def k1_off15 (i : grid1.Coords) (v175 : BitVec 32) (v177 : BitVec 32) (v179 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_94 : BitVec 32 := 8#32
  let v180 : BitVec 32 := Scalar.muli v179 c8_i32_94
  let c0_i32_104 : BitVec 32 := 0#32
  ![v21.toNat, v22.toNat, v175.toNat, v177.toNat, v180.toNat, 0]
def k1_off16 (i : grid1.Coords) (v198 : BitVec 32) (v200 : BitVec 32) (v202 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_108 : BitVec 32 := 8#32
  let v203 : BitVec 32 := Scalar.muli v202 c8_i32_108
  let c0_i32_112 : BitVec 32 := 0#32
  ![v21.toNat, v22.toNat, v198.toNat, v200.toNat, v203.toNat, 0]

def k1_off17 (i : grid1.Coords) (v198 : BitVec 32) (v200 : BitVec 32) (v202 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_108 : BitVec 32 := 8#32
  let v203 : BitVec 32 := Scalar.muli v202 c8_i32_108
  let c0_i32_119 : BitVec 32 := 0#32
  ![v21.toNat, v22.toNat, v198.toNat, v200.toNat, v203.toNat, 0]
def k1_off18 (i : grid1.Coords) (v221 : BitVec 32) (v223 : BitVec 32) (v225 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_123 : BitVec 32 := 8#32
  let v226 : BitVec 32 := Scalar.muli v225 c8_i32_123
  let c0_i32_127 : BitVec 32 := 0#32
  ![v21.toNat, v22.toNat, v221.toNat, v223.toNat, v226.toNat, 0]

def k1_off19 (i : grid1.Coords) (v221 : BitVec 32) (v223 : BitVec 32) (v225 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_123 : BitVec 32 := 8#32
  let v226 : BitVec 32 := Scalar.muli v225 c8_i32_123
  let c0_i32_134 : BitVec 32 := 0#32
  ![v21.toNat, v22.toNat, v221.toNat, v223.toNat, v226.toNat, 0]
def k1_off20 (i : grid1.Coords) (v244 : BitVec 32) (v246 : BitVec 32) (v248 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_138 : BitVec 32 := 8#32
  let v249 : BitVec 32 := Scalar.muli v248 c8_i32_138
  let c0_i32_141 : BitVec 32 := 0#32
  ![v21.toNat, v22.toNat, v244.toNat, v246.toNat, v249.toNat, 0]

def k1_off21 (i : grid1.Coords) (v244 : BitVec 32) (v246 : BitVec 32) (v248 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_138 : BitVec 32 := 8#32
  let v249 : BitVec 32 := Scalar.muli v248 c8_i32_138
  let c0_i32_148 : BitVec 32 := 0#32
  ![v21.toNat, v22.toNat, v244.toNat, v246.toNat, v249.toNat, 0]
def k1_off22 (i : grid1.Coords) (v267 : BitVec 32) (v269 : BitVec 32) (v271 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_152 : BitVec 32 := 8#32
  let v272 : BitVec 32 := Scalar.muli v271 c8_i32_152
  let c0_i32_155 : BitVec 32 := 0#32
  ![v21.toNat, v22.toNat, v267.toNat, v269.toNat, v272.toNat, 0]

def k1_off23 (i : grid1.Coords) (v267 : BitVec 32) (v269 : BitVec 32) (v271 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_152 : BitVec 32 := 8#32
  let v272 : BitVec 32 := Scalar.muli v271 c8_i32_152
  let c0_i32_162 : BitVec 32 := 0#32
  ![v21.toNat, v22.toNat, v267.toNat, v269.toNat, v272.toNat, 0]
def k1_off24 (i : grid1.Coords) (v290 : BitVec 32) (v292 : BitVec 32) (v294 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_166 : BitVec 32 := 8#32
  let v295 : BitVec 32 := Scalar.muli v294 c8_i32_166
  let c0_i32_169 : BitVec 32 := 0#32
  ![v21.toNat, v22.toNat, v290.toNat, v292.toNat, v295.toNat, 0]

def k1_off25 (i : grid1.Coords) (v290 : BitVec 32) (v292 : BitVec 32) (v294 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_166 : BitVec 32 := 8#32
  let v295 : BitVec 32 := Scalar.muli v294 c8_i32_166
  let c0_i32_176 : BitVec 32 := 0#32
  ![v21.toNat, v22.toNat, v290.toNat, v292.toNat, v295.toNat, 0]
def k1_off26 (i : grid1.Coords) (v313 : BitVec 32) (v315 : BitVec 32) (v317 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_180 : BitVec 32 := 8#32
  let v318 : BitVec 32 := Scalar.muli v317 c8_i32_180
  let c0_i32_183 : BitVec 32 := 0#32
  ![v21.toNat, v22.toNat, v313.toNat, v315.toNat, v318.toNat, 0]

def k1_off27 (i : grid1.Coords) (v313 : BitVec 32) (v315 : BitVec 32) (v317 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_180 : BitVec 32 := 8#32
  let v318 : BitVec 32 := Scalar.muli v317 c8_i32_180
  let c0_i32_190 : BitVec 32 := 0#32
  ![v21.toNat, v22.toNat, v313.toNat, v315.toNat, v318.toNat, 0]
def k1_off28 (i : grid1.Coords) (v336 : BitVec 32) (v338 : BitVec 32) (v340 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_194 : BitVec 32 := 8#32
  let v341 : BitVec 32 := Scalar.muli v340 c8_i32_194
  let c0_i32_197 : BitVec 32 := 0#32
  ![v21.toNat, v22.toNat, v336.toNat, v338.toNat, v341.toNat, 0]

def k1_off29 (i : grid1.Coords) (v336 : BitVec 32) (v338 : BitVec 32) (v340 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_194 : BitVec 32 := 8#32
  let v341 : BitVec 32 := Scalar.muli v340 c8_i32_194
  let c0_i32_204 : BitVec 32 := 0#32
  ![v21.toNat, v22.toNat, v336.toNat, v338.toNat, v341.toNat, 0]
def k1_off30 (i : grid1.Coords) (v359 : BitVec 32) (v361 : BitVec 32) (v363 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_208 : BitVec 32 := 8#32
  let v364 : BitVec 32 := Scalar.muli v363 c8_i32_208
  let c0_i32_212 : BitVec 32 := 0#32
  ![v21.toNat, v22.toNat, v359.toNat, v361.toNat, v364.toNat, 0]

def k1_off31 (i : grid1.Coords) (v359 : BitVec 32) (v361 : BitVec 32) (v363 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_208 : BitVec 32 := 8#32
  let v364 : BitVec 32 := Scalar.muli v363 c8_i32_208
  let c0_i32_219 : BitVec 32 := 0#32
  ![v21.toNat, v22.toNat, v359.toNat, v361.toNat, v364.toNat, 0]
def k1_off32 (i : grid1.Coords) (v382 : BitVec 32) (v384 : BitVec 32) (v386 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_223 : BitVec 32 := 8#32
  let v387 : BitVec 32 := Scalar.muli v386 c8_i32_223
  let c0_i32_227 : BitVec 32 := 0#32
  ![v21.toNat, v22.toNat, v382.toNat, v384.toNat, v387.toNat, 0]

def k1_off33 (i : grid1.Coords) (v382 : BitVec 32) (v384 : BitVec 32) (v386 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_223 : BitVec 32 := 8#32
  let v387 : BitVec 32 := Scalar.muli v386 c8_i32_223
  let c0_i32_234 : BitVec 32 := 0#32
  ![v21.toNat, v22.toNat, v382.toNat, v384.toNat, v387.toNat, 0]
def k1_off34 (i : grid1.Coords) (v416 : BitVec 32) (v418 : BitVec 32) (v420 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_243 : BitVec 32 := 8#32
  let v421 : BitVec 32 := Scalar.muli v420 c8_i32_243
  let c0_i32_246 : BitVec 32 := 0#32
  ![v21.toNat, v22.toNat, v416.toNat, v418.toNat, v421.toNat, 0]

def k1_off35 (i : grid1.Coords) (v416 : BitVec 32) (v418 : BitVec 32) (v420 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_243 : BitVec 32 := 8#32
  let v421 : BitVec 32 := Scalar.muli v420 c8_i32_243
  let c0_i32_253 : BitVec 32 := 0#32
  ![v21.toNat, v22.toNat, v416.toNat, v418.toNat, v421.toNat, 0]
def k1_off36 (i : grid1.Coords) (v439 : BitVec 32) (v441 : BitVec 32) (v443 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_257 : BitVec 32 := 8#32
  let v444 : BitVec 32 := Scalar.muli v443 c8_i32_257
  let c0_i32_260 : BitVec 32 := 0#32
  ![v21.toNat, v22.toNat, v439.toNat, v441.toNat, v444.toNat, 0]

def k1_off37 (i : grid1.Coords) (v439 : BitVec 32) (v441 : BitVec 32) (v443 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_257 : BitVec 32 := 8#32
  let v444 : BitVec 32 := Scalar.muli v443 c8_i32_257
  let c0_i32_267 : BitVec 32 := 0#32
  ![v21.toNat, v22.toNat, v439.toNat, v441.toNat, v444.toNat, 0]
def k1_off38 (i : grid1.Coords) (v462 : BitVec 32) (v464 : BitVec 32) (v466 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_271 : BitVec 32 := 8#32
  let v467 : BitVec 32 := Scalar.muli v466 c8_i32_271
  let c0_i32_274 : BitVec 32 := 0#32
  ![v21.toNat, v22.toNat, v462.toNat, v464.toNat, v467.toNat, 0]

def k1_off39 (i : grid1.Coords) (v462 : BitVec 32) (v464 : BitVec 32) (v466 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_271 : BitVec 32 := 8#32
  let v467 : BitVec 32 := Scalar.muli v466 c8_i32_271
  let c0_i32_281 : BitVec 32 := 0#32
  ![v21.toNat, v22.toNat, v462.toNat, v464.toNat, v467.toNat, 0]
def k1_off40 (i : grid1.Coords) (v485 : BitVec 32) (v487 : BitVec 32) (v489 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_285 : BitVec 32 := 8#32
  let v490 : BitVec 32 := Scalar.muli v489 c8_i32_285
  let c0_i32_288 : BitVec 32 := 0#32
  ![v21.toNat, v22.toNat, v485.toNat, v487.toNat, v490.toNat, 0]

def k1_off41 (i : grid1.Coords) (v485 : BitVec 32) (v487 : BitVec 32) (v489 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_285 : BitVec 32 := 8#32
  let v490 : BitVec 32 := Scalar.muli v489 c8_i32_285
  let c0_i32_295 : BitVec 32 := 0#32
  ![v21.toNat, v22.toNat, v485.toNat, v487.toNat, v490.toNat, 0]
def k1_off42 (i : grid1.Coords) (v508 : BitVec 32) (v510 : BitVec 32) (v512 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_299 : BitVec 32 := 8#32
  let v513 : BitVec 32 := Scalar.muli v512 c8_i32_299
  let c0_i32_302 : BitVec 32 := 0#32
  ![v21.toNat, v22.toNat, v508.toNat, v510.toNat, v513.toNat, 0]

def k1_off43 (i : grid1.Coords) (v508 : BitVec 32) (v510 : BitVec 32) (v512 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_299 : BitVec 32 := 8#32
  let v513 : BitVec 32 := Scalar.muli v512 c8_i32_299
  let c0_i32_309 : BitVec 32 := 0#32
  ![v21.toNat, v22.toNat, v508.toNat, v510.toNat, v513.toNat, 0]
def k1_off44 (i : grid1.Coords) (v531 : BitVec 32) (v533 : BitVec 32) (v535 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_313 : BitVec 32 := 8#32
  let v536 : BitVec 32 := Scalar.muli v535 c8_i32_313
  let c0_i32_316 : BitVec 32 := 0#32
  ![v21.toNat, v22.toNat, v531.toNat, v533.toNat, v536.toNat, 0]

def k1_off45 (i : grid1.Coords) (v531 : BitVec 32) (v533 : BitVec 32) (v535 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_313 : BitVec 32 := 8#32
  let v536 : BitVec 32 := Scalar.muli v535 c8_i32_313
  let c0_i32_323 : BitVec 32 := 0#32
  ![v21.toNat, v22.toNat, v531.toNat, v533.toNat, v536.toNat, 0]
def k1_off46 (i : grid1.Coords) (v554 : BitVec 32) (v556 : BitVec 32) (v558 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_327 : BitVec 32 := 8#32
  let v559 : BitVec 32 := Scalar.muli v558 c8_i32_327
  let c0_i32_330 : BitVec 32 := 0#32
  ![v21.toNat, v22.toNat, v554.toNat, v556.toNat, v559.toNat, 0]

def k1_off47 (i : grid1.Coords) (v554 : BitVec 32) (v556 : BitVec 32) (v558 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_327 : BitVec 32 := 8#32
  let v559 : BitVec 32 := Scalar.muli v558 c8_i32_327
  let c0_i32_337 : BitVec 32 := 0#32
  ![v21.toNat, v22.toNat, v554.toNat, v556.toNat, v559.toNat, 0]
def k1_off48 (i : grid1.Coords) (v577 : BitVec 32) (v579 : BitVec 32) (v581 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_341 : BitVec 32 := 8#32
  let v582 : BitVec 32 := Scalar.muli v581 c8_i32_341
  let c0_i32_344 : BitVec 32 := 0#32
  ![v21.toNat, v22.toNat, v577.toNat, v579.toNat, v582.toNat, 0]

def k1_off49 (i : grid1.Coords) (v577 : BitVec 32) (v579 : BitVec 32) (v581 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_341 : BitVec 32 := 8#32
  let v582 : BitVec 32 := Scalar.muli v581 c8_i32_341
  let c0_i32_351 : BitVec 32 := 0#32
  ![v21.toNat, v22.toNat, v577.toNat, v579.toNat, v582.toNat, 0]
def k1_off50 (i : grid1.Coords) (v600 : BitVec 32) (v602 : BitVec 32) (v604 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_355 : BitVec 32 := 8#32
  let v605 : BitVec 32 := Scalar.muli v604 c8_i32_355
  let c0_i32_359 : BitVec 32 := 0#32
  ![v21.toNat, v22.toNat, v600.toNat, v602.toNat, v605.toNat, 0]

def k1_off51 (i : grid1.Coords) (v600 : BitVec 32) (v602 : BitVec 32) (v604 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_355 : BitVec 32 := 8#32
  let v605 : BitVec 32 := Scalar.muli v604 c8_i32_355
  let c0_i32_366 : BitVec 32 := 0#32
  ![v21.toNat, v22.toNat, v600.toNat, v602.toNat, v605.toNat, 0]
def k1_off52 (i : grid1.Coords) (v623 : BitVec 32) (v625 : BitVec 32) (v627 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_370 : BitVec 32 := 8#32
  let v628 : BitVec 32 := Scalar.muli v627 c8_i32_370
  let c0_i32_373 : BitVec 32 := 0#32
  ![v21.toNat, v22.toNat, v623.toNat, v625.toNat, v628.toNat, 0]

def k1_off53 (i : grid1.Coords) (v623 : BitVec 32) (v625 : BitVec 32) (v627 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_370 : BitVec 32 := 8#32
  let v628 : BitVec 32 := Scalar.muli v627 c8_i32_370
  let c0_i32_380 : BitVec 32 := 0#32
  ![v21.toNat, v22.toNat, v623.toNat, v625.toNat, v628.toNat, 0]
def k1_off54 (i : grid1.Coords) (v646 : BitVec 32) (v648 : BitVec 32) (v650 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_384 : BitVec 32 := 8#32
  let v651 : BitVec 32 := Scalar.muli v650 c8_i32_384
  let c0_i32_387 : BitVec 32 := 0#32
  ![v21.toNat, v22.toNat, v646.toNat, v648.toNat, v651.toNat, 0]

def k1_off55 (i : grid1.Coords) (v646 : BitVec 32) (v648 : BitVec 32) (v650 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_384 : BitVec 32 := 8#32
  let v651 : BitVec 32 := Scalar.muli v650 c8_i32_384
  let c0_i32_394 : BitVec 32 := 0#32
  ![v21.toNat, v22.toNat, v646.toNat, v648.toNat, v651.toNat, 0]
def k1_off56 (i : grid1.Coords) (v669 : BitVec 32) (v671 : BitVec 32) (v673 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_398 : BitVec 32 := 8#32
  let v674 : BitVec 32 := Scalar.muli v673 c8_i32_398
  let c0_i32_401 : BitVec 32 := 0#32
  ![v21.toNat, v22.toNat, v669.toNat, v671.toNat, v674.toNat, 0]

def k1_off57 (i : grid1.Coords) (v669 : BitVec 32) (v671 : BitVec 32) (v673 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_398 : BitVec 32 := 8#32
  let v674 : BitVec 32 := Scalar.muli v673 c8_i32_398
  let c0_i32_408 : BitVec 32 := 0#32
  ![v21.toNat, v22.toNat, v669.toNat, v671.toNat, v674.toNat, 0]
def k1_off58 (i : grid1.Coords) (v692 : BitVec 32) (v694 : BitVec 32) (v696 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_412 : BitVec 32 := 8#32
  let v697 : BitVec 32 := Scalar.muli v696 c8_i32_412
  let c0_i32_415 : BitVec 32 := 0#32
  ![v21.toNat, v22.toNat, v692.toNat, v694.toNat, v697.toNat, 0]

def k1_off59 (i : grid1.Coords) (v692 : BitVec 32) (v694 : BitVec 32) (v696 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_412 : BitVec 32 := 8#32
  let v697 : BitVec 32 := Scalar.muli v696 c8_i32_412
  let c0_i32_422 : BitVec 32 := 0#32
  ![v21.toNat, v22.toNat, v692.toNat, v694.toNat, v697.toNat, 0]
def k1_off60 (i : grid1.Coords) (v715 : BitVec 32) (v717 : BitVec 32) (v719 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_426 : BitVec 32 := 8#32
  let v720 : BitVec 32 := Scalar.muli v719 c8_i32_426
  let c0_i32_429 : BitVec 32 := 0#32
  ![v21.toNat, v22.toNat, v715.toNat, v717.toNat, v720.toNat, 0]

def k1_off61 (i : grid1.Coords) (v715 : BitVec 32) (v717 : BitVec 32) (v719 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_426 : BitVec 32 := 8#32
  let v720 : BitVec 32 := Scalar.muli v719 c8_i32_426
  let c0_i32_436 : BitVec 32 := 0#32
  ![v21.toNat, v22.toNat, v715.toNat, v717.toNat, v720.toNat, 0]
def k1_off62 (i : grid1.Coords) (v738 : BitVec 32) (v740 : BitVec 32) (v742 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_440 : BitVec 32 := 8#32
  let v743 : BitVec 32 := Scalar.muli v742 c8_i32_440
  let c0_i32_443 : BitVec 32 := 0#32
  ![v21.toNat, v22.toNat, v738.toNat, v740.toNat, v743.toNat, 0]

def k1_off63 (i : grid1.Coords) (v738 : BitVec 32) (v740 : BitVec 32) (v742 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_440 : BitVec 32 := 8#32
  let v743 : BitVec 32 := Scalar.muli v742 c8_i32_440
  let c0_i32_450 : BitVec 32 := 0#32
  ![v21.toNat, v22.toNat, v738.toNat, v740.toNat, v743.toNat, 0]
def k1_off64 (i : grid1.Coords) (v761 : BitVec 32) (v763 : BitVec 32) (v765 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_454 : BitVec 32 := 8#32
  let v766 : BitVec 32 := Scalar.muli v765 c8_i32_454
  let c0_i32_457 : BitVec 32 := 0#32
  ![v21.toNat, v22.toNat, v761.toNat, v763.toNat, v766.toNat, 0]

def k1_off65 (i : grid1.Coords) (v761 : BitVec 32) (v763 : BitVec 32) (v765 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_454 : BitVec 32 := 8#32
  let v766 : BitVec 32 := Scalar.muli v765 c8_i32_454
  let c0_i32_464 : BitVec 32 := 0#32
  ![v21.toNat, v22.toNat, v761.toNat, v763.toNat, v766.toNat, 0]

def k1_chk32 (i : grid1.Coords) (v761 : BitVec 32) (v763 : BitVec 32) (v765 : BitVec 32) : Prop :=
  (∀ (k1_h1 : k1_cond1 i = 1#1), ∀ a, (k1_off64 i v761 v763 v765) a + S1x1x1x1x8x20.size a ≤ S3x8x9x80x80x20.size a) ∧
  (∀ (k1_h1 : k1_cond1 i = 1#1), ∀ a, (k1_off65 i v761 v763 v765) a + S1x1x1x1x8x5.size a ≤ S3x8x9x80x80x5.size a)
theorem k1_off64_inb : ∀ (i : grid1.Coords) (v761 : BitVec 32) (v763 : BitVec 32) (v765 : BitVec 32) (k1_hw32 : k1_chk32 i v761 v763 v765), ∀ (k1_h1 : k1_cond1 i = 1#1), ∀ a, (k1_off64 i v761 v763 v765) a + S1x1x1x1x8x20.size a ≤ S3x8x9x80x80x20.size a := fun i v761 v763 v765 k1_hw32 k1_h1 => k1_hw32.1 k1_h1
theorem k1_off65_inb : ∀ (i : grid1.Coords) (v761 : BitVec 32) (v763 : BitVec 32) (v765 : BitVec 32) (k1_hw32 : k1_chk32 i v761 v763 v765), ∀ (k1_h1 : k1_cond1 i = 1#1), ∀ a, (k1_off65 i v761 v763 v765) a + S1x1x1x1x8x5.size a ≤ S3x8x9x80x80x5.size a := fun i v761 v763 v765 k1_hw32 k1_h1 => k1_hw32.2 k1_h1

def k1_off66 (i : grid1.Coords) (v37 : BitVec 32) (v39 : BitVec 32) (v41 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_6 : BitVec 32 := 8#32
  let v42 : BitVec 32 := Scalar.muli v41 c8_i32_6
  let c0_i32_471 : BitVec 32 := 0#32
  ![v21.toNat, v22.toNat, v37.toNat, v39.toNat, v42.toNat, 0]
def k1_off67 (i : grid1.Coords) (v37 : BitVec 32) (v39 : BitVec 32) (v41 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_6 : BitVec 32 := 8#32
  let v42 : BitVec 32 := Scalar.muli v41 c8_i32_6
  let c0_i32_478 : BitVec 32 := 0#32
  ![v21.toNat, v22.toNat, v37.toNat, v39.toNat, v42.toNat, 0]

def k1_chk1 (i : grid1.Coords) (v37 : BitVec 32) (v39 : BitVec 32) (v41 : BitVec 32) : Prop :=
  (∀ (k1_h1 : k1_cond1 i = 1#1), ∀ a, (k1_off2 i v37 v39 v41) a + S1x1x1x1x8x20.size a ≤ S3x8x9x80x80x20.size a) ∧
  (∀ (k1_h1 : k1_cond1 i = 1#1), ∀ a, (k1_off3 i v37 v39 v41) a + S1x1x1x1x8x5.size a ≤ S3x8x9x80x80x5.size a) ∧
  (∀ (k1_h1 : k1_cond1 i = 1#1), ∀ a, (k1_off66 i v37 v39 v41) a + S1x1x1x1x8x20.size a ≤ S3x8x9x80x80x20.size a) ∧
  (∀ (k1_h1 : k1_cond1 i = 1#1), ∀ a, (k1_off67 i v37 v39 v41) a + S1x1x1x1x8x5.size a ≤ S3x8x9x80x80x5.size a)
theorem k1_off2_inb : ∀ (i : grid1.Coords) (v37 : BitVec 32) (v39 : BitVec 32) (v41 : BitVec 32) (k1_hw1 : k1_chk1 i v37 v39 v41), ∀ (k1_h1 : k1_cond1 i = 1#1), ∀ a, (k1_off2 i v37 v39 v41) a + S1x1x1x1x8x20.size a ≤ S3x8x9x80x80x20.size a := fun i v37 v39 v41 k1_hw1 k1_h1 => k1_hw1.1 k1_h1
theorem k1_off3_inb : ∀ (i : grid1.Coords) (v37 : BitVec 32) (v39 : BitVec 32) (v41 : BitVec 32) (k1_hw1 : k1_chk1 i v37 v39 v41), ∀ (k1_h1 : k1_cond1 i = 1#1), ∀ a, (k1_off3 i v37 v39 v41) a + S1x1x1x1x8x5.size a ≤ S3x8x9x80x80x5.size a := fun i v37 v39 v41 k1_hw1 k1_h1 => k1_hw1.2.1 k1_h1
theorem k1_off66_inb : ∀ (i : grid1.Coords) (v37 : BitVec 32) (v39 : BitVec 32) (v41 : BitVec 32) (k1_hw1 : k1_chk1 i v37 v39 v41), ∀ (k1_h1 : k1_cond1 i = 1#1), ∀ a, (k1_off66 i v37 v39 v41) a + S1x1x1x1x8x20.size a ≤ S3x8x9x80x80x20.size a := fun i v37 v39 v41 k1_hw1 k1_h1 => k1_hw1.2.2.1 k1_h1
theorem k1_off67_inb : ∀ (i : grid1.Coords) (v37 : BitVec 32) (v39 : BitVec 32) (v41 : BitVec 32) (k1_hw1 : k1_chk1 i v37 v39 v41), ∀ (k1_h1 : k1_cond1 i = 1#1), ∀ a, (k1_off67 i v37 v39 v41) a + S1x1x1x1x8x5.size a ≤ S3x8x9x80x80x5.size a := fun i v37 v39 v41 k1_hw1 k1_h1 => k1_hw1.2.2.2 k1_h1

def k1_off68 (i : grid1.Coords) (v60 : BitVec 32) (v62 : BitVec 32) (v64 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_21 : BitVec 32 := 8#32
  let v65 : BitVec 32 := Scalar.muli v64 c8_i32_21
  let c0_i32_485 : BitVec 32 := 0#32
  ![v21.toNat, v22.toNat, v60.toNat, v62.toNat, v65.toNat, 0]
def k1_off69 (i : grid1.Coords) (v60 : BitVec 32) (v62 : BitVec 32) (v64 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_21 : BitVec 32 := 8#32
  let v65 : BitVec 32 := Scalar.muli v64 c8_i32_21
  let c0_i32_492 : BitVec 32 := 0#32
  ![v21.toNat, v22.toNat, v60.toNat, v62.toNat, v65.toNat, 0]

def k1_chk2 (i : grid1.Coords) (v60 : BitVec 32) (v62 : BitVec 32) (v64 : BitVec 32) : Prop :=
  (∀ (k1_h1 : k1_cond1 i = 1#1), ∀ a, (k1_off4 i v60 v62 v64) a + S1x1x1x1x8x20.size a ≤ S3x8x9x80x80x20.size a) ∧
  (∀ (k1_h1 : k1_cond1 i = 1#1), ∀ a, (k1_off5 i v60 v62 v64) a + S1x1x1x1x8x5.size a ≤ S3x8x9x80x80x5.size a) ∧
  (∀ (k1_h1 : k1_cond1 i = 1#1), ∀ a, (k1_off68 i v60 v62 v64) a + S1x1x1x1x8x20.size a ≤ S3x8x9x80x80x20.size a) ∧
  (∀ (k1_h1 : k1_cond1 i = 1#1), ∀ a, (k1_off69 i v60 v62 v64) a + S1x1x1x1x8x5.size a ≤ S3x8x9x80x80x5.size a)
theorem k1_off4_inb : ∀ (i : grid1.Coords) (v60 : BitVec 32) (v62 : BitVec 32) (v64 : BitVec 32) (k1_hw2 : k1_chk2 i v60 v62 v64), ∀ (k1_h1 : k1_cond1 i = 1#1), ∀ a, (k1_off4 i v60 v62 v64) a + S1x1x1x1x8x20.size a ≤ S3x8x9x80x80x20.size a := fun i v60 v62 v64 k1_hw2 k1_h1 => k1_hw2.1 k1_h1
theorem k1_off5_inb : ∀ (i : grid1.Coords) (v60 : BitVec 32) (v62 : BitVec 32) (v64 : BitVec 32) (k1_hw2 : k1_chk2 i v60 v62 v64), ∀ (k1_h1 : k1_cond1 i = 1#1), ∀ a, (k1_off5 i v60 v62 v64) a + S1x1x1x1x8x5.size a ≤ S3x8x9x80x80x5.size a := fun i v60 v62 v64 k1_hw2 k1_h1 => k1_hw2.2.1 k1_h1
theorem k1_off68_inb : ∀ (i : grid1.Coords) (v60 : BitVec 32) (v62 : BitVec 32) (v64 : BitVec 32) (k1_hw2 : k1_chk2 i v60 v62 v64), ∀ (k1_h1 : k1_cond1 i = 1#1), ∀ a, (k1_off68 i v60 v62 v64) a + S1x1x1x1x8x20.size a ≤ S3x8x9x80x80x20.size a := fun i v60 v62 v64 k1_hw2 k1_h1 => k1_hw2.2.2.1 k1_h1
theorem k1_off69_inb : ∀ (i : grid1.Coords) (v60 : BitVec 32) (v62 : BitVec 32) (v64 : BitVec 32) (k1_hw2 : k1_chk2 i v60 v62 v64), ∀ (k1_h1 : k1_cond1 i = 1#1), ∀ a, (k1_off69 i v60 v62 v64) a + S1x1x1x1x8x5.size a ≤ S3x8x9x80x80x5.size a := fun i v60 v62 v64 k1_hw2 k1_h1 => k1_hw2.2.2.2 k1_h1

def k1_off70 (i : grid1.Coords) (v83 : BitVec 32) (v85 : BitVec 32) (v87 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_36 : BitVec 32 := 8#32
  let v88 : BitVec 32 := Scalar.muli v87 c8_i32_36
  let c0_i32_499 : BitVec 32 := 0#32
  ![v21.toNat, v22.toNat, v83.toNat, v85.toNat, v88.toNat, 0]
def k1_off71 (i : grid1.Coords) (v83 : BitVec 32) (v85 : BitVec 32) (v87 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_36 : BitVec 32 := 8#32
  let v88 : BitVec 32 := Scalar.muli v87 c8_i32_36
  let c0_i32_506 : BitVec 32 := 0#32
  ![v21.toNat, v22.toNat, v83.toNat, v85.toNat, v88.toNat, 0]

def k1_chk3 (i : grid1.Coords) (v83 : BitVec 32) (v85 : BitVec 32) (v87 : BitVec 32) : Prop :=
  (∀ (k1_h1 : k1_cond1 i = 1#1), ∀ a, (k1_off6 i v83 v85 v87) a + S1x1x1x1x8x20.size a ≤ S3x8x9x80x80x20.size a) ∧
  (∀ (k1_h1 : k1_cond1 i = 1#1), ∀ a, (k1_off7 i v83 v85 v87) a + S1x1x1x1x8x5.size a ≤ S3x8x9x80x80x5.size a) ∧
  (∀ (k1_h1 : k1_cond1 i = 1#1), ∀ a, (k1_off70 i v83 v85 v87) a + S1x1x1x1x8x20.size a ≤ S3x8x9x80x80x20.size a) ∧
  (∀ (k1_h1 : k1_cond1 i = 1#1), ∀ a, (k1_off71 i v83 v85 v87) a + S1x1x1x1x8x5.size a ≤ S3x8x9x80x80x5.size a)
theorem k1_off6_inb : ∀ (i : grid1.Coords) (v83 : BitVec 32) (v85 : BitVec 32) (v87 : BitVec 32) (k1_hw3 : k1_chk3 i v83 v85 v87), ∀ (k1_h1 : k1_cond1 i = 1#1), ∀ a, (k1_off6 i v83 v85 v87) a + S1x1x1x1x8x20.size a ≤ S3x8x9x80x80x20.size a := fun i v83 v85 v87 k1_hw3 k1_h1 => k1_hw3.1 k1_h1
theorem k1_off7_inb : ∀ (i : grid1.Coords) (v83 : BitVec 32) (v85 : BitVec 32) (v87 : BitVec 32) (k1_hw3 : k1_chk3 i v83 v85 v87), ∀ (k1_h1 : k1_cond1 i = 1#1), ∀ a, (k1_off7 i v83 v85 v87) a + S1x1x1x1x8x5.size a ≤ S3x8x9x80x80x5.size a := fun i v83 v85 v87 k1_hw3 k1_h1 => k1_hw3.2.1 k1_h1
theorem k1_off70_inb : ∀ (i : grid1.Coords) (v83 : BitVec 32) (v85 : BitVec 32) (v87 : BitVec 32) (k1_hw3 : k1_chk3 i v83 v85 v87), ∀ (k1_h1 : k1_cond1 i = 1#1), ∀ a, (k1_off70 i v83 v85 v87) a + S1x1x1x1x8x20.size a ≤ S3x8x9x80x80x20.size a := fun i v83 v85 v87 k1_hw3 k1_h1 => k1_hw3.2.2.1 k1_h1
theorem k1_off71_inb : ∀ (i : grid1.Coords) (v83 : BitVec 32) (v85 : BitVec 32) (v87 : BitVec 32) (k1_hw3 : k1_chk3 i v83 v85 v87), ∀ (k1_h1 : k1_cond1 i = 1#1), ∀ a, (k1_off71 i v83 v85 v87) a + S1x1x1x1x8x5.size a ≤ S3x8x9x80x80x5.size a := fun i v83 v85 v87 k1_hw3 k1_h1 => k1_hw3.2.2.2 k1_h1

def k1_off72 (i : grid1.Coords) (v106 : BitVec 32) (v108 : BitVec 32) (v110 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_51 : BitVec 32 := 8#32
  let v111 : BitVec 32 := Scalar.muli v110 c8_i32_51
  let c0_i32_513 : BitVec 32 := 0#32
  ![v21.toNat, v22.toNat, v106.toNat, v108.toNat, v111.toNat, 0]
def k1_off73 (i : grid1.Coords) (v106 : BitVec 32) (v108 : BitVec 32) (v110 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_51 : BitVec 32 := 8#32
  let v111 : BitVec 32 := Scalar.muli v110 c8_i32_51
  let c0_i32_520 : BitVec 32 := 0#32
  ![v21.toNat, v22.toNat, v106.toNat, v108.toNat, v111.toNat, 0]

def k1_chk4 (i : grid1.Coords) (v106 : BitVec 32) (v108 : BitVec 32) (v110 : BitVec 32) : Prop :=
  (∀ (k1_h1 : k1_cond1 i = 1#1), ∀ a, (k1_off8 i v106 v108 v110) a + S1x1x1x1x8x20.size a ≤ S3x8x9x80x80x20.size a) ∧
  (∀ (k1_h1 : k1_cond1 i = 1#1), ∀ a, (k1_off9 i v106 v108 v110) a + S1x1x1x1x8x5.size a ≤ S3x8x9x80x80x5.size a) ∧
  (∀ (k1_h1 : k1_cond1 i = 1#1), ∀ a, (k1_off72 i v106 v108 v110) a + S1x1x1x1x8x20.size a ≤ S3x8x9x80x80x20.size a) ∧
  (∀ (k1_h1 : k1_cond1 i = 1#1), ∀ a, (k1_off73 i v106 v108 v110) a + S1x1x1x1x8x5.size a ≤ S3x8x9x80x80x5.size a)
theorem k1_off8_inb : ∀ (i : grid1.Coords) (v106 : BitVec 32) (v108 : BitVec 32) (v110 : BitVec 32) (k1_hw4 : k1_chk4 i v106 v108 v110), ∀ (k1_h1 : k1_cond1 i = 1#1), ∀ a, (k1_off8 i v106 v108 v110) a + S1x1x1x1x8x20.size a ≤ S3x8x9x80x80x20.size a := fun i v106 v108 v110 k1_hw4 k1_h1 => k1_hw4.1 k1_h1
theorem k1_off9_inb : ∀ (i : grid1.Coords) (v106 : BitVec 32) (v108 : BitVec 32) (v110 : BitVec 32) (k1_hw4 : k1_chk4 i v106 v108 v110), ∀ (k1_h1 : k1_cond1 i = 1#1), ∀ a, (k1_off9 i v106 v108 v110) a + S1x1x1x1x8x5.size a ≤ S3x8x9x80x80x5.size a := fun i v106 v108 v110 k1_hw4 k1_h1 => k1_hw4.2.1 k1_h1
theorem k1_off72_inb : ∀ (i : grid1.Coords) (v106 : BitVec 32) (v108 : BitVec 32) (v110 : BitVec 32) (k1_hw4 : k1_chk4 i v106 v108 v110), ∀ (k1_h1 : k1_cond1 i = 1#1), ∀ a, (k1_off72 i v106 v108 v110) a + S1x1x1x1x8x20.size a ≤ S3x8x9x80x80x20.size a := fun i v106 v108 v110 k1_hw4 k1_h1 => k1_hw4.2.2.1 k1_h1
theorem k1_off73_inb : ∀ (i : grid1.Coords) (v106 : BitVec 32) (v108 : BitVec 32) (v110 : BitVec 32) (k1_hw4 : k1_chk4 i v106 v108 v110), ∀ (k1_h1 : k1_cond1 i = 1#1), ∀ a, (k1_off73 i v106 v108 v110) a + S1x1x1x1x8x5.size a ≤ S3x8x9x80x80x5.size a := fun i v106 v108 v110 k1_hw4 k1_h1 => k1_hw4.2.2.2 k1_h1

def k1_off74 (i : grid1.Coords) (v129 : BitVec 32) (v131 : BitVec 32) (v133 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_66 : BitVec 32 := 8#32
  let v134 : BitVec 32 := Scalar.muli v133 c8_i32_66
  let c0_i32_527 : BitVec 32 := 0#32
  ![v21.toNat, v22.toNat, v129.toNat, v131.toNat, v134.toNat, 0]
def k1_off75 (i : grid1.Coords) (v129 : BitVec 32) (v131 : BitVec 32) (v133 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_66 : BitVec 32 := 8#32
  let v134 : BitVec 32 := Scalar.muli v133 c8_i32_66
  let c0_i32_534 : BitVec 32 := 0#32
  ![v21.toNat, v22.toNat, v129.toNat, v131.toNat, v134.toNat, 0]

def k1_chk5 (i : grid1.Coords) (v129 : BitVec 32) (v131 : BitVec 32) (v133 : BitVec 32) : Prop :=
  (∀ (k1_h1 : k1_cond1 i = 1#1), ∀ a, (k1_off10 i v129 v131 v133) a + S1x1x1x1x8x20.size a ≤ S3x8x9x80x80x20.size a) ∧
  (∀ (k1_h1 : k1_cond1 i = 1#1), ∀ a, (k1_off11 i v129 v131 v133) a + S1x1x1x1x8x5.size a ≤ S3x8x9x80x80x5.size a) ∧
  (∀ (k1_h1 : k1_cond1 i = 1#1), ∀ a, (k1_off74 i v129 v131 v133) a + S1x1x1x1x8x20.size a ≤ S3x8x9x80x80x20.size a) ∧
  (∀ (k1_h1 : k1_cond1 i = 1#1), ∀ a, (k1_off75 i v129 v131 v133) a + S1x1x1x1x8x5.size a ≤ S3x8x9x80x80x5.size a)
theorem k1_off10_inb : ∀ (i : grid1.Coords) (v129 : BitVec 32) (v131 : BitVec 32) (v133 : BitVec 32) (k1_hw5 : k1_chk5 i v129 v131 v133), ∀ (k1_h1 : k1_cond1 i = 1#1), ∀ a, (k1_off10 i v129 v131 v133) a + S1x1x1x1x8x20.size a ≤ S3x8x9x80x80x20.size a := fun i v129 v131 v133 k1_hw5 k1_h1 => k1_hw5.1 k1_h1
theorem k1_off11_inb : ∀ (i : grid1.Coords) (v129 : BitVec 32) (v131 : BitVec 32) (v133 : BitVec 32) (k1_hw5 : k1_chk5 i v129 v131 v133), ∀ (k1_h1 : k1_cond1 i = 1#1), ∀ a, (k1_off11 i v129 v131 v133) a + S1x1x1x1x8x5.size a ≤ S3x8x9x80x80x5.size a := fun i v129 v131 v133 k1_hw5 k1_h1 => k1_hw5.2.1 k1_h1
theorem k1_off74_inb : ∀ (i : grid1.Coords) (v129 : BitVec 32) (v131 : BitVec 32) (v133 : BitVec 32) (k1_hw5 : k1_chk5 i v129 v131 v133), ∀ (k1_h1 : k1_cond1 i = 1#1), ∀ a, (k1_off74 i v129 v131 v133) a + S1x1x1x1x8x20.size a ≤ S3x8x9x80x80x20.size a := fun i v129 v131 v133 k1_hw5 k1_h1 => k1_hw5.2.2.1 k1_h1
theorem k1_off75_inb : ∀ (i : grid1.Coords) (v129 : BitVec 32) (v131 : BitVec 32) (v133 : BitVec 32) (k1_hw5 : k1_chk5 i v129 v131 v133), ∀ (k1_h1 : k1_cond1 i = 1#1), ∀ a, (k1_off75 i v129 v131 v133) a + S1x1x1x1x8x5.size a ≤ S3x8x9x80x80x5.size a := fun i v129 v131 v133 k1_hw5 k1_h1 => k1_hw5.2.2.2 k1_h1

def k1_off76 (i : grid1.Coords) (v152 : BitVec 32) (v154 : BitVec 32) (v156 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_80 : BitVec 32 := 8#32
  let v157 : BitVec 32 := Scalar.muli v156 c8_i32_80
  let c0_i32_541 : BitVec 32 := 0#32
  ![v21.toNat, v22.toNat, v152.toNat, v154.toNat, v157.toNat, 0]
def k1_off77 (i : grid1.Coords) (v152 : BitVec 32) (v154 : BitVec 32) (v156 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_80 : BitVec 32 := 8#32
  let v157 : BitVec 32 := Scalar.muli v156 c8_i32_80
  let c0_i32_548 : BitVec 32 := 0#32
  ![v21.toNat, v22.toNat, v152.toNat, v154.toNat, v157.toNat, 0]

def k1_chk6 (i : grid1.Coords) (v152 : BitVec 32) (v154 : BitVec 32) (v156 : BitVec 32) : Prop :=
  (∀ (k1_h1 : k1_cond1 i = 1#1), ∀ a, (k1_off12 i v152 v154 v156) a + S1x1x1x1x8x20.size a ≤ S3x8x9x80x80x20.size a) ∧
  (∀ (k1_h1 : k1_cond1 i = 1#1), ∀ a, (k1_off13 i v152 v154 v156) a + S1x1x1x1x8x5.size a ≤ S3x8x9x80x80x5.size a) ∧
  (∀ (k1_h1 : k1_cond1 i = 1#1), ∀ a, (k1_off76 i v152 v154 v156) a + S1x1x1x1x8x20.size a ≤ S3x8x9x80x80x20.size a) ∧
  (∀ (k1_h1 : k1_cond1 i = 1#1), ∀ a, (k1_off77 i v152 v154 v156) a + S1x1x1x1x8x5.size a ≤ S3x8x9x80x80x5.size a)
theorem k1_off12_inb : ∀ (i : grid1.Coords) (v152 : BitVec 32) (v154 : BitVec 32) (v156 : BitVec 32) (k1_hw6 : k1_chk6 i v152 v154 v156), ∀ (k1_h1 : k1_cond1 i = 1#1), ∀ a, (k1_off12 i v152 v154 v156) a + S1x1x1x1x8x20.size a ≤ S3x8x9x80x80x20.size a := fun i v152 v154 v156 k1_hw6 k1_h1 => k1_hw6.1 k1_h1
theorem k1_off13_inb : ∀ (i : grid1.Coords) (v152 : BitVec 32) (v154 : BitVec 32) (v156 : BitVec 32) (k1_hw6 : k1_chk6 i v152 v154 v156), ∀ (k1_h1 : k1_cond1 i = 1#1), ∀ a, (k1_off13 i v152 v154 v156) a + S1x1x1x1x8x5.size a ≤ S3x8x9x80x80x5.size a := fun i v152 v154 v156 k1_hw6 k1_h1 => k1_hw6.2.1 k1_h1
theorem k1_off76_inb : ∀ (i : grid1.Coords) (v152 : BitVec 32) (v154 : BitVec 32) (v156 : BitVec 32) (k1_hw6 : k1_chk6 i v152 v154 v156), ∀ (k1_h1 : k1_cond1 i = 1#1), ∀ a, (k1_off76 i v152 v154 v156) a + S1x1x1x1x8x20.size a ≤ S3x8x9x80x80x20.size a := fun i v152 v154 v156 k1_hw6 k1_h1 => k1_hw6.2.2.1 k1_h1
theorem k1_off77_inb : ∀ (i : grid1.Coords) (v152 : BitVec 32) (v154 : BitVec 32) (v156 : BitVec 32) (k1_hw6 : k1_chk6 i v152 v154 v156), ∀ (k1_h1 : k1_cond1 i = 1#1), ∀ a, (k1_off77 i v152 v154 v156) a + S1x1x1x1x8x5.size a ≤ S3x8x9x80x80x5.size a := fun i v152 v154 v156 k1_hw6 k1_h1 => k1_hw6.2.2.2 k1_h1

def k1_off78 (i : grid1.Coords) (v175 : BitVec 32) (v177 : BitVec 32) (v179 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_94 : BitVec 32 := 8#32
  let v180 : BitVec 32 := Scalar.muli v179 c8_i32_94
  let c0_i32_555 : BitVec 32 := 0#32
  ![v21.toNat, v22.toNat, v175.toNat, v177.toNat, v180.toNat, 0]
def k1_off79 (i : grid1.Coords) (v175 : BitVec 32) (v177 : BitVec 32) (v179 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_94 : BitVec 32 := 8#32
  let v180 : BitVec 32 := Scalar.muli v179 c8_i32_94
  let c0_i32_562 : BitVec 32 := 0#32
  ![v21.toNat, v22.toNat, v175.toNat, v177.toNat, v180.toNat, 0]

def k1_chk7 (i : grid1.Coords) (v175 : BitVec 32) (v177 : BitVec 32) (v179 : BitVec 32) : Prop :=
  (∀ (k1_h1 : k1_cond1 i = 1#1), ∀ a, (k1_off14 i v175 v177 v179) a + S1x1x1x1x8x20.size a ≤ S3x8x9x80x80x20.size a) ∧
  (∀ (k1_h1 : k1_cond1 i = 1#1), ∀ a, (k1_off15 i v175 v177 v179) a + S1x1x1x1x8x5.size a ≤ S3x8x9x80x80x5.size a) ∧
  (∀ (k1_h1 : k1_cond1 i = 1#1), ∀ a, (k1_off78 i v175 v177 v179) a + S1x1x1x1x8x20.size a ≤ S3x8x9x80x80x20.size a) ∧
  (∀ (k1_h1 : k1_cond1 i = 1#1), ∀ a, (k1_off79 i v175 v177 v179) a + S1x1x1x1x8x5.size a ≤ S3x8x9x80x80x5.size a)
theorem k1_off14_inb : ∀ (i : grid1.Coords) (v175 : BitVec 32) (v177 : BitVec 32) (v179 : BitVec 32) (k1_hw7 : k1_chk7 i v175 v177 v179), ∀ (k1_h1 : k1_cond1 i = 1#1), ∀ a, (k1_off14 i v175 v177 v179) a + S1x1x1x1x8x20.size a ≤ S3x8x9x80x80x20.size a := fun i v175 v177 v179 k1_hw7 k1_h1 => k1_hw7.1 k1_h1
theorem k1_off15_inb : ∀ (i : grid1.Coords) (v175 : BitVec 32) (v177 : BitVec 32) (v179 : BitVec 32) (k1_hw7 : k1_chk7 i v175 v177 v179), ∀ (k1_h1 : k1_cond1 i = 1#1), ∀ a, (k1_off15 i v175 v177 v179) a + S1x1x1x1x8x5.size a ≤ S3x8x9x80x80x5.size a := fun i v175 v177 v179 k1_hw7 k1_h1 => k1_hw7.2.1 k1_h1
theorem k1_off78_inb : ∀ (i : grid1.Coords) (v175 : BitVec 32) (v177 : BitVec 32) (v179 : BitVec 32) (k1_hw7 : k1_chk7 i v175 v177 v179), ∀ (k1_h1 : k1_cond1 i = 1#1), ∀ a, (k1_off78 i v175 v177 v179) a + S1x1x1x1x8x20.size a ≤ S3x8x9x80x80x20.size a := fun i v175 v177 v179 k1_hw7 k1_h1 => k1_hw7.2.2.1 k1_h1
theorem k1_off79_inb : ∀ (i : grid1.Coords) (v175 : BitVec 32) (v177 : BitVec 32) (v179 : BitVec 32) (k1_hw7 : k1_chk7 i v175 v177 v179), ∀ (k1_h1 : k1_cond1 i = 1#1), ∀ a, (k1_off79 i v175 v177 v179) a + S1x1x1x1x8x5.size a ≤ S3x8x9x80x80x5.size a := fun i v175 v177 v179 k1_hw7 k1_h1 => k1_hw7.2.2.2 k1_h1

def k1_off80 (i : grid1.Coords) (v198 : BitVec 32) (v200 : BitVec 32) (v202 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_108 : BitVec 32 := 8#32
  let v203 : BitVec 32 := Scalar.muli v202 c8_i32_108
  let c0_i32_569 : BitVec 32 := 0#32
  ![v21.toNat, v22.toNat, v198.toNat, v200.toNat, v203.toNat, 0]
def k1_off81 (i : grid1.Coords) (v198 : BitVec 32) (v200 : BitVec 32) (v202 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_108 : BitVec 32 := 8#32
  let v203 : BitVec 32 := Scalar.muli v202 c8_i32_108
  let c0_i32_576 : BitVec 32 := 0#32
  ![v21.toNat, v22.toNat, v198.toNat, v200.toNat, v203.toNat, 0]

def k1_chk8 (i : grid1.Coords) (v198 : BitVec 32) (v200 : BitVec 32) (v202 : BitVec 32) : Prop :=
  (∀ (k1_h1 : k1_cond1 i = 1#1), ∀ a, (k1_off16 i v198 v200 v202) a + S1x1x1x1x8x20.size a ≤ S3x8x9x80x80x20.size a) ∧
  (∀ (k1_h1 : k1_cond1 i = 1#1), ∀ a, (k1_off17 i v198 v200 v202) a + S1x1x1x1x8x5.size a ≤ S3x8x9x80x80x5.size a) ∧
  (∀ (k1_h1 : k1_cond1 i = 1#1), ∀ a, (k1_off80 i v198 v200 v202) a + S1x1x1x1x8x20.size a ≤ S3x8x9x80x80x20.size a) ∧
  (∀ (k1_h1 : k1_cond1 i = 1#1), ∀ a, (k1_off81 i v198 v200 v202) a + S1x1x1x1x8x5.size a ≤ S3x8x9x80x80x5.size a)
theorem k1_off16_inb : ∀ (i : grid1.Coords) (v198 : BitVec 32) (v200 : BitVec 32) (v202 : BitVec 32) (k1_hw8 : k1_chk8 i v198 v200 v202), ∀ (k1_h1 : k1_cond1 i = 1#1), ∀ a, (k1_off16 i v198 v200 v202) a + S1x1x1x1x8x20.size a ≤ S3x8x9x80x80x20.size a := fun i v198 v200 v202 k1_hw8 k1_h1 => k1_hw8.1 k1_h1
theorem k1_off17_inb : ∀ (i : grid1.Coords) (v198 : BitVec 32) (v200 : BitVec 32) (v202 : BitVec 32) (k1_hw8 : k1_chk8 i v198 v200 v202), ∀ (k1_h1 : k1_cond1 i = 1#1), ∀ a, (k1_off17 i v198 v200 v202) a + S1x1x1x1x8x5.size a ≤ S3x8x9x80x80x5.size a := fun i v198 v200 v202 k1_hw8 k1_h1 => k1_hw8.2.1 k1_h1
theorem k1_off80_inb : ∀ (i : grid1.Coords) (v198 : BitVec 32) (v200 : BitVec 32) (v202 : BitVec 32) (k1_hw8 : k1_chk8 i v198 v200 v202), ∀ (k1_h1 : k1_cond1 i = 1#1), ∀ a, (k1_off80 i v198 v200 v202) a + S1x1x1x1x8x20.size a ≤ S3x8x9x80x80x20.size a := fun i v198 v200 v202 k1_hw8 k1_h1 => k1_hw8.2.2.1 k1_h1
theorem k1_off81_inb : ∀ (i : grid1.Coords) (v198 : BitVec 32) (v200 : BitVec 32) (v202 : BitVec 32) (k1_hw8 : k1_chk8 i v198 v200 v202), ∀ (k1_h1 : k1_cond1 i = 1#1), ∀ a, (k1_off81 i v198 v200 v202) a + S1x1x1x1x8x5.size a ≤ S3x8x9x80x80x5.size a := fun i v198 v200 v202 k1_hw8 k1_h1 => k1_hw8.2.2.2 k1_h1

def k1_off82 (i : grid1.Coords) (v221 : BitVec 32) (v223 : BitVec 32) (v225 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_123 : BitVec 32 := 8#32
  let v226 : BitVec 32 := Scalar.muli v225 c8_i32_123
  let c0_i32_583 : BitVec 32 := 0#32
  ![v21.toNat, v22.toNat, v221.toNat, v223.toNat, v226.toNat, 0]
def k1_off83 (i : grid1.Coords) (v221 : BitVec 32) (v223 : BitVec 32) (v225 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_123 : BitVec 32 := 8#32
  let v226 : BitVec 32 := Scalar.muli v225 c8_i32_123
  let c0_i32_590 : BitVec 32 := 0#32
  ![v21.toNat, v22.toNat, v221.toNat, v223.toNat, v226.toNat, 0]

def k1_chk9 (i : grid1.Coords) (v221 : BitVec 32) (v223 : BitVec 32) (v225 : BitVec 32) : Prop :=
  (∀ (k1_h1 : k1_cond1 i = 1#1), ∀ a, (k1_off18 i v221 v223 v225) a + S1x1x1x1x8x20.size a ≤ S3x8x9x80x80x20.size a) ∧
  (∀ (k1_h1 : k1_cond1 i = 1#1), ∀ a, (k1_off19 i v221 v223 v225) a + S1x1x1x1x8x5.size a ≤ S3x8x9x80x80x5.size a) ∧
  (∀ (k1_h1 : k1_cond1 i = 1#1), ∀ a, (k1_off82 i v221 v223 v225) a + S1x1x1x1x8x20.size a ≤ S3x8x9x80x80x20.size a) ∧
  (∀ (k1_h1 : k1_cond1 i = 1#1), ∀ a, (k1_off83 i v221 v223 v225) a + S1x1x1x1x8x5.size a ≤ S3x8x9x80x80x5.size a)
theorem k1_off18_inb : ∀ (i : grid1.Coords) (v221 : BitVec 32) (v223 : BitVec 32) (v225 : BitVec 32) (k1_hw9 : k1_chk9 i v221 v223 v225), ∀ (k1_h1 : k1_cond1 i = 1#1), ∀ a, (k1_off18 i v221 v223 v225) a + S1x1x1x1x8x20.size a ≤ S3x8x9x80x80x20.size a := fun i v221 v223 v225 k1_hw9 k1_h1 => k1_hw9.1 k1_h1
theorem k1_off19_inb : ∀ (i : grid1.Coords) (v221 : BitVec 32) (v223 : BitVec 32) (v225 : BitVec 32) (k1_hw9 : k1_chk9 i v221 v223 v225), ∀ (k1_h1 : k1_cond1 i = 1#1), ∀ a, (k1_off19 i v221 v223 v225) a + S1x1x1x1x8x5.size a ≤ S3x8x9x80x80x5.size a := fun i v221 v223 v225 k1_hw9 k1_h1 => k1_hw9.2.1 k1_h1
theorem k1_off82_inb : ∀ (i : grid1.Coords) (v221 : BitVec 32) (v223 : BitVec 32) (v225 : BitVec 32) (k1_hw9 : k1_chk9 i v221 v223 v225), ∀ (k1_h1 : k1_cond1 i = 1#1), ∀ a, (k1_off82 i v221 v223 v225) a + S1x1x1x1x8x20.size a ≤ S3x8x9x80x80x20.size a := fun i v221 v223 v225 k1_hw9 k1_h1 => k1_hw9.2.2.1 k1_h1
theorem k1_off83_inb : ∀ (i : grid1.Coords) (v221 : BitVec 32) (v223 : BitVec 32) (v225 : BitVec 32) (k1_hw9 : k1_chk9 i v221 v223 v225), ∀ (k1_h1 : k1_cond1 i = 1#1), ∀ a, (k1_off83 i v221 v223 v225) a + S1x1x1x1x8x5.size a ≤ S3x8x9x80x80x5.size a := fun i v221 v223 v225 k1_hw9 k1_h1 => k1_hw9.2.2.2 k1_h1

def k1_off84 (i : grid1.Coords) (v244 : BitVec 32) (v246 : BitVec 32) (v248 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_138 : BitVec 32 := 8#32
  let v249 : BitVec 32 := Scalar.muli v248 c8_i32_138
  let c0_i32_597 : BitVec 32 := 0#32
  ![v21.toNat, v22.toNat, v244.toNat, v246.toNat, v249.toNat, 0]
def k1_off85 (i : grid1.Coords) (v244 : BitVec 32) (v246 : BitVec 32) (v248 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_138 : BitVec 32 := 8#32
  let v249 : BitVec 32 := Scalar.muli v248 c8_i32_138
  let c0_i32_604 : BitVec 32 := 0#32
  ![v21.toNat, v22.toNat, v244.toNat, v246.toNat, v249.toNat, 0]

def k1_chk10 (i : grid1.Coords) (v244 : BitVec 32) (v246 : BitVec 32) (v248 : BitVec 32) : Prop :=
  (∀ (k1_h1 : k1_cond1 i = 1#1), ∀ a, (k1_off20 i v244 v246 v248) a + S1x1x1x1x8x20.size a ≤ S3x8x9x80x80x20.size a) ∧
  (∀ (k1_h1 : k1_cond1 i = 1#1), ∀ a, (k1_off21 i v244 v246 v248) a + S1x1x1x1x8x5.size a ≤ S3x8x9x80x80x5.size a) ∧
  (∀ (k1_h1 : k1_cond1 i = 1#1), ∀ a, (k1_off84 i v244 v246 v248) a + S1x1x1x1x8x20.size a ≤ S3x8x9x80x80x20.size a) ∧
  (∀ (k1_h1 : k1_cond1 i = 1#1), ∀ a, (k1_off85 i v244 v246 v248) a + S1x1x1x1x8x5.size a ≤ S3x8x9x80x80x5.size a)
theorem k1_off20_inb : ∀ (i : grid1.Coords) (v244 : BitVec 32) (v246 : BitVec 32) (v248 : BitVec 32) (k1_hw10 : k1_chk10 i v244 v246 v248), ∀ (k1_h1 : k1_cond1 i = 1#1), ∀ a, (k1_off20 i v244 v246 v248) a + S1x1x1x1x8x20.size a ≤ S3x8x9x80x80x20.size a := fun i v244 v246 v248 k1_hw10 k1_h1 => k1_hw10.1 k1_h1
theorem k1_off21_inb : ∀ (i : grid1.Coords) (v244 : BitVec 32) (v246 : BitVec 32) (v248 : BitVec 32) (k1_hw10 : k1_chk10 i v244 v246 v248), ∀ (k1_h1 : k1_cond1 i = 1#1), ∀ a, (k1_off21 i v244 v246 v248) a + S1x1x1x1x8x5.size a ≤ S3x8x9x80x80x5.size a := fun i v244 v246 v248 k1_hw10 k1_h1 => k1_hw10.2.1 k1_h1
theorem k1_off84_inb : ∀ (i : grid1.Coords) (v244 : BitVec 32) (v246 : BitVec 32) (v248 : BitVec 32) (k1_hw10 : k1_chk10 i v244 v246 v248), ∀ (k1_h1 : k1_cond1 i = 1#1), ∀ a, (k1_off84 i v244 v246 v248) a + S1x1x1x1x8x20.size a ≤ S3x8x9x80x80x20.size a := fun i v244 v246 v248 k1_hw10 k1_h1 => k1_hw10.2.2.1 k1_h1
theorem k1_off85_inb : ∀ (i : grid1.Coords) (v244 : BitVec 32) (v246 : BitVec 32) (v248 : BitVec 32) (k1_hw10 : k1_chk10 i v244 v246 v248), ∀ (k1_h1 : k1_cond1 i = 1#1), ∀ a, (k1_off85 i v244 v246 v248) a + S1x1x1x1x8x5.size a ≤ S3x8x9x80x80x5.size a := fun i v244 v246 v248 k1_hw10 k1_h1 => k1_hw10.2.2.2 k1_h1

def k1_off86 (i : grid1.Coords) (v267 : BitVec 32) (v269 : BitVec 32) (v271 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_152 : BitVec 32 := 8#32
  let v272 : BitVec 32 := Scalar.muli v271 c8_i32_152
  let c0_i32_611 : BitVec 32 := 0#32
  ![v21.toNat, v22.toNat, v267.toNat, v269.toNat, v272.toNat, 0]
def k1_off87 (i : grid1.Coords) (v267 : BitVec 32) (v269 : BitVec 32) (v271 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_152 : BitVec 32 := 8#32
  let v272 : BitVec 32 := Scalar.muli v271 c8_i32_152
  let c0_i32_618 : BitVec 32 := 0#32
  ![v21.toNat, v22.toNat, v267.toNat, v269.toNat, v272.toNat, 0]

def k1_chk11 (i : grid1.Coords) (v267 : BitVec 32) (v269 : BitVec 32) (v271 : BitVec 32) : Prop :=
  (∀ (k1_h1 : k1_cond1 i = 1#1), ∀ a, (k1_off22 i v267 v269 v271) a + S1x1x1x1x8x20.size a ≤ S3x8x9x80x80x20.size a) ∧
  (∀ (k1_h1 : k1_cond1 i = 1#1), ∀ a, (k1_off23 i v267 v269 v271) a + S1x1x1x1x8x5.size a ≤ S3x8x9x80x80x5.size a) ∧
  (∀ (k1_h1 : k1_cond1 i = 1#1), ∀ a, (k1_off86 i v267 v269 v271) a + S1x1x1x1x8x20.size a ≤ S3x8x9x80x80x20.size a) ∧
  (∀ (k1_h1 : k1_cond1 i = 1#1), ∀ a, (k1_off87 i v267 v269 v271) a + S1x1x1x1x8x5.size a ≤ S3x8x9x80x80x5.size a)
theorem k1_off22_inb : ∀ (i : grid1.Coords) (v267 : BitVec 32) (v269 : BitVec 32) (v271 : BitVec 32) (k1_hw11 : k1_chk11 i v267 v269 v271), ∀ (k1_h1 : k1_cond1 i = 1#1), ∀ a, (k1_off22 i v267 v269 v271) a + S1x1x1x1x8x20.size a ≤ S3x8x9x80x80x20.size a := fun i v267 v269 v271 k1_hw11 k1_h1 => k1_hw11.1 k1_h1
theorem k1_off23_inb : ∀ (i : grid1.Coords) (v267 : BitVec 32) (v269 : BitVec 32) (v271 : BitVec 32) (k1_hw11 : k1_chk11 i v267 v269 v271), ∀ (k1_h1 : k1_cond1 i = 1#1), ∀ a, (k1_off23 i v267 v269 v271) a + S1x1x1x1x8x5.size a ≤ S3x8x9x80x80x5.size a := fun i v267 v269 v271 k1_hw11 k1_h1 => k1_hw11.2.1 k1_h1
theorem k1_off86_inb : ∀ (i : grid1.Coords) (v267 : BitVec 32) (v269 : BitVec 32) (v271 : BitVec 32) (k1_hw11 : k1_chk11 i v267 v269 v271), ∀ (k1_h1 : k1_cond1 i = 1#1), ∀ a, (k1_off86 i v267 v269 v271) a + S1x1x1x1x8x20.size a ≤ S3x8x9x80x80x20.size a := fun i v267 v269 v271 k1_hw11 k1_h1 => k1_hw11.2.2.1 k1_h1
theorem k1_off87_inb : ∀ (i : grid1.Coords) (v267 : BitVec 32) (v269 : BitVec 32) (v271 : BitVec 32) (k1_hw11 : k1_chk11 i v267 v269 v271), ∀ (k1_h1 : k1_cond1 i = 1#1), ∀ a, (k1_off87 i v267 v269 v271) a + S1x1x1x1x8x5.size a ≤ S3x8x9x80x80x5.size a := fun i v267 v269 v271 k1_hw11 k1_h1 => k1_hw11.2.2.2 k1_h1

def k1_off88 (i : grid1.Coords) (v290 : BitVec 32) (v292 : BitVec 32) (v294 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_166 : BitVec 32 := 8#32
  let v295 : BitVec 32 := Scalar.muli v294 c8_i32_166
  let c0_i32_625 : BitVec 32 := 0#32
  ![v21.toNat, v22.toNat, v290.toNat, v292.toNat, v295.toNat, 0]
def k1_off89 (i : grid1.Coords) (v290 : BitVec 32) (v292 : BitVec 32) (v294 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_166 : BitVec 32 := 8#32
  let v295 : BitVec 32 := Scalar.muli v294 c8_i32_166
  let c0_i32_632 : BitVec 32 := 0#32
  ![v21.toNat, v22.toNat, v290.toNat, v292.toNat, v295.toNat, 0]

def k1_chk12 (i : grid1.Coords) (v290 : BitVec 32) (v292 : BitVec 32) (v294 : BitVec 32) : Prop :=
  (∀ (k1_h1 : k1_cond1 i = 1#1), ∀ a, (k1_off24 i v290 v292 v294) a + S1x1x1x1x8x20.size a ≤ S3x8x9x80x80x20.size a) ∧
  (∀ (k1_h1 : k1_cond1 i = 1#1), ∀ a, (k1_off25 i v290 v292 v294) a + S1x1x1x1x8x5.size a ≤ S3x8x9x80x80x5.size a) ∧
  (∀ (k1_h1 : k1_cond1 i = 1#1), ∀ a, (k1_off88 i v290 v292 v294) a + S1x1x1x1x8x20.size a ≤ S3x8x9x80x80x20.size a) ∧
  (∀ (k1_h1 : k1_cond1 i = 1#1), ∀ a, (k1_off89 i v290 v292 v294) a + S1x1x1x1x8x5.size a ≤ S3x8x9x80x80x5.size a)
theorem k1_off24_inb : ∀ (i : grid1.Coords) (v290 : BitVec 32) (v292 : BitVec 32) (v294 : BitVec 32) (k1_hw12 : k1_chk12 i v290 v292 v294), ∀ (k1_h1 : k1_cond1 i = 1#1), ∀ a, (k1_off24 i v290 v292 v294) a + S1x1x1x1x8x20.size a ≤ S3x8x9x80x80x20.size a := fun i v290 v292 v294 k1_hw12 k1_h1 => k1_hw12.1 k1_h1
theorem k1_off25_inb : ∀ (i : grid1.Coords) (v290 : BitVec 32) (v292 : BitVec 32) (v294 : BitVec 32) (k1_hw12 : k1_chk12 i v290 v292 v294), ∀ (k1_h1 : k1_cond1 i = 1#1), ∀ a, (k1_off25 i v290 v292 v294) a + S1x1x1x1x8x5.size a ≤ S3x8x9x80x80x5.size a := fun i v290 v292 v294 k1_hw12 k1_h1 => k1_hw12.2.1 k1_h1
theorem k1_off88_inb : ∀ (i : grid1.Coords) (v290 : BitVec 32) (v292 : BitVec 32) (v294 : BitVec 32) (k1_hw12 : k1_chk12 i v290 v292 v294), ∀ (k1_h1 : k1_cond1 i = 1#1), ∀ a, (k1_off88 i v290 v292 v294) a + S1x1x1x1x8x20.size a ≤ S3x8x9x80x80x20.size a := fun i v290 v292 v294 k1_hw12 k1_h1 => k1_hw12.2.2.1 k1_h1
theorem k1_off89_inb : ∀ (i : grid1.Coords) (v290 : BitVec 32) (v292 : BitVec 32) (v294 : BitVec 32) (k1_hw12 : k1_chk12 i v290 v292 v294), ∀ (k1_h1 : k1_cond1 i = 1#1), ∀ a, (k1_off89 i v290 v292 v294) a + S1x1x1x1x8x5.size a ≤ S3x8x9x80x80x5.size a := fun i v290 v292 v294 k1_hw12 k1_h1 => k1_hw12.2.2.2 k1_h1

def k1_off90 (i : grid1.Coords) (v313 : BitVec 32) (v315 : BitVec 32) (v317 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_180 : BitVec 32 := 8#32
  let v318 : BitVec 32 := Scalar.muli v317 c8_i32_180
  let c0_i32_639 : BitVec 32 := 0#32
  ![v21.toNat, v22.toNat, v313.toNat, v315.toNat, v318.toNat, 0]
def k1_off91 (i : grid1.Coords) (v313 : BitVec 32) (v315 : BitVec 32) (v317 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_180 : BitVec 32 := 8#32
  let v318 : BitVec 32 := Scalar.muli v317 c8_i32_180
  let c0_i32_646 : BitVec 32 := 0#32
  ![v21.toNat, v22.toNat, v313.toNat, v315.toNat, v318.toNat, 0]

def k1_chk13 (i : grid1.Coords) (v313 : BitVec 32) (v315 : BitVec 32) (v317 : BitVec 32) : Prop :=
  (∀ (k1_h1 : k1_cond1 i = 1#1), ∀ a, (k1_off26 i v313 v315 v317) a + S1x1x1x1x8x20.size a ≤ S3x8x9x80x80x20.size a) ∧
  (∀ (k1_h1 : k1_cond1 i = 1#1), ∀ a, (k1_off27 i v313 v315 v317) a + S1x1x1x1x8x5.size a ≤ S3x8x9x80x80x5.size a) ∧
  (∀ (k1_h1 : k1_cond1 i = 1#1), ∀ a, (k1_off90 i v313 v315 v317) a + S1x1x1x1x8x20.size a ≤ S3x8x9x80x80x20.size a) ∧
  (∀ (k1_h1 : k1_cond1 i = 1#1), ∀ a, (k1_off91 i v313 v315 v317) a + S1x1x1x1x8x5.size a ≤ S3x8x9x80x80x5.size a)
theorem k1_off26_inb : ∀ (i : grid1.Coords) (v313 : BitVec 32) (v315 : BitVec 32) (v317 : BitVec 32) (k1_hw13 : k1_chk13 i v313 v315 v317), ∀ (k1_h1 : k1_cond1 i = 1#1), ∀ a, (k1_off26 i v313 v315 v317) a + S1x1x1x1x8x20.size a ≤ S3x8x9x80x80x20.size a := fun i v313 v315 v317 k1_hw13 k1_h1 => k1_hw13.1 k1_h1
theorem k1_off27_inb : ∀ (i : grid1.Coords) (v313 : BitVec 32) (v315 : BitVec 32) (v317 : BitVec 32) (k1_hw13 : k1_chk13 i v313 v315 v317), ∀ (k1_h1 : k1_cond1 i = 1#1), ∀ a, (k1_off27 i v313 v315 v317) a + S1x1x1x1x8x5.size a ≤ S3x8x9x80x80x5.size a := fun i v313 v315 v317 k1_hw13 k1_h1 => k1_hw13.2.1 k1_h1
theorem k1_off90_inb : ∀ (i : grid1.Coords) (v313 : BitVec 32) (v315 : BitVec 32) (v317 : BitVec 32) (k1_hw13 : k1_chk13 i v313 v315 v317), ∀ (k1_h1 : k1_cond1 i = 1#1), ∀ a, (k1_off90 i v313 v315 v317) a + S1x1x1x1x8x20.size a ≤ S3x8x9x80x80x20.size a := fun i v313 v315 v317 k1_hw13 k1_h1 => k1_hw13.2.2.1 k1_h1
theorem k1_off91_inb : ∀ (i : grid1.Coords) (v313 : BitVec 32) (v315 : BitVec 32) (v317 : BitVec 32) (k1_hw13 : k1_chk13 i v313 v315 v317), ∀ (k1_h1 : k1_cond1 i = 1#1), ∀ a, (k1_off91 i v313 v315 v317) a + S1x1x1x1x8x5.size a ≤ S3x8x9x80x80x5.size a := fun i v313 v315 v317 k1_hw13 k1_h1 => k1_hw13.2.2.2 k1_h1

def k1_off92 (i : grid1.Coords) (v336 : BitVec 32) (v338 : BitVec 32) (v340 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_194 : BitVec 32 := 8#32
  let v341 : BitVec 32 := Scalar.muli v340 c8_i32_194
  let c0_i32_653 : BitVec 32 := 0#32
  ![v21.toNat, v22.toNat, v336.toNat, v338.toNat, v341.toNat, 0]
def k1_off93 (i : grid1.Coords) (v336 : BitVec 32) (v338 : BitVec 32) (v340 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_194 : BitVec 32 := 8#32
  let v341 : BitVec 32 := Scalar.muli v340 c8_i32_194
  let c0_i32_660 : BitVec 32 := 0#32
  ![v21.toNat, v22.toNat, v336.toNat, v338.toNat, v341.toNat, 0]

def k1_chk14 (i : grid1.Coords) (v336 : BitVec 32) (v338 : BitVec 32) (v340 : BitVec 32) : Prop :=
  (∀ (k1_h1 : k1_cond1 i = 1#1), ∀ a, (k1_off28 i v336 v338 v340) a + S1x1x1x1x8x20.size a ≤ S3x8x9x80x80x20.size a) ∧
  (∀ (k1_h1 : k1_cond1 i = 1#1), ∀ a, (k1_off29 i v336 v338 v340) a + S1x1x1x1x8x5.size a ≤ S3x8x9x80x80x5.size a) ∧
  (∀ (k1_h1 : k1_cond1 i = 1#1), ∀ a, (k1_off92 i v336 v338 v340) a + S1x1x1x1x8x20.size a ≤ S3x8x9x80x80x20.size a) ∧
  (∀ (k1_h1 : k1_cond1 i = 1#1), ∀ a, (k1_off93 i v336 v338 v340) a + S1x1x1x1x8x5.size a ≤ S3x8x9x80x80x5.size a)
theorem k1_off28_inb : ∀ (i : grid1.Coords) (v336 : BitVec 32) (v338 : BitVec 32) (v340 : BitVec 32) (k1_hw14 : k1_chk14 i v336 v338 v340), ∀ (k1_h1 : k1_cond1 i = 1#1), ∀ a, (k1_off28 i v336 v338 v340) a + S1x1x1x1x8x20.size a ≤ S3x8x9x80x80x20.size a := fun i v336 v338 v340 k1_hw14 k1_h1 => k1_hw14.1 k1_h1
theorem k1_off29_inb : ∀ (i : grid1.Coords) (v336 : BitVec 32) (v338 : BitVec 32) (v340 : BitVec 32) (k1_hw14 : k1_chk14 i v336 v338 v340), ∀ (k1_h1 : k1_cond1 i = 1#1), ∀ a, (k1_off29 i v336 v338 v340) a + S1x1x1x1x8x5.size a ≤ S3x8x9x80x80x5.size a := fun i v336 v338 v340 k1_hw14 k1_h1 => k1_hw14.2.1 k1_h1
theorem k1_off92_inb : ∀ (i : grid1.Coords) (v336 : BitVec 32) (v338 : BitVec 32) (v340 : BitVec 32) (k1_hw14 : k1_chk14 i v336 v338 v340), ∀ (k1_h1 : k1_cond1 i = 1#1), ∀ a, (k1_off92 i v336 v338 v340) a + S1x1x1x1x8x20.size a ≤ S3x8x9x80x80x20.size a := fun i v336 v338 v340 k1_hw14 k1_h1 => k1_hw14.2.2.1 k1_h1
theorem k1_off93_inb : ∀ (i : grid1.Coords) (v336 : BitVec 32) (v338 : BitVec 32) (v340 : BitVec 32) (k1_hw14 : k1_chk14 i v336 v338 v340), ∀ (k1_h1 : k1_cond1 i = 1#1), ∀ a, (k1_off93 i v336 v338 v340) a + S1x1x1x1x8x5.size a ≤ S3x8x9x80x80x5.size a := fun i v336 v338 v340 k1_hw14 k1_h1 => k1_hw14.2.2.2 k1_h1

def k1_off94 (i : grid1.Coords) (v359 : BitVec 32) (v361 : BitVec 32) (v363 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_208 : BitVec 32 := 8#32
  let v364 : BitVec 32 := Scalar.muli v363 c8_i32_208
  let c0_i32_667 : BitVec 32 := 0#32
  ![v21.toNat, v22.toNat, v359.toNat, v361.toNat, v364.toNat, 0]
def k1_off95 (i : grid1.Coords) (v359 : BitVec 32) (v361 : BitVec 32) (v363 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_208 : BitVec 32 := 8#32
  let v364 : BitVec 32 := Scalar.muli v363 c8_i32_208
  let c0_i32_674 : BitVec 32 := 0#32
  ![v21.toNat, v22.toNat, v359.toNat, v361.toNat, v364.toNat, 0]

def k1_chk15 (i : grid1.Coords) (v359 : BitVec 32) (v361 : BitVec 32) (v363 : BitVec 32) : Prop :=
  (∀ (k1_h1 : k1_cond1 i = 1#1), ∀ a, (k1_off30 i v359 v361 v363) a + S1x1x1x1x8x20.size a ≤ S3x8x9x80x80x20.size a) ∧
  (∀ (k1_h1 : k1_cond1 i = 1#1), ∀ a, (k1_off31 i v359 v361 v363) a + S1x1x1x1x8x5.size a ≤ S3x8x9x80x80x5.size a) ∧
  (∀ (k1_h1 : k1_cond1 i = 1#1), ∀ a, (k1_off94 i v359 v361 v363) a + S1x1x1x1x8x20.size a ≤ S3x8x9x80x80x20.size a) ∧
  (∀ (k1_h1 : k1_cond1 i = 1#1), ∀ a, (k1_off95 i v359 v361 v363) a + S1x1x1x1x8x5.size a ≤ S3x8x9x80x80x5.size a)
theorem k1_off30_inb : ∀ (i : grid1.Coords) (v359 : BitVec 32) (v361 : BitVec 32) (v363 : BitVec 32) (k1_hw15 : k1_chk15 i v359 v361 v363), ∀ (k1_h1 : k1_cond1 i = 1#1), ∀ a, (k1_off30 i v359 v361 v363) a + S1x1x1x1x8x20.size a ≤ S3x8x9x80x80x20.size a := fun i v359 v361 v363 k1_hw15 k1_h1 => k1_hw15.1 k1_h1
theorem k1_off31_inb : ∀ (i : grid1.Coords) (v359 : BitVec 32) (v361 : BitVec 32) (v363 : BitVec 32) (k1_hw15 : k1_chk15 i v359 v361 v363), ∀ (k1_h1 : k1_cond1 i = 1#1), ∀ a, (k1_off31 i v359 v361 v363) a + S1x1x1x1x8x5.size a ≤ S3x8x9x80x80x5.size a := fun i v359 v361 v363 k1_hw15 k1_h1 => k1_hw15.2.1 k1_h1
theorem k1_off94_inb : ∀ (i : grid1.Coords) (v359 : BitVec 32) (v361 : BitVec 32) (v363 : BitVec 32) (k1_hw15 : k1_chk15 i v359 v361 v363), ∀ (k1_h1 : k1_cond1 i = 1#1), ∀ a, (k1_off94 i v359 v361 v363) a + S1x1x1x1x8x20.size a ≤ S3x8x9x80x80x20.size a := fun i v359 v361 v363 k1_hw15 k1_h1 => k1_hw15.2.2.1 k1_h1
theorem k1_off95_inb : ∀ (i : grid1.Coords) (v359 : BitVec 32) (v361 : BitVec 32) (v363 : BitVec 32) (k1_hw15 : k1_chk15 i v359 v361 v363), ∀ (k1_h1 : k1_cond1 i = 1#1), ∀ a, (k1_off95 i v359 v361 v363) a + S1x1x1x1x8x5.size a ≤ S3x8x9x80x80x5.size a := fun i v359 v361 v363 k1_hw15 k1_h1 => k1_hw15.2.2.2 k1_h1

def k1_off96 (i : grid1.Coords) (v382 : BitVec 32) (v384 : BitVec 32) (v386 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_223 : BitVec 32 := 8#32
  let v387 : BitVec 32 := Scalar.muli v386 c8_i32_223
  let c0_i32_681 : BitVec 32 := 0#32
  ![v21.toNat, v22.toNat, v382.toNat, v384.toNat, v387.toNat, 0]
def k1_off97 (i : grid1.Coords) (v382 : BitVec 32) (v384 : BitVec 32) (v386 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_223 : BitVec 32 := 8#32
  let v387 : BitVec 32 := Scalar.muli v386 c8_i32_223
  let c0_i32_688 : BitVec 32 := 0#32
  ![v21.toNat, v22.toNat, v382.toNat, v384.toNat, v387.toNat, 0]

def k1_chk16 (i : grid1.Coords) (v382 : BitVec 32) (v384 : BitVec 32) (v386 : BitVec 32) : Prop :=
  (∀ (k1_h1 : k1_cond1 i = 1#1), ∀ a, (k1_off32 i v382 v384 v386) a + S1x1x1x1x8x20.size a ≤ S3x8x9x80x80x20.size a) ∧
  (∀ (k1_h1 : k1_cond1 i = 1#1), ∀ a, (k1_off33 i v382 v384 v386) a + S1x1x1x1x8x5.size a ≤ S3x8x9x80x80x5.size a) ∧
  (∀ (k1_h1 : k1_cond1 i = 1#1), ∀ a, (k1_off96 i v382 v384 v386) a + S1x1x1x1x8x20.size a ≤ S3x8x9x80x80x20.size a) ∧
  (∀ (k1_h1 : k1_cond1 i = 1#1), ∀ a, (k1_off97 i v382 v384 v386) a + S1x1x1x1x8x5.size a ≤ S3x8x9x80x80x5.size a)
theorem k1_off32_inb : ∀ (i : grid1.Coords) (v382 : BitVec 32) (v384 : BitVec 32) (v386 : BitVec 32) (k1_hw16 : k1_chk16 i v382 v384 v386), ∀ (k1_h1 : k1_cond1 i = 1#1), ∀ a, (k1_off32 i v382 v384 v386) a + S1x1x1x1x8x20.size a ≤ S3x8x9x80x80x20.size a := fun i v382 v384 v386 k1_hw16 k1_h1 => k1_hw16.1 k1_h1
theorem k1_off33_inb : ∀ (i : grid1.Coords) (v382 : BitVec 32) (v384 : BitVec 32) (v386 : BitVec 32) (k1_hw16 : k1_chk16 i v382 v384 v386), ∀ (k1_h1 : k1_cond1 i = 1#1), ∀ a, (k1_off33 i v382 v384 v386) a + S1x1x1x1x8x5.size a ≤ S3x8x9x80x80x5.size a := fun i v382 v384 v386 k1_hw16 k1_h1 => k1_hw16.2.1 k1_h1
theorem k1_off96_inb : ∀ (i : grid1.Coords) (v382 : BitVec 32) (v384 : BitVec 32) (v386 : BitVec 32) (k1_hw16 : k1_chk16 i v382 v384 v386), ∀ (k1_h1 : k1_cond1 i = 1#1), ∀ a, (k1_off96 i v382 v384 v386) a + S1x1x1x1x8x20.size a ≤ S3x8x9x80x80x20.size a := fun i v382 v384 v386 k1_hw16 k1_h1 => k1_hw16.2.2.1 k1_h1
theorem k1_off97_inb : ∀ (i : grid1.Coords) (v382 : BitVec 32) (v384 : BitVec 32) (v386 : BitVec 32) (k1_hw16 : k1_chk16 i v382 v384 v386), ∀ (k1_h1 : k1_cond1 i = 1#1), ∀ a, (k1_off97 i v382 v384 v386) a + S1x1x1x1x8x5.size a ≤ S3x8x9x80x80x5.size a := fun i v382 v384 v386 k1_hw16 k1_h1 => k1_hw16.2.2.2 k1_h1

def k1_off98 (i : grid1.Coords) (v416 : BitVec 32) (v418 : BitVec 32) (v420 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_243 : BitVec 32 := 8#32
  let v421 : BitVec 32 := Scalar.muli v420 c8_i32_243
  let c0_i32_695 : BitVec 32 := 0#32
  ![v21.toNat, v22.toNat, v416.toNat, v418.toNat, v421.toNat, 0]
def k1_off99 (i : grid1.Coords) (v416 : BitVec 32) (v418 : BitVec 32) (v420 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_243 : BitVec 32 := 8#32
  let v421 : BitVec 32 := Scalar.muli v420 c8_i32_243
  let c0_i32_702 : BitVec 32 := 0#32
  ![v21.toNat, v22.toNat, v416.toNat, v418.toNat, v421.toNat, 0]

def k1_chk17 (i : grid1.Coords) (v416 : BitVec 32) (v418 : BitVec 32) (v420 : BitVec 32) : Prop :=
  (∀ (k1_h1 : k1_cond1 i = 1#1), ∀ a, (k1_off34 i v416 v418 v420) a + S1x1x1x1x8x20.size a ≤ S3x8x9x80x80x20.size a) ∧
  (∀ (k1_h1 : k1_cond1 i = 1#1), ∀ a, (k1_off35 i v416 v418 v420) a + S1x1x1x1x8x5.size a ≤ S3x8x9x80x80x5.size a) ∧
  (∀ (k1_h1 : k1_cond1 i = 1#1), ∀ a, (k1_off98 i v416 v418 v420) a + S1x1x1x1x8x20.size a ≤ S3x8x9x80x80x20.size a) ∧
  (∀ (k1_h1 : k1_cond1 i = 1#1), ∀ a, (k1_off99 i v416 v418 v420) a + S1x1x1x1x8x5.size a ≤ S3x8x9x80x80x5.size a)
theorem k1_off34_inb : ∀ (i : grid1.Coords) (v416 : BitVec 32) (v418 : BitVec 32) (v420 : BitVec 32) (k1_hw17 : k1_chk17 i v416 v418 v420), ∀ (k1_h1 : k1_cond1 i = 1#1), ∀ a, (k1_off34 i v416 v418 v420) a + S1x1x1x1x8x20.size a ≤ S3x8x9x80x80x20.size a := fun i v416 v418 v420 k1_hw17 k1_h1 => k1_hw17.1 k1_h1
theorem k1_off35_inb : ∀ (i : grid1.Coords) (v416 : BitVec 32) (v418 : BitVec 32) (v420 : BitVec 32) (k1_hw17 : k1_chk17 i v416 v418 v420), ∀ (k1_h1 : k1_cond1 i = 1#1), ∀ a, (k1_off35 i v416 v418 v420) a + S1x1x1x1x8x5.size a ≤ S3x8x9x80x80x5.size a := fun i v416 v418 v420 k1_hw17 k1_h1 => k1_hw17.2.1 k1_h1
theorem k1_off98_inb : ∀ (i : grid1.Coords) (v416 : BitVec 32) (v418 : BitVec 32) (v420 : BitVec 32) (k1_hw17 : k1_chk17 i v416 v418 v420), ∀ (k1_h1 : k1_cond1 i = 1#1), ∀ a, (k1_off98 i v416 v418 v420) a + S1x1x1x1x8x20.size a ≤ S3x8x9x80x80x20.size a := fun i v416 v418 v420 k1_hw17 k1_h1 => k1_hw17.2.2.1 k1_h1
theorem k1_off99_inb : ∀ (i : grid1.Coords) (v416 : BitVec 32) (v418 : BitVec 32) (v420 : BitVec 32) (k1_hw17 : k1_chk17 i v416 v418 v420), ∀ (k1_h1 : k1_cond1 i = 1#1), ∀ a, (k1_off99 i v416 v418 v420) a + S1x1x1x1x8x5.size a ≤ S3x8x9x80x80x5.size a := fun i v416 v418 v420 k1_hw17 k1_h1 => k1_hw17.2.2.2 k1_h1

def k1_off100 (i : grid1.Coords) (v439 : BitVec 32) (v441 : BitVec 32) (v443 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_257 : BitVec 32 := 8#32
  let v444 : BitVec 32 := Scalar.muli v443 c8_i32_257
  let c0_i32_709 : BitVec 32 := 0#32
  ![v21.toNat, v22.toNat, v439.toNat, v441.toNat, v444.toNat, 0]
def k1_off101 (i : grid1.Coords) (v439 : BitVec 32) (v441 : BitVec 32) (v443 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_257 : BitVec 32 := 8#32
  let v444 : BitVec 32 := Scalar.muli v443 c8_i32_257
  let c0_i32_716 : BitVec 32 := 0#32
  ![v21.toNat, v22.toNat, v439.toNat, v441.toNat, v444.toNat, 0]

def k1_chk18 (i : grid1.Coords) (v439 : BitVec 32) (v441 : BitVec 32) (v443 : BitVec 32) : Prop :=
  (∀ (k1_h1 : k1_cond1 i = 1#1), ∀ a, (k1_off36 i v439 v441 v443) a + S1x1x1x1x8x20.size a ≤ S3x8x9x80x80x20.size a) ∧
  (∀ (k1_h1 : k1_cond1 i = 1#1), ∀ a, (k1_off37 i v439 v441 v443) a + S1x1x1x1x8x5.size a ≤ S3x8x9x80x80x5.size a) ∧
  (∀ (k1_h1 : k1_cond1 i = 1#1), ∀ a, (k1_off100 i v439 v441 v443) a + S1x1x1x1x8x20.size a ≤ S3x8x9x80x80x20.size a) ∧
  (∀ (k1_h1 : k1_cond1 i = 1#1), ∀ a, (k1_off101 i v439 v441 v443) a + S1x1x1x1x8x5.size a ≤ S3x8x9x80x80x5.size a)
theorem k1_off36_inb : ∀ (i : grid1.Coords) (v439 : BitVec 32) (v441 : BitVec 32) (v443 : BitVec 32) (k1_hw18 : k1_chk18 i v439 v441 v443), ∀ (k1_h1 : k1_cond1 i = 1#1), ∀ a, (k1_off36 i v439 v441 v443) a + S1x1x1x1x8x20.size a ≤ S3x8x9x80x80x20.size a := fun i v439 v441 v443 k1_hw18 k1_h1 => k1_hw18.1 k1_h1
theorem k1_off37_inb : ∀ (i : grid1.Coords) (v439 : BitVec 32) (v441 : BitVec 32) (v443 : BitVec 32) (k1_hw18 : k1_chk18 i v439 v441 v443), ∀ (k1_h1 : k1_cond1 i = 1#1), ∀ a, (k1_off37 i v439 v441 v443) a + S1x1x1x1x8x5.size a ≤ S3x8x9x80x80x5.size a := fun i v439 v441 v443 k1_hw18 k1_h1 => k1_hw18.2.1 k1_h1
theorem k1_off100_inb : ∀ (i : grid1.Coords) (v439 : BitVec 32) (v441 : BitVec 32) (v443 : BitVec 32) (k1_hw18 : k1_chk18 i v439 v441 v443), ∀ (k1_h1 : k1_cond1 i = 1#1), ∀ a, (k1_off100 i v439 v441 v443) a + S1x1x1x1x8x20.size a ≤ S3x8x9x80x80x20.size a := fun i v439 v441 v443 k1_hw18 k1_h1 => k1_hw18.2.2.1 k1_h1
theorem k1_off101_inb : ∀ (i : grid1.Coords) (v439 : BitVec 32) (v441 : BitVec 32) (v443 : BitVec 32) (k1_hw18 : k1_chk18 i v439 v441 v443), ∀ (k1_h1 : k1_cond1 i = 1#1), ∀ a, (k1_off101 i v439 v441 v443) a + S1x1x1x1x8x5.size a ≤ S3x8x9x80x80x5.size a := fun i v439 v441 v443 k1_hw18 k1_h1 => k1_hw18.2.2.2 k1_h1

def k1_off102 (i : grid1.Coords) (v462 : BitVec 32) (v464 : BitVec 32) (v466 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_271 : BitVec 32 := 8#32
  let v467 : BitVec 32 := Scalar.muli v466 c8_i32_271
  let c0_i32_723 : BitVec 32 := 0#32
  ![v21.toNat, v22.toNat, v462.toNat, v464.toNat, v467.toNat, 0]
def k1_off103 (i : grid1.Coords) (v462 : BitVec 32) (v464 : BitVec 32) (v466 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_271 : BitVec 32 := 8#32
  let v467 : BitVec 32 := Scalar.muli v466 c8_i32_271
  let c0_i32_730 : BitVec 32 := 0#32
  ![v21.toNat, v22.toNat, v462.toNat, v464.toNat, v467.toNat, 0]

def k1_chk19 (i : grid1.Coords) (v462 : BitVec 32) (v464 : BitVec 32) (v466 : BitVec 32) : Prop :=
  (∀ (k1_h1 : k1_cond1 i = 1#1), ∀ a, (k1_off38 i v462 v464 v466) a + S1x1x1x1x8x20.size a ≤ S3x8x9x80x80x20.size a) ∧
  (∀ (k1_h1 : k1_cond1 i = 1#1), ∀ a, (k1_off39 i v462 v464 v466) a + S1x1x1x1x8x5.size a ≤ S3x8x9x80x80x5.size a) ∧
  (∀ (k1_h1 : k1_cond1 i = 1#1), ∀ a, (k1_off102 i v462 v464 v466) a + S1x1x1x1x8x20.size a ≤ S3x8x9x80x80x20.size a) ∧
  (∀ (k1_h1 : k1_cond1 i = 1#1), ∀ a, (k1_off103 i v462 v464 v466) a + S1x1x1x1x8x5.size a ≤ S3x8x9x80x80x5.size a)
theorem k1_off38_inb : ∀ (i : grid1.Coords) (v462 : BitVec 32) (v464 : BitVec 32) (v466 : BitVec 32) (k1_hw19 : k1_chk19 i v462 v464 v466), ∀ (k1_h1 : k1_cond1 i = 1#1), ∀ a, (k1_off38 i v462 v464 v466) a + S1x1x1x1x8x20.size a ≤ S3x8x9x80x80x20.size a := fun i v462 v464 v466 k1_hw19 k1_h1 => k1_hw19.1 k1_h1
theorem k1_off39_inb : ∀ (i : grid1.Coords) (v462 : BitVec 32) (v464 : BitVec 32) (v466 : BitVec 32) (k1_hw19 : k1_chk19 i v462 v464 v466), ∀ (k1_h1 : k1_cond1 i = 1#1), ∀ a, (k1_off39 i v462 v464 v466) a + S1x1x1x1x8x5.size a ≤ S3x8x9x80x80x5.size a := fun i v462 v464 v466 k1_hw19 k1_h1 => k1_hw19.2.1 k1_h1
theorem k1_off102_inb : ∀ (i : grid1.Coords) (v462 : BitVec 32) (v464 : BitVec 32) (v466 : BitVec 32) (k1_hw19 : k1_chk19 i v462 v464 v466), ∀ (k1_h1 : k1_cond1 i = 1#1), ∀ a, (k1_off102 i v462 v464 v466) a + S1x1x1x1x8x20.size a ≤ S3x8x9x80x80x20.size a := fun i v462 v464 v466 k1_hw19 k1_h1 => k1_hw19.2.2.1 k1_h1
theorem k1_off103_inb : ∀ (i : grid1.Coords) (v462 : BitVec 32) (v464 : BitVec 32) (v466 : BitVec 32) (k1_hw19 : k1_chk19 i v462 v464 v466), ∀ (k1_h1 : k1_cond1 i = 1#1), ∀ a, (k1_off103 i v462 v464 v466) a + S1x1x1x1x8x5.size a ≤ S3x8x9x80x80x5.size a := fun i v462 v464 v466 k1_hw19 k1_h1 => k1_hw19.2.2.2 k1_h1

def k1_off104 (i : grid1.Coords) (v485 : BitVec 32) (v487 : BitVec 32) (v489 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_285 : BitVec 32 := 8#32
  let v490 : BitVec 32 := Scalar.muli v489 c8_i32_285
  let c0_i32_737 : BitVec 32 := 0#32
  ![v21.toNat, v22.toNat, v485.toNat, v487.toNat, v490.toNat, 0]
def k1_off105 (i : grid1.Coords) (v485 : BitVec 32) (v487 : BitVec 32) (v489 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_285 : BitVec 32 := 8#32
  let v490 : BitVec 32 := Scalar.muli v489 c8_i32_285
  let c0_i32_744 : BitVec 32 := 0#32
  ![v21.toNat, v22.toNat, v485.toNat, v487.toNat, v490.toNat, 0]

def k1_chk20 (i : grid1.Coords) (v485 : BitVec 32) (v487 : BitVec 32) (v489 : BitVec 32) : Prop :=
  (∀ (k1_h1 : k1_cond1 i = 1#1), ∀ a, (k1_off40 i v485 v487 v489) a + S1x1x1x1x8x20.size a ≤ S3x8x9x80x80x20.size a) ∧
  (∀ (k1_h1 : k1_cond1 i = 1#1), ∀ a, (k1_off41 i v485 v487 v489) a + S1x1x1x1x8x5.size a ≤ S3x8x9x80x80x5.size a) ∧
  (∀ (k1_h1 : k1_cond1 i = 1#1), ∀ a, (k1_off104 i v485 v487 v489) a + S1x1x1x1x8x20.size a ≤ S3x8x9x80x80x20.size a) ∧
  (∀ (k1_h1 : k1_cond1 i = 1#1), ∀ a, (k1_off105 i v485 v487 v489) a + S1x1x1x1x8x5.size a ≤ S3x8x9x80x80x5.size a)
theorem k1_off40_inb : ∀ (i : grid1.Coords) (v485 : BitVec 32) (v487 : BitVec 32) (v489 : BitVec 32) (k1_hw20 : k1_chk20 i v485 v487 v489), ∀ (k1_h1 : k1_cond1 i = 1#1), ∀ a, (k1_off40 i v485 v487 v489) a + S1x1x1x1x8x20.size a ≤ S3x8x9x80x80x20.size a := fun i v485 v487 v489 k1_hw20 k1_h1 => k1_hw20.1 k1_h1
theorem k1_off41_inb : ∀ (i : grid1.Coords) (v485 : BitVec 32) (v487 : BitVec 32) (v489 : BitVec 32) (k1_hw20 : k1_chk20 i v485 v487 v489), ∀ (k1_h1 : k1_cond1 i = 1#1), ∀ a, (k1_off41 i v485 v487 v489) a + S1x1x1x1x8x5.size a ≤ S3x8x9x80x80x5.size a := fun i v485 v487 v489 k1_hw20 k1_h1 => k1_hw20.2.1 k1_h1
theorem k1_off104_inb : ∀ (i : grid1.Coords) (v485 : BitVec 32) (v487 : BitVec 32) (v489 : BitVec 32) (k1_hw20 : k1_chk20 i v485 v487 v489), ∀ (k1_h1 : k1_cond1 i = 1#1), ∀ a, (k1_off104 i v485 v487 v489) a + S1x1x1x1x8x20.size a ≤ S3x8x9x80x80x20.size a := fun i v485 v487 v489 k1_hw20 k1_h1 => k1_hw20.2.2.1 k1_h1
theorem k1_off105_inb : ∀ (i : grid1.Coords) (v485 : BitVec 32) (v487 : BitVec 32) (v489 : BitVec 32) (k1_hw20 : k1_chk20 i v485 v487 v489), ∀ (k1_h1 : k1_cond1 i = 1#1), ∀ a, (k1_off105 i v485 v487 v489) a + S1x1x1x1x8x5.size a ≤ S3x8x9x80x80x5.size a := fun i v485 v487 v489 k1_hw20 k1_h1 => k1_hw20.2.2.2 k1_h1

def k1_off106 (i : grid1.Coords) (v508 : BitVec 32) (v510 : BitVec 32) (v512 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_299 : BitVec 32 := 8#32
  let v513 : BitVec 32 := Scalar.muli v512 c8_i32_299
  let c0_i32_751 : BitVec 32 := 0#32
  ![v21.toNat, v22.toNat, v508.toNat, v510.toNat, v513.toNat, 0]
def k1_off107 (i : grid1.Coords) (v508 : BitVec 32) (v510 : BitVec 32) (v512 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_299 : BitVec 32 := 8#32
  let v513 : BitVec 32 := Scalar.muli v512 c8_i32_299
  let c0_i32_758 : BitVec 32 := 0#32
  ![v21.toNat, v22.toNat, v508.toNat, v510.toNat, v513.toNat, 0]

def k1_chk21 (i : grid1.Coords) (v508 : BitVec 32) (v510 : BitVec 32) (v512 : BitVec 32) : Prop :=
  (∀ (k1_h1 : k1_cond1 i = 1#1), ∀ a, (k1_off42 i v508 v510 v512) a + S1x1x1x1x8x20.size a ≤ S3x8x9x80x80x20.size a) ∧
  (∀ (k1_h1 : k1_cond1 i = 1#1), ∀ a, (k1_off43 i v508 v510 v512) a + S1x1x1x1x8x5.size a ≤ S3x8x9x80x80x5.size a) ∧
  (∀ (k1_h1 : k1_cond1 i = 1#1), ∀ a, (k1_off106 i v508 v510 v512) a + S1x1x1x1x8x20.size a ≤ S3x8x9x80x80x20.size a) ∧
  (∀ (k1_h1 : k1_cond1 i = 1#1), ∀ a, (k1_off107 i v508 v510 v512) a + S1x1x1x1x8x5.size a ≤ S3x8x9x80x80x5.size a)
theorem k1_off42_inb : ∀ (i : grid1.Coords) (v508 : BitVec 32) (v510 : BitVec 32) (v512 : BitVec 32) (k1_hw21 : k1_chk21 i v508 v510 v512), ∀ (k1_h1 : k1_cond1 i = 1#1), ∀ a, (k1_off42 i v508 v510 v512) a + S1x1x1x1x8x20.size a ≤ S3x8x9x80x80x20.size a := fun i v508 v510 v512 k1_hw21 k1_h1 => k1_hw21.1 k1_h1
theorem k1_off43_inb : ∀ (i : grid1.Coords) (v508 : BitVec 32) (v510 : BitVec 32) (v512 : BitVec 32) (k1_hw21 : k1_chk21 i v508 v510 v512), ∀ (k1_h1 : k1_cond1 i = 1#1), ∀ a, (k1_off43 i v508 v510 v512) a + S1x1x1x1x8x5.size a ≤ S3x8x9x80x80x5.size a := fun i v508 v510 v512 k1_hw21 k1_h1 => k1_hw21.2.1 k1_h1
theorem k1_off106_inb : ∀ (i : grid1.Coords) (v508 : BitVec 32) (v510 : BitVec 32) (v512 : BitVec 32) (k1_hw21 : k1_chk21 i v508 v510 v512), ∀ (k1_h1 : k1_cond1 i = 1#1), ∀ a, (k1_off106 i v508 v510 v512) a + S1x1x1x1x8x20.size a ≤ S3x8x9x80x80x20.size a := fun i v508 v510 v512 k1_hw21 k1_h1 => k1_hw21.2.2.1 k1_h1
theorem k1_off107_inb : ∀ (i : grid1.Coords) (v508 : BitVec 32) (v510 : BitVec 32) (v512 : BitVec 32) (k1_hw21 : k1_chk21 i v508 v510 v512), ∀ (k1_h1 : k1_cond1 i = 1#1), ∀ a, (k1_off107 i v508 v510 v512) a + S1x1x1x1x8x5.size a ≤ S3x8x9x80x80x5.size a := fun i v508 v510 v512 k1_hw21 k1_h1 => k1_hw21.2.2.2 k1_h1

def k1_off108 (i : grid1.Coords) (v531 : BitVec 32) (v533 : BitVec 32) (v535 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_313 : BitVec 32 := 8#32
  let v536 : BitVec 32 := Scalar.muli v535 c8_i32_313
  let c0_i32_765 : BitVec 32 := 0#32
  ![v21.toNat, v22.toNat, v531.toNat, v533.toNat, v536.toNat, 0]
def k1_off109 (i : grid1.Coords) (v531 : BitVec 32) (v533 : BitVec 32) (v535 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_313 : BitVec 32 := 8#32
  let v536 : BitVec 32 := Scalar.muli v535 c8_i32_313
  let c0_i32_772 : BitVec 32 := 0#32
  ![v21.toNat, v22.toNat, v531.toNat, v533.toNat, v536.toNat, 0]

def k1_chk22 (i : grid1.Coords) (v531 : BitVec 32) (v533 : BitVec 32) (v535 : BitVec 32) : Prop :=
  (∀ (k1_h1 : k1_cond1 i = 1#1), ∀ a, (k1_off44 i v531 v533 v535) a + S1x1x1x1x8x20.size a ≤ S3x8x9x80x80x20.size a) ∧
  (∀ (k1_h1 : k1_cond1 i = 1#1), ∀ a, (k1_off45 i v531 v533 v535) a + S1x1x1x1x8x5.size a ≤ S3x8x9x80x80x5.size a) ∧
  (∀ (k1_h1 : k1_cond1 i = 1#1), ∀ a, (k1_off108 i v531 v533 v535) a + S1x1x1x1x8x20.size a ≤ S3x8x9x80x80x20.size a) ∧
  (∀ (k1_h1 : k1_cond1 i = 1#1), ∀ a, (k1_off109 i v531 v533 v535) a + S1x1x1x1x8x5.size a ≤ S3x8x9x80x80x5.size a)
theorem k1_off44_inb : ∀ (i : grid1.Coords) (v531 : BitVec 32) (v533 : BitVec 32) (v535 : BitVec 32) (k1_hw22 : k1_chk22 i v531 v533 v535), ∀ (k1_h1 : k1_cond1 i = 1#1), ∀ a, (k1_off44 i v531 v533 v535) a + S1x1x1x1x8x20.size a ≤ S3x8x9x80x80x20.size a := fun i v531 v533 v535 k1_hw22 k1_h1 => k1_hw22.1 k1_h1
theorem k1_off45_inb : ∀ (i : grid1.Coords) (v531 : BitVec 32) (v533 : BitVec 32) (v535 : BitVec 32) (k1_hw22 : k1_chk22 i v531 v533 v535), ∀ (k1_h1 : k1_cond1 i = 1#1), ∀ a, (k1_off45 i v531 v533 v535) a + S1x1x1x1x8x5.size a ≤ S3x8x9x80x80x5.size a := fun i v531 v533 v535 k1_hw22 k1_h1 => k1_hw22.2.1 k1_h1
theorem k1_off108_inb : ∀ (i : grid1.Coords) (v531 : BitVec 32) (v533 : BitVec 32) (v535 : BitVec 32) (k1_hw22 : k1_chk22 i v531 v533 v535), ∀ (k1_h1 : k1_cond1 i = 1#1), ∀ a, (k1_off108 i v531 v533 v535) a + S1x1x1x1x8x20.size a ≤ S3x8x9x80x80x20.size a := fun i v531 v533 v535 k1_hw22 k1_h1 => k1_hw22.2.2.1 k1_h1
theorem k1_off109_inb : ∀ (i : grid1.Coords) (v531 : BitVec 32) (v533 : BitVec 32) (v535 : BitVec 32) (k1_hw22 : k1_chk22 i v531 v533 v535), ∀ (k1_h1 : k1_cond1 i = 1#1), ∀ a, (k1_off109 i v531 v533 v535) a + S1x1x1x1x8x5.size a ≤ S3x8x9x80x80x5.size a := fun i v531 v533 v535 k1_hw22 k1_h1 => k1_hw22.2.2.2 k1_h1

def k1_off110 (i : grid1.Coords) (v554 : BitVec 32) (v556 : BitVec 32) (v558 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_327 : BitVec 32 := 8#32
  let v559 : BitVec 32 := Scalar.muli v558 c8_i32_327
  let c0_i32_779 : BitVec 32 := 0#32
  ![v21.toNat, v22.toNat, v554.toNat, v556.toNat, v559.toNat, 0]
def k1_off111 (i : grid1.Coords) (v554 : BitVec 32) (v556 : BitVec 32) (v558 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_327 : BitVec 32 := 8#32
  let v559 : BitVec 32 := Scalar.muli v558 c8_i32_327
  let c0_i32_786 : BitVec 32 := 0#32
  ![v21.toNat, v22.toNat, v554.toNat, v556.toNat, v559.toNat, 0]

def k1_chk23 (i : grid1.Coords) (v554 : BitVec 32) (v556 : BitVec 32) (v558 : BitVec 32) : Prop :=
  (∀ (k1_h1 : k1_cond1 i = 1#1), ∀ a, (k1_off46 i v554 v556 v558) a + S1x1x1x1x8x20.size a ≤ S3x8x9x80x80x20.size a) ∧
  (∀ (k1_h1 : k1_cond1 i = 1#1), ∀ a, (k1_off47 i v554 v556 v558) a + S1x1x1x1x8x5.size a ≤ S3x8x9x80x80x5.size a) ∧
  (∀ (k1_h1 : k1_cond1 i = 1#1), ∀ a, (k1_off110 i v554 v556 v558) a + S1x1x1x1x8x20.size a ≤ S3x8x9x80x80x20.size a) ∧
  (∀ (k1_h1 : k1_cond1 i = 1#1), ∀ a, (k1_off111 i v554 v556 v558) a + S1x1x1x1x8x5.size a ≤ S3x8x9x80x80x5.size a)
theorem k1_off46_inb : ∀ (i : grid1.Coords) (v554 : BitVec 32) (v556 : BitVec 32) (v558 : BitVec 32) (k1_hw23 : k1_chk23 i v554 v556 v558), ∀ (k1_h1 : k1_cond1 i = 1#1), ∀ a, (k1_off46 i v554 v556 v558) a + S1x1x1x1x8x20.size a ≤ S3x8x9x80x80x20.size a := fun i v554 v556 v558 k1_hw23 k1_h1 => k1_hw23.1 k1_h1
theorem k1_off47_inb : ∀ (i : grid1.Coords) (v554 : BitVec 32) (v556 : BitVec 32) (v558 : BitVec 32) (k1_hw23 : k1_chk23 i v554 v556 v558), ∀ (k1_h1 : k1_cond1 i = 1#1), ∀ a, (k1_off47 i v554 v556 v558) a + S1x1x1x1x8x5.size a ≤ S3x8x9x80x80x5.size a := fun i v554 v556 v558 k1_hw23 k1_h1 => k1_hw23.2.1 k1_h1
theorem k1_off110_inb : ∀ (i : grid1.Coords) (v554 : BitVec 32) (v556 : BitVec 32) (v558 : BitVec 32) (k1_hw23 : k1_chk23 i v554 v556 v558), ∀ (k1_h1 : k1_cond1 i = 1#1), ∀ a, (k1_off110 i v554 v556 v558) a + S1x1x1x1x8x20.size a ≤ S3x8x9x80x80x20.size a := fun i v554 v556 v558 k1_hw23 k1_h1 => k1_hw23.2.2.1 k1_h1
theorem k1_off111_inb : ∀ (i : grid1.Coords) (v554 : BitVec 32) (v556 : BitVec 32) (v558 : BitVec 32) (k1_hw23 : k1_chk23 i v554 v556 v558), ∀ (k1_h1 : k1_cond1 i = 1#1), ∀ a, (k1_off111 i v554 v556 v558) a + S1x1x1x1x8x5.size a ≤ S3x8x9x80x80x5.size a := fun i v554 v556 v558 k1_hw23 k1_h1 => k1_hw23.2.2.2 k1_h1

def k1_off112 (i : grid1.Coords) (v577 : BitVec 32) (v579 : BitVec 32) (v581 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_341 : BitVec 32 := 8#32
  let v582 : BitVec 32 := Scalar.muli v581 c8_i32_341
  let c0_i32_793 : BitVec 32 := 0#32
  ![v21.toNat, v22.toNat, v577.toNat, v579.toNat, v582.toNat, 0]
def k1_off113 (i : grid1.Coords) (v577 : BitVec 32) (v579 : BitVec 32) (v581 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_341 : BitVec 32 := 8#32
  let v582 : BitVec 32 := Scalar.muli v581 c8_i32_341
  let c0_i32_800 : BitVec 32 := 0#32
  ![v21.toNat, v22.toNat, v577.toNat, v579.toNat, v582.toNat, 0]

def k1_chk24 (i : grid1.Coords) (v577 : BitVec 32) (v579 : BitVec 32) (v581 : BitVec 32) : Prop :=
  (∀ (k1_h1 : k1_cond1 i = 1#1), ∀ a, (k1_off48 i v577 v579 v581) a + S1x1x1x1x8x20.size a ≤ S3x8x9x80x80x20.size a) ∧
  (∀ (k1_h1 : k1_cond1 i = 1#1), ∀ a, (k1_off49 i v577 v579 v581) a + S1x1x1x1x8x5.size a ≤ S3x8x9x80x80x5.size a) ∧
  (∀ (k1_h1 : k1_cond1 i = 1#1), ∀ a, (k1_off112 i v577 v579 v581) a + S1x1x1x1x8x20.size a ≤ S3x8x9x80x80x20.size a) ∧
  (∀ (k1_h1 : k1_cond1 i = 1#1), ∀ a, (k1_off113 i v577 v579 v581) a + S1x1x1x1x8x5.size a ≤ S3x8x9x80x80x5.size a)
theorem k1_off48_inb : ∀ (i : grid1.Coords) (v577 : BitVec 32) (v579 : BitVec 32) (v581 : BitVec 32) (k1_hw24 : k1_chk24 i v577 v579 v581), ∀ (k1_h1 : k1_cond1 i = 1#1), ∀ a, (k1_off48 i v577 v579 v581) a + S1x1x1x1x8x20.size a ≤ S3x8x9x80x80x20.size a := fun i v577 v579 v581 k1_hw24 k1_h1 => k1_hw24.1 k1_h1
theorem k1_off49_inb : ∀ (i : grid1.Coords) (v577 : BitVec 32) (v579 : BitVec 32) (v581 : BitVec 32) (k1_hw24 : k1_chk24 i v577 v579 v581), ∀ (k1_h1 : k1_cond1 i = 1#1), ∀ a, (k1_off49 i v577 v579 v581) a + S1x1x1x1x8x5.size a ≤ S3x8x9x80x80x5.size a := fun i v577 v579 v581 k1_hw24 k1_h1 => k1_hw24.2.1 k1_h1
theorem k1_off112_inb : ∀ (i : grid1.Coords) (v577 : BitVec 32) (v579 : BitVec 32) (v581 : BitVec 32) (k1_hw24 : k1_chk24 i v577 v579 v581), ∀ (k1_h1 : k1_cond1 i = 1#1), ∀ a, (k1_off112 i v577 v579 v581) a + S1x1x1x1x8x20.size a ≤ S3x8x9x80x80x20.size a := fun i v577 v579 v581 k1_hw24 k1_h1 => k1_hw24.2.2.1 k1_h1
theorem k1_off113_inb : ∀ (i : grid1.Coords) (v577 : BitVec 32) (v579 : BitVec 32) (v581 : BitVec 32) (k1_hw24 : k1_chk24 i v577 v579 v581), ∀ (k1_h1 : k1_cond1 i = 1#1), ∀ a, (k1_off113 i v577 v579 v581) a + S1x1x1x1x8x5.size a ≤ S3x8x9x80x80x5.size a := fun i v577 v579 v581 k1_hw24 k1_h1 => k1_hw24.2.2.2 k1_h1

def k1_off114 (i : grid1.Coords) (v600 : BitVec 32) (v602 : BitVec 32) (v604 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_355 : BitVec 32 := 8#32
  let v605 : BitVec 32 := Scalar.muli v604 c8_i32_355
  let c0_i32_807 : BitVec 32 := 0#32
  ![v21.toNat, v22.toNat, v600.toNat, v602.toNat, v605.toNat, 0]
def k1_off115 (i : grid1.Coords) (v600 : BitVec 32) (v602 : BitVec 32) (v604 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_355 : BitVec 32 := 8#32
  let v605 : BitVec 32 := Scalar.muli v604 c8_i32_355
  let c0_i32_814 : BitVec 32 := 0#32
  ![v21.toNat, v22.toNat, v600.toNat, v602.toNat, v605.toNat, 0]

def k1_chk25 (i : grid1.Coords) (v600 : BitVec 32) (v602 : BitVec 32) (v604 : BitVec 32) : Prop :=
  (∀ (k1_h1 : k1_cond1 i = 1#1), ∀ a, (k1_off50 i v600 v602 v604) a + S1x1x1x1x8x20.size a ≤ S3x8x9x80x80x20.size a) ∧
  (∀ (k1_h1 : k1_cond1 i = 1#1), ∀ a, (k1_off51 i v600 v602 v604) a + S1x1x1x1x8x5.size a ≤ S3x8x9x80x80x5.size a) ∧
  (∀ (k1_h1 : k1_cond1 i = 1#1), ∀ a, (k1_off114 i v600 v602 v604) a + S1x1x1x1x8x20.size a ≤ S3x8x9x80x80x20.size a) ∧
  (∀ (k1_h1 : k1_cond1 i = 1#1), ∀ a, (k1_off115 i v600 v602 v604) a + S1x1x1x1x8x5.size a ≤ S3x8x9x80x80x5.size a)
theorem k1_off50_inb : ∀ (i : grid1.Coords) (v600 : BitVec 32) (v602 : BitVec 32) (v604 : BitVec 32) (k1_hw25 : k1_chk25 i v600 v602 v604), ∀ (k1_h1 : k1_cond1 i = 1#1), ∀ a, (k1_off50 i v600 v602 v604) a + S1x1x1x1x8x20.size a ≤ S3x8x9x80x80x20.size a := fun i v600 v602 v604 k1_hw25 k1_h1 => k1_hw25.1 k1_h1
theorem k1_off51_inb : ∀ (i : grid1.Coords) (v600 : BitVec 32) (v602 : BitVec 32) (v604 : BitVec 32) (k1_hw25 : k1_chk25 i v600 v602 v604), ∀ (k1_h1 : k1_cond1 i = 1#1), ∀ a, (k1_off51 i v600 v602 v604) a + S1x1x1x1x8x5.size a ≤ S3x8x9x80x80x5.size a := fun i v600 v602 v604 k1_hw25 k1_h1 => k1_hw25.2.1 k1_h1
theorem k1_off114_inb : ∀ (i : grid1.Coords) (v600 : BitVec 32) (v602 : BitVec 32) (v604 : BitVec 32) (k1_hw25 : k1_chk25 i v600 v602 v604), ∀ (k1_h1 : k1_cond1 i = 1#1), ∀ a, (k1_off114 i v600 v602 v604) a + S1x1x1x1x8x20.size a ≤ S3x8x9x80x80x20.size a := fun i v600 v602 v604 k1_hw25 k1_h1 => k1_hw25.2.2.1 k1_h1
theorem k1_off115_inb : ∀ (i : grid1.Coords) (v600 : BitVec 32) (v602 : BitVec 32) (v604 : BitVec 32) (k1_hw25 : k1_chk25 i v600 v602 v604), ∀ (k1_h1 : k1_cond1 i = 1#1), ∀ a, (k1_off115 i v600 v602 v604) a + S1x1x1x1x8x5.size a ≤ S3x8x9x80x80x5.size a := fun i v600 v602 v604 k1_hw25 k1_h1 => k1_hw25.2.2.2 k1_h1

def k1_off116 (i : grid1.Coords) (v623 : BitVec 32) (v625 : BitVec 32) (v627 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_370 : BitVec 32 := 8#32
  let v628 : BitVec 32 := Scalar.muli v627 c8_i32_370
  let c0_i32_821 : BitVec 32 := 0#32
  ![v21.toNat, v22.toNat, v623.toNat, v625.toNat, v628.toNat, 0]
def k1_off117 (i : grid1.Coords) (v623 : BitVec 32) (v625 : BitVec 32) (v627 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_370 : BitVec 32 := 8#32
  let v628 : BitVec 32 := Scalar.muli v627 c8_i32_370
  let c0_i32_828 : BitVec 32 := 0#32
  ![v21.toNat, v22.toNat, v623.toNat, v625.toNat, v628.toNat, 0]

def k1_chk26 (i : grid1.Coords) (v623 : BitVec 32) (v625 : BitVec 32) (v627 : BitVec 32) : Prop :=
  (∀ (k1_h1 : k1_cond1 i = 1#1), ∀ a, (k1_off52 i v623 v625 v627) a + S1x1x1x1x8x20.size a ≤ S3x8x9x80x80x20.size a) ∧
  (∀ (k1_h1 : k1_cond1 i = 1#1), ∀ a, (k1_off53 i v623 v625 v627) a + S1x1x1x1x8x5.size a ≤ S3x8x9x80x80x5.size a) ∧
  (∀ (k1_h1 : k1_cond1 i = 1#1), ∀ a, (k1_off116 i v623 v625 v627) a + S1x1x1x1x8x20.size a ≤ S3x8x9x80x80x20.size a) ∧
  (∀ (k1_h1 : k1_cond1 i = 1#1), ∀ a, (k1_off117 i v623 v625 v627) a + S1x1x1x1x8x5.size a ≤ S3x8x9x80x80x5.size a)
theorem k1_off52_inb : ∀ (i : grid1.Coords) (v623 : BitVec 32) (v625 : BitVec 32) (v627 : BitVec 32) (k1_hw26 : k1_chk26 i v623 v625 v627), ∀ (k1_h1 : k1_cond1 i = 1#1), ∀ a, (k1_off52 i v623 v625 v627) a + S1x1x1x1x8x20.size a ≤ S3x8x9x80x80x20.size a := fun i v623 v625 v627 k1_hw26 k1_h1 => k1_hw26.1 k1_h1
theorem k1_off53_inb : ∀ (i : grid1.Coords) (v623 : BitVec 32) (v625 : BitVec 32) (v627 : BitVec 32) (k1_hw26 : k1_chk26 i v623 v625 v627), ∀ (k1_h1 : k1_cond1 i = 1#1), ∀ a, (k1_off53 i v623 v625 v627) a + S1x1x1x1x8x5.size a ≤ S3x8x9x80x80x5.size a := fun i v623 v625 v627 k1_hw26 k1_h1 => k1_hw26.2.1 k1_h1
theorem k1_off116_inb : ∀ (i : grid1.Coords) (v623 : BitVec 32) (v625 : BitVec 32) (v627 : BitVec 32) (k1_hw26 : k1_chk26 i v623 v625 v627), ∀ (k1_h1 : k1_cond1 i = 1#1), ∀ a, (k1_off116 i v623 v625 v627) a + S1x1x1x1x8x20.size a ≤ S3x8x9x80x80x20.size a := fun i v623 v625 v627 k1_hw26 k1_h1 => k1_hw26.2.2.1 k1_h1
theorem k1_off117_inb : ∀ (i : grid1.Coords) (v623 : BitVec 32) (v625 : BitVec 32) (v627 : BitVec 32) (k1_hw26 : k1_chk26 i v623 v625 v627), ∀ (k1_h1 : k1_cond1 i = 1#1), ∀ a, (k1_off117 i v623 v625 v627) a + S1x1x1x1x8x5.size a ≤ S3x8x9x80x80x5.size a := fun i v623 v625 v627 k1_hw26 k1_h1 => k1_hw26.2.2.2 k1_h1

def k1_off118 (i : grid1.Coords) (v646 : BitVec 32) (v648 : BitVec 32) (v650 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_384 : BitVec 32 := 8#32
  let v651 : BitVec 32 := Scalar.muli v650 c8_i32_384
  let c0_i32_835 : BitVec 32 := 0#32
  ![v21.toNat, v22.toNat, v646.toNat, v648.toNat, v651.toNat, 0]
def k1_off119 (i : grid1.Coords) (v646 : BitVec 32) (v648 : BitVec 32) (v650 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_384 : BitVec 32 := 8#32
  let v651 : BitVec 32 := Scalar.muli v650 c8_i32_384
  let c0_i32_842 : BitVec 32 := 0#32
  ![v21.toNat, v22.toNat, v646.toNat, v648.toNat, v651.toNat, 0]

def k1_chk27 (i : grid1.Coords) (v646 : BitVec 32) (v648 : BitVec 32) (v650 : BitVec 32) : Prop :=
  (∀ (k1_h1 : k1_cond1 i = 1#1), ∀ a, (k1_off54 i v646 v648 v650) a + S1x1x1x1x8x20.size a ≤ S3x8x9x80x80x20.size a) ∧
  (∀ (k1_h1 : k1_cond1 i = 1#1), ∀ a, (k1_off55 i v646 v648 v650) a + S1x1x1x1x8x5.size a ≤ S3x8x9x80x80x5.size a) ∧
  (∀ (k1_h1 : k1_cond1 i = 1#1), ∀ a, (k1_off118 i v646 v648 v650) a + S1x1x1x1x8x20.size a ≤ S3x8x9x80x80x20.size a) ∧
  (∀ (k1_h1 : k1_cond1 i = 1#1), ∀ a, (k1_off119 i v646 v648 v650) a + S1x1x1x1x8x5.size a ≤ S3x8x9x80x80x5.size a)
theorem k1_off54_inb : ∀ (i : grid1.Coords) (v646 : BitVec 32) (v648 : BitVec 32) (v650 : BitVec 32) (k1_hw27 : k1_chk27 i v646 v648 v650), ∀ (k1_h1 : k1_cond1 i = 1#1), ∀ a, (k1_off54 i v646 v648 v650) a + S1x1x1x1x8x20.size a ≤ S3x8x9x80x80x20.size a := fun i v646 v648 v650 k1_hw27 k1_h1 => k1_hw27.1 k1_h1
theorem k1_off55_inb : ∀ (i : grid1.Coords) (v646 : BitVec 32) (v648 : BitVec 32) (v650 : BitVec 32) (k1_hw27 : k1_chk27 i v646 v648 v650), ∀ (k1_h1 : k1_cond1 i = 1#1), ∀ a, (k1_off55 i v646 v648 v650) a + S1x1x1x1x8x5.size a ≤ S3x8x9x80x80x5.size a := fun i v646 v648 v650 k1_hw27 k1_h1 => k1_hw27.2.1 k1_h1
theorem k1_off118_inb : ∀ (i : grid1.Coords) (v646 : BitVec 32) (v648 : BitVec 32) (v650 : BitVec 32) (k1_hw27 : k1_chk27 i v646 v648 v650), ∀ (k1_h1 : k1_cond1 i = 1#1), ∀ a, (k1_off118 i v646 v648 v650) a + S1x1x1x1x8x20.size a ≤ S3x8x9x80x80x20.size a := fun i v646 v648 v650 k1_hw27 k1_h1 => k1_hw27.2.2.1 k1_h1
theorem k1_off119_inb : ∀ (i : grid1.Coords) (v646 : BitVec 32) (v648 : BitVec 32) (v650 : BitVec 32) (k1_hw27 : k1_chk27 i v646 v648 v650), ∀ (k1_h1 : k1_cond1 i = 1#1), ∀ a, (k1_off119 i v646 v648 v650) a + S1x1x1x1x8x5.size a ≤ S3x8x9x80x80x5.size a := fun i v646 v648 v650 k1_hw27 k1_h1 => k1_hw27.2.2.2 k1_h1

def k1_off120 (i : grid1.Coords) (v669 : BitVec 32) (v671 : BitVec 32) (v673 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_398 : BitVec 32 := 8#32
  let v674 : BitVec 32 := Scalar.muli v673 c8_i32_398
  let c0_i32_849 : BitVec 32 := 0#32
  ![v21.toNat, v22.toNat, v669.toNat, v671.toNat, v674.toNat, 0]
def k1_off121 (i : grid1.Coords) (v669 : BitVec 32) (v671 : BitVec 32) (v673 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_398 : BitVec 32 := 8#32
  let v674 : BitVec 32 := Scalar.muli v673 c8_i32_398
  let c0_i32_856 : BitVec 32 := 0#32
  ![v21.toNat, v22.toNat, v669.toNat, v671.toNat, v674.toNat, 0]

def k1_chk28 (i : grid1.Coords) (v669 : BitVec 32) (v671 : BitVec 32) (v673 : BitVec 32) : Prop :=
  (∀ (k1_h1 : k1_cond1 i = 1#1), ∀ a, (k1_off56 i v669 v671 v673) a + S1x1x1x1x8x20.size a ≤ S3x8x9x80x80x20.size a) ∧
  (∀ (k1_h1 : k1_cond1 i = 1#1), ∀ a, (k1_off57 i v669 v671 v673) a + S1x1x1x1x8x5.size a ≤ S3x8x9x80x80x5.size a) ∧
  (∀ (k1_h1 : k1_cond1 i = 1#1), ∀ a, (k1_off120 i v669 v671 v673) a + S1x1x1x1x8x20.size a ≤ S3x8x9x80x80x20.size a) ∧
  (∀ (k1_h1 : k1_cond1 i = 1#1), ∀ a, (k1_off121 i v669 v671 v673) a + S1x1x1x1x8x5.size a ≤ S3x8x9x80x80x5.size a)
theorem k1_off56_inb : ∀ (i : grid1.Coords) (v669 : BitVec 32) (v671 : BitVec 32) (v673 : BitVec 32) (k1_hw28 : k1_chk28 i v669 v671 v673), ∀ (k1_h1 : k1_cond1 i = 1#1), ∀ a, (k1_off56 i v669 v671 v673) a + S1x1x1x1x8x20.size a ≤ S3x8x9x80x80x20.size a := fun i v669 v671 v673 k1_hw28 k1_h1 => k1_hw28.1 k1_h1
theorem k1_off57_inb : ∀ (i : grid1.Coords) (v669 : BitVec 32) (v671 : BitVec 32) (v673 : BitVec 32) (k1_hw28 : k1_chk28 i v669 v671 v673), ∀ (k1_h1 : k1_cond1 i = 1#1), ∀ a, (k1_off57 i v669 v671 v673) a + S1x1x1x1x8x5.size a ≤ S3x8x9x80x80x5.size a := fun i v669 v671 v673 k1_hw28 k1_h1 => k1_hw28.2.1 k1_h1
theorem k1_off120_inb : ∀ (i : grid1.Coords) (v669 : BitVec 32) (v671 : BitVec 32) (v673 : BitVec 32) (k1_hw28 : k1_chk28 i v669 v671 v673), ∀ (k1_h1 : k1_cond1 i = 1#1), ∀ a, (k1_off120 i v669 v671 v673) a + S1x1x1x1x8x20.size a ≤ S3x8x9x80x80x20.size a := fun i v669 v671 v673 k1_hw28 k1_h1 => k1_hw28.2.2.1 k1_h1
theorem k1_off121_inb : ∀ (i : grid1.Coords) (v669 : BitVec 32) (v671 : BitVec 32) (v673 : BitVec 32) (k1_hw28 : k1_chk28 i v669 v671 v673), ∀ (k1_h1 : k1_cond1 i = 1#1), ∀ a, (k1_off121 i v669 v671 v673) a + S1x1x1x1x8x5.size a ≤ S3x8x9x80x80x5.size a := fun i v669 v671 v673 k1_hw28 k1_h1 => k1_hw28.2.2.2 k1_h1

def k1_off122 (i : grid1.Coords) (v692 : BitVec 32) (v694 : BitVec 32) (v696 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_412 : BitVec 32 := 8#32
  let v697 : BitVec 32 := Scalar.muli v696 c8_i32_412
  let c0_i32_863 : BitVec 32 := 0#32
  ![v21.toNat, v22.toNat, v692.toNat, v694.toNat, v697.toNat, 0]
def k1_off123 (i : grid1.Coords) (v692 : BitVec 32) (v694 : BitVec 32) (v696 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_412 : BitVec 32 := 8#32
  let v697 : BitVec 32 := Scalar.muli v696 c8_i32_412
  let c0_i32_870 : BitVec 32 := 0#32
  ![v21.toNat, v22.toNat, v692.toNat, v694.toNat, v697.toNat, 0]

def k1_chk29 (i : grid1.Coords) (v692 : BitVec 32) (v694 : BitVec 32) (v696 : BitVec 32) : Prop :=
  (∀ (k1_h1 : k1_cond1 i = 1#1), ∀ a, (k1_off58 i v692 v694 v696) a + S1x1x1x1x8x20.size a ≤ S3x8x9x80x80x20.size a) ∧
  (∀ (k1_h1 : k1_cond1 i = 1#1), ∀ a, (k1_off59 i v692 v694 v696) a + S1x1x1x1x8x5.size a ≤ S3x8x9x80x80x5.size a) ∧
  (∀ (k1_h1 : k1_cond1 i = 1#1), ∀ a, (k1_off122 i v692 v694 v696) a + S1x1x1x1x8x20.size a ≤ S3x8x9x80x80x20.size a) ∧
  (∀ (k1_h1 : k1_cond1 i = 1#1), ∀ a, (k1_off123 i v692 v694 v696) a + S1x1x1x1x8x5.size a ≤ S3x8x9x80x80x5.size a)
theorem k1_off58_inb : ∀ (i : grid1.Coords) (v692 : BitVec 32) (v694 : BitVec 32) (v696 : BitVec 32) (k1_hw29 : k1_chk29 i v692 v694 v696), ∀ (k1_h1 : k1_cond1 i = 1#1), ∀ a, (k1_off58 i v692 v694 v696) a + S1x1x1x1x8x20.size a ≤ S3x8x9x80x80x20.size a := fun i v692 v694 v696 k1_hw29 k1_h1 => k1_hw29.1 k1_h1
theorem k1_off59_inb : ∀ (i : grid1.Coords) (v692 : BitVec 32) (v694 : BitVec 32) (v696 : BitVec 32) (k1_hw29 : k1_chk29 i v692 v694 v696), ∀ (k1_h1 : k1_cond1 i = 1#1), ∀ a, (k1_off59 i v692 v694 v696) a + S1x1x1x1x8x5.size a ≤ S3x8x9x80x80x5.size a := fun i v692 v694 v696 k1_hw29 k1_h1 => k1_hw29.2.1 k1_h1
theorem k1_off122_inb : ∀ (i : grid1.Coords) (v692 : BitVec 32) (v694 : BitVec 32) (v696 : BitVec 32) (k1_hw29 : k1_chk29 i v692 v694 v696), ∀ (k1_h1 : k1_cond1 i = 1#1), ∀ a, (k1_off122 i v692 v694 v696) a + S1x1x1x1x8x20.size a ≤ S3x8x9x80x80x20.size a := fun i v692 v694 v696 k1_hw29 k1_h1 => k1_hw29.2.2.1 k1_h1
theorem k1_off123_inb : ∀ (i : grid1.Coords) (v692 : BitVec 32) (v694 : BitVec 32) (v696 : BitVec 32) (k1_hw29 : k1_chk29 i v692 v694 v696), ∀ (k1_h1 : k1_cond1 i = 1#1), ∀ a, (k1_off123 i v692 v694 v696) a + S1x1x1x1x8x5.size a ≤ S3x8x9x80x80x5.size a := fun i v692 v694 v696 k1_hw29 k1_h1 => k1_hw29.2.2.2 k1_h1

def k1_off124 (i : grid1.Coords) (v715 : BitVec 32) (v717 : BitVec 32) (v719 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_426 : BitVec 32 := 8#32
  let v720 : BitVec 32 := Scalar.muli v719 c8_i32_426
  let c0_i32_877 : BitVec 32 := 0#32
  ![v21.toNat, v22.toNat, v715.toNat, v717.toNat, v720.toNat, 0]
def k1_off125 (i : grid1.Coords) (v715 : BitVec 32) (v717 : BitVec 32) (v719 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_426 : BitVec 32 := 8#32
  let v720 : BitVec 32 := Scalar.muli v719 c8_i32_426
  let c0_i32_884 : BitVec 32 := 0#32
  ![v21.toNat, v22.toNat, v715.toNat, v717.toNat, v720.toNat, 0]

def k1_chk30 (i : grid1.Coords) (v715 : BitVec 32) (v717 : BitVec 32) (v719 : BitVec 32) : Prop :=
  (∀ (k1_h1 : k1_cond1 i = 1#1), ∀ a, (k1_off60 i v715 v717 v719) a + S1x1x1x1x8x20.size a ≤ S3x8x9x80x80x20.size a) ∧
  (∀ (k1_h1 : k1_cond1 i = 1#1), ∀ a, (k1_off61 i v715 v717 v719) a + S1x1x1x1x8x5.size a ≤ S3x8x9x80x80x5.size a) ∧
  (∀ (k1_h1 : k1_cond1 i = 1#1), ∀ a, (k1_off124 i v715 v717 v719) a + S1x1x1x1x8x20.size a ≤ S3x8x9x80x80x20.size a) ∧
  (∀ (k1_h1 : k1_cond1 i = 1#1), ∀ a, (k1_off125 i v715 v717 v719) a + S1x1x1x1x8x5.size a ≤ S3x8x9x80x80x5.size a)
theorem k1_off60_inb : ∀ (i : grid1.Coords) (v715 : BitVec 32) (v717 : BitVec 32) (v719 : BitVec 32) (k1_hw30 : k1_chk30 i v715 v717 v719), ∀ (k1_h1 : k1_cond1 i = 1#1), ∀ a, (k1_off60 i v715 v717 v719) a + S1x1x1x1x8x20.size a ≤ S3x8x9x80x80x20.size a := fun i v715 v717 v719 k1_hw30 k1_h1 => k1_hw30.1 k1_h1
theorem k1_off61_inb : ∀ (i : grid1.Coords) (v715 : BitVec 32) (v717 : BitVec 32) (v719 : BitVec 32) (k1_hw30 : k1_chk30 i v715 v717 v719), ∀ (k1_h1 : k1_cond1 i = 1#1), ∀ a, (k1_off61 i v715 v717 v719) a + S1x1x1x1x8x5.size a ≤ S3x8x9x80x80x5.size a := fun i v715 v717 v719 k1_hw30 k1_h1 => k1_hw30.2.1 k1_h1
theorem k1_off124_inb : ∀ (i : grid1.Coords) (v715 : BitVec 32) (v717 : BitVec 32) (v719 : BitVec 32) (k1_hw30 : k1_chk30 i v715 v717 v719), ∀ (k1_h1 : k1_cond1 i = 1#1), ∀ a, (k1_off124 i v715 v717 v719) a + S1x1x1x1x8x20.size a ≤ S3x8x9x80x80x20.size a := fun i v715 v717 v719 k1_hw30 k1_h1 => k1_hw30.2.2.1 k1_h1
theorem k1_off125_inb : ∀ (i : grid1.Coords) (v715 : BitVec 32) (v717 : BitVec 32) (v719 : BitVec 32) (k1_hw30 : k1_chk30 i v715 v717 v719), ∀ (k1_h1 : k1_cond1 i = 1#1), ∀ a, (k1_off125 i v715 v717 v719) a + S1x1x1x1x8x5.size a ≤ S3x8x9x80x80x5.size a := fun i v715 v717 v719 k1_hw30 k1_h1 => k1_hw30.2.2.2 k1_h1

def k1_off126 (i : grid1.Coords) (v738 : BitVec 32) (v740 : BitVec 32) (v742 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_440 : BitVec 32 := 8#32
  let v743 : BitVec 32 := Scalar.muli v742 c8_i32_440
  let c0_i32_891 : BitVec 32 := 0#32
  ![v21.toNat, v22.toNat, v738.toNat, v740.toNat, v743.toNat, 0]
def k1_off127 (i : grid1.Coords) (v738 : BitVec 32) (v740 : BitVec 32) (v742 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_440 : BitVec 32 := 8#32
  let v743 : BitVec 32 := Scalar.muli v742 c8_i32_440
  let c0_i32_898 : BitVec 32 := 0#32
  ![v21.toNat, v22.toNat, v738.toNat, v740.toNat, v743.toNat, 0]

def k1_chk31 (i : grid1.Coords) (v738 : BitVec 32) (v740 : BitVec 32) (v742 : BitVec 32) : Prop :=
  (∀ (k1_h1 : k1_cond1 i = 1#1), ∀ a, (k1_off62 i v738 v740 v742) a + S1x1x1x1x8x20.size a ≤ S3x8x9x80x80x20.size a) ∧
  (∀ (k1_h1 : k1_cond1 i = 1#1), ∀ a, (k1_off63 i v738 v740 v742) a + S1x1x1x1x8x5.size a ≤ S3x8x9x80x80x5.size a) ∧
  (∀ (k1_h1 : k1_cond1 i = 1#1), ∀ a, (k1_off126 i v738 v740 v742) a + S1x1x1x1x8x20.size a ≤ S3x8x9x80x80x20.size a) ∧
  (∀ (k1_h1 : k1_cond1 i = 1#1), ∀ a, (k1_off127 i v738 v740 v742) a + S1x1x1x1x8x5.size a ≤ S3x8x9x80x80x5.size a)
theorem k1_off62_inb : ∀ (i : grid1.Coords) (v738 : BitVec 32) (v740 : BitVec 32) (v742 : BitVec 32) (k1_hw31 : k1_chk31 i v738 v740 v742), ∀ (k1_h1 : k1_cond1 i = 1#1), ∀ a, (k1_off62 i v738 v740 v742) a + S1x1x1x1x8x20.size a ≤ S3x8x9x80x80x20.size a := fun i v738 v740 v742 k1_hw31 k1_h1 => k1_hw31.1 k1_h1
theorem k1_off63_inb : ∀ (i : grid1.Coords) (v738 : BitVec 32) (v740 : BitVec 32) (v742 : BitVec 32) (k1_hw31 : k1_chk31 i v738 v740 v742), ∀ (k1_h1 : k1_cond1 i = 1#1), ∀ a, (k1_off63 i v738 v740 v742) a + S1x1x1x1x8x5.size a ≤ S3x8x9x80x80x5.size a := fun i v738 v740 v742 k1_hw31 k1_h1 => k1_hw31.2.1 k1_h1
theorem k1_off126_inb : ∀ (i : grid1.Coords) (v738 : BitVec 32) (v740 : BitVec 32) (v742 : BitVec 32) (k1_hw31 : k1_chk31 i v738 v740 v742), ∀ (k1_h1 : k1_cond1 i = 1#1), ∀ a, (k1_off126 i v738 v740 v742) a + S1x1x1x1x8x20.size a ≤ S3x8x9x80x80x20.size a := fun i v738 v740 v742 k1_hw31 k1_h1 => k1_hw31.2.2.1 k1_h1
theorem k1_off127_inb : ∀ (i : grid1.Coords) (v738 : BitVec 32) (v740 : BitVec 32) (v742 : BitVec 32) (k1_hw31 : k1_chk31 i v738 v740 v742), ∀ (k1_h1 : k1_cond1 i = 1#1), ∀ a, (k1_off127 i v738 v740 v742) a + S1x1x1x1x8x5.size a ≤ S3x8x9x80x80x5.size a := fun i v738 v740 v742 k1_hw31 k1_h1 => k1_hw31.2.2.2 k1_h1

def k1_chk33 (i : grid1.Coords) (v1296 : IVec S16 32) (v1298 : IVec S16 32) (v1301 : IVec S16 32) (v1302 : IVec S16 32) : Prop :=
  (∀ (k1_h1 : k1_cond1 i = 1#1), ∀ a x, ((![v1296, v1301, v1302] : Fin 3 → IVec S16 32) a x).toNat < S32x8x20.size a) ∧
  (∀ (k1_h1 : k1_cond1 i = 1#1), ∀ a x, ((![v1298, v1302] : Fin 2 → IVec S16 32) a x).toNat < S128x20.size a)
theorem k1_idx1_inb : ∀ (i : grid1.Coords) (v1296 : IVec S16 32) (v1298 : IVec S16 32) (v1301 : IVec S16 32) (v1302 : IVec S16 32) (k1_hw33 : k1_chk33 i v1296 v1298 v1301 v1302), ∀ (k1_h1 : k1_cond1 i = 1#1), ∀ a x, ((![v1296, v1301, v1302] : Fin 3 → IVec S16 32) a x).toNat < S32x8x20.size a := fun i v1296 v1298 v1301 v1302 k1_hw33 k1_h1 => k1_hw33.1 k1_h1
theorem k1_idx2_inb : ∀ (i : grid1.Coords) (v1296 : IVec S16 32) (v1298 : IVec S16 32) (v1301 : IVec S16 32) (v1302 : IVec S16 32) (k1_hw33 : k1_chk33 i v1296 v1298 v1301 v1302), ∀ (k1_h1 : k1_cond1 i = 1#1), ∀ a x, ((![v1298, v1302] : Fin 2 → IVec S16 32) a x).toNat < S128x20.size a := fun i v1296 v1298 v1301 v1302 k1_hw33 k1_h1 => k1_hw33.2 k1_h1

def k1_chk34 (i : grid1.Coords) (v1296 : IVec S16 32) (v1298 : IVec S16 32) (v1301 : IVec S16 32) (v1304 : IVec S16 32) : Prop :=
  (∀ (k1_h1 : k1_cond1 i = 1#1), ∀ a x, ((![v1296, v1301, v1304] : Fin 3 → IVec S16 32) a x).toNat < S32x8x20.size a) ∧
  (∀ (k1_h1 : k1_cond1 i = 1#1), ∀ a x, ((![v1298, v1304] : Fin 2 → IVec S16 32) a x).toNat < S128x20.size a)
theorem k1_idx3_inb : ∀ (i : grid1.Coords) (v1296 : IVec S16 32) (v1298 : IVec S16 32) (v1301 : IVec S16 32) (v1304 : IVec S16 32) (k1_hw34 : k1_chk34 i v1296 v1298 v1301 v1304), ∀ (k1_h1 : k1_cond1 i = 1#1), ∀ a x, ((![v1296, v1301, v1304] : Fin 3 → IVec S16 32) a x).toNat < S32x8x20.size a := fun i v1296 v1298 v1301 v1304 k1_hw34 k1_h1 => k1_hw34.1 k1_h1
theorem k1_idx4_inb : ∀ (i : grid1.Coords) (v1296 : IVec S16 32) (v1298 : IVec S16 32) (v1301 : IVec S16 32) (v1304 : IVec S16 32) (k1_hw34 : k1_chk34 i v1296 v1298 v1301 v1304), ∀ (k1_h1 : k1_cond1 i = 1#1), ∀ a x, ((![v1298, v1304] : Fin 2 → IVec S16 32) a x).toNat < S128x20.size a := fun i v1296 v1298 v1301 v1304 k1_hw34 k1_h1 => k1_hw34.2 k1_h1

def k1_chk35 (i : grid1.Coords) (v1296 : IVec S16 32) (v1298 : IVec S16 32) (v1301 : IVec S16 32) (v1306 : IVec S16 32) : Prop :=
  (∀ (k1_h1 : k1_cond1 i = 1#1), ∀ a x, ((![v1296, v1301, v1306] : Fin 3 → IVec S16 32) a x).toNat < S32x8x20.size a) ∧
  (∀ (k1_h1 : k1_cond1 i = 1#1), ∀ a x, ((![v1298, v1306] : Fin 2 → IVec S16 32) a x).toNat < S128x20.size a)
theorem k1_idx5_inb : ∀ (i : grid1.Coords) (v1296 : IVec S16 32) (v1298 : IVec S16 32) (v1301 : IVec S16 32) (v1306 : IVec S16 32) (k1_hw35 : k1_chk35 i v1296 v1298 v1301 v1306), ∀ (k1_h1 : k1_cond1 i = 1#1), ∀ a x, ((![v1296, v1301, v1306] : Fin 3 → IVec S16 32) a x).toNat < S32x8x20.size a := fun i v1296 v1298 v1301 v1306 k1_hw35 k1_h1 => k1_hw35.1 k1_h1
theorem k1_idx6_inb : ∀ (i : grid1.Coords) (v1296 : IVec S16 32) (v1298 : IVec S16 32) (v1301 : IVec S16 32) (v1306 : IVec S16 32) (k1_hw35 : k1_chk35 i v1296 v1298 v1301 v1306), ∀ (k1_h1 : k1_cond1 i = 1#1), ∀ a x, ((![v1298, v1306] : Fin 2 → IVec S16 32) a x).toNat < S128x20.size a := fun i v1296 v1298 v1301 v1306 k1_hw35 k1_h1 => k1_hw35.2 k1_h1

def k1_chk36 (i : grid1.Coords) (v1296 : IVec S16 32) (v1298 : IVec S16 32) (v1301 : IVec S16 32) (v1308 : IVec S16 32) : Prop :=
  (∀ (k1_h1 : k1_cond1 i = 1#1), ∀ a x, ((![v1296, v1301, v1308] : Fin 3 → IVec S16 32) a x).toNat < S32x8x20.size a) ∧
  (∀ (k1_h1 : k1_cond1 i = 1#1), ∀ a x, ((![v1298, v1308] : Fin 2 → IVec S16 32) a x).toNat < S128x20.size a)
theorem k1_idx7_inb : ∀ (i : grid1.Coords) (v1296 : IVec S16 32) (v1298 : IVec S16 32) (v1301 : IVec S16 32) (v1308 : IVec S16 32) (k1_hw36 : k1_chk36 i v1296 v1298 v1301 v1308), ∀ (k1_h1 : k1_cond1 i = 1#1), ∀ a x, ((![v1296, v1301, v1308] : Fin 3 → IVec S16 32) a x).toNat < S32x8x20.size a := fun i v1296 v1298 v1301 v1308 k1_hw36 k1_h1 => k1_hw36.1 k1_h1
theorem k1_idx8_inb : ∀ (i : grid1.Coords) (v1296 : IVec S16 32) (v1298 : IVec S16 32) (v1301 : IVec S16 32) (v1308 : IVec S16 32) (k1_hw36 : k1_chk36 i v1296 v1298 v1301 v1308), ∀ (k1_h1 : k1_cond1 i = 1#1), ∀ a x, ((![v1298, v1308] : Fin 2 → IVec S16 32) a x).toNat < S128x20.size a := fun i v1296 v1298 v1301 v1308 k1_hw36 k1_h1 => k1_hw36.2 k1_h1

def k1_chk37 (i : grid1.Coords) (v1296 : IVec S16 32) (v1298 : IVec S16 32) (v1301 : IVec S16 32) (v1310 : IVec S16 32) : Prop :=
  (∀ (k1_h1 : k1_cond1 i = 1#1), ∀ a x, ((![v1296, v1301, v1310] : Fin 3 → IVec S16 32) a x).toNat < S32x8x20.size a) ∧
  (∀ (k1_h1 : k1_cond1 i = 1#1), ∀ a x, ((![v1298, v1310] : Fin 2 → IVec S16 32) a x).toNat < S128x20.size a)
theorem k1_idx9_inb : ∀ (i : grid1.Coords) (v1296 : IVec S16 32) (v1298 : IVec S16 32) (v1301 : IVec S16 32) (v1310 : IVec S16 32) (k1_hw37 : k1_chk37 i v1296 v1298 v1301 v1310), ∀ (k1_h1 : k1_cond1 i = 1#1), ∀ a x, ((![v1296, v1301, v1310] : Fin 3 → IVec S16 32) a x).toNat < S32x8x20.size a := fun i v1296 v1298 v1301 v1310 k1_hw37 k1_h1 => k1_hw37.1 k1_h1
theorem k1_idx10_inb : ∀ (i : grid1.Coords) (v1296 : IVec S16 32) (v1298 : IVec S16 32) (v1301 : IVec S16 32) (v1310 : IVec S16 32) (k1_hw37 : k1_chk37 i v1296 v1298 v1301 v1310), ∀ (k1_h1 : k1_cond1 i = 1#1), ∀ a x, ((![v1298, v1310] : Fin 2 → IVec S16 32) a x).toNat < S128x20.size a := fun i v1296 v1298 v1301 v1310 k1_hw37 k1_h1 => k1_hw37.2 k1_h1

def k1_chk38 (i : grid1.Coords) (v1296 : IVec S16 32) (v1298 : IVec S16 32) (v1301 : IVec S16 32) (v1312 : IVec S16 32) : Prop :=
  (∀ (k1_h1 : k1_cond1 i = 1#1), ∀ a x, ((![v1296, v1301, v1312] : Fin 3 → IVec S16 32) a x).toNat < S32x8x20.size a) ∧
  (∀ (k1_h1 : k1_cond1 i = 1#1), ∀ a x, ((![v1298, v1312] : Fin 2 → IVec S16 32) a x).toNat < S128x20.size a)
theorem k1_idx11_inb : ∀ (i : grid1.Coords) (v1296 : IVec S16 32) (v1298 : IVec S16 32) (v1301 : IVec S16 32) (v1312 : IVec S16 32) (k1_hw38 : k1_chk38 i v1296 v1298 v1301 v1312), ∀ (k1_h1 : k1_cond1 i = 1#1), ∀ a x, ((![v1296, v1301, v1312] : Fin 3 → IVec S16 32) a x).toNat < S32x8x20.size a := fun i v1296 v1298 v1301 v1312 k1_hw38 k1_h1 => k1_hw38.1 k1_h1
theorem k1_idx12_inb : ∀ (i : grid1.Coords) (v1296 : IVec S16 32) (v1298 : IVec S16 32) (v1301 : IVec S16 32) (v1312 : IVec S16 32) (k1_hw38 : k1_chk38 i v1296 v1298 v1301 v1312), ∀ (k1_h1 : k1_cond1 i = 1#1), ∀ a x, ((![v1298, v1312] : Fin 2 → IVec S16 32) a x).toNat < S128x20.size a := fun i v1296 v1298 v1301 v1312 k1_hw38 k1_h1 => k1_hw38.2 k1_h1

def k1_chk39 (i : grid1.Coords) (v1296 : IVec S16 32) (v1298 : IVec S16 32) (v1301 : IVec S16 32) (v1314 : IVec S16 32) : Prop :=
  (∀ (k1_h1 : k1_cond1 i = 1#1), ∀ a x, ((![v1296, v1301, v1314] : Fin 3 → IVec S16 32) a x).toNat < S32x8x20.size a) ∧
  (∀ (k1_h1 : k1_cond1 i = 1#1), ∀ a x, ((![v1298, v1314] : Fin 2 → IVec S16 32) a x).toNat < S128x20.size a)
theorem k1_idx13_inb : ∀ (i : grid1.Coords) (v1296 : IVec S16 32) (v1298 : IVec S16 32) (v1301 : IVec S16 32) (v1314 : IVec S16 32) (k1_hw39 : k1_chk39 i v1296 v1298 v1301 v1314), ∀ (k1_h1 : k1_cond1 i = 1#1), ∀ a x, ((![v1296, v1301, v1314] : Fin 3 → IVec S16 32) a x).toNat < S32x8x20.size a := fun i v1296 v1298 v1301 v1314 k1_hw39 k1_h1 => k1_hw39.1 k1_h1
theorem k1_idx14_inb : ∀ (i : grid1.Coords) (v1296 : IVec S16 32) (v1298 : IVec S16 32) (v1301 : IVec S16 32) (v1314 : IVec S16 32) (k1_hw39 : k1_chk39 i v1296 v1298 v1301 v1314), ∀ (k1_h1 : k1_cond1 i = 1#1), ∀ a x, ((![v1298, v1314] : Fin 2 → IVec S16 32) a x).toNat < S128x20.size a := fun i v1296 v1298 v1301 v1314 k1_hw39 k1_h1 => k1_hw39.2 k1_h1

def k1_chk40 (i : grid1.Coords) (v1296 : IVec S16 32) (v1298 : IVec S16 32) (v1301 : IVec S16 32) (v1316 : IVec S16 32) : Prop :=
  (∀ (k1_h1 : k1_cond1 i = 1#1), ∀ a x, ((![v1296, v1301, v1316] : Fin 3 → IVec S16 32) a x).toNat < S32x8x20.size a) ∧
  (∀ (k1_h1 : k1_cond1 i = 1#1), ∀ a x, ((![v1298, v1316] : Fin 2 → IVec S16 32) a x).toNat < S128x20.size a)
theorem k1_idx15_inb : ∀ (i : grid1.Coords) (v1296 : IVec S16 32) (v1298 : IVec S16 32) (v1301 : IVec S16 32) (v1316 : IVec S16 32) (k1_hw40 : k1_chk40 i v1296 v1298 v1301 v1316), ∀ (k1_h1 : k1_cond1 i = 1#1), ∀ a x, ((![v1296, v1301, v1316] : Fin 3 → IVec S16 32) a x).toNat < S32x8x20.size a := fun i v1296 v1298 v1301 v1316 k1_hw40 k1_h1 => k1_hw40.1 k1_h1
theorem k1_idx16_inb : ∀ (i : grid1.Coords) (v1296 : IVec S16 32) (v1298 : IVec S16 32) (v1301 : IVec S16 32) (v1316 : IVec S16 32) (k1_hw40 : k1_chk40 i v1296 v1298 v1301 v1316), ∀ (k1_h1 : k1_cond1 i = 1#1), ∀ a x, ((![v1298, v1316] : Fin 2 → IVec S16 32) a x).toNat < S128x20.size a := fun i v1296 v1298 v1301 v1316 k1_hw40 k1_h1 => k1_hw40.2 k1_h1

def k1_chk41 (i : grid1.Coords) (v1296 : IVec S16 32) (v1298 : IVec S16 32) (v1301 : IVec S16 32) (v1318 : IVec S16 32) : Prop :=
  (∀ (k1_h1 : k1_cond1 i = 1#1), ∀ a x, ((![v1296, v1301, v1318] : Fin 3 → IVec S16 32) a x).toNat < S32x8x20.size a) ∧
  (∀ (k1_h1 : k1_cond1 i = 1#1), ∀ a x, ((![v1298, v1318] : Fin 2 → IVec S16 32) a x).toNat < S128x20.size a)
theorem k1_idx17_inb : ∀ (i : grid1.Coords) (v1296 : IVec S16 32) (v1298 : IVec S16 32) (v1301 : IVec S16 32) (v1318 : IVec S16 32) (k1_hw41 : k1_chk41 i v1296 v1298 v1301 v1318), ∀ (k1_h1 : k1_cond1 i = 1#1), ∀ a x, ((![v1296, v1301, v1318] : Fin 3 → IVec S16 32) a x).toNat < S32x8x20.size a := fun i v1296 v1298 v1301 v1318 k1_hw41 k1_h1 => k1_hw41.1 k1_h1
theorem k1_idx18_inb : ∀ (i : grid1.Coords) (v1296 : IVec S16 32) (v1298 : IVec S16 32) (v1301 : IVec S16 32) (v1318 : IVec S16 32) (k1_hw41 : k1_chk41 i v1296 v1298 v1301 v1318), ∀ (k1_h1 : k1_cond1 i = 1#1), ∀ a x, ((![v1298, v1318] : Fin 2 → IVec S16 32) a x).toNat < S128x20.size a := fun i v1296 v1298 v1301 v1318 k1_hw41 k1_h1 => k1_hw41.2 k1_h1

def k1_chk42 (i : grid1.Coords) (v1296 : IVec S16 32) (v1298 : IVec S16 32) (v1301 : IVec S16 32) (v1320 : IVec S16 32) : Prop :=
  (∀ (k1_h1 : k1_cond1 i = 1#1), ∀ a x, ((![v1296, v1301, v1320] : Fin 3 → IVec S16 32) a x).toNat < S32x8x20.size a) ∧
  (∀ (k1_h1 : k1_cond1 i = 1#1), ∀ a x, ((![v1298, v1320] : Fin 2 → IVec S16 32) a x).toNat < S128x20.size a)
theorem k1_idx19_inb : ∀ (i : grid1.Coords) (v1296 : IVec S16 32) (v1298 : IVec S16 32) (v1301 : IVec S16 32) (v1320 : IVec S16 32) (k1_hw42 : k1_chk42 i v1296 v1298 v1301 v1320), ∀ (k1_h1 : k1_cond1 i = 1#1), ∀ a x, ((![v1296, v1301, v1320] : Fin 3 → IVec S16 32) a x).toNat < S32x8x20.size a := fun i v1296 v1298 v1301 v1320 k1_hw42 k1_h1 => k1_hw42.1 k1_h1
theorem k1_idx20_inb : ∀ (i : grid1.Coords) (v1296 : IVec S16 32) (v1298 : IVec S16 32) (v1301 : IVec S16 32) (v1320 : IVec S16 32) (k1_hw42 : k1_chk42 i v1296 v1298 v1301 v1320), ∀ (k1_h1 : k1_cond1 i = 1#1), ∀ a x, ((![v1298, v1320] : Fin 2 → IVec S16 32) a x).toNat < S128x20.size a := fun i v1296 v1298 v1301 v1320 k1_hw42 k1_h1 => k1_hw42.2 k1_h1

def k1_chk43 (i : grid1.Coords) (v1296 : IVec S16 32) (v1298 : IVec S16 32) (v1301 : IVec S16 32) (v1322 : IVec S16 32) : Prop :=
  (∀ (k1_h1 : k1_cond1 i = 1#1), ∀ a x, ((![v1296, v1301, v1322] : Fin 3 → IVec S16 32) a x).toNat < S32x8x20.size a) ∧
  (∀ (k1_h1 : k1_cond1 i = 1#1), ∀ a x, ((![v1298, v1322] : Fin 2 → IVec S16 32) a x).toNat < S128x20.size a)
theorem k1_idx21_inb : ∀ (i : grid1.Coords) (v1296 : IVec S16 32) (v1298 : IVec S16 32) (v1301 : IVec S16 32) (v1322 : IVec S16 32) (k1_hw43 : k1_chk43 i v1296 v1298 v1301 v1322), ∀ (k1_h1 : k1_cond1 i = 1#1), ∀ a x, ((![v1296, v1301, v1322] : Fin 3 → IVec S16 32) a x).toNat < S32x8x20.size a := fun i v1296 v1298 v1301 v1322 k1_hw43 k1_h1 => k1_hw43.1 k1_h1
theorem k1_idx22_inb : ∀ (i : grid1.Coords) (v1296 : IVec S16 32) (v1298 : IVec S16 32) (v1301 : IVec S16 32) (v1322 : IVec S16 32) (k1_hw43 : k1_chk43 i v1296 v1298 v1301 v1322), ∀ (k1_h1 : k1_cond1 i = 1#1), ∀ a x, ((![v1298, v1322] : Fin 2 → IVec S16 32) a x).toNat < S128x20.size a := fun i v1296 v1298 v1301 v1322 k1_hw43 k1_h1 => k1_hw43.2 k1_h1

def k1_chk44 (i : grid1.Coords) (v1296 : IVec S16 32) (v1298 : IVec S16 32) (v1301 : IVec S16 32) (v1324 : IVec S16 32) : Prop :=
  (∀ (k1_h1 : k1_cond1 i = 1#1), ∀ a x, ((![v1296, v1301, v1324] : Fin 3 → IVec S16 32) a x).toNat < S32x8x20.size a) ∧
  (∀ (k1_h1 : k1_cond1 i = 1#1), ∀ a x, ((![v1298, v1324] : Fin 2 → IVec S16 32) a x).toNat < S128x20.size a)
theorem k1_idx23_inb : ∀ (i : grid1.Coords) (v1296 : IVec S16 32) (v1298 : IVec S16 32) (v1301 : IVec S16 32) (v1324 : IVec S16 32) (k1_hw44 : k1_chk44 i v1296 v1298 v1301 v1324), ∀ (k1_h1 : k1_cond1 i = 1#1), ∀ a x, ((![v1296, v1301, v1324] : Fin 3 → IVec S16 32) a x).toNat < S32x8x20.size a := fun i v1296 v1298 v1301 v1324 k1_hw44 k1_h1 => k1_hw44.1 k1_h1
theorem k1_idx24_inb : ∀ (i : grid1.Coords) (v1296 : IVec S16 32) (v1298 : IVec S16 32) (v1301 : IVec S16 32) (v1324 : IVec S16 32) (k1_hw44 : k1_chk44 i v1296 v1298 v1301 v1324), ∀ (k1_h1 : k1_cond1 i = 1#1), ∀ a x, ((![v1298, v1324] : Fin 2 → IVec S16 32) a x).toNat < S128x20.size a := fun i v1296 v1298 v1301 v1324 k1_hw44 k1_h1 => k1_hw44.2 k1_h1

def k1_chk45 (i : grid1.Coords) (v1296 : IVec S16 32) (v1298 : IVec S16 32) (v1301 : IVec S16 32) (v1326 : IVec S16 32) : Prop :=
  (∀ (k1_h1 : k1_cond1 i = 1#1), ∀ a x, ((![v1296, v1301, v1326] : Fin 3 → IVec S16 32) a x).toNat < S32x8x20.size a) ∧
  (∀ (k1_h1 : k1_cond1 i = 1#1), ∀ a x, ((![v1298, v1326] : Fin 2 → IVec S16 32) a x).toNat < S128x20.size a)
theorem k1_idx25_inb : ∀ (i : grid1.Coords) (v1296 : IVec S16 32) (v1298 : IVec S16 32) (v1301 : IVec S16 32) (v1326 : IVec S16 32) (k1_hw45 : k1_chk45 i v1296 v1298 v1301 v1326), ∀ (k1_h1 : k1_cond1 i = 1#1), ∀ a x, ((![v1296, v1301, v1326] : Fin 3 → IVec S16 32) a x).toNat < S32x8x20.size a := fun i v1296 v1298 v1301 v1326 k1_hw45 k1_h1 => k1_hw45.1 k1_h1
theorem k1_idx26_inb : ∀ (i : grid1.Coords) (v1296 : IVec S16 32) (v1298 : IVec S16 32) (v1301 : IVec S16 32) (v1326 : IVec S16 32) (k1_hw45 : k1_chk45 i v1296 v1298 v1301 v1326), ∀ (k1_h1 : k1_cond1 i = 1#1), ∀ a x, ((![v1298, v1326] : Fin 2 → IVec S16 32) a x).toNat < S128x20.size a := fun i v1296 v1298 v1301 v1326 k1_hw45 k1_h1 => k1_hw45.2 k1_h1

def k1_chk46 (i : grid1.Coords) (v1296 : IVec S16 32) (v1298 : IVec S16 32) (v1301 : IVec S16 32) (v1328 : IVec S16 32) : Prop :=
  (∀ (k1_h1 : k1_cond1 i = 1#1), ∀ a x, ((![v1296, v1301, v1328] : Fin 3 → IVec S16 32) a x).toNat < S32x8x20.size a) ∧
  (∀ (k1_h1 : k1_cond1 i = 1#1), ∀ a x, ((![v1298, v1328] : Fin 2 → IVec S16 32) a x).toNat < S128x20.size a)
theorem k1_idx27_inb : ∀ (i : grid1.Coords) (v1296 : IVec S16 32) (v1298 : IVec S16 32) (v1301 : IVec S16 32) (v1328 : IVec S16 32) (k1_hw46 : k1_chk46 i v1296 v1298 v1301 v1328), ∀ (k1_h1 : k1_cond1 i = 1#1), ∀ a x, ((![v1296, v1301, v1328] : Fin 3 → IVec S16 32) a x).toNat < S32x8x20.size a := fun i v1296 v1298 v1301 v1328 k1_hw46 k1_h1 => k1_hw46.1 k1_h1
theorem k1_idx28_inb : ∀ (i : grid1.Coords) (v1296 : IVec S16 32) (v1298 : IVec S16 32) (v1301 : IVec S16 32) (v1328 : IVec S16 32) (k1_hw46 : k1_chk46 i v1296 v1298 v1301 v1328), ∀ (k1_h1 : k1_cond1 i = 1#1), ∀ a x, ((![v1298, v1328] : Fin 2 → IVec S16 32) a x).toNat < S128x20.size a := fun i v1296 v1298 v1301 v1328 k1_hw46 k1_h1 => k1_hw46.2 k1_h1

def k1_chk47 (i : grid1.Coords) (v1296 : IVec S16 32) (v1298 : IVec S16 32) (v1301 : IVec S16 32) (v1330 : IVec S16 32) : Prop :=
  (∀ (k1_h1 : k1_cond1 i = 1#1), ∀ a x, ((![v1296, v1301, v1330] : Fin 3 → IVec S16 32) a x).toNat < S32x8x20.size a) ∧
  (∀ (k1_h1 : k1_cond1 i = 1#1), ∀ a x, ((![v1298, v1330] : Fin 2 → IVec S16 32) a x).toNat < S128x20.size a)
theorem k1_idx29_inb : ∀ (i : grid1.Coords) (v1296 : IVec S16 32) (v1298 : IVec S16 32) (v1301 : IVec S16 32) (v1330 : IVec S16 32) (k1_hw47 : k1_chk47 i v1296 v1298 v1301 v1330), ∀ (k1_h1 : k1_cond1 i = 1#1), ∀ a x, ((![v1296, v1301, v1330] : Fin 3 → IVec S16 32) a x).toNat < S32x8x20.size a := fun i v1296 v1298 v1301 v1330 k1_hw47 k1_h1 => k1_hw47.1 k1_h1
theorem k1_idx30_inb : ∀ (i : grid1.Coords) (v1296 : IVec S16 32) (v1298 : IVec S16 32) (v1301 : IVec S16 32) (v1330 : IVec S16 32) (k1_hw47 : k1_chk47 i v1296 v1298 v1301 v1330), ∀ (k1_h1 : k1_cond1 i = 1#1), ∀ a x, ((![v1298, v1330] : Fin 2 → IVec S16 32) a x).toNat < S128x20.size a := fun i v1296 v1298 v1301 v1330 k1_hw47 k1_h1 => k1_hw47.2 k1_h1

def k1_chk48 (i : grid1.Coords) (v1296 : IVec S16 32) (v1298 : IVec S16 32) (v1301 : IVec S16 32) (v1332 : IVec S16 32) : Prop :=
  (∀ (k1_h1 : k1_cond1 i = 1#1), ∀ a x, ((![v1296, v1301, v1332] : Fin 3 → IVec S16 32) a x).toNat < S32x8x20.size a) ∧
  (∀ (k1_h1 : k1_cond1 i = 1#1), ∀ a x, ((![v1298, v1332] : Fin 2 → IVec S16 32) a x).toNat < S128x20.size a)
theorem k1_idx31_inb : ∀ (i : grid1.Coords) (v1296 : IVec S16 32) (v1298 : IVec S16 32) (v1301 : IVec S16 32) (v1332 : IVec S16 32) (k1_hw48 : k1_chk48 i v1296 v1298 v1301 v1332), ∀ (k1_h1 : k1_cond1 i = 1#1), ∀ a x, ((![v1296, v1301, v1332] : Fin 3 → IVec S16 32) a x).toNat < S32x8x20.size a := fun i v1296 v1298 v1301 v1332 k1_hw48 k1_h1 => k1_hw48.1 k1_h1
theorem k1_idx32_inb : ∀ (i : grid1.Coords) (v1296 : IVec S16 32) (v1298 : IVec S16 32) (v1301 : IVec S16 32) (v1332 : IVec S16 32) (k1_hw48 : k1_chk48 i v1296 v1298 v1301 v1332), ∀ (k1_h1 : k1_cond1 i = 1#1), ∀ a x, ((![v1298, v1332] : Fin 2 → IVec S16 32) a x).toNat < S128x20.size a := fun i v1296 v1298 v1301 v1332 k1_hw48 k1_h1 => k1_hw48.2 k1_h1

def k1_chk49 (i : grid1.Coords) (v1296 : IVec S16 32) (v1298 : IVec S16 32) (v1301 : IVec S16 32) (v1334 : IVec S16 32) : Prop :=
  (∀ (k1_h1 : k1_cond1 i = 1#1), ∀ a x, ((![v1296, v1301, v1334] : Fin 3 → IVec S16 32) a x).toNat < S32x8x20.size a) ∧
  (∀ (k1_h1 : k1_cond1 i = 1#1), ∀ a x, ((![v1298, v1334] : Fin 2 → IVec S16 32) a x).toNat < S128x20.size a)
theorem k1_idx33_inb : ∀ (i : grid1.Coords) (v1296 : IVec S16 32) (v1298 : IVec S16 32) (v1301 : IVec S16 32) (v1334 : IVec S16 32) (k1_hw49 : k1_chk49 i v1296 v1298 v1301 v1334), ∀ (k1_h1 : k1_cond1 i = 1#1), ∀ a x, ((![v1296, v1301, v1334] : Fin 3 → IVec S16 32) a x).toNat < S32x8x20.size a := fun i v1296 v1298 v1301 v1334 k1_hw49 k1_h1 => k1_hw49.1 k1_h1
theorem k1_idx34_inb : ∀ (i : grid1.Coords) (v1296 : IVec S16 32) (v1298 : IVec S16 32) (v1301 : IVec S16 32) (v1334 : IVec S16 32) (k1_hw49 : k1_chk49 i v1296 v1298 v1301 v1334), ∀ (k1_h1 : k1_cond1 i = 1#1), ∀ a x, ((![v1298, v1334] : Fin 2 → IVec S16 32) a x).toNat < S128x20.size a := fun i v1296 v1298 v1301 v1334 k1_hw49 k1_h1 => k1_hw49.2 k1_h1

def k1_chk50 (i : grid1.Coords) (v1296 : IVec S16 32) (v1298 : IVec S16 32) (v1301 : IVec S16 32) (v1336 : IVec S16 32) : Prop :=
  (∀ (k1_h1 : k1_cond1 i = 1#1), ∀ a x, ((![v1296, v1301, v1336] : Fin 3 → IVec S16 32) a x).toNat < S32x8x20.size a) ∧
  (∀ (k1_h1 : k1_cond1 i = 1#1), ∀ a x, ((![v1298, v1336] : Fin 2 → IVec S16 32) a x).toNat < S128x20.size a)
theorem k1_idx35_inb : ∀ (i : grid1.Coords) (v1296 : IVec S16 32) (v1298 : IVec S16 32) (v1301 : IVec S16 32) (v1336 : IVec S16 32) (k1_hw50 : k1_chk50 i v1296 v1298 v1301 v1336), ∀ (k1_h1 : k1_cond1 i = 1#1), ∀ a x, ((![v1296, v1301, v1336] : Fin 3 → IVec S16 32) a x).toNat < S32x8x20.size a := fun i v1296 v1298 v1301 v1336 k1_hw50 k1_h1 => k1_hw50.1 k1_h1
theorem k1_idx36_inb : ∀ (i : grid1.Coords) (v1296 : IVec S16 32) (v1298 : IVec S16 32) (v1301 : IVec S16 32) (v1336 : IVec S16 32) (k1_hw50 : k1_chk50 i v1296 v1298 v1301 v1336), ∀ (k1_h1 : k1_cond1 i = 1#1), ∀ a x, ((![v1298, v1336] : Fin 2 → IVec S16 32) a x).toNat < S128x20.size a := fun i v1296 v1298 v1301 v1336 k1_hw50 k1_h1 => k1_hw50.2 k1_h1

def k1_chk51 (i : grid1.Coords) (v1296 : IVec S16 32) (v1298 : IVec S16 32) (v1301 : IVec S16 32) (v1338 : IVec S16 32) : Prop :=
  (∀ (k1_h1 : k1_cond1 i = 1#1), ∀ a x, ((![v1296, v1301, v1338] : Fin 3 → IVec S16 32) a x).toNat < S32x8x20.size a) ∧
  (∀ (k1_h1 : k1_cond1 i = 1#1), ∀ a x, ((![v1298, v1338] : Fin 2 → IVec S16 32) a x).toNat < S128x20.size a)
theorem k1_idx37_inb : ∀ (i : grid1.Coords) (v1296 : IVec S16 32) (v1298 : IVec S16 32) (v1301 : IVec S16 32) (v1338 : IVec S16 32) (k1_hw51 : k1_chk51 i v1296 v1298 v1301 v1338), ∀ (k1_h1 : k1_cond1 i = 1#1), ∀ a x, ((![v1296, v1301, v1338] : Fin 3 → IVec S16 32) a x).toNat < S32x8x20.size a := fun i v1296 v1298 v1301 v1338 k1_hw51 k1_h1 => k1_hw51.1 k1_h1
theorem k1_idx38_inb : ∀ (i : grid1.Coords) (v1296 : IVec S16 32) (v1298 : IVec S16 32) (v1301 : IVec S16 32) (v1338 : IVec S16 32) (k1_hw51 : k1_chk51 i v1296 v1298 v1301 v1338), ∀ (k1_h1 : k1_cond1 i = 1#1), ∀ a x, ((![v1298, v1338] : Fin 2 → IVec S16 32) a x).toNat < S128x20.size a := fun i v1296 v1298 v1301 v1338 k1_hw51 k1_h1 => k1_hw51.2 k1_h1

def k1_chk52 (i : grid1.Coords) (v1296 : IVec S16 32) (v1298 : IVec S16 32) (v1301 : IVec S16 32) (v1340 : IVec S16 32) : Prop :=
  (∀ (k1_h1 : k1_cond1 i = 1#1), ∀ a x, ((![v1296, v1301, v1340] : Fin 3 → IVec S16 32) a x).toNat < S32x8x20.size a) ∧
  (∀ (k1_h1 : k1_cond1 i = 1#1), ∀ a x, ((![v1298, v1340] : Fin 2 → IVec S16 32) a x).toNat < S128x20.size a)
theorem k1_idx39_inb : ∀ (i : grid1.Coords) (v1296 : IVec S16 32) (v1298 : IVec S16 32) (v1301 : IVec S16 32) (v1340 : IVec S16 32) (k1_hw52 : k1_chk52 i v1296 v1298 v1301 v1340), ∀ (k1_h1 : k1_cond1 i = 1#1), ∀ a x, ((![v1296, v1301, v1340] : Fin 3 → IVec S16 32) a x).toNat < S32x8x20.size a := fun i v1296 v1298 v1301 v1340 k1_hw52 k1_h1 => k1_hw52.1 k1_h1
theorem k1_idx40_inb : ∀ (i : grid1.Coords) (v1296 : IVec S16 32) (v1298 : IVec S16 32) (v1301 : IVec S16 32) (v1340 : IVec S16 32) (k1_hw52 : k1_chk52 i v1296 v1298 v1301 v1340), ∀ (k1_h1 : k1_cond1 i = 1#1), ∀ a x, ((![v1298, v1340] : Fin 2 → IVec S16 32) a x).toNat < S128x20.size a := fun i v1296 v1298 v1301 v1340 k1_hw52 k1_h1 => k1_hw52.2 k1_h1

def k1_chk53 (i : grid1.Coords) (v1296 : IVec S16 32) (v1298 : IVec S16 32) (v1301 : IVec S16 32) (v1342 : IVec S16 32) : Prop :=
  (∀ (k1_h1 : k1_cond1 i = 1#1), ∀ a x, ((![v1296, v1301, v1342] : Fin 3 → IVec S16 32) a x).toNat < S32x8x5.size a) ∧
  (∀ (k1_h1 : k1_cond1 i = 1#1), ∀ a x, ((![v1298, v1342] : Fin 2 → IVec S16 32) a x).toNat < S128x5.size a)
theorem k1_idx41_inb : ∀ (i : grid1.Coords) (v1296 : IVec S16 32) (v1298 : IVec S16 32) (v1301 : IVec S16 32) (v1342 : IVec S16 32) (k1_hw53 : k1_chk53 i v1296 v1298 v1301 v1342), ∀ (k1_h1 : k1_cond1 i = 1#1), ∀ a x, ((![v1296, v1301, v1342] : Fin 3 → IVec S16 32) a x).toNat < S32x8x5.size a := fun i v1296 v1298 v1301 v1342 k1_hw53 k1_h1 => k1_hw53.1 k1_h1
theorem k1_idx42_inb : ∀ (i : grid1.Coords) (v1296 : IVec S16 32) (v1298 : IVec S16 32) (v1301 : IVec S16 32) (v1342 : IVec S16 32) (k1_hw53 : k1_chk53 i v1296 v1298 v1301 v1342), ∀ (k1_h1 : k1_cond1 i = 1#1), ∀ a x, ((![v1298, v1342] : Fin 2 → IVec S16 32) a x).toNat < S128x5.size a := fun i v1296 v1298 v1301 v1342 k1_hw53 k1_h1 => k1_hw53.2 k1_h1

def k1_chk54 (i : grid1.Coords) (v1296 : IVec S16 32) (v1298 : IVec S16 32) (v1301 : IVec S16 32) (v1344 : IVec S16 32) : Prop :=
  (∀ (k1_h1 : k1_cond1 i = 1#1), ∀ a x, ((![v1296, v1301, v1344] : Fin 3 → IVec S16 32) a x).toNat < S32x8x5.size a) ∧
  (∀ (k1_h1 : k1_cond1 i = 1#1), ∀ a x, ((![v1298, v1344] : Fin 2 → IVec S16 32) a x).toNat < S128x5.size a)
theorem k1_idx43_inb : ∀ (i : grid1.Coords) (v1296 : IVec S16 32) (v1298 : IVec S16 32) (v1301 : IVec S16 32) (v1344 : IVec S16 32) (k1_hw54 : k1_chk54 i v1296 v1298 v1301 v1344), ∀ (k1_h1 : k1_cond1 i = 1#1), ∀ a x, ((![v1296, v1301, v1344] : Fin 3 → IVec S16 32) a x).toNat < S32x8x5.size a := fun i v1296 v1298 v1301 v1344 k1_hw54 k1_h1 => k1_hw54.1 k1_h1
theorem k1_idx44_inb : ∀ (i : grid1.Coords) (v1296 : IVec S16 32) (v1298 : IVec S16 32) (v1301 : IVec S16 32) (v1344 : IVec S16 32) (k1_hw54 : k1_chk54 i v1296 v1298 v1301 v1344), ∀ (k1_h1 : k1_cond1 i = 1#1), ∀ a x, ((![v1298, v1344] : Fin 2 → IVec S16 32) a x).toNat < S128x5.size a := fun i v1296 v1298 v1301 v1344 k1_hw54 k1_h1 => k1_hw54.2 k1_h1

def k1_chk55 (i : grid1.Coords) (v1296 : IVec S16 32) (v1298 : IVec S16 32) (v1301 : IVec S16 32) (v1346 : IVec S16 32) : Prop :=
  (∀ (k1_h1 : k1_cond1 i = 1#1), ∀ a x, ((![v1296, v1301, v1346] : Fin 3 → IVec S16 32) a x).toNat < S32x8x5.size a) ∧
  (∀ (k1_h1 : k1_cond1 i = 1#1), ∀ a x, ((![v1298, v1346] : Fin 2 → IVec S16 32) a x).toNat < S128x5.size a)
theorem k1_idx45_inb : ∀ (i : grid1.Coords) (v1296 : IVec S16 32) (v1298 : IVec S16 32) (v1301 : IVec S16 32) (v1346 : IVec S16 32) (k1_hw55 : k1_chk55 i v1296 v1298 v1301 v1346), ∀ (k1_h1 : k1_cond1 i = 1#1), ∀ a x, ((![v1296, v1301, v1346] : Fin 3 → IVec S16 32) a x).toNat < S32x8x5.size a := fun i v1296 v1298 v1301 v1346 k1_hw55 k1_h1 => k1_hw55.1 k1_h1
theorem k1_idx46_inb : ∀ (i : grid1.Coords) (v1296 : IVec S16 32) (v1298 : IVec S16 32) (v1301 : IVec S16 32) (v1346 : IVec S16 32) (k1_hw55 : k1_chk55 i v1296 v1298 v1301 v1346), ∀ (k1_h1 : k1_cond1 i = 1#1), ∀ a x, ((![v1298, v1346] : Fin 2 → IVec S16 32) a x).toNat < S128x5.size a := fun i v1296 v1298 v1301 v1346 k1_hw55 k1_h1 => k1_hw55.2 k1_h1

def k1_chk56 (i : grid1.Coords) (v1296 : IVec S16 32) (v1298 : IVec S16 32) (v1301 : IVec S16 32) (v1348 : IVec S16 32) : Prop :=
  (∀ (k1_h1 : k1_cond1 i = 1#1), ∀ a x, ((![v1296, v1301, v1348] : Fin 3 → IVec S16 32) a x).toNat < S32x8x5.size a) ∧
  (∀ (k1_h1 : k1_cond1 i = 1#1), ∀ a x, ((![v1298, v1348] : Fin 2 → IVec S16 32) a x).toNat < S128x5.size a)
theorem k1_idx47_inb : ∀ (i : grid1.Coords) (v1296 : IVec S16 32) (v1298 : IVec S16 32) (v1301 : IVec S16 32) (v1348 : IVec S16 32) (k1_hw56 : k1_chk56 i v1296 v1298 v1301 v1348), ∀ (k1_h1 : k1_cond1 i = 1#1), ∀ a x, ((![v1296, v1301, v1348] : Fin 3 → IVec S16 32) a x).toNat < S32x8x5.size a := fun i v1296 v1298 v1301 v1348 k1_hw56 k1_h1 => k1_hw56.1 k1_h1
theorem k1_idx48_inb : ∀ (i : grid1.Coords) (v1296 : IVec S16 32) (v1298 : IVec S16 32) (v1301 : IVec S16 32) (v1348 : IVec S16 32) (k1_hw56 : k1_chk56 i v1296 v1298 v1301 v1348), ∀ (k1_h1 : k1_cond1 i = 1#1), ∀ a x, ((![v1298, v1348] : Fin 2 → IVec S16 32) a x).toNat < S128x5.size a := fun i v1296 v1298 v1301 v1348 k1_hw56 k1_h1 => k1_hw56.2 k1_h1

def k1_chk57 (i : grid1.Coords) (v1296 : IVec S16 32) (v1298 : IVec S16 32) (v1301 : IVec S16 32) (v1350 : IVec S16 32) : Prop :=
  (∀ (k1_h1 : k1_cond1 i = 1#1), ∀ a x, ((![v1296, v1301, v1350] : Fin 3 → IVec S16 32) a x).toNat < S32x8x5.size a) ∧
  (∀ (k1_h1 : k1_cond1 i = 1#1), ∀ a x, ((![v1298, v1350] : Fin 2 → IVec S16 32) a x).toNat < S128x5.size a)
theorem k1_idx49_inb : ∀ (i : grid1.Coords) (v1296 : IVec S16 32) (v1298 : IVec S16 32) (v1301 : IVec S16 32) (v1350 : IVec S16 32) (k1_hw57 : k1_chk57 i v1296 v1298 v1301 v1350), ∀ (k1_h1 : k1_cond1 i = 1#1), ∀ a x, ((![v1296, v1301, v1350] : Fin 3 → IVec S16 32) a x).toNat < S32x8x5.size a := fun i v1296 v1298 v1301 v1350 k1_hw57 k1_h1 => k1_hw57.1 k1_h1
theorem k1_idx50_inb : ∀ (i : grid1.Coords) (v1296 : IVec S16 32) (v1298 : IVec S16 32) (v1301 : IVec S16 32) (v1350 : IVec S16 32) (k1_hw57 : k1_chk57 i v1296 v1298 v1301 v1350), ∀ (k1_h1 : k1_cond1 i = 1#1), ∀ a x, ((![v1298, v1350] : Fin 2 → IVec S16 32) a x).toNat < S128x5.size a := fun i v1296 v1298 v1301 v1350 k1_hw57 k1_h1 => k1_hw57.2 k1_h1

def k1_chk58 (i : grid1.Coords) (v1353 : IVec S16 32) (v1355 : IVec S16 32) (v1358 : IVec S16 32) (v1359 : IVec S16 32) : Prop :=
  (∀ (k1_h1 : k1_cond1 i = 1#1), ∀ a x, ((![v1353, v1358, v1359] : Fin 3 → IVec S16 32) a x).toNat < S32x8x20.size a) ∧
  (∀ (k1_h1 : k1_cond1 i = 1#1), ∀ a x, ((![v1355, v1359] : Fin 2 → IVec S16 32) a x).toNat < S128x20.size a)
theorem k1_idx51_inb : ∀ (i : grid1.Coords) (v1353 : IVec S16 32) (v1355 : IVec S16 32) (v1358 : IVec S16 32) (v1359 : IVec S16 32) (k1_hw58 : k1_chk58 i v1353 v1355 v1358 v1359), ∀ (k1_h1 : k1_cond1 i = 1#1), ∀ a x, ((![v1353, v1358, v1359] : Fin 3 → IVec S16 32) a x).toNat < S32x8x20.size a := fun i v1353 v1355 v1358 v1359 k1_hw58 k1_h1 => k1_hw58.1 k1_h1
theorem k1_idx52_inb : ∀ (i : grid1.Coords) (v1353 : IVec S16 32) (v1355 : IVec S16 32) (v1358 : IVec S16 32) (v1359 : IVec S16 32) (k1_hw58 : k1_chk58 i v1353 v1355 v1358 v1359), ∀ (k1_h1 : k1_cond1 i = 1#1), ∀ a x, ((![v1355, v1359] : Fin 2 → IVec S16 32) a x).toNat < S128x20.size a := fun i v1353 v1355 v1358 v1359 k1_hw58 k1_h1 => k1_hw58.2 k1_h1

def k1_chk59 (i : grid1.Coords) (v1353 : IVec S16 32) (v1355 : IVec S16 32) (v1358 : IVec S16 32) (v1361 : IVec S16 32) : Prop :=
  (∀ (k1_h1 : k1_cond1 i = 1#1), ∀ a x, ((![v1353, v1358, v1361] : Fin 3 → IVec S16 32) a x).toNat < S32x8x20.size a) ∧
  (∀ (k1_h1 : k1_cond1 i = 1#1), ∀ a x, ((![v1355, v1361] : Fin 2 → IVec S16 32) a x).toNat < S128x20.size a)
theorem k1_idx53_inb : ∀ (i : grid1.Coords) (v1353 : IVec S16 32) (v1355 : IVec S16 32) (v1358 : IVec S16 32) (v1361 : IVec S16 32) (k1_hw59 : k1_chk59 i v1353 v1355 v1358 v1361), ∀ (k1_h1 : k1_cond1 i = 1#1), ∀ a x, ((![v1353, v1358, v1361] : Fin 3 → IVec S16 32) a x).toNat < S32x8x20.size a := fun i v1353 v1355 v1358 v1361 k1_hw59 k1_h1 => k1_hw59.1 k1_h1
theorem k1_idx54_inb : ∀ (i : grid1.Coords) (v1353 : IVec S16 32) (v1355 : IVec S16 32) (v1358 : IVec S16 32) (v1361 : IVec S16 32) (k1_hw59 : k1_chk59 i v1353 v1355 v1358 v1361), ∀ (k1_h1 : k1_cond1 i = 1#1), ∀ a x, ((![v1355, v1361] : Fin 2 → IVec S16 32) a x).toNat < S128x20.size a := fun i v1353 v1355 v1358 v1361 k1_hw59 k1_h1 => k1_hw59.2 k1_h1

def k1_chk60 (i : grid1.Coords) (v1353 : IVec S16 32) (v1355 : IVec S16 32) (v1358 : IVec S16 32) (v1363 : IVec S16 32) : Prop :=
  (∀ (k1_h1 : k1_cond1 i = 1#1), ∀ a x, ((![v1353, v1358, v1363] : Fin 3 → IVec S16 32) a x).toNat < S32x8x20.size a) ∧
  (∀ (k1_h1 : k1_cond1 i = 1#1), ∀ a x, ((![v1355, v1363] : Fin 2 → IVec S16 32) a x).toNat < S128x20.size a)
theorem k1_idx55_inb : ∀ (i : grid1.Coords) (v1353 : IVec S16 32) (v1355 : IVec S16 32) (v1358 : IVec S16 32) (v1363 : IVec S16 32) (k1_hw60 : k1_chk60 i v1353 v1355 v1358 v1363), ∀ (k1_h1 : k1_cond1 i = 1#1), ∀ a x, ((![v1353, v1358, v1363] : Fin 3 → IVec S16 32) a x).toNat < S32x8x20.size a := fun i v1353 v1355 v1358 v1363 k1_hw60 k1_h1 => k1_hw60.1 k1_h1
theorem k1_idx56_inb : ∀ (i : grid1.Coords) (v1353 : IVec S16 32) (v1355 : IVec S16 32) (v1358 : IVec S16 32) (v1363 : IVec S16 32) (k1_hw60 : k1_chk60 i v1353 v1355 v1358 v1363), ∀ (k1_h1 : k1_cond1 i = 1#1), ∀ a x, ((![v1355, v1363] : Fin 2 → IVec S16 32) a x).toNat < S128x20.size a := fun i v1353 v1355 v1358 v1363 k1_hw60 k1_h1 => k1_hw60.2 k1_h1

def k1_chk61 (i : grid1.Coords) (v1353 : IVec S16 32) (v1355 : IVec S16 32) (v1358 : IVec S16 32) (v1365 : IVec S16 32) : Prop :=
  (∀ (k1_h1 : k1_cond1 i = 1#1), ∀ a x, ((![v1353, v1358, v1365] : Fin 3 → IVec S16 32) a x).toNat < S32x8x20.size a) ∧
  (∀ (k1_h1 : k1_cond1 i = 1#1), ∀ a x, ((![v1355, v1365] : Fin 2 → IVec S16 32) a x).toNat < S128x20.size a)
theorem k1_idx57_inb : ∀ (i : grid1.Coords) (v1353 : IVec S16 32) (v1355 : IVec S16 32) (v1358 : IVec S16 32) (v1365 : IVec S16 32) (k1_hw61 : k1_chk61 i v1353 v1355 v1358 v1365), ∀ (k1_h1 : k1_cond1 i = 1#1), ∀ a x, ((![v1353, v1358, v1365] : Fin 3 → IVec S16 32) a x).toNat < S32x8x20.size a := fun i v1353 v1355 v1358 v1365 k1_hw61 k1_h1 => k1_hw61.1 k1_h1
theorem k1_idx58_inb : ∀ (i : grid1.Coords) (v1353 : IVec S16 32) (v1355 : IVec S16 32) (v1358 : IVec S16 32) (v1365 : IVec S16 32) (k1_hw61 : k1_chk61 i v1353 v1355 v1358 v1365), ∀ (k1_h1 : k1_cond1 i = 1#1), ∀ a x, ((![v1355, v1365] : Fin 2 → IVec S16 32) a x).toNat < S128x20.size a := fun i v1353 v1355 v1358 v1365 k1_hw61 k1_h1 => k1_hw61.2 k1_h1

def k1_chk62 (i : grid1.Coords) (v1353 : IVec S16 32) (v1355 : IVec S16 32) (v1358 : IVec S16 32) (v1367 : IVec S16 32) : Prop :=
  (∀ (k1_h1 : k1_cond1 i = 1#1), ∀ a x, ((![v1353, v1358, v1367] : Fin 3 → IVec S16 32) a x).toNat < S32x8x20.size a) ∧
  (∀ (k1_h1 : k1_cond1 i = 1#1), ∀ a x, ((![v1355, v1367] : Fin 2 → IVec S16 32) a x).toNat < S128x20.size a)
theorem k1_idx59_inb : ∀ (i : grid1.Coords) (v1353 : IVec S16 32) (v1355 : IVec S16 32) (v1358 : IVec S16 32) (v1367 : IVec S16 32) (k1_hw62 : k1_chk62 i v1353 v1355 v1358 v1367), ∀ (k1_h1 : k1_cond1 i = 1#1), ∀ a x, ((![v1353, v1358, v1367] : Fin 3 → IVec S16 32) a x).toNat < S32x8x20.size a := fun i v1353 v1355 v1358 v1367 k1_hw62 k1_h1 => k1_hw62.1 k1_h1
theorem k1_idx60_inb : ∀ (i : grid1.Coords) (v1353 : IVec S16 32) (v1355 : IVec S16 32) (v1358 : IVec S16 32) (v1367 : IVec S16 32) (k1_hw62 : k1_chk62 i v1353 v1355 v1358 v1367), ∀ (k1_h1 : k1_cond1 i = 1#1), ∀ a x, ((![v1355, v1367] : Fin 2 → IVec S16 32) a x).toNat < S128x20.size a := fun i v1353 v1355 v1358 v1367 k1_hw62 k1_h1 => k1_hw62.2 k1_h1

def k1_chk63 (i : grid1.Coords) (v1353 : IVec S16 32) (v1355 : IVec S16 32) (v1358 : IVec S16 32) (v1369 : IVec S16 32) : Prop :=
  (∀ (k1_h1 : k1_cond1 i = 1#1), ∀ a x, ((![v1353, v1358, v1369] : Fin 3 → IVec S16 32) a x).toNat < S32x8x20.size a) ∧
  (∀ (k1_h1 : k1_cond1 i = 1#1), ∀ a x, ((![v1355, v1369] : Fin 2 → IVec S16 32) a x).toNat < S128x20.size a)
theorem k1_idx61_inb : ∀ (i : grid1.Coords) (v1353 : IVec S16 32) (v1355 : IVec S16 32) (v1358 : IVec S16 32) (v1369 : IVec S16 32) (k1_hw63 : k1_chk63 i v1353 v1355 v1358 v1369), ∀ (k1_h1 : k1_cond1 i = 1#1), ∀ a x, ((![v1353, v1358, v1369] : Fin 3 → IVec S16 32) a x).toNat < S32x8x20.size a := fun i v1353 v1355 v1358 v1369 k1_hw63 k1_h1 => k1_hw63.1 k1_h1
theorem k1_idx62_inb : ∀ (i : grid1.Coords) (v1353 : IVec S16 32) (v1355 : IVec S16 32) (v1358 : IVec S16 32) (v1369 : IVec S16 32) (k1_hw63 : k1_chk63 i v1353 v1355 v1358 v1369), ∀ (k1_h1 : k1_cond1 i = 1#1), ∀ a x, ((![v1355, v1369] : Fin 2 → IVec S16 32) a x).toNat < S128x20.size a := fun i v1353 v1355 v1358 v1369 k1_hw63 k1_h1 => k1_hw63.2 k1_h1

def k1_chk64 (i : grid1.Coords) (v1353 : IVec S16 32) (v1355 : IVec S16 32) (v1358 : IVec S16 32) (v1371 : IVec S16 32) : Prop :=
  (∀ (k1_h1 : k1_cond1 i = 1#1), ∀ a x, ((![v1353, v1358, v1371] : Fin 3 → IVec S16 32) a x).toNat < S32x8x20.size a) ∧
  (∀ (k1_h1 : k1_cond1 i = 1#1), ∀ a x, ((![v1355, v1371] : Fin 2 → IVec S16 32) a x).toNat < S128x20.size a)
theorem k1_idx63_inb : ∀ (i : grid1.Coords) (v1353 : IVec S16 32) (v1355 : IVec S16 32) (v1358 : IVec S16 32) (v1371 : IVec S16 32) (k1_hw64 : k1_chk64 i v1353 v1355 v1358 v1371), ∀ (k1_h1 : k1_cond1 i = 1#1), ∀ a x, ((![v1353, v1358, v1371] : Fin 3 → IVec S16 32) a x).toNat < S32x8x20.size a := fun i v1353 v1355 v1358 v1371 k1_hw64 k1_h1 => k1_hw64.1 k1_h1
theorem k1_idx64_inb : ∀ (i : grid1.Coords) (v1353 : IVec S16 32) (v1355 : IVec S16 32) (v1358 : IVec S16 32) (v1371 : IVec S16 32) (k1_hw64 : k1_chk64 i v1353 v1355 v1358 v1371), ∀ (k1_h1 : k1_cond1 i = 1#1), ∀ a x, ((![v1355, v1371] : Fin 2 → IVec S16 32) a x).toNat < S128x20.size a := fun i v1353 v1355 v1358 v1371 k1_hw64 k1_h1 => k1_hw64.2 k1_h1

def k1_chk65 (i : grid1.Coords) (v1353 : IVec S16 32) (v1355 : IVec S16 32) (v1358 : IVec S16 32) (v1373 : IVec S16 32) : Prop :=
  (∀ (k1_h1 : k1_cond1 i = 1#1), ∀ a x, ((![v1353, v1358, v1373] : Fin 3 → IVec S16 32) a x).toNat < S32x8x20.size a) ∧
  (∀ (k1_h1 : k1_cond1 i = 1#1), ∀ a x, ((![v1355, v1373] : Fin 2 → IVec S16 32) a x).toNat < S128x20.size a)
theorem k1_idx65_inb : ∀ (i : grid1.Coords) (v1353 : IVec S16 32) (v1355 : IVec S16 32) (v1358 : IVec S16 32) (v1373 : IVec S16 32) (k1_hw65 : k1_chk65 i v1353 v1355 v1358 v1373), ∀ (k1_h1 : k1_cond1 i = 1#1), ∀ a x, ((![v1353, v1358, v1373] : Fin 3 → IVec S16 32) a x).toNat < S32x8x20.size a := fun i v1353 v1355 v1358 v1373 k1_hw65 k1_h1 => k1_hw65.1 k1_h1
theorem k1_idx66_inb : ∀ (i : grid1.Coords) (v1353 : IVec S16 32) (v1355 : IVec S16 32) (v1358 : IVec S16 32) (v1373 : IVec S16 32) (k1_hw65 : k1_chk65 i v1353 v1355 v1358 v1373), ∀ (k1_h1 : k1_cond1 i = 1#1), ∀ a x, ((![v1355, v1373] : Fin 2 → IVec S16 32) a x).toNat < S128x20.size a := fun i v1353 v1355 v1358 v1373 k1_hw65 k1_h1 => k1_hw65.2 k1_h1

def k1_chk66 (i : grid1.Coords) (v1353 : IVec S16 32) (v1355 : IVec S16 32) (v1358 : IVec S16 32) (v1375 : IVec S16 32) : Prop :=
  (∀ (k1_h1 : k1_cond1 i = 1#1), ∀ a x, ((![v1353, v1358, v1375] : Fin 3 → IVec S16 32) a x).toNat < S32x8x20.size a) ∧
  (∀ (k1_h1 : k1_cond1 i = 1#1), ∀ a x, ((![v1355, v1375] : Fin 2 → IVec S16 32) a x).toNat < S128x20.size a)
theorem k1_idx67_inb : ∀ (i : grid1.Coords) (v1353 : IVec S16 32) (v1355 : IVec S16 32) (v1358 : IVec S16 32) (v1375 : IVec S16 32) (k1_hw66 : k1_chk66 i v1353 v1355 v1358 v1375), ∀ (k1_h1 : k1_cond1 i = 1#1), ∀ a x, ((![v1353, v1358, v1375] : Fin 3 → IVec S16 32) a x).toNat < S32x8x20.size a := fun i v1353 v1355 v1358 v1375 k1_hw66 k1_h1 => k1_hw66.1 k1_h1
theorem k1_idx68_inb : ∀ (i : grid1.Coords) (v1353 : IVec S16 32) (v1355 : IVec S16 32) (v1358 : IVec S16 32) (v1375 : IVec S16 32) (k1_hw66 : k1_chk66 i v1353 v1355 v1358 v1375), ∀ (k1_h1 : k1_cond1 i = 1#1), ∀ a x, ((![v1355, v1375] : Fin 2 → IVec S16 32) a x).toNat < S128x20.size a := fun i v1353 v1355 v1358 v1375 k1_hw66 k1_h1 => k1_hw66.2 k1_h1

def k1_chk67 (i : grid1.Coords) (v1353 : IVec S16 32) (v1355 : IVec S16 32) (v1358 : IVec S16 32) (v1377 : IVec S16 32) : Prop :=
  (∀ (k1_h1 : k1_cond1 i = 1#1), ∀ a x, ((![v1353, v1358, v1377] : Fin 3 → IVec S16 32) a x).toNat < S32x8x20.size a) ∧
  (∀ (k1_h1 : k1_cond1 i = 1#1), ∀ a x, ((![v1355, v1377] : Fin 2 → IVec S16 32) a x).toNat < S128x20.size a)
theorem k1_idx69_inb : ∀ (i : grid1.Coords) (v1353 : IVec S16 32) (v1355 : IVec S16 32) (v1358 : IVec S16 32) (v1377 : IVec S16 32) (k1_hw67 : k1_chk67 i v1353 v1355 v1358 v1377), ∀ (k1_h1 : k1_cond1 i = 1#1), ∀ a x, ((![v1353, v1358, v1377] : Fin 3 → IVec S16 32) a x).toNat < S32x8x20.size a := fun i v1353 v1355 v1358 v1377 k1_hw67 k1_h1 => k1_hw67.1 k1_h1
theorem k1_idx70_inb : ∀ (i : grid1.Coords) (v1353 : IVec S16 32) (v1355 : IVec S16 32) (v1358 : IVec S16 32) (v1377 : IVec S16 32) (k1_hw67 : k1_chk67 i v1353 v1355 v1358 v1377), ∀ (k1_h1 : k1_cond1 i = 1#1), ∀ a x, ((![v1355, v1377] : Fin 2 → IVec S16 32) a x).toNat < S128x20.size a := fun i v1353 v1355 v1358 v1377 k1_hw67 k1_h1 => k1_hw67.2 k1_h1

def k1_chk68 (i : grid1.Coords) (v1353 : IVec S16 32) (v1355 : IVec S16 32) (v1358 : IVec S16 32) (v1379 : IVec S16 32) : Prop :=
  (∀ (k1_h1 : k1_cond1 i = 1#1), ∀ a x, ((![v1353, v1358, v1379] : Fin 3 → IVec S16 32) a x).toNat < S32x8x20.size a) ∧
  (∀ (k1_h1 : k1_cond1 i = 1#1), ∀ a x, ((![v1355, v1379] : Fin 2 → IVec S16 32) a x).toNat < S128x20.size a)
theorem k1_idx71_inb : ∀ (i : grid1.Coords) (v1353 : IVec S16 32) (v1355 : IVec S16 32) (v1358 : IVec S16 32) (v1379 : IVec S16 32) (k1_hw68 : k1_chk68 i v1353 v1355 v1358 v1379), ∀ (k1_h1 : k1_cond1 i = 1#1), ∀ a x, ((![v1353, v1358, v1379] : Fin 3 → IVec S16 32) a x).toNat < S32x8x20.size a := fun i v1353 v1355 v1358 v1379 k1_hw68 k1_h1 => k1_hw68.1 k1_h1
theorem k1_idx72_inb : ∀ (i : grid1.Coords) (v1353 : IVec S16 32) (v1355 : IVec S16 32) (v1358 : IVec S16 32) (v1379 : IVec S16 32) (k1_hw68 : k1_chk68 i v1353 v1355 v1358 v1379), ∀ (k1_h1 : k1_cond1 i = 1#1), ∀ a x, ((![v1355, v1379] : Fin 2 → IVec S16 32) a x).toNat < S128x20.size a := fun i v1353 v1355 v1358 v1379 k1_hw68 k1_h1 => k1_hw68.2 k1_h1

def k1_chk69 (i : grid1.Coords) (v1353 : IVec S16 32) (v1355 : IVec S16 32) (v1358 : IVec S16 32) (v1381 : IVec S16 32) : Prop :=
  (∀ (k1_h1 : k1_cond1 i = 1#1), ∀ a x, ((![v1353, v1358, v1381] : Fin 3 → IVec S16 32) a x).toNat < S32x8x20.size a) ∧
  (∀ (k1_h1 : k1_cond1 i = 1#1), ∀ a x, ((![v1355, v1381] : Fin 2 → IVec S16 32) a x).toNat < S128x20.size a)
theorem k1_idx73_inb : ∀ (i : grid1.Coords) (v1353 : IVec S16 32) (v1355 : IVec S16 32) (v1358 : IVec S16 32) (v1381 : IVec S16 32) (k1_hw69 : k1_chk69 i v1353 v1355 v1358 v1381), ∀ (k1_h1 : k1_cond1 i = 1#1), ∀ a x, ((![v1353, v1358, v1381] : Fin 3 → IVec S16 32) a x).toNat < S32x8x20.size a := fun i v1353 v1355 v1358 v1381 k1_hw69 k1_h1 => k1_hw69.1 k1_h1
theorem k1_idx74_inb : ∀ (i : grid1.Coords) (v1353 : IVec S16 32) (v1355 : IVec S16 32) (v1358 : IVec S16 32) (v1381 : IVec S16 32) (k1_hw69 : k1_chk69 i v1353 v1355 v1358 v1381), ∀ (k1_h1 : k1_cond1 i = 1#1), ∀ a x, ((![v1355, v1381] : Fin 2 → IVec S16 32) a x).toNat < S128x20.size a := fun i v1353 v1355 v1358 v1381 k1_hw69 k1_h1 => k1_hw69.2 k1_h1

def k1_chk70 (i : grid1.Coords) (v1353 : IVec S16 32) (v1355 : IVec S16 32) (v1358 : IVec S16 32) (v1383 : IVec S16 32) : Prop :=
  (∀ (k1_h1 : k1_cond1 i = 1#1), ∀ a x, ((![v1353, v1358, v1383] : Fin 3 → IVec S16 32) a x).toNat < S32x8x20.size a) ∧
  (∀ (k1_h1 : k1_cond1 i = 1#1), ∀ a x, ((![v1355, v1383] : Fin 2 → IVec S16 32) a x).toNat < S128x20.size a)
theorem k1_idx75_inb : ∀ (i : grid1.Coords) (v1353 : IVec S16 32) (v1355 : IVec S16 32) (v1358 : IVec S16 32) (v1383 : IVec S16 32) (k1_hw70 : k1_chk70 i v1353 v1355 v1358 v1383), ∀ (k1_h1 : k1_cond1 i = 1#1), ∀ a x, ((![v1353, v1358, v1383] : Fin 3 → IVec S16 32) a x).toNat < S32x8x20.size a := fun i v1353 v1355 v1358 v1383 k1_hw70 k1_h1 => k1_hw70.1 k1_h1
theorem k1_idx76_inb : ∀ (i : grid1.Coords) (v1353 : IVec S16 32) (v1355 : IVec S16 32) (v1358 : IVec S16 32) (v1383 : IVec S16 32) (k1_hw70 : k1_chk70 i v1353 v1355 v1358 v1383), ∀ (k1_h1 : k1_cond1 i = 1#1), ∀ a x, ((![v1355, v1383] : Fin 2 → IVec S16 32) a x).toNat < S128x20.size a := fun i v1353 v1355 v1358 v1383 k1_hw70 k1_h1 => k1_hw70.2 k1_h1

def k1_chk71 (i : grid1.Coords) (v1353 : IVec S16 32) (v1355 : IVec S16 32) (v1358 : IVec S16 32) (v1385 : IVec S16 32) : Prop :=
  (∀ (k1_h1 : k1_cond1 i = 1#1), ∀ a x, ((![v1353, v1358, v1385] : Fin 3 → IVec S16 32) a x).toNat < S32x8x20.size a) ∧
  (∀ (k1_h1 : k1_cond1 i = 1#1), ∀ a x, ((![v1355, v1385] : Fin 2 → IVec S16 32) a x).toNat < S128x20.size a)
theorem k1_idx77_inb : ∀ (i : grid1.Coords) (v1353 : IVec S16 32) (v1355 : IVec S16 32) (v1358 : IVec S16 32) (v1385 : IVec S16 32) (k1_hw71 : k1_chk71 i v1353 v1355 v1358 v1385), ∀ (k1_h1 : k1_cond1 i = 1#1), ∀ a x, ((![v1353, v1358, v1385] : Fin 3 → IVec S16 32) a x).toNat < S32x8x20.size a := fun i v1353 v1355 v1358 v1385 k1_hw71 k1_h1 => k1_hw71.1 k1_h1
theorem k1_idx78_inb : ∀ (i : grid1.Coords) (v1353 : IVec S16 32) (v1355 : IVec S16 32) (v1358 : IVec S16 32) (v1385 : IVec S16 32) (k1_hw71 : k1_chk71 i v1353 v1355 v1358 v1385), ∀ (k1_h1 : k1_cond1 i = 1#1), ∀ a x, ((![v1355, v1385] : Fin 2 → IVec S16 32) a x).toNat < S128x20.size a := fun i v1353 v1355 v1358 v1385 k1_hw71 k1_h1 => k1_hw71.2 k1_h1

def k1_chk72 (i : grid1.Coords) (v1353 : IVec S16 32) (v1355 : IVec S16 32) (v1358 : IVec S16 32) (v1387 : IVec S16 32) : Prop :=
  (∀ (k1_h1 : k1_cond1 i = 1#1), ∀ a x, ((![v1353, v1358, v1387] : Fin 3 → IVec S16 32) a x).toNat < S32x8x20.size a) ∧
  (∀ (k1_h1 : k1_cond1 i = 1#1), ∀ a x, ((![v1355, v1387] : Fin 2 → IVec S16 32) a x).toNat < S128x20.size a)
theorem k1_idx79_inb : ∀ (i : grid1.Coords) (v1353 : IVec S16 32) (v1355 : IVec S16 32) (v1358 : IVec S16 32) (v1387 : IVec S16 32) (k1_hw72 : k1_chk72 i v1353 v1355 v1358 v1387), ∀ (k1_h1 : k1_cond1 i = 1#1), ∀ a x, ((![v1353, v1358, v1387] : Fin 3 → IVec S16 32) a x).toNat < S32x8x20.size a := fun i v1353 v1355 v1358 v1387 k1_hw72 k1_h1 => k1_hw72.1 k1_h1
theorem k1_idx80_inb : ∀ (i : grid1.Coords) (v1353 : IVec S16 32) (v1355 : IVec S16 32) (v1358 : IVec S16 32) (v1387 : IVec S16 32) (k1_hw72 : k1_chk72 i v1353 v1355 v1358 v1387), ∀ (k1_h1 : k1_cond1 i = 1#1), ∀ a x, ((![v1355, v1387] : Fin 2 → IVec S16 32) a x).toNat < S128x20.size a := fun i v1353 v1355 v1358 v1387 k1_hw72 k1_h1 => k1_hw72.2 k1_h1

def k1_chk73 (i : grid1.Coords) (v1353 : IVec S16 32) (v1355 : IVec S16 32) (v1358 : IVec S16 32) (v1389 : IVec S16 32) : Prop :=
  (∀ (k1_h1 : k1_cond1 i = 1#1), ∀ a x, ((![v1353, v1358, v1389] : Fin 3 → IVec S16 32) a x).toNat < S32x8x20.size a) ∧
  (∀ (k1_h1 : k1_cond1 i = 1#1), ∀ a x, ((![v1355, v1389] : Fin 2 → IVec S16 32) a x).toNat < S128x20.size a)
theorem k1_idx81_inb : ∀ (i : grid1.Coords) (v1353 : IVec S16 32) (v1355 : IVec S16 32) (v1358 : IVec S16 32) (v1389 : IVec S16 32) (k1_hw73 : k1_chk73 i v1353 v1355 v1358 v1389), ∀ (k1_h1 : k1_cond1 i = 1#1), ∀ a x, ((![v1353, v1358, v1389] : Fin 3 → IVec S16 32) a x).toNat < S32x8x20.size a := fun i v1353 v1355 v1358 v1389 k1_hw73 k1_h1 => k1_hw73.1 k1_h1
theorem k1_idx82_inb : ∀ (i : grid1.Coords) (v1353 : IVec S16 32) (v1355 : IVec S16 32) (v1358 : IVec S16 32) (v1389 : IVec S16 32) (k1_hw73 : k1_chk73 i v1353 v1355 v1358 v1389), ∀ (k1_h1 : k1_cond1 i = 1#1), ∀ a x, ((![v1355, v1389] : Fin 2 → IVec S16 32) a x).toNat < S128x20.size a := fun i v1353 v1355 v1358 v1389 k1_hw73 k1_h1 => k1_hw73.2 k1_h1

def k1_chk74 (i : grid1.Coords) (v1353 : IVec S16 32) (v1355 : IVec S16 32) (v1358 : IVec S16 32) (v1391 : IVec S16 32) : Prop :=
  (∀ (k1_h1 : k1_cond1 i = 1#1), ∀ a x, ((![v1353, v1358, v1391] : Fin 3 → IVec S16 32) a x).toNat < S32x8x20.size a) ∧
  (∀ (k1_h1 : k1_cond1 i = 1#1), ∀ a x, ((![v1355, v1391] : Fin 2 → IVec S16 32) a x).toNat < S128x20.size a)
theorem k1_idx83_inb : ∀ (i : grid1.Coords) (v1353 : IVec S16 32) (v1355 : IVec S16 32) (v1358 : IVec S16 32) (v1391 : IVec S16 32) (k1_hw74 : k1_chk74 i v1353 v1355 v1358 v1391), ∀ (k1_h1 : k1_cond1 i = 1#1), ∀ a x, ((![v1353, v1358, v1391] : Fin 3 → IVec S16 32) a x).toNat < S32x8x20.size a := fun i v1353 v1355 v1358 v1391 k1_hw74 k1_h1 => k1_hw74.1 k1_h1
theorem k1_idx84_inb : ∀ (i : grid1.Coords) (v1353 : IVec S16 32) (v1355 : IVec S16 32) (v1358 : IVec S16 32) (v1391 : IVec S16 32) (k1_hw74 : k1_chk74 i v1353 v1355 v1358 v1391), ∀ (k1_h1 : k1_cond1 i = 1#1), ∀ a x, ((![v1355, v1391] : Fin 2 → IVec S16 32) a x).toNat < S128x20.size a := fun i v1353 v1355 v1358 v1391 k1_hw74 k1_h1 => k1_hw74.2 k1_h1

def k1_chk75 (i : grid1.Coords) (v1353 : IVec S16 32) (v1355 : IVec S16 32) (v1358 : IVec S16 32) (v1393 : IVec S16 32) : Prop :=
  (∀ (k1_h1 : k1_cond1 i = 1#1), ∀ a x, ((![v1353, v1358, v1393] : Fin 3 → IVec S16 32) a x).toNat < S32x8x20.size a) ∧
  (∀ (k1_h1 : k1_cond1 i = 1#1), ∀ a x, ((![v1355, v1393] : Fin 2 → IVec S16 32) a x).toNat < S128x20.size a)
theorem k1_idx85_inb : ∀ (i : grid1.Coords) (v1353 : IVec S16 32) (v1355 : IVec S16 32) (v1358 : IVec S16 32) (v1393 : IVec S16 32) (k1_hw75 : k1_chk75 i v1353 v1355 v1358 v1393), ∀ (k1_h1 : k1_cond1 i = 1#1), ∀ a x, ((![v1353, v1358, v1393] : Fin 3 → IVec S16 32) a x).toNat < S32x8x20.size a := fun i v1353 v1355 v1358 v1393 k1_hw75 k1_h1 => k1_hw75.1 k1_h1
theorem k1_idx86_inb : ∀ (i : grid1.Coords) (v1353 : IVec S16 32) (v1355 : IVec S16 32) (v1358 : IVec S16 32) (v1393 : IVec S16 32) (k1_hw75 : k1_chk75 i v1353 v1355 v1358 v1393), ∀ (k1_h1 : k1_cond1 i = 1#1), ∀ a x, ((![v1355, v1393] : Fin 2 → IVec S16 32) a x).toNat < S128x20.size a := fun i v1353 v1355 v1358 v1393 k1_hw75 k1_h1 => k1_hw75.2 k1_h1

def k1_chk76 (i : grid1.Coords) (v1353 : IVec S16 32) (v1355 : IVec S16 32) (v1358 : IVec S16 32) (v1395 : IVec S16 32) : Prop :=
  (∀ (k1_h1 : k1_cond1 i = 1#1), ∀ a x, ((![v1353, v1358, v1395] : Fin 3 → IVec S16 32) a x).toNat < S32x8x20.size a) ∧
  (∀ (k1_h1 : k1_cond1 i = 1#1), ∀ a x, ((![v1355, v1395] : Fin 2 → IVec S16 32) a x).toNat < S128x20.size a)
theorem k1_idx87_inb : ∀ (i : grid1.Coords) (v1353 : IVec S16 32) (v1355 : IVec S16 32) (v1358 : IVec S16 32) (v1395 : IVec S16 32) (k1_hw76 : k1_chk76 i v1353 v1355 v1358 v1395), ∀ (k1_h1 : k1_cond1 i = 1#1), ∀ a x, ((![v1353, v1358, v1395] : Fin 3 → IVec S16 32) a x).toNat < S32x8x20.size a := fun i v1353 v1355 v1358 v1395 k1_hw76 k1_h1 => k1_hw76.1 k1_h1
theorem k1_idx88_inb : ∀ (i : grid1.Coords) (v1353 : IVec S16 32) (v1355 : IVec S16 32) (v1358 : IVec S16 32) (v1395 : IVec S16 32) (k1_hw76 : k1_chk76 i v1353 v1355 v1358 v1395), ∀ (k1_h1 : k1_cond1 i = 1#1), ∀ a x, ((![v1355, v1395] : Fin 2 → IVec S16 32) a x).toNat < S128x20.size a := fun i v1353 v1355 v1358 v1395 k1_hw76 k1_h1 => k1_hw76.2 k1_h1

def k1_chk77 (i : grid1.Coords) (v1353 : IVec S16 32) (v1355 : IVec S16 32) (v1358 : IVec S16 32) (v1397 : IVec S16 32) : Prop :=
  (∀ (k1_h1 : k1_cond1 i = 1#1), ∀ a x, ((![v1353, v1358, v1397] : Fin 3 → IVec S16 32) a x).toNat < S32x8x20.size a) ∧
  (∀ (k1_h1 : k1_cond1 i = 1#1), ∀ a x, ((![v1355, v1397] : Fin 2 → IVec S16 32) a x).toNat < S128x20.size a)
theorem k1_idx89_inb : ∀ (i : grid1.Coords) (v1353 : IVec S16 32) (v1355 : IVec S16 32) (v1358 : IVec S16 32) (v1397 : IVec S16 32) (k1_hw77 : k1_chk77 i v1353 v1355 v1358 v1397), ∀ (k1_h1 : k1_cond1 i = 1#1), ∀ a x, ((![v1353, v1358, v1397] : Fin 3 → IVec S16 32) a x).toNat < S32x8x20.size a := fun i v1353 v1355 v1358 v1397 k1_hw77 k1_h1 => k1_hw77.1 k1_h1
theorem k1_idx90_inb : ∀ (i : grid1.Coords) (v1353 : IVec S16 32) (v1355 : IVec S16 32) (v1358 : IVec S16 32) (v1397 : IVec S16 32) (k1_hw77 : k1_chk77 i v1353 v1355 v1358 v1397), ∀ (k1_h1 : k1_cond1 i = 1#1), ∀ a x, ((![v1355, v1397] : Fin 2 → IVec S16 32) a x).toNat < S128x20.size a := fun i v1353 v1355 v1358 v1397 k1_hw77 k1_h1 => k1_hw77.2 k1_h1

def k1_chk78 (i : grid1.Coords) (v1353 : IVec S16 32) (v1355 : IVec S16 32) (v1358 : IVec S16 32) (v1399 : IVec S16 32) : Prop :=
  (∀ (k1_h1 : k1_cond1 i = 1#1), ∀ a x, ((![v1353, v1358, v1399] : Fin 3 → IVec S16 32) a x).toNat < S32x8x5.size a) ∧
  (∀ (k1_h1 : k1_cond1 i = 1#1), ∀ a x, ((![v1355, v1399] : Fin 2 → IVec S16 32) a x).toNat < S128x5.size a)
theorem k1_idx91_inb : ∀ (i : grid1.Coords) (v1353 : IVec S16 32) (v1355 : IVec S16 32) (v1358 : IVec S16 32) (v1399 : IVec S16 32) (k1_hw78 : k1_chk78 i v1353 v1355 v1358 v1399), ∀ (k1_h1 : k1_cond1 i = 1#1), ∀ a x, ((![v1353, v1358, v1399] : Fin 3 → IVec S16 32) a x).toNat < S32x8x5.size a := fun i v1353 v1355 v1358 v1399 k1_hw78 k1_h1 => k1_hw78.1 k1_h1
theorem k1_idx92_inb : ∀ (i : grid1.Coords) (v1353 : IVec S16 32) (v1355 : IVec S16 32) (v1358 : IVec S16 32) (v1399 : IVec S16 32) (k1_hw78 : k1_chk78 i v1353 v1355 v1358 v1399), ∀ (k1_h1 : k1_cond1 i = 1#1), ∀ a x, ((![v1355, v1399] : Fin 2 → IVec S16 32) a x).toNat < S128x5.size a := fun i v1353 v1355 v1358 v1399 k1_hw78 k1_h1 => k1_hw78.2 k1_h1

def k1_chk79 (i : grid1.Coords) (v1353 : IVec S16 32) (v1355 : IVec S16 32) (v1358 : IVec S16 32) (v1401 : IVec S16 32) : Prop :=
  (∀ (k1_h1 : k1_cond1 i = 1#1), ∀ a x, ((![v1353, v1358, v1401] : Fin 3 → IVec S16 32) a x).toNat < S32x8x5.size a) ∧
  (∀ (k1_h1 : k1_cond1 i = 1#1), ∀ a x, ((![v1355, v1401] : Fin 2 → IVec S16 32) a x).toNat < S128x5.size a)
theorem k1_idx93_inb : ∀ (i : grid1.Coords) (v1353 : IVec S16 32) (v1355 : IVec S16 32) (v1358 : IVec S16 32) (v1401 : IVec S16 32) (k1_hw79 : k1_chk79 i v1353 v1355 v1358 v1401), ∀ (k1_h1 : k1_cond1 i = 1#1), ∀ a x, ((![v1353, v1358, v1401] : Fin 3 → IVec S16 32) a x).toNat < S32x8x5.size a := fun i v1353 v1355 v1358 v1401 k1_hw79 k1_h1 => k1_hw79.1 k1_h1
theorem k1_idx94_inb : ∀ (i : grid1.Coords) (v1353 : IVec S16 32) (v1355 : IVec S16 32) (v1358 : IVec S16 32) (v1401 : IVec S16 32) (k1_hw79 : k1_chk79 i v1353 v1355 v1358 v1401), ∀ (k1_h1 : k1_cond1 i = 1#1), ∀ a x, ((![v1355, v1401] : Fin 2 → IVec S16 32) a x).toNat < S128x5.size a := fun i v1353 v1355 v1358 v1401 k1_hw79 k1_h1 => k1_hw79.2 k1_h1

def k1_chk80 (i : grid1.Coords) (v1353 : IVec S16 32) (v1355 : IVec S16 32) (v1358 : IVec S16 32) (v1403 : IVec S16 32) : Prop :=
  (∀ (k1_h1 : k1_cond1 i = 1#1), ∀ a x, ((![v1353, v1358, v1403] : Fin 3 → IVec S16 32) a x).toNat < S32x8x5.size a) ∧
  (∀ (k1_h1 : k1_cond1 i = 1#1), ∀ a x, ((![v1355, v1403] : Fin 2 → IVec S16 32) a x).toNat < S128x5.size a)
theorem k1_idx95_inb : ∀ (i : grid1.Coords) (v1353 : IVec S16 32) (v1355 : IVec S16 32) (v1358 : IVec S16 32) (v1403 : IVec S16 32) (k1_hw80 : k1_chk80 i v1353 v1355 v1358 v1403), ∀ (k1_h1 : k1_cond1 i = 1#1), ∀ a x, ((![v1353, v1358, v1403] : Fin 3 → IVec S16 32) a x).toNat < S32x8x5.size a := fun i v1353 v1355 v1358 v1403 k1_hw80 k1_h1 => k1_hw80.1 k1_h1
theorem k1_idx96_inb : ∀ (i : grid1.Coords) (v1353 : IVec S16 32) (v1355 : IVec S16 32) (v1358 : IVec S16 32) (v1403 : IVec S16 32) (k1_hw80 : k1_chk80 i v1353 v1355 v1358 v1403), ∀ (k1_h1 : k1_cond1 i = 1#1), ∀ a x, ((![v1355, v1403] : Fin 2 → IVec S16 32) a x).toNat < S128x5.size a := fun i v1353 v1355 v1358 v1403 k1_hw80 k1_h1 => k1_hw80.2 k1_h1

def k1_chk81 (i : grid1.Coords) (v1353 : IVec S16 32) (v1355 : IVec S16 32) (v1358 : IVec S16 32) (v1405 : IVec S16 32) : Prop :=
  (∀ (k1_h1 : k1_cond1 i = 1#1), ∀ a x, ((![v1353, v1358, v1405] : Fin 3 → IVec S16 32) a x).toNat < S32x8x5.size a) ∧
  (∀ (k1_h1 : k1_cond1 i = 1#1), ∀ a x, ((![v1355, v1405] : Fin 2 → IVec S16 32) a x).toNat < S128x5.size a)
theorem k1_idx97_inb : ∀ (i : grid1.Coords) (v1353 : IVec S16 32) (v1355 : IVec S16 32) (v1358 : IVec S16 32) (v1405 : IVec S16 32) (k1_hw81 : k1_chk81 i v1353 v1355 v1358 v1405), ∀ (k1_h1 : k1_cond1 i = 1#1), ∀ a x, ((![v1353, v1358, v1405] : Fin 3 → IVec S16 32) a x).toNat < S32x8x5.size a := fun i v1353 v1355 v1358 v1405 k1_hw81 k1_h1 => k1_hw81.1 k1_h1
theorem k1_idx98_inb : ∀ (i : grid1.Coords) (v1353 : IVec S16 32) (v1355 : IVec S16 32) (v1358 : IVec S16 32) (v1405 : IVec S16 32) (k1_hw81 : k1_chk81 i v1353 v1355 v1358 v1405), ∀ (k1_h1 : k1_cond1 i = 1#1), ∀ a x, ((![v1355, v1405] : Fin 2 → IVec S16 32) a x).toNat < S128x5.size a := fun i v1353 v1355 v1358 v1405 k1_hw81 k1_h1 => k1_hw81.2 k1_h1

def k1_chk82 (i : grid1.Coords) (v1353 : IVec S16 32) (v1355 : IVec S16 32) (v1358 : IVec S16 32) (v1407 : IVec S16 32) : Prop :=
  (∀ (k1_h1 : k1_cond1 i = 1#1), ∀ a x, ((![v1353, v1358, v1407] : Fin 3 → IVec S16 32) a x).toNat < S32x8x5.size a) ∧
  (∀ (k1_h1 : k1_cond1 i = 1#1), ∀ a x, ((![v1355, v1407] : Fin 2 → IVec S16 32) a x).toNat < S128x5.size a)
theorem k1_idx99_inb : ∀ (i : grid1.Coords) (v1353 : IVec S16 32) (v1355 : IVec S16 32) (v1358 : IVec S16 32) (v1407 : IVec S16 32) (k1_hw82 : k1_chk82 i v1353 v1355 v1358 v1407), ∀ (k1_h1 : k1_cond1 i = 1#1), ∀ a x, ((![v1353, v1358, v1407] : Fin 3 → IVec S16 32) a x).toNat < S32x8x5.size a := fun i v1353 v1355 v1358 v1407 k1_hw82 k1_h1 => k1_hw82.1 k1_h1
theorem k1_idx100_inb : ∀ (i : grid1.Coords) (v1353 : IVec S16 32) (v1355 : IVec S16 32) (v1358 : IVec S16 32) (v1407 : IVec S16 32) (k1_hw82 : k1_chk82 i v1353 v1355 v1358 v1407), ∀ (k1_h1 : k1_cond1 i = 1#1), ∀ a x, ((![v1355, v1407] : Fin 2 → IVec S16 32) a x).toNat < S128x5.size a := fun i v1353 v1355 v1358 v1407 k1_hw82 k1_h1 => k1_hw82.2 k1_h1
def k1_off128 (i : grid1.Coords) (v1421 : BitVec 32) (v1423 : BitVec 32) (v1425 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_979 : BitVec 32 := 8#32
  let v1426 : BitVec 32 := Scalar.muli v1425 c8_i32_979
  let c0_i32_983 : BitVec 32 := 0#32
  ![v21.toNat, v22.toNat, v1421.toNat, v1423.toNat, v1426.toNat, 0]

def k1_off129 (i : grid1.Coords) (v1421 : BitVec 32) (v1423 : BitVec 32) (v1425 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_979 : BitVec 32 := 8#32
  let v1426 : BitVec 32 := Scalar.muli v1425 c8_i32_979
  let c0_i32_990 : BitVec 32 := 0#32
  ![v21.toNat, v22.toNat, v1421.toNat, v1423.toNat, v1426.toNat, 0]
def k1_off130 (i : grid1.Coords) (v1444 : BitVec 32) (v1446 : BitVec 32) (v1448 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_994 : BitVec 32 := 8#32
  let v1449 : BitVec 32 := Scalar.muli v1448 c8_i32_994
  let c0_i32_998 : BitVec 32 := 0#32
  ![v21.toNat, v22.toNat, v1444.toNat, v1446.toNat, v1449.toNat, 0]

def k1_off131 (i : grid1.Coords) (v1444 : BitVec 32) (v1446 : BitVec 32) (v1448 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_994 : BitVec 32 := 8#32
  let v1449 : BitVec 32 := Scalar.muli v1448 c8_i32_994
  let c0_i32_1005 : BitVec 32 := 0#32
  ![v21.toNat, v22.toNat, v1444.toNat, v1446.toNat, v1449.toNat, 0]
def k1_off132 (i : grid1.Coords) (v1467 : BitVec 32) (v1469 : BitVec 32) (v1471 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1009 : BitVec 32 := 8#32
  let v1472 : BitVec 32 := Scalar.muli v1471 c8_i32_1009
  let c0_i32_1013 : BitVec 32 := 0#32
  ![v21.toNat, v22.toNat, v1467.toNat, v1469.toNat, v1472.toNat, 0]

def k1_off133 (i : grid1.Coords) (v1467 : BitVec 32) (v1469 : BitVec 32) (v1471 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1009 : BitVec 32 := 8#32
  let v1472 : BitVec 32 := Scalar.muli v1471 c8_i32_1009
  let c0_i32_1020 : BitVec 32 := 0#32
  ![v21.toNat, v22.toNat, v1467.toNat, v1469.toNat, v1472.toNat, 0]
def k1_off134 (i : grid1.Coords) (v1490 : BitVec 32) (v1492 : BitVec 32) (v1494 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1024 : BitVec 32 := 8#32
  let v1495 : BitVec 32 := Scalar.muli v1494 c8_i32_1024
  let c0_i32_1028 : BitVec 32 := 0#32
  ![v21.toNat, v22.toNat, v1490.toNat, v1492.toNat, v1495.toNat, 0]

def k1_off135 (i : grid1.Coords) (v1490 : BitVec 32) (v1492 : BitVec 32) (v1494 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1024 : BitVec 32 := 8#32
  let v1495 : BitVec 32 := Scalar.muli v1494 c8_i32_1024
  let c0_i32_1035 : BitVec 32 := 0#32
  ![v21.toNat, v22.toNat, v1490.toNat, v1492.toNat, v1495.toNat, 0]
def k1_off136 (i : grid1.Coords) (v1513 : BitVec 32) (v1515 : BitVec 32) (v1517 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1039 : BitVec 32 := 8#32
  let v1518 : BitVec 32 := Scalar.muli v1517 c8_i32_1039
  let c0_i32_1043 : BitVec 32 := 0#32
  ![v21.toNat, v22.toNat, v1513.toNat, v1515.toNat, v1518.toNat, 0]

def k1_off137 (i : grid1.Coords) (v1513 : BitVec 32) (v1515 : BitVec 32) (v1517 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1039 : BitVec 32 := 8#32
  let v1518 : BitVec 32 := Scalar.muli v1517 c8_i32_1039
  let c0_i32_1050 : BitVec 32 := 0#32
  ![v21.toNat, v22.toNat, v1513.toNat, v1515.toNat, v1518.toNat, 0]
def k1_off138 (i : grid1.Coords) (v1536 : BitVec 32) (v1538 : BitVec 32) (v1540 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1054 : BitVec 32 := 8#32
  let v1541 : BitVec 32 := Scalar.muli v1540 c8_i32_1054
  let c0_i32_1058 : BitVec 32 := 0#32
  ![v21.toNat, v22.toNat, v1536.toNat, v1538.toNat, v1541.toNat, 0]

def k1_off139 (i : grid1.Coords) (v1536 : BitVec 32) (v1538 : BitVec 32) (v1540 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1054 : BitVec 32 := 8#32
  let v1541 : BitVec 32 := Scalar.muli v1540 c8_i32_1054
  let c0_i32_1065 : BitVec 32 := 0#32
  ![v21.toNat, v22.toNat, v1536.toNat, v1538.toNat, v1541.toNat, 0]
def k1_off140 (i : grid1.Coords) (v1559 : BitVec 32) (v1561 : BitVec 32) (v1563 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1069 : BitVec 32 := 8#32
  let v1564 : BitVec 32 := Scalar.muli v1563 c8_i32_1069
  let c0_i32_1073 : BitVec 32 := 0#32
  ![v21.toNat, v22.toNat, v1559.toNat, v1561.toNat, v1564.toNat, 0]

def k1_off141 (i : grid1.Coords) (v1559 : BitVec 32) (v1561 : BitVec 32) (v1563 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1069 : BitVec 32 := 8#32
  let v1564 : BitVec 32 := Scalar.muli v1563 c8_i32_1069
  let c0_i32_1080 : BitVec 32 := 0#32
  ![v21.toNat, v22.toNat, v1559.toNat, v1561.toNat, v1564.toNat, 0]
def k1_off142 (i : grid1.Coords) (v1582 : BitVec 32) (v1584 : BitVec 32) (v1586 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1084 : BitVec 32 := 8#32
  let v1587 : BitVec 32 := Scalar.muli v1586 c8_i32_1084
  let c0_i32_1088 : BitVec 32 := 0#32
  ![v21.toNat, v22.toNat, v1582.toNat, v1584.toNat, v1587.toNat, 0]

def k1_off143 (i : grid1.Coords) (v1582 : BitVec 32) (v1584 : BitVec 32) (v1586 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1084 : BitVec 32 := 8#32
  let v1587 : BitVec 32 := Scalar.muli v1586 c8_i32_1084
  let c0_i32_1095 : BitVec 32 := 0#32
  ![v21.toNat, v22.toNat, v1582.toNat, v1584.toNat, v1587.toNat, 0]
def k1_off144 (i : grid1.Coords) (v1605 : BitVec 32) (v1607 : BitVec 32) (v1609 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1099 : BitVec 32 := 8#32
  let v1610 : BitVec 32 := Scalar.muli v1609 c8_i32_1099
  let c0_i32_1103 : BitVec 32 := 0#32
  ![v21.toNat, v22.toNat, v1605.toNat, v1607.toNat, v1610.toNat, 0]

def k1_off145 (i : grid1.Coords) (v1605 : BitVec 32) (v1607 : BitVec 32) (v1609 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1099 : BitVec 32 := 8#32
  let v1610 : BitVec 32 := Scalar.muli v1609 c8_i32_1099
  let c0_i32_1110 : BitVec 32 := 0#32
  ![v21.toNat, v22.toNat, v1605.toNat, v1607.toNat, v1610.toNat, 0]
def k1_off146 (i : grid1.Coords) (v1628 : BitVec 32) (v1630 : BitVec 32) (v1632 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1114 : BitVec 32 := 8#32
  let v1633 : BitVec 32 := Scalar.muli v1632 c8_i32_1114
  let c0_i32_1118 : BitVec 32 := 0#32
  ![v21.toNat, v22.toNat, v1628.toNat, v1630.toNat, v1633.toNat, 0]

def k1_off147 (i : grid1.Coords) (v1628 : BitVec 32) (v1630 : BitVec 32) (v1632 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1114 : BitVec 32 := 8#32
  let v1633 : BitVec 32 := Scalar.muli v1632 c8_i32_1114
  let c0_i32_1125 : BitVec 32 := 0#32
  ![v21.toNat, v22.toNat, v1628.toNat, v1630.toNat, v1633.toNat, 0]
def k1_off148 (i : grid1.Coords) (v1651 : BitVec 32) (v1653 : BitVec 32) (v1655 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1129 : BitVec 32 := 8#32
  let v1656 : BitVec 32 := Scalar.muli v1655 c8_i32_1129
  let c0_i32_1133 : BitVec 32 := 0#32
  ![v21.toNat, v22.toNat, v1651.toNat, v1653.toNat, v1656.toNat, 0]

def k1_off149 (i : grid1.Coords) (v1651 : BitVec 32) (v1653 : BitVec 32) (v1655 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1129 : BitVec 32 := 8#32
  let v1656 : BitVec 32 := Scalar.muli v1655 c8_i32_1129
  let c0_i32_1140 : BitVec 32 := 0#32
  ![v21.toNat, v22.toNat, v1651.toNat, v1653.toNat, v1656.toNat, 0]
def k1_off150 (i : grid1.Coords) (v1674 : BitVec 32) (v1676 : BitVec 32) (v1678 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1144 : BitVec 32 := 8#32
  let v1679 : BitVec 32 := Scalar.muli v1678 c8_i32_1144
  let c0_i32_1148 : BitVec 32 := 0#32
  ![v21.toNat, v22.toNat, v1674.toNat, v1676.toNat, v1679.toNat, 0]

def k1_off151 (i : grid1.Coords) (v1674 : BitVec 32) (v1676 : BitVec 32) (v1678 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1144 : BitVec 32 := 8#32
  let v1679 : BitVec 32 := Scalar.muli v1678 c8_i32_1144
  let c0_i32_1155 : BitVec 32 := 0#32
  ![v21.toNat, v22.toNat, v1674.toNat, v1676.toNat, v1679.toNat, 0]
def k1_off152 (i : grid1.Coords) (v1697 : BitVec 32) (v1699 : BitVec 32) (v1701 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1159 : BitVec 32 := 8#32
  let v1702 : BitVec 32 := Scalar.muli v1701 c8_i32_1159
  let c0_i32_1163 : BitVec 32 := 0#32
  ![v21.toNat, v22.toNat, v1697.toNat, v1699.toNat, v1702.toNat, 0]

def k1_off153 (i : grid1.Coords) (v1697 : BitVec 32) (v1699 : BitVec 32) (v1701 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1159 : BitVec 32 := 8#32
  let v1702 : BitVec 32 := Scalar.muli v1701 c8_i32_1159
  let c0_i32_1170 : BitVec 32 := 0#32
  ![v21.toNat, v22.toNat, v1697.toNat, v1699.toNat, v1702.toNat, 0]
def k1_off154 (i : grid1.Coords) (v1720 : BitVec 32) (v1722 : BitVec 32) (v1724 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1174 : BitVec 32 := 8#32
  let v1725 : BitVec 32 := Scalar.muli v1724 c8_i32_1174
  let c0_i32_1178 : BitVec 32 := 0#32
  ![v21.toNat, v22.toNat, v1720.toNat, v1722.toNat, v1725.toNat, 0]

def k1_off155 (i : grid1.Coords) (v1720 : BitVec 32) (v1722 : BitVec 32) (v1724 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1174 : BitVec 32 := 8#32
  let v1725 : BitVec 32 := Scalar.muli v1724 c8_i32_1174
  let c0_i32_1185 : BitVec 32 := 0#32
  ![v21.toNat, v22.toNat, v1720.toNat, v1722.toNat, v1725.toNat, 0]
def k1_off156 (i : grid1.Coords) (v1743 : BitVec 32) (v1745 : BitVec 32) (v1747 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1189 : BitVec 32 := 8#32
  let v1748 : BitVec 32 := Scalar.muli v1747 c8_i32_1189
  let c0_i32_1193 : BitVec 32 := 0#32
  ![v21.toNat, v22.toNat, v1743.toNat, v1745.toNat, v1748.toNat, 0]

def k1_off157 (i : grid1.Coords) (v1743 : BitVec 32) (v1745 : BitVec 32) (v1747 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1189 : BitVec 32 := 8#32
  let v1748 : BitVec 32 := Scalar.muli v1747 c8_i32_1189
  let c0_i32_1200 : BitVec 32 := 0#32
  ![v21.toNat, v22.toNat, v1743.toNat, v1745.toNat, v1748.toNat, 0]
def k1_off158 (i : grid1.Coords) (v1766 : BitVec 32) (v1768 : BitVec 32) (v1770 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1204 : BitVec 32 := 8#32
  let v1771 : BitVec 32 := Scalar.muli v1770 c8_i32_1204
  let c0_i32_1208 : BitVec 32 := 0#32
  ![v21.toNat, v22.toNat, v1766.toNat, v1768.toNat, v1771.toNat, 0]

def k1_off159 (i : grid1.Coords) (v1766 : BitVec 32) (v1768 : BitVec 32) (v1770 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1204 : BitVec 32 := 8#32
  let v1771 : BitVec 32 := Scalar.muli v1770 c8_i32_1204
  let c0_i32_1215 : BitVec 32 := 0#32
  ![v21.toNat, v22.toNat, v1766.toNat, v1768.toNat, v1771.toNat, 0]
def k1_off160 (i : grid1.Coords) (v1800 : BitVec 32) (v1802 : BitVec 32) (v1804 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1224 : BitVec 32 := 8#32
  let v1805 : BitVec 32 := Scalar.muli v1804 c8_i32_1224
  let c0_i32_1228 : BitVec 32 := 0#32
  ![v21.toNat, v22.toNat, v1800.toNat, v1802.toNat, v1805.toNat, 0]

def k1_off161 (i : grid1.Coords) (v1800 : BitVec 32) (v1802 : BitVec 32) (v1804 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1224 : BitVec 32 := 8#32
  let v1805 : BitVec 32 := Scalar.muli v1804 c8_i32_1224
  let c0_i32_1235 : BitVec 32 := 0#32
  ![v21.toNat, v22.toNat, v1800.toNat, v1802.toNat, v1805.toNat, 0]
def k1_off162 (i : grid1.Coords) (v1823 : BitVec 32) (v1825 : BitVec 32) (v1827 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1239 : BitVec 32 := 8#32
  let v1828 : BitVec 32 := Scalar.muli v1827 c8_i32_1239
  let c0_i32_1243 : BitVec 32 := 0#32
  ![v21.toNat, v22.toNat, v1823.toNat, v1825.toNat, v1828.toNat, 0]

def k1_off163 (i : grid1.Coords) (v1823 : BitVec 32) (v1825 : BitVec 32) (v1827 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1239 : BitVec 32 := 8#32
  let v1828 : BitVec 32 := Scalar.muli v1827 c8_i32_1239
  let c0_i32_1250 : BitVec 32 := 0#32
  ![v21.toNat, v22.toNat, v1823.toNat, v1825.toNat, v1828.toNat, 0]
def k1_off164 (i : grid1.Coords) (v1846 : BitVec 32) (v1848 : BitVec 32) (v1850 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1254 : BitVec 32 := 8#32
  let v1851 : BitVec 32 := Scalar.muli v1850 c8_i32_1254
  let c0_i32_1258 : BitVec 32 := 0#32
  ![v21.toNat, v22.toNat, v1846.toNat, v1848.toNat, v1851.toNat, 0]

def k1_off165 (i : grid1.Coords) (v1846 : BitVec 32) (v1848 : BitVec 32) (v1850 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1254 : BitVec 32 := 8#32
  let v1851 : BitVec 32 := Scalar.muli v1850 c8_i32_1254
  let c0_i32_1265 : BitVec 32 := 0#32
  ![v21.toNat, v22.toNat, v1846.toNat, v1848.toNat, v1851.toNat, 0]
def k1_off166 (i : grid1.Coords) (v1869 : BitVec 32) (v1871 : BitVec 32) (v1873 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1269 : BitVec 32 := 8#32
  let v1874 : BitVec 32 := Scalar.muli v1873 c8_i32_1269
  let c0_i32_1273 : BitVec 32 := 0#32
  ![v21.toNat, v22.toNat, v1869.toNat, v1871.toNat, v1874.toNat, 0]

def k1_off167 (i : grid1.Coords) (v1869 : BitVec 32) (v1871 : BitVec 32) (v1873 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1269 : BitVec 32 := 8#32
  let v1874 : BitVec 32 := Scalar.muli v1873 c8_i32_1269
  let c0_i32_1280 : BitVec 32 := 0#32
  ![v21.toNat, v22.toNat, v1869.toNat, v1871.toNat, v1874.toNat, 0]
def k1_off168 (i : grid1.Coords) (v1892 : BitVec 32) (v1894 : BitVec 32) (v1896 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1284 : BitVec 32 := 8#32
  let v1897 : BitVec 32 := Scalar.muli v1896 c8_i32_1284
  let c0_i32_1288 : BitVec 32 := 0#32
  ![v21.toNat, v22.toNat, v1892.toNat, v1894.toNat, v1897.toNat, 0]

def k1_off169 (i : grid1.Coords) (v1892 : BitVec 32) (v1894 : BitVec 32) (v1896 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1284 : BitVec 32 := 8#32
  let v1897 : BitVec 32 := Scalar.muli v1896 c8_i32_1284
  let c0_i32_1295 : BitVec 32 := 0#32
  ![v21.toNat, v22.toNat, v1892.toNat, v1894.toNat, v1897.toNat, 0]
def k1_off170 (i : grid1.Coords) (v1915 : BitVec 32) (v1917 : BitVec 32) (v1919 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1299 : BitVec 32 := 8#32
  let v1920 : BitVec 32 := Scalar.muli v1919 c8_i32_1299
  let c0_i32_1303 : BitVec 32 := 0#32
  ![v21.toNat, v22.toNat, v1915.toNat, v1917.toNat, v1920.toNat, 0]

def k1_off171 (i : grid1.Coords) (v1915 : BitVec 32) (v1917 : BitVec 32) (v1919 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1299 : BitVec 32 := 8#32
  let v1920 : BitVec 32 := Scalar.muli v1919 c8_i32_1299
  let c0_i32_1310 : BitVec 32 := 0#32
  ![v21.toNat, v22.toNat, v1915.toNat, v1917.toNat, v1920.toNat, 0]
def k1_off172 (i : grid1.Coords) (v1938 : BitVec 32) (v1940 : BitVec 32) (v1942 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1314 : BitVec 32 := 8#32
  let v1943 : BitVec 32 := Scalar.muli v1942 c8_i32_1314
  let c0_i32_1318 : BitVec 32 := 0#32
  ![v21.toNat, v22.toNat, v1938.toNat, v1940.toNat, v1943.toNat, 0]

def k1_off173 (i : grid1.Coords) (v1938 : BitVec 32) (v1940 : BitVec 32) (v1942 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1314 : BitVec 32 := 8#32
  let v1943 : BitVec 32 := Scalar.muli v1942 c8_i32_1314
  let c0_i32_1325 : BitVec 32 := 0#32
  ![v21.toNat, v22.toNat, v1938.toNat, v1940.toNat, v1943.toNat, 0]
def k1_off174 (i : grid1.Coords) (v1961 : BitVec 32) (v1963 : BitVec 32) (v1965 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1329 : BitVec 32 := 8#32
  let v1966 : BitVec 32 := Scalar.muli v1965 c8_i32_1329
  let c0_i32_1333 : BitVec 32 := 0#32
  ![v21.toNat, v22.toNat, v1961.toNat, v1963.toNat, v1966.toNat, 0]

def k1_off175 (i : grid1.Coords) (v1961 : BitVec 32) (v1963 : BitVec 32) (v1965 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1329 : BitVec 32 := 8#32
  let v1966 : BitVec 32 := Scalar.muli v1965 c8_i32_1329
  let c0_i32_1340 : BitVec 32 := 0#32
  ![v21.toNat, v22.toNat, v1961.toNat, v1963.toNat, v1966.toNat, 0]
def k1_off176 (i : grid1.Coords) (v1984 : BitVec 32) (v1986 : BitVec 32) (v1988 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1344 : BitVec 32 := 8#32
  let v1989 : BitVec 32 := Scalar.muli v1988 c8_i32_1344
  let c0_i32_1348 : BitVec 32 := 0#32
  ![v21.toNat, v22.toNat, v1984.toNat, v1986.toNat, v1989.toNat, 0]

def k1_off177 (i : grid1.Coords) (v1984 : BitVec 32) (v1986 : BitVec 32) (v1988 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1344 : BitVec 32 := 8#32
  let v1989 : BitVec 32 := Scalar.muli v1988 c8_i32_1344
  let c0_i32_1355 : BitVec 32 := 0#32
  ![v21.toNat, v22.toNat, v1984.toNat, v1986.toNat, v1989.toNat, 0]
def k1_off178 (i : grid1.Coords) (v2007 : BitVec 32) (v2009 : BitVec 32) (v2011 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1359 : BitVec 32 := 8#32
  let v2012 : BitVec 32 := Scalar.muli v2011 c8_i32_1359
  let c0_i32_1363 : BitVec 32 := 0#32
  ![v21.toNat, v22.toNat, v2007.toNat, v2009.toNat, v2012.toNat, 0]

def k1_off179 (i : grid1.Coords) (v2007 : BitVec 32) (v2009 : BitVec 32) (v2011 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1359 : BitVec 32 := 8#32
  let v2012 : BitVec 32 := Scalar.muli v2011 c8_i32_1359
  let c0_i32_1370 : BitVec 32 := 0#32
  ![v21.toNat, v22.toNat, v2007.toNat, v2009.toNat, v2012.toNat, 0]
def k1_off180 (i : grid1.Coords) (v2030 : BitVec 32) (v2032 : BitVec 32) (v2034 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1374 : BitVec 32 := 8#32
  let v2035 : BitVec 32 := Scalar.muli v2034 c8_i32_1374
  let c0_i32_1378 : BitVec 32 := 0#32
  ![v21.toNat, v22.toNat, v2030.toNat, v2032.toNat, v2035.toNat, 0]

def k1_off181 (i : grid1.Coords) (v2030 : BitVec 32) (v2032 : BitVec 32) (v2034 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1374 : BitVec 32 := 8#32
  let v2035 : BitVec 32 := Scalar.muli v2034 c8_i32_1374
  let c0_i32_1385 : BitVec 32 := 0#32
  ![v21.toNat, v22.toNat, v2030.toNat, v2032.toNat, v2035.toNat, 0]
def k1_off182 (i : grid1.Coords) (v2053 : BitVec 32) (v2055 : BitVec 32) (v2057 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1389 : BitVec 32 := 8#32
  let v2058 : BitVec 32 := Scalar.muli v2057 c8_i32_1389
  let c0_i32_1393 : BitVec 32 := 0#32
  ![v21.toNat, v22.toNat, v2053.toNat, v2055.toNat, v2058.toNat, 0]

def k1_off183 (i : grid1.Coords) (v2053 : BitVec 32) (v2055 : BitVec 32) (v2057 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1389 : BitVec 32 := 8#32
  let v2058 : BitVec 32 := Scalar.muli v2057 c8_i32_1389
  let c0_i32_1400 : BitVec 32 := 0#32
  ![v21.toNat, v22.toNat, v2053.toNat, v2055.toNat, v2058.toNat, 0]
def k1_off184 (i : grid1.Coords) (v2076 : BitVec 32) (v2078 : BitVec 32) (v2080 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1404 : BitVec 32 := 8#32
  let v2081 : BitVec 32 := Scalar.muli v2080 c8_i32_1404
  let c0_i32_1408 : BitVec 32 := 0#32
  ![v21.toNat, v22.toNat, v2076.toNat, v2078.toNat, v2081.toNat, 0]

def k1_off185 (i : grid1.Coords) (v2076 : BitVec 32) (v2078 : BitVec 32) (v2080 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1404 : BitVec 32 := 8#32
  let v2081 : BitVec 32 := Scalar.muli v2080 c8_i32_1404
  let c0_i32_1415 : BitVec 32 := 0#32
  ![v21.toNat, v22.toNat, v2076.toNat, v2078.toNat, v2081.toNat, 0]
def k1_off186 (i : grid1.Coords) (v2099 : BitVec 32) (v2101 : BitVec 32) (v2103 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1419 : BitVec 32 := 8#32
  let v2104 : BitVec 32 := Scalar.muli v2103 c8_i32_1419
  let c0_i32_1423 : BitVec 32 := 0#32
  ![v21.toNat, v22.toNat, v2099.toNat, v2101.toNat, v2104.toNat, 0]

def k1_off187 (i : grid1.Coords) (v2099 : BitVec 32) (v2101 : BitVec 32) (v2103 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1419 : BitVec 32 := 8#32
  let v2104 : BitVec 32 := Scalar.muli v2103 c8_i32_1419
  let c0_i32_1430 : BitVec 32 := 0#32
  ![v21.toNat, v22.toNat, v2099.toNat, v2101.toNat, v2104.toNat, 0]
def k1_off188 (i : grid1.Coords) (v2122 : BitVec 32) (v2124 : BitVec 32) (v2126 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1434 : BitVec 32 := 8#32
  let v2127 : BitVec 32 := Scalar.muli v2126 c8_i32_1434
  let c0_i32_1438 : BitVec 32 := 0#32
  ![v21.toNat, v22.toNat, v2122.toNat, v2124.toNat, v2127.toNat, 0]

def k1_off189 (i : grid1.Coords) (v2122 : BitVec 32) (v2124 : BitVec 32) (v2126 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1434 : BitVec 32 := 8#32
  let v2127 : BitVec 32 := Scalar.muli v2126 c8_i32_1434
  let c0_i32_1445 : BitVec 32 := 0#32
  ![v21.toNat, v22.toNat, v2122.toNat, v2124.toNat, v2127.toNat, 0]
def k1_off190 (i : grid1.Coords) (v2145 : BitVec 32) (v2147 : BitVec 32) (v2149 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1449 : BitVec 32 := 8#32
  let v2150 : BitVec 32 := Scalar.muli v2149 c8_i32_1449
  let c0_i32_1453 : BitVec 32 := 0#32
  ![v21.toNat, v22.toNat, v2145.toNat, v2147.toNat, v2150.toNat, 0]

def k1_off191 (i : grid1.Coords) (v2145 : BitVec 32) (v2147 : BitVec 32) (v2149 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1449 : BitVec 32 := 8#32
  let v2150 : BitVec 32 := Scalar.muli v2149 c8_i32_1449
  let c0_i32_1460 : BitVec 32 := 0#32
  ![v21.toNat, v22.toNat, v2145.toNat, v2147.toNat, v2150.toNat, 0]

def k1_chk114 (i : grid1.Coords) (v2145 : BitVec 32) (v2147 : BitVec 32) (v2149 : BitVec 32) : Prop :=
  (∀ (k1_h1 : k1_cond1 i = 1#1), ∀ a, (k1_off190 i v2145 v2147 v2149) a + S1x1x1x1x8x20.size a ≤ S3x8x9x80x80x20.size a) ∧
  (∀ (k1_h1 : k1_cond1 i = 1#1), ∀ a, (k1_off191 i v2145 v2147 v2149) a + S1x1x1x1x8x5.size a ≤ S3x8x9x80x80x5.size a)
theorem k1_off190_inb : ∀ (i : grid1.Coords) (v2145 : BitVec 32) (v2147 : BitVec 32) (v2149 : BitVec 32) (k1_hw114 : k1_chk114 i v2145 v2147 v2149), ∀ (k1_h1 : k1_cond1 i = 1#1), ∀ a, (k1_off190 i v2145 v2147 v2149) a + S1x1x1x1x8x20.size a ≤ S3x8x9x80x80x20.size a := fun i v2145 v2147 v2149 k1_hw114 k1_h1 => k1_hw114.1 k1_h1
theorem k1_off191_inb : ∀ (i : grid1.Coords) (v2145 : BitVec 32) (v2147 : BitVec 32) (v2149 : BitVec 32) (k1_hw114 : k1_chk114 i v2145 v2147 v2149), ∀ (k1_h1 : k1_cond1 i = 1#1), ∀ a, (k1_off191 i v2145 v2147 v2149) a + S1x1x1x1x8x5.size a ≤ S3x8x9x80x80x5.size a := fun i v2145 v2147 v2149 k1_hw114 k1_h1 => k1_hw114.2 k1_h1

def k1_off192 (i : grid1.Coords) (v1421 : BitVec 32) (v1423 : BitVec 32) (v1425 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_979 : BitVec 32 := 8#32
  let v1426 : BitVec 32 := Scalar.muli v1425 c8_i32_979
  let c0_i32_1467 : BitVec 32 := 0#32
  ![v21.toNat, v22.toNat, v1421.toNat, v1423.toNat, v1426.toNat, 0]
def k1_off193 (i : grid1.Coords) (v1421 : BitVec 32) (v1423 : BitVec 32) (v1425 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_979 : BitVec 32 := 8#32
  let v1426 : BitVec 32 := Scalar.muli v1425 c8_i32_979
  let c0_i32_1474 : BitVec 32 := 0#32
  ![v21.toNat, v22.toNat, v1421.toNat, v1423.toNat, v1426.toNat, 0]

def k1_chk83 (i : grid1.Coords) (v1421 : BitVec 32) (v1423 : BitVec 32) (v1425 : BitVec 32) : Prop :=
  (∀ (k1_h1 : k1_cond1 i = 1#1), ∀ a, (k1_off128 i v1421 v1423 v1425) a + S1x1x1x1x8x20.size a ≤ S3x8x9x80x80x20.size a) ∧
  (∀ (k1_h1 : k1_cond1 i = 1#1), ∀ a, (k1_off129 i v1421 v1423 v1425) a + S1x1x1x1x8x5.size a ≤ S3x8x9x80x80x5.size a) ∧
  (∀ (k1_h1 : k1_cond1 i = 1#1), ∀ a, (k1_off192 i v1421 v1423 v1425) a + S1x1x1x1x8x20.size a ≤ S3x8x9x80x80x20.size a) ∧
  (∀ (k1_h1 : k1_cond1 i = 1#1), ∀ a, (k1_off193 i v1421 v1423 v1425) a + S1x1x1x1x8x5.size a ≤ S3x8x9x80x80x5.size a)
theorem k1_off128_inb : ∀ (i : grid1.Coords) (v1421 : BitVec 32) (v1423 : BitVec 32) (v1425 : BitVec 32) (k1_hw83 : k1_chk83 i v1421 v1423 v1425), ∀ (k1_h1 : k1_cond1 i = 1#1), ∀ a, (k1_off128 i v1421 v1423 v1425) a + S1x1x1x1x8x20.size a ≤ S3x8x9x80x80x20.size a := fun i v1421 v1423 v1425 k1_hw83 k1_h1 => k1_hw83.1 k1_h1
theorem k1_off129_inb : ∀ (i : grid1.Coords) (v1421 : BitVec 32) (v1423 : BitVec 32) (v1425 : BitVec 32) (k1_hw83 : k1_chk83 i v1421 v1423 v1425), ∀ (k1_h1 : k1_cond1 i = 1#1), ∀ a, (k1_off129 i v1421 v1423 v1425) a + S1x1x1x1x8x5.size a ≤ S3x8x9x80x80x5.size a := fun i v1421 v1423 v1425 k1_hw83 k1_h1 => k1_hw83.2.1 k1_h1
theorem k1_off192_inb : ∀ (i : grid1.Coords) (v1421 : BitVec 32) (v1423 : BitVec 32) (v1425 : BitVec 32) (k1_hw83 : k1_chk83 i v1421 v1423 v1425), ∀ (k1_h1 : k1_cond1 i = 1#1), ∀ a, (k1_off192 i v1421 v1423 v1425) a + S1x1x1x1x8x20.size a ≤ S3x8x9x80x80x20.size a := fun i v1421 v1423 v1425 k1_hw83 k1_h1 => k1_hw83.2.2.1 k1_h1
theorem k1_off193_inb : ∀ (i : grid1.Coords) (v1421 : BitVec 32) (v1423 : BitVec 32) (v1425 : BitVec 32) (k1_hw83 : k1_chk83 i v1421 v1423 v1425), ∀ (k1_h1 : k1_cond1 i = 1#1), ∀ a, (k1_off193 i v1421 v1423 v1425) a + S1x1x1x1x8x5.size a ≤ S3x8x9x80x80x5.size a := fun i v1421 v1423 v1425 k1_hw83 k1_h1 => k1_hw83.2.2.2 k1_h1

def k1_off194 (i : grid1.Coords) (v1444 : BitVec 32) (v1446 : BitVec 32) (v1448 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_994 : BitVec 32 := 8#32
  let v1449 : BitVec 32 := Scalar.muli v1448 c8_i32_994
  let c0_i32_1481 : BitVec 32 := 0#32
  ![v21.toNat, v22.toNat, v1444.toNat, v1446.toNat, v1449.toNat, 0]
def k1_off195 (i : grid1.Coords) (v1444 : BitVec 32) (v1446 : BitVec 32) (v1448 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_994 : BitVec 32 := 8#32
  let v1449 : BitVec 32 := Scalar.muli v1448 c8_i32_994
  let c0_i32_1488 : BitVec 32 := 0#32
  ![v21.toNat, v22.toNat, v1444.toNat, v1446.toNat, v1449.toNat, 0]

def k1_chk84 (i : grid1.Coords) (v1444 : BitVec 32) (v1446 : BitVec 32) (v1448 : BitVec 32) : Prop :=
  (∀ (k1_h1 : k1_cond1 i = 1#1), ∀ a, (k1_off130 i v1444 v1446 v1448) a + S1x1x1x1x8x20.size a ≤ S3x8x9x80x80x20.size a) ∧
  (∀ (k1_h1 : k1_cond1 i = 1#1), ∀ a, (k1_off131 i v1444 v1446 v1448) a + S1x1x1x1x8x5.size a ≤ S3x8x9x80x80x5.size a) ∧
  (∀ (k1_h1 : k1_cond1 i = 1#1), ∀ a, (k1_off194 i v1444 v1446 v1448) a + S1x1x1x1x8x20.size a ≤ S3x8x9x80x80x20.size a) ∧
  (∀ (k1_h1 : k1_cond1 i = 1#1), ∀ a, (k1_off195 i v1444 v1446 v1448) a + S1x1x1x1x8x5.size a ≤ S3x8x9x80x80x5.size a)
theorem k1_off130_inb : ∀ (i : grid1.Coords) (v1444 : BitVec 32) (v1446 : BitVec 32) (v1448 : BitVec 32) (k1_hw84 : k1_chk84 i v1444 v1446 v1448), ∀ (k1_h1 : k1_cond1 i = 1#1), ∀ a, (k1_off130 i v1444 v1446 v1448) a + S1x1x1x1x8x20.size a ≤ S3x8x9x80x80x20.size a := fun i v1444 v1446 v1448 k1_hw84 k1_h1 => k1_hw84.1 k1_h1
theorem k1_off131_inb : ∀ (i : grid1.Coords) (v1444 : BitVec 32) (v1446 : BitVec 32) (v1448 : BitVec 32) (k1_hw84 : k1_chk84 i v1444 v1446 v1448), ∀ (k1_h1 : k1_cond1 i = 1#1), ∀ a, (k1_off131 i v1444 v1446 v1448) a + S1x1x1x1x8x5.size a ≤ S3x8x9x80x80x5.size a := fun i v1444 v1446 v1448 k1_hw84 k1_h1 => k1_hw84.2.1 k1_h1
theorem k1_off194_inb : ∀ (i : grid1.Coords) (v1444 : BitVec 32) (v1446 : BitVec 32) (v1448 : BitVec 32) (k1_hw84 : k1_chk84 i v1444 v1446 v1448), ∀ (k1_h1 : k1_cond1 i = 1#1), ∀ a, (k1_off194 i v1444 v1446 v1448) a + S1x1x1x1x8x20.size a ≤ S3x8x9x80x80x20.size a := fun i v1444 v1446 v1448 k1_hw84 k1_h1 => k1_hw84.2.2.1 k1_h1
theorem k1_off195_inb : ∀ (i : grid1.Coords) (v1444 : BitVec 32) (v1446 : BitVec 32) (v1448 : BitVec 32) (k1_hw84 : k1_chk84 i v1444 v1446 v1448), ∀ (k1_h1 : k1_cond1 i = 1#1), ∀ a, (k1_off195 i v1444 v1446 v1448) a + S1x1x1x1x8x5.size a ≤ S3x8x9x80x80x5.size a := fun i v1444 v1446 v1448 k1_hw84 k1_h1 => k1_hw84.2.2.2 k1_h1

def k1_off196 (i : grid1.Coords) (v1467 : BitVec 32) (v1469 : BitVec 32) (v1471 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1009 : BitVec 32 := 8#32
  let v1472 : BitVec 32 := Scalar.muli v1471 c8_i32_1009
  let c0_i32_1495 : BitVec 32 := 0#32
  ![v21.toNat, v22.toNat, v1467.toNat, v1469.toNat, v1472.toNat, 0]
def k1_off197 (i : grid1.Coords) (v1467 : BitVec 32) (v1469 : BitVec 32) (v1471 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1009 : BitVec 32 := 8#32
  let v1472 : BitVec 32 := Scalar.muli v1471 c8_i32_1009
  let c0_i32_1502 : BitVec 32 := 0#32
  ![v21.toNat, v22.toNat, v1467.toNat, v1469.toNat, v1472.toNat, 0]

def k1_chk85 (i : grid1.Coords) (v1467 : BitVec 32) (v1469 : BitVec 32) (v1471 : BitVec 32) : Prop :=
  (∀ (k1_h1 : k1_cond1 i = 1#1), ∀ a, (k1_off132 i v1467 v1469 v1471) a + S1x1x1x1x8x20.size a ≤ S3x8x9x80x80x20.size a) ∧
  (∀ (k1_h1 : k1_cond1 i = 1#1), ∀ a, (k1_off133 i v1467 v1469 v1471) a + S1x1x1x1x8x5.size a ≤ S3x8x9x80x80x5.size a) ∧
  (∀ (k1_h1 : k1_cond1 i = 1#1), ∀ a, (k1_off196 i v1467 v1469 v1471) a + S1x1x1x1x8x20.size a ≤ S3x8x9x80x80x20.size a) ∧
  (∀ (k1_h1 : k1_cond1 i = 1#1), ∀ a, (k1_off197 i v1467 v1469 v1471) a + S1x1x1x1x8x5.size a ≤ S3x8x9x80x80x5.size a)
theorem k1_off132_inb : ∀ (i : grid1.Coords) (v1467 : BitVec 32) (v1469 : BitVec 32) (v1471 : BitVec 32) (k1_hw85 : k1_chk85 i v1467 v1469 v1471), ∀ (k1_h1 : k1_cond1 i = 1#1), ∀ a, (k1_off132 i v1467 v1469 v1471) a + S1x1x1x1x8x20.size a ≤ S3x8x9x80x80x20.size a := fun i v1467 v1469 v1471 k1_hw85 k1_h1 => k1_hw85.1 k1_h1
theorem k1_off133_inb : ∀ (i : grid1.Coords) (v1467 : BitVec 32) (v1469 : BitVec 32) (v1471 : BitVec 32) (k1_hw85 : k1_chk85 i v1467 v1469 v1471), ∀ (k1_h1 : k1_cond1 i = 1#1), ∀ a, (k1_off133 i v1467 v1469 v1471) a + S1x1x1x1x8x5.size a ≤ S3x8x9x80x80x5.size a := fun i v1467 v1469 v1471 k1_hw85 k1_h1 => k1_hw85.2.1 k1_h1
theorem k1_off196_inb : ∀ (i : grid1.Coords) (v1467 : BitVec 32) (v1469 : BitVec 32) (v1471 : BitVec 32) (k1_hw85 : k1_chk85 i v1467 v1469 v1471), ∀ (k1_h1 : k1_cond1 i = 1#1), ∀ a, (k1_off196 i v1467 v1469 v1471) a + S1x1x1x1x8x20.size a ≤ S3x8x9x80x80x20.size a := fun i v1467 v1469 v1471 k1_hw85 k1_h1 => k1_hw85.2.2.1 k1_h1
theorem k1_off197_inb : ∀ (i : grid1.Coords) (v1467 : BitVec 32) (v1469 : BitVec 32) (v1471 : BitVec 32) (k1_hw85 : k1_chk85 i v1467 v1469 v1471), ∀ (k1_h1 : k1_cond1 i = 1#1), ∀ a, (k1_off197 i v1467 v1469 v1471) a + S1x1x1x1x8x5.size a ≤ S3x8x9x80x80x5.size a := fun i v1467 v1469 v1471 k1_hw85 k1_h1 => k1_hw85.2.2.2 k1_h1

def k1_off198 (i : grid1.Coords) (v1490 : BitVec 32) (v1492 : BitVec 32) (v1494 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1024 : BitVec 32 := 8#32
  let v1495 : BitVec 32 := Scalar.muli v1494 c8_i32_1024
  let c0_i32_1509 : BitVec 32 := 0#32
  ![v21.toNat, v22.toNat, v1490.toNat, v1492.toNat, v1495.toNat, 0]
def k1_off199 (i : grid1.Coords) (v1490 : BitVec 32) (v1492 : BitVec 32) (v1494 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1024 : BitVec 32 := 8#32
  let v1495 : BitVec 32 := Scalar.muli v1494 c8_i32_1024
  let c0_i32_1516 : BitVec 32 := 0#32
  ![v21.toNat, v22.toNat, v1490.toNat, v1492.toNat, v1495.toNat, 0]

def k1_chk86 (i : grid1.Coords) (v1490 : BitVec 32) (v1492 : BitVec 32) (v1494 : BitVec 32) : Prop :=
  (∀ (k1_h1 : k1_cond1 i = 1#1), ∀ a, (k1_off134 i v1490 v1492 v1494) a + S1x1x1x1x8x20.size a ≤ S3x8x9x80x80x20.size a) ∧
  (∀ (k1_h1 : k1_cond1 i = 1#1), ∀ a, (k1_off135 i v1490 v1492 v1494) a + S1x1x1x1x8x5.size a ≤ S3x8x9x80x80x5.size a) ∧
  (∀ (k1_h1 : k1_cond1 i = 1#1), ∀ a, (k1_off198 i v1490 v1492 v1494) a + S1x1x1x1x8x20.size a ≤ S3x8x9x80x80x20.size a) ∧
  (∀ (k1_h1 : k1_cond1 i = 1#1), ∀ a, (k1_off199 i v1490 v1492 v1494) a + S1x1x1x1x8x5.size a ≤ S3x8x9x80x80x5.size a)
theorem k1_off134_inb : ∀ (i : grid1.Coords) (v1490 : BitVec 32) (v1492 : BitVec 32) (v1494 : BitVec 32) (k1_hw86 : k1_chk86 i v1490 v1492 v1494), ∀ (k1_h1 : k1_cond1 i = 1#1), ∀ a, (k1_off134 i v1490 v1492 v1494) a + S1x1x1x1x8x20.size a ≤ S3x8x9x80x80x20.size a := fun i v1490 v1492 v1494 k1_hw86 k1_h1 => k1_hw86.1 k1_h1
theorem k1_off135_inb : ∀ (i : grid1.Coords) (v1490 : BitVec 32) (v1492 : BitVec 32) (v1494 : BitVec 32) (k1_hw86 : k1_chk86 i v1490 v1492 v1494), ∀ (k1_h1 : k1_cond1 i = 1#1), ∀ a, (k1_off135 i v1490 v1492 v1494) a + S1x1x1x1x8x5.size a ≤ S3x8x9x80x80x5.size a := fun i v1490 v1492 v1494 k1_hw86 k1_h1 => k1_hw86.2.1 k1_h1
theorem k1_off198_inb : ∀ (i : grid1.Coords) (v1490 : BitVec 32) (v1492 : BitVec 32) (v1494 : BitVec 32) (k1_hw86 : k1_chk86 i v1490 v1492 v1494), ∀ (k1_h1 : k1_cond1 i = 1#1), ∀ a, (k1_off198 i v1490 v1492 v1494) a + S1x1x1x1x8x20.size a ≤ S3x8x9x80x80x20.size a := fun i v1490 v1492 v1494 k1_hw86 k1_h1 => k1_hw86.2.2.1 k1_h1
theorem k1_off199_inb : ∀ (i : grid1.Coords) (v1490 : BitVec 32) (v1492 : BitVec 32) (v1494 : BitVec 32) (k1_hw86 : k1_chk86 i v1490 v1492 v1494), ∀ (k1_h1 : k1_cond1 i = 1#1), ∀ a, (k1_off199 i v1490 v1492 v1494) a + S1x1x1x1x8x5.size a ≤ S3x8x9x80x80x5.size a := fun i v1490 v1492 v1494 k1_hw86 k1_h1 => k1_hw86.2.2.2 k1_h1

def k1_off200 (i : grid1.Coords) (v1513 : BitVec 32) (v1515 : BitVec 32) (v1517 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1039 : BitVec 32 := 8#32
  let v1518 : BitVec 32 := Scalar.muli v1517 c8_i32_1039
  let c0_i32_1523 : BitVec 32 := 0#32
  ![v21.toNat, v22.toNat, v1513.toNat, v1515.toNat, v1518.toNat, 0]
def k1_off201 (i : grid1.Coords) (v1513 : BitVec 32) (v1515 : BitVec 32) (v1517 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1039 : BitVec 32 := 8#32
  let v1518 : BitVec 32 := Scalar.muli v1517 c8_i32_1039
  let c0_i32_1530 : BitVec 32 := 0#32
  ![v21.toNat, v22.toNat, v1513.toNat, v1515.toNat, v1518.toNat, 0]

def k1_chk87 (i : grid1.Coords) (v1513 : BitVec 32) (v1515 : BitVec 32) (v1517 : BitVec 32) : Prop :=
  (∀ (k1_h1 : k1_cond1 i = 1#1), ∀ a, (k1_off136 i v1513 v1515 v1517) a + S1x1x1x1x8x20.size a ≤ S3x8x9x80x80x20.size a) ∧
  (∀ (k1_h1 : k1_cond1 i = 1#1), ∀ a, (k1_off137 i v1513 v1515 v1517) a + S1x1x1x1x8x5.size a ≤ S3x8x9x80x80x5.size a) ∧
  (∀ (k1_h1 : k1_cond1 i = 1#1), ∀ a, (k1_off200 i v1513 v1515 v1517) a + S1x1x1x1x8x20.size a ≤ S3x8x9x80x80x20.size a) ∧
  (∀ (k1_h1 : k1_cond1 i = 1#1), ∀ a, (k1_off201 i v1513 v1515 v1517) a + S1x1x1x1x8x5.size a ≤ S3x8x9x80x80x5.size a)
theorem k1_off136_inb : ∀ (i : grid1.Coords) (v1513 : BitVec 32) (v1515 : BitVec 32) (v1517 : BitVec 32) (k1_hw87 : k1_chk87 i v1513 v1515 v1517), ∀ (k1_h1 : k1_cond1 i = 1#1), ∀ a, (k1_off136 i v1513 v1515 v1517) a + S1x1x1x1x8x20.size a ≤ S3x8x9x80x80x20.size a := fun i v1513 v1515 v1517 k1_hw87 k1_h1 => k1_hw87.1 k1_h1
theorem k1_off137_inb : ∀ (i : grid1.Coords) (v1513 : BitVec 32) (v1515 : BitVec 32) (v1517 : BitVec 32) (k1_hw87 : k1_chk87 i v1513 v1515 v1517), ∀ (k1_h1 : k1_cond1 i = 1#1), ∀ a, (k1_off137 i v1513 v1515 v1517) a + S1x1x1x1x8x5.size a ≤ S3x8x9x80x80x5.size a := fun i v1513 v1515 v1517 k1_hw87 k1_h1 => k1_hw87.2.1 k1_h1
theorem k1_off200_inb : ∀ (i : grid1.Coords) (v1513 : BitVec 32) (v1515 : BitVec 32) (v1517 : BitVec 32) (k1_hw87 : k1_chk87 i v1513 v1515 v1517), ∀ (k1_h1 : k1_cond1 i = 1#1), ∀ a, (k1_off200 i v1513 v1515 v1517) a + S1x1x1x1x8x20.size a ≤ S3x8x9x80x80x20.size a := fun i v1513 v1515 v1517 k1_hw87 k1_h1 => k1_hw87.2.2.1 k1_h1
theorem k1_off201_inb : ∀ (i : grid1.Coords) (v1513 : BitVec 32) (v1515 : BitVec 32) (v1517 : BitVec 32) (k1_hw87 : k1_chk87 i v1513 v1515 v1517), ∀ (k1_h1 : k1_cond1 i = 1#1), ∀ a, (k1_off201 i v1513 v1515 v1517) a + S1x1x1x1x8x5.size a ≤ S3x8x9x80x80x5.size a := fun i v1513 v1515 v1517 k1_hw87 k1_h1 => k1_hw87.2.2.2 k1_h1

def k1_off202 (i : grid1.Coords) (v1536 : BitVec 32) (v1538 : BitVec 32) (v1540 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1054 : BitVec 32 := 8#32
  let v1541 : BitVec 32 := Scalar.muli v1540 c8_i32_1054
  let c0_i32_1537 : BitVec 32 := 0#32
  ![v21.toNat, v22.toNat, v1536.toNat, v1538.toNat, v1541.toNat, 0]
def k1_off203 (i : grid1.Coords) (v1536 : BitVec 32) (v1538 : BitVec 32) (v1540 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1054 : BitVec 32 := 8#32
  let v1541 : BitVec 32 := Scalar.muli v1540 c8_i32_1054
  let c0_i32_1544 : BitVec 32 := 0#32
  ![v21.toNat, v22.toNat, v1536.toNat, v1538.toNat, v1541.toNat, 0]

def k1_chk88 (i : grid1.Coords) (v1536 : BitVec 32) (v1538 : BitVec 32) (v1540 : BitVec 32) : Prop :=
  (∀ (k1_h1 : k1_cond1 i = 1#1), ∀ a, (k1_off138 i v1536 v1538 v1540) a + S1x1x1x1x8x20.size a ≤ S3x8x9x80x80x20.size a) ∧
  (∀ (k1_h1 : k1_cond1 i = 1#1), ∀ a, (k1_off139 i v1536 v1538 v1540) a + S1x1x1x1x8x5.size a ≤ S3x8x9x80x80x5.size a) ∧
  (∀ (k1_h1 : k1_cond1 i = 1#1), ∀ a, (k1_off202 i v1536 v1538 v1540) a + S1x1x1x1x8x20.size a ≤ S3x8x9x80x80x20.size a) ∧
  (∀ (k1_h1 : k1_cond1 i = 1#1), ∀ a, (k1_off203 i v1536 v1538 v1540) a + S1x1x1x1x8x5.size a ≤ S3x8x9x80x80x5.size a)
theorem k1_off138_inb : ∀ (i : grid1.Coords) (v1536 : BitVec 32) (v1538 : BitVec 32) (v1540 : BitVec 32) (k1_hw88 : k1_chk88 i v1536 v1538 v1540), ∀ (k1_h1 : k1_cond1 i = 1#1), ∀ a, (k1_off138 i v1536 v1538 v1540) a + S1x1x1x1x8x20.size a ≤ S3x8x9x80x80x20.size a := fun i v1536 v1538 v1540 k1_hw88 k1_h1 => k1_hw88.1 k1_h1
theorem k1_off139_inb : ∀ (i : grid1.Coords) (v1536 : BitVec 32) (v1538 : BitVec 32) (v1540 : BitVec 32) (k1_hw88 : k1_chk88 i v1536 v1538 v1540), ∀ (k1_h1 : k1_cond1 i = 1#1), ∀ a, (k1_off139 i v1536 v1538 v1540) a + S1x1x1x1x8x5.size a ≤ S3x8x9x80x80x5.size a := fun i v1536 v1538 v1540 k1_hw88 k1_h1 => k1_hw88.2.1 k1_h1
theorem k1_off202_inb : ∀ (i : grid1.Coords) (v1536 : BitVec 32) (v1538 : BitVec 32) (v1540 : BitVec 32) (k1_hw88 : k1_chk88 i v1536 v1538 v1540), ∀ (k1_h1 : k1_cond1 i = 1#1), ∀ a, (k1_off202 i v1536 v1538 v1540) a + S1x1x1x1x8x20.size a ≤ S3x8x9x80x80x20.size a := fun i v1536 v1538 v1540 k1_hw88 k1_h1 => k1_hw88.2.2.1 k1_h1
theorem k1_off203_inb : ∀ (i : grid1.Coords) (v1536 : BitVec 32) (v1538 : BitVec 32) (v1540 : BitVec 32) (k1_hw88 : k1_chk88 i v1536 v1538 v1540), ∀ (k1_h1 : k1_cond1 i = 1#1), ∀ a, (k1_off203 i v1536 v1538 v1540) a + S1x1x1x1x8x5.size a ≤ S3x8x9x80x80x5.size a := fun i v1536 v1538 v1540 k1_hw88 k1_h1 => k1_hw88.2.2.2 k1_h1

def k1_off204 (i : grid1.Coords) (v1559 : BitVec 32) (v1561 : BitVec 32) (v1563 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1069 : BitVec 32 := 8#32
  let v1564 : BitVec 32 := Scalar.muli v1563 c8_i32_1069
  let c0_i32_1551 : BitVec 32 := 0#32
  ![v21.toNat, v22.toNat, v1559.toNat, v1561.toNat, v1564.toNat, 0]
def k1_off205 (i : grid1.Coords) (v1559 : BitVec 32) (v1561 : BitVec 32) (v1563 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1069 : BitVec 32 := 8#32
  let v1564 : BitVec 32 := Scalar.muli v1563 c8_i32_1069
  let c0_i32_1558 : BitVec 32 := 0#32
  ![v21.toNat, v22.toNat, v1559.toNat, v1561.toNat, v1564.toNat, 0]

def k1_chk89 (i : grid1.Coords) (v1559 : BitVec 32) (v1561 : BitVec 32) (v1563 : BitVec 32) : Prop :=
  (∀ (k1_h1 : k1_cond1 i = 1#1), ∀ a, (k1_off140 i v1559 v1561 v1563) a + S1x1x1x1x8x20.size a ≤ S3x8x9x80x80x20.size a) ∧
  (∀ (k1_h1 : k1_cond1 i = 1#1), ∀ a, (k1_off141 i v1559 v1561 v1563) a + S1x1x1x1x8x5.size a ≤ S3x8x9x80x80x5.size a) ∧
  (∀ (k1_h1 : k1_cond1 i = 1#1), ∀ a, (k1_off204 i v1559 v1561 v1563) a + S1x1x1x1x8x20.size a ≤ S3x8x9x80x80x20.size a) ∧
  (∀ (k1_h1 : k1_cond1 i = 1#1), ∀ a, (k1_off205 i v1559 v1561 v1563) a + S1x1x1x1x8x5.size a ≤ S3x8x9x80x80x5.size a)
theorem k1_off140_inb : ∀ (i : grid1.Coords) (v1559 : BitVec 32) (v1561 : BitVec 32) (v1563 : BitVec 32) (k1_hw89 : k1_chk89 i v1559 v1561 v1563), ∀ (k1_h1 : k1_cond1 i = 1#1), ∀ a, (k1_off140 i v1559 v1561 v1563) a + S1x1x1x1x8x20.size a ≤ S3x8x9x80x80x20.size a := fun i v1559 v1561 v1563 k1_hw89 k1_h1 => k1_hw89.1 k1_h1
theorem k1_off141_inb : ∀ (i : grid1.Coords) (v1559 : BitVec 32) (v1561 : BitVec 32) (v1563 : BitVec 32) (k1_hw89 : k1_chk89 i v1559 v1561 v1563), ∀ (k1_h1 : k1_cond1 i = 1#1), ∀ a, (k1_off141 i v1559 v1561 v1563) a + S1x1x1x1x8x5.size a ≤ S3x8x9x80x80x5.size a := fun i v1559 v1561 v1563 k1_hw89 k1_h1 => k1_hw89.2.1 k1_h1
theorem k1_off204_inb : ∀ (i : grid1.Coords) (v1559 : BitVec 32) (v1561 : BitVec 32) (v1563 : BitVec 32) (k1_hw89 : k1_chk89 i v1559 v1561 v1563), ∀ (k1_h1 : k1_cond1 i = 1#1), ∀ a, (k1_off204 i v1559 v1561 v1563) a + S1x1x1x1x8x20.size a ≤ S3x8x9x80x80x20.size a := fun i v1559 v1561 v1563 k1_hw89 k1_h1 => k1_hw89.2.2.1 k1_h1
theorem k1_off205_inb : ∀ (i : grid1.Coords) (v1559 : BitVec 32) (v1561 : BitVec 32) (v1563 : BitVec 32) (k1_hw89 : k1_chk89 i v1559 v1561 v1563), ∀ (k1_h1 : k1_cond1 i = 1#1), ∀ a, (k1_off205 i v1559 v1561 v1563) a + S1x1x1x1x8x5.size a ≤ S3x8x9x80x80x5.size a := fun i v1559 v1561 v1563 k1_hw89 k1_h1 => k1_hw89.2.2.2 k1_h1

def k1_off206 (i : grid1.Coords) (v1582 : BitVec 32) (v1584 : BitVec 32) (v1586 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1084 : BitVec 32 := 8#32
  let v1587 : BitVec 32 := Scalar.muli v1586 c8_i32_1084
  let c0_i32_1565 : BitVec 32 := 0#32
  ![v21.toNat, v22.toNat, v1582.toNat, v1584.toNat, v1587.toNat, 0]
def k1_off207 (i : grid1.Coords) (v1582 : BitVec 32) (v1584 : BitVec 32) (v1586 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1084 : BitVec 32 := 8#32
  let v1587 : BitVec 32 := Scalar.muli v1586 c8_i32_1084
  let c0_i32_1572 : BitVec 32 := 0#32
  ![v21.toNat, v22.toNat, v1582.toNat, v1584.toNat, v1587.toNat, 0]

def k1_chk90 (i : grid1.Coords) (v1582 : BitVec 32) (v1584 : BitVec 32) (v1586 : BitVec 32) : Prop :=
  (∀ (k1_h1 : k1_cond1 i = 1#1), ∀ a, (k1_off142 i v1582 v1584 v1586) a + S1x1x1x1x8x20.size a ≤ S3x8x9x80x80x20.size a) ∧
  (∀ (k1_h1 : k1_cond1 i = 1#1), ∀ a, (k1_off143 i v1582 v1584 v1586) a + S1x1x1x1x8x5.size a ≤ S3x8x9x80x80x5.size a) ∧
  (∀ (k1_h1 : k1_cond1 i = 1#1), ∀ a, (k1_off206 i v1582 v1584 v1586) a + S1x1x1x1x8x20.size a ≤ S3x8x9x80x80x20.size a) ∧
  (∀ (k1_h1 : k1_cond1 i = 1#1), ∀ a, (k1_off207 i v1582 v1584 v1586) a + S1x1x1x1x8x5.size a ≤ S3x8x9x80x80x5.size a)
theorem k1_off142_inb : ∀ (i : grid1.Coords) (v1582 : BitVec 32) (v1584 : BitVec 32) (v1586 : BitVec 32) (k1_hw90 : k1_chk90 i v1582 v1584 v1586), ∀ (k1_h1 : k1_cond1 i = 1#1), ∀ a, (k1_off142 i v1582 v1584 v1586) a + S1x1x1x1x8x20.size a ≤ S3x8x9x80x80x20.size a := fun i v1582 v1584 v1586 k1_hw90 k1_h1 => k1_hw90.1 k1_h1
theorem k1_off143_inb : ∀ (i : grid1.Coords) (v1582 : BitVec 32) (v1584 : BitVec 32) (v1586 : BitVec 32) (k1_hw90 : k1_chk90 i v1582 v1584 v1586), ∀ (k1_h1 : k1_cond1 i = 1#1), ∀ a, (k1_off143 i v1582 v1584 v1586) a + S1x1x1x1x8x5.size a ≤ S3x8x9x80x80x5.size a := fun i v1582 v1584 v1586 k1_hw90 k1_h1 => k1_hw90.2.1 k1_h1
theorem k1_off206_inb : ∀ (i : grid1.Coords) (v1582 : BitVec 32) (v1584 : BitVec 32) (v1586 : BitVec 32) (k1_hw90 : k1_chk90 i v1582 v1584 v1586), ∀ (k1_h1 : k1_cond1 i = 1#1), ∀ a, (k1_off206 i v1582 v1584 v1586) a + S1x1x1x1x8x20.size a ≤ S3x8x9x80x80x20.size a := fun i v1582 v1584 v1586 k1_hw90 k1_h1 => k1_hw90.2.2.1 k1_h1
theorem k1_off207_inb : ∀ (i : grid1.Coords) (v1582 : BitVec 32) (v1584 : BitVec 32) (v1586 : BitVec 32) (k1_hw90 : k1_chk90 i v1582 v1584 v1586), ∀ (k1_h1 : k1_cond1 i = 1#1), ∀ a, (k1_off207 i v1582 v1584 v1586) a + S1x1x1x1x8x5.size a ≤ S3x8x9x80x80x5.size a := fun i v1582 v1584 v1586 k1_hw90 k1_h1 => k1_hw90.2.2.2 k1_h1

def k1_off208 (i : grid1.Coords) (v1605 : BitVec 32) (v1607 : BitVec 32) (v1609 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1099 : BitVec 32 := 8#32
  let v1610 : BitVec 32 := Scalar.muli v1609 c8_i32_1099
  let c0_i32_1579 : BitVec 32 := 0#32
  ![v21.toNat, v22.toNat, v1605.toNat, v1607.toNat, v1610.toNat, 0]
def k1_off209 (i : grid1.Coords) (v1605 : BitVec 32) (v1607 : BitVec 32) (v1609 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1099 : BitVec 32 := 8#32
  let v1610 : BitVec 32 := Scalar.muli v1609 c8_i32_1099
  let c0_i32_1586 : BitVec 32 := 0#32
  ![v21.toNat, v22.toNat, v1605.toNat, v1607.toNat, v1610.toNat, 0]

def k1_chk91 (i : grid1.Coords) (v1605 : BitVec 32) (v1607 : BitVec 32) (v1609 : BitVec 32) : Prop :=
  (∀ (k1_h1 : k1_cond1 i = 1#1), ∀ a, (k1_off144 i v1605 v1607 v1609) a + S1x1x1x1x8x20.size a ≤ S3x8x9x80x80x20.size a) ∧
  (∀ (k1_h1 : k1_cond1 i = 1#1), ∀ a, (k1_off145 i v1605 v1607 v1609) a + S1x1x1x1x8x5.size a ≤ S3x8x9x80x80x5.size a) ∧
  (∀ (k1_h1 : k1_cond1 i = 1#1), ∀ a, (k1_off208 i v1605 v1607 v1609) a + S1x1x1x1x8x20.size a ≤ S3x8x9x80x80x20.size a) ∧
  (∀ (k1_h1 : k1_cond1 i = 1#1), ∀ a, (k1_off209 i v1605 v1607 v1609) a + S1x1x1x1x8x5.size a ≤ S3x8x9x80x80x5.size a)
theorem k1_off144_inb : ∀ (i : grid1.Coords) (v1605 : BitVec 32) (v1607 : BitVec 32) (v1609 : BitVec 32) (k1_hw91 : k1_chk91 i v1605 v1607 v1609), ∀ (k1_h1 : k1_cond1 i = 1#1), ∀ a, (k1_off144 i v1605 v1607 v1609) a + S1x1x1x1x8x20.size a ≤ S3x8x9x80x80x20.size a := fun i v1605 v1607 v1609 k1_hw91 k1_h1 => k1_hw91.1 k1_h1
theorem k1_off145_inb : ∀ (i : grid1.Coords) (v1605 : BitVec 32) (v1607 : BitVec 32) (v1609 : BitVec 32) (k1_hw91 : k1_chk91 i v1605 v1607 v1609), ∀ (k1_h1 : k1_cond1 i = 1#1), ∀ a, (k1_off145 i v1605 v1607 v1609) a + S1x1x1x1x8x5.size a ≤ S3x8x9x80x80x5.size a := fun i v1605 v1607 v1609 k1_hw91 k1_h1 => k1_hw91.2.1 k1_h1
theorem k1_off208_inb : ∀ (i : grid1.Coords) (v1605 : BitVec 32) (v1607 : BitVec 32) (v1609 : BitVec 32) (k1_hw91 : k1_chk91 i v1605 v1607 v1609), ∀ (k1_h1 : k1_cond1 i = 1#1), ∀ a, (k1_off208 i v1605 v1607 v1609) a + S1x1x1x1x8x20.size a ≤ S3x8x9x80x80x20.size a := fun i v1605 v1607 v1609 k1_hw91 k1_h1 => k1_hw91.2.2.1 k1_h1
theorem k1_off209_inb : ∀ (i : grid1.Coords) (v1605 : BitVec 32) (v1607 : BitVec 32) (v1609 : BitVec 32) (k1_hw91 : k1_chk91 i v1605 v1607 v1609), ∀ (k1_h1 : k1_cond1 i = 1#1), ∀ a, (k1_off209 i v1605 v1607 v1609) a + S1x1x1x1x8x5.size a ≤ S3x8x9x80x80x5.size a := fun i v1605 v1607 v1609 k1_hw91 k1_h1 => k1_hw91.2.2.2 k1_h1

def k1_off210 (i : grid1.Coords) (v1628 : BitVec 32) (v1630 : BitVec 32) (v1632 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1114 : BitVec 32 := 8#32
  let v1633 : BitVec 32 := Scalar.muli v1632 c8_i32_1114
  let c0_i32_1593 : BitVec 32 := 0#32
  ![v21.toNat, v22.toNat, v1628.toNat, v1630.toNat, v1633.toNat, 0]
def k1_off211 (i : grid1.Coords) (v1628 : BitVec 32) (v1630 : BitVec 32) (v1632 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1114 : BitVec 32 := 8#32
  let v1633 : BitVec 32 := Scalar.muli v1632 c8_i32_1114
  let c0_i32_1600 : BitVec 32 := 0#32
  ![v21.toNat, v22.toNat, v1628.toNat, v1630.toNat, v1633.toNat, 0]

def k1_chk92 (i : grid1.Coords) (v1628 : BitVec 32) (v1630 : BitVec 32) (v1632 : BitVec 32) : Prop :=
  (∀ (k1_h1 : k1_cond1 i = 1#1), ∀ a, (k1_off146 i v1628 v1630 v1632) a + S1x1x1x1x8x20.size a ≤ S3x8x9x80x80x20.size a) ∧
  (∀ (k1_h1 : k1_cond1 i = 1#1), ∀ a, (k1_off147 i v1628 v1630 v1632) a + S1x1x1x1x8x5.size a ≤ S3x8x9x80x80x5.size a) ∧
  (∀ (k1_h1 : k1_cond1 i = 1#1), ∀ a, (k1_off210 i v1628 v1630 v1632) a + S1x1x1x1x8x20.size a ≤ S3x8x9x80x80x20.size a) ∧
  (∀ (k1_h1 : k1_cond1 i = 1#1), ∀ a, (k1_off211 i v1628 v1630 v1632) a + S1x1x1x1x8x5.size a ≤ S3x8x9x80x80x5.size a)
theorem k1_off146_inb : ∀ (i : grid1.Coords) (v1628 : BitVec 32) (v1630 : BitVec 32) (v1632 : BitVec 32) (k1_hw92 : k1_chk92 i v1628 v1630 v1632), ∀ (k1_h1 : k1_cond1 i = 1#1), ∀ a, (k1_off146 i v1628 v1630 v1632) a + S1x1x1x1x8x20.size a ≤ S3x8x9x80x80x20.size a := fun i v1628 v1630 v1632 k1_hw92 k1_h1 => k1_hw92.1 k1_h1
theorem k1_off147_inb : ∀ (i : grid1.Coords) (v1628 : BitVec 32) (v1630 : BitVec 32) (v1632 : BitVec 32) (k1_hw92 : k1_chk92 i v1628 v1630 v1632), ∀ (k1_h1 : k1_cond1 i = 1#1), ∀ a, (k1_off147 i v1628 v1630 v1632) a + S1x1x1x1x8x5.size a ≤ S3x8x9x80x80x5.size a := fun i v1628 v1630 v1632 k1_hw92 k1_h1 => k1_hw92.2.1 k1_h1
theorem k1_off210_inb : ∀ (i : grid1.Coords) (v1628 : BitVec 32) (v1630 : BitVec 32) (v1632 : BitVec 32) (k1_hw92 : k1_chk92 i v1628 v1630 v1632), ∀ (k1_h1 : k1_cond1 i = 1#1), ∀ a, (k1_off210 i v1628 v1630 v1632) a + S1x1x1x1x8x20.size a ≤ S3x8x9x80x80x20.size a := fun i v1628 v1630 v1632 k1_hw92 k1_h1 => k1_hw92.2.2.1 k1_h1
theorem k1_off211_inb : ∀ (i : grid1.Coords) (v1628 : BitVec 32) (v1630 : BitVec 32) (v1632 : BitVec 32) (k1_hw92 : k1_chk92 i v1628 v1630 v1632), ∀ (k1_h1 : k1_cond1 i = 1#1), ∀ a, (k1_off211 i v1628 v1630 v1632) a + S1x1x1x1x8x5.size a ≤ S3x8x9x80x80x5.size a := fun i v1628 v1630 v1632 k1_hw92 k1_h1 => k1_hw92.2.2.2 k1_h1

def k1_off212 (i : grid1.Coords) (v1651 : BitVec 32) (v1653 : BitVec 32) (v1655 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1129 : BitVec 32 := 8#32
  let v1656 : BitVec 32 := Scalar.muli v1655 c8_i32_1129
  let c0_i32_1607 : BitVec 32 := 0#32
  ![v21.toNat, v22.toNat, v1651.toNat, v1653.toNat, v1656.toNat, 0]
def k1_off213 (i : grid1.Coords) (v1651 : BitVec 32) (v1653 : BitVec 32) (v1655 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1129 : BitVec 32 := 8#32
  let v1656 : BitVec 32 := Scalar.muli v1655 c8_i32_1129
  let c0_i32_1614 : BitVec 32 := 0#32
  ![v21.toNat, v22.toNat, v1651.toNat, v1653.toNat, v1656.toNat, 0]

def k1_chk93 (i : grid1.Coords) (v1651 : BitVec 32) (v1653 : BitVec 32) (v1655 : BitVec 32) : Prop :=
  (∀ (k1_h1 : k1_cond1 i = 1#1), ∀ a, (k1_off148 i v1651 v1653 v1655) a + S1x1x1x1x8x20.size a ≤ S3x8x9x80x80x20.size a) ∧
  (∀ (k1_h1 : k1_cond1 i = 1#1), ∀ a, (k1_off149 i v1651 v1653 v1655) a + S1x1x1x1x8x5.size a ≤ S3x8x9x80x80x5.size a) ∧
  (∀ (k1_h1 : k1_cond1 i = 1#1), ∀ a, (k1_off212 i v1651 v1653 v1655) a + S1x1x1x1x8x20.size a ≤ S3x8x9x80x80x20.size a) ∧
  (∀ (k1_h1 : k1_cond1 i = 1#1), ∀ a, (k1_off213 i v1651 v1653 v1655) a + S1x1x1x1x8x5.size a ≤ S3x8x9x80x80x5.size a)
theorem k1_off148_inb : ∀ (i : grid1.Coords) (v1651 : BitVec 32) (v1653 : BitVec 32) (v1655 : BitVec 32) (k1_hw93 : k1_chk93 i v1651 v1653 v1655), ∀ (k1_h1 : k1_cond1 i = 1#1), ∀ a, (k1_off148 i v1651 v1653 v1655) a + S1x1x1x1x8x20.size a ≤ S3x8x9x80x80x20.size a := fun i v1651 v1653 v1655 k1_hw93 k1_h1 => k1_hw93.1 k1_h1
theorem k1_off149_inb : ∀ (i : grid1.Coords) (v1651 : BitVec 32) (v1653 : BitVec 32) (v1655 : BitVec 32) (k1_hw93 : k1_chk93 i v1651 v1653 v1655), ∀ (k1_h1 : k1_cond1 i = 1#1), ∀ a, (k1_off149 i v1651 v1653 v1655) a + S1x1x1x1x8x5.size a ≤ S3x8x9x80x80x5.size a := fun i v1651 v1653 v1655 k1_hw93 k1_h1 => k1_hw93.2.1 k1_h1
theorem k1_off212_inb : ∀ (i : grid1.Coords) (v1651 : BitVec 32) (v1653 : BitVec 32) (v1655 : BitVec 32) (k1_hw93 : k1_chk93 i v1651 v1653 v1655), ∀ (k1_h1 : k1_cond1 i = 1#1), ∀ a, (k1_off212 i v1651 v1653 v1655) a + S1x1x1x1x8x20.size a ≤ S3x8x9x80x80x20.size a := fun i v1651 v1653 v1655 k1_hw93 k1_h1 => k1_hw93.2.2.1 k1_h1
theorem k1_off213_inb : ∀ (i : grid1.Coords) (v1651 : BitVec 32) (v1653 : BitVec 32) (v1655 : BitVec 32) (k1_hw93 : k1_chk93 i v1651 v1653 v1655), ∀ (k1_h1 : k1_cond1 i = 1#1), ∀ a, (k1_off213 i v1651 v1653 v1655) a + S1x1x1x1x8x5.size a ≤ S3x8x9x80x80x5.size a := fun i v1651 v1653 v1655 k1_hw93 k1_h1 => k1_hw93.2.2.2 k1_h1

def k1_off214 (i : grid1.Coords) (v1674 : BitVec 32) (v1676 : BitVec 32) (v1678 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1144 : BitVec 32 := 8#32
  let v1679 : BitVec 32 := Scalar.muli v1678 c8_i32_1144
  let c0_i32_1621 : BitVec 32 := 0#32
  ![v21.toNat, v22.toNat, v1674.toNat, v1676.toNat, v1679.toNat, 0]
def k1_off215 (i : grid1.Coords) (v1674 : BitVec 32) (v1676 : BitVec 32) (v1678 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1144 : BitVec 32 := 8#32
  let v1679 : BitVec 32 := Scalar.muli v1678 c8_i32_1144
  let c0_i32_1628 : BitVec 32 := 0#32
  ![v21.toNat, v22.toNat, v1674.toNat, v1676.toNat, v1679.toNat, 0]

def k1_chk94 (i : grid1.Coords) (v1674 : BitVec 32) (v1676 : BitVec 32) (v1678 : BitVec 32) : Prop :=
  (∀ (k1_h1 : k1_cond1 i = 1#1), ∀ a, (k1_off150 i v1674 v1676 v1678) a + S1x1x1x1x8x20.size a ≤ S3x8x9x80x80x20.size a) ∧
  (∀ (k1_h1 : k1_cond1 i = 1#1), ∀ a, (k1_off151 i v1674 v1676 v1678) a + S1x1x1x1x8x5.size a ≤ S3x8x9x80x80x5.size a) ∧
  (∀ (k1_h1 : k1_cond1 i = 1#1), ∀ a, (k1_off214 i v1674 v1676 v1678) a + S1x1x1x1x8x20.size a ≤ S3x8x9x80x80x20.size a) ∧
  (∀ (k1_h1 : k1_cond1 i = 1#1), ∀ a, (k1_off215 i v1674 v1676 v1678) a + S1x1x1x1x8x5.size a ≤ S3x8x9x80x80x5.size a)
theorem k1_off150_inb : ∀ (i : grid1.Coords) (v1674 : BitVec 32) (v1676 : BitVec 32) (v1678 : BitVec 32) (k1_hw94 : k1_chk94 i v1674 v1676 v1678), ∀ (k1_h1 : k1_cond1 i = 1#1), ∀ a, (k1_off150 i v1674 v1676 v1678) a + S1x1x1x1x8x20.size a ≤ S3x8x9x80x80x20.size a := fun i v1674 v1676 v1678 k1_hw94 k1_h1 => k1_hw94.1 k1_h1
theorem k1_off151_inb : ∀ (i : grid1.Coords) (v1674 : BitVec 32) (v1676 : BitVec 32) (v1678 : BitVec 32) (k1_hw94 : k1_chk94 i v1674 v1676 v1678), ∀ (k1_h1 : k1_cond1 i = 1#1), ∀ a, (k1_off151 i v1674 v1676 v1678) a + S1x1x1x1x8x5.size a ≤ S3x8x9x80x80x5.size a := fun i v1674 v1676 v1678 k1_hw94 k1_h1 => k1_hw94.2.1 k1_h1
theorem k1_off214_inb : ∀ (i : grid1.Coords) (v1674 : BitVec 32) (v1676 : BitVec 32) (v1678 : BitVec 32) (k1_hw94 : k1_chk94 i v1674 v1676 v1678), ∀ (k1_h1 : k1_cond1 i = 1#1), ∀ a, (k1_off214 i v1674 v1676 v1678) a + S1x1x1x1x8x20.size a ≤ S3x8x9x80x80x20.size a := fun i v1674 v1676 v1678 k1_hw94 k1_h1 => k1_hw94.2.2.1 k1_h1
theorem k1_off215_inb : ∀ (i : grid1.Coords) (v1674 : BitVec 32) (v1676 : BitVec 32) (v1678 : BitVec 32) (k1_hw94 : k1_chk94 i v1674 v1676 v1678), ∀ (k1_h1 : k1_cond1 i = 1#1), ∀ a, (k1_off215 i v1674 v1676 v1678) a + S1x1x1x1x8x5.size a ≤ S3x8x9x80x80x5.size a := fun i v1674 v1676 v1678 k1_hw94 k1_h1 => k1_hw94.2.2.2 k1_h1

def k1_off216 (i : grid1.Coords) (v1697 : BitVec 32) (v1699 : BitVec 32) (v1701 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1159 : BitVec 32 := 8#32
  let v1702 : BitVec 32 := Scalar.muli v1701 c8_i32_1159
  let c0_i32_1635 : BitVec 32 := 0#32
  ![v21.toNat, v22.toNat, v1697.toNat, v1699.toNat, v1702.toNat, 0]
def k1_off217 (i : grid1.Coords) (v1697 : BitVec 32) (v1699 : BitVec 32) (v1701 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1159 : BitVec 32 := 8#32
  let v1702 : BitVec 32 := Scalar.muli v1701 c8_i32_1159
  let c0_i32_1642 : BitVec 32 := 0#32
  ![v21.toNat, v22.toNat, v1697.toNat, v1699.toNat, v1702.toNat, 0]

def k1_chk95 (i : grid1.Coords) (v1697 : BitVec 32) (v1699 : BitVec 32) (v1701 : BitVec 32) : Prop :=
  (∀ (k1_h1 : k1_cond1 i = 1#1), ∀ a, (k1_off152 i v1697 v1699 v1701) a + S1x1x1x1x8x20.size a ≤ S3x8x9x80x80x20.size a) ∧
  (∀ (k1_h1 : k1_cond1 i = 1#1), ∀ a, (k1_off153 i v1697 v1699 v1701) a + S1x1x1x1x8x5.size a ≤ S3x8x9x80x80x5.size a) ∧
  (∀ (k1_h1 : k1_cond1 i = 1#1), ∀ a, (k1_off216 i v1697 v1699 v1701) a + S1x1x1x1x8x20.size a ≤ S3x8x9x80x80x20.size a) ∧
  (∀ (k1_h1 : k1_cond1 i = 1#1), ∀ a, (k1_off217 i v1697 v1699 v1701) a + S1x1x1x1x8x5.size a ≤ S3x8x9x80x80x5.size a)
theorem k1_off152_inb : ∀ (i : grid1.Coords) (v1697 : BitVec 32) (v1699 : BitVec 32) (v1701 : BitVec 32) (k1_hw95 : k1_chk95 i v1697 v1699 v1701), ∀ (k1_h1 : k1_cond1 i = 1#1), ∀ a, (k1_off152 i v1697 v1699 v1701) a + S1x1x1x1x8x20.size a ≤ S3x8x9x80x80x20.size a := fun i v1697 v1699 v1701 k1_hw95 k1_h1 => k1_hw95.1 k1_h1
theorem k1_off153_inb : ∀ (i : grid1.Coords) (v1697 : BitVec 32) (v1699 : BitVec 32) (v1701 : BitVec 32) (k1_hw95 : k1_chk95 i v1697 v1699 v1701), ∀ (k1_h1 : k1_cond1 i = 1#1), ∀ a, (k1_off153 i v1697 v1699 v1701) a + S1x1x1x1x8x5.size a ≤ S3x8x9x80x80x5.size a := fun i v1697 v1699 v1701 k1_hw95 k1_h1 => k1_hw95.2.1 k1_h1
theorem k1_off216_inb : ∀ (i : grid1.Coords) (v1697 : BitVec 32) (v1699 : BitVec 32) (v1701 : BitVec 32) (k1_hw95 : k1_chk95 i v1697 v1699 v1701), ∀ (k1_h1 : k1_cond1 i = 1#1), ∀ a, (k1_off216 i v1697 v1699 v1701) a + S1x1x1x1x8x20.size a ≤ S3x8x9x80x80x20.size a := fun i v1697 v1699 v1701 k1_hw95 k1_h1 => k1_hw95.2.2.1 k1_h1
theorem k1_off217_inb : ∀ (i : grid1.Coords) (v1697 : BitVec 32) (v1699 : BitVec 32) (v1701 : BitVec 32) (k1_hw95 : k1_chk95 i v1697 v1699 v1701), ∀ (k1_h1 : k1_cond1 i = 1#1), ∀ a, (k1_off217 i v1697 v1699 v1701) a + S1x1x1x1x8x5.size a ≤ S3x8x9x80x80x5.size a := fun i v1697 v1699 v1701 k1_hw95 k1_h1 => k1_hw95.2.2.2 k1_h1

def k1_off218 (i : grid1.Coords) (v1720 : BitVec 32) (v1722 : BitVec 32) (v1724 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1174 : BitVec 32 := 8#32
  let v1725 : BitVec 32 := Scalar.muli v1724 c8_i32_1174
  let c0_i32_1649 : BitVec 32 := 0#32
  ![v21.toNat, v22.toNat, v1720.toNat, v1722.toNat, v1725.toNat, 0]
def k1_off219 (i : grid1.Coords) (v1720 : BitVec 32) (v1722 : BitVec 32) (v1724 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1174 : BitVec 32 := 8#32
  let v1725 : BitVec 32 := Scalar.muli v1724 c8_i32_1174
  let c0_i32_1656 : BitVec 32 := 0#32
  ![v21.toNat, v22.toNat, v1720.toNat, v1722.toNat, v1725.toNat, 0]

def k1_chk96 (i : grid1.Coords) (v1720 : BitVec 32) (v1722 : BitVec 32) (v1724 : BitVec 32) : Prop :=
  (∀ (k1_h1 : k1_cond1 i = 1#1), ∀ a, (k1_off154 i v1720 v1722 v1724) a + S1x1x1x1x8x20.size a ≤ S3x8x9x80x80x20.size a) ∧
  (∀ (k1_h1 : k1_cond1 i = 1#1), ∀ a, (k1_off155 i v1720 v1722 v1724) a + S1x1x1x1x8x5.size a ≤ S3x8x9x80x80x5.size a) ∧
  (∀ (k1_h1 : k1_cond1 i = 1#1), ∀ a, (k1_off218 i v1720 v1722 v1724) a + S1x1x1x1x8x20.size a ≤ S3x8x9x80x80x20.size a) ∧
  (∀ (k1_h1 : k1_cond1 i = 1#1), ∀ a, (k1_off219 i v1720 v1722 v1724) a + S1x1x1x1x8x5.size a ≤ S3x8x9x80x80x5.size a)
theorem k1_off154_inb : ∀ (i : grid1.Coords) (v1720 : BitVec 32) (v1722 : BitVec 32) (v1724 : BitVec 32) (k1_hw96 : k1_chk96 i v1720 v1722 v1724), ∀ (k1_h1 : k1_cond1 i = 1#1), ∀ a, (k1_off154 i v1720 v1722 v1724) a + S1x1x1x1x8x20.size a ≤ S3x8x9x80x80x20.size a := fun i v1720 v1722 v1724 k1_hw96 k1_h1 => k1_hw96.1 k1_h1
theorem k1_off155_inb : ∀ (i : grid1.Coords) (v1720 : BitVec 32) (v1722 : BitVec 32) (v1724 : BitVec 32) (k1_hw96 : k1_chk96 i v1720 v1722 v1724), ∀ (k1_h1 : k1_cond1 i = 1#1), ∀ a, (k1_off155 i v1720 v1722 v1724) a + S1x1x1x1x8x5.size a ≤ S3x8x9x80x80x5.size a := fun i v1720 v1722 v1724 k1_hw96 k1_h1 => k1_hw96.2.1 k1_h1
theorem k1_off218_inb : ∀ (i : grid1.Coords) (v1720 : BitVec 32) (v1722 : BitVec 32) (v1724 : BitVec 32) (k1_hw96 : k1_chk96 i v1720 v1722 v1724), ∀ (k1_h1 : k1_cond1 i = 1#1), ∀ a, (k1_off218 i v1720 v1722 v1724) a + S1x1x1x1x8x20.size a ≤ S3x8x9x80x80x20.size a := fun i v1720 v1722 v1724 k1_hw96 k1_h1 => k1_hw96.2.2.1 k1_h1
theorem k1_off219_inb : ∀ (i : grid1.Coords) (v1720 : BitVec 32) (v1722 : BitVec 32) (v1724 : BitVec 32) (k1_hw96 : k1_chk96 i v1720 v1722 v1724), ∀ (k1_h1 : k1_cond1 i = 1#1), ∀ a, (k1_off219 i v1720 v1722 v1724) a + S1x1x1x1x8x5.size a ≤ S3x8x9x80x80x5.size a := fun i v1720 v1722 v1724 k1_hw96 k1_h1 => k1_hw96.2.2.2 k1_h1

def k1_off220 (i : grid1.Coords) (v1743 : BitVec 32) (v1745 : BitVec 32) (v1747 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1189 : BitVec 32 := 8#32
  let v1748 : BitVec 32 := Scalar.muli v1747 c8_i32_1189
  let c0_i32_1663 : BitVec 32 := 0#32
  ![v21.toNat, v22.toNat, v1743.toNat, v1745.toNat, v1748.toNat, 0]
def k1_off221 (i : grid1.Coords) (v1743 : BitVec 32) (v1745 : BitVec 32) (v1747 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1189 : BitVec 32 := 8#32
  let v1748 : BitVec 32 := Scalar.muli v1747 c8_i32_1189
  let c0_i32_1670 : BitVec 32 := 0#32
  ![v21.toNat, v22.toNat, v1743.toNat, v1745.toNat, v1748.toNat, 0]

def k1_chk97 (i : grid1.Coords) (v1743 : BitVec 32) (v1745 : BitVec 32) (v1747 : BitVec 32) : Prop :=
  (∀ (k1_h1 : k1_cond1 i = 1#1), ∀ a, (k1_off156 i v1743 v1745 v1747) a + S1x1x1x1x8x20.size a ≤ S3x8x9x80x80x20.size a) ∧
  (∀ (k1_h1 : k1_cond1 i = 1#1), ∀ a, (k1_off157 i v1743 v1745 v1747) a + S1x1x1x1x8x5.size a ≤ S3x8x9x80x80x5.size a) ∧
  (∀ (k1_h1 : k1_cond1 i = 1#1), ∀ a, (k1_off220 i v1743 v1745 v1747) a + S1x1x1x1x8x20.size a ≤ S3x8x9x80x80x20.size a) ∧
  (∀ (k1_h1 : k1_cond1 i = 1#1), ∀ a, (k1_off221 i v1743 v1745 v1747) a + S1x1x1x1x8x5.size a ≤ S3x8x9x80x80x5.size a)
theorem k1_off156_inb : ∀ (i : grid1.Coords) (v1743 : BitVec 32) (v1745 : BitVec 32) (v1747 : BitVec 32) (k1_hw97 : k1_chk97 i v1743 v1745 v1747), ∀ (k1_h1 : k1_cond1 i = 1#1), ∀ a, (k1_off156 i v1743 v1745 v1747) a + S1x1x1x1x8x20.size a ≤ S3x8x9x80x80x20.size a := fun i v1743 v1745 v1747 k1_hw97 k1_h1 => k1_hw97.1 k1_h1
theorem k1_off157_inb : ∀ (i : grid1.Coords) (v1743 : BitVec 32) (v1745 : BitVec 32) (v1747 : BitVec 32) (k1_hw97 : k1_chk97 i v1743 v1745 v1747), ∀ (k1_h1 : k1_cond1 i = 1#1), ∀ a, (k1_off157 i v1743 v1745 v1747) a + S1x1x1x1x8x5.size a ≤ S3x8x9x80x80x5.size a := fun i v1743 v1745 v1747 k1_hw97 k1_h1 => k1_hw97.2.1 k1_h1
theorem k1_off220_inb : ∀ (i : grid1.Coords) (v1743 : BitVec 32) (v1745 : BitVec 32) (v1747 : BitVec 32) (k1_hw97 : k1_chk97 i v1743 v1745 v1747), ∀ (k1_h1 : k1_cond1 i = 1#1), ∀ a, (k1_off220 i v1743 v1745 v1747) a + S1x1x1x1x8x20.size a ≤ S3x8x9x80x80x20.size a := fun i v1743 v1745 v1747 k1_hw97 k1_h1 => k1_hw97.2.2.1 k1_h1
theorem k1_off221_inb : ∀ (i : grid1.Coords) (v1743 : BitVec 32) (v1745 : BitVec 32) (v1747 : BitVec 32) (k1_hw97 : k1_chk97 i v1743 v1745 v1747), ∀ (k1_h1 : k1_cond1 i = 1#1), ∀ a, (k1_off221 i v1743 v1745 v1747) a + S1x1x1x1x8x5.size a ≤ S3x8x9x80x80x5.size a := fun i v1743 v1745 v1747 k1_hw97 k1_h1 => k1_hw97.2.2.2 k1_h1

def k1_off222 (i : grid1.Coords) (v1766 : BitVec 32) (v1768 : BitVec 32) (v1770 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1204 : BitVec 32 := 8#32
  let v1771 : BitVec 32 := Scalar.muli v1770 c8_i32_1204
  let c0_i32_1677 : BitVec 32 := 0#32
  ![v21.toNat, v22.toNat, v1766.toNat, v1768.toNat, v1771.toNat, 0]
def k1_off223 (i : grid1.Coords) (v1766 : BitVec 32) (v1768 : BitVec 32) (v1770 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1204 : BitVec 32 := 8#32
  let v1771 : BitVec 32 := Scalar.muli v1770 c8_i32_1204
  let c0_i32_1684 : BitVec 32 := 0#32
  ![v21.toNat, v22.toNat, v1766.toNat, v1768.toNat, v1771.toNat, 0]

def k1_chk98 (i : grid1.Coords) (v1766 : BitVec 32) (v1768 : BitVec 32) (v1770 : BitVec 32) : Prop :=
  (∀ (k1_h1 : k1_cond1 i = 1#1), ∀ a, (k1_off158 i v1766 v1768 v1770) a + S1x1x1x1x8x20.size a ≤ S3x8x9x80x80x20.size a) ∧
  (∀ (k1_h1 : k1_cond1 i = 1#1), ∀ a, (k1_off159 i v1766 v1768 v1770) a + S1x1x1x1x8x5.size a ≤ S3x8x9x80x80x5.size a) ∧
  (∀ (k1_h1 : k1_cond1 i = 1#1), ∀ a, (k1_off222 i v1766 v1768 v1770) a + S1x1x1x1x8x20.size a ≤ S3x8x9x80x80x20.size a) ∧
  (∀ (k1_h1 : k1_cond1 i = 1#1), ∀ a, (k1_off223 i v1766 v1768 v1770) a + S1x1x1x1x8x5.size a ≤ S3x8x9x80x80x5.size a)
theorem k1_off158_inb : ∀ (i : grid1.Coords) (v1766 : BitVec 32) (v1768 : BitVec 32) (v1770 : BitVec 32) (k1_hw98 : k1_chk98 i v1766 v1768 v1770), ∀ (k1_h1 : k1_cond1 i = 1#1), ∀ a, (k1_off158 i v1766 v1768 v1770) a + S1x1x1x1x8x20.size a ≤ S3x8x9x80x80x20.size a := fun i v1766 v1768 v1770 k1_hw98 k1_h1 => k1_hw98.1 k1_h1
theorem k1_off159_inb : ∀ (i : grid1.Coords) (v1766 : BitVec 32) (v1768 : BitVec 32) (v1770 : BitVec 32) (k1_hw98 : k1_chk98 i v1766 v1768 v1770), ∀ (k1_h1 : k1_cond1 i = 1#1), ∀ a, (k1_off159 i v1766 v1768 v1770) a + S1x1x1x1x8x5.size a ≤ S3x8x9x80x80x5.size a := fun i v1766 v1768 v1770 k1_hw98 k1_h1 => k1_hw98.2.1 k1_h1
theorem k1_off222_inb : ∀ (i : grid1.Coords) (v1766 : BitVec 32) (v1768 : BitVec 32) (v1770 : BitVec 32) (k1_hw98 : k1_chk98 i v1766 v1768 v1770), ∀ (k1_h1 : k1_cond1 i = 1#1), ∀ a, (k1_off222 i v1766 v1768 v1770) a + S1x1x1x1x8x20.size a ≤ S3x8x9x80x80x20.size a := fun i v1766 v1768 v1770 k1_hw98 k1_h1 => k1_hw98.2.2.1 k1_h1
theorem k1_off223_inb : ∀ (i : grid1.Coords) (v1766 : BitVec 32) (v1768 : BitVec 32) (v1770 : BitVec 32) (k1_hw98 : k1_chk98 i v1766 v1768 v1770), ∀ (k1_h1 : k1_cond1 i = 1#1), ∀ a, (k1_off223 i v1766 v1768 v1770) a + S1x1x1x1x8x5.size a ≤ S3x8x9x80x80x5.size a := fun i v1766 v1768 v1770 k1_hw98 k1_h1 => k1_hw98.2.2.2 k1_h1

def k1_off224 (i : grid1.Coords) (v1800 : BitVec 32) (v1802 : BitVec 32) (v1804 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1224 : BitVec 32 := 8#32
  let v1805 : BitVec 32 := Scalar.muli v1804 c8_i32_1224
  let c0_i32_1691 : BitVec 32 := 0#32
  ![v21.toNat, v22.toNat, v1800.toNat, v1802.toNat, v1805.toNat, 0]
def k1_off225 (i : grid1.Coords) (v1800 : BitVec 32) (v1802 : BitVec 32) (v1804 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1224 : BitVec 32 := 8#32
  let v1805 : BitVec 32 := Scalar.muli v1804 c8_i32_1224
  let c0_i32_1698 : BitVec 32 := 0#32
  ![v21.toNat, v22.toNat, v1800.toNat, v1802.toNat, v1805.toNat, 0]

def k1_chk99 (i : grid1.Coords) (v1800 : BitVec 32) (v1802 : BitVec 32) (v1804 : BitVec 32) : Prop :=
  (∀ (k1_h1 : k1_cond1 i = 1#1), ∀ a, (k1_off160 i v1800 v1802 v1804) a + S1x1x1x1x8x20.size a ≤ S3x8x9x80x80x20.size a) ∧
  (∀ (k1_h1 : k1_cond1 i = 1#1), ∀ a, (k1_off161 i v1800 v1802 v1804) a + S1x1x1x1x8x5.size a ≤ S3x8x9x80x80x5.size a) ∧
  (∀ (k1_h1 : k1_cond1 i = 1#1), ∀ a, (k1_off224 i v1800 v1802 v1804) a + S1x1x1x1x8x20.size a ≤ S3x8x9x80x80x20.size a) ∧
  (∀ (k1_h1 : k1_cond1 i = 1#1), ∀ a, (k1_off225 i v1800 v1802 v1804) a + S1x1x1x1x8x5.size a ≤ S3x8x9x80x80x5.size a)
theorem k1_off160_inb : ∀ (i : grid1.Coords) (v1800 : BitVec 32) (v1802 : BitVec 32) (v1804 : BitVec 32) (k1_hw99 : k1_chk99 i v1800 v1802 v1804), ∀ (k1_h1 : k1_cond1 i = 1#1), ∀ a, (k1_off160 i v1800 v1802 v1804) a + S1x1x1x1x8x20.size a ≤ S3x8x9x80x80x20.size a := fun i v1800 v1802 v1804 k1_hw99 k1_h1 => k1_hw99.1 k1_h1
theorem k1_off161_inb : ∀ (i : grid1.Coords) (v1800 : BitVec 32) (v1802 : BitVec 32) (v1804 : BitVec 32) (k1_hw99 : k1_chk99 i v1800 v1802 v1804), ∀ (k1_h1 : k1_cond1 i = 1#1), ∀ a, (k1_off161 i v1800 v1802 v1804) a + S1x1x1x1x8x5.size a ≤ S3x8x9x80x80x5.size a := fun i v1800 v1802 v1804 k1_hw99 k1_h1 => k1_hw99.2.1 k1_h1
theorem k1_off224_inb : ∀ (i : grid1.Coords) (v1800 : BitVec 32) (v1802 : BitVec 32) (v1804 : BitVec 32) (k1_hw99 : k1_chk99 i v1800 v1802 v1804), ∀ (k1_h1 : k1_cond1 i = 1#1), ∀ a, (k1_off224 i v1800 v1802 v1804) a + S1x1x1x1x8x20.size a ≤ S3x8x9x80x80x20.size a := fun i v1800 v1802 v1804 k1_hw99 k1_h1 => k1_hw99.2.2.1 k1_h1
theorem k1_off225_inb : ∀ (i : grid1.Coords) (v1800 : BitVec 32) (v1802 : BitVec 32) (v1804 : BitVec 32) (k1_hw99 : k1_chk99 i v1800 v1802 v1804), ∀ (k1_h1 : k1_cond1 i = 1#1), ∀ a, (k1_off225 i v1800 v1802 v1804) a + S1x1x1x1x8x5.size a ≤ S3x8x9x80x80x5.size a := fun i v1800 v1802 v1804 k1_hw99 k1_h1 => k1_hw99.2.2.2 k1_h1

def k1_off226 (i : grid1.Coords) (v1823 : BitVec 32) (v1825 : BitVec 32) (v1827 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1239 : BitVec 32 := 8#32
  let v1828 : BitVec 32 := Scalar.muli v1827 c8_i32_1239
  let c0_i32_1705 : BitVec 32 := 0#32
  ![v21.toNat, v22.toNat, v1823.toNat, v1825.toNat, v1828.toNat, 0]
def k1_off227 (i : grid1.Coords) (v1823 : BitVec 32) (v1825 : BitVec 32) (v1827 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1239 : BitVec 32 := 8#32
  let v1828 : BitVec 32 := Scalar.muli v1827 c8_i32_1239
  let c0_i32_1712 : BitVec 32 := 0#32
  ![v21.toNat, v22.toNat, v1823.toNat, v1825.toNat, v1828.toNat, 0]

def k1_chk100 (i : grid1.Coords) (v1823 : BitVec 32) (v1825 : BitVec 32) (v1827 : BitVec 32) : Prop :=
  (∀ (k1_h1 : k1_cond1 i = 1#1), ∀ a, (k1_off162 i v1823 v1825 v1827) a + S1x1x1x1x8x20.size a ≤ S3x8x9x80x80x20.size a) ∧
  (∀ (k1_h1 : k1_cond1 i = 1#1), ∀ a, (k1_off163 i v1823 v1825 v1827) a + S1x1x1x1x8x5.size a ≤ S3x8x9x80x80x5.size a) ∧
  (∀ (k1_h1 : k1_cond1 i = 1#1), ∀ a, (k1_off226 i v1823 v1825 v1827) a + S1x1x1x1x8x20.size a ≤ S3x8x9x80x80x20.size a) ∧
  (∀ (k1_h1 : k1_cond1 i = 1#1), ∀ a, (k1_off227 i v1823 v1825 v1827) a + S1x1x1x1x8x5.size a ≤ S3x8x9x80x80x5.size a)
theorem k1_off162_inb : ∀ (i : grid1.Coords) (v1823 : BitVec 32) (v1825 : BitVec 32) (v1827 : BitVec 32) (k1_hw100 : k1_chk100 i v1823 v1825 v1827), ∀ (k1_h1 : k1_cond1 i = 1#1), ∀ a, (k1_off162 i v1823 v1825 v1827) a + S1x1x1x1x8x20.size a ≤ S3x8x9x80x80x20.size a := fun i v1823 v1825 v1827 k1_hw100 k1_h1 => k1_hw100.1 k1_h1
theorem k1_off163_inb : ∀ (i : grid1.Coords) (v1823 : BitVec 32) (v1825 : BitVec 32) (v1827 : BitVec 32) (k1_hw100 : k1_chk100 i v1823 v1825 v1827), ∀ (k1_h1 : k1_cond1 i = 1#1), ∀ a, (k1_off163 i v1823 v1825 v1827) a + S1x1x1x1x8x5.size a ≤ S3x8x9x80x80x5.size a := fun i v1823 v1825 v1827 k1_hw100 k1_h1 => k1_hw100.2.1 k1_h1
theorem k1_off226_inb : ∀ (i : grid1.Coords) (v1823 : BitVec 32) (v1825 : BitVec 32) (v1827 : BitVec 32) (k1_hw100 : k1_chk100 i v1823 v1825 v1827), ∀ (k1_h1 : k1_cond1 i = 1#1), ∀ a, (k1_off226 i v1823 v1825 v1827) a + S1x1x1x1x8x20.size a ≤ S3x8x9x80x80x20.size a := fun i v1823 v1825 v1827 k1_hw100 k1_h1 => k1_hw100.2.2.1 k1_h1
theorem k1_off227_inb : ∀ (i : grid1.Coords) (v1823 : BitVec 32) (v1825 : BitVec 32) (v1827 : BitVec 32) (k1_hw100 : k1_chk100 i v1823 v1825 v1827), ∀ (k1_h1 : k1_cond1 i = 1#1), ∀ a, (k1_off227 i v1823 v1825 v1827) a + S1x1x1x1x8x5.size a ≤ S3x8x9x80x80x5.size a := fun i v1823 v1825 v1827 k1_hw100 k1_h1 => k1_hw100.2.2.2 k1_h1

def k1_off228 (i : grid1.Coords) (v1846 : BitVec 32) (v1848 : BitVec 32) (v1850 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1254 : BitVec 32 := 8#32
  let v1851 : BitVec 32 := Scalar.muli v1850 c8_i32_1254
  let c0_i32_1719 : BitVec 32 := 0#32
  ![v21.toNat, v22.toNat, v1846.toNat, v1848.toNat, v1851.toNat, 0]
def k1_off229 (i : grid1.Coords) (v1846 : BitVec 32) (v1848 : BitVec 32) (v1850 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1254 : BitVec 32 := 8#32
  let v1851 : BitVec 32 := Scalar.muli v1850 c8_i32_1254
  let c0_i32_1726 : BitVec 32 := 0#32
  ![v21.toNat, v22.toNat, v1846.toNat, v1848.toNat, v1851.toNat, 0]

def k1_chk101 (i : grid1.Coords) (v1846 : BitVec 32) (v1848 : BitVec 32) (v1850 : BitVec 32) : Prop :=
  (∀ (k1_h1 : k1_cond1 i = 1#1), ∀ a, (k1_off164 i v1846 v1848 v1850) a + S1x1x1x1x8x20.size a ≤ S3x8x9x80x80x20.size a) ∧
  (∀ (k1_h1 : k1_cond1 i = 1#1), ∀ a, (k1_off165 i v1846 v1848 v1850) a + S1x1x1x1x8x5.size a ≤ S3x8x9x80x80x5.size a) ∧
  (∀ (k1_h1 : k1_cond1 i = 1#1), ∀ a, (k1_off228 i v1846 v1848 v1850) a + S1x1x1x1x8x20.size a ≤ S3x8x9x80x80x20.size a) ∧
  (∀ (k1_h1 : k1_cond1 i = 1#1), ∀ a, (k1_off229 i v1846 v1848 v1850) a + S1x1x1x1x8x5.size a ≤ S3x8x9x80x80x5.size a)
theorem k1_off164_inb : ∀ (i : grid1.Coords) (v1846 : BitVec 32) (v1848 : BitVec 32) (v1850 : BitVec 32) (k1_hw101 : k1_chk101 i v1846 v1848 v1850), ∀ (k1_h1 : k1_cond1 i = 1#1), ∀ a, (k1_off164 i v1846 v1848 v1850) a + S1x1x1x1x8x20.size a ≤ S3x8x9x80x80x20.size a := fun i v1846 v1848 v1850 k1_hw101 k1_h1 => k1_hw101.1 k1_h1
theorem k1_off165_inb : ∀ (i : grid1.Coords) (v1846 : BitVec 32) (v1848 : BitVec 32) (v1850 : BitVec 32) (k1_hw101 : k1_chk101 i v1846 v1848 v1850), ∀ (k1_h1 : k1_cond1 i = 1#1), ∀ a, (k1_off165 i v1846 v1848 v1850) a + S1x1x1x1x8x5.size a ≤ S3x8x9x80x80x5.size a := fun i v1846 v1848 v1850 k1_hw101 k1_h1 => k1_hw101.2.1 k1_h1
theorem k1_off228_inb : ∀ (i : grid1.Coords) (v1846 : BitVec 32) (v1848 : BitVec 32) (v1850 : BitVec 32) (k1_hw101 : k1_chk101 i v1846 v1848 v1850), ∀ (k1_h1 : k1_cond1 i = 1#1), ∀ a, (k1_off228 i v1846 v1848 v1850) a + S1x1x1x1x8x20.size a ≤ S3x8x9x80x80x20.size a := fun i v1846 v1848 v1850 k1_hw101 k1_h1 => k1_hw101.2.2.1 k1_h1
theorem k1_off229_inb : ∀ (i : grid1.Coords) (v1846 : BitVec 32) (v1848 : BitVec 32) (v1850 : BitVec 32) (k1_hw101 : k1_chk101 i v1846 v1848 v1850), ∀ (k1_h1 : k1_cond1 i = 1#1), ∀ a, (k1_off229 i v1846 v1848 v1850) a + S1x1x1x1x8x5.size a ≤ S3x8x9x80x80x5.size a := fun i v1846 v1848 v1850 k1_hw101 k1_h1 => k1_hw101.2.2.2 k1_h1

def k1_off230 (i : grid1.Coords) (v1869 : BitVec 32) (v1871 : BitVec 32) (v1873 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1269 : BitVec 32 := 8#32
  let v1874 : BitVec 32 := Scalar.muli v1873 c8_i32_1269
  let c0_i32_1733 : BitVec 32 := 0#32
  ![v21.toNat, v22.toNat, v1869.toNat, v1871.toNat, v1874.toNat, 0]
def k1_off231 (i : grid1.Coords) (v1869 : BitVec 32) (v1871 : BitVec 32) (v1873 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1269 : BitVec 32 := 8#32
  let v1874 : BitVec 32 := Scalar.muli v1873 c8_i32_1269
  let c0_i32_1740 : BitVec 32 := 0#32
  ![v21.toNat, v22.toNat, v1869.toNat, v1871.toNat, v1874.toNat, 0]

def k1_chk102 (i : grid1.Coords) (v1869 : BitVec 32) (v1871 : BitVec 32) (v1873 : BitVec 32) : Prop :=
  (∀ (k1_h1 : k1_cond1 i = 1#1), ∀ a, (k1_off166 i v1869 v1871 v1873) a + S1x1x1x1x8x20.size a ≤ S3x8x9x80x80x20.size a) ∧
  (∀ (k1_h1 : k1_cond1 i = 1#1), ∀ a, (k1_off167 i v1869 v1871 v1873) a + S1x1x1x1x8x5.size a ≤ S3x8x9x80x80x5.size a) ∧
  (∀ (k1_h1 : k1_cond1 i = 1#1), ∀ a, (k1_off230 i v1869 v1871 v1873) a + S1x1x1x1x8x20.size a ≤ S3x8x9x80x80x20.size a) ∧
  (∀ (k1_h1 : k1_cond1 i = 1#1), ∀ a, (k1_off231 i v1869 v1871 v1873) a + S1x1x1x1x8x5.size a ≤ S3x8x9x80x80x5.size a)
theorem k1_off166_inb : ∀ (i : grid1.Coords) (v1869 : BitVec 32) (v1871 : BitVec 32) (v1873 : BitVec 32) (k1_hw102 : k1_chk102 i v1869 v1871 v1873), ∀ (k1_h1 : k1_cond1 i = 1#1), ∀ a, (k1_off166 i v1869 v1871 v1873) a + S1x1x1x1x8x20.size a ≤ S3x8x9x80x80x20.size a := fun i v1869 v1871 v1873 k1_hw102 k1_h1 => k1_hw102.1 k1_h1
theorem k1_off167_inb : ∀ (i : grid1.Coords) (v1869 : BitVec 32) (v1871 : BitVec 32) (v1873 : BitVec 32) (k1_hw102 : k1_chk102 i v1869 v1871 v1873), ∀ (k1_h1 : k1_cond1 i = 1#1), ∀ a, (k1_off167 i v1869 v1871 v1873) a + S1x1x1x1x8x5.size a ≤ S3x8x9x80x80x5.size a := fun i v1869 v1871 v1873 k1_hw102 k1_h1 => k1_hw102.2.1 k1_h1
theorem k1_off230_inb : ∀ (i : grid1.Coords) (v1869 : BitVec 32) (v1871 : BitVec 32) (v1873 : BitVec 32) (k1_hw102 : k1_chk102 i v1869 v1871 v1873), ∀ (k1_h1 : k1_cond1 i = 1#1), ∀ a, (k1_off230 i v1869 v1871 v1873) a + S1x1x1x1x8x20.size a ≤ S3x8x9x80x80x20.size a := fun i v1869 v1871 v1873 k1_hw102 k1_h1 => k1_hw102.2.2.1 k1_h1
theorem k1_off231_inb : ∀ (i : grid1.Coords) (v1869 : BitVec 32) (v1871 : BitVec 32) (v1873 : BitVec 32) (k1_hw102 : k1_chk102 i v1869 v1871 v1873), ∀ (k1_h1 : k1_cond1 i = 1#1), ∀ a, (k1_off231 i v1869 v1871 v1873) a + S1x1x1x1x8x5.size a ≤ S3x8x9x80x80x5.size a := fun i v1869 v1871 v1873 k1_hw102 k1_h1 => k1_hw102.2.2.2 k1_h1

def k1_off232 (i : grid1.Coords) (v1892 : BitVec 32) (v1894 : BitVec 32) (v1896 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1284 : BitVec 32 := 8#32
  let v1897 : BitVec 32 := Scalar.muli v1896 c8_i32_1284
  let c0_i32_1747 : BitVec 32 := 0#32
  ![v21.toNat, v22.toNat, v1892.toNat, v1894.toNat, v1897.toNat, 0]
def k1_off233 (i : grid1.Coords) (v1892 : BitVec 32) (v1894 : BitVec 32) (v1896 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1284 : BitVec 32 := 8#32
  let v1897 : BitVec 32 := Scalar.muli v1896 c8_i32_1284
  let c0_i32_1754 : BitVec 32 := 0#32
  ![v21.toNat, v22.toNat, v1892.toNat, v1894.toNat, v1897.toNat, 0]

def k1_chk103 (i : grid1.Coords) (v1892 : BitVec 32) (v1894 : BitVec 32) (v1896 : BitVec 32) : Prop :=
  (∀ (k1_h1 : k1_cond1 i = 1#1), ∀ a, (k1_off168 i v1892 v1894 v1896) a + S1x1x1x1x8x20.size a ≤ S3x8x9x80x80x20.size a) ∧
  (∀ (k1_h1 : k1_cond1 i = 1#1), ∀ a, (k1_off169 i v1892 v1894 v1896) a + S1x1x1x1x8x5.size a ≤ S3x8x9x80x80x5.size a) ∧
  (∀ (k1_h1 : k1_cond1 i = 1#1), ∀ a, (k1_off232 i v1892 v1894 v1896) a + S1x1x1x1x8x20.size a ≤ S3x8x9x80x80x20.size a) ∧
  (∀ (k1_h1 : k1_cond1 i = 1#1), ∀ a, (k1_off233 i v1892 v1894 v1896) a + S1x1x1x1x8x5.size a ≤ S3x8x9x80x80x5.size a)
theorem k1_off168_inb : ∀ (i : grid1.Coords) (v1892 : BitVec 32) (v1894 : BitVec 32) (v1896 : BitVec 32) (k1_hw103 : k1_chk103 i v1892 v1894 v1896), ∀ (k1_h1 : k1_cond1 i = 1#1), ∀ a, (k1_off168 i v1892 v1894 v1896) a + S1x1x1x1x8x20.size a ≤ S3x8x9x80x80x20.size a := fun i v1892 v1894 v1896 k1_hw103 k1_h1 => k1_hw103.1 k1_h1
theorem k1_off169_inb : ∀ (i : grid1.Coords) (v1892 : BitVec 32) (v1894 : BitVec 32) (v1896 : BitVec 32) (k1_hw103 : k1_chk103 i v1892 v1894 v1896), ∀ (k1_h1 : k1_cond1 i = 1#1), ∀ a, (k1_off169 i v1892 v1894 v1896) a + S1x1x1x1x8x5.size a ≤ S3x8x9x80x80x5.size a := fun i v1892 v1894 v1896 k1_hw103 k1_h1 => k1_hw103.2.1 k1_h1
theorem k1_off232_inb : ∀ (i : grid1.Coords) (v1892 : BitVec 32) (v1894 : BitVec 32) (v1896 : BitVec 32) (k1_hw103 : k1_chk103 i v1892 v1894 v1896), ∀ (k1_h1 : k1_cond1 i = 1#1), ∀ a, (k1_off232 i v1892 v1894 v1896) a + S1x1x1x1x8x20.size a ≤ S3x8x9x80x80x20.size a := fun i v1892 v1894 v1896 k1_hw103 k1_h1 => k1_hw103.2.2.1 k1_h1
theorem k1_off233_inb : ∀ (i : grid1.Coords) (v1892 : BitVec 32) (v1894 : BitVec 32) (v1896 : BitVec 32) (k1_hw103 : k1_chk103 i v1892 v1894 v1896), ∀ (k1_h1 : k1_cond1 i = 1#1), ∀ a, (k1_off233 i v1892 v1894 v1896) a + S1x1x1x1x8x5.size a ≤ S3x8x9x80x80x5.size a := fun i v1892 v1894 v1896 k1_hw103 k1_h1 => k1_hw103.2.2.2 k1_h1

def k1_off234 (i : grid1.Coords) (v1915 : BitVec 32) (v1917 : BitVec 32) (v1919 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1299 : BitVec 32 := 8#32
  let v1920 : BitVec 32 := Scalar.muli v1919 c8_i32_1299
  let c0_i32_1761 : BitVec 32 := 0#32
  ![v21.toNat, v22.toNat, v1915.toNat, v1917.toNat, v1920.toNat, 0]
def k1_off235 (i : grid1.Coords) (v1915 : BitVec 32) (v1917 : BitVec 32) (v1919 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1299 : BitVec 32 := 8#32
  let v1920 : BitVec 32 := Scalar.muli v1919 c8_i32_1299
  let c0_i32_1768 : BitVec 32 := 0#32
  ![v21.toNat, v22.toNat, v1915.toNat, v1917.toNat, v1920.toNat, 0]

def k1_chk104 (i : grid1.Coords) (v1915 : BitVec 32) (v1917 : BitVec 32) (v1919 : BitVec 32) : Prop :=
  (∀ (k1_h1 : k1_cond1 i = 1#1), ∀ a, (k1_off170 i v1915 v1917 v1919) a + S1x1x1x1x8x20.size a ≤ S3x8x9x80x80x20.size a) ∧
  (∀ (k1_h1 : k1_cond1 i = 1#1), ∀ a, (k1_off171 i v1915 v1917 v1919) a + S1x1x1x1x8x5.size a ≤ S3x8x9x80x80x5.size a) ∧
  (∀ (k1_h1 : k1_cond1 i = 1#1), ∀ a, (k1_off234 i v1915 v1917 v1919) a + S1x1x1x1x8x20.size a ≤ S3x8x9x80x80x20.size a) ∧
  (∀ (k1_h1 : k1_cond1 i = 1#1), ∀ a, (k1_off235 i v1915 v1917 v1919) a + S1x1x1x1x8x5.size a ≤ S3x8x9x80x80x5.size a)
theorem k1_off170_inb : ∀ (i : grid1.Coords) (v1915 : BitVec 32) (v1917 : BitVec 32) (v1919 : BitVec 32) (k1_hw104 : k1_chk104 i v1915 v1917 v1919), ∀ (k1_h1 : k1_cond1 i = 1#1), ∀ a, (k1_off170 i v1915 v1917 v1919) a + S1x1x1x1x8x20.size a ≤ S3x8x9x80x80x20.size a := fun i v1915 v1917 v1919 k1_hw104 k1_h1 => k1_hw104.1 k1_h1
theorem k1_off171_inb : ∀ (i : grid1.Coords) (v1915 : BitVec 32) (v1917 : BitVec 32) (v1919 : BitVec 32) (k1_hw104 : k1_chk104 i v1915 v1917 v1919), ∀ (k1_h1 : k1_cond1 i = 1#1), ∀ a, (k1_off171 i v1915 v1917 v1919) a + S1x1x1x1x8x5.size a ≤ S3x8x9x80x80x5.size a := fun i v1915 v1917 v1919 k1_hw104 k1_h1 => k1_hw104.2.1 k1_h1
theorem k1_off234_inb : ∀ (i : grid1.Coords) (v1915 : BitVec 32) (v1917 : BitVec 32) (v1919 : BitVec 32) (k1_hw104 : k1_chk104 i v1915 v1917 v1919), ∀ (k1_h1 : k1_cond1 i = 1#1), ∀ a, (k1_off234 i v1915 v1917 v1919) a + S1x1x1x1x8x20.size a ≤ S3x8x9x80x80x20.size a := fun i v1915 v1917 v1919 k1_hw104 k1_h1 => k1_hw104.2.2.1 k1_h1
theorem k1_off235_inb : ∀ (i : grid1.Coords) (v1915 : BitVec 32) (v1917 : BitVec 32) (v1919 : BitVec 32) (k1_hw104 : k1_chk104 i v1915 v1917 v1919), ∀ (k1_h1 : k1_cond1 i = 1#1), ∀ a, (k1_off235 i v1915 v1917 v1919) a + S1x1x1x1x8x5.size a ≤ S3x8x9x80x80x5.size a := fun i v1915 v1917 v1919 k1_hw104 k1_h1 => k1_hw104.2.2.2 k1_h1

def k1_off236 (i : grid1.Coords) (v1938 : BitVec 32) (v1940 : BitVec 32) (v1942 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1314 : BitVec 32 := 8#32
  let v1943 : BitVec 32 := Scalar.muli v1942 c8_i32_1314
  let c0_i32_1775 : BitVec 32 := 0#32
  ![v21.toNat, v22.toNat, v1938.toNat, v1940.toNat, v1943.toNat, 0]
def k1_off237 (i : grid1.Coords) (v1938 : BitVec 32) (v1940 : BitVec 32) (v1942 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1314 : BitVec 32 := 8#32
  let v1943 : BitVec 32 := Scalar.muli v1942 c8_i32_1314
  let c0_i32_1782 : BitVec 32 := 0#32
  ![v21.toNat, v22.toNat, v1938.toNat, v1940.toNat, v1943.toNat, 0]

def k1_chk105 (i : grid1.Coords) (v1938 : BitVec 32) (v1940 : BitVec 32) (v1942 : BitVec 32) : Prop :=
  (∀ (k1_h1 : k1_cond1 i = 1#1), ∀ a, (k1_off172 i v1938 v1940 v1942) a + S1x1x1x1x8x20.size a ≤ S3x8x9x80x80x20.size a) ∧
  (∀ (k1_h1 : k1_cond1 i = 1#1), ∀ a, (k1_off173 i v1938 v1940 v1942) a + S1x1x1x1x8x5.size a ≤ S3x8x9x80x80x5.size a) ∧
  (∀ (k1_h1 : k1_cond1 i = 1#1), ∀ a, (k1_off236 i v1938 v1940 v1942) a + S1x1x1x1x8x20.size a ≤ S3x8x9x80x80x20.size a) ∧
  (∀ (k1_h1 : k1_cond1 i = 1#1), ∀ a, (k1_off237 i v1938 v1940 v1942) a + S1x1x1x1x8x5.size a ≤ S3x8x9x80x80x5.size a)
theorem k1_off172_inb : ∀ (i : grid1.Coords) (v1938 : BitVec 32) (v1940 : BitVec 32) (v1942 : BitVec 32) (k1_hw105 : k1_chk105 i v1938 v1940 v1942), ∀ (k1_h1 : k1_cond1 i = 1#1), ∀ a, (k1_off172 i v1938 v1940 v1942) a + S1x1x1x1x8x20.size a ≤ S3x8x9x80x80x20.size a := fun i v1938 v1940 v1942 k1_hw105 k1_h1 => k1_hw105.1 k1_h1
theorem k1_off173_inb : ∀ (i : grid1.Coords) (v1938 : BitVec 32) (v1940 : BitVec 32) (v1942 : BitVec 32) (k1_hw105 : k1_chk105 i v1938 v1940 v1942), ∀ (k1_h1 : k1_cond1 i = 1#1), ∀ a, (k1_off173 i v1938 v1940 v1942) a + S1x1x1x1x8x5.size a ≤ S3x8x9x80x80x5.size a := fun i v1938 v1940 v1942 k1_hw105 k1_h1 => k1_hw105.2.1 k1_h1
theorem k1_off236_inb : ∀ (i : grid1.Coords) (v1938 : BitVec 32) (v1940 : BitVec 32) (v1942 : BitVec 32) (k1_hw105 : k1_chk105 i v1938 v1940 v1942), ∀ (k1_h1 : k1_cond1 i = 1#1), ∀ a, (k1_off236 i v1938 v1940 v1942) a + S1x1x1x1x8x20.size a ≤ S3x8x9x80x80x20.size a := fun i v1938 v1940 v1942 k1_hw105 k1_h1 => k1_hw105.2.2.1 k1_h1
theorem k1_off237_inb : ∀ (i : grid1.Coords) (v1938 : BitVec 32) (v1940 : BitVec 32) (v1942 : BitVec 32) (k1_hw105 : k1_chk105 i v1938 v1940 v1942), ∀ (k1_h1 : k1_cond1 i = 1#1), ∀ a, (k1_off237 i v1938 v1940 v1942) a + S1x1x1x1x8x5.size a ≤ S3x8x9x80x80x5.size a := fun i v1938 v1940 v1942 k1_hw105 k1_h1 => k1_hw105.2.2.2 k1_h1

def k1_off238 (i : grid1.Coords) (v1961 : BitVec 32) (v1963 : BitVec 32) (v1965 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1329 : BitVec 32 := 8#32
  let v1966 : BitVec 32 := Scalar.muli v1965 c8_i32_1329
  let c0_i32_1789 : BitVec 32 := 0#32
  ![v21.toNat, v22.toNat, v1961.toNat, v1963.toNat, v1966.toNat, 0]
def k1_off239 (i : grid1.Coords) (v1961 : BitVec 32) (v1963 : BitVec 32) (v1965 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1329 : BitVec 32 := 8#32
  let v1966 : BitVec 32 := Scalar.muli v1965 c8_i32_1329
  let c0_i32_1796 : BitVec 32 := 0#32
  ![v21.toNat, v22.toNat, v1961.toNat, v1963.toNat, v1966.toNat, 0]

def k1_chk106 (i : grid1.Coords) (v1961 : BitVec 32) (v1963 : BitVec 32) (v1965 : BitVec 32) : Prop :=
  (∀ (k1_h1 : k1_cond1 i = 1#1), ∀ a, (k1_off174 i v1961 v1963 v1965) a + S1x1x1x1x8x20.size a ≤ S3x8x9x80x80x20.size a) ∧
  (∀ (k1_h1 : k1_cond1 i = 1#1), ∀ a, (k1_off175 i v1961 v1963 v1965) a + S1x1x1x1x8x5.size a ≤ S3x8x9x80x80x5.size a) ∧
  (∀ (k1_h1 : k1_cond1 i = 1#1), ∀ a, (k1_off238 i v1961 v1963 v1965) a + S1x1x1x1x8x20.size a ≤ S3x8x9x80x80x20.size a) ∧
  (∀ (k1_h1 : k1_cond1 i = 1#1), ∀ a, (k1_off239 i v1961 v1963 v1965) a + S1x1x1x1x8x5.size a ≤ S3x8x9x80x80x5.size a)
theorem k1_off174_inb : ∀ (i : grid1.Coords) (v1961 : BitVec 32) (v1963 : BitVec 32) (v1965 : BitVec 32) (k1_hw106 : k1_chk106 i v1961 v1963 v1965), ∀ (k1_h1 : k1_cond1 i = 1#1), ∀ a, (k1_off174 i v1961 v1963 v1965) a + S1x1x1x1x8x20.size a ≤ S3x8x9x80x80x20.size a := fun i v1961 v1963 v1965 k1_hw106 k1_h1 => k1_hw106.1 k1_h1
theorem k1_off175_inb : ∀ (i : grid1.Coords) (v1961 : BitVec 32) (v1963 : BitVec 32) (v1965 : BitVec 32) (k1_hw106 : k1_chk106 i v1961 v1963 v1965), ∀ (k1_h1 : k1_cond1 i = 1#1), ∀ a, (k1_off175 i v1961 v1963 v1965) a + S1x1x1x1x8x5.size a ≤ S3x8x9x80x80x5.size a := fun i v1961 v1963 v1965 k1_hw106 k1_h1 => k1_hw106.2.1 k1_h1
theorem k1_off238_inb : ∀ (i : grid1.Coords) (v1961 : BitVec 32) (v1963 : BitVec 32) (v1965 : BitVec 32) (k1_hw106 : k1_chk106 i v1961 v1963 v1965), ∀ (k1_h1 : k1_cond1 i = 1#1), ∀ a, (k1_off238 i v1961 v1963 v1965) a + S1x1x1x1x8x20.size a ≤ S3x8x9x80x80x20.size a := fun i v1961 v1963 v1965 k1_hw106 k1_h1 => k1_hw106.2.2.1 k1_h1
theorem k1_off239_inb : ∀ (i : grid1.Coords) (v1961 : BitVec 32) (v1963 : BitVec 32) (v1965 : BitVec 32) (k1_hw106 : k1_chk106 i v1961 v1963 v1965), ∀ (k1_h1 : k1_cond1 i = 1#1), ∀ a, (k1_off239 i v1961 v1963 v1965) a + S1x1x1x1x8x5.size a ≤ S3x8x9x80x80x5.size a := fun i v1961 v1963 v1965 k1_hw106 k1_h1 => k1_hw106.2.2.2 k1_h1

def k1_off240 (i : grid1.Coords) (v1984 : BitVec 32) (v1986 : BitVec 32) (v1988 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1344 : BitVec 32 := 8#32
  let v1989 : BitVec 32 := Scalar.muli v1988 c8_i32_1344
  let c0_i32_1803 : BitVec 32 := 0#32
  ![v21.toNat, v22.toNat, v1984.toNat, v1986.toNat, v1989.toNat, 0]
def k1_off241 (i : grid1.Coords) (v1984 : BitVec 32) (v1986 : BitVec 32) (v1988 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1344 : BitVec 32 := 8#32
  let v1989 : BitVec 32 := Scalar.muli v1988 c8_i32_1344
  let c0_i32_1810 : BitVec 32 := 0#32
  ![v21.toNat, v22.toNat, v1984.toNat, v1986.toNat, v1989.toNat, 0]

def k1_chk107 (i : grid1.Coords) (v1984 : BitVec 32) (v1986 : BitVec 32) (v1988 : BitVec 32) : Prop :=
  (∀ (k1_h1 : k1_cond1 i = 1#1), ∀ a, (k1_off176 i v1984 v1986 v1988) a + S1x1x1x1x8x20.size a ≤ S3x8x9x80x80x20.size a) ∧
  (∀ (k1_h1 : k1_cond1 i = 1#1), ∀ a, (k1_off177 i v1984 v1986 v1988) a + S1x1x1x1x8x5.size a ≤ S3x8x9x80x80x5.size a) ∧
  (∀ (k1_h1 : k1_cond1 i = 1#1), ∀ a, (k1_off240 i v1984 v1986 v1988) a + S1x1x1x1x8x20.size a ≤ S3x8x9x80x80x20.size a) ∧
  (∀ (k1_h1 : k1_cond1 i = 1#1), ∀ a, (k1_off241 i v1984 v1986 v1988) a + S1x1x1x1x8x5.size a ≤ S3x8x9x80x80x5.size a)
theorem k1_off176_inb : ∀ (i : grid1.Coords) (v1984 : BitVec 32) (v1986 : BitVec 32) (v1988 : BitVec 32) (k1_hw107 : k1_chk107 i v1984 v1986 v1988), ∀ (k1_h1 : k1_cond1 i = 1#1), ∀ a, (k1_off176 i v1984 v1986 v1988) a + S1x1x1x1x8x20.size a ≤ S3x8x9x80x80x20.size a := fun i v1984 v1986 v1988 k1_hw107 k1_h1 => k1_hw107.1 k1_h1
theorem k1_off177_inb : ∀ (i : grid1.Coords) (v1984 : BitVec 32) (v1986 : BitVec 32) (v1988 : BitVec 32) (k1_hw107 : k1_chk107 i v1984 v1986 v1988), ∀ (k1_h1 : k1_cond1 i = 1#1), ∀ a, (k1_off177 i v1984 v1986 v1988) a + S1x1x1x1x8x5.size a ≤ S3x8x9x80x80x5.size a := fun i v1984 v1986 v1988 k1_hw107 k1_h1 => k1_hw107.2.1 k1_h1
theorem k1_off240_inb : ∀ (i : grid1.Coords) (v1984 : BitVec 32) (v1986 : BitVec 32) (v1988 : BitVec 32) (k1_hw107 : k1_chk107 i v1984 v1986 v1988), ∀ (k1_h1 : k1_cond1 i = 1#1), ∀ a, (k1_off240 i v1984 v1986 v1988) a + S1x1x1x1x8x20.size a ≤ S3x8x9x80x80x20.size a := fun i v1984 v1986 v1988 k1_hw107 k1_h1 => k1_hw107.2.2.1 k1_h1
theorem k1_off241_inb : ∀ (i : grid1.Coords) (v1984 : BitVec 32) (v1986 : BitVec 32) (v1988 : BitVec 32) (k1_hw107 : k1_chk107 i v1984 v1986 v1988), ∀ (k1_h1 : k1_cond1 i = 1#1), ∀ a, (k1_off241 i v1984 v1986 v1988) a + S1x1x1x1x8x5.size a ≤ S3x8x9x80x80x5.size a := fun i v1984 v1986 v1988 k1_hw107 k1_h1 => k1_hw107.2.2.2 k1_h1

def k1_off242 (i : grid1.Coords) (v2007 : BitVec 32) (v2009 : BitVec 32) (v2011 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1359 : BitVec 32 := 8#32
  let v2012 : BitVec 32 := Scalar.muli v2011 c8_i32_1359
  let c0_i32_1817 : BitVec 32 := 0#32
  ![v21.toNat, v22.toNat, v2007.toNat, v2009.toNat, v2012.toNat, 0]
def k1_off243 (i : grid1.Coords) (v2007 : BitVec 32) (v2009 : BitVec 32) (v2011 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1359 : BitVec 32 := 8#32
  let v2012 : BitVec 32 := Scalar.muli v2011 c8_i32_1359
  let c0_i32_1824 : BitVec 32 := 0#32
  ![v21.toNat, v22.toNat, v2007.toNat, v2009.toNat, v2012.toNat, 0]

def k1_chk108 (i : grid1.Coords) (v2007 : BitVec 32) (v2009 : BitVec 32) (v2011 : BitVec 32) : Prop :=
  (∀ (k1_h1 : k1_cond1 i = 1#1), ∀ a, (k1_off178 i v2007 v2009 v2011) a + S1x1x1x1x8x20.size a ≤ S3x8x9x80x80x20.size a) ∧
  (∀ (k1_h1 : k1_cond1 i = 1#1), ∀ a, (k1_off179 i v2007 v2009 v2011) a + S1x1x1x1x8x5.size a ≤ S3x8x9x80x80x5.size a) ∧
  (∀ (k1_h1 : k1_cond1 i = 1#1), ∀ a, (k1_off242 i v2007 v2009 v2011) a + S1x1x1x1x8x20.size a ≤ S3x8x9x80x80x20.size a) ∧
  (∀ (k1_h1 : k1_cond1 i = 1#1), ∀ a, (k1_off243 i v2007 v2009 v2011) a + S1x1x1x1x8x5.size a ≤ S3x8x9x80x80x5.size a)
theorem k1_off178_inb : ∀ (i : grid1.Coords) (v2007 : BitVec 32) (v2009 : BitVec 32) (v2011 : BitVec 32) (k1_hw108 : k1_chk108 i v2007 v2009 v2011), ∀ (k1_h1 : k1_cond1 i = 1#1), ∀ a, (k1_off178 i v2007 v2009 v2011) a + S1x1x1x1x8x20.size a ≤ S3x8x9x80x80x20.size a := fun i v2007 v2009 v2011 k1_hw108 k1_h1 => k1_hw108.1 k1_h1
theorem k1_off179_inb : ∀ (i : grid1.Coords) (v2007 : BitVec 32) (v2009 : BitVec 32) (v2011 : BitVec 32) (k1_hw108 : k1_chk108 i v2007 v2009 v2011), ∀ (k1_h1 : k1_cond1 i = 1#1), ∀ a, (k1_off179 i v2007 v2009 v2011) a + S1x1x1x1x8x5.size a ≤ S3x8x9x80x80x5.size a := fun i v2007 v2009 v2011 k1_hw108 k1_h1 => k1_hw108.2.1 k1_h1
theorem k1_off242_inb : ∀ (i : grid1.Coords) (v2007 : BitVec 32) (v2009 : BitVec 32) (v2011 : BitVec 32) (k1_hw108 : k1_chk108 i v2007 v2009 v2011), ∀ (k1_h1 : k1_cond1 i = 1#1), ∀ a, (k1_off242 i v2007 v2009 v2011) a + S1x1x1x1x8x20.size a ≤ S3x8x9x80x80x20.size a := fun i v2007 v2009 v2011 k1_hw108 k1_h1 => k1_hw108.2.2.1 k1_h1
theorem k1_off243_inb : ∀ (i : grid1.Coords) (v2007 : BitVec 32) (v2009 : BitVec 32) (v2011 : BitVec 32) (k1_hw108 : k1_chk108 i v2007 v2009 v2011), ∀ (k1_h1 : k1_cond1 i = 1#1), ∀ a, (k1_off243 i v2007 v2009 v2011) a + S1x1x1x1x8x5.size a ≤ S3x8x9x80x80x5.size a := fun i v2007 v2009 v2011 k1_hw108 k1_h1 => k1_hw108.2.2.2 k1_h1

def k1_off244 (i : grid1.Coords) (v2030 : BitVec 32) (v2032 : BitVec 32) (v2034 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1374 : BitVec 32 := 8#32
  let v2035 : BitVec 32 := Scalar.muli v2034 c8_i32_1374
  let c0_i32_1831 : BitVec 32 := 0#32
  ![v21.toNat, v22.toNat, v2030.toNat, v2032.toNat, v2035.toNat, 0]
def k1_off245 (i : grid1.Coords) (v2030 : BitVec 32) (v2032 : BitVec 32) (v2034 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1374 : BitVec 32 := 8#32
  let v2035 : BitVec 32 := Scalar.muli v2034 c8_i32_1374
  let c0_i32_1838 : BitVec 32 := 0#32
  ![v21.toNat, v22.toNat, v2030.toNat, v2032.toNat, v2035.toNat, 0]

def k1_chk109 (i : grid1.Coords) (v2030 : BitVec 32) (v2032 : BitVec 32) (v2034 : BitVec 32) : Prop :=
  (∀ (k1_h1 : k1_cond1 i = 1#1), ∀ a, (k1_off180 i v2030 v2032 v2034) a + S1x1x1x1x8x20.size a ≤ S3x8x9x80x80x20.size a) ∧
  (∀ (k1_h1 : k1_cond1 i = 1#1), ∀ a, (k1_off181 i v2030 v2032 v2034) a + S1x1x1x1x8x5.size a ≤ S3x8x9x80x80x5.size a) ∧
  (∀ (k1_h1 : k1_cond1 i = 1#1), ∀ a, (k1_off244 i v2030 v2032 v2034) a + S1x1x1x1x8x20.size a ≤ S3x8x9x80x80x20.size a) ∧
  (∀ (k1_h1 : k1_cond1 i = 1#1), ∀ a, (k1_off245 i v2030 v2032 v2034) a + S1x1x1x1x8x5.size a ≤ S3x8x9x80x80x5.size a)
theorem k1_off180_inb : ∀ (i : grid1.Coords) (v2030 : BitVec 32) (v2032 : BitVec 32) (v2034 : BitVec 32) (k1_hw109 : k1_chk109 i v2030 v2032 v2034), ∀ (k1_h1 : k1_cond1 i = 1#1), ∀ a, (k1_off180 i v2030 v2032 v2034) a + S1x1x1x1x8x20.size a ≤ S3x8x9x80x80x20.size a := fun i v2030 v2032 v2034 k1_hw109 k1_h1 => k1_hw109.1 k1_h1
theorem k1_off181_inb : ∀ (i : grid1.Coords) (v2030 : BitVec 32) (v2032 : BitVec 32) (v2034 : BitVec 32) (k1_hw109 : k1_chk109 i v2030 v2032 v2034), ∀ (k1_h1 : k1_cond1 i = 1#1), ∀ a, (k1_off181 i v2030 v2032 v2034) a + S1x1x1x1x8x5.size a ≤ S3x8x9x80x80x5.size a := fun i v2030 v2032 v2034 k1_hw109 k1_h1 => k1_hw109.2.1 k1_h1
theorem k1_off244_inb : ∀ (i : grid1.Coords) (v2030 : BitVec 32) (v2032 : BitVec 32) (v2034 : BitVec 32) (k1_hw109 : k1_chk109 i v2030 v2032 v2034), ∀ (k1_h1 : k1_cond1 i = 1#1), ∀ a, (k1_off244 i v2030 v2032 v2034) a + S1x1x1x1x8x20.size a ≤ S3x8x9x80x80x20.size a := fun i v2030 v2032 v2034 k1_hw109 k1_h1 => k1_hw109.2.2.1 k1_h1
theorem k1_off245_inb : ∀ (i : grid1.Coords) (v2030 : BitVec 32) (v2032 : BitVec 32) (v2034 : BitVec 32) (k1_hw109 : k1_chk109 i v2030 v2032 v2034), ∀ (k1_h1 : k1_cond1 i = 1#1), ∀ a, (k1_off245 i v2030 v2032 v2034) a + S1x1x1x1x8x5.size a ≤ S3x8x9x80x80x5.size a := fun i v2030 v2032 v2034 k1_hw109 k1_h1 => k1_hw109.2.2.2 k1_h1

def k1_off246 (i : grid1.Coords) (v2053 : BitVec 32) (v2055 : BitVec 32) (v2057 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1389 : BitVec 32 := 8#32
  let v2058 : BitVec 32 := Scalar.muli v2057 c8_i32_1389
  let c0_i32_1845 : BitVec 32 := 0#32
  ![v21.toNat, v22.toNat, v2053.toNat, v2055.toNat, v2058.toNat, 0]
def k1_off247 (i : grid1.Coords) (v2053 : BitVec 32) (v2055 : BitVec 32) (v2057 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1389 : BitVec 32 := 8#32
  let v2058 : BitVec 32 := Scalar.muli v2057 c8_i32_1389
  let c0_i32_1852 : BitVec 32 := 0#32
  ![v21.toNat, v22.toNat, v2053.toNat, v2055.toNat, v2058.toNat, 0]

def k1_chk110 (i : grid1.Coords) (v2053 : BitVec 32) (v2055 : BitVec 32) (v2057 : BitVec 32) : Prop :=
  (∀ (k1_h1 : k1_cond1 i = 1#1), ∀ a, (k1_off182 i v2053 v2055 v2057) a + S1x1x1x1x8x20.size a ≤ S3x8x9x80x80x20.size a) ∧
  (∀ (k1_h1 : k1_cond1 i = 1#1), ∀ a, (k1_off183 i v2053 v2055 v2057) a + S1x1x1x1x8x5.size a ≤ S3x8x9x80x80x5.size a) ∧
  (∀ (k1_h1 : k1_cond1 i = 1#1), ∀ a, (k1_off246 i v2053 v2055 v2057) a + S1x1x1x1x8x20.size a ≤ S3x8x9x80x80x20.size a) ∧
  (∀ (k1_h1 : k1_cond1 i = 1#1), ∀ a, (k1_off247 i v2053 v2055 v2057) a + S1x1x1x1x8x5.size a ≤ S3x8x9x80x80x5.size a)
theorem k1_off182_inb : ∀ (i : grid1.Coords) (v2053 : BitVec 32) (v2055 : BitVec 32) (v2057 : BitVec 32) (k1_hw110 : k1_chk110 i v2053 v2055 v2057), ∀ (k1_h1 : k1_cond1 i = 1#1), ∀ a, (k1_off182 i v2053 v2055 v2057) a + S1x1x1x1x8x20.size a ≤ S3x8x9x80x80x20.size a := fun i v2053 v2055 v2057 k1_hw110 k1_h1 => k1_hw110.1 k1_h1
theorem k1_off183_inb : ∀ (i : grid1.Coords) (v2053 : BitVec 32) (v2055 : BitVec 32) (v2057 : BitVec 32) (k1_hw110 : k1_chk110 i v2053 v2055 v2057), ∀ (k1_h1 : k1_cond1 i = 1#1), ∀ a, (k1_off183 i v2053 v2055 v2057) a + S1x1x1x1x8x5.size a ≤ S3x8x9x80x80x5.size a := fun i v2053 v2055 v2057 k1_hw110 k1_h1 => k1_hw110.2.1 k1_h1
theorem k1_off246_inb : ∀ (i : grid1.Coords) (v2053 : BitVec 32) (v2055 : BitVec 32) (v2057 : BitVec 32) (k1_hw110 : k1_chk110 i v2053 v2055 v2057), ∀ (k1_h1 : k1_cond1 i = 1#1), ∀ a, (k1_off246 i v2053 v2055 v2057) a + S1x1x1x1x8x20.size a ≤ S3x8x9x80x80x20.size a := fun i v2053 v2055 v2057 k1_hw110 k1_h1 => k1_hw110.2.2.1 k1_h1
theorem k1_off247_inb : ∀ (i : grid1.Coords) (v2053 : BitVec 32) (v2055 : BitVec 32) (v2057 : BitVec 32) (k1_hw110 : k1_chk110 i v2053 v2055 v2057), ∀ (k1_h1 : k1_cond1 i = 1#1), ∀ a, (k1_off247 i v2053 v2055 v2057) a + S1x1x1x1x8x5.size a ≤ S3x8x9x80x80x5.size a := fun i v2053 v2055 v2057 k1_hw110 k1_h1 => k1_hw110.2.2.2 k1_h1

def k1_off248 (i : grid1.Coords) (v2076 : BitVec 32) (v2078 : BitVec 32) (v2080 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1404 : BitVec 32 := 8#32
  let v2081 : BitVec 32 := Scalar.muli v2080 c8_i32_1404
  let c0_i32_1859 : BitVec 32 := 0#32
  ![v21.toNat, v22.toNat, v2076.toNat, v2078.toNat, v2081.toNat, 0]
def k1_off249 (i : grid1.Coords) (v2076 : BitVec 32) (v2078 : BitVec 32) (v2080 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1404 : BitVec 32 := 8#32
  let v2081 : BitVec 32 := Scalar.muli v2080 c8_i32_1404
  let c0_i32_1866 : BitVec 32 := 0#32
  ![v21.toNat, v22.toNat, v2076.toNat, v2078.toNat, v2081.toNat, 0]

def k1_chk111 (i : grid1.Coords) (v2076 : BitVec 32) (v2078 : BitVec 32) (v2080 : BitVec 32) : Prop :=
  (∀ (k1_h1 : k1_cond1 i = 1#1), ∀ a, (k1_off184 i v2076 v2078 v2080) a + S1x1x1x1x8x20.size a ≤ S3x8x9x80x80x20.size a) ∧
  (∀ (k1_h1 : k1_cond1 i = 1#1), ∀ a, (k1_off185 i v2076 v2078 v2080) a + S1x1x1x1x8x5.size a ≤ S3x8x9x80x80x5.size a) ∧
  (∀ (k1_h1 : k1_cond1 i = 1#1), ∀ a, (k1_off248 i v2076 v2078 v2080) a + S1x1x1x1x8x20.size a ≤ S3x8x9x80x80x20.size a) ∧
  (∀ (k1_h1 : k1_cond1 i = 1#1), ∀ a, (k1_off249 i v2076 v2078 v2080) a + S1x1x1x1x8x5.size a ≤ S3x8x9x80x80x5.size a)
theorem k1_off184_inb : ∀ (i : grid1.Coords) (v2076 : BitVec 32) (v2078 : BitVec 32) (v2080 : BitVec 32) (k1_hw111 : k1_chk111 i v2076 v2078 v2080), ∀ (k1_h1 : k1_cond1 i = 1#1), ∀ a, (k1_off184 i v2076 v2078 v2080) a + S1x1x1x1x8x20.size a ≤ S3x8x9x80x80x20.size a := fun i v2076 v2078 v2080 k1_hw111 k1_h1 => k1_hw111.1 k1_h1
theorem k1_off185_inb : ∀ (i : grid1.Coords) (v2076 : BitVec 32) (v2078 : BitVec 32) (v2080 : BitVec 32) (k1_hw111 : k1_chk111 i v2076 v2078 v2080), ∀ (k1_h1 : k1_cond1 i = 1#1), ∀ a, (k1_off185 i v2076 v2078 v2080) a + S1x1x1x1x8x5.size a ≤ S3x8x9x80x80x5.size a := fun i v2076 v2078 v2080 k1_hw111 k1_h1 => k1_hw111.2.1 k1_h1
theorem k1_off248_inb : ∀ (i : grid1.Coords) (v2076 : BitVec 32) (v2078 : BitVec 32) (v2080 : BitVec 32) (k1_hw111 : k1_chk111 i v2076 v2078 v2080), ∀ (k1_h1 : k1_cond1 i = 1#1), ∀ a, (k1_off248 i v2076 v2078 v2080) a + S1x1x1x1x8x20.size a ≤ S3x8x9x80x80x20.size a := fun i v2076 v2078 v2080 k1_hw111 k1_h1 => k1_hw111.2.2.1 k1_h1
theorem k1_off249_inb : ∀ (i : grid1.Coords) (v2076 : BitVec 32) (v2078 : BitVec 32) (v2080 : BitVec 32) (k1_hw111 : k1_chk111 i v2076 v2078 v2080), ∀ (k1_h1 : k1_cond1 i = 1#1), ∀ a, (k1_off249 i v2076 v2078 v2080) a + S1x1x1x1x8x5.size a ≤ S3x8x9x80x80x5.size a := fun i v2076 v2078 v2080 k1_hw111 k1_h1 => k1_hw111.2.2.2 k1_h1

def k1_off250 (i : grid1.Coords) (v2099 : BitVec 32) (v2101 : BitVec 32) (v2103 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1419 : BitVec 32 := 8#32
  let v2104 : BitVec 32 := Scalar.muli v2103 c8_i32_1419
  let c0_i32_1873 : BitVec 32 := 0#32
  ![v21.toNat, v22.toNat, v2099.toNat, v2101.toNat, v2104.toNat, 0]
def k1_off251 (i : grid1.Coords) (v2099 : BitVec 32) (v2101 : BitVec 32) (v2103 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1419 : BitVec 32 := 8#32
  let v2104 : BitVec 32 := Scalar.muli v2103 c8_i32_1419
  let c0_i32_1880 : BitVec 32 := 0#32
  ![v21.toNat, v22.toNat, v2099.toNat, v2101.toNat, v2104.toNat, 0]

def k1_chk112 (i : grid1.Coords) (v2099 : BitVec 32) (v2101 : BitVec 32) (v2103 : BitVec 32) : Prop :=
  (∀ (k1_h1 : k1_cond1 i = 1#1), ∀ a, (k1_off186 i v2099 v2101 v2103) a + S1x1x1x1x8x20.size a ≤ S3x8x9x80x80x20.size a) ∧
  (∀ (k1_h1 : k1_cond1 i = 1#1), ∀ a, (k1_off187 i v2099 v2101 v2103) a + S1x1x1x1x8x5.size a ≤ S3x8x9x80x80x5.size a) ∧
  (∀ (k1_h1 : k1_cond1 i = 1#1), ∀ a, (k1_off250 i v2099 v2101 v2103) a + S1x1x1x1x8x20.size a ≤ S3x8x9x80x80x20.size a) ∧
  (∀ (k1_h1 : k1_cond1 i = 1#1), ∀ a, (k1_off251 i v2099 v2101 v2103) a + S1x1x1x1x8x5.size a ≤ S3x8x9x80x80x5.size a)
theorem k1_off186_inb : ∀ (i : grid1.Coords) (v2099 : BitVec 32) (v2101 : BitVec 32) (v2103 : BitVec 32) (k1_hw112 : k1_chk112 i v2099 v2101 v2103), ∀ (k1_h1 : k1_cond1 i = 1#1), ∀ a, (k1_off186 i v2099 v2101 v2103) a + S1x1x1x1x8x20.size a ≤ S3x8x9x80x80x20.size a := fun i v2099 v2101 v2103 k1_hw112 k1_h1 => k1_hw112.1 k1_h1
theorem k1_off187_inb : ∀ (i : grid1.Coords) (v2099 : BitVec 32) (v2101 : BitVec 32) (v2103 : BitVec 32) (k1_hw112 : k1_chk112 i v2099 v2101 v2103), ∀ (k1_h1 : k1_cond1 i = 1#1), ∀ a, (k1_off187 i v2099 v2101 v2103) a + S1x1x1x1x8x5.size a ≤ S3x8x9x80x80x5.size a := fun i v2099 v2101 v2103 k1_hw112 k1_h1 => k1_hw112.2.1 k1_h1
theorem k1_off250_inb : ∀ (i : grid1.Coords) (v2099 : BitVec 32) (v2101 : BitVec 32) (v2103 : BitVec 32) (k1_hw112 : k1_chk112 i v2099 v2101 v2103), ∀ (k1_h1 : k1_cond1 i = 1#1), ∀ a, (k1_off250 i v2099 v2101 v2103) a + S1x1x1x1x8x20.size a ≤ S3x8x9x80x80x20.size a := fun i v2099 v2101 v2103 k1_hw112 k1_h1 => k1_hw112.2.2.1 k1_h1
theorem k1_off251_inb : ∀ (i : grid1.Coords) (v2099 : BitVec 32) (v2101 : BitVec 32) (v2103 : BitVec 32) (k1_hw112 : k1_chk112 i v2099 v2101 v2103), ∀ (k1_h1 : k1_cond1 i = 1#1), ∀ a, (k1_off251 i v2099 v2101 v2103) a + S1x1x1x1x8x5.size a ≤ S3x8x9x80x80x5.size a := fun i v2099 v2101 v2103 k1_hw112 k1_h1 => k1_hw112.2.2.2 k1_h1

def k1_off252 (i : grid1.Coords) (v2122 : BitVec 32) (v2124 : BitVec 32) (v2126 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1434 : BitVec 32 := 8#32
  let v2127 : BitVec 32 := Scalar.muli v2126 c8_i32_1434
  let c0_i32_1887 : BitVec 32 := 0#32
  ![v21.toNat, v22.toNat, v2122.toNat, v2124.toNat, v2127.toNat, 0]
def k1_off253 (i : grid1.Coords) (v2122 : BitVec 32) (v2124 : BitVec 32) (v2126 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1434 : BitVec 32 := 8#32
  let v2127 : BitVec 32 := Scalar.muli v2126 c8_i32_1434
  let c0_i32_1894 : BitVec 32 := 0#32
  ![v21.toNat, v22.toNat, v2122.toNat, v2124.toNat, v2127.toNat, 0]

def k1_chk113 (i : grid1.Coords) (v2122 : BitVec 32) (v2124 : BitVec 32) (v2126 : BitVec 32) : Prop :=
  (∀ (k1_h1 : k1_cond1 i = 1#1), ∀ a, (k1_off188 i v2122 v2124 v2126) a + S1x1x1x1x8x20.size a ≤ S3x8x9x80x80x20.size a) ∧
  (∀ (k1_h1 : k1_cond1 i = 1#1), ∀ a, (k1_off189 i v2122 v2124 v2126) a + S1x1x1x1x8x5.size a ≤ S3x8x9x80x80x5.size a) ∧
  (∀ (k1_h1 : k1_cond1 i = 1#1), ∀ a, (k1_off252 i v2122 v2124 v2126) a + S1x1x1x1x8x20.size a ≤ S3x8x9x80x80x20.size a) ∧
  (∀ (k1_h1 : k1_cond1 i = 1#1), ∀ a, (k1_off253 i v2122 v2124 v2126) a + S1x1x1x1x8x5.size a ≤ S3x8x9x80x80x5.size a)
theorem k1_off188_inb : ∀ (i : grid1.Coords) (v2122 : BitVec 32) (v2124 : BitVec 32) (v2126 : BitVec 32) (k1_hw113 : k1_chk113 i v2122 v2124 v2126), ∀ (k1_h1 : k1_cond1 i = 1#1), ∀ a, (k1_off188 i v2122 v2124 v2126) a + S1x1x1x1x8x20.size a ≤ S3x8x9x80x80x20.size a := fun i v2122 v2124 v2126 k1_hw113 k1_h1 => k1_hw113.1 k1_h1
theorem k1_off189_inb : ∀ (i : grid1.Coords) (v2122 : BitVec 32) (v2124 : BitVec 32) (v2126 : BitVec 32) (k1_hw113 : k1_chk113 i v2122 v2124 v2126), ∀ (k1_h1 : k1_cond1 i = 1#1), ∀ a, (k1_off189 i v2122 v2124 v2126) a + S1x1x1x1x8x5.size a ≤ S3x8x9x80x80x5.size a := fun i v2122 v2124 v2126 k1_hw113 k1_h1 => k1_hw113.2.1 k1_h1
theorem k1_off252_inb : ∀ (i : grid1.Coords) (v2122 : BitVec 32) (v2124 : BitVec 32) (v2126 : BitVec 32) (k1_hw113 : k1_chk113 i v2122 v2124 v2126), ∀ (k1_h1 : k1_cond1 i = 1#1), ∀ a, (k1_off252 i v2122 v2124 v2126) a + S1x1x1x1x8x20.size a ≤ S3x8x9x80x80x20.size a := fun i v2122 v2124 v2126 k1_hw113 k1_h1 => k1_hw113.2.2.1 k1_h1
theorem k1_off253_inb : ∀ (i : grid1.Coords) (v2122 : BitVec 32) (v2124 : BitVec 32) (v2126 : BitVec 32) (k1_hw113 : k1_chk113 i v2122 v2124 v2126), ∀ (k1_h1 : k1_cond1 i = 1#1), ∀ a, (k1_off253 i v2122 v2124 v2126) a + S1x1x1x1x8x5.size a ≤ S3x8x9x80x80x5.size a := fun i v2122 v2124 v2126 k1_hw113 k1_h1 => k1_hw113.2.2.2 k1_h1

def k1_chk115 (i : grid1.Coords) (v2680 : IVec S16 32) (v2682 : IVec S16 32) (v2685 : IVec S16 32) (v2686 : IVec S16 32) : Prop :=
  (∀ (k1_h1 : k1_cond1 i = 1#1), ∀ a x, ((![v2680, v2685, v2686] : Fin 3 → IVec S16 32) a x).toNat < S32x8x20.size a) ∧
  (∀ (k1_h1 : k1_cond1 i = 1#1), ∀ a x, ((![v2682, v2686] : Fin 2 → IVec S16 32) a x).toNat < S128x20.size a)
theorem k1_idx101_inb : ∀ (i : grid1.Coords) (v2680 : IVec S16 32) (v2682 : IVec S16 32) (v2685 : IVec S16 32) (v2686 : IVec S16 32) (k1_hw115 : k1_chk115 i v2680 v2682 v2685 v2686), ∀ (k1_h1 : k1_cond1 i = 1#1), ∀ a x, ((![v2680, v2685, v2686] : Fin 3 → IVec S16 32) a x).toNat < S32x8x20.size a := fun i v2680 v2682 v2685 v2686 k1_hw115 k1_h1 => k1_hw115.1 k1_h1
theorem k1_idx102_inb : ∀ (i : grid1.Coords) (v2680 : IVec S16 32) (v2682 : IVec S16 32) (v2685 : IVec S16 32) (v2686 : IVec S16 32) (k1_hw115 : k1_chk115 i v2680 v2682 v2685 v2686), ∀ (k1_h1 : k1_cond1 i = 1#1), ∀ a x, ((![v2682, v2686] : Fin 2 → IVec S16 32) a x).toNat < S128x20.size a := fun i v2680 v2682 v2685 v2686 k1_hw115 k1_h1 => k1_hw115.2 k1_h1

def k1_chk116 (i : grid1.Coords) (v2680 : IVec S16 32) (v2682 : IVec S16 32) (v2685 : IVec S16 32) (v2688 : IVec S16 32) : Prop :=
  (∀ (k1_h1 : k1_cond1 i = 1#1), ∀ a x, ((![v2680, v2685, v2688] : Fin 3 → IVec S16 32) a x).toNat < S32x8x20.size a) ∧
  (∀ (k1_h1 : k1_cond1 i = 1#1), ∀ a x, ((![v2682, v2688] : Fin 2 → IVec S16 32) a x).toNat < S128x20.size a)
theorem k1_idx103_inb : ∀ (i : grid1.Coords) (v2680 : IVec S16 32) (v2682 : IVec S16 32) (v2685 : IVec S16 32) (v2688 : IVec S16 32) (k1_hw116 : k1_chk116 i v2680 v2682 v2685 v2688), ∀ (k1_h1 : k1_cond1 i = 1#1), ∀ a x, ((![v2680, v2685, v2688] : Fin 3 → IVec S16 32) a x).toNat < S32x8x20.size a := fun i v2680 v2682 v2685 v2688 k1_hw116 k1_h1 => k1_hw116.1 k1_h1
theorem k1_idx104_inb : ∀ (i : grid1.Coords) (v2680 : IVec S16 32) (v2682 : IVec S16 32) (v2685 : IVec S16 32) (v2688 : IVec S16 32) (k1_hw116 : k1_chk116 i v2680 v2682 v2685 v2688), ∀ (k1_h1 : k1_cond1 i = 1#1), ∀ a x, ((![v2682, v2688] : Fin 2 → IVec S16 32) a x).toNat < S128x20.size a := fun i v2680 v2682 v2685 v2688 k1_hw116 k1_h1 => k1_hw116.2 k1_h1

def k1_chk117 (i : grid1.Coords) (v2680 : IVec S16 32) (v2682 : IVec S16 32) (v2685 : IVec S16 32) (v2690 : IVec S16 32) : Prop :=
  (∀ (k1_h1 : k1_cond1 i = 1#1), ∀ a x, ((![v2680, v2685, v2690] : Fin 3 → IVec S16 32) a x).toNat < S32x8x20.size a) ∧
  (∀ (k1_h1 : k1_cond1 i = 1#1), ∀ a x, ((![v2682, v2690] : Fin 2 → IVec S16 32) a x).toNat < S128x20.size a)
theorem k1_idx105_inb : ∀ (i : grid1.Coords) (v2680 : IVec S16 32) (v2682 : IVec S16 32) (v2685 : IVec S16 32) (v2690 : IVec S16 32) (k1_hw117 : k1_chk117 i v2680 v2682 v2685 v2690), ∀ (k1_h1 : k1_cond1 i = 1#1), ∀ a x, ((![v2680, v2685, v2690] : Fin 3 → IVec S16 32) a x).toNat < S32x8x20.size a := fun i v2680 v2682 v2685 v2690 k1_hw117 k1_h1 => k1_hw117.1 k1_h1
theorem k1_idx106_inb : ∀ (i : grid1.Coords) (v2680 : IVec S16 32) (v2682 : IVec S16 32) (v2685 : IVec S16 32) (v2690 : IVec S16 32) (k1_hw117 : k1_chk117 i v2680 v2682 v2685 v2690), ∀ (k1_h1 : k1_cond1 i = 1#1), ∀ a x, ((![v2682, v2690] : Fin 2 → IVec S16 32) a x).toNat < S128x20.size a := fun i v2680 v2682 v2685 v2690 k1_hw117 k1_h1 => k1_hw117.2 k1_h1

def k1_chk118 (i : grid1.Coords) (v2680 : IVec S16 32) (v2682 : IVec S16 32) (v2685 : IVec S16 32) (v2692 : IVec S16 32) : Prop :=
  (∀ (k1_h1 : k1_cond1 i = 1#1), ∀ a x, ((![v2680, v2685, v2692] : Fin 3 → IVec S16 32) a x).toNat < S32x8x20.size a) ∧
  (∀ (k1_h1 : k1_cond1 i = 1#1), ∀ a x, ((![v2682, v2692] : Fin 2 → IVec S16 32) a x).toNat < S128x20.size a)
theorem k1_idx107_inb : ∀ (i : grid1.Coords) (v2680 : IVec S16 32) (v2682 : IVec S16 32) (v2685 : IVec S16 32) (v2692 : IVec S16 32) (k1_hw118 : k1_chk118 i v2680 v2682 v2685 v2692), ∀ (k1_h1 : k1_cond1 i = 1#1), ∀ a x, ((![v2680, v2685, v2692] : Fin 3 → IVec S16 32) a x).toNat < S32x8x20.size a := fun i v2680 v2682 v2685 v2692 k1_hw118 k1_h1 => k1_hw118.1 k1_h1
theorem k1_idx108_inb : ∀ (i : grid1.Coords) (v2680 : IVec S16 32) (v2682 : IVec S16 32) (v2685 : IVec S16 32) (v2692 : IVec S16 32) (k1_hw118 : k1_chk118 i v2680 v2682 v2685 v2692), ∀ (k1_h1 : k1_cond1 i = 1#1), ∀ a x, ((![v2682, v2692] : Fin 2 → IVec S16 32) a x).toNat < S128x20.size a := fun i v2680 v2682 v2685 v2692 k1_hw118 k1_h1 => k1_hw118.2 k1_h1

def k1_chk119 (i : grid1.Coords) (v2680 : IVec S16 32) (v2682 : IVec S16 32) (v2685 : IVec S16 32) (v2694 : IVec S16 32) : Prop :=
  (∀ (k1_h1 : k1_cond1 i = 1#1), ∀ a x, ((![v2680, v2685, v2694] : Fin 3 → IVec S16 32) a x).toNat < S32x8x20.size a) ∧
  (∀ (k1_h1 : k1_cond1 i = 1#1), ∀ a x, ((![v2682, v2694] : Fin 2 → IVec S16 32) a x).toNat < S128x20.size a)
theorem k1_idx109_inb : ∀ (i : grid1.Coords) (v2680 : IVec S16 32) (v2682 : IVec S16 32) (v2685 : IVec S16 32) (v2694 : IVec S16 32) (k1_hw119 : k1_chk119 i v2680 v2682 v2685 v2694), ∀ (k1_h1 : k1_cond1 i = 1#1), ∀ a x, ((![v2680, v2685, v2694] : Fin 3 → IVec S16 32) a x).toNat < S32x8x20.size a := fun i v2680 v2682 v2685 v2694 k1_hw119 k1_h1 => k1_hw119.1 k1_h1
theorem k1_idx110_inb : ∀ (i : grid1.Coords) (v2680 : IVec S16 32) (v2682 : IVec S16 32) (v2685 : IVec S16 32) (v2694 : IVec S16 32) (k1_hw119 : k1_chk119 i v2680 v2682 v2685 v2694), ∀ (k1_h1 : k1_cond1 i = 1#1), ∀ a x, ((![v2682, v2694] : Fin 2 → IVec S16 32) a x).toNat < S128x20.size a := fun i v2680 v2682 v2685 v2694 k1_hw119 k1_h1 => k1_hw119.2 k1_h1

def k1_chk120 (i : grid1.Coords) (v2680 : IVec S16 32) (v2682 : IVec S16 32) (v2685 : IVec S16 32) (v2696 : IVec S16 32) : Prop :=
  (∀ (k1_h1 : k1_cond1 i = 1#1), ∀ a x, ((![v2680, v2685, v2696] : Fin 3 → IVec S16 32) a x).toNat < S32x8x20.size a) ∧
  (∀ (k1_h1 : k1_cond1 i = 1#1), ∀ a x, ((![v2682, v2696] : Fin 2 → IVec S16 32) a x).toNat < S128x20.size a)
theorem k1_idx111_inb : ∀ (i : grid1.Coords) (v2680 : IVec S16 32) (v2682 : IVec S16 32) (v2685 : IVec S16 32) (v2696 : IVec S16 32) (k1_hw120 : k1_chk120 i v2680 v2682 v2685 v2696), ∀ (k1_h1 : k1_cond1 i = 1#1), ∀ a x, ((![v2680, v2685, v2696] : Fin 3 → IVec S16 32) a x).toNat < S32x8x20.size a := fun i v2680 v2682 v2685 v2696 k1_hw120 k1_h1 => k1_hw120.1 k1_h1
theorem k1_idx112_inb : ∀ (i : grid1.Coords) (v2680 : IVec S16 32) (v2682 : IVec S16 32) (v2685 : IVec S16 32) (v2696 : IVec S16 32) (k1_hw120 : k1_chk120 i v2680 v2682 v2685 v2696), ∀ (k1_h1 : k1_cond1 i = 1#1), ∀ a x, ((![v2682, v2696] : Fin 2 → IVec S16 32) a x).toNat < S128x20.size a := fun i v2680 v2682 v2685 v2696 k1_hw120 k1_h1 => k1_hw120.2 k1_h1

def k1_chk121 (i : grid1.Coords) (v2680 : IVec S16 32) (v2682 : IVec S16 32) (v2685 : IVec S16 32) (v2698 : IVec S16 32) : Prop :=
  (∀ (k1_h1 : k1_cond1 i = 1#1), ∀ a x, ((![v2680, v2685, v2698] : Fin 3 → IVec S16 32) a x).toNat < S32x8x20.size a) ∧
  (∀ (k1_h1 : k1_cond1 i = 1#1), ∀ a x, ((![v2682, v2698] : Fin 2 → IVec S16 32) a x).toNat < S128x20.size a)
theorem k1_idx113_inb : ∀ (i : grid1.Coords) (v2680 : IVec S16 32) (v2682 : IVec S16 32) (v2685 : IVec S16 32) (v2698 : IVec S16 32) (k1_hw121 : k1_chk121 i v2680 v2682 v2685 v2698), ∀ (k1_h1 : k1_cond1 i = 1#1), ∀ a x, ((![v2680, v2685, v2698] : Fin 3 → IVec S16 32) a x).toNat < S32x8x20.size a := fun i v2680 v2682 v2685 v2698 k1_hw121 k1_h1 => k1_hw121.1 k1_h1
theorem k1_idx114_inb : ∀ (i : grid1.Coords) (v2680 : IVec S16 32) (v2682 : IVec S16 32) (v2685 : IVec S16 32) (v2698 : IVec S16 32) (k1_hw121 : k1_chk121 i v2680 v2682 v2685 v2698), ∀ (k1_h1 : k1_cond1 i = 1#1), ∀ a x, ((![v2682, v2698] : Fin 2 → IVec S16 32) a x).toNat < S128x20.size a := fun i v2680 v2682 v2685 v2698 k1_hw121 k1_h1 => k1_hw121.2 k1_h1

def k1_chk122 (i : grid1.Coords) (v2680 : IVec S16 32) (v2682 : IVec S16 32) (v2685 : IVec S16 32) (v2700 : IVec S16 32) : Prop :=
  (∀ (k1_h1 : k1_cond1 i = 1#1), ∀ a x, ((![v2680, v2685, v2700] : Fin 3 → IVec S16 32) a x).toNat < S32x8x20.size a) ∧
  (∀ (k1_h1 : k1_cond1 i = 1#1), ∀ a x, ((![v2682, v2700] : Fin 2 → IVec S16 32) a x).toNat < S128x20.size a)
theorem k1_idx115_inb : ∀ (i : grid1.Coords) (v2680 : IVec S16 32) (v2682 : IVec S16 32) (v2685 : IVec S16 32) (v2700 : IVec S16 32) (k1_hw122 : k1_chk122 i v2680 v2682 v2685 v2700), ∀ (k1_h1 : k1_cond1 i = 1#1), ∀ a x, ((![v2680, v2685, v2700] : Fin 3 → IVec S16 32) a x).toNat < S32x8x20.size a := fun i v2680 v2682 v2685 v2700 k1_hw122 k1_h1 => k1_hw122.1 k1_h1
theorem k1_idx116_inb : ∀ (i : grid1.Coords) (v2680 : IVec S16 32) (v2682 : IVec S16 32) (v2685 : IVec S16 32) (v2700 : IVec S16 32) (k1_hw122 : k1_chk122 i v2680 v2682 v2685 v2700), ∀ (k1_h1 : k1_cond1 i = 1#1), ∀ a x, ((![v2682, v2700] : Fin 2 → IVec S16 32) a x).toNat < S128x20.size a := fun i v2680 v2682 v2685 v2700 k1_hw122 k1_h1 => k1_hw122.2 k1_h1

def k1_chk123 (i : grid1.Coords) (v2680 : IVec S16 32) (v2682 : IVec S16 32) (v2685 : IVec S16 32) (v2702 : IVec S16 32) : Prop :=
  (∀ (k1_h1 : k1_cond1 i = 1#1), ∀ a x, ((![v2680, v2685, v2702] : Fin 3 → IVec S16 32) a x).toNat < S32x8x20.size a) ∧
  (∀ (k1_h1 : k1_cond1 i = 1#1), ∀ a x, ((![v2682, v2702] : Fin 2 → IVec S16 32) a x).toNat < S128x20.size a)
theorem k1_idx117_inb : ∀ (i : grid1.Coords) (v2680 : IVec S16 32) (v2682 : IVec S16 32) (v2685 : IVec S16 32) (v2702 : IVec S16 32) (k1_hw123 : k1_chk123 i v2680 v2682 v2685 v2702), ∀ (k1_h1 : k1_cond1 i = 1#1), ∀ a x, ((![v2680, v2685, v2702] : Fin 3 → IVec S16 32) a x).toNat < S32x8x20.size a := fun i v2680 v2682 v2685 v2702 k1_hw123 k1_h1 => k1_hw123.1 k1_h1
theorem k1_idx118_inb : ∀ (i : grid1.Coords) (v2680 : IVec S16 32) (v2682 : IVec S16 32) (v2685 : IVec S16 32) (v2702 : IVec S16 32) (k1_hw123 : k1_chk123 i v2680 v2682 v2685 v2702), ∀ (k1_h1 : k1_cond1 i = 1#1), ∀ a x, ((![v2682, v2702] : Fin 2 → IVec S16 32) a x).toNat < S128x20.size a := fun i v2680 v2682 v2685 v2702 k1_hw123 k1_h1 => k1_hw123.2 k1_h1

def k1_chk124 (i : grid1.Coords) (v2680 : IVec S16 32) (v2682 : IVec S16 32) (v2685 : IVec S16 32) (v2704 : IVec S16 32) : Prop :=
  (∀ (k1_h1 : k1_cond1 i = 1#1), ∀ a x, ((![v2680, v2685, v2704] : Fin 3 → IVec S16 32) a x).toNat < S32x8x20.size a) ∧
  (∀ (k1_h1 : k1_cond1 i = 1#1), ∀ a x, ((![v2682, v2704] : Fin 2 → IVec S16 32) a x).toNat < S128x20.size a)
theorem k1_idx119_inb : ∀ (i : grid1.Coords) (v2680 : IVec S16 32) (v2682 : IVec S16 32) (v2685 : IVec S16 32) (v2704 : IVec S16 32) (k1_hw124 : k1_chk124 i v2680 v2682 v2685 v2704), ∀ (k1_h1 : k1_cond1 i = 1#1), ∀ a x, ((![v2680, v2685, v2704] : Fin 3 → IVec S16 32) a x).toNat < S32x8x20.size a := fun i v2680 v2682 v2685 v2704 k1_hw124 k1_h1 => k1_hw124.1 k1_h1
theorem k1_idx120_inb : ∀ (i : grid1.Coords) (v2680 : IVec S16 32) (v2682 : IVec S16 32) (v2685 : IVec S16 32) (v2704 : IVec S16 32) (k1_hw124 : k1_chk124 i v2680 v2682 v2685 v2704), ∀ (k1_h1 : k1_cond1 i = 1#1), ∀ a x, ((![v2682, v2704] : Fin 2 → IVec S16 32) a x).toNat < S128x20.size a := fun i v2680 v2682 v2685 v2704 k1_hw124 k1_h1 => k1_hw124.2 k1_h1

def k1_chk125 (i : grid1.Coords) (v2680 : IVec S16 32) (v2682 : IVec S16 32) (v2685 : IVec S16 32) (v2706 : IVec S16 32) : Prop :=
  (∀ (k1_h1 : k1_cond1 i = 1#1), ∀ a x, ((![v2680, v2685, v2706] : Fin 3 → IVec S16 32) a x).toNat < S32x8x20.size a) ∧
  (∀ (k1_h1 : k1_cond1 i = 1#1), ∀ a x, ((![v2682, v2706] : Fin 2 → IVec S16 32) a x).toNat < S128x20.size a)
theorem k1_idx121_inb : ∀ (i : grid1.Coords) (v2680 : IVec S16 32) (v2682 : IVec S16 32) (v2685 : IVec S16 32) (v2706 : IVec S16 32) (k1_hw125 : k1_chk125 i v2680 v2682 v2685 v2706), ∀ (k1_h1 : k1_cond1 i = 1#1), ∀ a x, ((![v2680, v2685, v2706] : Fin 3 → IVec S16 32) a x).toNat < S32x8x20.size a := fun i v2680 v2682 v2685 v2706 k1_hw125 k1_h1 => k1_hw125.1 k1_h1
theorem k1_idx122_inb : ∀ (i : grid1.Coords) (v2680 : IVec S16 32) (v2682 : IVec S16 32) (v2685 : IVec S16 32) (v2706 : IVec S16 32) (k1_hw125 : k1_chk125 i v2680 v2682 v2685 v2706), ∀ (k1_h1 : k1_cond1 i = 1#1), ∀ a x, ((![v2682, v2706] : Fin 2 → IVec S16 32) a x).toNat < S128x20.size a := fun i v2680 v2682 v2685 v2706 k1_hw125 k1_h1 => k1_hw125.2 k1_h1

def k1_chk126 (i : grid1.Coords) (v2680 : IVec S16 32) (v2682 : IVec S16 32) (v2685 : IVec S16 32) (v2708 : IVec S16 32) : Prop :=
  (∀ (k1_h1 : k1_cond1 i = 1#1), ∀ a x, ((![v2680, v2685, v2708] : Fin 3 → IVec S16 32) a x).toNat < S32x8x20.size a) ∧
  (∀ (k1_h1 : k1_cond1 i = 1#1), ∀ a x, ((![v2682, v2708] : Fin 2 → IVec S16 32) a x).toNat < S128x20.size a)
theorem k1_idx123_inb : ∀ (i : grid1.Coords) (v2680 : IVec S16 32) (v2682 : IVec S16 32) (v2685 : IVec S16 32) (v2708 : IVec S16 32) (k1_hw126 : k1_chk126 i v2680 v2682 v2685 v2708), ∀ (k1_h1 : k1_cond1 i = 1#1), ∀ a x, ((![v2680, v2685, v2708] : Fin 3 → IVec S16 32) a x).toNat < S32x8x20.size a := fun i v2680 v2682 v2685 v2708 k1_hw126 k1_h1 => k1_hw126.1 k1_h1
theorem k1_idx124_inb : ∀ (i : grid1.Coords) (v2680 : IVec S16 32) (v2682 : IVec S16 32) (v2685 : IVec S16 32) (v2708 : IVec S16 32) (k1_hw126 : k1_chk126 i v2680 v2682 v2685 v2708), ∀ (k1_h1 : k1_cond1 i = 1#1), ∀ a x, ((![v2682, v2708] : Fin 2 → IVec S16 32) a x).toNat < S128x20.size a := fun i v2680 v2682 v2685 v2708 k1_hw126 k1_h1 => k1_hw126.2 k1_h1

def k1_chk127 (i : grid1.Coords) (v2680 : IVec S16 32) (v2682 : IVec S16 32) (v2685 : IVec S16 32) (v2710 : IVec S16 32) : Prop :=
  (∀ (k1_h1 : k1_cond1 i = 1#1), ∀ a x, ((![v2680, v2685, v2710] : Fin 3 → IVec S16 32) a x).toNat < S32x8x20.size a) ∧
  (∀ (k1_h1 : k1_cond1 i = 1#1), ∀ a x, ((![v2682, v2710] : Fin 2 → IVec S16 32) a x).toNat < S128x20.size a)
theorem k1_idx125_inb : ∀ (i : grid1.Coords) (v2680 : IVec S16 32) (v2682 : IVec S16 32) (v2685 : IVec S16 32) (v2710 : IVec S16 32) (k1_hw127 : k1_chk127 i v2680 v2682 v2685 v2710), ∀ (k1_h1 : k1_cond1 i = 1#1), ∀ a x, ((![v2680, v2685, v2710] : Fin 3 → IVec S16 32) a x).toNat < S32x8x20.size a := fun i v2680 v2682 v2685 v2710 k1_hw127 k1_h1 => k1_hw127.1 k1_h1
theorem k1_idx126_inb : ∀ (i : grid1.Coords) (v2680 : IVec S16 32) (v2682 : IVec S16 32) (v2685 : IVec S16 32) (v2710 : IVec S16 32) (k1_hw127 : k1_chk127 i v2680 v2682 v2685 v2710), ∀ (k1_h1 : k1_cond1 i = 1#1), ∀ a x, ((![v2682, v2710] : Fin 2 → IVec S16 32) a x).toNat < S128x20.size a := fun i v2680 v2682 v2685 v2710 k1_hw127 k1_h1 => k1_hw127.2 k1_h1

def k1_chk128 (i : grid1.Coords) (v2680 : IVec S16 32) (v2682 : IVec S16 32) (v2685 : IVec S16 32) (v2712 : IVec S16 32) : Prop :=
  (∀ (k1_h1 : k1_cond1 i = 1#1), ∀ a x, ((![v2680, v2685, v2712] : Fin 3 → IVec S16 32) a x).toNat < S32x8x20.size a) ∧
  (∀ (k1_h1 : k1_cond1 i = 1#1), ∀ a x, ((![v2682, v2712] : Fin 2 → IVec S16 32) a x).toNat < S128x20.size a)
theorem k1_idx127_inb : ∀ (i : grid1.Coords) (v2680 : IVec S16 32) (v2682 : IVec S16 32) (v2685 : IVec S16 32) (v2712 : IVec S16 32) (k1_hw128 : k1_chk128 i v2680 v2682 v2685 v2712), ∀ (k1_h1 : k1_cond1 i = 1#1), ∀ a x, ((![v2680, v2685, v2712] : Fin 3 → IVec S16 32) a x).toNat < S32x8x20.size a := fun i v2680 v2682 v2685 v2712 k1_hw128 k1_h1 => k1_hw128.1 k1_h1
theorem k1_idx128_inb : ∀ (i : grid1.Coords) (v2680 : IVec S16 32) (v2682 : IVec S16 32) (v2685 : IVec S16 32) (v2712 : IVec S16 32) (k1_hw128 : k1_chk128 i v2680 v2682 v2685 v2712), ∀ (k1_h1 : k1_cond1 i = 1#1), ∀ a x, ((![v2682, v2712] : Fin 2 → IVec S16 32) a x).toNat < S128x20.size a := fun i v2680 v2682 v2685 v2712 k1_hw128 k1_h1 => k1_hw128.2 k1_h1

def k1_chk129 (i : grid1.Coords) (v2680 : IVec S16 32) (v2682 : IVec S16 32) (v2685 : IVec S16 32) (v2714 : IVec S16 32) : Prop :=
  (∀ (k1_h1 : k1_cond1 i = 1#1), ∀ a x, ((![v2680, v2685, v2714] : Fin 3 → IVec S16 32) a x).toNat < S32x8x20.size a) ∧
  (∀ (k1_h1 : k1_cond1 i = 1#1), ∀ a x, ((![v2682, v2714] : Fin 2 → IVec S16 32) a x).toNat < S128x20.size a)
theorem k1_idx129_inb : ∀ (i : grid1.Coords) (v2680 : IVec S16 32) (v2682 : IVec S16 32) (v2685 : IVec S16 32) (v2714 : IVec S16 32) (k1_hw129 : k1_chk129 i v2680 v2682 v2685 v2714), ∀ (k1_h1 : k1_cond1 i = 1#1), ∀ a x, ((![v2680, v2685, v2714] : Fin 3 → IVec S16 32) a x).toNat < S32x8x20.size a := fun i v2680 v2682 v2685 v2714 k1_hw129 k1_h1 => k1_hw129.1 k1_h1
theorem k1_idx130_inb : ∀ (i : grid1.Coords) (v2680 : IVec S16 32) (v2682 : IVec S16 32) (v2685 : IVec S16 32) (v2714 : IVec S16 32) (k1_hw129 : k1_chk129 i v2680 v2682 v2685 v2714), ∀ (k1_h1 : k1_cond1 i = 1#1), ∀ a x, ((![v2682, v2714] : Fin 2 → IVec S16 32) a x).toNat < S128x20.size a := fun i v2680 v2682 v2685 v2714 k1_hw129 k1_h1 => k1_hw129.2 k1_h1

def k1_chk130 (i : grid1.Coords) (v2680 : IVec S16 32) (v2682 : IVec S16 32) (v2685 : IVec S16 32) (v2716 : IVec S16 32) : Prop :=
  (∀ (k1_h1 : k1_cond1 i = 1#1), ∀ a x, ((![v2680, v2685, v2716] : Fin 3 → IVec S16 32) a x).toNat < S32x8x20.size a) ∧
  (∀ (k1_h1 : k1_cond1 i = 1#1), ∀ a x, ((![v2682, v2716] : Fin 2 → IVec S16 32) a x).toNat < S128x20.size a)
theorem k1_idx131_inb : ∀ (i : grid1.Coords) (v2680 : IVec S16 32) (v2682 : IVec S16 32) (v2685 : IVec S16 32) (v2716 : IVec S16 32) (k1_hw130 : k1_chk130 i v2680 v2682 v2685 v2716), ∀ (k1_h1 : k1_cond1 i = 1#1), ∀ a x, ((![v2680, v2685, v2716] : Fin 3 → IVec S16 32) a x).toNat < S32x8x20.size a := fun i v2680 v2682 v2685 v2716 k1_hw130 k1_h1 => k1_hw130.1 k1_h1
theorem k1_idx132_inb : ∀ (i : grid1.Coords) (v2680 : IVec S16 32) (v2682 : IVec S16 32) (v2685 : IVec S16 32) (v2716 : IVec S16 32) (k1_hw130 : k1_chk130 i v2680 v2682 v2685 v2716), ∀ (k1_h1 : k1_cond1 i = 1#1), ∀ a x, ((![v2682, v2716] : Fin 2 → IVec S16 32) a x).toNat < S128x20.size a := fun i v2680 v2682 v2685 v2716 k1_hw130 k1_h1 => k1_hw130.2 k1_h1

def k1_chk131 (i : grid1.Coords) (v2680 : IVec S16 32) (v2682 : IVec S16 32) (v2685 : IVec S16 32) (v2718 : IVec S16 32) : Prop :=
  (∀ (k1_h1 : k1_cond1 i = 1#1), ∀ a x, ((![v2680, v2685, v2718] : Fin 3 → IVec S16 32) a x).toNat < S32x8x20.size a) ∧
  (∀ (k1_h1 : k1_cond1 i = 1#1), ∀ a x, ((![v2682, v2718] : Fin 2 → IVec S16 32) a x).toNat < S128x20.size a)
theorem k1_idx133_inb : ∀ (i : grid1.Coords) (v2680 : IVec S16 32) (v2682 : IVec S16 32) (v2685 : IVec S16 32) (v2718 : IVec S16 32) (k1_hw131 : k1_chk131 i v2680 v2682 v2685 v2718), ∀ (k1_h1 : k1_cond1 i = 1#1), ∀ a x, ((![v2680, v2685, v2718] : Fin 3 → IVec S16 32) a x).toNat < S32x8x20.size a := fun i v2680 v2682 v2685 v2718 k1_hw131 k1_h1 => k1_hw131.1 k1_h1
theorem k1_idx134_inb : ∀ (i : grid1.Coords) (v2680 : IVec S16 32) (v2682 : IVec S16 32) (v2685 : IVec S16 32) (v2718 : IVec S16 32) (k1_hw131 : k1_chk131 i v2680 v2682 v2685 v2718), ∀ (k1_h1 : k1_cond1 i = 1#1), ∀ a x, ((![v2682, v2718] : Fin 2 → IVec S16 32) a x).toNat < S128x20.size a := fun i v2680 v2682 v2685 v2718 k1_hw131 k1_h1 => k1_hw131.2 k1_h1

def k1_chk132 (i : grid1.Coords) (v2680 : IVec S16 32) (v2682 : IVec S16 32) (v2685 : IVec S16 32) (v2720 : IVec S16 32) : Prop :=
  (∀ (k1_h1 : k1_cond1 i = 1#1), ∀ a x, ((![v2680, v2685, v2720] : Fin 3 → IVec S16 32) a x).toNat < S32x8x20.size a) ∧
  (∀ (k1_h1 : k1_cond1 i = 1#1), ∀ a x, ((![v2682, v2720] : Fin 2 → IVec S16 32) a x).toNat < S128x20.size a)
theorem k1_idx135_inb : ∀ (i : grid1.Coords) (v2680 : IVec S16 32) (v2682 : IVec S16 32) (v2685 : IVec S16 32) (v2720 : IVec S16 32) (k1_hw132 : k1_chk132 i v2680 v2682 v2685 v2720), ∀ (k1_h1 : k1_cond1 i = 1#1), ∀ a x, ((![v2680, v2685, v2720] : Fin 3 → IVec S16 32) a x).toNat < S32x8x20.size a := fun i v2680 v2682 v2685 v2720 k1_hw132 k1_h1 => k1_hw132.1 k1_h1
theorem k1_idx136_inb : ∀ (i : grid1.Coords) (v2680 : IVec S16 32) (v2682 : IVec S16 32) (v2685 : IVec S16 32) (v2720 : IVec S16 32) (k1_hw132 : k1_chk132 i v2680 v2682 v2685 v2720), ∀ (k1_h1 : k1_cond1 i = 1#1), ∀ a x, ((![v2682, v2720] : Fin 2 → IVec S16 32) a x).toNat < S128x20.size a := fun i v2680 v2682 v2685 v2720 k1_hw132 k1_h1 => k1_hw132.2 k1_h1

def k1_chk133 (i : grid1.Coords) (v2680 : IVec S16 32) (v2682 : IVec S16 32) (v2685 : IVec S16 32) (v2722 : IVec S16 32) : Prop :=
  (∀ (k1_h1 : k1_cond1 i = 1#1), ∀ a x, ((![v2680, v2685, v2722] : Fin 3 → IVec S16 32) a x).toNat < S32x8x20.size a) ∧
  (∀ (k1_h1 : k1_cond1 i = 1#1), ∀ a x, ((![v2682, v2722] : Fin 2 → IVec S16 32) a x).toNat < S128x20.size a)
theorem k1_idx137_inb : ∀ (i : grid1.Coords) (v2680 : IVec S16 32) (v2682 : IVec S16 32) (v2685 : IVec S16 32) (v2722 : IVec S16 32) (k1_hw133 : k1_chk133 i v2680 v2682 v2685 v2722), ∀ (k1_h1 : k1_cond1 i = 1#1), ∀ a x, ((![v2680, v2685, v2722] : Fin 3 → IVec S16 32) a x).toNat < S32x8x20.size a := fun i v2680 v2682 v2685 v2722 k1_hw133 k1_h1 => k1_hw133.1 k1_h1
theorem k1_idx138_inb : ∀ (i : grid1.Coords) (v2680 : IVec S16 32) (v2682 : IVec S16 32) (v2685 : IVec S16 32) (v2722 : IVec S16 32) (k1_hw133 : k1_chk133 i v2680 v2682 v2685 v2722), ∀ (k1_h1 : k1_cond1 i = 1#1), ∀ a x, ((![v2682, v2722] : Fin 2 → IVec S16 32) a x).toNat < S128x20.size a := fun i v2680 v2682 v2685 v2722 k1_hw133 k1_h1 => k1_hw133.2 k1_h1

def k1_chk134 (i : grid1.Coords) (v2680 : IVec S16 32) (v2682 : IVec S16 32) (v2685 : IVec S16 32) (v2724 : IVec S16 32) : Prop :=
  (∀ (k1_h1 : k1_cond1 i = 1#1), ∀ a x, ((![v2680, v2685, v2724] : Fin 3 → IVec S16 32) a x).toNat < S32x8x20.size a) ∧
  (∀ (k1_h1 : k1_cond1 i = 1#1), ∀ a x, ((![v2682, v2724] : Fin 2 → IVec S16 32) a x).toNat < S128x20.size a)
theorem k1_idx139_inb : ∀ (i : grid1.Coords) (v2680 : IVec S16 32) (v2682 : IVec S16 32) (v2685 : IVec S16 32) (v2724 : IVec S16 32) (k1_hw134 : k1_chk134 i v2680 v2682 v2685 v2724), ∀ (k1_h1 : k1_cond1 i = 1#1), ∀ a x, ((![v2680, v2685, v2724] : Fin 3 → IVec S16 32) a x).toNat < S32x8x20.size a := fun i v2680 v2682 v2685 v2724 k1_hw134 k1_h1 => k1_hw134.1 k1_h1
theorem k1_idx140_inb : ∀ (i : grid1.Coords) (v2680 : IVec S16 32) (v2682 : IVec S16 32) (v2685 : IVec S16 32) (v2724 : IVec S16 32) (k1_hw134 : k1_chk134 i v2680 v2682 v2685 v2724), ∀ (k1_h1 : k1_cond1 i = 1#1), ∀ a x, ((![v2682, v2724] : Fin 2 → IVec S16 32) a x).toNat < S128x20.size a := fun i v2680 v2682 v2685 v2724 k1_hw134 k1_h1 => k1_hw134.2 k1_h1

def k1_chk135 (i : grid1.Coords) (v2680 : IVec S16 32) (v2682 : IVec S16 32) (v2685 : IVec S16 32) (v2726 : IVec S16 32) : Prop :=
  (∀ (k1_h1 : k1_cond1 i = 1#1), ∀ a x, ((![v2680, v2685, v2726] : Fin 3 → IVec S16 32) a x).toNat < S32x8x5.size a) ∧
  (∀ (k1_h1 : k1_cond1 i = 1#1), ∀ a x, ((![v2682, v2726] : Fin 2 → IVec S16 32) a x).toNat < S128x5.size a)
theorem k1_idx141_inb : ∀ (i : grid1.Coords) (v2680 : IVec S16 32) (v2682 : IVec S16 32) (v2685 : IVec S16 32) (v2726 : IVec S16 32) (k1_hw135 : k1_chk135 i v2680 v2682 v2685 v2726), ∀ (k1_h1 : k1_cond1 i = 1#1), ∀ a x, ((![v2680, v2685, v2726] : Fin 3 → IVec S16 32) a x).toNat < S32x8x5.size a := fun i v2680 v2682 v2685 v2726 k1_hw135 k1_h1 => k1_hw135.1 k1_h1
theorem k1_idx142_inb : ∀ (i : grid1.Coords) (v2680 : IVec S16 32) (v2682 : IVec S16 32) (v2685 : IVec S16 32) (v2726 : IVec S16 32) (k1_hw135 : k1_chk135 i v2680 v2682 v2685 v2726), ∀ (k1_h1 : k1_cond1 i = 1#1), ∀ a x, ((![v2682, v2726] : Fin 2 → IVec S16 32) a x).toNat < S128x5.size a := fun i v2680 v2682 v2685 v2726 k1_hw135 k1_h1 => k1_hw135.2 k1_h1

def k1_chk136 (i : grid1.Coords) (v2680 : IVec S16 32) (v2682 : IVec S16 32) (v2685 : IVec S16 32) (v2728 : IVec S16 32) : Prop :=
  (∀ (k1_h1 : k1_cond1 i = 1#1), ∀ a x, ((![v2680, v2685, v2728] : Fin 3 → IVec S16 32) a x).toNat < S32x8x5.size a) ∧
  (∀ (k1_h1 : k1_cond1 i = 1#1), ∀ a x, ((![v2682, v2728] : Fin 2 → IVec S16 32) a x).toNat < S128x5.size a)
theorem k1_idx143_inb : ∀ (i : grid1.Coords) (v2680 : IVec S16 32) (v2682 : IVec S16 32) (v2685 : IVec S16 32) (v2728 : IVec S16 32) (k1_hw136 : k1_chk136 i v2680 v2682 v2685 v2728), ∀ (k1_h1 : k1_cond1 i = 1#1), ∀ a x, ((![v2680, v2685, v2728] : Fin 3 → IVec S16 32) a x).toNat < S32x8x5.size a := fun i v2680 v2682 v2685 v2728 k1_hw136 k1_h1 => k1_hw136.1 k1_h1
theorem k1_idx144_inb : ∀ (i : grid1.Coords) (v2680 : IVec S16 32) (v2682 : IVec S16 32) (v2685 : IVec S16 32) (v2728 : IVec S16 32) (k1_hw136 : k1_chk136 i v2680 v2682 v2685 v2728), ∀ (k1_h1 : k1_cond1 i = 1#1), ∀ a x, ((![v2682, v2728] : Fin 2 → IVec S16 32) a x).toNat < S128x5.size a := fun i v2680 v2682 v2685 v2728 k1_hw136 k1_h1 => k1_hw136.2 k1_h1

def k1_chk137 (i : grid1.Coords) (v2680 : IVec S16 32) (v2682 : IVec S16 32) (v2685 : IVec S16 32) (v2730 : IVec S16 32) : Prop :=
  (∀ (k1_h1 : k1_cond1 i = 1#1), ∀ a x, ((![v2680, v2685, v2730] : Fin 3 → IVec S16 32) a x).toNat < S32x8x5.size a) ∧
  (∀ (k1_h1 : k1_cond1 i = 1#1), ∀ a x, ((![v2682, v2730] : Fin 2 → IVec S16 32) a x).toNat < S128x5.size a)
theorem k1_idx145_inb : ∀ (i : grid1.Coords) (v2680 : IVec S16 32) (v2682 : IVec S16 32) (v2685 : IVec S16 32) (v2730 : IVec S16 32) (k1_hw137 : k1_chk137 i v2680 v2682 v2685 v2730), ∀ (k1_h1 : k1_cond1 i = 1#1), ∀ a x, ((![v2680, v2685, v2730] : Fin 3 → IVec S16 32) a x).toNat < S32x8x5.size a := fun i v2680 v2682 v2685 v2730 k1_hw137 k1_h1 => k1_hw137.1 k1_h1
theorem k1_idx146_inb : ∀ (i : grid1.Coords) (v2680 : IVec S16 32) (v2682 : IVec S16 32) (v2685 : IVec S16 32) (v2730 : IVec S16 32) (k1_hw137 : k1_chk137 i v2680 v2682 v2685 v2730), ∀ (k1_h1 : k1_cond1 i = 1#1), ∀ a x, ((![v2682, v2730] : Fin 2 → IVec S16 32) a x).toNat < S128x5.size a := fun i v2680 v2682 v2685 v2730 k1_hw137 k1_h1 => k1_hw137.2 k1_h1

def k1_chk138 (i : grid1.Coords) (v2680 : IVec S16 32) (v2682 : IVec S16 32) (v2685 : IVec S16 32) (v2732 : IVec S16 32) : Prop :=
  (∀ (k1_h1 : k1_cond1 i = 1#1), ∀ a x, ((![v2680, v2685, v2732] : Fin 3 → IVec S16 32) a x).toNat < S32x8x5.size a) ∧
  (∀ (k1_h1 : k1_cond1 i = 1#1), ∀ a x, ((![v2682, v2732] : Fin 2 → IVec S16 32) a x).toNat < S128x5.size a)
theorem k1_idx147_inb : ∀ (i : grid1.Coords) (v2680 : IVec S16 32) (v2682 : IVec S16 32) (v2685 : IVec S16 32) (v2732 : IVec S16 32) (k1_hw138 : k1_chk138 i v2680 v2682 v2685 v2732), ∀ (k1_h1 : k1_cond1 i = 1#1), ∀ a x, ((![v2680, v2685, v2732] : Fin 3 → IVec S16 32) a x).toNat < S32x8x5.size a := fun i v2680 v2682 v2685 v2732 k1_hw138 k1_h1 => k1_hw138.1 k1_h1
theorem k1_idx148_inb : ∀ (i : grid1.Coords) (v2680 : IVec S16 32) (v2682 : IVec S16 32) (v2685 : IVec S16 32) (v2732 : IVec S16 32) (k1_hw138 : k1_chk138 i v2680 v2682 v2685 v2732), ∀ (k1_h1 : k1_cond1 i = 1#1), ∀ a x, ((![v2682, v2732] : Fin 2 → IVec S16 32) a x).toNat < S128x5.size a := fun i v2680 v2682 v2685 v2732 k1_hw138 k1_h1 => k1_hw138.2 k1_h1

def k1_chk139 (i : grid1.Coords) (v2680 : IVec S16 32) (v2682 : IVec S16 32) (v2685 : IVec S16 32) (v2734 : IVec S16 32) : Prop :=
  (∀ (k1_h1 : k1_cond1 i = 1#1), ∀ a x, ((![v2680, v2685, v2734] : Fin 3 → IVec S16 32) a x).toNat < S32x8x5.size a) ∧
  (∀ (k1_h1 : k1_cond1 i = 1#1), ∀ a x, ((![v2682, v2734] : Fin 2 → IVec S16 32) a x).toNat < S128x5.size a)
theorem k1_idx149_inb : ∀ (i : grid1.Coords) (v2680 : IVec S16 32) (v2682 : IVec S16 32) (v2685 : IVec S16 32) (v2734 : IVec S16 32) (k1_hw139 : k1_chk139 i v2680 v2682 v2685 v2734), ∀ (k1_h1 : k1_cond1 i = 1#1), ∀ a x, ((![v2680, v2685, v2734] : Fin 3 → IVec S16 32) a x).toNat < S32x8x5.size a := fun i v2680 v2682 v2685 v2734 k1_hw139 k1_h1 => k1_hw139.1 k1_h1
theorem k1_idx150_inb : ∀ (i : grid1.Coords) (v2680 : IVec S16 32) (v2682 : IVec S16 32) (v2685 : IVec S16 32) (v2734 : IVec S16 32) (k1_hw139 : k1_chk139 i v2680 v2682 v2685 v2734), ∀ (k1_h1 : k1_cond1 i = 1#1), ∀ a x, ((![v2682, v2734] : Fin 2 → IVec S16 32) a x).toNat < S128x5.size a := fun i v2680 v2682 v2685 v2734 k1_hw139 k1_h1 => k1_hw139.2 k1_h1

def k1_chk140 (i : grid1.Coords) (v2737 : IVec S16 32) (v2739 : IVec S16 32) (v2742 : IVec S16 32) (v2743 : IVec S16 32) : Prop :=
  (∀ (k1_h1 : k1_cond1 i = 1#1), ∀ a x, ((![v2737, v2742, v2743] : Fin 3 → IVec S16 32) a x).toNat < S32x8x20.size a) ∧
  (∀ (k1_h1 : k1_cond1 i = 1#1), ∀ a x, ((![v2739, v2743] : Fin 2 → IVec S16 32) a x).toNat < S128x20.size a)
theorem k1_idx151_inb : ∀ (i : grid1.Coords) (v2737 : IVec S16 32) (v2739 : IVec S16 32) (v2742 : IVec S16 32) (v2743 : IVec S16 32) (k1_hw140 : k1_chk140 i v2737 v2739 v2742 v2743), ∀ (k1_h1 : k1_cond1 i = 1#1), ∀ a x, ((![v2737, v2742, v2743] : Fin 3 → IVec S16 32) a x).toNat < S32x8x20.size a := fun i v2737 v2739 v2742 v2743 k1_hw140 k1_h1 => k1_hw140.1 k1_h1
theorem k1_idx152_inb : ∀ (i : grid1.Coords) (v2737 : IVec S16 32) (v2739 : IVec S16 32) (v2742 : IVec S16 32) (v2743 : IVec S16 32) (k1_hw140 : k1_chk140 i v2737 v2739 v2742 v2743), ∀ (k1_h1 : k1_cond1 i = 1#1), ∀ a x, ((![v2739, v2743] : Fin 2 → IVec S16 32) a x).toNat < S128x20.size a := fun i v2737 v2739 v2742 v2743 k1_hw140 k1_h1 => k1_hw140.2 k1_h1

def k1_chk141 (i : grid1.Coords) (v2737 : IVec S16 32) (v2739 : IVec S16 32) (v2742 : IVec S16 32) (v2745 : IVec S16 32) : Prop :=
  (∀ (k1_h1 : k1_cond1 i = 1#1), ∀ a x, ((![v2737, v2742, v2745] : Fin 3 → IVec S16 32) a x).toNat < S32x8x20.size a) ∧
  (∀ (k1_h1 : k1_cond1 i = 1#1), ∀ a x, ((![v2739, v2745] : Fin 2 → IVec S16 32) a x).toNat < S128x20.size a)
theorem k1_idx153_inb : ∀ (i : grid1.Coords) (v2737 : IVec S16 32) (v2739 : IVec S16 32) (v2742 : IVec S16 32) (v2745 : IVec S16 32) (k1_hw141 : k1_chk141 i v2737 v2739 v2742 v2745), ∀ (k1_h1 : k1_cond1 i = 1#1), ∀ a x, ((![v2737, v2742, v2745] : Fin 3 → IVec S16 32) a x).toNat < S32x8x20.size a := fun i v2737 v2739 v2742 v2745 k1_hw141 k1_h1 => k1_hw141.1 k1_h1
theorem k1_idx154_inb : ∀ (i : grid1.Coords) (v2737 : IVec S16 32) (v2739 : IVec S16 32) (v2742 : IVec S16 32) (v2745 : IVec S16 32) (k1_hw141 : k1_chk141 i v2737 v2739 v2742 v2745), ∀ (k1_h1 : k1_cond1 i = 1#1), ∀ a x, ((![v2739, v2745] : Fin 2 → IVec S16 32) a x).toNat < S128x20.size a := fun i v2737 v2739 v2742 v2745 k1_hw141 k1_h1 => k1_hw141.2 k1_h1

def k1_chk142 (i : grid1.Coords) (v2737 : IVec S16 32) (v2739 : IVec S16 32) (v2742 : IVec S16 32) (v2747 : IVec S16 32) : Prop :=
  (∀ (k1_h1 : k1_cond1 i = 1#1), ∀ a x, ((![v2737, v2742, v2747] : Fin 3 → IVec S16 32) a x).toNat < S32x8x20.size a) ∧
  (∀ (k1_h1 : k1_cond1 i = 1#1), ∀ a x, ((![v2739, v2747] : Fin 2 → IVec S16 32) a x).toNat < S128x20.size a)
theorem k1_idx155_inb : ∀ (i : grid1.Coords) (v2737 : IVec S16 32) (v2739 : IVec S16 32) (v2742 : IVec S16 32) (v2747 : IVec S16 32) (k1_hw142 : k1_chk142 i v2737 v2739 v2742 v2747), ∀ (k1_h1 : k1_cond1 i = 1#1), ∀ a x, ((![v2737, v2742, v2747] : Fin 3 → IVec S16 32) a x).toNat < S32x8x20.size a := fun i v2737 v2739 v2742 v2747 k1_hw142 k1_h1 => k1_hw142.1 k1_h1
theorem k1_idx156_inb : ∀ (i : grid1.Coords) (v2737 : IVec S16 32) (v2739 : IVec S16 32) (v2742 : IVec S16 32) (v2747 : IVec S16 32) (k1_hw142 : k1_chk142 i v2737 v2739 v2742 v2747), ∀ (k1_h1 : k1_cond1 i = 1#1), ∀ a x, ((![v2739, v2747] : Fin 2 → IVec S16 32) a x).toNat < S128x20.size a := fun i v2737 v2739 v2742 v2747 k1_hw142 k1_h1 => k1_hw142.2 k1_h1

def k1_chk143 (i : grid1.Coords) (v2737 : IVec S16 32) (v2739 : IVec S16 32) (v2742 : IVec S16 32) (v2749 : IVec S16 32) : Prop :=
  (∀ (k1_h1 : k1_cond1 i = 1#1), ∀ a x, ((![v2737, v2742, v2749] : Fin 3 → IVec S16 32) a x).toNat < S32x8x20.size a) ∧
  (∀ (k1_h1 : k1_cond1 i = 1#1), ∀ a x, ((![v2739, v2749] : Fin 2 → IVec S16 32) a x).toNat < S128x20.size a)
theorem k1_idx157_inb : ∀ (i : grid1.Coords) (v2737 : IVec S16 32) (v2739 : IVec S16 32) (v2742 : IVec S16 32) (v2749 : IVec S16 32) (k1_hw143 : k1_chk143 i v2737 v2739 v2742 v2749), ∀ (k1_h1 : k1_cond1 i = 1#1), ∀ a x, ((![v2737, v2742, v2749] : Fin 3 → IVec S16 32) a x).toNat < S32x8x20.size a := fun i v2737 v2739 v2742 v2749 k1_hw143 k1_h1 => k1_hw143.1 k1_h1
theorem k1_idx158_inb : ∀ (i : grid1.Coords) (v2737 : IVec S16 32) (v2739 : IVec S16 32) (v2742 : IVec S16 32) (v2749 : IVec S16 32) (k1_hw143 : k1_chk143 i v2737 v2739 v2742 v2749), ∀ (k1_h1 : k1_cond1 i = 1#1), ∀ a x, ((![v2739, v2749] : Fin 2 → IVec S16 32) a x).toNat < S128x20.size a := fun i v2737 v2739 v2742 v2749 k1_hw143 k1_h1 => k1_hw143.2 k1_h1

def k1_chk144 (i : grid1.Coords) (v2737 : IVec S16 32) (v2739 : IVec S16 32) (v2742 : IVec S16 32) (v2751 : IVec S16 32) : Prop :=
  (∀ (k1_h1 : k1_cond1 i = 1#1), ∀ a x, ((![v2737, v2742, v2751] : Fin 3 → IVec S16 32) a x).toNat < S32x8x20.size a) ∧
  (∀ (k1_h1 : k1_cond1 i = 1#1), ∀ a x, ((![v2739, v2751] : Fin 2 → IVec S16 32) a x).toNat < S128x20.size a)
theorem k1_idx159_inb : ∀ (i : grid1.Coords) (v2737 : IVec S16 32) (v2739 : IVec S16 32) (v2742 : IVec S16 32) (v2751 : IVec S16 32) (k1_hw144 : k1_chk144 i v2737 v2739 v2742 v2751), ∀ (k1_h1 : k1_cond1 i = 1#1), ∀ a x, ((![v2737, v2742, v2751] : Fin 3 → IVec S16 32) a x).toNat < S32x8x20.size a := fun i v2737 v2739 v2742 v2751 k1_hw144 k1_h1 => k1_hw144.1 k1_h1
theorem k1_idx160_inb : ∀ (i : grid1.Coords) (v2737 : IVec S16 32) (v2739 : IVec S16 32) (v2742 : IVec S16 32) (v2751 : IVec S16 32) (k1_hw144 : k1_chk144 i v2737 v2739 v2742 v2751), ∀ (k1_h1 : k1_cond1 i = 1#1), ∀ a x, ((![v2739, v2751] : Fin 2 → IVec S16 32) a x).toNat < S128x20.size a := fun i v2737 v2739 v2742 v2751 k1_hw144 k1_h1 => k1_hw144.2 k1_h1

def k1_chk145 (i : grid1.Coords) (v2737 : IVec S16 32) (v2739 : IVec S16 32) (v2742 : IVec S16 32) (v2753 : IVec S16 32) : Prop :=
  (∀ (k1_h1 : k1_cond1 i = 1#1), ∀ a x, ((![v2737, v2742, v2753] : Fin 3 → IVec S16 32) a x).toNat < S32x8x20.size a) ∧
  (∀ (k1_h1 : k1_cond1 i = 1#1), ∀ a x, ((![v2739, v2753] : Fin 2 → IVec S16 32) a x).toNat < S128x20.size a)
theorem k1_idx161_inb : ∀ (i : grid1.Coords) (v2737 : IVec S16 32) (v2739 : IVec S16 32) (v2742 : IVec S16 32) (v2753 : IVec S16 32) (k1_hw145 : k1_chk145 i v2737 v2739 v2742 v2753), ∀ (k1_h1 : k1_cond1 i = 1#1), ∀ a x, ((![v2737, v2742, v2753] : Fin 3 → IVec S16 32) a x).toNat < S32x8x20.size a := fun i v2737 v2739 v2742 v2753 k1_hw145 k1_h1 => k1_hw145.1 k1_h1
theorem k1_idx162_inb : ∀ (i : grid1.Coords) (v2737 : IVec S16 32) (v2739 : IVec S16 32) (v2742 : IVec S16 32) (v2753 : IVec S16 32) (k1_hw145 : k1_chk145 i v2737 v2739 v2742 v2753), ∀ (k1_h1 : k1_cond1 i = 1#1), ∀ a x, ((![v2739, v2753] : Fin 2 → IVec S16 32) a x).toNat < S128x20.size a := fun i v2737 v2739 v2742 v2753 k1_hw145 k1_h1 => k1_hw145.2 k1_h1

def k1_chk146 (i : grid1.Coords) (v2737 : IVec S16 32) (v2739 : IVec S16 32) (v2742 : IVec S16 32) (v2755 : IVec S16 32) : Prop :=
  (∀ (k1_h1 : k1_cond1 i = 1#1), ∀ a x, ((![v2737, v2742, v2755] : Fin 3 → IVec S16 32) a x).toNat < S32x8x20.size a) ∧
  (∀ (k1_h1 : k1_cond1 i = 1#1), ∀ a x, ((![v2739, v2755] : Fin 2 → IVec S16 32) a x).toNat < S128x20.size a)
theorem k1_idx163_inb : ∀ (i : grid1.Coords) (v2737 : IVec S16 32) (v2739 : IVec S16 32) (v2742 : IVec S16 32) (v2755 : IVec S16 32) (k1_hw146 : k1_chk146 i v2737 v2739 v2742 v2755), ∀ (k1_h1 : k1_cond1 i = 1#1), ∀ a x, ((![v2737, v2742, v2755] : Fin 3 → IVec S16 32) a x).toNat < S32x8x20.size a := fun i v2737 v2739 v2742 v2755 k1_hw146 k1_h1 => k1_hw146.1 k1_h1
theorem k1_idx164_inb : ∀ (i : grid1.Coords) (v2737 : IVec S16 32) (v2739 : IVec S16 32) (v2742 : IVec S16 32) (v2755 : IVec S16 32) (k1_hw146 : k1_chk146 i v2737 v2739 v2742 v2755), ∀ (k1_h1 : k1_cond1 i = 1#1), ∀ a x, ((![v2739, v2755] : Fin 2 → IVec S16 32) a x).toNat < S128x20.size a := fun i v2737 v2739 v2742 v2755 k1_hw146 k1_h1 => k1_hw146.2 k1_h1

def k1_chk147 (i : grid1.Coords) (v2737 : IVec S16 32) (v2739 : IVec S16 32) (v2742 : IVec S16 32) (v2757 : IVec S16 32) : Prop :=
  (∀ (k1_h1 : k1_cond1 i = 1#1), ∀ a x, ((![v2737, v2742, v2757] : Fin 3 → IVec S16 32) a x).toNat < S32x8x20.size a) ∧
  (∀ (k1_h1 : k1_cond1 i = 1#1), ∀ a x, ((![v2739, v2757] : Fin 2 → IVec S16 32) a x).toNat < S128x20.size a)
theorem k1_idx165_inb : ∀ (i : grid1.Coords) (v2737 : IVec S16 32) (v2739 : IVec S16 32) (v2742 : IVec S16 32) (v2757 : IVec S16 32) (k1_hw147 : k1_chk147 i v2737 v2739 v2742 v2757), ∀ (k1_h1 : k1_cond1 i = 1#1), ∀ a x, ((![v2737, v2742, v2757] : Fin 3 → IVec S16 32) a x).toNat < S32x8x20.size a := fun i v2737 v2739 v2742 v2757 k1_hw147 k1_h1 => k1_hw147.1 k1_h1
theorem k1_idx166_inb : ∀ (i : grid1.Coords) (v2737 : IVec S16 32) (v2739 : IVec S16 32) (v2742 : IVec S16 32) (v2757 : IVec S16 32) (k1_hw147 : k1_chk147 i v2737 v2739 v2742 v2757), ∀ (k1_h1 : k1_cond1 i = 1#1), ∀ a x, ((![v2739, v2757] : Fin 2 → IVec S16 32) a x).toNat < S128x20.size a := fun i v2737 v2739 v2742 v2757 k1_hw147 k1_h1 => k1_hw147.2 k1_h1

def k1_chk148 (i : grid1.Coords) (v2737 : IVec S16 32) (v2739 : IVec S16 32) (v2742 : IVec S16 32) (v2759 : IVec S16 32) : Prop :=
  (∀ (k1_h1 : k1_cond1 i = 1#1), ∀ a x, ((![v2737, v2742, v2759] : Fin 3 → IVec S16 32) a x).toNat < S32x8x20.size a) ∧
  (∀ (k1_h1 : k1_cond1 i = 1#1), ∀ a x, ((![v2739, v2759] : Fin 2 → IVec S16 32) a x).toNat < S128x20.size a)
theorem k1_idx167_inb : ∀ (i : grid1.Coords) (v2737 : IVec S16 32) (v2739 : IVec S16 32) (v2742 : IVec S16 32) (v2759 : IVec S16 32) (k1_hw148 : k1_chk148 i v2737 v2739 v2742 v2759), ∀ (k1_h1 : k1_cond1 i = 1#1), ∀ a x, ((![v2737, v2742, v2759] : Fin 3 → IVec S16 32) a x).toNat < S32x8x20.size a := fun i v2737 v2739 v2742 v2759 k1_hw148 k1_h1 => k1_hw148.1 k1_h1
theorem k1_idx168_inb : ∀ (i : grid1.Coords) (v2737 : IVec S16 32) (v2739 : IVec S16 32) (v2742 : IVec S16 32) (v2759 : IVec S16 32) (k1_hw148 : k1_chk148 i v2737 v2739 v2742 v2759), ∀ (k1_h1 : k1_cond1 i = 1#1), ∀ a x, ((![v2739, v2759] : Fin 2 → IVec S16 32) a x).toNat < S128x20.size a := fun i v2737 v2739 v2742 v2759 k1_hw148 k1_h1 => k1_hw148.2 k1_h1

def k1_chk149 (i : grid1.Coords) (v2737 : IVec S16 32) (v2739 : IVec S16 32) (v2742 : IVec S16 32) (v2761 : IVec S16 32) : Prop :=
  (∀ (k1_h1 : k1_cond1 i = 1#1), ∀ a x, ((![v2737, v2742, v2761] : Fin 3 → IVec S16 32) a x).toNat < S32x8x20.size a) ∧
  (∀ (k1_h1 : k1_cond1 i = 1#1), ∀ a x, ((![v2739, v2761] : Fin 2 → IVec S16 32) a x).toNat < S128x20.size a)
theorem k1_idx169_inb : ∀ (i : grid1.Coords) (v2737 : IVec S16 32) (v2739 : IVec S16 32) (v2742 : IVec S16 32) (v2761 : IVec S16 32) (k1_hw149 : k1_chk149 i v2737 v2739 v2742 v2761), ∀ (k1_h1 : k1_cond1 i = 1#1), ∀ a x, ((![v2737, v2742, v2761] : Fin 3 → IVec S16 32) a x).toNat < S32x8x20.size a := fun i v2737 v2739 v2742 v2761 k1_hw149 k1_h1 => k1_hw149.1 k1_h1
theorem k1_idx170_inb : ∀ (i : grid1.Coords) (v2737 : IVec S16 32) (v2739 : IVec S16 32) (v2742 : IVec S16 32) (v2761 : IVec S16 32) (k1_hw149 : k1_chk149 i v2737 v2739 v2742 v2761), ∀ (k1_h1 : k1_cond1 i = 1#1), ∀ a x, ((![v2739, v2761] : Fin 2 → IVec S16 32) a x).toNat < S128x20.size a := fun i v2737 v2739 v2742 v2761 k1_hw149 k1_h1 => k1_hw149.2 k1_h1

def k1_chk150 (i : grid1.Coords) (v2737 : IVec S16 32) (v2739 : IVec S16 32) (v2742 : IVec S16 32) (v2763 : IVec S16 32) : Prop :=
  (∀ (k1_h1 : k1_cond1 i = 1#1), ∀ a x, ((![v2737, v2742, v2763] : Fin 3 → IVec S16 32) a x).toNat < S32x8x20.size a) ∧
  (∀ (k1_h1 : k1_cond1 i = 1#1), ∀ a x, ((![v2739, v2763] : Fin 2 → IVec S16 32) a x).toNat < S128x20.size a)
theorem k1_idx171_inb : ∀ (i : grid1.Coords) (v2737 : IVec S16 32) (v2739 : IVec S16 32) (v2742 : IVec S16 32) (v2763 : IVec S16 32) (k1_hw150 : k1_chk150 i v2737 v2739 v2742 v2763), ∀ (k1_h1 : k1_cond1 i = 1#1), ∀ a x, ((![v2737, v2742, v2763] : Fin 3 → IVec S16 32) a x).toNat < S32x8x20.size a := fun i v2737 v2739 v2742 v2763 k1_hw150 k1_h1 => k1_hw150.1 k1_h1
theorem k1_idx172_inb : ∀ (i : grid1.Coords) (v2737 : IVec S16 32) (v2739 : IVec S16 32) (v2742 : IVec S16 32) (v2763 : IVec S16 32) (k1_hw150 : k1_chk150 i v2737 v2739 v2742 v2763), ∀ (k1_h1 : k1_cond1 i = 1#1), ∀ a x, ((![v2739, v2763] : Fin 2 → IVec S16 32) a x).toNat < S128x20.size a := fun i v2737 v2739 v2742 v2763 k1_hw150 k1_h1 => k1_hw150.2 k1_h1

def k1_chk151 (i : grid1.Coords) (v2737 : IVec S16 32) (v2739 : IVec S16 32) (v2742 : IVec S16 32) (v2765 : IVec S16 32) : Prop :=
  (∀ (k1_h1 : k1_cond1 i = 1#1), ∀ a x, ((![v2737, v2742, v2765] : Fin 3 → IVec S16 32) a x).toNat < S32x8x20.size a) ∧
  (∀ (k1_h1 : k1_cond1 i = 1#1), ∀ a x, ((![v2739, v2765] : Fin 2 → IVec S16 32) a x).toNat < S128x20.size a)
theorem k1_idx173_inb : ∀ (i : grid1.Coords) (v2737 : IVec S16 32) (v2739 : IVec S16 32) (v2742 : IVec S16 32) (v2765 : IVec S16 32) (k1_hw151 : k1_chk151 i v2737 v2739 v2742 v2765), ∀ (k1_h1 : k1_cond1 i = 1#1), ∀ a x, ((![v2737, v2742, v2765] : Fin 3 → IVec S16 32) a x).toNat < S32x8x20.size a := fun i v2737 v2739 v2742 v2765 k1_hw151 k1_h1 => k1_hw151.1 k1_h1
theorem k1_idx174_inb : ∀ (i : grid1.Coords) (v2737 : IVec S16 32) (v2739 : IVec S16 32) (v2742 : IVec S16 32) (v2765 : IVec S16 32) (k1_hw151 : k1_chk151 i v2737 v2739 v2742 v2765), ∀ (k1_h1 : k1_cond1 i = 1#1), ∀ a x, ((![v2739, v2765] : Fin 2 → IVec S16 32) a x).toNat < S128x20.size a := fun i v2737 v2739 v2742 v2765 k1_hw151 k1_h1 => k1_hw151.2 k1_h1

def k1_chk152 (i : grid1.Coords) (v2737 : IVec S16 32) (v2739 : IVec S16 32) (v2742 : IVec S16 32) (v2767 : IVec S16 32) : Prop :=
  (∀ (k1_h1 : k1_cond1 i = 1#1), ∀ a x, ((![v2737, v2742, v2767] : Fin 3 → IVec S16 32) a x).toNat < S32x8x20.size a) ∧
  (∀ (k1_h1 : k1_cond1 i = 1#1), ∀ a x, ((![v2739, v2767] : Fin 2 → IVec S16 32) a x).toNat < S128x20.size a)
theorem k1_idx175_inb : ∀ (i : grid1.Coords) (v2737 : IVec S16 32) (v2739 : IVec S16 32) (v2742 : IVec S16 32) (v2767 : IVec S16 32) (k1_hw152 : k1_chk152 i v2737 v2739 v2742 v2767), ∀ (k1_h1 : k1_cond1 i = 1#1), ∀ a x, ((![v2737, v2742, v2767] : Fin 3 → IVec S16 32) a x).toNat < S32x8x20.size a := fun i v2737 v2739 v2742 v2767 k1_hw152 k1_h1 => k1_hw152.1 k1_h1
theorem k1_idx176_inb : ∀ (i : grid1.Coords) (v2737 : IVec S16 32) (v2739 : IVec S16 32) (v2742 : IVec S16 32) (v2767 : IVec S16 32) (k1_hw152 : k1_chk152 i v2737 v2739 v2742 v2767), ∀ (k1_h1 : k1_cond1 i = 1#1), ∀ a x, ((![v2739, v2767] : Fin 2 → IVec S16 32) a x).toNat < S128x20.size a := fun i v2737 v2739 v2742 v2767 k1_hw152 k1_h1 => k1_hw152.2 k1_h1

def k1_chk153 (i : grid1.Coords) (v2737 : IVec S16 32) (v2739 : IVec S16 32) (v2742 : IVec S16 32) (v2769 : IVec S16 32) : Prop :=
  (∀ (k1_h1 : k1_cond1 i = 1#1), ∀ a x, ((![v2737, v2742, v2769] : Fin 3 → IVec S16 32) a x).toNat < S32x8x20.size a) ∧
  (∀ (k1_h1 : k1_cond1 i = 1#1), ∀ a x, ((![v2739, v2769] : Fin 2 → IVec S16 32) a x).toNat < S128x20.size a)
theorem k1_idx177_inb : ∀ (i : grid1.Coords) (v2737 : IVec S16 32) (v2739 : IVec S16 32) (v2742 : IVec S16 32) (v2769 : IVec S16 32) (k1_hw153 : k1_chk153 i v2737 v2739 v2742 v2769), ∀ (k1_h1 : k1_cond1 i = 1#1), ∀ a x, ((![v2737, v2742, v2769] : Fin 3 → IVec S16 32) a x).toNat < S32x8x20.size a := fun i v2737 v2739 v2742 v2769 k1_hw153 k1_h1 => k1_hw153.1 k1_h1
theorem k1_idx178_inb : ∀ (i : grid1.Coords) (v2737 : IVec S16 32) (v2739 : IVec S16 32) (v2742 : IVec S16 32) (v2769 : IVec S16 32) (k1_hw153 : k1_chk153 i v2737 v2739 v2742 v2769), ∀ (k1_h1 : k1_cond1 i = 1#1), ∀ a x, ((![v2739, v2769] : Fin 2 → IVec S16 32) a x).toNat < S128x20.size a := fun i v2737 v2739 v2742 v2769 k1_hw153 k1_h1 => k1_hw153.2 k1_h1

def k1_chk154 (i : grid1.Coords) (v2737 : IVec S16 32) (v2739 : IVec S16 32) (v2742 : IVec S16 32) (v2771 : IVec S16 32) : Prop :=
  (∀ (k1_h1 : k1_cond1 i = 1#1), ∀ a x, ((![v2737, v2742, v2771] : Fin 3 → IVec S16 32) a x).toNat < S32x8x20.size a) ∧
  (∀ (k1_h1 : k1_cond1 i = 1#1), ∀ a x, ((![v2739, v2771] : Fin 2 → IVec S16 32) a x).toNat < S128x20.size a)
theorem k1_idx179_inb : ∀ (i : grid1.Coords) (v2737 : IVec S16 32) (v2739 : IVec S16 32) (v2742 : IVec S16 32) (v2771 : IVec S16 32) (k1_hw154 : k1_chk154 i v2737 v2739 v2742 v2771), ∀ (k1_h1 : k1_cond1 i = 1#1), ∀ a x, ((![v2737, v2742, v2771] : Fin 3 → IVec S16 32) a x).toNat < S32x8x20.size a := fun i v2737 v2739 v2742 v2771 k1_hw154 k1_h1 => k1_hw154.1 k1_h1
theorem k1_idx180_inb : ∀ (i : grid1.Coords) (v2737 : IVec S16 32) (v2739 : IVec S16 32) (v2742 : IVec S16 32) (v2771 : IVec S16 32) (k1_hw154 : k1_chk154 i v2737 v2739 v2742 v2771), ∀ (k1_h1 : k1_cond1 i = 1#1), ∀ a x, ((![v2739, v2771] : Fin 2 → IVec S16 32) a x).toNat < S128x20.size a := fun i v2737 v2739 v2742 v2771 k1_hw154 k1_h1 => k1_hw154.2 k1_h1

def k1_chk155 (i : grid1.Coords) (v2737 : IVec S16 32) (v2739 : IVec S16 32) (v2742 : IVec S16 32) (v2773 : IVec S16 32) : Prop :=
  (∀ (k1_h1 : k1_cond1 i = 1#1), ∀ a x, ((![v2737, v2742, v2773] : Fin 3 → IVec S16 32) a x).toNat < S32x8x20.size a) ∧
  (∀ (k1_h1 : k1_cond1 i = 1#1), ∀ a x, ((![v2739, v2773] : Fin 2 → IVec S16 32) a x).toNat < S128x20.size a)
theorem k1_idx181_inb : ∀ (i : grid1.Coords) (v2737 : IVec S16 32) (v2739 : IVec S16 32) (v2742 : IVec S16 32) (v2773 : IVec S16 32) (k1_hw155 : k1_chk155 i v2737 v2739 v2742 v2773), ∀ (k1_h1 : k1_cond1 i = 1#1), ∀ a x, ((![v2737, v2742, v2773] : Fin 3 → IVec S16 32) a x).toNat < S32x8x20.size a := fun i v2737 v2739 v2742 v2773 k1_hw155 k1_h1 => k1_hw155.1 k1_h1
theorem k1_idx182_inb : ∀ (i : grid1.Coords) (v2737 : IVec S16 32) (v2739 : IVec S16 32) (v2742 : IVec S16 32) (v2773 : IVec S16 32) (k1_hw155 : k1_chk155 i v2737 v2739 v2742 v2773), ∀ (k1_h1 : k1_cond1 i = 1#1), ∀ a x, ((![v2739, v2773] : Fin 2 → IVec S16 32) a x).toNat < S128x20.size a := fun i v2737 v2739 v2742 v2773 k1_hw155 k1_h1 => k1_hw155.2 k1_h1

def k1_chk156 (i : grid1.Coords) (v2737 : IVec S16 32) (v2739 : IVec S16 32) (v2742 : IVec S16 32) (v2775 : IVec S16 32) : Prop :=
  (∀ (k1_h1 : k1_cond1 i = 1#1), ∀ a x, ((![v2737, v2742, v2775] : Fin 3 → IVec S16 32) a x).toNat < S32x8x20.size a) ∧
  (∀ (k1_h1 : k1_cond1 i = 1#1), ∀ a x, ((![v2739, v2775] : Fin 2 → IVec S16 32) a x).toNat < S128x20.size a)
theorem k1_idx183_inb : ∀ (i : grid1.Coords) (v2737 : IVec S16 32) (v2739 : IVec S16 32) (v2742 : IVec S16 32) (v2775 : IVec S16 32) (k1_hw156 : k1_chk156 i v2737 v2739 v2742 v2775), ∀ (k1_h1 : k1_cond1 i = 1#1), ∀ a x, ((![v2737, v2742, v2775] : Fin 3 → IVec S16 32) a x).toNat < S32x8x20.size a := fun i v2737 v2739 v2742 v2775 k1_hw156 k1_h1 => k1_hw156.1 k1_h1
theorem k1_idx184_inb : ∀ (i : grid1.Coords) (v2737 : IVec S16 32) (v2739 : IVec S16 32) (v2742 : IVec S16 32) (v2775 : IVec S16 32) (k1_hw156 : k1_chk156 i v2737 v2739 v2742 v2775), ∀ (k1_h1 : k1_cond1 i = 1#1), ∀ a x, ((![v2739, v2775] : Fin 2 → IVec S16 32) a x).toNat < S128x20.size a := fun i v2737 v2739 v2742 v2775 k1_hw156 k1_h1 => k1_hw156.2 k1_h1

def k1_chk157 (i : grid1.Coords) (v2737 : IVec S16 32) (v2739 : IVec S16 32) (v2742 : IVec S16 32) (v2777 : IVec S16 32) : Prop :=
  (∀ (k1_h1 : k1_cond1 i = 1#1), ∀ a x, ((![v2737, v2742, v2777] : Fin 3 → IVec S16 32) a x).toNat < S32x8x20.size a) ∧
  (∀ (k1_h1 : k1_cond1 i = 1#1), ∀ a x, ((![v2739, v2777] : Fin 2 → IVec S16 32) a x).toNat < S128x20.size a)
theorem k1_idx185_inb : ∀ (i : grid1.Coords) (v2737 : IVec S16 32) (v2739 : IVec S16 32) (v2742 : IVec S16 32) (v2777 : IVec S16 32) (k1_hw157 : k1_chk157 i v2737 v2739 v2742 v2777), ∀ (k1_h1 : k1_cond1 i = 1#1), ∀ a x, ((![v2737, v2742, v2777] : Fin 3 → IVec S16 32) a x).toNat < S32x8x20.size a := fun i v2737 v2739 v2742 v2777 k1_hw157 k1_h1 => k1_hw157.1 k1_h1
theorem k1_idx186_inb : ∀ (i : grid1.Coords) (v2737 : IVec S16 32) (v2739 : IVec S16 32) (v2742 : IVec S16 32) (v2777 : IVec S16 32) (k1_hw157 : k1_chk157 i v2737 v2739 v2742 v2777), ∀ (k1_h1 : k1_cond1 i = 1#1), ∀ a x, ((![v2739, v2777] : Fin 2 → IVec S16 32) a x).toNat < S128x20.size a := fun i v2737 v2739 v2742 v2777 k1_hw157 k1_h1 => k1_hw157.2 k1_h1

def k1_chk158 (i : grid1.Coords) (v2737 : IVec S16 32) (v2739 : IVec S16 32) (v2742 : IVec S16 32) (v2779 : IVec S16 32) : Prop :=
  (∀ (k1_h1 : k1_cond1 i = 1#1), ∀ a x, ((![v2737, v2742, v2779] : Fin 3 → IVec S16 32) a x).toNat < S32x8x20.size a) ∧
  (∀ (k1_h1 : k1_cond1 i = 1#1), ∀ a x, ((![v2739, v2779] : Fin 2 → IVec S16 32) a x).toNat < S128x20.size a)
theorem k1_idx187_inb : ∀ (i : grid1.Coords) (v2737 : IVec S16 32) (v2739 : IVec S16 32) (v2742 : IVec S16 32) (v2779 : IVec S16 32) (k1_hw158 : k1_chk158 i v2737 v2739 v2742 v2779), ∀ (k1_h1 : k1_cond1 i = 1#1), ∀ a x, ((![v2737, v2742, v2779] : Fin 3 → IVec S16 32) a x).toNat < S32x8x20.size a := fun i v2737 v2739 v2742 v2779 k1_hw158 k1_h1 => k1_hw158.1 k1_h1
theorem k1_idx188_inb : ∀ (i : grid1.Coords) (v2737 : IVec S16 32) (v2739 : IVec S16 32) (v2742 : IVec S16 32) (v2779 : IVec S16 32) (k1_hw158 : k1_chk158 i v2737 v2739 v2742 v2779), ∀ (k1_h1 : k1_cond1 i = 1#1), ∀ a x, ((![v2739, v2779] : Fin 2 → IVec S16 32) a x).toNat < S128x20.size a := fun i v2737 v2739 v2742 v2779 k1_hw158 k1_h1 => k1_hw158.2 k1_h1

def k1_chk159 (i : grid1.Coords) (v2737 : IVec S16 32) (v2739 : IVec S16 32) (v2742 : IVec S16 32) (v2781 : IVec S16 32) : Prop :=
  (∀ (k1_h1 : k1_cond1 i = 1#1), ∀ a x, ((![v2737, v2742, v2781] : Fin 3 → IVec S16 32) a x).toNat < S32x8x20.size a) ∧
  (∀ (k1_h1 : k1_cond1 i = 1#1), ∀ a x, ((![v2739, v2781] : Fin 2 → IVec S16 32) a x).toNat < S128x20.size a)
theorem k1_idx189_inb : ∀ (i : grid1.Coords) (v2737 : IVec S16 32) (v2739 : IVec S16 32) (v2742 : IVec S16 32) (v2781 : IVec S16 32) (k1_hw159 : k1_chk159 i v2737 v2739 v2742 v2781), ∀ (k1_h1 : k1_cond1 i = 1#1), ∀ a x, ((![v2737, v2742, v2781] : Fin 3 → IVec S16 32) a x).toNat < S32x8x20.size a := fun i v2737 v2739 v2742 v2781 k1_hw159 k1_h1 => k1_hw159.1 k1_h1
theorem k1_idx190_inb : ∀ (i : grid1.Coords) (v2737 : IVec S16 32) (v2739 : IVec S16 32) (v2742 : IVec S16 32) (v2781 : IVec S16 32) (k1_hw159 : k1_chk159 i v2737 v2739 v2742 v2781), ∀ (k1_h1 : k1_cond1 i = 1#1), ∀ a x, ((![v2739, v2781] : Fin 2 → IVec S16 32) a x).toNat < S128x20.size a := fun i v2737 v2739 v2742 v2781 k1_hw159 k1_h1 => k1_hw159.2 k1_h1

def k1_chk160 (i : grid1.Coords) (v2737 : IVec S16 32) (v2739 : IVec S16 32) (v2742 : IVec S16 32) (v2783 : IVec S16 32) : Prop :=
  (∀ (k1_h1 : k1_cond1 i = 1#1), ∀ a x, ((![v2737, v2742, v2783] : Fin 3 → IVec S16 32) a x).toNat < S32x8x5.size a) ∧
  (∀ (k1_h1 : k1_cond1 i = 1#1), ∀ a x, ((![v2739, v2783] : Fin 2 → IVec S16 32) a x).toNat < S128x5.size a)
theorem k1_idx191_inb : ∀ (i : grid1.Coords) (v2737 : IVec S16 32) (v2739 : IVec S16 32) (v2742 : IVec S16 32) (v2783 : IVec S16 32) (k1_hw160 : k1_chk160 i v2737 v2739 v2742 v2783), ∀ (k1_h1 : k1_cond1 i = 1#1), ∀ a x, ((![v2737, v2742, v2783] : Fin 3 → IVec S16 32) a x).toNat < S32x8x5.size a := fun i v2737 v2739 v2742 v2783 k1_hw160 k1_h1 => k1_hw160.1 k1_h1
theorem k1_idx192_inb : ∀ (i : grid1.Coords) (v2737 : IVec S16 32) (v2739 : IVec S16 32) (v2742 : IVec S16 32) (v2783 : IVec S16 32) (k1_hw160 : k1_chk160 i v2737 v2739 v2742 v2783), ∀ (k1_h1 : k1_cond1 i = 1#1), ∀ a x, ((![v2739, v2783] : Fin 2 → IVec S16 32) a x).toNat < S128x5.size a := fun i v2737 v2739 v2742 v2783 k1_hw160 k1_h1 => k1_hw160.2 k1_h1

def k1_chk161 (i : grid1.Coords) (v2737 : IVec S16 32) (v2739 : IVec S16 32) (v2742 : IVec S16 32) (v2785 : IVec S16 32) : Prop :=
  (∀ (k1_h1 : k1_cond1 i = 1#1), ∀ a x, ((![v2737, v2742, v2785] : Fin 3 → IVec S16 32) a x).toNat < S32x8x5.size a) ∧
  (∀ (k1_h1 : k1_cond1 i = 1#1), ∀ a x, ((![v2739, v2785] : Fin 2 → IVec S16 32) a x).toNat < S128x5.size a)
theorem k1_idx193_inb : ∀ (i : grid1.Coords) (v2737 : IVec S16 32) (v2739 : IVec S16 32) (v2742 : IVec S16 32) (v2785 : IVec S16 32) (k1_hw161 : k1_chk161 i v2737 v2739 v2742 v2785), ∀ (k1_h1 : k1_cond1 i = 1#1), ∀ a x, ((![v2737, v2742, v2785] : Fin 3 → IVec S16 32) a x).toNat < S32x8x5.size a := fun i v2737 v2739 v2742 v2785 k1_hw161 k1_h1 => k1_hw161.1 k1_h1
theorem k1_idx194_inb : ∀ (i : grid1.Coords) (v2737 : IVec S16 32) (v2739 : IVec S16 32) (v2742 : IVec S16 32) (v2785 : IVec S16 32) (k1_hw161 : k1_chk161 i v2737 v2739 v2742 v2785), ∀ (k1_h1 : k1_cond1 i = 1#1), ∀ a x, ((![v2739, v2785] : Fin 2 → IVec S16 32) a x).toNat < S128x5.size a := fun i v2737 v2739 v2742 v2785 k1_hw161 k1_h1 => k1_hw161.2 k1_h1

def k1_chk162 (i : grid1.Coords) (v2737 : IVec S16 32) (v2739 : IVec S16 32) (v2742 : IVec S16 32) (v2787 : IVec S16 32) : Prop :=
  (∀ (k1_h1 : k1_cond1 i = 1#1), ∀ a x, ((![v2737, v2742, v2787] : Fin 3 → IVec S16 32) a x).toNat < S32x8x5.size a) ∧
  (∀ (k1_h1 : k1_cond1 i = 1#1), ∀ a x, ((![v2739, v2787] : Fin 2 → IVec S16 32) a x).toNat < S128x5.size a)
theorem k1_idx195_inb : ∀ (i : grid1.Coords) (v2737 : IVec S16 32) (v2739 : IVec S16 32) (v2742 : IVec S16 32) (v2787 : IVec S16 32) (k1_hw162 : k1_chk162 i v2737 v2739 v2742 v2787), ∀ (k1_h1 : k1_cond1 i = 1#1), ∀ a x, ((![v2737, v2742, v2787] : Fin 3 → IVec S16 32) a x).toNat < S32x8x5.size a := fun i v2737 v2739 v2742 v2787 k1_hw162 k1_h1 => k1_hw162.1 k1_h1
theorem k1_idx196_inb : ∀ (i : grid1.Coords) (v2737 : IVec S16 32) (v2739 : IVec S16 32) (v2742 : IVec S16 32) (v2787 : IVec S16 32) (k1_hw162 : k1_chk162 i v2737 v2739 v2742 v2787), ∀ (k1_h1 : k1_cond1 i = 1#1), ∀ a x, ((![v2739, v2787] : Fin 2 → IVec S16 32) a x).toNat < S128x5.size a := fun i v2737 v2739 v2742 v2787 k1_hw162 k1_h1 => k1_hw162.2 k1_h1

def k1_chk163 (i : grid1.Coords) (v2737 : IVec S16 32) (v2739 : IVec S16 32) (v2742 : IVec S16 32) (v2789 : IVec S16 32) : Prop :=
  (∀ (k1_h1 : k1_cond1 i = 1#1), ∀ a x, ((![v2737, v2742, v2789] : Fin 3 → IVec S16 32) a x).toNat < S32x8x5.size a) ∧
  (∀ (k1_h1 : k1_cond1 i = 1#1), ∀ a x, ((![v2739, v2789] : Fin 2 → IVec S16 32) a x).toNat < S128x5.size a)
theorem k1_idx197_inb : ∀ (i : grid1.Coords) (v2737 : IVec S16 32) (v2739 : IVec S16 32) (v2742 : IVec S16 32) (v2789 : IVec S16 32) (k1_hw163 : k1_chk163 i v2737 v2739 v2742 v2789), ∀ (k1_h1 : k1_cond1 i = 1#1), ∀ a x, ((![v2737, v2742, v2789] : Fin 3 → IVec S16 32) a x).toNat < S32x8x5.size a := fun i v2737 v2739 v2742 v2789 k1_hw163 k1_h1 => k1_hw163.1 k1_h1
theorem k1_idx198_inb : ∀ (i : grid1.Coords) (v2737 : IVec S16 32) (v2739 : IVec S16 32) (v2742 : IVec S16 32) (v2789 : IVec S16 32) (k1_hw163 : k1_chk163 i v2737 v2739 v2742 v2789), ∀ (k1_h1 : k1_cond1 i = 1#1), ∀ a x, ((![v2739, v2789] : Fin 2 → IVec S16 32) a x).toNat < S128x5.size a := fun i v2737 v2739 v2742 v2789 k1_hw163 k1_h1 => k1_hw163.2 k1_h1

def k1_chk164 (i : grid1.Coords) (v2737 : IVec S16 32) (v2739 : IVec S16 32) (v2742 : IVec S16 32) (v2791 : IVec S16 32) : Prop :=
  (∀ (k1_h1 : k1_cond1 i = 1#1), ∀ a x, ((![v2737, v2742, v2791] : Fin 3 → IVec S16 32) a x).toNat < S32x8x5.size a) ∧
  (∀ (k1_h1 : k1_cond1 i = 1#1), ∀ a x, ((![v2739, v2791] : Fin 2 → IVec S16 32) a x).toNat < S128x5.size a)
theorem k1_idx199_inb : ∀ (i : grid1.Coords) (v2737 : IVec S16 32) (v2739 : IVec S16 32) (v2742 : IVec S16 32) (v2791 : IVec S16 32) (k1_hw164 : k1_chk164 i v2737 v2739 v2742 v2791), ∀ (k1_h1 : k1_cond1 i = 1#1), ∀ a x, ((![v2737, v2742, v2791] : Fin 3 → IVec S16 32) a x).toNat < S32x8x5.size a := fun i v2737 v2739 v2742 v2791 k1_hw164 k1_h1 => k1_hw164.1 k1_h1
theorem k1_idx200_inb : ∀ (i : grid1.Coords) (v2737 : IVec S16 32) (v2739 : IVec S16 32) (v2742 : IVec S16 32) (v2791 : IVec S16 32) (k1_hw164 : k1_chk164 i v2737 v2739 v2742 v2791), ∀ (k1_h1 : k1_cond1 i = 1#1), ∀ a x, ((![v2739, v2791] : Fin 2 → IVec S16 32) a x).toNat < S128x5.size a := fun i v2737 v2739 v2742 v2791 k1_hw164 k1_h1 => k1_hw164.2 k1_h1
def k1_off254 (i : grid1.Coords) (v2805 : BitVec 32) (v2807 : BitVec 32) (v2809 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1973 : BitVec 32 := 8#32
  let v2810 : BitVec 32 := Scalar.muli v2809 c8_i32_1973
  let c0_i32_1977 : BitVec 32 := 0#32
  ![v21.toNat, v22.toNat, v2805.toNat, v2807.toNat, v2810.toNat, 0]

def k1_off255 (i : grid1.Coords) (v2805 : BitVec 32) (v2807 : BitVec 32) (v2809 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1973 : BitVec 32 := 8#32
  let v2810 : BitVec 32 := Scalar.muli v2809 c8_i32_1973
  let c0_i32_1984 : BitVec 32 := 0#32
  ![v21.toNat, v22.toNat, v2805.toNat, v2807.toNat, v2810.toNat, 0]
def k1_off256 (i : grid1.Coords) (v2828 : BitVec 32) (v2830 : BitVec 32) (v2832 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1988 : BitVec 32 := 8#32
  let v2833 : BitVec 32 := Scalar.muli v2832 c8_i32_1988
  let c0_i32_1992 : BitVec 32 := 0#32
  ![v21.toNat, v22.toNat, v2828.toNat, v2830.toNat, v2833.toNat, 0]

def k1_off257 (i : grid1.Coords) (v2828 : BitVec 32) (v2830 : BitVec 32) (v2832 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1988 : BitVec 32 := 8#32
  let v2833 : BitVec 32 := Scalar.muli v2832 c8_i32_1988
  let c0_i32_1999 : BitVec 32 := 0#32
  ![v21.toNat, v22.toNat, v2828.toNat, v2830.toNat, v2833.toNat, 0]
def k1_off258 (i : grid1.Coords) (v2851 : BitVec 32) (v2853 : BitVec 32) (v2855 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2003 : BitVec 32 := 8#32
  let v2856 : BitVec 32 := Scalar.muli v2855 c8_i32_2003
  let c0_i32_2007 : BitVec 32 := 0#32
  ![v21.toNat, v22.toNat, v2851.toNat, v2853.toNat, v2856.toNat, 0]

def k1_off259 (i : grid1.Coords) (v2851 : BitVec 32) (v2853 : BitVec 32) (v2855 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2003 : BitVec 32 := 8#32
  let v2856 : BitVec 32 := Scalar.muli v2855 c8_i32_2003
  let c0_i32_2014 : BitVec 32 := 0#32
  ![v21.toNat, v22.toNat, v2851.toNat, v2853.toNat, v2856.toNat, 0]
def k1_off260 (i : grid1.Coords) (v2874 : BitVec 32) (v2876 : BitVec 32) (v2878 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2018 : BitVec 32 := 8#32
  let v2879 : BitVec 32 := Scalar.muli v2878 c8_i32_2018
  let c0_i32_2022 : BitVec 32 := 0#32
  ![v21.toNat, v22.toNat, v2874.toNat, v2876.toNat, v2879.toNat, 0]

def k1_off261 (i : grid1.Coords) (v2874 : BitVec 32) (v2876 : BitVec 32) (v2878 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2018 : BitVec 32 := 8#32
  let v2879 : BitVec 32 := Scalar.muli v2878 c8_i32_2018
  let c0_i32_2029 : BitVec 32 := 0#32
  ![v21.toNat, v22.toNat, v2874.toNat, v2876.toNat, v2879.toNat, 0]
def k1_off262 (i : grid1.Coords) (v2897 : BitVec 32) (v2899 : BitVec 32) (v2901 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2033 : BitVec 32 := 8#32
  let v2902 : BitVec 32 := Scalar.muli v2901 c8_i32_2033
  let c0_i32_2037 : BitVec 32 := 0#32
  ![v21.toNat, v22.toNat, v2897.toNat, v2899.toNat, v2902.toNat, 0]

def k1_off263 (i : grid1.Coords) (v2897 : BitVec 32) (v2899 : BitVec 32) (v2901 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2033 : BitVec 32 := 8#32
  let v2902 : BitVec 32 := Scalar.muli v2901 c8_i32_2033
  let c0_i32_2044 : BitVec 32 := 0#32
  ![v21.toNat, v22.toNat, v2897.toNat, v2899.toNat, v2902.toNat, 0]
def k1_off264 (i : grid1.Coords) (v2920 : BitVec 32) (v2922 : BitVec 32) (v2924 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2048 : BitVec 32 := 8#32
  let v2925 : BitVec 32 := Scalar.muli v2924 c8_i32_2048
  let c0_i32_2052 : BitVec 32 := 0#32
  ![v21.toNat, v22.toNat, v2920.toNat, v2922.toNat, v2925.toNat, 0]

def k1_off265 (i : grid1.Coords) (v2920 : BitVec 32) (v2922 : BitVec 32) (v2924 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2048 : BitVec 32 := 8#32
  let v2925 : BitVec 32 := Scalar.muli v2924 c8_i32_2048
  let c0_i32_2059 : BitVec 32 := 0#32
  ![v21.toNat, v22.toNat, v2920.toNat, v2922.toNat, v2925.toNat, 0]
def k1_off266 (i : grid1.Coords) (v2943 : BitVec 32) (v2945 : BitVec 32) (v2947 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2063 : BitVec 32 := 8#32
  let v2948 : BitVec 32 := Scalar.muli v2947 c8_i32_2063
  let c0_i32_2067 : BitVec 32 := 0#32
  ![v21.toNat, v22.toNat, v2943.toNat, v2945.toNat, v2948.toNat, 0]

def k1_off267 (i : grid1.Coords) (v2943 : BitVec 32) (v2945 : BitVec 32) (v2947 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2063 : BitVec 32 := 8#32
  let v2948 : BitVec 32 := Scalar.muli v2947 c8_i32_2063
  let c0_i32_2074 : BitVec 32 := 0#32
  ![v21.toNat, v22.toNat, v2943.toNat, v2945.toNat, v2948.toNat, 0]
def k1_off268 (i : grid1.Coords) (v2966 : BitVec 32) (v2968 : BitVec 32) (v2970 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2078 : BitVec 32 := 8#32
  let v2971 : BitVec 32 := Scalar.muli v2970 c8_i32_2078
  let c0_i32_2082 : BitVec 32 := 0#32
  ![v21.toNat, v22.toNat, v2966.toNat, v2968.toNat, v2971.toNat, 0]

def k1_off269 (i : grid1.Coords) (v2966 : BitVec 32) (v2968 : BitVec 32) (v2970 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2078 : BitVec 32 := 8#32
  let v2971 : BitVec 32 := Scalar.muli v2970 c8_i32_2078
  let c0_i32_2089 : BitVec 32 := 0#32
  ![v21.toNat, v22.toNat, v2966.toNat, v2968.toNat, v2971.toNat, 0]
def k1_off270 (i : grid1.Coords) (v2989 : BitVec 32) (v2991 : BitVec 32) (v2993 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2093 : BitVec 32 := 8#32
  let v2994 : BitVec 32 := Scalar.muli v2993 c8_i32_2093
  let c0_i32_2097 : BitVec 32 := 0#32
  ![v21.toNat, v22.toNat, v2989.toNat, v2991.toNat, v2994.toNat, 0]

def k1_off271 (i : grid1.Coords) (v2989 : BitVec 32) (v2991 : BitVec 32) (v2993 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2093 : BitVec 32 := 8#32
  let v2994 : BitVec 32 := Scalar.muli v2993 c8_i32_2093
  let c0_i32_2104 : BitVec 32 := 0#32
  ![v21.toNat, v22.toNat, v2989.toNat, v2991.toNat, v2994.toNat, 0]
def k1_off272 (i : grid1.Coords) (v3012 : BitVec 32) (v3014 : BitVec 32) (v3016 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2108 : BitVec 32 := 8#32
  let v3017 : BitVec 32 := Scalar.muli v3016 c8_i32_2108
  let c0_i32_2112 : BitVec 32 := 0#32
  ![v21.toNat, v22.toNat, v3012.toNat, v3014.toNat, v3017.toNat, 0]

def k1_off273 (i : grid1.Coords) (v3012 : BitVec 32) (v3014 : BitVec 32) (v3016 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2108 : BitVec 32 := 8#32
  let v3017 : BitVec 32 := Scalar.muli v3016 c8_i32_2108
  let c0_i32_2119 : BitVec 32 := 0#32
  ![v21.toNat, v22.toNat, v3012.toNat, v3014.toNat, v3017.toNat, 0]
def k1_off274 (i : grid1.Coords) (v3035 : BitVec 32) (v3037 : BitVec 32) (v3039 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2123 : BitVec 32 := 8#32
  let v3040 : BitVec 32 := Scalar.muli v3039 c8_i32_2123
  let c0_i32_2127 : BitVec 32 := 0#32
  ![v21.toNat, v22.toNat, v3035.toNat, v3037.toNat, v3040.toNat, 0]

def k1_off275 (i : grid1.Coords) (v3035 : BitVec 32) (v3037 : BitVec 32) (v3039 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2123 : BitVec 32 := 8#32
  let v3040 : BitVec 32 := Scalar.muli v3039 c8_i32_2123
  let c0_i32_2134 : BitVec 32 := 0#32
  ![v21.toNat, v22.toNat, v3035.toNat, v3037.toNat, v3040.toNat, 0]
def k1_off276 (i : grid1.Coords) (v3058 : BitVec 32) (v3060 : BitVec 32) (v3062 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2138 : BitVec 32 := 8#32
  let v3063 : BitVec 32 := Scalar.muli v3062 c8_i32_2138
  let c0_i32_2142 : BitVec 32 := 0#32
  ![v21.toNat, v22.toNat, v3058.toNat, v3060.toNat, v3063.toNat, 0]

def k1_off277 (i : grid1.Coords) (v3058 : BitVec 32) (v3060 : BitVec 32) (v3062 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2138 : BitVec 32 := 8#32
  let v3063 : BitVec 32 := Scalar.muli v3062 c8_i32_2138
  let c0_i32_2149 : BitVec 32 := 0#32
  ![v21.toNat, v22.toNat, v3058.toNat, v3060.toNat, v3063.toNat, 0]
def k1_off278 (i : grid1.Coords) (v3081 : BitVec 32) (v3083 : BitVec 32) (v3085 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2153 : BitVec 32 := 8#32
  let v3086 : BitVec 32 := Scalar.muli v3085 c8_i32_2153
  let c0_i32_2157 : BitVec 32 := 0#32
  ![v21.toNat, v22.toNat, v3081.toNat, v3083.toNat, v3086.toNat, 0]

def k1_off279 (i : grid1.Coords) (v3081 : BitVec 32) (v3083 : BitVec 32) (v3085 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2153 : BitVec 32 := 8#32
  let v3086 : BitVec 32 := Scalar.muli v3085 c8_i32_2153
  let c0_i32_2164 : BitVec 32 := 0#32
  ![v21.toNat, v22.toNat, v3081.toNat, v3083.toNat, v3086.toNat, 0]
def k1_off280 (i : grid1.Coords) (v3104 : BitVec 32) (v3106 : BitVec 32) (v3108 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2168 : BitVec 32 := 8#32
  let v3109 : BitVec 32 := Scalar.muli v3108 c8_i32_2168
  let c0_i32_2172 : BitVec 32 := 0#32
  ![v21.toNat, v22.toNat, v3104.toNat, v3106.toNat, v3109.toNat, 0]

def k1_off281 (i : grid1.Coords) (v3104 : BitVec 32) (v3106 : BitVec 32) (v3108 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2168 : BitVec 32 := 8#32
  let v3109 : BitVec 32 := Scalar.muli v3108 c8_i32_2168
  let c0_i32_2179 : BitVec 32 := 0#32
  ![v21.toNat, v22.toNat, v3104.toNat, v3106.toNat, v3109.toNat, 0]
def k1_off282 (i : grid1.Coords) (v3127 : BitVec 32) (v3129 : BitVec 32) (v3131 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2183 : BitVec 32 := 8#32
  let v3132 : BitVec 32 := Scalar.muli v3131 c8_i32_2183
  let c0_i32_2187 : BitVec 32 := 0#32
  ![v21.toNat, v22.toNat, v3127.toNat, v3129.toNat, v3132.toNat, 0]

def k1_off283 (i : grid1.Coords) (v3127 : BitVec 32) (v3129 : BitVec 32) (v3131 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2183 : BitVec 32 := 8#32
  let v3132 : BitVec 32 := Scalar.muli v3131 c8_i32_2183
  let c0_i32_2194 : BitVec 32 := 0#32
  ![v21.toNat, v22.toNat, v3127.toNat, v3129.toNat, v3132.toNat, 0]
def k1_off284 (i : grid1.Coords) (v3150 : BitVec 32) (v3152 : BitVec 32) (v3154 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2198 : BitVec 32 := 8#32
  let v3155 : BitVec 32 := Scalar.muli v3154 c8_i32_2198
  let c0_i32_2202 : BitVec 32 := 0#32
  ![v21.toNat, v22.toNat, v3150.toNat, v3152.toNat, v3155.toNat, 0]

def k1_off285 (i : grid1.Coords) (v3150 : BitVec 32) (v3152 : BitVec 32) (v3154 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2198 : BitVec 32 := 8#32
  let v3155 : BitVec 32 := Scalar.muli v3154 c8_i32_2198
  let c0_i32_2209 : BitVec 32 := 0#32
  ![v21.toNat, v22.toNat, v3150.toNat, v3152.toNat, v3155.toNat, 0]
def k1_off286 (i : grid1.Coords) (v3184 : BitVec 32) (v3186 : BitVec 32) (v3188 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2218 : BitVec 32 := 8#32
  let v3189 : BitVec 32 := Scalar.muli v3188 c8_i32_2218
  let c0_i32_2222 : BitVec 32 := 0#32
  ![v21.toNat, v22.toNat, v3184.toNat, v3186.toNat, v3189.toNat, 0]

def k1_off287 (i : grid1.Coords) (v3184 : BitVec 32) (v3186 : BitVec 32) (v3188 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2218 : BitVec 32 := 8#32
  let v3189 : BitVec 32 := Scalar.muli v3188 c8_i32_2218
  let c0_i32_2229 : BitVec 32 := 0#32
  ![v21.toNat, v22.toNat, v3184.toNat, v3186.toNat, v3189.toNat, 0]
def k1_off288 (i : grid1.Coords) (v3207 : BitVec 32) (v3209 : BitVec 32) (v3211 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2233 : BitVec 32 := 8#32
  let v3212 : BitVec 32 := Scalar.muli v3211 c8_i32_2233
  let c0_i32_2237 : BitVec 32 := 0#32
  ![v21.toNat, v22.toNat, v3207.toNat, v3209.toNat, v3212.toNat, 0]

def k1_off289 (i : grid1.Coords) (v3207 : BitVec 32) (v3209 : BitVec 32) (v3211 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2233 : BitVec 32 := 8#32
  let v3212 : BitVec 32 := Scalar.muli v3211 c8_i32_2233
  let c0_i32_2244 : BitVec 32 := 0#32
  ![v21.toNat, v22.toNat, v3207.toNat, v3209.toNat, v3212.toNat, 0]
def k1_off290 (i : grid1.Coords) (v3230 : BitVec 32) (v3232 : BitVec 32) (v3234 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2248 : BitVec 32 := 8#32
  let v3235 : BitVec 32 := Scalar.muli v3234 c8_i32_2248
  let c0_i32_2252 : BitVec 32 := 0#32
  ![v21.toNat, v22.toNat, v3230.toNat, v3232.toNat, v3235.toNat, 0]

def k1_off291 (i : grid1.Coords) (v3230 : BitVec 32) (v3232 : BitVec 32) (v3234 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2248 : BitVec 32 := 8#32
  let v3235 : BitVec 32 := Scalar.muli v3234 c8_i32_2248
  let c0_i32_2259 : BitVec 32 := 0#32
  ![v21.toNat, v22.toNat, v3230.toNat, v3232.toNat, v3235.toNat, 0]
def k1_off292 (i : grid1.Coords) (v3253 : BitVec 32) (v3255 : BitVec 32) (v3257 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2263 : BitVec 32 := 8#32
  let v3258 : BitVec 32 := Scalar.muli v3257 c8_i32_2263
  let c0_i32_2267 : BitVec 32 := 0#32
  ![v21.toNat, v22.toNat, v3253.toNat, v3255.toNat, v3258.toNat, 0]

def k1_off293 (i : grid1.Coords) (v3253 : BitVec 32) (v3255 : BitVec 32) (v3257 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2263 : BitVec 32 := 8#32
  let v3258 : BitVec 32 := Scalar.muli v3257 c8_i32_2263
  let c0_i32_2274 : BitVec 32 := 0#32
  ![v21.toNat, v22.toNat, v3253.toNat, v3255.toNat, v3258.toNat, 0]
def k1_off294 (i : grid1.Coords) (v3276 : BitVec 32) (v3278 : BitVec 32) (v3280 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2278 : BitVec 32 := 8#32
  let v3281 : BitVec 32 := Scalar.muli v3280 c8_i32_2278
  let c0_i32_2282 : BitVec 32 := 0#32
  ![v21.toNat, v22.toNat, v3276.toNat, v3278.toNat, v3281.toNat, 0]

def k1_off295 (i : grid1.Coords) (v3276 : BitVec 32) (v3278 : BitVec 32) (v3280 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2278 : BitVec 32 := 8#32
  let v3281 : BitVec 32 := Scalar.muli v3280 c8_i32_2278
  let c0_i32_2289 : BitVec 32 := 0#32
  ![v21.toNat, v22.toNat, v3276.toNat, v3278.toNat, v3281.toNat, 0]
def k1_off296 (i : grid1.Coords) (v3299 : BitVec 32) (v3301 : BitVec 32) (v3303 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2293 : BitVec 32 := 8#32
  let v3304 : BitVec 32 := Scalar.muli v3303 c8_i32_2293
  let c0_i32_2297 : BitVec 32 := 0#32
  ![v21.toNat, v22.toNat, v3299.toNat, v3301.toNat, v3304.toNat, 0]

def k1_off297 (i : grid1.Coords) (v3299 : BitVec 32) (v3301 : BitVec 32) (v3303 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2293 : BitVec 32 := 8#32
  let v3304 : BitVec 32 := Scalar.muli v3303 c8_i32_2293
  let c0_i32_2304 : BitVec 32 := 0#32
  ![v21.toNat, v22.toNat, v3299.toNat, v3301.toNat, v3304.toNat, 0]
def k1_off298 (i : grid1.Coords) (v3322 : BitVec 32) (v3324 : BitVec 32) (v3326 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2308 : BitVec 32 := 8#32
  let v3327 : BitVec 32 := Scalar.muli v3326 c8_i32_2308
  let c0_i32_2312 : BitVec 32 := 0#32
  ![v21.toNat, v22.toNat, v3322.toNat, v3324.toNat, v3327.toNat, 0]

def k1_off299 (i : grid1.Coords) (v3322 : BitVec 32) (v3324 : BitVec 32) (v3326 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2308 : BitVec 32 := 8#32
  let v3327 : BitVec 32 := Scalar.muli v3326 c8_i32_2308
  let c0_i32_2319 : BitVec 32 := 0#32
  ![v21.toNat, v22.toNat, v3322.toNat, v3324.toNat, v3327.toNat, 0]
def k1_off300 (i : grid1.Coords) (v3345 : BitVec 32) (v3347 : BitVec 32) (v3349 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2323 : BitVec 32 := 8#32
  let v3350 : BitVec 32 := Scalar.muli v3349 c8_i32_2323
  let c0_i32_2327 : BitVec 32 := 0#32
  ![v21.toNat, v22.toNat, v3345.toNat, v3347.toNat, v3350.toNat, 0]

def k1_off301 (i : grid1.Coords) (v3345 : BitVec 32) (v3347 : BitVec 32) (v3349 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2323 : BitVec 32 := 8#32
  let v3350 : BitVec 32 := Scalar.muli v3349 c8_i32_2323
  let c0_i32_2334 : BitVec 32 := 0#32
  ![v21.toNat, v22.toNat, v3345.toNat, v3347.toNat, v3350.toNat, 0]
def k1_off302 (i : grid1.Coords) (v3368 : BitVec 32) (v3370 : BitVec 32) (v3372 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2338 : BitVec 32 := 8#32
  let v3373 : BitVec 32 := Scalar.muli v3372 c8_i32_2338
  let c0_i32_2342 : BitVec 32 := 0#32
  ![v21.toNat, v22.toNat, v3368.toNat, v3370.toNat, v3373.toNat, 0]

def k1_off303 (i : grid1.Coords) (v3368 : BitVec 32) (v3370 : BitVec 32) (v3372 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2338 : BitVec 32 := 8#32
  let v3373 : BitVec 32 := Scalar.muli v3372 c8_i32_2338
  let c0_i32_2349 : BitVec 32 := 0#32
  ![v21.toNat, v22.toNat, v3368.toNat, v3370.toNat, v3373.toNat, 0]
def k1_off304 (i : grid1.Coords) (v3391 : BitVec 32) (v3393 : BitVec 32) (v3395 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2353 : BitVec 32 := 8#32
  let v3396 : BitVec 32 := Scalar.muli v3395 c8_i32_2353
  let c0_i32_2357 : BitVec 32 := 0#32
  ![v21.toNat, v22.toNat, v3391.toNat, v3393.toNat, v3396.toNat, 0]

def k1_off305 (i : grid1.Coords) (v3391 : BitVec 32) (v3393 : BitVec 32) (v3395 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2353 : BitVec 32 := 8#32
  let v3396 : BitVec 32 := Scalar.muli v3395 c8_i32_2353
  let c0_i32_2364 : BitVec 32 := 0#32
  ![v21.toNat, v22.toNat, v3391.toNat, v3393.toNat, v3396.toNat, 0]
def k1_off306 (i : grid1.Coords) (v3414 : BitVec 32) (v3416 : BitVec 32) (v3418 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2368 : BitVec 32 := 8#32
  let v3419 : BitVec 32 := Scalar.muli v3418 c8_i32_2368
  let c0_i32_2372 : BitVec 32 := 0#32
  ![v21.toNat, v22.toNat, v3414.toNat, v3416.toNat, v3419.toNat, 0]

def k1_off307 (i : grid1.Coords) (v3414 : BitVec 32) (v3416 : BitVec 32) (v3418 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2368 : BitVec 32 := 8#32
  let v3419 : BitVec 32 := Scalar.muli v3418 c8_i32_2368
  let c0_i32_2379 : BitVec 32 := 0#32
  ![v21.toNat, v22.toNat, v3414.toNat, v3416.toNat, v3419.toNat, 0]
def k1_off308 (i : grid1.Coords) (v3437 : BitVec 32) (v3439 : BitVec 32) (v3441 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2383 : BitVec 32 := 8#32
  let v3442 : BitVec 32 := Scalar.muli v3441 c8_i32_2383
  let c0_i32_2387 : BitVec 32 := 0#32
  ![v21.toNat, v22.toNat, v3437.toNat, v3439.toNat, v3442.toNat, 0]

def k1_off309 (i : grid1.Coords) (v3437 : BitVec 32) (v3439 : BitVec 32) (v3441 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2383 : BitVec 32 := 8#32
  let v3442 : BitVec 32 := Scalar.muli v3441 c8_i32_2383
  let c0_i32_2394 : BitVec 32 := 0#32
  ![v21.toNat, v22.toNat, v3437.toNat, v3439.toNat, v3442.toNat, 0]
def k1_off310 (i : grid1.Coords) (v3460 : BitVec 32) (v3462 : BitVec 32) (v3464 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2398 : BitVec 32 := 8#32
  let v3465 : BitVec 32 := Scalar.muli v3464 c8_i32_2398
  let c0_i32_2402 : BitVec 32 := 0#32
  ![v21.toNat, v22.toNat, v3460.toNat, v3462.toNat, v3465.toNat, 0]

def k1_off311 (i : grid1.Coords) (v3460 : BitVec 32) (v3462 : BitVec 32) (v3464 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2398 : BitVec 32 := 8#32
  let v3465 : BitVec 32 := Scalar.muli v3464 c8_i32_2398
  let c0_i32_2409 : BitVec 32 := 0#32
  ![v21.toNat, v22.toNat, v3460.toNat, v3462.toNat, v3465.toNat, 0]
def k1_off312 (i : grid1.Coords) (v3483 : BitVec 32) (v3485 : BitVec 32) (v3487 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2413 : BitVec 32 := 8#32
  let v3488 : BitVec 32 := Scalar.muli v3487 c8_i32_2413
  let c0_i32_2417 : BitVec 32 := 0#32
  ![v21.toNat, v22.toNat, v3483.toNat, v3485.toNat, v3488.toNat, 0]

def k1_off313 (i : grid1.Coords) (v3483 : BitVec 32) (v3485 : BitVec 32) (v3487 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2413 : BitVec 32 := 8#32
  let v3488 : BitVec 32 := Scalar.muli v3487 c8_i32_2413
  let c0_i32_2424 : BitVec 32 := 0#32
  ![v21.toNat, v22.toNat, v3483.toNat, v3485.toNat, v3488.toNat, 0]
def k1_off314 (i : grid1.Coords) (v3506 : BitVec 32) (v3508 : BitVec 32) (v3510 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2428 : BitVec 32 := 8#32
  let v3511 : BitVec 32 := Scalar.muli v3510 c8_i32_2428
  let c0_i32_2432 : BitVec 32 := 0#32
  ![v21.toNat, v22.toNat, v3506.toNat, v3508.toNat, v3511.toNat, 0]

def k1_off315 (i : grid1.Coords) (v3506 : BitVec 32) (v3508 : BitVec 32) (v3510 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2428 : BitVec 32 := 8#32
  let v3511 : BitVec 32 := Scalar.muli v3510 c8_i32_2428
  let c0_i32_2439 : BitVec 32 := 0#32
  ![v21.toNat, v22.toNat, v3506.toNat, v3508.toNat, v3511.toNat, 0]
def k1_off316 (i : grid1.Coords) (v3529 : BitVec 32) (v3531 : BitVec 32) (v3533 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2443 : BitVec 32 := 8#32
  let v3534 : BitVec 32 := Scalar.muli v3533 c8_i32_2443
  let c0_i32_2447 : BitVec 32 := 0#32
  ![v21.toNat, v22.toNat, v3529.toNat, v3531.toNat, v3534.toNat, 0]

def k1_off317 (i : grid1.Coords) (v3529 : BitVec 32) (v3531 : BitVec 32) (v3533 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2443 : BitVec 32 := 8#32
  let v3534 : BitVec 32 := Scalar.muli v3533 c8_i32_2443
  let c0_i32_2454 : BitVec 32 := 0#32
  ![v21.toNat, v22.toNat, v3529.toNat, v3531.toNat, v3534.toNat, 0]

def k1_chk196 (i : grid1.Coords) (v3529 : BitVec 32) (v3531 : BitVec 32) (v3533 : BitVec 32) : Prop :=
  (∀ (k1_h1 : k1_cond1 i = 1#1), ∀ a, (k1_off316 i v3529 v3531 v3533) a + S1x1x1x1x8x20.size a ≤ S3x8x9x80x80x20.size a) ∧
  (∀ (k1_h1 : k1_cond1 i = 1#1), ∀ a, (k1_off317 i v3529 v3531 v3533) a + S1x1x1x1x8x5.size a ≤ S3x8x9x80x80x5.size a)
theorem k1_off316_inb : ∀ (i : grid1.Coords) (v3529 : BitVec 32) (v3531 : BitVec 32) (v3533 : BitVec 32) (k1_hw196 : k1_chk196 i v3529 v3531 v3533), ∀ (k1_h1 : k1_cond1 i = 1#1), ∀ a, (k1_off316 i v3529 v3531 v3533) a + S1x1x1x1x8x20.size a ≤ S3x8x9x80x80x20.size a := fun i v3529 v3531 v3533 k1_hw196 k1_h1 => k1_hw196.1 k1_h1
theorem k1_off317_inb : ∀ (i : grid1.Coords) (v3529 : BitVec 32) (v3531 : BitVec 32) (v3533 : BitVec 32) (k1_hw196 : k1_chk196 i v3529 v3531 v3533), ∀ (k1_h1 : k1_cond1 i = 1#1), ∀ a, (k1_off317 i v3529 v3531 v3533) a + S1x1x1x1x8x5.size a ≤ S3x8x9x80x80x5.size a := fun i v3529 v3531 v3533 k1_hw196 k1_h1 => k1_hw196.2 k1_h1

def k1_off318 (i : grid1.Coords) (v2805 : BitVec 32) (v2807 : BitVec 32) (v2809 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1973 : BitVec 32 := 8#32
  let v2810 : BitVec 32 := Scalar.muli v2809 c8_i32_1973
  let c0_i32_2461 : BitVec 32 := 0#32
  ![v21.toNat, v22.toNat, v2805.toNat, v2807.toNat, v2810.toNat, 0]
def k1_off319 (i : grid1.Coords) (v2805 : BitVec 32) (v2807 : BitVec 32) (v2809 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1973 : BitVec 32 := 8#32
  let v2810 : BitVec 32 := Scalar.muli v2809 c8_i32_1973
  let c0_i32_2468 : BitVec 32 := 0#32
  ![v21.toNat, v22.toNat, v2805.toNat, v2807.toNat, v2810.toNat, 0]

def k1_chk165 (i : grid1.Coords) (v2805 : BitVec 32) (v2807 : BitVec 32) (v2809 : BitVec 32) : Prop :=
  (∀ (k1_h1 : k1_cond1 i = 1#1), ∀ a, (k1_off254 i v2805 v2807 v2809) a + S1x1x1x1x8x20.size a ≤ S3x8x9x80x80x20.size a) ∧
  (∀ (k1_h1 : k1_cond1 i = 1#1), ∀ a, (k1_off255 i v2805 v2807 v2809) a + S1x1x1x1x8x5.size a ≤ S3x8x9x80x80x5.size a) ∧
  (∀ (k1_h1 : k1_cond1 i = 1#1), ∀ a, (k1_off318 i v2805 v2807 v2809) a + S1x1x1x1x8x20.size a ≤ S3x8x9x80x80x20.size a) ∧
  (∀ (k1_h1 : k1_cond1 i = 1#1), ∀ a, (k1_off319 i v2805 v2807 v2809) a + S1x1x1x1x8x5.size a ≤ S3x8x9x80x80x5.size a)
theorem k1_off254_inb : ∀ (i : grid1.Coords) (v2805 : BitVec 32) (v2807 : BitVec 32) (v2809 : BitVec 32) (k1_hw165 : k1_chk165 i v2805 v2807 v2809), ∀ (k1_h1 : k1_cond1 i = 1#1), ∀ a, (k1_off254 i v2805 v2807 v2809) a + S1x1x1x1x8x20.size a ≤ S3x8x9x80x80x20.size a := fun i v2805 v2807 v2809 k1_hw165 k1_h1 => k1_hw165.1 k1_h1
theorem k1_off255_inb : ∀ (i : grid1.Coords) (v2805 : BitVec 32) (v2807 : BitVec 32) (v2809 : BitVec 32) (k1_hw165 : k1_chk165 i v2805 v2807 v2809), ∀ (k1_h1 : k1_cond1 i = 1#1), ∀ a, (k1_off255 i v2805 v2807 v2809) a + S1x1x1x1x8x5.size a ≤ S3x8x9x80x80x5.size a := fun i v2805 v2807 v2809 k1_hw165 k1_h1 => k1_hw165.2.1 k1_h1
theorem k1_off318_inb : ∀ (i : grid1.Coords) (v2805 : BitVec 32) (v2807 : BitVec 32) (v2809 : BitVec 32) (k1_hw165 : k1_chk165 i v2805 v2807 v2809), ∀ (k1_h1 : k1_cond1 i = 1#1), ∀ a, (k1_off318 i v2805 v2807 v2809) a + S1x1x1x1x8x20.size a ≤ S3x8x9x80x80x20.size a := fun i v2805 v2807 v2809 k1_hw165 k1_h1 => k1_hw165.2.2.1 k1_h1
theorem k1_off319_inb : ∀ (i : grid1.Coords) (v2805 : BitVec 32) (v2807 : BitVec 32) (v2809 : BitVec 32) (k1_hw165 : k1_chk165 i v2805 v2807 v2809), ∀ (k1_h1 : k1_cond1 i = 1#1), ∀ a, (k1_off319 i v2805 v2807 v2809) a + S1x1x1x1x8x5.size a ≤ S3x8x9x80x80x5.size a := fun i v2805 v2807 v2809 k1_hw165 k1_h1 => k1_hw165.2.2.2 k1_h1

def k1_off320 (i : grid1.Coords) (v2828 : BitVec 32) (v2830 : BitVec 32) (v2832 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1988 : BitVec 32 := 8#32
  let v2833 : BitVec 32 := Scalar.muli v2832 c8_i32_1988
  let c0_i32_2475 : BitVec 32 := 0#32
  ![v21.toNat, v22.toNat, v2828.toNat, v2830.toNat, v2833.toNat, 0]
def k1_off321 (i : grid1.Coords) (v2828 : BitVec 32) (v2830 : BitVec 32) (v2832 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_1988 : BitVec 32 := 8#32
  let v2833 : BitVec 32 := Scalar.muli v2832 c8_i32_1988
  let c0_i32_2482 : BitVec 32 := 0#32
  ![v21.toNat, v22.toNat, v2828.toNat, v2830.toNat, v2833.toNat, 0]

def k1_chk166 (i : grid1.Coords) (v2828 : BitVec 32) (v2830 : BitVec 32) (v2832 : BitVec 32) : Prop :=
  (∀ (k1_h1 : k1_cond1 i = 1#1), ∀ a, (k1_off256 i v2828 v2830 v2832) a + S1x1x1x1x8x20.size a ≤ S3x8x9x80x80x20.size a) ∧
  (∀ (k1_h1 : k1_cond1 i = 1#1), ∀ a, (k1_off257 i v2828 v2830 v2832) a + S1x1x1x1x8x5.size a ≤ S3x8x9x80x80x5.size a) ∧
  (∀ (k1_h1 : k1_cond1 i = 1#1), ∀ a, (k1_off320 i v2828 v2830 v2832) a + S1x1x1x1x8x20.size a ≤ S3x8x9x80x80x20.size a) ∧
  (∀ (k1_h1 : k1_cond1 i = 1#1), ∀ a, (k1_off321 i v2828 v2830 v2832) a + S1x1x1x1x8x5.size a ≤ S3x8x9x80x80x5.size a)
theorem k1_off256_inb : ∀ (i : grid1.Coords) (v2828 : BitVec 32) (v2830 : BitVec 32) (v2832 : BitVec 32) (k1_hw166 : k1_chk166 i v2828 v2830 v2832), ∀ (k1_h1 : k1_cond1 i = 1#1), ∀ a, (k1_off256 i v2828 v2830 v2832) a + S1x1x1x1x8x20.size a ≤ S3x8x9x80x80x20.size a := fun i v2828 v2830 v2832 k1_hw166 k1_h1 => k1_hw166.1 k1_h1
theorem k1_off257_inb : ∀ (i : grid1.Coords) (v2828 : BitVec 32) (v2830 : BitVec 32) (v2832 : BitVec 32) (k1_hw166 : k1_chk166 i v2828 v2830 v2832), ∀ (k1_h1 : k1_cond1 i = 1#1), ∀ a, (k1_off257 i v2828 v2830 v2832) a + S1x1x1x1x8x5.size a ≤ S3x8x9x80x80x5.size a := fun i v2828 v2830 v2832 k1_hw166 k1_h1 => k1_hw166.2.1 k1_h1
theorem k1_off320_inb : ∀ (i : grid1.Coords) (v2828 : BitVec 32) (v2830 : BitVec 32) (v2832 : BitVec 32) (k1_hw166 : k1_chk166 i v2828 v2830 v2832), ∀ (k1_h1 : k1_cond1 i = 1#1), ∀ a, (k1_off320 i v2828 v2830 v2832) a + S1x1x1x1x8x20.size a ≤ S3x8x9x80x80x20.size a := fun i v2828 v2830 v2832 k1_hw166 k1_h1 => k1_hw166.2.2.1 k1_h1
theorem k1_off321_inb : ∀ (i : grid1.Coords) (v2828 : BitVec 32) (v2830 : BitVec 32) (v2832 : BitVec 32) (k1_hw166 : k1_chk166 i v2828 v2830 v2832), ∀ (k1_h1 : k1_cond1 i = 1#1), ∀ a, (k1_off321 i v2828 v2830 v2832) a + S1x1x1x1x8x5.size a ≤ S3x8x9x80x80x5.size a := fun i v2828 v2830 v2832 k1_hw166 k1_h1 => k1_hw166.2.2.2 k1_h1

def k1_off322 (i : grid1.Coords) (v2851 : BitVec 32) (v2853 : BitVec 32) (v2855 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2003 : BitVec 32 := 8#32
  let v2856 : BitVec 32 := Scalar.muli v2855 c8_i32_2003
  let c0_i32_2489 : BitVec 32 := 0#32
  ![v21.toNat, v22.toNat, v2851.toNat, v2853.toNat, v2856.toNat, 0]
def k1_off323 (i : grid1.Coords) (v2851 : BitVec 32) (v2853 : BitVec 32) (v2855 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2003 : BitVec 32 := 8#32
  let v2856 : BitVec 32 := Scalar.muli v2855 c8_i32_2003
  let c0_i32_2496 : BitVec 32 := 0#32
  ![v21.toNat, v22.toNat, v2851.toNat, v2853.toNat, v2856.toNat, 0]

def k1_chk167 (i : grid1.Coords) (v2851 : BitVec 32) (v2853 : BitVec 32) (v2855 : BitVec 32) : Prop :=
  (∀ (k1_h1 : k1_cond1 i = 1#1), ∀ a, (k1_off258 i v2851 v2853 v2855) a + S1x1x1x1x8x20.size a ≤ S3x8x9x80x80x20.size a) ∧
  (∀ (k1_h1 : k1_cond1 i = 1#1), ∀ a, (k1_off259 i v2851 v2853 v2855) a + S1x1x1x1x8x5.size a ≤ S3x8x9x80x80x5.size a) ∧
  (∀ (k1_h1 : k1_cond1 i = 1#1), ∀ a, (k1_off322 i v2851 v2853 v2855) a + S1x1x1x1x8x20.size a ≤ S3x8x9x80x80x20.size a) ∧
  (∀ (k1_h1 : k1_cond1 i = 1#1), ∀ a, (k1_off323 i v2851 v2853 v2855) a + S1x1x1x1x8x5.size a ≤ S3x8x9x80x80x5.size a)
theorem k1_off258_inb : ∀ (i : grid1.Coords) (v2851 : BitVec 32) (v2853 : BitVec 32) (v2855 : BitVec 32) (k1_hw167 : k1_chk167 i v2851 v2853 v2855), ∀ (k1_h1 : k1_cond1 i = 1#1), ∀ a, (k1_off258 i v2851 v2853 v2855) a + S1x1x1x1x8x20.size a ≤ S3x8x9x80x80x20.size a := fun i v2851 v2853 v2855 k1_hw167 k1_h1 => k1_hw167.1 k1_h1
theorem k1_off259_inb : ∀ (i : grid1.Coords) (v2851 : BitVec 32) (v2853 : BitVec 32) (v2855 : BitVec 32) (k1_hw167 : k1_chk167 i v2851 v2853 v2855), ∀ (k1_h1 : k1_cond1 i = 1#1), ∀ a, (k1_off259 i v2851 v2853 v2855) a + S1x1x1x1x8x5.size a ≤ S3x8x9x80x80x5.size a := fun i v2851 v2853 v2855 k1_hw167 k1_h1 => k1_hw167.2.1 k1_h1
theorem k1_off322_inb : ∀ (i : grid1.Coords) (v2851 : BitVec 32) (v2853 : BitVec 32) (v2855 : BitVec 32) (k1_hw167 : k1_chk167 i v2851 v2853 v2855), ∀ (k1_h1 : k1_cond1 i = 1#1), ∀ a, (k1_off322 i v2851 v2853 v2855) a + S1x1x1x1x8x20.size a ≤ S3x8x9x80x80x20.size a := fun i v2851 v2853 v2855 k1_hw167 k1_h1 => k1_hw167.2.2.1 k1_h1
theorem k1_off323_inb : ∀ (i : grid1.Coords) (v2851 : BitVec 32) (v2853 : BitVec 32) (v2855 : BitVec 32) (k1_hw167 : k1_chk167 i v2851 v2853 v2855), ∀ (k1_h1 : k1_cond1 i = 1#1), ∀ a, (k1_off323 i v2851 v2853 v2855) a + S1x1x1x1x8x5.size a ≤ S3x8x9x80x80x5.size a := fun i v2851 v2853 v2855 k1_hw167 k1_h1 => k1_hw167.2.2.2 k1_h1

def k1_off324 (i : grid1.Coords) (v2874 : BitVec 32) (v2876 : BitVec 32) (v2878 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2018 : BitVec 32 := 8#32
  let v2879 : BitVec 32 := Scalar.muli v2878 c8_i32_2018
  let c0_i32_2503 : BitVec 32 := 0#32
  ![v21.toNat, v22.toNat, v2874.toNat, v2876.toNat, v2879.toNat, 0]
def k1_off325 (i : grid1.Coords) (v2874 : BitVec 32) (v2876 : BitVec 32) (v2878 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2018 : BitVec 32 := 8#32
  let v2879 : BitVec 32 := Scalar.muli v2878 c8_i32_2018
  let c0_i32_2510 : BitVec 32 := 0#32
  ![v21.toNat, v22.toNat, v2874.toNat, v2876.toNat, v2879.toNat, 0]

def k1_chk168 (i : grid1.Coords) (v2874 : BitVec 32) (v2876 : BitVec 32) (v2878 : BitVec 32) : Prop :=
  (∀ (k1_h1 : k1_cond1 i = 1#1), ∀ a, (k1_off260 i v2874 v2876 v2878) a + S1x1x1x1x8x20.size a ≤ S3x8x9x80x80x20.size a) ∧
  (∀ (k1_h1 : k1_cond1 i = 1#1), ∀ a, (k1_off261 i v2874 v2876 v2878) a + S1x1x1x1x8x5.size a ≤ S3x8x9x80x80x5.size a) ∧
  (∀ (k1_h1 : k1_cond1 i = 1#1), ∀ a, (k1_off324 i v2874 v2876 v2878) a + S1x1x1x1x8x20.size a ≤ S3x8x9x80x80x20.size a) ∧
  (∀ (k1_h1 : k1_cond1 i = 1#1), ∀ a, (k1_off325 i v2874 v2876 v2878) a + S1x1x1x1x8x5.size a ≤ S3x8x9x80x80x5.size a)
theorem k1_off260_inb : ∀ (i : grid1.Coords) (v2874 : BitVec 32) (v2876 : BitVec 32) (v2878 : BitVec 32) (k1_hw168 : k1_chk168 i v2874 v2876 v2878), ∀ (k1_h1 : k1_cond1 i = 1#1), ∀ a, (k1_off260 i v2874 v2876 v2878) a + S1x1x1x1x8x20.size a ≤ S3x8x9x80x80x20.size a := fun i v2874 v2876 v2878 k1_hw168 k1_h1 => k1_hw168.1 k1_h1
theorem k1_off261_inb : ∀ (i : grid1.Coords) (v2874 : BitVec 32) (v2876 : BitVec 32) (v2878 : BitVec 32) (k1_hw168 : k1_chk168 i v2874 v2876 v2878), ∀ (k1_h1 : k1_cond1 i = 1#1), ∀ a, (k1_off261 i v2874 v2876 v2878) a + S1x1x1x1x8x5.size a ≤ S3x8x9x80x80x5.size a := fun i v2874 v2876 v2878 k1_hw168 k1_h1 => k1_hw168.2.1 k1_h1
theorem k1_off324_inb : ∀ (i : grid1.Coords) (v2874 : BitVec 32) (v2876 : BitVec 32) (v2878 : BitVec 32) (k1_hw168 : k1_chk168 i v2874 v2876 v2878), ∀ (k1_h1 : k1_cond1 i = 1#1), ∀ a, (k1_off324 i v2874 v2876 v2878) a + S1x1x1x1x8x20.size a ≤ S3x8x9x80x80x20.size a := fun i v2874 v2876 v2878 k1_hw168 k1_h1 => k1_hw168.2.2.1 k1_h1
theorem k1_off325_inb : ∀ (i : grid1.Coords) (v2874 : BitVec 32) (v2876 : BitVec 32) (v2878 : BitVec 32) (k1_hw168 : k1_chk168 i v2874 v2876 v2878), ∀ (k1_h1 : k1_cond1 i = 1#1), ∀ a, (k1_off325 i v2874 v2876 v2878) a + S1x1x1x1x8x5.size a ≤ S3x8x9x80x80x5.size a := fun i v2874 v2876 v2878 k1_hw168 k1_h1 => k1_hw168.2.2.2 k1_h1

def k1_off326 (i : grid1.Coords) (v2897 : BitVec 32) (v2899 : BitVec 32) (v2901 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2033 : BitVec 32 := 8#32
  let v2902 : BitVec 32 := Scalar.muli v2901 c8_i32_2033
  let c0_i32_2517 : BitVec 32 := 0#32
  ![v21.toNat, v22.toNat, v2897.toNat, v2899.toNat, v2902.toNat, 0]
def k1_off327 (i : grid1.Coords) (v2897 : BitVec 32) (v2899 : BitVec 32) (v2901 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2033 : BitVec 32 := 8#32
  let v2902 : BitVec 32 := Scalar.muli v2901 c8_i32_2033
  let c0_i32_2524 : BitVec 32 := 0#32
  ![v21.toNat, v22.toNat, v2897.toNat, v2899.toNat, v2902.toNat, 0]

def k1_chk169 (i : grid1.Coords) (v2897 : BitVec 32) (v2899 : BitVec 32) (v2901 : BitVec 32) : Prop :=
  (∀ (k1_h1 : k1_cond1 i = 1#1), ∀ a, (k1_off262 i v2897 v2899 v2901) a + S1x1x1x1x8x20.size a ≤ S3x8x9x80x80x20.size a) ∧
  (∀ (k1_h1 : k1_cond1 i = 1#1), ∀ a, (k1_off263 i v2897 v2899 v2901) a + S1x1x1x1x8x5.size a ≤ S3x8x9x80x80x5.size a) ∧
  (∀ (k1_h1 : k1_cond1 i = 1#1), ∀ a, (k1_off326 i v2897 v2899 v2901) a + S1x1x1x1x8x20.size a ≤ S3x8x9x80x80x20.size a) ∧
  (∀ (k1_h1 : k1_cond1 i = 1#1), ∀ a, (k1_off327 i v2897 v2899 v2901) a + S1x1x1x1x8x5.size a ≤ S3x8x9x80x80x5.size a)
theorem k1_off262_inb : ∀ (i : grid1.Coords) (v2897 : BitVec 32) (v2899 : BitVec 32) (v2901 : BitVec 32) (k1_hw169 : k1_chk169 i v2897 v2899 v2901), ∀ (k1_h1 : k1_cond1 i = 1#1), ∀ a, (k1_off262 i v2897 v2899 v2901) a + S1x1x1x1x8x20.size a ≤ S3x8x9x80x80x20.size a := fun i v2897 v2899 v2901 k1_hw169 k1_h1 => k1_hw169.1 k1_h1
theorem k1_off263_inb : ∀ (i : grid1.Coords) (v2897 : BitVec 32) (v2899 : BitVec 32) (v2901 : BitVec 32) (k1_hw169 : k1_chk169 i v2897 v2899 v2901), ∀ (k1_h1 : k1_cond1 i = 1#1), ∀ a, (k1_off263 i v2897 v2899 v2901) a + S1x1x1x1x8x5.size a ≤ S3x8x9x80x80x5.size a := fun i v2897 v2899 v2901 k1_hw169 k1_h1 => k1_hw169.2.1 k1_h1
theorem k1_off326_inb : ∀ (i : grid1.Coords) (v2897 : BitVec 32) (v2899 : BitVec 32) (v2901 : BitVec 32) (k1_hw169 : k1_chk169 i v2897 v2899 v2901), ∀ (k1_h1 : k1_cond1 i = 1#1), ∀ a, (k1_off326 i v2897 v2899 v2901) a + S1x1x1x1x8x20.size a ≤ S3x8x9x80x80x20.size a := fun i v2897 v2899 v2901 k1_hw169 k1_h1 => k1_hw169.2.2.1 k1_h1
theorem k1_off327_inb : ∀ (i : grid1.Coords) (v2897 : BitVec 32) (v2899 : BitVec 32) (v2901 : BitVec 32) (k1_hw169 : k1_chk169 i v2897 v2899 v2901), ∀ (k1_h1 : k1_cond1 i = 1#1), ∀ a, (k1_off327 i v2897 v2899 v2901) a + S1x1x1x1x8x5.size a ≤ S3x8x9x80x80x5.size a := fun i v2897 v2899 v2901 k1_hw169 k1_h1 => k1_hw169.2.2.2 k1_h1

def k1_off328 (i : grid1.Coords) (v2920 : BitVec 32) (v2922 : BitVec 32) (v2924 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2048 : BitVec 32 := 8#32
  let v2925 : BitVec 32 := Scalar.muli v2924 c8_i32_2048
  let c0_i32_2531 : BitVec 32 := 0#32
  ![v21.toNat, v22.toNat, v2920.toNat, v2922.toNat, v2925.toNat, 0]
def k1_off329 (i : grid1.Coords) (v2920 : BitVec 32) (v2922 : BitVec 32) (v2924 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2048 : BitVec 32 := 8#32
  let v2925 : BitVec 32 := Scalar.muli v2924 c8_i32_2048
  let c0_i32_2538 : BitVec 32 := 0#32
  ![v21.toNat, v22.toNat, v2920.toNat, v2922.toNat, v2925.toNat, 0]

def k1_chk170 (i : grid1.Coords) (v2920 : BitVec 32) (v2922 : BitVec 32) (v2924 : BitVec 32) : Prop :=
  (∀ (k1_h1 : k1_cond1 i = 1#1), ∀ a, (k1_off264 i v2920 v2922 v2924) a + S1x1x1x1x8x20.size a ≤ S3x8x9x80x80x20.size a) ∧
  (∀ (k1_h1 : k1_cond1 i = 1#1), ∀ a, (k1_off265 i v2920 v2922 v2924) a + S1x1x1x1x8x5.size a ≤ S3x8x9x80x80x5.size a) ∧
  (∀ (k1_h1 : k1_cond1 i = 1#1), ∀ a, (k1_off328 i v2920 v2922 v2924) a + S1x1x1x1x8x20.size a ≤ S3x8x9x80x80x20.size a) ∧
  (∀ (k1_h1 : k1_cond1 i = 1#1), ∀ a, (k1_off329 i v2920 v2922 v2924) a + S1x1x1x1x8x5.size a ≤ S3x8x9x80x80x5.size a)
theorem k1_off264_inb : ∀ (i : grid1.Coords) (v2920 : BitVec 32) (v2922 : BitVec 32) (v2924 : BitVec 32) (k1_hw170 : k1_chk170 i v2920 v2922 v2924), ∀ (k1_h1 : k1_cond1 i = 1#1), ∀ a, (k1_off264 i v2920 v2922 v2924) a + S1x1x1x1x8x20.size a ≤ S3x8x9x80x80x20.size a := fun i v2920 v2922 v2924 k1_hw170 k1_h1 => k1_hw170.1 k1_h1
theorem k1_off265_inb : ∀ (i : grid1.Coords) (v2920 : BitVec 32) (v2922 : BitVec 32) (v2924 : BitVec 32) (k1_hw170 : k1_chk170 i v2920 v2922 v2924), ∀ (k1_h1 : k1_cond1 i = 1#1), ∀ a, (k1_off265 i v2920 v2922 v2924) a + S1x1x1x1x8x5.size a ≤ S3x8x9x80x80x5.size a := fun i v2920 v2922 v2924 k1_hw170 k1_h1 => k1_hw170.2.1 k1_h1
theorem k1_off328_inb : ∀ (i : grid1.Coords) (v2920 : BitVec 32) (v2922 : BitVec 32) (v2924 : BitVec 32) (k1_hw170 : k1_chk170 i v2920 v2922 v2924), ∀ (k1_h1 : k1_cond1 i = 1#1), ∀ a, (k1_off328 i v2920 v2922 v2924) a + S1x1x1x1x8x20.size a ≤ S3x8x9x80x80x20.size a := fun i v2920 v2922 v2924 k1_hw170 k1_h1 => k1_hw170.2.2.1 k1_h1
theorem k1_off329_inb : ∀ (i : grid1.Coords) (v2920 : BitVec 32) (v2922 : BitVec 32) (v2924 : BitVec 32) (k1_hw170 : k1_chk170 i v2920 v2922 v2924), ∀ (k1_h1 : k1_cond1 i = 1#1), ∀ a, (k1_off329 i v2920 v2922 v2924) a + S1x1x1x1x8x5.size a ≤ S3x8x9x80x80x5.size a := fun i v2920 v2922 v2924 k1_hw170 k1_h1 => k1_hw170.2.2.2 k1_h1

def k1_off330 (i : grid1.Coords) (v2943 : BitVec 32) (v2945 : BitVec 32) (v2947 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2063 : BitVec 32 := 8#32
  let v2948 : BitVec 32 := Scalar.muli v2947 c8_i32_2063
  let c0_i32_2545 : BitVec 32 := 0#32
  ![v21.toNat, v22.toNat, v2943.toNat, v2945.toNat, v2948.toNat, 0]
def k1_off331 (i : grid1.Coords) (v2943 : BitVec 32) (v2945 : BitVec 32) (v2947 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2063 : BitVec 32 := 8#32
  let v2948 : BitVec 32 := Scalar.muli v2947 c8_i32_2063
  let c0_i32_2552 : BitVec 32 := 0#32
  ![v21.toNat, v22.toNat, v2943.toNat, v2945.toNat, v2948.toNat, 0]

def k1_chk171 (i : grid1.Coords) (v2943 : BitVec 32) (v2945 : BitVec 32) (v2947 : BitVec 32) : Prop :=
  (∀ (k1_h1 : k1_cond1 i = 1#1), ∀ a, (k1_off266 i v2943 v2945 v2947) a + S1x1x1x1x8x20.size a ≤ S3x8x9x80x80x20.size a) ∧
  (∀ (k1_h1 : k1_cond1 i = 1#1), ∀ a, (k1_off267 i v2943 v2945 v2947) a + S1x1x1x1x8x5.size a ≤ S3x8x9x80x80x5.size a) ∧
  (∀ (k1_h1 : k1_cond1 i = 1#1), ∀ a, (k1_off330 i v2943 v2945 v2947) a + S1x1x1x1x8x20.size a ≤ S3x8x9x80x80x20.size a) ∧
  (∀ (k1_h1 : k1_cond1 i = 1#1), ∀ a, (k1_off331 i v2943 v2945 v2947) a + S1x1x1x1x8x5.size a ≤ S3x8x9x80x80x5.size a)
theorem k1_off266_inb : ∀ (i : grid1.Coords) (v2943 : BitVec 32) (v2945 : BitVec 32) (v2947 : BitVec 32) (k1_hw171 : k1_chk171 i v2943 v2945 v2947), ∀ (k1_h1 : k1_cond1 i = 1#1), ∀ a, (k1_off266 i v2943 v2945 v2947) a + S1x1x1x1x8x20.size a ≤ S3x8x9x80x80x20.size a := fun i v2943 v2945 v2947 k1_hw171 k1_h1 => k1_hw171.1 k1_h1
theorem k1_off267_inb : ∀ (i : grid1.Coords) (v2943 : BitVec 32) (v2945 : BitVec 32) (v2947 : BitVec 32) (k1_hw171 : k1_chk171 i v2943 v2945 v2947), ∀ (k1_h1 : k1_cond1 i = 1#1), ∀ a, (k1_off267 i v2943 v2945 v2947) a + S1x1x1x1x8x5.size a ≤ S3x8x9x80x80x5.size a := fun i v2943 v2945 v2947 k1_hw171 k1_h1 => k1_hw171.2.1 k1_h1
theorem k1_off330_inb : ∀ (i : grid1.Coords) (v2943 : BitVec 32) (v2945 : BitVec 32) (v2947 : BitVec 32) (k1_hw171 : k1_chk171 i v2943 v2945 v2947), ∀ (k1_h1 : k1_cond1 i = 1#1), ∀ a, (k1_off330 i v2943 v2945 v2947) a + S1x1x1x1x8x20.size a ≤ S3x8x9x80x80x20.size a := fun i v2943 v2945 v2947 k1_hw171 k1_h1 => k1_hw171.2.2.1 k1_h1
theorem k1_off331_inb : ∀ (i : grid1.Coords) (v2943 : BitVec 32) (v2945 : BitVec 32) (v2947 : BitVec 32) (k1_hw171 : k1_chk171 i v2943 v2945 v2947), ∀ (k1_h1 : k1_cond1 i = 1#1), ∀ a, (k1_off331 i v2943 v2945 v2947) a + S1x1x1x1x8x5.size a ≤ S3x8x9x80x80x5.size a := fun i v2943 v2945 v2947 k1_hw171 k1_h1 => k1_hw171.2.2.2 k1_h1

def k1_off332 (i : grid1.Coords) (v2966 : BitVec 32) (v2968 : BitVec 32) (v2970 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2078 : BitVec 32 := 8#32
  let v2971 : BitVec 32 := Scalar.muli v2970 c8_i32_2078
  let c0_i32_2559 : BitVec 32 := 0#32
  ![v21.toNat, v22.toNat, v2966.toNat, v2968.toNat, v2971.toNat, 0]
def k1_off333 (i : grid1.Coords) (v2966 : BitVec 32) (v2968 : BitVec 32) (v2970 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2078 : BitVec 32 := 8#32
  let v2971 : BitVec 32 := Scalar.muli v2970 c8_i32_2078
  let c0_i32_2566 : BitVec 32 := 0#32
  ![v21.toNat, v22.toNat, v2966.toNat, v2968.toNat, v2971.toNat, 0]

def k1_chk172 (i : grid1.Coords) (v2966 : BitVec 32) (v2968 : BitVec 32) (v2970 : BitVec 32) : Prop :=
  (∀ (k1_h1 : k1_cond1 i = 1#1), ∀ a, (k1_off268 i v2966 v2968 v2970) a + S1x1x1x1x8x20.size a ≤ S3x8x9x80x80x20.size a) ∧
  (∀ (k1_h1 : k1_cond1 i = 1#1), ∀ a, (k1_off269 i v2966 v2968 v2970) a + S1x1x1x1x8x5.size a ≤ S3x8x9x80x80x5.size a) ∧
  (∀ (k1_h1 : k1_cond1 i = 1#1), ∀ a, (k1_off332 i v2966 v2968 v2970) a + S1x1x1x1x8x20.size a ≤ S3x8x9x80x80x20.size a) ∧
  (∀ (k1_h1 : k1_cond1 i = 1#1), ∀ a, (k1_off333 i v2966 v2968 v2970) a + S1x1x1x1x8x5.size a ≤ S3x8x9x80x80x5.size a)
theorem k1_off268_inb : ∀ (i : grid1.Coords) (v2966 : BitVec 32) (v2968 : BitVec 32) (v2970 : BitVec 32) (k1_hw172 : k1_chk172 i v2966 v2968 v2970), ∀ (k1_h1 : k1_cond1 i = 1#1), ∀ a, (k1_off268 i v2966 v2968 v2970) a + S1x1x1x1x8x20.size a ≤ S3x8x9x80x80x20.size a := fun i v2966 v2968 v2970 k1_hw172 k1_h1 => k1_hw172.1 k1_h1
theorem k1_off269_inb : ∀ (i : grid1.Coords) (v2966 : BitVec 32) (v2968 : BitVec 32) (v2970 : BitVec 32) (k1_hw172 : k1_chk172 i v2966 v2968 v2970), ∀ (k1_h1 : k1_cond1 i = 1#1), ∀ a, (k1_off269 i v2966 v2968 v2970) a + S1x1x1x1x8x5.size a ≤ S3x8x9x80x80x5.size a := fun i v2966 v2968 v2970 k1_hw172 k1_h1 => k1_hw172.2.1 k1_h1
theorem k1_off332_inb : ∀ (i : grid1.Coords) (v2966 : BitVec 32) (v2968 : BitVec 32) (v2970 : BitVec 32) (k1_hw172 : k1_chk172 i v2966 v2968 v2970), ∀ (k1_h1 : k1_cond1 i = 1#1), ∀ a, (k1_off332 i v2966 v2968 v2970) a + S1x1x1x1x8x20.size a ≤ S3x8x9x80x80x20.size a := fun i v2966 v2968 v2970 k1_hw172 k1_h1 => k1_hw172.2.2.1 k1_h1
theorem k1_off333_inb : ∀ (i : grid1.Coords) (v2966 : BitVec 32) (v2968 : BitVec 32) (v2970 : BitVec 32) (k1_hw172 : k1_chk172 i v2966 v2968 v2970), ∀ (k1_h1 : k1_cond1 i = 1#1), ∀ a, (k1_off333 i v2966 v2968 v2970) a + S1x1x1x1x8x5.size a ≤ S3x8x9x80x80x5.size a := fun i v2966 v2968 v2970 k1_hw172 k1_h1 => k1_hw172.2.2.2 k1_h1

def k1_off334 (i : grid1.Coords) (v2989 : BitVec 32) (v2991 : BitVec 32) (v2993 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2093 : BitVec 32 := 8#32
  let v2994 : BitVec 32 := Scalar.muli v2993 c8_i32_2093
  let c0_i32_2573 : BitVec 32 := 0#32
  ![v21.toNat, v22.toNat, v2989.toNat, v2991.toNat, v2994.toNat, 0]
def k1_off335 (i : grid1.Coords) (v2989 : BitVec 32) (v2991 : BitVec 32) (v2993 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2093 : BitVec 32 := 8#32
  let v2994 : BitVec 32 := Scalar.muli v2993 c8_i32_2093
  let c0_i32_2580 : BitVec 32 := 0#32
  ![v21.toNat, v22.toNat, v2989.toNat, v2991.toNat, v2994.toNat, 0]

def k1_chk173 (i : grid1.Coords) (v2989 : BitVec 32) (v2991 : BitVec 32) (v2993 : BitVec 32) : Prop :=
  (∀ (k1_h1 : k1_cond1 i = 1#1), ∀ a, (k1_off270 i v2989 v2991 v2993) a + S1x1x1x1x8x20.size a ≤ S3x8x9x80x80x20.size a) ∧
  (∀ (k1_h1 : k1_cond1 i = 1#1), ∀ a, (k1_off271 i v2989 v2991 v2993) a + S1x1x1x1x8x5.size a ≤ S3x8x9x80x80x5.size a) ∧
  (∀ (k1_h1 : k1_cond1 i = 1#1), ∀ a, (k1_off334 i v2989 v2991 v2993) a + S1x1x1x1x8x20.size a ≤ S3x8x9x80x80x20.size a) ∧
  (∀ (k1_h1 : k1_cond1 i = 1#1), ∀ a, (k1_off335 i v2989 v2991 v2993) a + S1x1x1x1x8x5.size a ≤ S3x8x9x80x80x5.size a)
theorem k1_off270_inb : ∀ (i : grid1.Coords) (v2989 : BitVec 32) (v2991 : BitVec 32) (v2993 : BitVec 32) (k1_hw173 : k1_chk173 i v2989 v2991 v2993), ∀ (k1_h1 : k1_cond1 i = 1#1), ∀ a, (k1_off270 i v2989 v2991 v2993) a + S1x1x1x1x8x20.size a ≤ S3x8x9x80x80x20.size a := fun i v2989 v2991 v2993 k1_hw173 k1_h1 => k1_hw173.1 k1_h1
theorem k1_off271_inb : ∀ (i : grid1.Coords) (v2989 : BitVec 32) (v2991 : BitVec 32) (v2993 : BitVec 32) (k1_hw173 : k1_chk173 i v2989 v2991 v2993), ∀ (k1_h1 : k1_cond1 i = 1#1), ∀ a, (k1_off271 i v2989 v2991 v2993) a + S1x1x1x1x8x5.size a ≤ S3x8x9x80x80x5.size a := fun i v2989 v2991 v2993 k1_hw173 k1_h1 => k1_hw173.2.1 k1_h1
theorem k1_off334_inb : ∀ (i : grid1.Coords) (v2989 : BitVec 32) (v2991 : BitVec 32) (v2993 : BitVec 32) (k1_hw173 : k1_chk173 i v2989 v2991 v2993), ∀ (k1_h1 : k1_cond1 i = 1#1), ∀ a, (k1_off334 i v2989 v2991 v2993) a + S1x1x1x1x8x20.size a ≤ S3x8x9x80x80x20.size a := fun i v2989 v2991 v2993 k1_hw173 k1_h1 => k1_hw173.2.2.1 k1_h1
theorem k1_off335_inb : ∀ (i : grid1.Coords) (v2989 : BitVec 32) (v2991 : BitVec 32) (v2993 : BitVec 32) (k1_hw173 : k1_chk173 i v2989 v2991 v2993), ∀ (k1_h1 : k1_cond1 i = 1#1), ∀ a, (k1_off335 i v2989 v2991 v2993) a + S1x1x1x1x8x5.size a ≤ S3x8x9x80x80x5.size a := fun i v2989 v2991 v2993 k1_hw173 k1_h1 => k1_hw173.2.2.2 k1_h1

def k1_off336 (i : grid1.Coords) (v3012 : BitVec 32) (v3014 : BitVec 32) (v3016 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2108 : BitVec 32 := 8#32
  let v3017 : BitVec 32 := Scalar.muli v3016 c8_i32_2108
  let c0_i32_2587 : BitVec 32 := 0#32
  ![v21.toNat, v22.toNat, v3012.toNat, v3014.toNat, v3017.toNat, 0]
def k1_off337 (i : grid1.Coords) (v3012 : BitVec 32) (v3014 : BitVec 32) (v3016 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2108 : BitVec 32 := 8#32
  let v3017 : BitVec 32 := Scalar.muli v3016 c8_i32_2108
  let c0_i32_2594 : BitVec 32 := 0#32
  ![v21.toNat, v22.toNat, v3012.toNat, v3014.toNat, v3017.toNat, 0]

def k1_chk174 (i : grid1.Coords) (v3012 : BitVec 32) (v3014 : BitVec 32) (v3016 : BitVec 32) : Prop :=
  (∀ (k1_h1 : k1_cond1 i = 1#1), ∀ a, (k1_off272 i v3012 v3014 v3016) a + S1x1x1x1x8x20.size a ≤ S3x8x9x80x80x20.size a) ∧
  (∀ (k1_h1 : k1_cond1 i = 1#1), ∀ a, (k1_off273 i v3012 v3014 v3016) a + S1x1x1x1x8x5.size a ≤ S3x8x9x80x80x5.size a) ∧
  (∀ (k1_h1 : k1_cond1 i = 1#1), ∀ a, (k1_off336 i v3012 v3014 v3016) a + S1x1x1x1x8x20.size a ≤ S3x8x9x80x80x20.size a) ∧
  (∀ (k1_h1 : k1_cond1 i = 1#1), ∀ a, (k1_off337 i v3012 v3014 v3016) a + S1x1x1x1x8x5.size a ≤ S3x8x9x80x80x5.size a)
theorem k1_off272_inb : ∀ (i : grid1.Coords) (v3012 : BitVec 32) (v3014 : BitVec 32) (v3016 : BitVec 32) (k1_hw174 : k1_chk174 i v3012 v3014 v3016), ∀ (k1_h1 : k1_cond1 i = 1#1), ∀ a, (k1_off272 i v3012 v3014 v3016) a + S1x1x1x1x8x20.size a ≤ S3x8x9x80x80x20.size a := fun i v3012 v3014 v3016 k1_hw174 k1_h1 => k1_hw174.1 k1_h1
theorem k1_off273_inb : ∀ (i : grid1.Coords) (v3012 : BitVec 32) (v3014 : BitVec 32) (v3016 : BitVec 32) (k1_hw174 : k1_chk174 i v3012 v3014 v3016), ∀ (k1_h1 : k1_cond1 i = 1#1), ∀ a, (k1_off273 i v3012 v3014 v3016) a + S1x1x1x1x8x5.size a ≤ S3x8x9x80x80x5.size a := fun i v3012 v3014 v3016 k1_hw174 k1_h1 => k1_hw174.2.1 k1_h1
theorem k1_off336_inb : ∀ (i : grid1.Coords) (v3012 : BitVec 32) (v3014 : BitVec 32) (v3016 : BitVec 32) (k1_hw174 : k1_chk174 i v3012 v3014 v3016), ∀ (k1_h1 : k1_cond1 i = 1#1), ∀ a, (k1_off336 i v3012 v3014 v3016) a + S1x1x1x1x8x20.size a ≤ S3x8x9x80x80x20.size a := fun i v3012 v3014 v3016 k1_hw174 k1_h1 => k1_hw174.2.2.1 k1_h1
theorem k1_off337_inb : ∀ (i : grid1.Coords) (v3012 : BitVec 32) (v3014 : BitVec 32) (v3016 : BitVec 32) (k1_hw174 : k1_chk174 i v3012 v3014 v3016), ∀ (k1_h1 : k1_cond1 i = 1#1), ∀ a, (k1_off337 i v3012 v3014 v3016) a + S1x1x1x1x8x5.size a ≤ S3x8x9x80x80x5.size a := fun i v3012 v3014 v3016 k1_hw174 k1_h1 => k1_hw174.2.2.2 k1_h1

def k1_off338 (i : grid1.Coords) (v3035 : BitVec 32) (v3037 : BitVec 32) (v3039 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2123 : BitVec 32 := 8#32
  let v3040 : BitVec 32 := Scalar.muli v3039 c8_i32_2123
  let c0_i32_2601 : BitVec 32 := 0#32
  ![v21.toNat, v22.toNat, v3035.toNat, v3037.toNat, v3040.toNat, 0]
def k1_off339 (i : grid1.Coords) (v3035 : BitVec 32) (v3037 : BitVec 32) (v3039 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2123 : BitVec 32 := 8#32
  let v3040 : BitVec 32 := Scalar.muli v3039 c8_i32_2123
  let c0_i32_2608 : BitVec 32 := 0#32
  ![v21.toNat, v22.toNat, v3035.toNat, v3037.toNat, v3040.toNat, 0]

def k1_chk175 (i : grid1.Coords) (v3035 : BitVec 32) (v3037 : BitVec 32) (v3039 : BitVec 32) : Prop :=
  (∀ (k1_h1 : k1_cond1 i = 1#1), ∀ a, (k1_off274 i v3035 v3037 v3039) a + S1x1x1x1x8x20.size a ≤ S3x8x9x80x80x20.size a) ∧
  (∀ (k1_h1 : k1_cond1 i = 1#1), ∀ a, (k1_off275 i v3035 v3037 v3039) a + S1x1x1x1x8x5.size a ≤ S3x8x9x80x80x5.size a) ∧
  (∀ (k1_h1 : k1_cond1 i = 1#1), ∀ a, (k1_off338 i v3035 v3037 v3039) a + S1x1x1x1x8x20.size a ≤ S3x8x9x80x80x20.size a) ∧
  (∀ (k1_h1 : k1_cond1 i = 1#1), ∀ a, (k1_off339 i v3035 v3037 v3039) a + S1x1x1x1x8x5.size a ≤ S3x8x9x80x80x5.size a)
theorem k1_off274_inb : ∀ (i : grid1.Coords) (v3035 : BitVec 32) (v3037 : BitVec 32) (v3039 : BitVec 32) (k1_hw175 : k1_chk175 i v3035 v3037 v3039), ∀ (k1_h1 : k1_cond1 i = 1#1), ∀ a, (k1_off274 i v3035 v3037 v3039) a + S1x1x1x1x8x20.size a ≤ S3x8x9x80x80x20.size a := fun i v3035 v3037 v3039 k1_hw175 k1_h1 => k1_hw175.1 k1_h1
theorem k1_off275_inb : ∀ (i : grid1.Coords) (v3035 : BitVec 32) (v3037 : BitVec 32) (v3039 : BitVec 32) (k1_hw175 : k1_chk175 i v3035 v3037 v3039), ∀ (k1_h1 : k1_cond1 i = 1#1), ∀ a, (k1_off275 i v3035 v3037 v3039) a + S1x1x1x1x8x5.size a ≤ S3x8x9x80x80x5.size a := fun i v3035 v3037 v3039 k1_hw175 k1_h1 => k1_hw175.2.1 k1_h1
theorem k1_off338_inb : ∀ (i : grid1.Coords) (v3035 : BitVec 32) (v3037 : BitVec 32) (v3039 : BitVec 32) (k1_hw175 : k1_chk175 i v3035 v3037 v3039), ∀ (k1_h1 : k1_cond1 i = 1#1), ∀ a, (k1_off338 i v3035 v3037 v3039) a + S1x1x1x1x8x20.size a ≤ S3x8x9x80x80x20.size a := fun i v3035 v3037 v3039 k1_hw175 k1_h1 => k1_hw175.2.2.1 k1_h1
theorem k1_off339_inb : ∀ (i : grid1.Coords) (v3035 : BitVec 32) (v3037 : BitVec 32) (v3039 : BitVec 32) (k1_hw175 : k1_chk175 i v3035 v3037 v3039), ∀ (k1_h1 : k1_cond1 i = 1#1), ∀ a, (k1_off339 i v3035 v3037 v3039) a + S1x1x1x1x8x5.size a ≤ S3x8x9x80x80x5.size a := fun i v3035 v3037 v3039 k1_hw175 k1_h1 => k1_hw175.2.2.2 k1_h1

def k1_off340 (i : grid1.Coords) (v3058 : BitVec 32) (v3060 : BitVec 32) (v3062 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2138 : BitVec 32 := 8#32
  let v3063 : BitVec 32 := Scalar.muli v3062 c8_i32_2138
  let c0_i32_2615 : BitVec 32 := 0#32
  ![v21.toNat, v22.toNat, v3058.toNat, v3060.toNat, v3063.toNat, 0]
def k1_off341 (i : grid1.Coords) (v3058 : BitVec 32) (v3060 : BitVec 32) (v3062 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2138 : BitVec 32 := 8#32
  let v3063 : BitVec 32 := Scalar.muli v3062 c8_i32_2138
  let c0_i32_2622 : BitVec 32 := 0#32
  ![v21.toNat, v22.toNat, v3058.toNat, v3060.toNat, v3063.toNat, 0]

def k1_chk176 (i : grid1.Coords) (v3058 : BitVec 32) (v3060 : BitVec 32) (v3062 : BitVec 32) : Prop :=
  (∀ (k1_h1 : k1_cond1 i = 1#1), ∀ a, (k1_off276 i v3058 v3060 v3062) a + S1x1x1x1x8x20.size a ≤ S3x8x9x80x80x20.size a) ∧
  (∀ (k1_h1 : k1_cond1 i = 1#1), ∀ a, (k1_off277 i v3058 v3060 v3062) a + S1x1x1x1x8x5.size a ≤ S3x8x9x80x80x5.size a) ∧
  (∀ (k1_h1 : k1_cond1 i = 1#1), ∀ a, (k1_off340 i v3058 v3060 v3062) a + S1x1x1x1x8x20.size a ≤ S3x8x9x80x80x20.size a) ∧
  (∀ (k1_h1 : k1_cond1 i = 1#1), ∀ a, (k1_off341 i v3058 v3060 v3062) a + S1x1x1x1x8x5.size a ≤ S3x8x9x80x80x5.size a)
theorem k1_off276_inb : ∀ (i : grid1.Coords) (v3058 : BitVec 32) (v3060 : BitVec 32) (v3062 : BitVec 32) (k1_hw176 : k1_chk176 i v3058 v3060 v3062), ∀ (k1_h1 : k1_cond1 i = 1#1), ∀ a, (k1_off276 i v3058 v3060 v3062) a + S1x1x1x1x8x20.size a ≤ S3x8x9x80x80x20.size a := fun i v3058 v3060 v3062 k1_hw176 k1_h1 => k1_hw176.1 k1_h1
theorem k1_off277_inb : ∀ (i : grid1.Coords) (v3058 : BitVec 32) (v3060 : BitVec 32) (v3062 : BitVec 32) (k1_hw176 : k1_chk176 i v3058 v3060 v3062), ∀ (k1_h1 : k1_cond1 i = 1#1), ∀ a, (k1_off277 i v3058 v3060 v3062) a + S1x1x1x1x8x5.size a ≤ S3x8x9x80x80x5.size a := fun i v3058 v3060 v3062 k1_hw176 k1_h1 => k1_hw176.2.1 k1_h1
theorem k1_off340_inb : ∀ (i : grid1.Coords) (v3058 : BitVec 32) (v3060 : BitVec 32) (v3062 : BitVec 32) (k1_hw176 : k1_chk176 i v3058 v3060 v3062), ∀ (k1_h1 : k1_cond1 i = 1#1), ∀ a, (k1_off340 i v3058 v3060 v3062) a + S1x1x1x1x8x20.size a ≤ S3x8x9x80x80x20.size a := fun i v3058 v3060 v3062 k1_hw176 k1_h1 => k1_hw176.2.2.1 k1_h1
theorem k1_off341_inb : ∀ (i : grid1.Coords) (v3058 : BitVec 32) (v3060 : BitVec 32) (v3062 : BitVec 32) (k1_hw176 : k1_chk176 i v3058 v3060 v3062), ∀ (k1_h1 : k1_cond1 i = 1#1), ∀ a, (k1_off341 i v3058 v3060 v3062) a + S1x1x1x1x8x5.size a ≤ S3x8x9x80x80x5.size a := fun i v3058 v3060 v3062 k1_hw176 k1_h1 => k1_hw176.2.2.2 k1_h1

def k1_off342 (i : grid1.Coords) (v3081 : BitVec 32) (v3083 : BitVec 32) (v3085 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2153 : BitVec 32 := 8#32
  let v3086 : BitVec 32 := Scalar.muli v3085 c8_i32_2153
  let c0_i32_2629 : BitVec 32 := 0#32
  ![v21.toNat, v22.toNat, v3081.toNat, v3083.toNat, v3086.toNat, 0]
def k1_off343 (i : grid1.Coords) (v3081 : BitVec 32) (v3083 : BitVec 32) (v3085 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2153 : BitVec 32 := 8#32
  let v3086 : BitVec 32 := Scalar.muli v3085 c8_i32_2153
  let c0_i32_2636 : BitVec 32 := 0#32
  ![v21.toNat, v22.toNat, v3081.toNat, v3083.toNat, v3086.toNat, 0]

def k1_chk177 (i : grid1.Coords) (v3081 : BitVec 32) (v3083 : BitVec 32) (v3085 : BitVec 32) : Prop :=
  (∀ (k1_h1 : k1_cond1 i = 1#1), ∀ a, (k1_off278 i v3081 v3083 v3085) a + S1x1x1x1x8x20.size a ≤ S3x8x9x80x80x20.size a) ∧
  (∀ (k1_h1 : k1_cond1 i = 1#1), ∀ a, (k1_off279 i v3081 v3083 v3085) a + S1x1x1x1x8x5.size a ≤ S3x8x9x80x80x5.size a) ∧
  (∀ (k1_h1 : k1_cond1 i = 1#1), ∀ a, (k1_off342 i v3081 v3083 v3085) a + S1x1x1x1x8x20.size a ≤ S3x8x9x80x80x20.size a) ∧
  (∀ (k1_h1 : k1_cond1 i = 1#1), ∀ a, (k1_off343 i v3081 v3083 v3085) a + S1x1x1x1x8x5.size a ≤ S3x8x9x80x80x5.size a)
theorem k1_off278_inb : ∀ (i : grid1.Coords) (v3081 : BitVec 32) (v3083 : BitVec 32) (v3085 : BitVec 32) (k1_hw177 : k1_chk177 i v3081 v3083 v3085), ∀ (k1_h1 : k1_cond1 i = 1#1), ∀ a, (k1_off278 i v3081 v3083 v3085) a + S1x1x1x1x8x20.size a ≤ S3x8x9x80x80x20.size a := fun i v3081 v3083 v3085 k1_hw177 k1_h1 => k1_hw177.1 k1_h1
theorem k1_off279_inb : ∀ (i : grid1.Coords) (v3081 : BitVec 32) (v3083 : BitVec 32) (v3085 : BitVec 32) (k1_hw177 : k1_chk177 i v3081 v3083 v3085), ∀ (k1_h1 : k1_cond1 i = 1#1), ∀ a, (k1_off279 i v3081 v3083 v3085) a + S1x1x1x1x8x5.size a ≤ S3x8x9x80x80x5.size a := fun i v3081 v3083 v3085 k1_hw177 k1_h1 => k1_hw177.2.1 k1_h1
theorem k1_off342_inb : ∀ (i : grid1.Coords) (v3081 : BitVec 32) (v3083 : BitVec 32) (v3085 : BitVec 32) (k1_hw177 : k1_chk177 i v3081 v3083 v3085), ∀ (k1_h1 : k1_cond1 i = 1#1), ∀ a, (k1_off342 i v3081 v3083 v3085) a + S1x1x1x1x8x20.size a ≤ S3x8x9x80x80x20.size a := fun i v3081 v3083 v3085 k1_hw177 k1_h1 => k1_hw177.2.2.1 k1_h1
theorem k1_off343_inb : ∀ (i : grid1.Coords) (v3081 : BitVec 32) (v3083 : BitVec 32) (v3085 : BitVec 32) (k1_hw177 : k1_chk177 i v3081 v3083 v3085), ∀ (k1_h1 : k1_cond1 i = 1#1), ∀ a, (k1_off343 i v3081 v3083 v3085) a + S1x1x1x1x8x5.size a ≤ S3x8x9x80x80x5.size a := fun i v3081 v3083 v3085 k1_hw177 k1_h1 => k1_hw177.2.2.2 k1_h1

def k1_off344 (i : grid1.Coords) (v3104 : BitVec 32) (v3106 : BitVec 32) (v3108 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2168 : BitVec 32 := 8#32
  let v3109 : BitVec 32 := Scalar.muli v3108 c8_i32_2168
  let c0_i32_2643 : BitVec 32 := 0#32
  ![v21.toNat, v22.toNat, v3104.toNat, v3106.toNat, v3109.toNat, 0]
def k1_off345 (i : grid1.Coords) (v3104 : BitVec 32) (v3106 : BitVec 32) (v3108 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2168 : BitVec 32 := 8#32
  let v3109 : BitVec 32 := Scalar.muli v3108 c8_i32_2168
  let c0_i32_2650 : BitVec 32 := 0#32
  ![v21.toNat, v22.toNat, v3104.toNat, v3106.toNat, v3109.toNat, 0]

def k1_chk178 (i : grid1.Coords) (v3104 : BitVec 32) (v3106 : BitVec 32) (v3108 : BitVec 32) : Prop :=
  (∀ (k1_h1 : k1_cond1 i = 1#1), ∀ a, (k1_off280 i v3104 v3106 v3108) a + S1x1x1x1x8x20.size a ≤ S3x8x9x80x80x20.size a) ∧
  (∀ (k1_h1 : k1_cond1 i = 1#1), ∀ a, (k1_off281 i v3104 v3106 v3108) a + S1x1x1x1x8x5.size a ≤ S3x8x9x80x80x5.size a) ∧
  (∀ (k1_h1 : k1_cond1 i = 1#1), ∀ a, (k1_off344 i v3104 v3106 v3108) a + S1x1x1x1x8x20.size a ≤ S3x8x9x80x80x20.size a) ∧
  (∀ (k1_h1 : k1_cond1 i = 1#1), ∀ a, (k1_off345 i v3104 v3106 v3108) a + S1x1x1x1x8x5.size a ≤ S3x8x9x80x80x5.size a)
theorem k1_off280_inb : ∀ (i : grid1.Coords) (v3104 : BitVec 32) (v3106 : BitVec 32) (v3108 : BitVec 32) (k1_hw178 : k1_chk178 i v3104 v3106 v3108), ∀ (k1_h1 : k1_cond1 i = 1#1), ∀ a, (k1_off280 i v3104 v3106 v3108) a + S1x1x1x1x8x20.size a ≤ S3x8x9x80x80x20.size a := fun i v3104 v3106 v3108 k1_hw178 k1_h1 => k1_hw178.1 k1_h1
theorem k1_off281_inb : ∀ (i : grid1.Coords) (v3104 : BitVec 32) (v3106 : BitVec 32) (v3108 : BitVec 32) (k1_hw178 : k1_chk178 i v3104 v3106 v3108), ∀ (k1_h1 : k1_cond1 i = 1#1), ∀ a, (k1_off281 i v3104 v3106 v3108) a + S1x1x1x1x8x5.size a ≤ S3x8x9x80x80x5.size a := fun i v3104 v3106 v3108 k1_hw178 k1_h1 => k1_hw178.2.1 k1_h1
theorem k1_off344_inb : ∀ (i : grid1.Coords) (v3104 : BitVec 32) (v3106 : BitVec 32) (v3108 : BitVec 32) (k1_hw178 : k1_chk178 i v3104 v3106 v3108), ∀ (k1_h1 : k1_cond1 i = 1#1), ∀ a, (k1_off344 i v3104 v3106 v3108) a + S1x1x1x1x8x20.size a ≤ S3x8x9x80x80x20.size a := fun i v3104 v3106 v3108 k1_hw178 k1_h1 => k1_hw178.2.2.1 k1_h1
theorem k1_off345_inb : ∀ (i : grid1.Coords) (v3104 : BitVec 32) (v3106 : BitVec 32) (v3108 : BitVec 32) (k1_hw178 : k1_chk178 i v3104 v3106 v3108), ∀ (k1_h1 : k1_cond1 i = 1#1), ∀ a, (k1_off345 i v3104 v3106 v3108) a + S1x1x1x1x8x5.size a ≤ S3x8x9x80x80x5.size a := fun i v3104 v3106 v3108 k1_hw178 k1_h1 => k1_hw178.2.2.2 k1_h1

def k1_off346 (i : grid1.Coords) (v3127 : BitVec 32) (v3129 : BitVec 32) (v3131 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2183 : BitVec 32 := 8#32
  let v3132 : BitVec 32 := Scalar.muli v3131 c8_i32_2183
  let c0_i32_2657 : BitVec 32 := 0#32
  ![v21.toNat, v22.toNat, v3127.toNat, v3129.toNat, v3132.toNat, 0]
def k1_off347 (i : grid1.Coords) (v3127 : BitVec 32) (v3129 : BitVec 32) (v3131 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2183 : BitVec 32 := 8#32
  let v3132 : BitVec 32 := Scalar.muli v3131 c8_i32_2183
  let c0_i32_2664 : BitVec 32 := 0#32
  ![v21.toNat, v22.toNat, v3127.toNat, v3129.toNat, v3132.toNat, 0]

def k1_chk179 (i : grid1.Coords) (v3127 : BitVec 32) (v3129 : BitVec 32) (v3131 : BitVec 32) : Prop :=
  (∀ (k1_h1 : k1_cond1 i = 1#1), ∀ a, (k1_off282 i v3127 v3129 v3131) a + S1x1x1x1x8x20.size a ≤ S3x8x9x80x80x20.size a) ∧
  (∀ (k1_h1 : k1_cond1 i = 1#1), ∀ a, (k1_off283 i v3127 v3129 v3131) a + S1x1x1x1x8x5.size a ≤ S3x8x9x80x80x5.size a) ∧
  (∀ (k1_h1 : k1_cond1 i = 1#1), ∀ a, (k1_off346 i v3127 v3129 v3131) a + S1x1x1x1x8x20.size a ≤ S3x8x9x80x80x20.size a) ∧
  (∀ (k1_h1 : k1_cond1 i = 1#1), ∀ a, (k1_off347 i v3127 v3129 v3131) a + S1x1x1x1x8x5.size a ≤ S3x8x9x80x80x5.size a)
theorem k1_off282_inb : ∀ (i : grid1.Coords) (v3127 : BitVec 32) (v3129 : BitVec 32) (v3131 : BitVec 32) (k1_hw179 : k1_chk179 i v3127 v3129 v3131), ∀ (k1_h1 : k1_cond1 i = 1#1), ∀ a, (k1_off282 i v3127 v3129 v3131) a + S1x1x1x1x8x20.size a ≤ S3x8x9x80x80x20.size a := fun i v3127 v3129 v3131 k1_hw179 k1_h1 => k1_hw179.1 k1_h1
theorem k1_off283_inb : ∀ (i : grid1.Coords) (v3127 : BitVec 32) (v3129 : BitVec 32) (v3131 : BitVec 32) (k1_hw179 : k1_chk179 i v3127 v3129 v3131), ∀ (k1_h1 : k1_cond1 i = 1#1), ∀ a, (k1_off283 i v3127 v3129 v3131) a + S1x1x1x1x8x5.size a ≤ S3x8x9x80x80x5.size a := fun i v3127 v3129 v3131 k1_hw179 k1_h1 => k1_hw179.2.1 k1_h1
theorem k1_off346_inb : ∀ (i : grid1.Coords) (v3127 : BitVec 32) (v3129 : BitVec 32) (v3131 : BitVec 32) (k1_hw179 : k1_chk179 i v3127 v3129 v3131), ∀ (k1_h1 : k1_cond1 i = 1#1), ∀ a, (k1_off346 i v3127 v3129 v3131) a + S1x1x1x1x8x20.size a ≤ S3x8x9x80x80x20.size a := fun i v3127 v3129 v3131 k1_hw179 k1_h1 => k1_hw179.2.2.1 k1_h1
theorem k1_off347_inb : ∀ (i : grid1.Coords) (v3127 : BitVec 32) (v3129 : BitVec 32) (v3131 : BitVec 32) (k1_hw179 : k1_chk179 i v3127 v3129 v3131), ∀ (k1_h1 : k1_cond1 i = 1#1), ∀ a, (k1_off347 i v3127 v3129 v3131) a + S1x1x1x1x8x5.size a ≤ S3x8x9x80x80x5.size a := fun i v3127 v3129 v3131 k1_hw179 k1_h1 => k1_hw179.2.2.2 k1_h1

def k1_off348 (i : grid1.Coords) (v3150 : BitVec 32) (v3152 : BitVec 32) (v3154 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2198 : BitVec 32 := 8#32
  let v3155 : BitVec 32 := Scalar.muli v3154 c8_i32_2198
  let c0_i32_2671 : BitVec 32 := 0#32
  ![v21.toNat, v22.toNat, v3150.toNat, v3152.toNat, v3155.toNat, 0]
def k1_off349 (i : grid1.Coords) (v3150 : BitVec 32) (v3152 : BitVec 32) (v3154 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2198 : BitVec 32 := 8#32
  let v3155 : BitVec 32 := Scalar.muli v3154 c8_i32_2198
  let c0_i32_2678 : BitVec 32 := 0#32
  ![v21.toNat, v22.toNat, v3150.toNat, v3152.toNat, v3155.toNat, 0]

def k1_chk180 (i : grid1.Coords) (v3150 : BitVec 32) (v3152 : BitVec 32) (v3154 : BitVec 32) : Prop :=
  (∀ (k1_h1 : k1_cond1 i = 1#1), ∀ a, (k1_off284 i v3150 v3152 v3154) a + S1x1x1x1x8x20.size a ≤ S3x8x9x80x80x20.size a) ∧
  (∀ (k1_h1 : k1_cond1 i = 1#1), ∀ a, (k1_off285 i v3150 v3152 v3154) a + S1x1x1x1x8x5.size a ≤ S3x8x9x80x80x5.size a) ∧
  (∀ (k1_h1 : k1_cond1 i = 1#1), ∀ a, (k1_off348 i v3150 v3152 v3154) a + S1x1x1x1x8x20.size a ≤ S3x8x9x80x80x20.size a) ∧
  (∀ (k1_h1 : k1_cond1 i = 1#1), ∀ a, (k1_off349 i v3150 v3152 v3154) a + S1x1x1x1x8x5.size a ≤ S3x8x9x80x80x5.size a)
theorem k1_off284_inb : ∀ (i : grid1.Coords) (v3150 : BitVec 32) (v3152 : BitVec 32) (v3154 : BitVec 32) (k1_hw180 : k1_chk180 i v3150 v3152 v3154), ∀ (k1_h1 : k1_cond1 i = 1#1), ∀ a, (k1_off284 i v3150 v3152 v3154) a + S1x1x1x1x8x20.size a ≤ S3x8x9x80x80x20.size a := fun i v3150 v3152 v3154 k1_hw180 k1_h1 => k1_hw180.1 k1_h1
theorem k1_off285_inb : ∀ (i : grid1.Coords) (v3150 : BitVec 32) (v3152 : BitVec 32) (v3154 : BitVec 32) (k1_hw180 : k1_chk180 i v3150 v3152 v3154), ∀ (k1_h1 : k1_cond1 i = 1#1), ∀ a, (k1_off285 i v3150 v3152 v3154) a + S1x1x1x1x8x5.size a ≤ S3x8x9x80x80x5.size a := fun i v3150 v3152 v3154 k1_hw180 k1_h1 => k1_hw180.2.1 k1_h1
theorem k1_off348_inb : ∀ (i : grid1.Coords) (v3150 : BitVec 32) (v3152 : BitVec 32) (v3154 : BitVec 32) (k1_hw180 : k1_chk180 i v3150 v3152 v3154), ∀ (k1_h1 : k1_cond1 i = 1#1), ∀ a, (k1_off348 i v3150 v3152 v3154) a + S1x1x1x1x8x20.size a ≤ S3x8x9x80x80x20.size a := fun i v3150 v3152 v3154 k1_hw180 k1_h1 => k1_hw180.2.2.1 k1_h1
theorem k1_off349_inb : ∀ (i : grid1.Coords) (v3150 : BitVec 32) (v3152 : BitVec 32) (v3154 : BitVec 32) (k1_hw180 : k1_chk180 i v3150 v3152 v3154), ∀ (k1_h1 : k1_cond1 i = 1#1), ∀ a, (k1_off349 i v3150 v3152 v3154) a + S1x1x1x1x8x5.size a ≤ S3x8x9x80x80x5.size a := fun i v3150 v3152 v3154 k1_hw180 k1_h1 => k1_hw180.2.2.2 k1_h1

def k1_off350 (i : grid1.Coords) (v3184 : BitVec 32) (v3186 : BitVec 32) (v3188 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2218 : BitVec 32 := 8#32
  let v3189 : BitVec 32 := Scalar.muli v3188 c8_i32_2218
  let c0_i32_2685 : BitVec 32 := 0#32
  ![v21.toNat, v22.toNat, v3184.toNat, v3186.toNat, v3189.toNat, 0]
def k1_off351 (i : grid1.Coords) (v3184 : BitVec 32) (v3186 : BitVec 32) (v3188 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2218 : BitVec 32 := 8#32
  let v3189 : BitVec 32 := Scalar.muli v3188 c8_i32_2218
  let c0_i32_2692 : BitVec 32 := 0#32
  ![v21.toNat, v22.toNat, v3184.toNat, v3186.toNat, v3189.toNat, 0]

def k1_chk181 (i : grid1.Coords) (v3184 : BitVec 32) (v3186 : BitVec 32) (v3188 : BitVec 32) : Prop :=
  (∀ (k1_h1 : k1_cond1 i = 1#1), ∀ a, (k1_off286 i v3184 v3186 v3188) a + S1x1x1x1x8x20.size a ≤ S3x8x9x80x80x20.size a) ∧
  (∀ (k1_h1 : k1_cond1 i = 1#1), ∀ a, (k1_off287 i v3184 v3186 v3188) a + S1x1x1x1x8x5.size a ≤ S3x8x9x80x80x5.size a) ∧
  (∀ (k1_h1 : k1_cond1 i = 1#1), ∀ a, (k1_off350 i v3184 v3186 v3188) a + S1x1x1x1x8x20.size a ≤ S3x8x9x80x80x20.size a) ∧
  (∀ (k1_h1 : k1_cond1 i = 1#1), ∀ a, (k1_off351 i v3184 v3186 v3188) a + S1x1x1x1x8x5.size a ≤ S3x8x9x80x80x5.size a)
theorem k1_off286_inb : ∀ (i : grid1.Coords) (v3184 : BitVec 32) (v3186 : BitVec 32) (v3188 : BitVec 32) (k1_hw181 : k1_chk181 i v3184 v3186 v3188), ∀ (k1_h1 : k1_cond1 i = 1#1), ∀ a, (k1_off286 i v3184 v3186 v3188) a + S1x1x1x1x8x20.size a ≤ S3x8x9x80x80x20.size a := fun i v3184 v3186 v3188 k1_hw181 k1_h1 => k1_hw181.1 k1_h1
theorem k1_off287_inb : ∀ (i : grid1.Coords) (v3184 : BitVec 32) (v3186 : BitVec 32) (v3188 : BitVec 32) (k1_hw181 : k1_chk181 i v3184 v3186 v3188), ∀ (k1_h1 : k1_cond1 i = 1#1), ∀ a, (k1_off287 i v3184 v3186 v3188) a + S1x1x1x1x8x5.size a ≤ S3x8x9x80x80x5.size a := fun i v3184 v3186 v3188 k1_hw181 k1_h1 => k1_hw181.2.1 k1_h1
theorem k1_off350_inb : ∀ (i : grid1.Coords) (v3184 : BitVec 32) (v3186 : BitVec 32) (v3188 : BitVec 32) (k1_hw181 : k1_chk181 i v3184 v3186 v3188), ∀ (k1_h1 : k1_cond1 i = 1#1), ∀ a, (k1_off350 i v3184 v3186 v3188) a + S1x1x1x1x8x20.size a ≤ S3x8x9x80x80x20.size a := fun i v3184 v3186 v3188 k1_hw181 k1_h1 => k1_hw181.2.2.1 k1_h1
theorem k1_off351_inb : ∀ (i : grid1.Coords) (v3184 : BitVec 32) (v3186 : BitVec 32) (v3188 : BitVec 32) (k1_hw181 : k1_chk181 i v3184 v3186 v3188), ∀ (k1_h1 : k1_cond1 i = 1#1), ∀ a, (k1_off351 i v3184 v3186 v3188) a + S1x1x1x1x8x5.size a ≤ S3x8x9x80x80x5.size a := fun i v3184 v3186 v3188 k1_hw181 k1_h1 => k1_hw181.2.2.2 k1_h1

def k1_off352 (i : grid1.Coords) (v3207 : BitVec 32) (v3209 : BitVec 32) (v3211 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2233 : BitVec 32 := 8#32
  let v3212 : BitVec 32 := Scalar.muli v3211 c8_i32_2233
  let c0_i32_2699 : BitVec 32 := 0#32
  ![v21.toNat, v22.toNat, v3207.toNat, v3209.toNat, v3212.toNat, 0]
def k1_off353 (i : grid1.Coords) (v3207 : BitVec 32) (v3209 : BitVec 32) (v3211 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2233 : BitVec 32 := 8#32
  let v3212 : BitVec 32 := Scalar.muli v3211 c8_i32_2233
  let c0_i32_2706 : BitVec 32 := 0#32
  ![v21.toNat, v22.toNat, v3207.toNat, v3209.toNat, v3212.toNat, 0]

def k1_chk182 (i : grid1.Coords) (v3207 : BitVec 32) (v3209 : BitVec 32) (v3211 : BitVec 32) : Prop :=
  (∀ (k1_h1 : k1_cond1 i = 1#1), ∀ a, (k1_off288 i v3207 v3209 v3211) a + S1x1x1x1x8x20.size a ≤ S3x8x9x80x80x20.size a) ∧
  (∀ (k1_h1 : k1_cond1 i = 1#1), ∀ a, (k1_off289 i v3207 v3209 v3211) a + S1x1x1x1x8x5.size a ≤ S3x8x9x80x80x5.size a) ∧
  (∀ (k1_h1 : k1_cond1 i = 1#1), ∀ a, (k1_off352 i v3207 v3209 v3211) a + S1x1x1x1x8x20.size a ≤ S3x8x9x80x80x20.size a) ∧
  (∀ (k1_h1 : k1_cond1 i = 1#1), ∀ a, (k1_off353 i v3207 v3209 v3211) a + S1x1x1x1x8x5.size a ≤ S3x8x9x80x80x5.size a)
theorem k1_off288_inb : ∀ (i : grid1.Coords) (v3207 : BitVec 32) (v3209 : BitVec 32) (v3211 : BitVec 32) (k1_hw182 : k1_chk182 i v3207 v3209 v3211), ∀ (k1_h1 : k1_cond1 i = 1#1), ∀ a, (k1_off288 i v3207 v3209 v3211) a + S1x1x1x1x8x20.size a ≤ S3x8x9x80x80x20.size a := fun i v3207 v3209 v3211 k1_hw182 k1_h1 => k1_hw182.1 k1_h1
theorem k1_off289_inb : ∀ (i : grid1.Coords) (v3207 : BitVec 32) (v3209 : BitVec 32) (v3211 : BitVec 32) (k1_hw182 : k1_chk182 i v3207 v3209 v3211), ∀ (k1_h1 : k1_cond1 i = 1#1), ∀ a, (k1_off289 i v3207 v3209 v3211) a + S1x1x1x1x8x5.size a ≤ S3x8x9x80x80x5.size a := fun i v3207 v3209 v3211 k1_hw182 k1_h1 => k1_hw182.2.1 k1_h1
theorem k1_off352_inb : ∀ (i : grid1.Coords) (v3207 : BitVec 32) (v3209 : BitVec 32) (v3211 : BitVec 32) (k1_hw182 : k1_chk182 i v3207 v3209 v3211), ∀ (k1_h1 : k1_cond1 i = 1#1), ∀ a, (k1_off352 i v3207 v3209 v3211) a + S1x1x1x1x8x20.size a ≤ S3x8x9x80x80x20.size a := fun i v3207 v3209 v3211 k1_hw182 k1_h1 => k1_hw182.2.2.1 k1_h1
theorem k1_off353_inb : ∀ (i : grid1.Coords) (v3207 : BitVec 32) (v3209 : BitVec 32) (v3211 : BitVec 32) (k1_hw182 : k1_chk182 i v3207 v3209 v3211), ∀ (k1_h1 : k1_cond1 i = 1#1), ∀ a, (k1_off353 i v3207 v3209 v3211) a + S1x1x1x1x8x5.size a ≤ S3x8x9x80x80x5.size a := fun i v3207 v3209 v3211 k1_hw182 k1_h1 => k1_hw182.2.2.2 k1_h1

def k1_off354 (i : grid1.Coords) (v3230 : BitVec 32) (v3232 : BitVec 32) (v3234 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2248 : BitVec 32 := 8#32
  let v3235 : BitVec 32 := Scalar.muli v3234 c8_i32_2248
  let c0_i32_2713 : BitVec 32 := 0#32
  ![v21.toNat, v22.toNat, v3230.toNat, v3232.toNat, v3235.toNat, 0]
def k1_off355 (i : grid1.Coords) (v3230 : BitVec 32) (v3232 : BitVec 32) (v3234 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2248 : BitVec 32 := 8#32
  let v3235 : BitVec 32 := Scalar.muli v3234 c8_i32_2248
  let c0_i32_2720 : BitVec 32 := 0#32
  ![v21.toNat, v22.toNat, v3230.toNat, v3232.toNat, v3235.toNat, 0]

def k1_chk183 (i : grid1.Coords) (v3230 : BitVec 32) (v3232 : BitVec 32) (v3234 : BitVec 32) : Prop :=
  (∀ (k1_h1 : k1_cond1 i = 1#1), ∀ a, (k1_off290 i v3230 v3232 v3234) a + S1x1x1x1x8x20.size a ≤ S3x8x9x80x80x20.size a) ∧
  (∀ (k1_h1 : k1_cond1 i = 1#1), ∀ a, (k1_off291 i v3230 v3232 v3234) a + S1x1x1x1x8x5.size a ≤ S3x8x9x80x80x5.size a) ∧
  (∀ (k1_h1 : k1_cond1 i = 1#1), ∀ a, (k1_off354 i v3230 v3232 v3234) a + S1x1x1x1x8x20.size a ≤ S3x8x9x80x80x20.size a) ∧
  (∀ (k1_h1 : k1_cond1 i = 1#1), ∀ a, (k1_off355 i v3230 v3232 v3234) a + S1x1x1x1x8x5.size a ≤ S3x8x9x80x80x5.size a)
theorem k1_off290_inb : ∀ (i : grid1.Coords) (v3230 : BitVec 32) (v3232 : BitVec 32) (v3234 : BitVec 32) (k1_hw183 : k1_chk183 i v3230 v3232 v3234), ∀ (k1_h1 : k1_cond1 i = 1#1), ∀ a, (k1_off290 i v3230 v3232 v3234) a + S1x1x1x1x8x20.size a ≤ S3x8x9x80x80x20.size a := fun i v3230 v3232 v3234 k1_hw183 k1_h1 => k1_hw183.1 k1_h1
theorem k1_off291_inb : ∀ (i : grid1.Coords) (v3230 : BitVec 32) (v3232 : BitVec 32) (v3234 : BitVec 32) (k1_hw183 : k1_chk183 i v3230 v3232 v3234), ∀ (k1_h1 : k1_cond1 i = 1#1), ∀ a, (k1_off291 i v3230 v3232 v3234) a + S1x1x1x1x8x5.size a ≤ S3x8x9x80x80x5.size a := fun i v3230 v3232 v3234 k1_hw183 k1_h1 => k1_hw183.2.1 k1_h1
theorem k1_off354_inb : ∀ (i : grid1.Coords) (v3230 : BitVec 32) (v3232 : BitVec 32) (v3234 : BitVec 32) (k1_hw183 : k1_chk183 i v3230 v3232 v3234), ∀ (k1_h1 : k1_cond1 i = 1#1), ∀ a, (k1_off354 i v3230 v3232 v3234) a + S1x1x1x1x8x20.size a ≤ S3x8x9x80x80x20.size a := fun i v3230 v3232 v3234 k1_hw183 k1_h1 => k1_hw183.2.2.1 k1_h1
theorem k1_off355_inb : ∀ (i : grid1.Coords) (v3230 : BitVec 32) (v3232 : BitVec 32) (v3234 : BitVec 32) (k1_hw183 : k1_chk183 i v3230 v3232 v3234), ∀ (k1_h1 : k1_cond1 i = 1#1), ∀ a, (k1_off355 i v3230 v3232 v3234) a + S1x1x1x1x8x5.size a ≤ S3x8x9x80x80x5.size a := fun i v3230 v3232 v3234 k1_hw183 k1_h1 => k1_hw183.2.2.2 k1_h1

def k1_off356 (i : grid1.Coords) (v3253 : BitVec 32) (v3255 : BitVec 32) (v3257 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2263 : BitVec 32 := 8#32
  let v3258 : BitVec 32 := Scalar.muli v3257 c8_i32_2263
  let c0_i32_2727 : BitVec 32 := 0#32
  ![v21.toNat, v22.toNat, v3253.toNat, v3255.toNat, v3258.toNat, 0]
def k1_off357 (i : grid1.Coords) (v3253 : BitVec 32) (v3255 : BitVec 32) (v3257 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2263 : BitVec 32 := 8#32
  let v3258 : BitVec 32 := Scalar.muli v3257 c8_i32_2263
  let c0_i32_2734 : BitVec 32 := 0#32
  ![v21.toNat, v22.toNat, v3253.toNat, v3255.toNat, v3258.toNat, 0]

def k1_chk184 (i : grid1.Coords) (v3253 : BitVec 32) (v3255 : BitVec 32) (v3257 : BitVec 32) : Prop :=
  (∀ (k1_h1 : k1_cond1 i = 1#1), ∀ a, (k1_off292 i v3253 v3255 v3257) a + S1x1x1x1x8x20.size a ≤ S3x8x9x80x80x20.size a) ∧
  (∀ (k1_h1 : k1_cond1 i = 1#1), ∀ a, (k1_off293 i v3253 v3255 v3257) a + S1x1x1x1x8x5.size a ≤ S3x8x9x80x80x5.size a) ∧
  (∀ (k1_h1 : k1_cond1 i = 1#1), ∀ a, (k1_off356 i v3253 v3255 v3257) a + S1x1x1x1x8x20.size a ≤ S3x8x9x80x80x20.size a) ∧
  (∀ (k1_h1 : k1_cond1 i = 1#1), ∀ a, (k1_off357 i v3253 v3255 v3257) a + S1x1x1x1x8x5.size a ≤ S3x8x9x80x80x5.size a)
theorem k1_off292_inb : ∀ (i : grid1.Coords) (v3253 : BitVec 32) (v3255 : BitVec 32) (v3257 : BitVec 32) (k1_hw184 : k1_chk184 i v3253 v3255 v3257), ∀ (k1_h1 : k1_cond1 i = 1#1), ∀ a, (k1_off292 i v3253 v3255 v3257) a + S1x1x1x1x8x20.size a ≤ S3x8x9x80x80x20.size a := fun i v3253 v3255 v3257 k1_hw184 k1_h1 => k1_hw184.1 k1_h1
theorem k1_off293_inb : ∀ (i : grid1.Coords) (v3253 : BitVec 32) (v3255 : BitVec 32) (v3257 : BitVec 32) (k1_hw184 : k1_chk184 i v3253 v3255 v3257), ∀ (k1_h1 : k1_cond1 i = 1#1), ∀ a, (k1_off293 i v3253 v3255 v3257) a + S1x1x1x1x8x5.size a ≤ S3x8x9x80x80x5.size a := fun i v3253 v3255 v3257 k1_hw184 k1_h1 => k1_hw184.2.1 k1_h1
theorem k1_off356_inb : ∀ (i : grid1.Coords) (v3253 : BitVec 32) (v3255 : BitVec 32) (v3257 : BitVec 32) (k1_hw184 : k1_chk184 i v3253 v3255 v3257), ∀ (k1_h1 : k1_cond1 i = 1#1), ∀ a, (k1_off356 i v3253 v3255 v3257) a + S1x1x1x1x8x20.size a ≤ S3x8x9x80x80x20.size a := fun i v3253 v3255 v3257 k1_hw184 k1_h1 => k1_hw184.2.2.1 k1_h1
theorem k1_off357_inb : ∀ (i : grid1.Coords) (v3253 : BitVec 32) (v3255 : BitVec 32) (v3257 : BitVec 32) (k1_hw184 : k1_chk184 i v3253 v3255 v3257), ∀ (k1_h1 : k1_cond1 i = 1#1), ∀ a, (k1_off357 i v3253 v3255 v3257) a + S1x1x1x1x8x5.size a ≤ S3x8x9x80x80x5.size a := fun i v3253 v3255 v3257 k1_hw184 k1_h1 => k1_hw184.2.2.2 k1_h1

def k1_off358 (i : grid1.Coords) (v3276 : BitVec 32) (v3278 : BitVec 32) (v3280 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2278 : BitVec 32 := 8#32
  let v3281 : BitVec 32 := Scalar.muli v3280 c8_i32_2278
  let c0_i32_2741 : BitVec 32 := 0#32
  ![v21.toNat, v22.toNat, v3276.toNat, v3278.toNat, v3281.toNat, 0]
def k1_off359 (i : grid1.Coords) (v3276 : BitVec 32) (v3278 : BitVec 32) (v3280 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2278 : BitVec 32 := 8#32
  let v3281 : BitVec 32 := Scalar.muli v3280 c8_i32_2278
  let c0_i32_2748 : BitVec 32 := 0#32
  ![v21.toNat, v22.toNat, v3276.toNat, v3278.toNat, v3281.toNat, 0]

def k1_chk185 (i : grid1.Coords) (v3276 : BitVec 32) (v3278 : BitVec 32) (v3280 : BitVec 32) : Prop :=
  (∀ (k1_h1 : k1_cond1 i = 1#1), ∀ a, (k1_off294 i v3276 v3278 v3280) a + S1x1x1x1x8x20.size a ≤ S3x8x9x80x80x20.size a) ∧
  (∀ (k1_h1 : k1_cond1 i = 1#1), ∀ a, (k1_off295 i v3276 v3278 v3280) a + S1x1x1x1x8x5.size a ≤ S3x8x9x80x80x5.size a) ∧
  (∀ (k1_h1 : k1_cond1 i = 1#1), ∀ a, (k1_off358 i v3276 v3278 v3280) a + S1x1x1x1x8x20.size a ≤ S3x8x9x80x80x20.size a) ∧
  (∀ (k1_h1 : k1_cond1 i = 1#1), ∀ a, (k1_off359 i v3276 v3278 v3280) a + S1x1x1x1x8x5.size a ≤ S3x8x9x80x80x5.size a)
theorem k1_off294_inb : ∀ (i : grid1.Coords) (v3276 : BitVec 32) (v3278 : BitVec 32) (v3280 : BitVec 32) (k1_hw185 : k1_chk185 i v3276 v3278 v3280), ∀ (k1_h1 : k1_cond1 i = 1#1), ∀ a, (k1_off294 i v3276 v3278 v3280) a + S1x1x1x1x8x20.size a ≤ S3x8x9x80x80x20.size a := fun i v3276 v3278 v3280 k1_hw185 k1_h1 => k1_hw185.1 k1_h1
theorem k1_off295_inb : ∀ (i : grid1.Coords) (v3276 : BitVec 32) (v3278 : BitVec 32) (v3280 : BitVec 32) (k1_hw185 : k1_chk185 i v3276 v3278 v3280), ∀ (k1_h1 : k1_cond1 i = 1#1), ∀ a, (k1_off295 i v3276 v3278 v3280) a + S1x1x1x1x8x5.size a ≤ S3x8x9x80x80x5.size a := fun i v3276 v3278 v3280 k1_hw185 k1_h1 => k1_hw185.2.1 k1_h1
theorem k1_off358_inb : ∀ (i : grid1.Coords) (v3276 : BitVec 32) (v3278 : BitVec 32) (v3280 : BitVec 32) (k1_hw185 : k1_chk185 i v3276 v3278 v3280), ∀ (k1_h1 : k1_cond1 i = 1#1), ∀ a, (k1_off358 i v3276 v3278 v3280) a + S1x1x1x1x8x20.size a ≤ S3x8x9x80x80x20.size a := fun i v3276 v3278 v3280 k1_hw185 k1_h1 => k1_hw185.2.2.1 k1_h1
theorem k1_off359_inb : ∀ (i : grid1.Coords) (v3276 : BitVec 32) (v3278 : BitVec 32) (v3280 : BitVec 32) (k1_hw185 : k1_chk185 i v3276 v3278 v3280), ∀ (k1_h1 : k1_cond1 i = 1#1), ∀ a, (k1_off359 i v3276 v3278 v3280) a + S1x1x1x1x8x5.size a ≤ S3x8x9x80x80x5.size a := fun i v3276 v3278 v3280 k1_hw185 k1_h1 => k1_hw185.2.2.2 k1_h1

def k1_off360 (i : grid1.Coords) (v3299 : BitVec 32) (v3301 : BitVec 32) (v3303 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2293 : BitVec 32 := 8#32
  let v3304 : BitVec 32 := Scalar.muli v3303 c8_i32_2293
  let c0_i32_2755 : BitVec 32 := 0#32
  ![v21.toNat, v22.toNat, v3299.toNat, v3301.toNat, v3304.toNat, 0]
def k1_off361 (i : grid1.Coords) (v3299 : BitVec 32) (v3301 : BitVec 32) (v3303 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2293 : BitVec 32 := 8#32
  let v3304 : BitVec 32 := Scalar.muli v3303 c8_i32_2293
  let c0_i32_2762 : BitVec 32 := 0#32
  ![v21.toNat, v22.toNat, v3299.toNat, v3301.toNat, v3304.toNat, 0]

def k1_chk186 (i : grid1.Coords) (v3299 : BitVec 32) (v3301 : BitVec 32) (v3303 : BitVec 32) : Prop :=
  (∀ (k1_h1 : k1_cond1 i = 1#1), ∀ a, (k1_off296 i v3299 v3301 v3303) a + S1x1x1x1x8x20.size a ≤ S3x8x9x80x80x20.size a) ∧
  (∀ (k1_h1 : k1_cond1 i = 1#1), ∀ a, (k1_off297 i v3299 v3301 v3303) a + S1x1x1x1x8x5.size a ≤ S3x8x9x80x80x5.size a) ∧
  (∀ (k1_h1 : k1_cond1 i = 1#1), ∀ a, (k1_off360 i v3299 v3301 v3303) a + S1x1x1x1x8x20.size a ≤ S3x8x9x80x80x20.size a) ∧
  (∀ (k1_h1 : k1_cond1 i = 1#1), ∀ a, (k1_off361 i v3299 v3301 v3303) a + S1x1x1x1x8x5.size a ≤ S3x8x9x80x80x5.size a)
theorem k1_off296_inb : ∀ (i : grid1.Coords) (v3299 : BitVec 32) (v3301 : BitVec 32) (v3303 : BitVec 32) (k1_hw186 : k1_chk186 i v3299 v3301 v3303), ∀ (k1_h1 : k1_cond1 i = 1#1), ∀ a, (k1_off296 i v3299 v3301 v3303) a + S1x1x1x1x8x20.size a ≤ S3x8x9x80x80x20.size a := fun i v3299 v3301 v3303 k1_hw186 k1_h1 => k1_hw186.1 k1_h1
theorem k1_off297_inb : ∀ (i : grid1.Coords) (v3299 : BitVec 32) (v3301 : BitVec 32) (v3303 : BitVec 32) (k1_hw186 : k1_chk186 i v3299 v3301 v3303), ∀ (k1_h1 : k1_cond1 i = 1#1), ∀ a, (k1_off297 i v3299 v3301 v3303) a + S1x1x1x1x8x5.size a ≤ S3x8x9x80x80x5.size a := fun i v3299 v3301 v3303 k1_hw186 k1_h1 => k1_hw186.2.1 k1_h1
theorem k1_off360_inb : ∀ (i : grid1.Coords) (v3299 : BitVec 32) (v3301 : BitVec 32) (v3303 : BitVec 32) (k1_hw186 : k1_chk186 i v3299 v3301 v3303), ∀ (k1_h1 : k1_cond1 i = 1#1), ∀ a, (k1_off360 i v3299 v3301 v3303) a + S1x1x1x1x8x20.size a ≤ S3x8x9x80x80x20.size a := fun i v3299 v3301 v3303 k1_hw186 k1_h1 => k1_hw186.2.2.1 k1_h1
theorem k1_off361_inb : ∀ (i : grid1.Coords) (v3299 : BitVec 32) (v3301 : BitVec 32) (v3303 : BitVec 32) (k1_hw186 : k1_chk186 i v3299 v3301 v3303), ∀ (k1_h1 : k1_cond1 i = 1#1), ∀ a, (k1_off361 i v3299 v3301 v3303) a + S1x1x1x1x8x5.size a ≤ S3x8x9x80x80x5.size a := fun i v3299 v3301 v3303 k1_hw186 k1_h1 => k1_hw186.2.2.2 k1_h1

def k1_off362 (i : grid1.Coords) (v3322 : BitVec 32) (v3324 : BitVec 32) (v3326 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2308 : BitVec 32 := 8#32
  let v3327 : BitVec 32 := Scalar.muli v3326 c8_i32_2308
  let c0_i32_2769 : BitVec 32 := 0#32
  ![v21.toNat, v22.toNat, v3322.toNat, v3324.toNat, v3327.toNat, 0]
def k1_off363 (i : grid1.Coords) (v3322 : BitVec 32) (v3324 : BitVec 32) (v3326 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2308 : BitVec 32 := 8#32
  let v3327 : BitVec 32 := Scalar.muli v3326 c8_i32_2308
  let c0_i32_2776 : BitVec 32 := 0#32
  ![v21.toNat, v22.toNat, v3322.toNat, v3324.toNat, v3327.toNat, 0]

def k1_chk187 (i : grid1.Coords) (v3322 : BitVec 32) (v3324 : BitVec 32) (v3326 : BitVec 32) : Prop :=
  (∀ (k1_h1 : k1_cond1 i = 1#1), ∀ a, (k1_off298 i v3322 v3324 v3326) a + S1x1x1x1x8x20.size a ≤ S3x8x9x80x80x20.size a) ∧
  (∀ (k1_h1 : k1_cond1 i = 1#1), ∀ a, (k1_off299 i v3322 v3324 v3326) a + S1x1x1x1x8x5.size a ≤ S3x8x9x80x80x5.size a) ∧
  (∀ (k1_h1 : k1_cond1 i = 1#1), ∀ a, (k1_off362 i v3322 v3324 v3326) a + S1x1x1x1x8x20.size a ≤ S3x8x9x80x80x20.size a) ∧
  (∀ (k1_h1 : k1_cond1 i = 1#1), ∀ a, (k1_off363 i v3322 v3324 v3326) a + S1x1x1x1x8x5.size a ≤ S3x8x9x80x80x5.size a)
theorem k1_off298_inb : ∀ (i : grid1.Coords) (v3322 : BitVec 32) (v3324 : BitVec 32) (v3326 : BitVec 32) (k1_hw187 : k1_chk187 i v3322 v3324 v3326), ∀ (k1_h1 : k1_cond1 i = 1#1), ∀ a, (k1_off298 i v3322 v3324 v3326) a + S1x1x1x1x8x20.size a ≤ S3x8x9x80x80x20.size a := fun i v3322 v3324 v3326 k1_hw187 k1_h1 => k1_hw187.1 k1_h1
theorem k1_off299_inb : ∀ (i : grid1.Coords) (v3322 : BitVec 32) (v3324 : BitVec 32) (v3326 : BitVec 32) (k1_hw187 : k1_chk187 i v3322 v3324 v3326), ∀ (k1_h1 : k1_cond1 i = 1#1), ∀ a, (k1_off299 i v3322 v3324 v3326) a + S1x1x1x1x8x5.size a ≤ S3x8x9x80x80x5.size a := fun i v3322 v3324 v3326 k1_hw187 k1_h1 => k1_hw187.2.1 k1_h1
theorem k1_off362_inb : ∀ (i : grid1.Coords) (v3322 : BitVec 32) (v3324 : BitVec 32) (v3326 : BitVec 32) (k1_hw187 : k1_chk187 i v3322 v3324 v3326), ∀ (k1_h1 : k1_cond1 i = 1#1), ∀ a, (k1_off362 i v3322 v3324 v3326) a + S1x1x1x1x8x20.size a ≤ S3x8x9x80x80x20.size a := fun i v3322 v3324 v3326 k1_hw187 k1_h1 => k1_hw187.2.2.1 k1_h1
theorem k1_off363_inb : ∀ (i : grid1.Coords) (v3322 : BitVec 32) (v3324 : BitVec 32) (v3326 : BitVec 32) (k1_hw187 : k1_chk187 i v3322 v3324 v3326), ∀ (k1_h1 : k1_cond1 i = 1#1), ∀ a, (k1_off363 i v3322 v3324 v3326) a + S1x1x1x1x8x5.size a ≤ S3x8x9x80x80x5.size a := fun i v3322 v3324 v3326 k1_hw187 k1_h1 => k1_hw187.2.2.2 k1_h1

def k1_off364 (i : grid1.Coords) (v3345 : BitVec 32) (v3347 : BitVec 32) (v3349 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2323 : BitVec 32 := 8#32
  let v3350 : BitVec 32 := Scalar.muli v3349 c8_i32_2323
  let c0_i32_2783 : BitVec 32 := 0#32
  ![v21.toNat, v22.toNat, v3345.toNat, v3347.toNat, v3350.toNat, 0]
def k1_off365 (i : grid1.Coords) (v3345 : BitVec 32) (v3347 : BitVec 32) (v3349 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2323 : BitVec 32 := 8#32
  let v3350 : BitVec 32 := Scalar.muli v3349 c8_i32_2323
  let c0_i32_2790 : BitVec 32 := 0#32
  ![v21.toNat, v22.toNat, v3345.toNat, v3347.toNat, v3350.toNat, 0]

def k1_chk188 (i : grid1.Coords) (v3345 : BitVec 32) (v3347 : BitVec 32) (v3349 : BitVec 32) : Prop :=
  (∀ (k1_h1 : k1_cond1 i = 1#1), ∀ a, (k1_off300 i v3345 v3347 v3349) a + S1x1x1x1x8x20.size a ≤ S3x8x9x80x80x20.size a) ∧
  (∀ (k1_h1 : k1_cond1 i = 1#1), ∀ a, (k1_off301 i v3345 v3347 v3349) a + S1x1x1x1x8x5.size a ≤ S3x8x9x80x80x5.size a) ∧
  (∀ (k1_h1 : k1_cond1 i = 1#1), ∀ a, (k1_off364 i v3345 v3347 v3349) a + S1x1x1x1x8x20.size a ≤ S3x8x9x80x80x20.size a) ∧
  (∀ (k1_h1 : k1_cond1 i = 1#1), ∀ a, (k1_off365 i v3345 v3347 v3349) a + S1x1x1x1x8x5.size a ≤ S3x8x9x80x80x5.size a)
theorem k1_off300_inb : ∀ (i : grid1.Coords) (v3345 : BitVec 32) (v3347 : BitVec 32) (v3349 : BitVec 32) (k1_hw188 : k1_chk188 i v3345 v3347 v3349), ∀ (k1_h1 : k1_cond1 i = 1#1), ∀ a, (k1_off300 i v3345 v3347 v3349) a + S1x1x1x1x8x20.size a ≤ S3x8x9x80x80x20.size a := fun i v3345 v3347 v3349 k1_hw188 k1_h1 => k1_hw188.1 k1_h1
theorem k1_off301_inb : ∀ (i : grid1.Coords) (v3345 : BitVec 32) (v3347 : BitVec 32) (v3349 : BitVec 32) (k1_hw188 : k1_chk188 i v3345 v3347 v3349), ∀ (k1_h1 : k1_cond1 i = 1#1), ∀ a, (k1_off301 i v3345 v3347 v3349) a + S1x1x1x1x8x5.size a ≤ S3x8x9x80x80x5.size a := fun i v3345 v3347 v3349 k1_hw188 k1_h1 => k1_hw188.2.1 k1_h1
theorem k1_off364_inb : ∀ (i : grid1.Coords) (v3345 : BitVec 32) (v3347 : BitVec 32) (v3349 : BitVec 32) (k1_hw188 : k1_chk188 i v3345 v3347 v3349), ∀ (k1_h1 : k1_cond1 i = 1#1), ∀ a, (k1_off364 i v3345 v3347 v3349) a + S1x1x1x1x8x20.size a ≤ S3x8x9x80x80x20.size a := fun i v3345 v3347 v3349 k1_hw188 k1_h1 => k1_hw188.2.2.1 k1_h1
theorem k1_off365_inb : ∀ (i : grid1.Coords) (v3345 : BitVec 32) (v3347 : BitVec 32) (v3349 : BitVec 32) (k1_hw188 : k1_chk188 i v3345 v3347 v3349), ∀ (k1_h1 : k1_cond1 i = 1#1), ∀ a, (k1_off365 i v3345 v3347 v3349) a + S1x1x1x1x8x5.size a ≤ S3x8x9x80x80x5.size a := fun i v3345 v3347 v3349 k1_hw188 k1_h1 => k1_hw188.2.2.2 k1_h1

def k1_off366 (i : grid1.Coords) (v3368 : BitVec 32) (v3370 : BitVec 32) (v3372 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2338 : BitVec 32 := 8#32
  let v3373 : BitVec 32 := Scalar.muli v3372 c8_i32_2338
  let c0_i32_2797 : BitVec 32 := 0#32
  ![v21.toNat, v22.toNat, v3368.toNat, v3370.toNat, v3373.toNat, 0]
def k1_off367 (i : grid1.Coords) (v3368 : BitVec 32) (v3370 : BitVec 32) (v3372 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2338 : BitVec 32 := 8#32
  let v3373 : BitVec 32 := Scalar.muli v3372 c8_i32_2338
  let c0_i32_2804 : BitVec 32 := 0#32
  ![v21.toNat, v22.toNat, v3368.toNat, v3370.toNat, v3373.toNat, 0]

def k1_chk189 (i : grid1.Coords) (v3368 : BitVec 32) (v3370 : BitVec 32) (v3372 : BitVec 32) : Prop :=
  (∀ (k1_h1 : k1_cond1 i = 1#1), ∀ a, (k1_off302 i v3368 v3370 v3372) a + S1x1x1x1x8x20.size a ≤ S3x8x9x80x80x20.size a) ∧
  (∀ (k1_h1 : k1_cond1 i = 1#1), ∀ a, (k1_off303 i v3368 v3370 v3372) a + S1x1x1x1x8x5.size a ≤ S3x8x9x80x80x5.size a) ∧
  (∀ (k1_h1 : k1_cond1 i = 1#1), ∀ a, (k1_off366 i v3368 v3370 v3372) a + S1x1x1x1x8x20.size a ≤ S3x8x9x80x80x20.size a) ∧
  (∀ (k1_h1 : k1_cond1 i = 1#1), ∀ a, (k1_off367 i v3368 v3370 v3372) a + S1x1x1x1x8x5.size a ≤ S3x8x9x80x80x5.size a)
theorem k1_off302_inb : ∀ (i : grid1.Coords) (v3368 : BitVec 32) (v3370 : BitVec 32) (v3372 : BitVec 32) (k1_hw189 : k1_chk189 i v3368 v3370 v3372), ∀ (k1_h1 : k1_cond1 i = 1#1), ∀ a, (k1_off302 i v3368 v3370 v3372) a + S1x1x1x1x8x20.size a ≤ S3x8x9x80x80x20.size a := fun i v3368 v3370 v3372 k1_hw189 k1_h1 => k1_hw189.1 k1_h1
theorem k1_off303_inb : ∀ (i : grid1.Coords) (v3368 : BitVec 32) (v3370 : BitVec 32) (v3372 : BitVec 32) (k1_hw189 : k1_chk189 i v3368 v3370 v3372), ∀ (k1_h1 : k1_cond1 i = 1#1), ∀ a, (k1_off303 i v3368 v3370 v3372) a + S1x1x1x1x8x5.size a ≤ S3x8x9x80x80x5.size a := fun i v3368 v3370 v3372 k1_hw189 k1_h1 => k1_hw189.2.1 k1_h1
theorem k1_off366_inb : ∀ (i : grid1.Coords) (v3368 : BitVec 32) (v3370 : BitVec 32) (v3372 : BitVec 32) (k1_hw189 : k1_chk189 i v3368 v3370 v3372), ∀ (k1_h1 : k1_cond1 i = 1#1), ∀ a, (k1_off366 i v3368 v3370 v3372) a + S1x1x1x1x8x20.size a ≤ S3x8x9x80x80x20.size a := fun i v3368 v3370 v3372 k1_hw189 k1_h1 => k1_hw189.2.2.1 k1_h1
theorem k1_off367_inb : ∀ (i : grid1.Coords) (v3368 : BitVec 32) (v3370 : BitVec 32) (v3372 : BitVec 32) (k1_hw189 : k1_chk189 i v3368 v3370 v3372), ∀ (k1_h1 : k1_cond1 i = 1#1), ∀ a, (k1_off367 i v3368 v3370 v3372) a + S1x1x1x1x8x5.size a ≤ S3x8x9x80x80x5.size a := fun i v3368 v3370 v3372 k1_hw189 k1_h1 => k1_hw189.2.2.2 k1_h1

def k1_off368 (i : grid1.Coords) (v3391 : BitVec 32) (v3393 : BitVec 32) (v3395 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2353 : BitVec 32 := 8#32
  let v3396 : BitVec 32 := Scalar.muli v3395 c8_i32_2353
  let c0_i32_2811 : BitVec 32 := 0#32
  ![v21.toNat, v22.toNat, v3391.toNat, v3393.toNat, v3396.toNat, 0]
def k1_off369 (i : grid1.Coords) (v3391 : BitVec 32) (v3393 : BitVec 32) (v3395 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2353 : BitVec 32 := 8#32
  let v3396 : BitVec 32 := Scalar.muli v3395 c8_i32_2353
  let c0_i32_2818 : BitVec 32 := 0#32
  ![v21.toNat, v22.toNat, v3391.toNat, v3393.toNat, v3396.toNat, 0]

def k1_chk190 (i : grid1.Coords) (v3391 : BitVec 32) (v3393 : BitVec 32) (v3395 : BitVec 32) : Prop :=
  (∀ (k1_h1 : k1_cond1 i = 1#1), ∀ a, (k1_off304 i v3391 v3393 v3395) a + S1x1x1x1x8x20.size a ≤ S3x8x9x80x80x20.size a) ∧
  (∀ (k1_h1 : k1_cond1 i = 1#1), ∀ a, (k1_off305 i v3391 v3393 v3395) a + S1x1x1x1x8x5.size a ≤ S3x8x9x80x80x5.size a) ∧
  (∀ (k1_h1 : k1_cond1 i = 1#1), ∀ a, (k1_off368 i v3391 v3393 v3395) a + S1x1x1x1x8x20.size a ≤ S3x8x9x80x80x20.size a) ∧
  (∀ (k1_h1 : k1_cond1 i = 1#1), ∀ a, (k1_off369 i v3391 v3393 v3395) a + S1x1x1x1x8x5.size a ≤ S3x8x9x80x80x5.size a)
theorem k1_off304_inb : ∀ (i : grid1.Coords) (v3391 : BitVec 32) (v3393 : BitVec 32) (v3395 : BitVec 32) (k1_hw190 : k1_chk190 i v3391 v3393 v3395), ∀ (k1_h1 : k1_cond1 i = 1#1), ∀ a, (k1_off304 i v3391 v3393 v3395) a + S1x1x1x1x8x20.size a ≤ S3x8x9x80x80x20.size a := fun i v3391 v3393 v3395 k1_hw190 k1_h1 => k1_hw190.1 k1_h1
theorem k1_off305_inb : ∀ (i : grid1.Coords) (v3391 : BitVec 32) (v3393 : BitVec 32) (v3395 : BitVec 32) (k1_hw190 : k1_chk190 i v3391 v3393 v3395), ∀ (k1_h1 : k1_cond1 i = 1#1), ∀ a, (k1_off305 i v3391 v3393 v3395) a + S1x1x1x1x8x5.size a ≤ S3x8x9x80x80x5.size a := fun i v3391 v3393 v3395 k1_hw190 k1_h1 => k1_hw190.2.1 k1_h1
theorem k1_off368_inb : ∀ (i : grid1.Coords) (v3391 : BitVec 32) (v3393 : BitVec 32) (v3395 : BitVec 32) (k1_hw190 : k1_chk190 i v3391 v3393 v3395), ∀ (k1_h1 : k1_cond1 i = 1#1), ∀ a, (k1_off368 i v3391 v3393 v3395) a + S1x1x1x1x8x20.size a ≤ S3x8x9x80x80x20.size a := fun i v3391 v3393 v3395 k1_hw190 k1_h1 => k1_hw190.2.2.1 k1_h1
theorem k1_off369_inb : ∀ (i : grid1.Coords) (v3391 : BitVec 32) (v3393 : BitVec 32) (v3395 : BitVec 32) (k1_hw190 : k1_chk190 i v3391 v3393 v3395), ∀ (k1_h1 : k1_cond1 i = 1#1), ∀ a, (k1_off369 i v3391 v3393 v3395) a + S1x1x1x1x8x5.size a ≤ S3x8x9x80x80x5.size a := fun i v3391 v3393 v3395 k1_hw190 k1_h1 => k1_hw190.2.2.2 k1_h1

def k1_off370 (i : grid1.Coords) (v3414 : BitVec 32) (v3416 : BitVec 32) (v3418 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2368 : BitVec 32 := 8#32
  let v3419 : BitVec 32 := Scalar.muli v3418 c8_i32_2368
  let c0_i32_2825 : BitVec 32 := 0#32
  ![v21.toNat, v22.toNat, v3414.toNat, v3416.toNat, v3419.toNat, 0]
def k1_off371 (i : grid1.Coords) (v3414 : BitVec 32) (v3416 : BitVec 32) (v3418 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2368 : BitVec 32 := 8#32
  let v3419 : BitVec 32 := Scalar.muli v3418 c8_i32_2368
  let c0_i32_2832 : BitVec 32 := 0#32
  ![v21.toNat, v22.toNat, v3414.toNat, v3416.toNat, v3419.toNat, 0]

def k1_chk191 (i : grid1.Coords) (v3414 : BitVec 32) (v3416 : BitVec 32) (v3418 : BitVec 32) : Prop :=
  (∀ (k1_h1 : k1_cond1 i = 1#1), ∀ a, (k1_off306 i v3414 v3416 v3418) a + S1x1x1x1x8x20.size a ≤ S3x8x9x80x80x20.size a) ∧
  (∀ (k1_h1 : k1_cond1 i = 1#1), ∀ a, (k1_off307 i v3414 v3416 v3418) a + S1x1x1x1x8x5.size a ≤ S3x8x9x80x80x5.size a) ∧
  (∀ (k1_h1 : k1_cond1 i = 1#1), ∀ a, (k1_off370 i v3414 v3416 v3418) a + S1x1x1x1x8x20.size a ≤ S3x8x9x80x80x20.size a) ∧
  (∀ (k1_h1 : k1_cond1 i = 1#1), ∀ a, (k1_off371 i v3414 v3416 v3418) a + S1x1x1x1x8x5.size a ≤ S3x8x9x80x80x5.size a)
theorem k1_off306_inb : ∀ (i : grid1.Coords) (v3414 : BitVec 32) (v3416 : BitVec 32) (v3418 : BitVec 32) (k1_hw191 : k1_chk191 i v3414 v3416 v3418), ∀ (k1_h1 : k1_cond1 i = 1#1), ∀ a, (k1_off306 i v3414 v3416 v3418) a + S1x1x1x1x8x20.size a ≤ S3x8x9x80x80x20.size a := fun i v3414 v3416 v3418 k1_hw191 k1_h1 => k1_hw191.1 k1_h1
theorem k1_off307_inb : ∀ (i : grid1.Coords) (v3414 : BitVec 32) (v3416 : BitVec 32) (v3418 : BitVec 32) (k1_hw191 : k1_chk191 i v3414 v3416 v3418), ∀ (k1_h1 : k1_cond1 i = 1#1), ∀ a, (k1_off307 i v3414 v3416 v3418) a + S1x1x1x1x8x5.size a ≤ S3x8x9x80x80x5.size a := fun i v3414 v3416 v3418 k1_hw191 k1_h1 => k1_hw191.2.1 k1_h1
theorem k1_off370_inb : ∀ (i : grid1.Coords) (v3414 : BitVec 32) (v3416 : BitVec 32) (v3418 : BitVec 32) (k1_hw191 : k1_chk191 i v3414 v3416 v3418), ∀ (k1_h1 : k1_cond1 i = 1#1), ∀ a, (k1_off370 i v3414 v3416 v3418) a + S1x1x1x1x8x20.size a ≤ S3x8x9x80x80x20.size a := fun i v3414 v3416 v3418 k1_hw191 k1_h1 => k1_hw191.2.2.1 k1_h1
theorem k1_off371_inb : ∀ (i : grid1.Coords) (v3414 : BitVec 32) (v3416 : BitVec 32) (v3418 : BitVec 32) (k1_hw191 : k1_chk191 i v3414 v3416 v3418), ∀ (k1_h1 : k1_cond1 i = 1#1), ∀ a, (k1_off371 i v3414 v3416 v3418) a + S1x1x1x1x8x5.size a ≤ S3x8x9x80x80x5.size a := fun i v3414 v3416 v3418 k1_hw191 k1_h1 => k1_hw191.2.2.2 k1_h1

def k1_off372 (i : grid1.Coords) (v3437 : BitVec 32) (v3439 : BitVec 32) (v3441 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2383 : BitVec 32 := 8#32
  let v3442 : BitVec 32 := Scalar.muli v3441 c8_i32_2383
  let c0_i32_2839 : BitVec 32 := 0#32
  ![v21.toNat, v22.toNat, v3437.toNat, v3439.toNat, v3442.toNat, 0]
def k1_off373 (i : grid1.Coords) (v3437 : BitVec 32) (v3439 : BitVec 32) (v3441 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2383 : BitVec 32 := 8#32
  let v3442 : BitVec 32 := Scalar.muli v3441 c8_i32_2383
  let c0_i32_2846 : BitVec 32 := 0#32
  ![v21.toNat, v22.toNat, v3437.toNat, v3439.toNat, v3442.toNat, 0]

def k1_chk192 (i : grid1.Coords) (v3437 : BitVec 32) (v3439 : BitVec 32) (v3441 : BitVec 32) : Prop :=
  (∀ (k1_h1 : k1_cond1 i = 1#1), ∀ a, (k1_off308 i v3437 v3439 v3441) a + S1x1x1x1x8x20.size a ≤ S3x8x9x80x80x20.size a) ∧
  (∀ (k1_h1 : k1_cond1 i = 1#1), ∀ a, (k1_off309 i v3437 v3439 v3441) a + S1x1x1x1x8x5.size a ≤ S3x8x9x80x80x5.size a) ∧
  (∀ (k1_h1 : k1_cond1 i = 1#1), ∀ a, (k1_off372 i v3437 v3439 v3441) a + S1x1x1x1x8x20.size a ≤ S3x8x9x80x80x20.size a) ∧
  (∀ (k1_h1 : k1_cond1 i = 1#1), ∀ a, (k1_off373 i v3437 v3439 v3441) a + S1x1x1x1x8x5.size a ≤ S3x8x9x80x80x5.size a)
theorem k1_off308_inb : ∀ (i : grid1.Coords) (v3437 : BitVec 32) (v3439 : BitVec 32) (v3441 : BitVec 32) (k1_hw192 : k1_chk192 i v3437 v3439 v3441), ∀ (k1_h1 : k1_cond1 i = 1#1), ∀ a, (k1_off308 i v3437 v3439 v3441) a + S1x1x1x1x8x20.size a ≤ S3x8x9x80x80x20.size a := fun i v3437 v3439 v3441 k1_hw192 k1_h1 => k1_hw192.1 k1_h1
theorem k1_off309_inb : ∀ (i : grid1.Coords) (v3437 : BitVec 32) (v3439 : BitVec 32) (v3441 : BitVec 32) (k1_hw192 : k1_chk192 i v3437 v3439 v3441), ∀ (k1_h1 : k1_cond1 i = 1#1), ∀ a, (k1_off309 i v3437 v3439 v3441) a + S1x1x1x1x8x5.size a ≤ S3x8x9x80x80x5.size a := fun i v3437 v3439 v3441 k1_hw192 k1_h1 => k1_hw192.2.1 k1_h1
theorem k1_off372_inb : ∀ (i : grid1.Coords) (v3437 : BitVec 32) (v3439 : BitVec 32) (v3441 : BitVec 32) (k1_hw192 : k1_chk192 i v3437 v3439 v3441), ∀ (k1_h1 : k1_cond1 i = 1#1), ∀ a, (k1_off372 i v3437 v3439 v3441) a + S1x1x1x1x8x20.size a ≤ S3x8x9x80x80x20.size a := fun i v3437 v3439 v3441 k1_hw192 k1_h1 => k1_hw192.2.2.1 k1_h1
theorem k1_off373_inb : ∀ (i : grid1.Coords) (v3437 : BitVec 32) (v3439 : BitVec 32) (v3441 : BitVec 32) (k1_hw192 : k1_chk192 i v3437 v3439 v3441), ∀ (k1_h1 : k1_cond1 i = 1#1), ∀ a, (k1_off373 i v3437 v3439 v3441) a + S1x1x1x1x8x5.size a ≤ S3x8x9x80x80x5.size a := fun i v3437 v3439 v3441 k1_hw192 k1_h1 => k1_hw192.2.2.2 k1_h1

def k1_off374 (i : grid1.Coords) (v3460 : BitVec 32) (v3462 : BitVec 32) (v3464 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2398 : BitVec 32 := 8#32
  let v3465 : BitVec 32 := Scalar.muli v3464 c8_i32_2398
  let c0_i32_2853 : BitVec 32 := 0#32
  ![v21.toNat, v22.toNat, v3460.toNat, v3462.toNat, v3465.toNat, 0]
def k1_off375 (i : grid1.Coords) (v3460 : BitVec 32) (v3462 : BitVec 32) (v3464 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2398 : BitVec 32 := 8#32
  let v3465 : BitVec 32 := Scalar.muli v3464 c8_i32_2398
  let c0_i32_2860 : BitVec 32 := 0#32
  ![v21.toNat, v22.toNat, v3460.toNat, v3462.toNat, v3465.toNat, 0]

def k1_chk193 (i : grid1.Coords) (v3460 : BitVec 32) (v3462 : BitVec 32) (v3464 : BitVec 32) : Prop :=
  (∀ (k1_h1 : k1_cond1 i = 1#1), ∀ a, (k1_off310 i v3460 v3462 v3464) a + S1x1x1x1x8x20.size a ≤ S3x8x9x80x80x20.size a) ∧
  (∀ (k1_h1 : k1_cond1 i = 1#1), ∀ a, (k1_off311 i v3460 v3462 v3464) a + S1x1x1x1x8x5.size a ≤ S3x8x9x80x80x5.size a) ∧
  (∀ (k1_h1 : k1_cond1 i = 1#1), ∀ a, (k1_off374 i v3460 v3462 v3464) a + S1x1x1x1x8x20.size a ≤ S3x8x9x80x80x20.size a) ∧
  (∀ (k1_h1 : k1_cond1 i = 1#1), ∀ a, (k1_off375 i v3460 v3462 v3464) a + S1x1x1x1x8x5.size a ≤ S3x8x9x80x80x5.size a)
theorem k1_off310_inb : ∀ (i : grid1.Coords) (v3460 : BitVec 32) (v3462 : BitVec 32) (v3464 : BitVec 32) (k1_hw193 : k1_chk193 i v3460 v3462 v3464), ∀ (k1_h1 : k1_cond1 i = 1#1), ∀ a, (k1_off310 i v3460 v3462 v3464) a + S1x1x1x1x8x20.size a ≤ S3x8x9x80x80x20.size a := fun i v3460 v3462 v3464 k1_hw193 k1_h1 => k1_hw193.1 k1_h1
theorem k1_off311_inb : ∀ (i : grid1.Coords) (v3460 : BitVec 32) (v3462 : BitVec 32) (v3464 : BitVec 32) (k1_hw193 : k1_chk193 i v3460 v3462 v3464), ∀ (k1_h1 : k1_cond1 i = 1#1), ∀ a, (k1_off311 i v3460 v3462 v3464) a + S1x1x1x1x8x5.size a ≤ S3x8x9x80x80x5.size a := fun i v3460 v3462 v3464 k1_hw193 k1_h1 => k1_hw193.2.1 k1_h1
theorem k1_off374_inb : ∀ (i : grid1.Coords) (v3460 : BitVec 32) (v3462 : BitVec 32) (v3464 : BitVec 32) (k1_hw193 : k1_chk193 i v3460 v3462 v3464), ∀ (k1_h1 : k1_cond1 i = 1#1), ∀ a, (k1_off374 i v3460 v3462 v3464) a + S1x1x1x1x8x20.size a ≤ S3x8x9x80x80x20.size a := fun i v3460 v3462 v3464 k1_hw193 k1_h1 => k1_hw193.2.2.1 k1_h1
theorem k1_off375_inb : ∀ (i : grid1.Coords) (v3460 : BitVec 32) (v3462 : BitVec 32) (v3464 : BitVec 32) (k1_hw193 : k1_chk193 i v3460 v3462 v3464), ∀ (k1_h1 : k1_cond1 i = 1#1), ∀ a, (k1_off375 i v3460 v3462 v3464) a + S1x1x1x1x8x5.size a ≤ S3x8x9x80x80x5.size a := fun i v3460 v3462 v3464 k1_hw193 k1_h1 => k1_hw193.2.2.2 k1_h1

def k1_off376 (i : grid1.Coords) (v3483 : BitVec 32) (v3485 : BitVec 32) (v3487 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2413 : BitVec 32 := 8#32
  let v3488 : BitVec 32 := Scalar.muli v3487 c8_i32_2413
  let c0_i32_2867 : BitVec 32 := 0#32
  ![v21.toNat, v22.toNat, v3483.toNat, v3485.toNat, v3488.toNat, 0]
def k1_off377 (i : grid1.Coords) (v3483 : BitVec 32) (v3485 : BitVec 32) (v3487 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2413 : BitVec 32 := 8#32
  let v3488 : BitVec 32 := Scalar.muli v3487 c8_i32_2413
  let c0_i32_2874 : BitVec 32 := 0#32
  ![v21.toNat, v22.toNat, v3483.toNat, v3485.toNat, v3488.toNat, 0]

def k1_chk194 (i : grid1.Coords) (v3483 : BitVec 32) (v3485 : BitVec 32) (v3487 : BitVec 32) : Prop :=
  (∀ (k1_h1 : k1_cond1 i = 1#1), ∀ a, (k1_off312 i v3483 v3485 v3487) a + S1x1x1x1x8x20.size a ≤ S3x8x9x80x80x20.size a) ∧
  (∀ (k1_h1 : k1_cond1 i = 1#1), ∀ a, (k1_off313 i v3483 v3485 v3487) a + S1x1x1x1x8x5.size a ≤ S3x8x9x80x80x5.size a) ∧
  (∀ (k1_h1 : k1_cond1 i = 1#1), ∀ a, (k1_off376 i v3483 v3485 v3487) a + S1x1x1x1x8x20.size a ≤ S3x8x9x80x80x20.size a) ∧
  (∀ (k1_h1 : k1_cond1 i = 1#1), ∀ a, (k1_off377 i v3483 v3485 v3487) a + S1x1x1x1x8x5.size a ≤ S3x8x9x80x80x5.size a)
theorem k1_off312_inb : ∀ (i : grid1.Coords) (v3483 : BitVec 32) (v3485 : BitVec 32) (v3487 : BitVec 32) (k1_hw194 : k1_chk194 i v3483 v3485 v3487), ∀ (k1_h1 : k1_cond1 i = 1#1), ∀ a, (k1_off312 i v3483 v3485 v3487) a + S1x1x1x1x8x20.size a ≤ S3x8x9x80x80x20.size a := fun i v3483 v3485 v3487 k1_hw194 k1_h1 => k1_hw194.1 k1_h1
theorem k1_off313_inb : ∀ (i : grid1.Coords) (v3483 : BitVec 32) (v3485 : BitVec 32) (v3487 : BitVec 32) (k1_hw194 : k1_chk194 i v3483 v3485 v3487), ∀ (k1_h1 : k1_cond1 i = 1#1), ∀ a, (k1_off313 i v3483 v3485 v3487) a + S1x1x1x1x8x5.size a ≤ S3x8x9x80x80x5.size a := fun i v3483 v3485 v3487 k1_hw194 k1_h1 => k1_hw194.2.1 k1_h1
theorem k1_off376_inb : ∀ (i : grid1.Coords) (v3483 : BitVec 32) (v3485 : BitVec 32) (v3487 : BitVec 32) (k1_hw194 : k1_chk194 i v3483 v3485 v3487), ∀ (k1_h1 : k1_cond1 i = 1#1), ∀ a, (k1_off376 i v3483 v3485 v3487) a + S1x1x1x1x8x20.size a ≤ S3x8x9x80x80x20.size a := fun i v3483 v3485 v3487 k1_hw194 k1_h1 => k1_hw194.2.2.1 k1_h1
theorem k1_off377_inb : ∀ (i : grid1.Coords) (v3483 : BitVec 32) (v3485 : BitVec 32) (v3487 : BitVec 32) (k1_hw194 : k1_chk194 i v3483 v3485 v3487), ∀ (k1_h1 : k1_cond1 i = 1#1), ∀ a, (k1_off377 i v3483 v3485 v3487) a + S1x1x1x1x8x5.size a ≤ S3x8x9x80x80x5.size a := fun i v3483 v3485 v3487 k1_hw194 k1_h1 => k1_hw194.2.2.2 k1_h1

def k1_off378 (i : grid1.Coords) (v3506 : BitVec 32) (v3508 : BitVec 32) (v3510 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2428 : BitVec 32 := 8#32
  let v3511 : BitVec 32 := Scalar.muli v3510 c8_i32_2428
  let c0_i32_2881 : BitVec 32 := 0#32
  ![v21.toNat, v22.toNat, v3506.toNat, v3508.toNat, v3511.toNat, 0]
def k1_off379 (i : grid1.Coords) (v3506 : BitVec 32) (v3508 : BitVec 32) (v3510 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2428 : BitVec 32 := 8#32
  let v3511 : BitVec 32 := Scalar.muli v3510 c8_i32_2428
  let c0_i32_2888 : BitVec 32 := 0#32
  ![v21.toNat, v22.toNat, v3506.toNat, v3508.toNat, v3511.toNat, 0]

def k1_chk195 (i : grid1.Coords) (v3506 : BitVec 32) (v3508 : BitVec 32) (v3510 : BitVec 32) : Prop :=
  (∀ (k1_h1 : k1_cond1 i = 1#1), ∀ a, (k1_off314 i v3506 v3508 v3510) a + S1x1x1x1x8x20.size a ≤ S3x8x9x80x80x20.size a) ∧
  (∀ (k1_h1 : k1_cond1 i = 1#1), ∀ a, (k1_off315 i v3506 v3508 v3510) a + S1x1x1x1x8x5.size a ≤ S3x8x9x80x80x5.size a) ∧
  (∀ (k1_h1 : k1_cond1 i = 1#1), ∀ a, (k1_off378 i v3506 v3508 v3510) a + S1x1x1x1x8x20.size a ≤ S3x8x9x80x80x20.size a) ∧
  (∀ (k1_h1 : k1_cond1 i = 1#1), ∀ a, (k1_off379 i v3506 v3508 v3510) a + S1x1x1x1x8x5.size a ≤ S3x8x9x80x80x5.size a)
theorem k1_off314_inb : ∀ (i : grid1.Coords) (v3506 : BitVec 32) (v3508 : BitVec 32) (v3510 : BitVec 32) (k1_hw195 : k1_chk195 i v3506 v3508 v3510), ∀ (k1_h1 : k1_cond1 i = 1#1), ∀ a, (k1_off314 i v3506 v3508 v3510) a + S1x1x1x1x8x20.size a ≤ S3x8x9x80x80x20.size a := fun i v3506 v3508 v3510 k1_hw195 k1_h1 => k1_hw195.1 k1_h1
theorem k1_off315_inb : ∀ (i : grid1.Coords) (v3506 : BitVec 32) (v3508 : BitVec 32) (v3510 : BitVec 32) (k1_hw195 : k1_chk195 i v3506 v3508 v3510), ∀ (k1_h1 : k1_cond1 i = 1#1), ∀ a, (k1_off315 i v3506 v3508 v3510) a + S1x1x1x1x8x5.size a ≤ S3x8x9x80x80x5.size a := fun i v3506 v3508 v3510 k1_hw195 k1_h1 => k1_hw195.2.1 k1_h1
theorem k1_off378_inb : ∀ (i : grid1.Coords) (v3506 : BitVec 32) (v3508 : BitVec 32) (v3510 : BitVec 32) (k1_hw195 : k1_chk195 i v3506 v3508 v3510), ∀ (k1_h1 : k1_cond1 i = 1#1), ∀ a, (k1_off378 i v3506 v3508 v3510) a + S1x1x1x1x8x20.size a ≤ S3x8x9x80x80x20.size a := fun i v3506 v3508 v3510 k1_hw195 k1_h1 => k1_hw195.2.2.1 k1_h1
theorem k1_off379_inb : ∀ (i : grid1.Coords) (v3506 : BitVec 32) (v3508 : BitVec 32) (v3510 : BitVec 32) (k1_hw195 : k1_chk195 i v3506 v3508 v3510), ∀ (k1_h1 : k1_cond1 i = 1#1), ∀ a, (k1_off379 i v3506 v3508 v3510) a + S1x1x1x1x8x5.size a ≤ S3x8x9x80x80x5.size a := fun i v3506 v3508 v3510 k1_hw195 k1_h1 => k1_hw195.2.2.2 k1_h1

def k1_chk197 (i : grid1.Coords) (v4064 : IVec S16 32) (v4066 : IVec S16 32) (v4069 : IVec S16 32) (v4070 : IVec S16 32) : Prop :=
  (∀ (k1_h1 : k1_cond1 i = 1#1), ∀ a x, ((![v4064, v4069, v4070] : Fin 3 → IVec S16 32) a x).toNat < S32x8x20.size a) ∧
  (∀ (k1_h1 : k1_cond1 i = 1#1), ∀ a x, ((![v4066, v4070] : Fin 2 → IVec S16 32) a x).toNat < S128x20.size a)
theorem k1_idx201_inb : ∀ (i : grid1.Coords) (v4064 : IVec S16 32) (v4066 : IVec S16 32) (v4069 : IVec S16 32) (v4070 : IVec S16 32) (k1_hw197 : k1_chk197 i v4064 v4066 v4069 v4070), ∀ (k1_h1 : k1_cond1 i = 1#1), ∀ a x, ((![v4064, v4069, v4070] : Fin 3 → IVec S16 32) a x).toNat < S32x8x20.size a := fun i v4064 v4066 v4069 v4070 k1_hw197 k1_h1 => k1_hw197.1 k1_h1
theorem k1_idx202_inb : ∀ (i : grid1.Coords) (v4064 : IVec S16 32) (v4066 : IVec S16 32) (v4069 : IVec S16 32) (v4070 : IVec S16 32) (k1_hw197 : k1_chk197 i v4064 v4066 v4069 v4070), ∀ (k1_h1 : k1_cond1 i = 1#1), ∀ a x, ((![v4066, v4070] : Fin 2 → IVec S16 32) a x).toNat < S128x20.size a := fun i v4064 v4066 v4069 v4070 k1_hw197 k1_h1 => k1_hw197.2 k1_h1

def k1_chk198 (i : grid1.Coords) (v4064 : IVec S16 32) (v4066 : IVec S16 32) (v4069 : IVec S16 32) (v4072 : IVec S16 32) : Prop :=
  (∀ (k1_h1 : k1_cond1 i = 1#1), ∀ a x, ((![v4064, v4069, v4072] : Fin 3 → IVec S16 32) a x).toNat < S32x8x20.size a) ∧
  (∀ (k1_h1 : k1_cond1 i = 1#1), ∀ a x, ((![v4066, v4072] : Fin 2 → IVec S16 32) a x).toNat < S128x20.size a)
theorem k1_idx203_inb : ∀ (i : grid1.Coords) (v4064 : IVec S16 32) (v4066 : IVec S16 32) (v4069 : IVec S16 32) (v4072 : IVec S16 32) (k1_hw198 : k1_chk198 i v4064 v4066 v4069 v4072), ∀ (k1_h1 : k1_cond1 i = 1#1), ∀ a x, ((![v4064, v4069, v4072] : Fin 3 → IVec S16 32) a x).toNat < S32x8x20.size a := fun i v4064 v4066 v4069 v4072 k1_hw198 k1_h1 => k1_hw198.1 k1_h1
theorem k1_idx204_inb : ∀ (i : grid1.Coords) (v4064 : IVec S16 32) (v4066 : IVec S16 32) (v4069 : IVec S16 32) (v4072 : IVec S16 32) (k1_hw198 : k1_chk198 i v4064 v4066 v4069 v4072), ∀ (k1_h1 : k1_cond1 i = 1#1), ∀ a x, ((![v4066, v4072] : Fin 2 → IVec S16 32) a x).toNat < S128x20.size a := fun i v4064 v4066 v4069 v4072 k1_hw198 k1_h1 => k1_hw198.2 k1_h1

def k1_chk199 (i : grid1.Coords) (v4064 : IVec S16 32) (v4066 : IVec S16 32) (v4069 : IVec S16 32) (v4074 : IVec S16 32) : Prop :=
  (∀ (k1_h1 : k1_cond1 i = 1#1), ∀ a x, ((![v4064, v4069, v4074] : Fin 3 → IVec S16 32) a x).toNat < S32x8x20.size a) ∧
  (∀ (k1_h1 : k1_cond1 i = 1#1), ∀ a x, ((![v4066, v4074] : Fin 2 → IVec S16 32) a x).toNat < S128x20.size a)
theorem k1_idx205_inb : ∀ (i : grid1.Coords) (v4064 : IVec S16 32) (v4066 : IVec S16 32) (v4069 : IVec S16 32) (v4074 : IVec S16 32) (k1_hw199 : k1_chk199 i v4064 v4066 v4069 v4074), ∀ (k1_h1 : k1_cond1 i = 1#1), ∀ a x, ((![v4064, v4069, v4074] : Fin 3 → IVec S16 32) a x).toNat < S32x8x20.size a := fun i v4064 v4066 v4069 v4074 k1_hw199 k1_h1 => k1_hw199.1 k1_h1
theorem k1_idx206_inb : ∀ (i : grid1.Coords) (v4064 : IVec S16 32) (v4066 : IVec S16 32) (v4069 : IVec S16 32) (v4074 : IVec S16 32) (k1_hw199 : k1_chk199 i v4064 v4066 v4069 v4074), ∀ (k1_h1 : k1_cond1 i = 1#1), ∀ a x, ((![v4066, v4074] : Fin 2 → IVec S16 32) a x).toNat < S128x20.size a := fun i v4064 v4066 v4069 v4074 k1_hw199 k1_h1 => k1_hw199.2 k1_h1

def k1_chk200 (i : grid1.Coords) (v4064 : IVec S16 32) (v4066 : IVec S16 32) (v4069 : IVec S16 32) (v4076 : IVec S16 32) : Prop :=
  (∀ (k1_h1 : k1_cond1 i = 1#1), ∀ a x, ((![v4064, v4069, v4076] : Fin 3 → IVec S16 32) a x).toNat < S32x8x20.size a) ∧
  (∀ (k1_h1 : k1_cond1 i = 1#1), ∀ a x, ((![v4066, v4076] : Fin 2 → IVec S16 32) a x).toNat < S128x20.size a)
theorem k1_idx207_inb : ∀ (i : grid1.Coords) (v4064 : IVec S16 32) (v4066 : IVec S16 32) (v4069 : IVec S16 32) (v4076 : IVec S16 32) (k1_hw200 : k1_chk200 i v4064 v4066 v4069 v4076), ∀ (k1_h1 : k1_cond1 i = 1#1), ∀ a x, ((![v4064, v4069, v4076] : Fin 3 → IVec S16 32) a x).toNat < S32x8x20.size a := fun i v4064 v4066 v4069 v4076 k1_hw200 k1_h1 => k1_hw200.1 k1_h1
theorem k1_idx208_inb : ∀ (i : grid1.Coords) (v4064 : IVec S16 32) (v4066 : IVec S16 32) (v4069 : IVec S16 32) (v4076 : IVec S16 32) (k1_hw200 : k1_chk200 i v4064 v4066 v4069 v4076), ∀ (k1_h1 : k1_cond1 i = 1#1), ∀ a x, ((![v4066, v4076] : Fin 2 → IVec S16 32) a x).toNat < S128x20.size a := fun i v4064 v4066 v4069 v4076 k1_hw200 k1_h1 => k1_hw200.2 k1_h1

def k1_chk201 (i : grid1.Coords) (v4064 : IVec S16 32) (v4066 : IVec S16 32) (v4069 : IVec S16 32) (v4078 : IVec S16 32) : Prop :=
  (∀ (k1_h1 : k1_cond1 i = 1#1), ∀ a x, ((![v4064, v4069, v4078] : Fin 3 → IVec S16 32) a x).toNat < S32x8x20.size a) ∧
  (∀ (k1_h1 : k1_cond1 i = 1#1), ∀ a x, ((![v4066, v4078] : Fin 2 → IVec S16 32) a x).toNat < S128x20.size a)
theorem k1_idx209_inb : ∀ (i : grid1.Coords) (v4064 : IVec S16 32) (v4066 : IVec S16 32) (v4069 : IVec S16 32) (v4078 : IVec S16 32) (k1_hw201 : k1_chk201 i v4064 v4066 v4069 v4078), ∀ (k1_h1 : k1_cond1 i = 1#1), ∀ a x, ((![v4064, v4069, v4078] : Fin 3 → IVec S16 32) a x).toNat < S32x8x20.size a := fun i v4064 v4066 v4069 v4078 k1_hw201 k1_h1 => k1_hw201.1 k1_h1
theorem k1_idx210_inb : ∀ (i : grid1.Coords) (v4064 : IVec S16 32) (v4066 : IVec S16 32) (v4069 : IVec S16 32) (v4078 : IVec S16 32) (k1_hw201 : k1_chk201 i v4064 v4066 v4069 v4078), ∀ (k1_h1 : k1_cond1 i = 1#1), ∀ a x, ((![v4066, v4078] : Fin 2 → IVec S16 32) a x).toNat < S128x20.size a := fun i v4064 v4066 v4069 v4078 k1_hw201 k1_h1 => k1_hw201.2 k1_h1

def k1_chk202 (i : grid1.Coords) (v4064 : IVec S16 32) (v4066 : IVec S16 32) (v4069 : IVec S16 32) (v4080 : IVec S16 32) : Prop :=
  (∀ (k1_h1 : k1_cond1 i = 1#1), ∀ a x, ((![v4064, v4069, v4080] : Fin 3 → IVec S16 32) a x).toNat < S32x8x20.size a) ∧
  (∀ (k1_h1 : k1_cond1 i = 1#1), ∀ a x, ((![v4066, v4080] : Fin 2 → IVec S16 32) a x).toNat < S128x20.size a)
theorem k1_idx211_inb : ∀ (i : grid1.Coords) (v4064 : IVec S16 32) (v4066 : IVec S16 32) (v4069 : IVec S16 32) (v4080 : IVec S16 32) (k1_hw202 : k1_chk202 i v4064 v4066 v4069 v4080), ∀ (k1_h1 : k1_cond1 i = 1#1), ∀ a x, ((![v4064, v4069, v4080] : Fin 3 → IVec S16 32) a x).toNat < S32x8x20.size a := fun i v4064 v4066 v4069 v4080 k1_hw202 k1_h1 => k1_hw202.1 k1_h1
theorem k1_idx212_inb : ∀ (i : grid1.Coords) (v4064 : IVec S16 32) (v4066 : IVec S16 32) (v4069 : IVec S16 32) (v4080 : IVec S16 32) (k1_hw202 : k1_chk202 i v4064 v4066 v4069 v4080), ∀ (k1_h1 : k1_cond1 i = 1#1), ∀ a x, ((![v4066, v4080] : Fin 2 → IVec S16 32) a x).toNat < S128x20.size a := fun i v4064 v4066 v4069 v4080 k1_hw202 k1_h1 => k1_hw202.2 k1_h1

def k1_chk203 (i : grid1.Coords) (v4064 : IVec S16 32) (v4066 : IVec S16 32) (v4069 : IVec S16 32) (v4082 : IVec S16 32) : Prop :=
  (∀ (k1_h1 : k1_cond1 i = 1#1), ∀ a x, ((![v4064, v4069, v4082] : Fin 3 → IVec S16 32) a x).toNat < S32x8x20.size a) ∧
  (∀ (k1_h1 : k1_cond1 i = 1#1), ∀ a x, ((![v4066, v4082] : Fin 2 → IVec S16 32) a x).toNat < S128x20.size a)
theorem k1_idx213_inb : ∀ (i : grid1.Coords) (v4064 : IVec S16 32) (v4066 : IVec S16 32) (v4069 : IVec S16 32) (v4082 : IVec S16 32) (k1_hw203 : k1_chk203 i v4064 v4066 v4069 v4082), ∀ (k1_h1 : k1_cond1 i = 1#1), ∀ a x, ((![v4064, v4069, v4082] : Fin 3 → IVec S16 32) a x).toNat < S32x8x20.size a := fun i v4064 v4066 v4069 v4082 k1_hw203 k1_h1 => k1_hw203.1 k1_h1
theorem k1_idx214_inb : ∀ (i : grid1.Coords) (v4064 : IVec S16 32) (v4066 : IVec S16 32) (v4069 : IVec S16 32) (v4082 : IVec S16 32) (k1_hw203 : k1_chk203 i v4064 v4066 v4069 v4082), ∀ (k1_h1 : k1_cond1 i = 1#1), ∀ a x, ((![v4066, v4082] : Fin 2 → IVec S16 32) a x).toNat < S128x20.size a := fun i v4064 v4066 v4069 v4082 k1_hw203 k1_h1 => k1_hw203.2 k1_h1

def k1_chk204 (i : grid1.Coords) (v4064 : IVec S16 32) (v4066 : IVec S16 32) (v4069 : IVec S16 32) (v4084 : IVec S16 32) : Prop :=
  (∀ (k1_h1 : k1_cond1 i = 1#1), ∀ a x, ((![v4064, v4069, v4084] : Fin 3 → IVec S16 32) a x).toNat < S32x8x20.size a) ∧
  (∀ (k1_h1 : k1_cond1 i = 1#1), ∀ a x, ((![v4066, v4084] : Fin 2 → IVec S16 32) a x).toNat < S128x20.size a)
theorem k1_idx215_inb : ∀ (i : grid1.Coords) (v4064 : IVec S16 32) (v4066 : IVec S16 32) (v4069 : IVec S16 32) (v4084 : IVec S16 32) (k1_hw204 : k1_chk204 i v4064 v4066 v4069 v4084), ∀ (k1_h1 : k1_cond1 i = 1#1), ∀ a x, ((![v4064, v4069, v4084] : Fin 3 → IVec S16 32) a x).toNat < S32x8x20.size a := fun i v4064 v4066 v4069 v4084 k1_hw204 k1_h1 => k1_hw204.1 k1_h1
theorem k1_idx216_inb : ∀ (i : grid1.Coords) (v4064 : IVec S16 32) (v4066 : IVec S16 32) (v4069 : IVec S16 32) (v4084 : IVec S16 32) (k1_hw204 : k1_chk204 i v4064 v4066 v4069 v4084), ∀ (k1_h1 : k1_cond1 i = 1#1), ∀ a x, ((![v4066, v4084] : Fin 2 → IVec S16 32) a x).toNat < S128x20.size a := fun i v4064 v4066 v4069 v4084 k1_hw204 k1_h1 => k1_hw204.2 k1_h1

def k1_chk205 (i : grid1.Coords) (v4064 : IVec S16 32) (v4066 : IVec S16 32) (v4069 : IVec S16 32) (v4086 : IVec S16 32) : Prop :=
  (∀ (k1_h1 : k1_cond1 i = 1#1), ∀ a x, ((![v4064, v4069, v4086] : Fin 3 → IVec S16 32) a x).toNat < S32x8x20.size a) ∧
  (∀ (k1_h1 : k1_cond1 i = 1#1), ∀ a x, ((![v4066, v4086] : Fin 2 → IVec S16 32) a x).toNat < S128x20.size a)
theorem k1_idx217_inb : ∀ (i : grid1.Coords) (v4064 : IVec S16 32) (v4066 : IVec S16 32) (v4069 : IVec S16 32) (v4086 : IVec S16 32) (k1_hw205 : k1_chk205 i v4064 v4066 v4069 v4086), ∀ (k1_h1 : k1_cond1 i = 1#1), ∀ a x, ((![v4064, v4069, v4086] : Fin 3 → IVec S16 32) a x).toNat < S32x8x20.size a := fun i v4064 v4066 v4069 v4086 k1_hw205 k1_h1 => k1_hw205.1 k1_h1
theorem k1_idx218_inb : ∀ (i : grid1.Coords) (v4064 : IVec S16 32) (v4066 : IVec S16 32) (v4069 : IVec S16 32) (v4086 : IVec S16 32) (k1_hw205 : k1_chk205 i v4064 v4066 v4069 v4086), ∀ (k1_h1 : k1_cond1 i = 1#1), ∀ a x, ((![v4066, v4086] : Fin 2 → IVec S16 32) a x).toNat < S128x20.size a := fun i v4064 v4066 v4069 v4086 k1_hw205 k1_h1 => k1_hw205.2 k1_h1

def k1_chk206 (i : grid1.Coords) (v4064 : IVec S16 32) (v4066 : IVec S16 32) (v4069 : IVec S16 32) (v4088 : IVec S16 32) : Prop :=
  (∀ (k1_h1 : k1_cond1 i = 1#1), ∀ a x, ((![v4064, v4069, v4088] : Fin 3 → IVec S16 32) a x).toNat < S32x8x20.size a) ∧
  (∀ (k1_h1 : k1_cond1 i = 1#1), ∀ a x, ((![v4066, v4088] : Fin 2 → IVec S16 32) a x).toNat < S128x20.size a)
theorem k1_idx219_inb : ∀ (i : grid1.Coords) (v4064 : IVec S16 32) (v4066 : IVec S16 32) (v4069 : IVec S16 32) (v4088 : IVec S16 32) (k1_hw206 : k1_chk206 i v4064 v4066 v4069 v4088), ∀ (k1_h1 : k1_cond1 i = 1#1), ∀ a x, ((![v4064, v4069, v4088] : Fin 3 → IVec S16 32) a x).toNat < S32x8x20.size a := fun i v4064 v4066 v4069 v4088 k1_hw206 k1_h1 => k1_hw206.1 k1_h1
theorem k1_idx220_inb : ∀ (i : grid1.Coords) (v4064 : IVec S16 32) (v4066 : IVec S16 32) (v4069 : IVec S16 32) (v4088 : IVec S16 32) (k1_hw206 : k1_chk206 i v4064 v4066 v4069 v4088), ∀ (k1_h1 : k1_cond1 i = 1#1), ∀ a x, ((![v4066, v4088] : Fin 2 → IVec S16 32) a x).toNat < S128x20.size a := fun i v4064 v4066 v4069 v4088 k1_hw206 k1_h1 => k1_hw206.2 k1_h1

def k1_chk207 (i : grid1.Coords) (v4064 : IVec S16 32) (v4066 : IVec S16 32) (v4069 : IVec S16 32) (v4090 : IVec S16 32) : Prop :=
  (∀ (k1_h1 : k1_cond1 i = 1#1), ∀ a x, ((![v4064, v4069, v4090] : Fin 3 → IVec S16 32) a x).toNat < S32x8x20.size a) ∧
  (∀ (k1_h1 : k1_cond1 i = 1#1), ∀ a x, ((![v4066, v4090] : Fin 2 → IVec S16 32) a x).toNat < S128x20.size a)
theorem k1_idx221_inb : ∀ (i : grid1.Coords) (v4064 : IVec S16 32) (v4066 : IVec S16 32) (v4069 : IVec S16 32) (v4090 : IVec S16 32) (k1_hw207 : k1_chk207 i v4064 v4066 v4069 v4090), ∀ (k1_h1 : k1_cond1 i = 1#1), ∀ a x, ((![v4064, v4069, v4090] : Fin 3 → IVec S16 32) a x).toNat < S32x8x20.size a := fun i v4064 v4066 v4069 v4090 k1_hw207 k1_h1 => k1_hw207.1 k1_h1
theorem k1_idx222_inb : ∀ (i : grid1.Coords) (v4064 : IVec S16 32) (v4066 : IVec S16 32) (v4069 : IVec S16 32) (v4090 : IVec S16 32) (k1_hw207 : k1_chk207 i v4064 v4066 v4069 v4090), ∀ (k1_h1 : k1_cond1 i = 1#1), ∀ a x, ((![v4066, v4090] : Fin 2 → IVec S16 32) a x).toNat < S128x20.size a := fun i v4064 v4066 v4069 v4090 k1_hw207 k1_h1 => k1_hw207.2 k1_h1

def k1_chk208 (i : grid1.Coords) (v4064 : IVec S16 32) (v4066 : IVec S16 32) (v4069 : IVec S16 32) (v4092 : IVec S16 32) : Prop :=
  (∀ (k1_h1 : k1_cond1 i = 1#1), ∀ a x, ((![v4064, v4069, v4092] : Fin 3 → IVec S16 32) a x).toNat < S32x8x20.size a) ∧
  (∀ (k1_h1 : k1_cond1 i = 1#1), ∀ a x, ((![v4066, v4092] : Fin 2 → IVec S16 32) a x).toNat < S128x20.size a)
theorem k1_idx223_inb : ∀ (i : grid1.Coords) (v4064 : IVec S16 32) (v4066 : IVec S16 32) (v4069 : IVec S16 32) (v4092 : IVec S16 32) (k1_hw208 : k1_chk208 i v4064 v4066 v4069 v4092), ∀ (k1_h1 : k1_cond1 i = 1#1), ∀ a x, ((![v4064, v4069, v4092] : Fin 3 → IVec S16 32) a x).toNat < S32x8x20.size a := fun i v4064 v4066 v4069 v4092 k1_hw208 k1_h1 => k1_hw208.1 k1_h1
theorem k1_idx224_inb : ∀ (i : grid1.Coords) (v4064 : IVec S16 32) (v4066 : IVec S16 32) (v4069 : IVec S16 32) (v4092 : IVec S16 32) (k1_hw208 : k1_chk208 i v4064 v4066 v4069 v4092), ∀ (k1_h1 : k1_cond1 i = 1#1), ∀ a x, ((![v4066, v4092] : Fin 2 → IVec S16 32) a x).toNat < S128x20.size a := fun i v4064 v4066 v4069 v4092 k1_hw208 k1_h1 => k1_hw208.2 k1_h1

def k1_chk209 (i : grid1.Coords) (v4064 : IVec S16 32) (v4066 : IVec S16 32) (v4069 : IVec S16 32) (v4094 : IVec S16 32) : Prop :=
  (∀ (k1_h1 : k1_cond1 i = 1#1), ∀ a x, ((![v4064, v4069, v4094] : Fin 3 → IVec S16 32) a x).toNat < S32x8x20.size a) ∧
  (∀ (k1_h1 : k1_cond1 i = 1#1), ∀ a x, ((![v4066, v4094] : Fin 2 → IVec S16 32) a x).toNat < S128x20.size a)
theorem k1_idx225_inb : ∀ (i : grid1.Coords) (v4064 : IVec S16 32) (v4066 : IVec S16 32) (v4069 : IVec S16 32) (v4094 : IVec S16 32) (k1_hw209 : k1_chk209 i v4064 v4066 v4069 v4094), ∀ (k1_h1 : k1_cond1 i = 1#1), ∀ a x, ((![v4064, v4069, v4094] : Fin 3 → IVec S16 32) a x).toNat < S32x8x20.size a := fun i v4064 v4066 v4069 v4094 k1_hw209 k1_h1 => k1_hw209.1 k1_h1
theorem k1_idx226_inb : ∀ (i : grid1.Coords) (v4064 : IVec S16 32) (v4066 : IVec S16 32) (v4069 : IVec S16 32) (v4094 : IVec S16 32) (k1_hw209 : k1_chk209 i v4064 v4066 v4069 v4094), ∀ (k1_h1 : k1_cond1 i = 1#1), ∀ a x, ((![v4066, v4094] : Fin 2 → IVec S16 32) a x).toNat < S128x20.size a := fun i v4064 v4066 v4069 v4094 k1_hw209 k1_h1 => k1_hw209.2 k1_h1

def k1_chk210 (i : grid1.Coords) (v4064 : IVec S16 32) (v4066 : IVec S16 32) (v4069 : IVec S16 32) (v4096 : IVec S16 32) : Prop :=
  (∀ (k1_h1 : k1_cond1 i = 1#1), ∀ a x, ((![v4064, v4069, v4096] : Fin 3 → IVec S16 32) a x).toNat < S32x8x20.size a) ∧
  (∀ (k1_h1 : k1_cond1 i = 1#1), ∀ a x, ((![v4066, v4096] : Fin 2 → IVec S16 32) a x).toNat < S128x20.size a)
theorem k1_idx227_inb : ∀ (i : grid1.Coords) (v4064 : IVec S16 32) (v4066 : IVec S16 32) (v4069 : IVec S16 32) (v4096 : IVec S16 32) (k1_hw210 : k1_chk210 i v4064 v4066 v4069 v4096), ∀ (k1_h1 : k1_cond1 i = 1#1), ∀ a x, ((![v4064, v4069, v4096] : Fin 3 → IVec S16 32) a x).toNat < S32x8x20.size a := fun i v4064 v4066 v4069 v4096 k1_hw210 k1_h1 => k1_hw210.1 k1_h1
theorem k1_idx228_inb : ∀ (i : grid1.Coords) (v4064 : IVec S16 32) (v4066 : IVec S16 32) (v4069 : IVec S16 32) (v4096 : IVec S16 32) (k1_hw210 : k1_chk210 i v4064 v4066 v4069 v4096), ∀ (k1_h1 : k1_cond1 i = 1#1), ∀ a x, ((![v4066, v4096] : Fin 2 → IVec S16 32) a x).toNat < S128x20.size a := fun i v4064 v4066 v4069 v4096 k1_hw210 k1_h1 => k1_hw210.2 k1_h1

def k1_chk211 (i : grid1.Coords) (v4064 : IVec S16 32) (v4066 : IVec S16 32) (v4069 : IVec S16 32) (v4098 : IVec S16 32) : Prop :=
  (∀ (k1_h1 : k1_cond1 i = 1#1), ∀ a x, ((![v4064, v4069, v4098] : Fin 3 → IVec S16 32) a x).toNat < S32x8x20.size a) ∧
  (∀ (k1_h1 : k1_cond1 i = 1#1), ∀ a x, ((![v4066, v4098] : Fin 2 → IVec S16 32) a x).toNat < S128x20.size a)
theorem k1_idx229_inb : ∀ (i : grid1.Coords) (v4064 : IVec S16 32) (v4066 : IVec S16 32) (v4069 : IVec S16 32) (v4098 : IVec S16 32) (k1_hw211 : k1_chk211 i v4064 v4066 v4069 v4098), ∀ (k1_h1 : k1_cond1 i = 1#1), ∀ a x, ((![v4064, v4069, v4098] : Fin 3 → IVec S16 32) a x).toNat < S32x8x20.size a := fun i v4064 v4066 v4069 v4098 k1_hw211 k1_h1 => k1_hw211.1 k1_h1
theorem k1_idx230_inb : ∀ (i : grid1.Coords) (v4064 : IVec S16 32) (v4066 : IVec S16 32) (v4069 : IVec S16 32) (v4098 : IVec S16 32) (k1_hw211 : k1_chk211 i v4064 v4066 v4069 v4098), ∀ (k1_h1 : k1_cond1 i = 1#1), ∀ a x, ((![v4066, v4098] : Fin 2 → IVec S16 32) a x).toNat < S128x20.size a := fun i v4064 v4066 v4069 v4098 k1_hw211 k1_h1 => k1_hw211.2 k1_h1

def k1_chk212 (i : grid1.Coords) (v4064 : IVec S16 32) (v4066 : IVec S16 32) (v4069 : IVec S16 32) (v4100 : IVec S16 32) : Prop :=
  (∀ (k1_h1 : k1_cond1 i = 1#1), ∀ a x, ((![v4064, v4069, v4100] : Fin 3 → IVec S16 32) a x).toNat < S32x8x20.size a) ∧
  (∀ (k1_h1 : k1_cond1 i = 1#1), ∀ a x, ((![v4066, v4100] : Fin 2 → IVec S16 32) a x).toNat < S128x20.size a)
theorem k1_idx231_inb : ∀ (i : grid1.Coords) (v4064 : IVec S16 32) (v4066 : IVec S16 32) (v4069 : IVec S16 32) (v4100 : IVec S16 32) (k1_hw212 : k1_chk212 i v4064 v4066 v4069 v4100), ∀ (k1_h1 : k1_cond1 i = 1#1), ∀ a x, ((![v4064, v4069, v4100] : Fin 3 → IVec S16 32) a x).toNat < S32x8x20.size a := fun i v4064 v4066 v4069 v4100 k1_hw212 k1_h1 => k1_hw212.1 k1_h1
theorem k1_idx232_inb : ∀ (i : grid1.Coords) (v4064 : IVec S16 32) (v4066 : IVec S16 32) (v4069 : IVec S16 32) (v4100 : IVec S16 32) (k1_hw212 : k1_chk212 i v4064 v4066 v4069 v4100), ∀ (k1_h1 : k1_cond1 i = 1#1), ∀ a x, ((![v4066, v4100] : Fin 2 → IVec S16 32) a x).toNat < S128x20.size a := fun i v4064 v4066 v4069 v4100 k1_hw212 k1_h1 => k1_hw212.2 k1_h1

def k1_chk213 (i : grid1.Coords) (v4064 : IVec S16 32) (v4066 : IVec S16 32) (v4069 : IVec S16 32) (v4102 : IVec S16 32) : Prop :=
  (∀ (k1_h1 : k1_cond1 i = 1#1), ∀ a x, ((![v4064, v4069, v4102] : Fin 3 → IVec S16 32) a x).toNat < S32x8x20.size a) ∧
  (∀ (k1_h1 : k1_cond1 i = 1#1), ∀ a x, ((![v4066, v4102] : Fin 2 → IVec S16 32) a x).toNat < S128x20.size a)
theorem k1_idx233_inb : ∀ (i : grid1.Coords) (v4064 : IVec S16 32) (v4066 : IVec S16 32) (v4069 : IVec S16 32) (v4102 : IVec S16 32) (k1_hw213 : k1_chk213 i v4064 v4066 v4069 v4102), ∀ (k1_h1 : k1_cond1 i = 1#1), ∀ a x, ((![v4064, v4069, v4102] : Fin 3 → IVec S16 32) a x).toNat < S32x8x20.size a := fun i v4064 v4066 v4069 v4102 k1_hw213 k1_h1 => k1_hw213.1 k1_h1
theorem k1_idx234_inb : ∀ (i : grid1.Coords) (v4064 : IVec S16 32) (v4066 : IVec S16 32) (v4069 : IVec S16 32) (v4102 : IVec S16 32) (k1_hw213 : k1_chk213 i v4064 v4066 v4069 v4102), ∀ (k1_h1 : k1_cond1 i = 1#1), ∀ a x, ((![v4066, v4102] : Fin 2 → IVec S16 32) a x).toNat < S128x20.size a := fun i v4064 v4066 v4069 v4102 k1_hw213 k1_h1 => k1_hw213.2 k1_h1

def k1_chk214 (i : grid1.Coords) (v4064 : IVec S16 32) (v4066 : IVec S16 32) (v4069 : IVec S16 32) (v4104 : IVec S16 32) : Prop :=
  (∀ (k1_h1 : k1_cond1 i = 1#1), ∀ a x, ((![v4064, v4069, v4104] : Fin 3 → IVec S16 32) a x).toNat < S32x8x20.size a) ∧
  (∀ (k1_h1 : k1_cond1 i = 1#1), ∀ a x, ((![v4066, v4104] : Fin 2 → IVec S16 32) a x).toNat < S128x20.size a)
theorem k1_idx235_inb : ∀ (i : grid1.Coords) (v4064 : IVec S16 32) (v4066 : IVec S16 32) (v4069 : IVec S16 32) (v4104 : IVec S16 32) (k1_hw214 : k1_chk214 i v4064 v4066 v4069 v4104), ∀ (k1_h1 : k1_cond1 i = 1#1), ∀ a x, ((![v4064, v4069, v4104] : Fin 3 → IVec S16 32) a x).toNat < S32x8x20.size a := fun i v4064 v4066 v4069 v4104 k1_hw214 k1_h1 => k1_hw214.1 k1_h1
theorem k1_idx236_inb : ∀ (i : grid1.Coords) (v4064 : IVec S16 32) (v4066 : IVec S16 32) (v4069 : IVec S16 32) (v4104 : IVec S16 32) (k1_hw214 : k1_chk214 i v4064 v4066 v4069 v4104), ∀ (k1_h1 : k1_cond1 i = 1#1), ∀ a x, ((![v4066, v4104] : Fin 2 → IVec S16 32) a x).toNat < S128x20.size a := fun i v4064 v4066 v4069 v4104 k1_hw214 k1_h1 => k1_hw214.2 k1_h1

def k1_chk215 (i : grid1.Coords) (v4064 : IVec S16 32) (v4066 : IVec S16 32) (v4069 : IVec S16 32) (v4106 : IVec S16 32) : Prop :=
  (∀ (k1_h1 : k1_cond1 i = 1#1), ∀ a x, ((![v4064, v4069, v4106] : Fin 3 → IVec S16 32) a x).toNat < S32x8x20.size a) ∧
  (∀ (k1_h1 : k1_cond1 i = 1#1), ∀ a x, ((![v4066, v4106] : Fin 2 → IVec S16 32) a x).toNat < S128x20.size a)
theorem k1_idx237_inb : ∀ (i : grid1.Coords) (v4064 : IVec S16 32) (v4066 : IVec S16 32) (v4069 : IVec S16 32) (v4106 : IVec S16 32) (k1_hw215 : k1_chk215 i v4064 v4066 v4069 v4106), ∀ (k1_h1 : k1_cond1 i = 1#1), ∀ a x, ((![v4064, v4069, v4106] : Fin 3 → IVec S16 32) a x).toNat < S32x8x20.size a := fun i v4064 v4066 v4069 v4106 k1_hw215 k1_h1 => k1_hw215.1 k1_h1
theorem k1_idx238_inb : ∀ (i : grid1.Coords) (v4064 : IVec S16 32) (v4066 : IVec S16 32) (v4069 : IVec S16 32) (v4106 : IVec S16 32) (k1_hw215 : k1_chk215 i v4064 v4066 v4069 v4106), ∀ (k1_h1 : k1_cond1 i = 1#1), ∀ a x, ((![v4066, v4106] : Fin 2 → IVec S16 32) a x).toNat < S128x20.size a := fun i v4064 v4066 v4069 v4106 k1_hw215 k1_h1 => k1_hw215.2 k1_h1

def k1_chk216 (i : grid1.Coords) (v4064 : IVec S16 32) (v4066 : IVec S16 32) (v4069 : IVec S16 32) (v4108 : IVec S16 32) : Prop :=
  (∀ (k1_h1 : k1_cond1 i = 1#1), ∀ a x, ((![v4064, v4069, v4108] : Fin 3 → IVec S16 32) a x).toNat < S32x8x20.size a) ∧
  (∀ (k1_h1 : k1_cond1 i = 1#1), ∀ a x, ((![v4066, v4108] : Fin 2 → IVec S16 32) a x).toNat < S128x20.size a)
theorem k1_idx239_inb : ∀ (i : grid1.Coords) (v4064 : IVec S16 32) (v4066 : IVec S16 32) (v4069 : IVec S16 32) (v4108 : IVec S16 32) (k1_hw216 : k1_chk216 i v4064 v4066 v4069 v4108), ∀ (k1_h1 : k1_cond1 i = 1#1), ∀ a x, ((![v4064, v4069, v4108] : Fin 3 → IVec S16 32) a x).toNat < S32x8x20.size a := fun i v4064 v4066 v4069 v4108 k1_hw216 k1_h1 => k1_hw216.1 k1_h1
theorem k1_idx240_inb : ∀ (i : grid1.Coords) (v4064 : IVec S16 32) (v4066 : IVec S16 32) (v4069 : IVec S16 32) (v4108 : IVec S16 32) (k1_hw216 : k1_chk216 i v4064 v4066 v4069 v4108), ∀ (k1_h1 : k1_cond1 i = 1#1), ∀ a x, ((![v4066, v4108] : Fin 2 → IVec S16 32) a x).toNat < S128x20.size a := fun i v4064 v4066 v4069 v4108 k1_hw216 k1_h1 => k1_hw216.2 k1_h1

def k1_chk217 (i : grid1.Coords) (v4064 : IVec S16 32) (v4066 : IVec S16 32) (v4069 : IVec S16 32) (v4110 : IVec S16 32) : Prop :=
  (∀ (k1_h1 : k1_cond1 i = 1#1), ∀ a x, ((![v4064, v4069, v4110] : Fin 3 → IVec S16 32) a x).toNat < S32x8x5.size a) ∧
  (∀ (k1_h1 : k1_cond1 i = 1#1), ∀ a x, ((![v4066, v4110] : Fin 2 → IVec S16 32) a x).toNat < S128x5.size a)
theorem k1_idx241_inb : ∀ (i : grid1.Coords) (v4064 : IVec S16 32) (v4066 : IVec S16 32) (v4069 : IVec S16 32) (v4110 : IVec S16 32) (k1_hw217 : k1_chk217 i v4064 v4066 v4069 v4110), ∀ (k1_h1 : k1_cond1 i = 1#1), ∀ a x, ((![v4064, v4069, v4110] : Fin 3 → IVec S16 32) a x).toNat < S32x8x5.size a := fun i v4064 v4066 v4069 v4110 k1_hw217 k1_h1 => k1_hw217.1 k1_h1
theorem k1_idx242_inb : ∀ (i : grid1.Coords) (v4064 : IVec S16 32) (v4066 : IVec S16 32) (v4069 : IVec S16 32) (v4110 : IVec S16 32) (k1_hw217 : k1_chk217 i v4064 v4066 v4069 v4110), ∀ (k1_h1 : k1_cond1 i = 1#1), ∀ a x, ((![v4066, v4110] : Fin 2 → IVec S16 32) a x).toNat < S128x5.size a := fun i v4064 v4066 v4069 v4110 k1_hw217 k1_h1 => k1_hw217.2 k1_h1

def k1_chk218 (i : grid1.Coords) (v4064 : IVec S16 32) (v4066 : IVec S16 32) (v4069 : IVec S16 32) (v4112 : IVec S16 32) : Prop :=
  (∀ (k1_h1 : k1_cond1 i = 1#1), ∀ a x, ((![v4064, v4069, v4112] : Fin 3 → IVec S16 32) a x).toNat < S32x8x5.size a) ∧
  (∀ (k1_h1 : k1_cond1 i = 1#1), ∀ a x, ((![v4066, v4112] : Fin 2 → IVec S16 32) a x).toNat < S128x5.size a)
theorem k1_idx243_inb : ∀ (i : grid1.Coords) (v4064 : IVec S16 32) (v4066 : IVec S16 32) (v4069 : IVec S16 32) (v4112 : IVec S16 32) (k1_hw218 : k1_chk218 i v4064 v4066 v4069 v4112), ∀ (k1_h1 : k1_cond1 i = 1#1), ∀ a x, ((![v4064, v4069, v4112] : Fin 3 → IVec S16 32) a x).toNat < S32x8x5.size a := fun i v4064 v4066 v4069 v4112 k1_hw218 k1_h1 => k1_hw218.1 k1_h1
theorem k1_idx244_inb : ∀ (i : grid1.Coords) (v4064 : IVec S16 32) (v4066 : IVec S16 32) (v4069 : IVec S16 32) (v4112 : IVec S16 32) (k1_hw218 : k1_chk218 i v4064 v4066 v4069 v4112), ∀ (k1_h1 : k1_cond1 i = 1#1), ∀ a x, ((![v4066, v4112] : Fin 2 → IVec S16 32) a x).toNat < S128x5.size a := fun i v4064 v4066 v4069 v4112 k1_hw218 k1_h1 => k1_hw218.2 k1_h1

def k1_chk219 (i : grid1.Coords) (v4064 : IVec S16 32) (v4066 : IVec S16 32) (v4069 : IVec S16 32) (v4114 : IVec S16 32) : Prop :=
  (∀ (k1_h1 : k1_cond1 i = 1#1), ∀ a x, ((![v4064, v4069, v4114] : Fin 3 → IVec S16 32) a x).toNat < S32x8x5.size a) ∧
  (∀ (k1_h1 : k1_cond1 i = 1#1), ∀ a x, ((![v4066, v4114] : Fin 2 → IVec S16 32) a x).toNat < S128x5.size a)
theorem k1_idx245_inb : ∀ (i : grid1.Coords) (v4064 : IVec S16 32) (v4066 : IVec S16 32) (v4069 : IVec S16 32) (v4114 : IVec S16 32) (k1_hw219 : k1_chk219 i v4064 v4066 v4069 v4114), ∀ (k1_h1 : k1_cond1 i = 1#1), ∀ a x, ((![v4064, v4069, v4114] : Fin 3 → IVec S16 32) a x).toNat < S32x8x5.size a := fun i v4064 v4066 v4069 v4114 k1_hw219 k1_h1 => k1_hw219.1 k1_h1
theorem k1_idx246_inb : ∀ (i : grid1.Coords) (v4064 : IVec S16 32) (v4066 : IVec S16 32) (v4069 : IVec S16 32) (v4114 : IVec S16 32) (k1_hw219 : k1_chk219 i v4064 v4066 v4069 v4114), ∀ (k1_h1 : k1_cond1 i = 1#1), ∀ a x, ((![v4066, v4114] : Fin 2 → IVec S16 32) a x).toNat < S128x5.size a := fun i v4064 v4066 v4069 v4114 k1_hw219 k1_h1 => k1_hw219.2 k1_h1

def k1_chk220 (i : grid1.Coords) (v4064 : IVec S16 32) (v4066 : IVec S16 32) (v4069 : IVec S16 32) (v4116 : IVec S16 32) : Prop :=
  (∀ (k1_h1 : k1_cond1 i = 1#1), ∀ a x, ((![v4064, v4069, v4116] : Fin 3 → IVec S16 32) a x).toNat < S32x8x5.size a) ∧
  (∀ (k1_h1 : k1_cond1 i = 1#1), ∀ a x, ((![v4066, v4116] : Fin 2 → IVec S16 32) a x).toNat < S128x5.size a)
theorem k1_idx247_inb : ∀ (i : grid1.Coords) (v4064 : IVec S16 32) (v4066 : IVec S16 32) (v4069 : IVec S16 32) (v4116 : IVec S16 32) (k1_hw220 : k1_chk220 i v4064 v4066 v4069 v4116), ∀ (k1_h1 : k1_cond1 i = 1#1), ∀ a x, ((![v4064, v4069, v4116] : Fin 3 → IVec S16 32) a x).toNat < S32x8x5.size a := fun i v4064 v4066 v4069 v4116 k1_hw220 k1_h1 => k1_hw220.1 k1_h1
theorem k1_idx248_inb : ∀ (i : grid1.Coords) (v4064 : IVec S16 32) (v4066 : IVec S16 32) (v4069 : IVec S16 32) (v4116 : IVec S16 32) (k1_hw220 : k1_chk220 i v4064 v4066 v4069 v4116), ∀ (k1_h1 : k1_cond1 i = 1#1), ∀ a x, ((![v4066, v4116] : Fin 2 → IVec S16 32) a x).toNat < S128x5.size a := fun i v4064 v4066 v4069 v4116 k1_hw220 k1_h1 => k1_hw220.2 k1_h1

def k1_chk221 (i : grid1.Coords) (v4064 : IVec S16 32) (v4066 : IVec S16 32) (v4069 : IVec S16 32) (v4118 : IVec S16 32) : Prop :=
  (∀ (k1_h1 : k1_cond1 i = 1#1), ∀ a x, ((![v4064, v4069, v4118] : Fin 3 → IVec S16 32) a x).toNat < S32x8x5.size a) ∧
  (∀ (k1_h1 : k1_cond1 i = 1#1), ∀ a x, ((![v4066, v4118] : Fin 2 → IVec S16 32) a x).toNat < S128x5.size a)
theorem k1_idx249_inb : ∀ (i : grid1.Coords) (v4064 : IVec S16 32) (v4066 : IVec S16 32) (v4069 : IVec S16 32) (v4118 : IVec S16 32) (k1_hw221 : k1_chk221 i v4064 v4066 v4069 v4118), ∀ (k1_h1 : k1_cond1 i = 1#1), ∀ a x, ((![v4064, v4069, v4118] : Fin 3 → IVec S16 32) a x).toNat < S32x8x5.size a := fun i v4064 v4066 v4069 v4118 k1_hw221 k1_h1 => k1_hw221.1 k1_h1
theorem k1_idx250_inb : ∀ (i : grid1.Coords) (v4064 : IVec S16 32) (v4066 : IVec S16 32) (v4069 : IVec S16 32) (v4118 : IVec S16 32) (k1_hw221 : k1_chk221 i v4064 v4066 v4069 v4118), ∀ (k1_h1 : k1_cond1 i = 1#1), ∀ a x, ((![v4066, v4118] : Fin 2 → IVec S16 32) a x).toNat < S128x5.size a := fun i v4064 v4066 v4069 v4118 k1_hw221 k1_h1 => k1_hw221.2 k1_h1

def k1_chk222 (i : grid1.Coords) (v4121 : IVec S16 32) (v4123 : IVec S16 32) (v4126 : IVec S16 32) (v4127 : IVec S16 32) : Prop :=
  (∀ (k1_h1 : k1_cond1 i = 1#1), ∀ a x, ((![v4121, v4126, v4127] : Fin 3 → IVec S16 32) a x).toNat < S32x8x20.size a) ∧
  (∀ (k1_h1 : k1_cond1 i = 1#1), ∀ a x, ((![v4123, v4127] : Fin 2 → IVec S16 32) a x).toNat < S128x20.size a)
theorem k1_idx251_inb : ∀ (i : grid1.Coords) (v4121 : IVec S16 32) (v4123 : IVec S16 32) (v4126 : IVec S16 32) (v4127 : IVec S16 32) (k1_hw222 : k1_chk222 i v4121 v4123 v4126 v4127), ∀ (k1_h1 : k1_cond1 i = 1#1), ∀ a x, ((![v4121, v4126, v4127] : Fin 3 → IVec S16 32) a x).toNat < S32x8x20.size a := fun i v4121 v4123 v4126 v4127 k1_hw222 k1_h1 => k1_hw222.1 k1_h1
theorem k1_idx252_inb : ∀ (i : grid1.Coords) (v4121 : IVec S16 32) (v4123 : IVec S16 32) (v4126 : IVec S16 32) (v4127 : IVec S16 32) (k1_hw222 : k1_chk222 i v4121 v4123 v4126 v4127), ∀ (k1_h1 : k1_cond1 i = 1#1), ∀ a x, ((![v4123, v4127] : Fin 2 → IVec S16 32) a x).toNat < S128x20.size a := fun i v4121 v4123 v4126 v4127 k1_hw222 k1_h1 => k1_hw222.2 k1_h1

def k1_chk223 (i : grid1.Coords) (v4121 : IVec S16 32) (v4123 : IVec S16 32) (v4126 : IVec S16 32) (v4129 : IVec S16 32) : Prop :=
  (∀ (k1_h1 : k1_cond1 i = 1#1), ∀ a x, ((![v4121, v4126, v4129] : Fin 3 → IVec S16 32) a x).toNat < S32x8x20.size a) ∧
  (∀ (k1_h1 : k1_cond1 i = 1#1), ∀ a x, ((![v4123, v4129] : Fin 2 → IVec S16 32) a x).toNat < S128x20.size a)
theorem k1_idx253_inb : ∀ (i : grid1.Coords) (v4121 : IVec S16 32) (v4123 : IVec S16 32) (v4126 : IVec S16 32) (v4129 : IVec S16 32) (k1_hw223 : k1_chk223 i v4121 v4123 v4126 v4129), ∀ (k1_h1 : k1_cond1 i = 1#1), ∀ a x, ((![v4121, v4126, v4129] : Fin 3 → IVec S16 32) a x).toNat < S32x8x20.size a := fun i v4121 v4123 v4126 v4129 k1_hw223 k1_h1 => k1_hw223.1 k1_h1
theorem k1_idx254_inb : ∀ (i : grid1.Coords) (v4121 : IVec S16 32) (v4123 : IVec S16 32) (v4126 : IVec S16 32) (v4129 : IVec S16 32) (k1_hw223 : k1_chk223 i v4121 v4123 v4126 v4129), ∀ (k1_h1 : k1_cond1 i = 1#1), ∀ a x, ((![v4123, v4129] : Fin 2 → IVec S16 32) a x).toNat < S128x20.size a := fun i v4121 v4123 v4126 v4129 k1_hw223 k1_h1 => k1_hw223.2 k1_h1

def k1_chk224 (i : grid1.Coords) (v4121 : IVec S16 32) (v4123 : IVec S16 32) (v4126 : IVec S16 32) (v4131 : IVec S16 32) : Prop :=
  (∀ (k1_h1 : k1_cond1 i = 1#1), ∀ a x, ((![v4121, v4126, v4131] : Fin 3 → IVec S16 32) a x).toNat < S32x8x20.size a) ∧
  (∀ (k1_h1 : k1_cond1 i = 1#1), ∀ a x, ((![v4123, v4131] : Fin 2 → IVec S16 32) a x).toNat < S128x20.size a)
theorem k1_idx255_inb : ∀ (i : grid1.Coords) (v4121 : IVec S16 32) (v4123 : IVec S16 32) (v4126 : IVec S16 32) (v4131 : IVec S16 32) (k1_hw224 : k1_chk224 i v4121 v4123 v4126 v4131), ∀ (k1_h1 : k1_cond1 i = 1#1), ∀ a x, ((![v4121, v4126, v4131] : Fin 3 → IVec S16 32) a x).toNat < S32x8x20.size a := fun i v4121 v4123 v4126 v4131 k1_hw224 k1_h1 => k1_hw224.1 k1_h1
theorem k1_idx256_inb : ∀ (i : grid1.Coords) (v4121 : IVec S16 32) (v4123 : IVec S16 32) (v4126 : IVec S16 32) (v4131 : IVec S16 32) (k1_hw224 : k1_chk224 i v4121 v4123 v4126 v4131), ∀ (k1_h1 : k1_cond1 i = 1#1), ∀ a x, ((![v4123, v4131] : Fin 2 → IVec S16 32) a x).toNat < S128x20.size a := fun i v4121 v4123 v4126 v4131 k1_hw224 k1_h1 => k1_hw224.2 k1_h1

def k1_chk225 (i : grid1.Coords) (v4121 : IVec S16 32) (v4123 : IVec S16 32) (v4126 : IVec S16 32) (v4133 : IVec S16 32) : Prop :=
  (∀ (k1_h1 : k1_cond1 i = 1#1), ∀ a x, ((![v4121, v4126, v4133] : Fin 3 → IVec S16 32) a x).toNat < S32x8x20.size a) ∧
  (∀ (k1_h1 : k1_cond1 i = 1#1), ∀ a x, ((![v4123, v4133] : Fin 2 → IVec S16 32) a x).toNat < S128x20.size a)
theorem k1_idx257_inb : ∀ (i : grid1.Coords) (v4121 : IVec S16 32) (v4123 : IVec S16 32) (v4126 : IVec S16 32) (v4133 : IVec S16 32) (k1_hw225 : k1_chk225 i v4121 v4123 v4126 v4133), ∀ (k1_h1 : k1_cond1 i = 1#1), ∀ a x, ((![v4121, v4126, v4133] : Fin 3 → IVec S16 32) a x).toNat < S32x8x20.size a := fun i v4121 v4123 v4126 v4133 k1_hw225 k1_h1 => k1_hw225.1 k1_h1
theorem k1_idx258_inb : ∀ (i : grid1.Coords) (v4121 : IVec S16 32) (v4123 : IVec S16 32) (v4126 : IVec S16 32) (v4133 : IVec S16 32) (k1_hw225 : k1_chk225 i v4121 v4123 v4126 v4133), ∀ (k1_h1 : k1_cond1 i = 1#1), ∀ a x, ((![v4123, v4133] : Fin 2 → IVec S16 32) a x).toNat < S128x20.size a := fun i v4121 v4123 v4126 v4133 k1_hw225 k1_h1 => k1_hw225.2 k1_h1

def k1_chk226 (i : grid1.Coords) (v4121 : IVec S16 32) (v4123 : IVec S16 32) (v4126 : IVec S16 32) (v4135 : IVec S16 32) : Prop :=
  (∀ (k1_h1 : k1_cond1 i = 1#1), ∀ a x, ((![v4121, v4126, v4135] : Fin 3 → IVec S16 32) a x).toNat < S32x8x20.size a) ∧
  (∀ (k1_h1 : k1_cond1 i = 1#1), ∀ a x, ((![v4123, v4135] : Fin 2 → IVec S16 32) a x).toNat < S128x20.size a)
theorem k1_idx259_inb : ∀ (i : grid1.Coords) (v4121 : IVec S16 32) (v4123 : IVec S16 32) (v4126 : IVec S16 32) (v4135 : IVec S16 32) (k1_hw226 : k1_chk226 i v4121 v4123 v4126 v4135), ∀ (k1_h1 : k1_cond1 i = 1#1), ∀ a x, ((![v4121, v4126, v4135] : Fin 3 → IVec S16 32) a x).toNat < S32x8x20.size a := fun i v4121 v4123 v4126 v4135 k1_hw226 k1_h1 => k1_hw226.1 k1_h1
theorem k1_idx260_inb : ∀ (i : grid1.Coords) (v4121 : IVec S16 32) (v4123 : IVec S16 32) (v4126 : IVec S16 32) (v4135 : IVec S16 32) (k1_hw226 : k1_chk226 i v4121 v4123 v4126 v4135), ∀ (k1_h1 : k1_cond1 i = 1#1), ∀ a x, ((![v4123, v4135] : Fin 2 → IVec S16 32) a x).toNat < S128x20.size a := fun i v4121 v4123 v4126 v4135 k1_hw226 k1_h1 => k1_hw226.2 k1_h1

def k1_chk227 (i : grid1.Coords) (v4121 : IVec S16 32) (v4123 : IVec S16 32) (v4126 : IVec S16 32) (v4137 : IVec S16 32) : Prop :=
  (∀ (k1_h1 : k1_cond1 i = 1#1), ∀ a x, ((![v4121, v4126, v4137] : Fin 3 → IVec S16 32) a x).toNat < S32x8x20.size a) ∧
  (∀ (k1_h1 : k1_cond1 i = 1#1), ∀ a x, ((![v4123, v4137] : Fin 2 → IVec S16 32) a x).toNat < S128x20.size a)
theorem k1_idx261_inb : ∀ (i : grid1.Coords) (v4121 : IVec S16 32) (v4123 : IVec S16 32) (v4126 : IVec S16 32) (v4137 : IVec S16 32) (k1_hw227 : k1_chk227 i v4121 v4123 v4126 v4137), ∀ (k1_h1 : k1_cond1 i = 1#1), ∀ a x, ((![v4121, v4126, v4137] : Fin 3 → IVec S16 32) a x).toNat < S32x8x20.size a := fun i v4121 v4123 v4126 v4137 k1_hw227 k1_h1 => k1_hw227.1 k1_h1
theorem k1_idx262_inb : ∀ (i : grid1.Coords) (v4121 : IVec S16 32) (v4123 : IVec S16 32) (v4126 : IVec S16 32) (v4137 : IVec S16 32) (k1_hw227 : k1_chk227 i v4121 v4123 v4126 v4137), ∀ (k1_h1 : k1_cond1 i = 1#1), ∀ a x, ((![v4123, v4137] : Fin 2 → IVec S16 32) a x).toNat < S128x20.size a := fun i v4121 v4123 v4126 v4137 k1_hw227 k1_h1 => k1_hw227.2 k1_h1

def k1_chk228 (i : grid1.Coords) (v4121 : IVec S16 32) (v4123 : IVec S16 32) (v4126 : IVec S16 32) (v4139 : IVec S16 32) : Prop :=
  (∀ (k1_h1 : k1_cond1 i = 1#1), ∀ a x, ((![v4121, v4126, v4139] : Fin 3 → IVec S16 32) a x).toNat < S32x8x20.size a) ∧
  (∀ (k1_h1 : k1_cond1 i = 1#1), ∀ a x, ((![v4123, v4139] : Fin 2 → IVec S16 32) a x).toNat < S128x20.size a)
theorem k1_idx263_inb : ∀ (i : grid1.Coords) (v4121 : IVec S16 32) (v4123 : IVec S16 32) (v4126 : IVec S16 32) (v4139 : IVec S16 32) (k1_hw228 : k1_chk228 i v4121 v4123 v4126 v4139), ∀ (k1_h1 : k1_cond1 i = 1#1), ∀ a x, ((![v4121, v4126, v4139] : Fin 3 → IVec S16 32) a x).toNat < S32x8x20.size a := fun i v4121 v4123 v4126 v4139 k1_hw228 k1_h1 => k1_hw228.1 k1_h1
theorem k1_idx264_inb : ∀ (i : grid1.Coords) (v4121 : IVec S16 32) (v4123 : IVec S16 32) (v4126 : IVec S16 32) (v4139 : IVec S16 32) (k1_hw228 : k1_chk228 i v4121 v4123 v4126 v4139), ∀ (k1_h1 : k1_cond1 i = 1#1), ∀ a x, ((![v4123, v4139] : Fin 2 → IVec S16 32) a x).toNat < S128x20.size a := fun i v4121 v4123 v4126 v4139 k1_hw228 k1_h1 => k1_hw228.2 k1_h1

def k1_chk229 (i : grid1.Coords) (v4121 : IVec S16 32) (v4123 : IVec S16 32) (v4126 : IVec S16 32) (v4141 : IVec S16 32) : Prop :=
  (∀ (k1_h1 : k1_cond1 i = 1#1), ∀ a x, ((![v4121, v4126, v4141] : Fin 3 → IVec S16 32) a x).toNat < S32x8x20.size a) ∧
  (∀ (k1_h1 : k1_cond1 i = 1#1), ∀ a x, ((![v4123, v4141] : Fin 2 → IVec S16 32) a x).toNat < S128x20.size a)
theorem k1_idx265_inb : ∀ (i : grid1.Coords) (v4121 : IVec S16 32) (v4123 : IVec S16 32) (v4126 : IVec S16 32) (v4141 : IVec S16 32) (k1_hw229 : k1_chk229 i v4121 v4123 v4126 v4141), ∀ (k1_h1 : k1_cond1 i = 1#1), ∀ a x, ((![v4121, v4126, v4141] : Fin 3 → IVec S16 32) a x).toNat < S32x8x20.size a := fun i v4121 v4123 v4126 v4141 k1_hw229 k1_h1 => k1_hw229.1 k1_h1
theorem k1_idx266_inb : ∀ (i : grid1.Coords) (v4121 : IVec S16 32) (v4123 : IVec S16 32) (v4126 : IVec S16 32) (v4141 : IVec S16 32) (k1_hw229 : k1_chk229 i v4121 v4123 v4126 v4141), ∀ (k1_h1 : k1_cond1 i = 1#1), ∀ a x, ((![v4123, v4141] : Fin 2 → IVec S16 32) a x).toNat < S128x20.size a := fun i v4121 v4123 v4126 v4141 k1_hw229 k1_h1 => k1_hw229.2 k1_h1

def k1_chk230 (i : grid1.Coords) (v4121 : IVec S16 32) (v4123 : IVec S16 32) (v4126 : IVec S16 32) (v4143 : IVec S16 32) : Prop :=
  (∀ (k1_h1 : k1_cond1 i = 1#1), ∀ a x, ((![v4121, v4126, v4143] : Fin 3 → IVec S16 32) a x).toNat < S32x8x20.size a) ∧
  (∀ (k1_h1 : k1_cond1 i = 1#1), ∀ a x, ((![v4123, v4143] : Fin 2 → IVec S16 32) a x).toNat < S128x20.size a)
theorem k1_idx267_inb : ∀ (i : grid1.Coords) (v4121 : IVec S16 32) (v4123 : IVec S16 32) (v4126 : IVec S16 32) (v4143 : IVec S16 32) (k1_hw230 : k1_chk230 i v4121 v4123 v4126 v4143), ∀ (k1_h1 : k1_cond1 i = 1#1), ∀ a x, ((![v4121, v4126, v4143] : Fin 3 → IVec S16 32) a x).toNat < S32x8x20.size a := fun i v4121 v4123 v4126 v4143 k1_hw230 k1_h1 => k1_hw230.1 k1_h1
theorem k1_idx268_inb : ∀ (i : grid1.Coords) (v4121 : IVec S16 32) (v4123 : IVec S16 32) (v4126 : IVec S16 32) (v4143 : IVec S16 32) (k1_hw230 : k1_chk230 i v4121 v4123 v4126 v4143), ∀ (k1_h1 : k1_cond1 i = 1#1), ∀ a x, ((![v4123, v4143] : Fin 2 → IVec S16 32) a x).toNat < S128x20.size a := fun i v4121 v4123 v4126 v4143 k1_hw230 k1_h1 => k1_hw230.2 k1_h1

def k1_chk231 (i : grid1.Coords) (v4121 : IVec S16 32) (v4123 : IVec S16 32) (v4126 : IVec S16 32) (v4145 : IVec S16 32) : Prop :=
  (∀ (k1_h1 : k1_cond1 i = 1#1), ∀ a x, ((![v4121, v4126, v4145] : Fin 3 → IVec S16 32) a x).toNat < S32x8x20.size a) ∧
  (∀ (k1_h1 : k1_cond1 i = 1#1), ∀ a x, ((![v4123, v4145] : Fin 2 → IVec S16 32) a x).toNat < S128x20.size a)
theorem k1_idx269_inb : ∀ (i : grid1.Coords) (v4121 : IVec S16 32) (v4123 : IVec S16 32) (v4126 : IVec S16 32) (v4145 : IVec S16 32) (k1_hw231 : k1_chk231 i v4121 v4123 v4126 v4145), ∀ (k1_h1 : k1_cond1 i = 1#1), ∀ a x, ((![v4121, v4126, v4145] : Fin 3 → IVec S16 32) a x).toNat < S32x8x20.size a := fun i v4121 v4123 v4126 v4145 k1_hw231 k1_h1 => k1_hw231.1 k1_h1
theorem k1_idx270_inb : ∀ (i : grid1.Coords) (v4121 : IVec S16 32) (v4123 : IVec S16 32) (v4126 : IVec S16 32) (v4145 : IVec S16 32) (k1_hw231 : k1_chk231 i v4121 v4123 v4126 v4145), ∀ (k1_h1 : k1_cond1 i = 1#1), ∀ a x, ((![v4123, v4145] : Fin 2 → IVec S16 32) a x).toNat < S128x20.size a := fun i v4121 v4123 v4126 v4145 k1_hw231 k1_h1 => k1_hw231.2 k1_h1

def k1_chk232 (i : grid1.Coords) (v4121 : IVec S16 32) (v4123 : IVec S16 32) (v4126 : IVec S16 32) (v4147 : IVec S16 32) : Prop :=
  (∀ (k1_h1 : k1_cond1 i = 1#1), ∀ a x, ((![v4121, v4126, v4147] : Fin 3 → IVec S16 32) a x).toNat < S32x8x20.size a) ∧
  (∀ (k1_h1 : k1_cond1 i = 1#1), ∀ a x, ((![v4123, v4147] : Fin 2 → IVec S16 32) a x).toNat < S128x20.size a)
theorem k1_idx271_inb : ∀ (i : grid1.Coords) (v4121 : IVec S16 32) (v4123 : IVec S16 32) (v4126 : IVec S16 32) (v4147 : IVec S16 32) (k1_hw232 : k1_chk232 i v4121 v4123 v4126 v4147), ∀ (k1_h1 : k1_cond1 i = 1#1), ∀ a x, ((![v4121, v4126, v4147] : Fin 3 → IVec S16 32) a x).toNat < S32x8x20.size a := fun i v4121 v4123 v4126 v4147 k1_hw232 k1_h1 => k1_hw232.1 k1_h1
theorem k1_idx272_inb : ∀ (i : grid1.Coords) (v4121 : IVec S16 32) (v4123 : IVec S16 32) (v4126 : IVec S16 32) (v4147 : IVec S16 32) (k1_hw232 : k1_chk232 i v4121 v4123 v4126 v4147), ∀ (k1_h1 : k1_cond1 i = 1#1), ∀ a x, ((![v4123, v4147] : Fin 2 → IVec S16 32) a x).toNat < S128x20.size a := fun i v4121 v4123 v4126 v4147 k1_hw232 k1_h1 => k1_hw232.2 k1_h1

def k1_chk233 (i : grid1.Coords) (v4121 : IVec S16 32) (v4123 : IVec S16 32) (v4126 : IVec S16 32) (v4149 : IVec S16 32) : Prop :=
  (∀ (k1_h1 : k1_cond1 i = 1#1), ∀ a x, ((![v4121, v4126, v4149] : Fin 3 → IVec S16 32) a x).toNat < S32x8x20.size a) ∧
  (∀ (k1_h1 : k1_cond1 i = 1#1), ∀ a x, ((![v4123, v4149] : Fin 2 → IVec S16 32) a x).toNat < S128x20.size a)
theorem k1_idx273_inb : ∀ (i : grid1.Coords) (v4121 : IVec S16 32) (v4123 : IVec S16 32) (v4126 : IVec S16 32) (v4149 : IVec S16 32) (k1_hw233 : k1_chk233 i v4121 v4123 v4126 v4149), ∀ (k1_h1 : k1_cond1 i = 1#1), ∀ a x, ((![v4121, v4126, v4149] : Fin 3 → IVec S16 32) a x).toNat < S32x8x20.size a := fun i v4121 v4123 v4126 v4149 k1_hw233 k1_h1 => k1_hw233.1 k1_h1
theorem k1_idx274_inb : ∀ (i : grid1.Coords) (v4121 : IVec S16 32) (v4123 : IVec S16 32) (v4126 : IVec S16 32) (v4149 : IVec S16 32) (k1_hw233 : k1_chk233 i v4121 v4123 v4126 v4149), ∀ (k1_h1 : k1_cond1 i = 1#1), ∀ a x, ((![v4123, v4149] : Fin 2 → IVec S16 32) a x).toNat < S128x20.size a := fun i v4121 v4123 v4126 v4149 k1_hw233 k1_h1 => k1_hw233.2 k1_h1

def k1_chk234 (i : grid1.Coords) (v4121 : IVec S16 32) (v4123 : IVec S16 32) (v4126 : IVec S16 32) (v4151 : IVec S16 32) : Prop :=
  (∀ (k1_h1 : k1_cond1 i = 1#1), ∀ a x, ((![v4121, v4126, v4151] : Fin 3 → IVec S16 32) a x).toNat < S32x8x20.size a) ∧
  (∀ (k1_h1 : k1_cond1 i = 1#1), ∀ a x, ((![v4123, v4151] : Fin 2 → IVec S16 32) a x).toNat < S128x20.size a)
theorem k1_idx275_inb : ∀ (i : grid1.Coords) (v4121 : IVec S16 32) (v4123 : IVec S16 32) (v4126 : IVec S16 32) (v4151 : IVec S16 32) (k1_hw234 : k1_chk234 i v4121 v4123 v4126 v4151), ∀ (k1_h1 : k1_cond1 i = 1#1), ∀ a x, ((![v4121, v4126, v4151] : Fin 3 → IVec S16 32) a x).toNat < S32x8x20.size a := fun i v4121 v4123 v4126 v4151 k1_hw234 k1_h1 => k1_hw234.1 k1_h1
theorem k1_idx276_inb : ∀ (i : grid1.Coords) (v4121 : IVec S16 32) (v4123 : IVec S16 32) (v4126 : IVec S16 32) (v4151 : IVec S16 32) (k1_hw234 : k1_chk234 i v4121 v4123 v4126 v4151), ∀ (k1_h1 : k1_cond1 i = 1#1), ∀ a x, ((![v4123, v4151] : Fin 2 → IVec S16 32) a x).toNat < S128x20.size a := fun i v4121 v4123 v4126 v4151 k1_hw234 k1_h1 => k1_hw234.2 k1_h1

def k1_chk235 (i : grid1.Coords) (v4121 : IVec S16 32) (v4123 : IVec S16 32) (v4126 : IVec S16 32) (v4153 : IVec S16 32) : Prop :=
  (∀ (k1_h1 : k1_cond1 i = 1#1), ∀ a x, ((![v4121, v4126, v4153] : Fin 3 → IVec S16 32) a x).toNat < S32x8x20.size a) ∧
  (∀ (k1_h1 : k1_cond1 i = 1#1), ∀ a x, ((![v4123, v4153] : Fin 2 → IVec S16 32) a x).toNat < S128x20.size a)
theorem k1_idx277_inb : ∀ (i : grid1.Coords) (v4121 : IVec S16 32) (v4123 : IVec S16 32) (v4126 : IVec S16 32) (v4153 : IVec S16 32) (k1_hw235 : k1_chk235 i v4121 v4123 v4126 v4153), ∀ (k1_h1 : k1_cond1 i = 1#1), ∀ a x, ((![v4121, v4126, v4153] : Fin 3 → IVec S16 32) a x).toNat < S32x8x20.size a := fun i v4121 v4123 v4126 v4153 k1_hw235 k1_h1 => k1_hw235.1 k1_h1
theorem k1_idx278_inb : ∀ (i : grid1.Coords) (v4121 : IVec S16 32) (v4123 : IVec S16 32) (v4126 : IVec S16 32) (v4153 : IVec S16 32) (k1_hw235 : k1_chk235 i v4121 v4123 v4126 v4153), ∀ (k1_h1 : k1_cond1 i = 1#1), ∀ a x, ((![v4123, v4153] : Fin 2 → IVec S16 32) a x).toNat < S128x20.size a := fun i v4121 v4123 v4126 v4153 k1_hw235 k1_h1 => k1_hw235.2 k1_h1

def k1_chk236 (i : grid1.Coords) (v4121 : IVec S16 32) (v4123 : IVec S16 32) (v4126 : IVec S16 32) (v4155 : IVec S16 32) : Prop :=
  (∀ (k1_h1 : k1_cond1 i = 1#1), ∀ a x, ((![v4121, v4126, v4155] : Fin 3 → IVec S16 32) a x).toNat < S32x8x20.size a) ∧
  (∀ (k1_h1 : k1_cond1 i = 1#1), ∀ a x, ((![v4123, v4155] : Fin 2 → IVec S16 32) a x).toNat < S128x20.size a)
theorem k1_idx279_inb : ∀ (i : grid1.Coords) (v4121 : IVec S16 32) (v4123 : IVec S16 32) (v4126 : IVec S16 32) (v4155 : IVec S16 32) (k1_hw236 : k1_chk236 i v4121 v4123 v4126 v4155), ∀ (k1_h1 : k1_cond1 i = 1#1), ∀ a x, ((![v4121, v4126, v4155] : Fin 3 → IVec S16 32) a x).toNat < S32x8x20.size a := fun i v4121 v4123 v4126 v4155 k1_hw236 k1_h1 => k1_hw236.1 k1_h1
theorem k1_idx280_inb : ∀ (i : grid1.Coords) (v4121 : IVec S16 32) (v4123 : IVec S16 32) (v4126 : IVec S16 32) (v4155 : IVec S16 32) (k1_hw236 : k1_chk236 i v4121 v4123 v4126 v4155), ∀ (k1_h1 : k1_cond1 i = 1#1), ∀ a x, ((![v4123, v4155] : Fin 2 → IVec S16 32) a x).toNat < S128x20.size a := fun i v4121 v4123 v4126 v4155 k1_hw236 k1_h1 => k1_hw236.2 k1_h1

def k1_chk237 (i : grid1.Coords) (v4121 : IVec S16 32) (v4123 : IVec S16 32) (v4126 : IVec S16 32) (v4157 : IVec S16 32) : Prop :=
  (∀ (k1_h1 : k1_cond1 i = 1#1), ∀ a x, ((![v4121, v4126, v4157] : Fin 3 → IVec S16 32) a x).toNat < S32x8x20.size a) ∧
  (∀ (k1_h1 : k1_cond1 i = 1#1), ∀ a x, ((![v4123, v4157] : Fin 2 → IVec S16 32) a x).toNat < S128x20.size a)
theorem k1_idx281_inb : ∀ (i : grid1.Coords) (v4121 : IVec S16 32) (v4123 : IVec S16 32) (v4126 : IVec S16 32) (v4157 : IVec S16 32) (k1_hw237 : k1_chk237 i v4121 v4123 v4126 v4157), ∀ (k1_h1 : k1_cond1 i = 1#1), ∀ a x, ((![v4121, v4126, v4157] : Fin 3 → IVec S16 32) a x).toNat < S32x8x20.size a := fun i v4121 v4123 v4126 v4157 k1_hw237 k1_h1 => k1_hw237.1 k1_h1
theorem k1_idx282_inb : ∀ (i : grid1.Coords) (v4121 : IVec S16 32) (v4123 : IVec S16 32) (v4126 : IVec S16 32) (v4157 : IVec S16 32) (k1_hw237 : k1_chk237 i v4121 v4123 v4126 v4157), ∀ (k1_h1 : k1_cond1 i = 1#1), ∀ a x, ((![v4123, v4157] : Fin 2 → IVec S16 32) a x).toNat < S128x20.size a := fun i v4121 v4123 v4126 v4157 k1_hw237 k1_h1 => k1_hw237.2 k1_h1

def k1_chk238 (i : grid1.Coords) (v4121 : IVec S16 32) (v4123 : IVec S16 32) (v4126 : IVec S16 32) (v4159 : IVec S16 32) : Prop :=
  (∀ (k1_h1 : k1_cond1 i = 1#1), ∀ a x, ((![v4121, v4126, v4159] : Fin 3 → IVec S16 32) a x).toNat < S32x8x20.size a) ∧
  (∀ (k1_h1 : k1_cond1 i = 1#1), ∀ a x, ((![v4123, v4159] : Fin 2 → IVec S16 32) a x).toNat < S128x20.size a)
theorem k1_idx283_inb : ∀ (i : grid1.Coords) (v4121 : IVec S16 32) (v4123 : IVec S16 32) (v4126 : IVec S16 32) (v4159 : IVec S16 32) (k1_hw238 : k1_chk238 i v4121 v4123 v4126 v4159), ∀ (k1_h1 : k1_cond1 i = 1#1), ∀ a x, ((![v4121, v4126, v4159] : Fin 3 → IVec S16 32) a x).toNat < S32x8x20.size a := fun i v4121 v4123 v4126 v4159 k1_hw238 k1_h1 => k1_hw238.1 k1_h1
theorem k1_idx284_inb : ∀ (i : grid1.Coords) (v4121 : IVec S16 32) (v4123 : IVec S16 32) (v4126 : IVec S16 32) (v4159 : IVec S16 32) (k1_hw238 : k1_chk238 i v4121 v4123 v4126 v4159), ∀ (k1_h1 : k1_cond1 i = 1#1), ∀ a x, ((![v4123, v4159] : Fin 2 → IVec S16 32) a x).toNat < S128x20.size a := fun i v4121 v4123 v4126 v4159 k1_hw238 k1_h1 => k1_hw238.2 k1_h1

def k1_chk239 (i : grid1.Coords) (v4121 : IVec S16 32) (v4123 : IVec S16 32) (v4126 : IVec S16 32) (v4161 : IVec S16 32) : Prop :=
  (∀ (k1_h1 : k1_cond1 i = 1#1), ∀ a x, ((![v4121, v4126, v4161] : Fin 3 → IVec S16 32) a x).toNat < S32x8x20.size a) ∧
  (∀ (k1_h1 : k1_cond1 i = 1#1), ∀ a x, ((![v4123, v4161] : Fin 2 → IVec S16 32) a x).toNat < S128x20.size a)
theorem k1_idx285_inb : ∀ (i : grid1.Coords) (v4121 : IVec S16 32) (v4123 : IVec S16 32) (v4126 : IVec S16 32) (v4161 : IVec S16 32) (k1_hw239 : k1_chk239 i v4121 v4123 v4126 v4161), ∀ (k1_h1 : k1_cond1 i = 1#1), ∀ a x, ((![v4121, v4126, v4161] : Fin 3 → IVec S16 32) a x).toNat < S32x8x20.size a := fun i v4121 v4123 v4126 v4161 k1_hw239 k1_h1 => k1_hw239.1 k1_h1
theorem k1_idx286_inb : ∀ (i : grid1.Coords) (v4121 : IVec S16 32) (v4123 : IVec S16 32) (v4126 : IVec S16 32) (v4161 : IVec S16 32) (k1_hw239 : k1_chk239 i v4121 v4123 v4126 v4161), ∀ (k1_h1 : k1_cond1 i = 1#1), ∀ a x, ((![v4123, v4161] : Fin 2 → IVec S16 32) a x).toNat < S128x20.size a := fun i v4121 v4123 v4126 v4161 k1_hw239 k1_h1 => k1_hw239.2 k1_h1

def k1_chk240 (i : grid1.Coords) (v4121 : IVec S16 32) (v4123 : IVec S16 32) (v4126 : IVec S16 32) (v4163 : IVec S16 32) : Prop :=
  (∀ (k1_h1 : k1_cond1 i = 1#1), ∀ a x, ((![v4121, v4126, v4163] : Fin 3 → IVec S16 32) a x).toNat < S32x8x20.size a) ∧
  (∀ (k1_h1 : k1_cond1 i = 1#1), ∀ a x, ((![v4123, v4163] : Fin 2 → IVec S16 32) a x).toNat < S128x20.size a)
theorem k1_idx287_inb : ∀ (i : grid1.Coords) (v4121 : IVec S16 32) (v4123 : IVec S16 32) (v4126 : IVec S16 32) (v4163 : IVec S16 32) (k1_hw240 : k1_chk240 i v4121 v4123 v4126 v4163), ∀ (k1_h1 : k1_cond1 i = 1#1), ∀ a x, ((![v4121, v4126, v4163] : Fin 3 → IVec S16 32) a x).toNat < S32x8x20.size a := fun i v4121 v4123 v4126 v4163 k1_hw240 k1_h1 => k1_hw240.1 k1_h1
theorem k1_idx288_inb : ∀ (i : grid1.Coords) (v4121 : IVec S16 32) (v4123 : IVec S16 32) (v4126 : IVec S16 32) (v4163 : IVec S16 32) (k1_hw240 : k1_chk240 i v4121 v4123 v4126 v4163), ∀ (k1_h1 : k1_cond1 i = 1#1), ∀ a x, ((![v4123, v4163] : Fin 2 → IVec S16 32) a x).toNat < S128x20.size a := fun i v4121 v4123 v4126 v4163 k1_hw240 k1_h1 => k1_hw240.2 k1_h1

def k1_chk241 (i : grid1.Coords) (v4121 : IVec S16 32) (v4123 : IVec S16 32) (v4126 : IVec S16 32) (v4165 : IVec S16 32) : Prop :=
  (∀ (k1_h1 : k1_cond1 i = 1#1), ∀ a x, ((![v4121, v4126, v4165] : Fin 3 → IVec S16 32) a x).toNat < S32x8x20.size a) ∧
  (∀ (k1_h1 : k1_cond1 i = 1#1), ∀ a x, ((![v4123, v4165] : Fin 2 → IVec S16 32) a x).toNat < S128x20.size a)
theorem k1_idx289_inb : ∀ (i : grid1.Coords) (v4121 : IVec S16 32) (v4123 : IVec S16 32) (v4126 : IVec S16 32) (v4165 : IVec S16 32) (k1_hw241 : k1_chk241 i v4121 v4123 v4126 v4165), ∀ (k1_h1 : k1_cond1 i = 1#1), ∀ a x, ((![v4121, v4126, v4165] : Fin 3 → IVec S16 32) a x).toNat < S32x8x20.size a := fun i v4121 v4123 v4126 v4165 k1_hw241 k1_h1 => k1_hw241.1 k1_h1
theorem k1_idx290_inb : ∀ (i : grid1.Coords) (v4121 : IVec S16 32) (v4123 : IVec S16 32) (v4126 : IVec S16 32) (v4165 : IVec S16 32) (k1_hw241 : k1_chk241 i v4121 v4123 v4126 v4165), ∀ (k1_h1 : k1_cond1 i = 1#1), ∀ a x, ((![v4123, v4165] : Fin 2 → IVec S16 32) a x).toNat < S128x20.size a := fun i v4121 v4123 v4126 v4165 k1_hw241 k1_h1 => k1_hw241.2 k1_h1

def k1_chk242 (i : grid1.Coords) (v4121 : IVec S16 32) (v4123 : IVec S16 32) (v4126 : IVec S16 32) (v4167 : IVec S16 32) : Prop :=
  (∀ (k1_h1 : k1_cond1 i = 1#1), ∀ a x, ((![v4121, v4126, v4167] : Fin 3 → IVec S16 32) a x).toNat < S32x8x5.size a) ∧
  (∀ (k1_h1 : k1_cond1 i = 1#1), ∀ a x, ((![v4123, v4167] : Fin 2 → IVec S16 32) a x).toNat < S128x5.size a)
theorem k1_idx291_inb : ∀ (i : grid1.Coords) (v4121 : IVec S16 32) (v4123 : IVec S16 32) (v4126 : IVec S16 32) (v4167 : IVec S16 32) (k1_hw242 : k1_chk242 i v4121 v4123 v4126 v4167), ∀ (k1_h1 : k1_cond1 i = 1#1), ∀ a x, ((![v4121, v4126, v4167] : Fin 3 → IVec S16 32) a x).toNat < S32x8x5.size a := fun i v4121 v4123 v4126 v4167 k1_hw242 k1_h1 => k1_hw242.1 k1_h1
theorem k1_idx292_inb : ∀ (i : grid1.Coords) (v4121 : IVec S16 32) (v4123 : IVec S16 32) (v4126 : IVec S16 32) (v4167 : IVec S16 32) (k1_hw242 : k1_chk242 i v4121 v4123 v4126 v4167), ∀ (k1_h1 : k1_cond1 i = 1#1), ∀ a x, ((![v4123, v4167] : Fin 2 → IVec S16 32) a x).toNat < S128x5.size a := fun i v4121 v4123 v4126 v4167 k1_hw242 k1_h1 => k1_hw242.2 k1_h1

def k1_chk243 (i : grid1.Coords) (v4121 : IVec S16 32) (v4123 : IVec S16 32) (v4126 : IVec S16 32) (v4169 : IVec S16 32) : Prop :=
  (∀ (k1_h1 : k1_cond1 i = 1#1), ∀ a x, ((![v4121, v4126, v4169] : Fin 3 → IVec S16 32) a x).toNat < S32x8x5.size a) ∧
  (∀ (k1_h1 : k1_cond1 i = 1#1), ∀ a x, ((![v4123, v4169] : Fin 2 → IVec S16 32) a x).toNat < S128x5.size a)
theorem k1_idx293_inb : ∀ (i : grid1.Coords) (v4121 : IVec S16 32) (v4123 : IVec S16 32) (v4126 : IVec S16 32) (v4169 : IVec S16 32) (k1_hw243 : k1_chk243 i v4121 v4123 v4126 v4169), ∀ (k1_h1 : k1_cond1 i = 1#1), ∀ a x, ((![v4121, v4126, v4169] : Fin 3 → IVec S16 32) a x).toNat < S32x8x5.size a := fun i v4121 v4123 v4126 v4169 k1_hw243 k1_h1 => k1_hw243.1 k1_h1
theorem k1_idx294_inb : ∀ (i : grid1.Coords) (v4121 : IVec S16 32) (v4123 : IVec S16 32) (v4126 : IVec S16 32) (v4169 : IVec S16 32) (k1_hw243 : k1_chk243 i v4121 v4123 v4126 v4169), ∀ (k1_h1 : k1_cond1 i = 1#1), ∀ a x, ((![v4123, v4169] : Fin 2 → IVec S16 32) a x).toNat < S128x5.size a := fun i v4121 v4123 v4126 v4169 k1_hw243 k1_h1 => k1_hw243.2 k1_h1

def k1_chk244 (i : grid1.Coords) (v4121 : IVec S16 32) (v4123 : IVec S16 32) (v4126 : IVec S16 32) (v4171 : IVec S16 32) : Prop :=
  (∀ (k1_h1 : k1_cond1 i = 1#1), ∀ a x, ((![v4121, v4126, v4171] : Fin 3 → IVec S16 32) a x).toNat < S32x8x5.size a) ∧
  (∀ (k1_h1 : k1_cond1 i = 1#1), ∀ a x, ((![v4123, v4171] : Fin 2 → IVec S16 32) a x).toNat < S128x5.size a)
theorem k1_idx295_inb : ∀ (i : grid1.Coords) (v4121 : IVec S16 32) (v4123 : IVec S16 32) (v4126 : IVec S16 32) (v4171 : IVec S16 32) (k1_hw244 : k1_chk244 i v4121 v4123 v4126 v4171), ∀ (k1_h1 : k1_cond1 i = 1#1), ∀ a x, ((![v4121, v4126, v4171] : Fin 3 → IVec S16 32) a x).toNat < S32x8x5.size a := fun i v4121 v4123 v4126 v4171 k1_hw244 k1_h1 => k1_hw244.1 k1_h1
theorem k1_idx296_inb : ∀ (i : grid1.Coords) (v4121 : IVec S16 32) (v4123 : IVec S16 32) (v4126 : IVec S16 32) (v4171 : IVec S16 32) (k1_hw244 : k1_chk244 i v4121 v4123 v4126 v4171), ∀ (k1_h1 : k1_cond1 i = 1#1), ∀ a x, ((![v4123, v4171] : Fin 2 → IVec S16 32) a x).toNat < S128x5.size a := fun i v4121 v4123 v4126 v4171 k1_hw244 k1_h1 => k1_hw244.2 k1_h1

def k1_chk245 (i : grid1.Coords) (v4121 : IVec S16 32) (v4123 : IVec S16 32) (v4126 : IVec S16 32) (v4173 : IVec S16 32) : Prop :=
  (∀ (k1_h1 : k1_cond1 i = 1#1), ∀ a x, ((![v4121, v4126, v4173] : Fin 3 → IVec S16 32) a x).toNat < S32x8x5.size a) ∧
  (∀ (k1_h1 : k1_cond1 i = 1#1), ∀ a x, ((![v4123, v4173] : Fin 2 → IVec S16 32) a x).toNat < S128x5.size a)
theorem k1_idx297_inb : ∀ (i : grid1.Coords) (v4121 : IVec S16 32) (v4123 : IVec S16 32) (v4126 : IVec S16 32) (v4173 : IVec S16 32) (k1_hw245 : k1_chk245 i v4121 v4123 v4126 v4173), ∀ (k1_h1 : k1_cond1 i = 1#1), ∀ a x, ((![v4121, v4126, v4173] : Fin 3 → IVec S16 32) a x).toNat < S32x8x5.size a := fun i v4121 v4123 v4126 v4173 k1_hw245 k1_h1 => k1_hw245.1 k1_h1
theorem k1_idx298_inb : ∀ (i : grid1.Coords) (v4121 : IVec S16 32) (v4123 : IVec S16 32) (v4126 : IVec S16 32) (v4173 : IVec S16 32) (k1_hw245 : k1_chk245 i v4121 v4123 v4126 v4173), ∀ (k1_h1 : k1_cond1 i = 1#1), ∀ a x, ((![v4123, v4173] : Fin 2 → IVec S16 32) a x).toNat < S128x5.size a := fun i v4121 v4123 v4126 v4173 k1_hw245 k1_h1 => k1_hw245.2 k1_h1

def k1_chk246 (i : grid1.Coords) (v4121 : IVec S16 32) (v4123 : IVec S16 32) (v4126 : IVec S16 32) (v4175 : IVec S16 32) : Prop :=
  (∀ (k1_h1 : k1_cond1 i = 1#1), ∀ a x, ((![v4121, v4126, v4175] : Fin 3 → IVec S16 32) a x).toNat < S32x8x5.size a) ∧
  (∀ (k1_h1 : k1_cond1 i = 1#1), ∀ a x, ((![v4123, v4175] : Fin 2 → IVec S16 32) a x).toNat < S128x5.size a)
theorem k1_idx299_inb : ∀ (i : grid1.Coords) (v4121 : IVec S16 32) (v4123 : IVec S16 32) (v4126 : IVec S16 32) (v4175 : IVec S16 32) (k1_hw246 : k1_chk246 i v4121 v4123 v4126 v4175), ∀ (k1_h1 : k1_cond1 i = 1#1), ∀ a x, ((![v4121, v4126, v4175] : Fin 3 → IVec S16 32) a x).toNat < S32x8x5.size a := fun i v4121 v4123 v4126 v4175 k1_hw246 k1_h1 => k1_hw246.1 k1_h1
theorem k1_idx300_inb : ∀ (i : grid1.Coords) (v4121 : IVec S16 32) (v4123 : IVec S16 32) (v4126 : IVec S16 32) (v4175 : IVec S16 32) (k1_hw246 : k1_chk246 i v4121 v4123 v4126 v4175), ∀ (k1_h1 : k1_cond1 i = 1#1), ∀ a x, ((![v4123, v4175] : Fin 2 → IVec S16 32) a x).toNat < S128x5.size a := fun i v4121 v4123 v4126 v4175 k1_hw246 k1_h1 => k1_hw246.2 k1_h1
def k1_off380 (i : grid1.Coords) (v4189 : BitVec 32) (v4191 : BitVec 32) (v4193 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2967 : BitVec 32 := 8#32
  let v4194 : BitVec 32 := Scalar.muli v4193 c8_i32_2967
  let c0_i32_2971 : BitVec 32 := 0#32
  ![v21.toNat, v22.toNat, v4189.toNat, v4191.toNat, v4194.toNat, 0]

def k1_off381 (i : grid1.Coords) (v4189 : BitVec 32) (v4191 : BitVec 32) (v4193 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2967 : BitVec 32 := 8#32
  let v4194 : BitVec 32 := Scalar.muli v4193 c8_i32_2967
  let c0_i32_2978 : BitVec 32 := 0#32
  ![v21.toNat, v22.toNat, v4189.toNat, v4191.toNat, v4194.toNat, 0]
def k1_off382 (i : grid1.Coords) (v4212 : BitVec 32) (v4214 : BitVec 32) (v4216 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2982 : BitVec 32 := 8#32
  let v4217 : BitVec 32 := Scalar.muli v4216 c8_i32_2982
  let c0_i32_2986 : BitVec 32 := 0#32
  ![v21.toNat, v22.toNat, v4212.toNat, v4214.toNat, v4217.toNat, 0]

def k1_off383 (i : grid1.Coords) (v4212 : BitVec 32) (v4214 : BitVec 32) (v4216 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2982 : BitVec 32 := 8#32
  let v4217 : BitVec 32 := Scalar.muli v4216 c8_i32_2982
  let c0_i32_2993 : BitVec 32 := 0#32
  ![v21.toNat, v22.toNat, v4212.toNat, v4214.toNat, v4217.toNat, 0]
def k1_off384 (i : grid1.Coords) (v4235 : BitVec 32) (v4237 : BitVec 32) (v4239 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2997 : BitVec 32 := 8#32
  let v4240 : BitVec 32 := Scalar.muli v4239 c8_i32_2997
  let c0_i32_3001 : BitVec 32 := 0#32
  ![v21.toNat, v22.toNat, v4235.toNat, v4237.toNat, v4240.toNat, 0]

def k1_off385 (i : grid1.Coords) (v4235 : BitVec 32) (v4237 : BitVec 32) (v4239 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2997 : BitVec 32 := 8#32
  let v4240 : BitVec 32 := Scalar.muli v4239 c8_i32_2997
  let c0_i32_3008 : BitVec 32 := 0#32
  ![v21.toNat, v22.toNat, v4235.toNat, v4237.toNat, v4240.toNat, 0]
def k1_off386 (i : grid1.Coords) (v4258 : BitVec 32) (v4260 : BitVec 32) (v4262 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3012 : BitVec 32 := 8#32
  let v4263 : BitVec 32 := Scalar.muli v4262 c8_i32_3012
  let c0_i32_3016 : BitVec 32 := 0#32
  ![v21.toNat, v22.toNat, v4258.toNat, v4260.toNat, v4263.toNat, 0]

def k1_off387 (i : grid1.Coords) (v4258 : BitVec 32) (v4260 : BitVec 32) (v4262 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3012 : BitVec 32 := 8#32
  let v4263 : BitVec 32 := Scalar.muli v4262 c8_i32_3012
  let c0_i32_3023 : BitVec 32 := 0#32
  ![v21.toNat, v22.toNat, v4258.toNat, v4260.toNat, v4263.toNat, 0]
def k1_off388 (i : grid1.Coords) (v4281 : BitVec 32) (v4283 : BitVec 32) (v4285 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3027 : BitVec 32 := 8#32
  let v4286 : BitVec 32 := Scalar.muli v4285 c8_i32_3027
  let c0_i32_3031 : BitVec 32 := 0#32
  ![v21.toNat, v22.toNat, v4281.toNat, v4283.toNat, v4286.toNat, 0]

def k1_off389 (i : grid1.Coords) (v4281 : BitVec 32) (v4283 : BitVec 32) (v4285 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3027 : BitVec 32 := 8#32
  let v4286 : BitVec 32 := Scalar.muli v4285 c8_i32_3027
  let c0_i32_3038 : BitVec 32 := 0#32
  ![v21.toNat, v22.toNat, v4281.toNat, v4283.toNat, v4286.toNat, 0]
def k1_off390 (i : grid1.Coords) (v4304 : BitVec 32) (v4306 : BitVec 32) (v4308 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3042 : BitVec 32 := 8#32
  let v4309 : BitVec 32 := Scalar.muli v4308 c8_i32_3042
  let c0_i32_3046 : BitVec 32 := 0#32
  ![v21.toNat, v22.toNat, v4304.toNat, v4306.toNat, v4309.toNat, 0]

def k1_off391 (i : grid1.Coords) (v4304 : BitVec 32) (v4306 : BitVec 32) (v4308 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3042 : BitVec 32 := 8#32
  let v4309 : BitVec 32 := Scalar.muli v4308 c8_i32_3042
  let c0_i32_3053 : BitVec 32 := 0#32
  ![v21.toNat, v22.toNat, v4304.toNat, v4306.toNat, v4309.toNat, 0]
def k1_off392 (i : grid1.Coords) (v4327 : BitVec 32) (v4329 : BitVec 32) (v4331 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3057 : BitVec 32 := 8#32
  let v4332 : BitVec 32 := Scalar.muli v4331 c8_i32_3057
  let c0_i32_3061 : BitVec 32 := 0#32
  ![v21.toNat, v22.toNat, v4327.toNat, v4329.toNat, v4332.toNat, 0]

def k1_off393 (i : grid1.Coords) (v4327 : BitVec 32) (v4329 : BitVec 32) (v4331 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3057 : BitVec 32 := 8#32
  let v4332 : BitVec 32 := Scalar.muli v4331 c8_i32_3057
  let c0_i32_3068 : BitVec 32 := 0#32
  ![v21.toNat, v22.toNat, v4327.toNat, v4329.toNat, v4332.toNat, 0]
def k1_off394 (i : grid1.Coords) (v4350 : BitVec 32) (v4352 : BitVec 32) (v4354 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3072 : BitVec 32 := 8#32
  let v4355 : BitVec 32 := Scalar.muli v4354 c8_i32_3072
  let c0_i32_3076 : BitVec 32 := 0#32
  ![v21.toNat, v22.toNat, v4350.toNat, v4352.toNat, v4355.toNat, 0]

def k1_off395 (i : grid1.Coords) (v4350 : BitVec 32) (v4352 : BitVec 32) (v4354 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3072 : BitVec 32 := 8#32
  let v4355 : BitVec 32 := Scalar.muli v4354 c8_i32_3072
  let c0_i32_3083 : BitVec 32 := 0#32
  ![v21.toNat, v22.toNat, v4350.toNat, v4352.toNat, v4355.toNat, 0]
def k1_off396 (i : grid1.Coords) (v4373 : BitVec 32) (v4375 : BitVec 32) (v4377 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3087 : BitVec 32 := 8#32
  let v4378 : BitVec 32 := Scalar.muli v4377 c8_i32_3087
  let c0_i32_3091 : BitVec 32 := 0#32
  ![v21.toNat, v22.toNat, v4373.toNat, v4375.toNat, v4378.toNat, 0]

def k1_off397 (i : grid1.Coords) (v4373 : BitVec 32) (v4375 : BitVec 32) (v4377 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3087 : BitVec 32 := 8#32
  let v4378 : BitVec 32 := Scalar.muli v4377 c8_i32_3087
  let c0_i32_3098 : BitVec 32 := 0#32
  ![v21.toNat, v22.toNat, v4373.toNat, v4375.toNat, v4378.toNat, 0]
def k1_off398 (i : grid1.Coords) (v4396 : BitVec 32) (v4398 : BitVec 32) (v4400 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3102 : BitVec 32 := 8#32
  let v4401 : BitVec 32 := Scalar.muli v4400 c8_i32_3102
  let c0_i32_3106 : BitVec 32 := 0#32
  ![v21.toNat, v22.toNat, v4396.toNat, v4398.toNat, v4401.toNat, 0]

def k1_off399 (i : grid1.Coords) (v4396 : BitVec 32) (v4398 : BitVec 32) (v4400 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3102 : BitVec 32 := 8#32
  let v4401 : BitVec 32 := Scalar.muli v4400 c8_i32_3102
  let c0_i32_3113 : BitVec 32 := 0#32
  ![v21.toNat, v22.toNat, v4396.toNat, v4398.toNat, v4401.toNat, 0]
def k1_off400 (i : grid1.Coords) (v4419 : BitVec 32) (v4421 : BitVec 32) (v4423 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3117 : BitVec 32 := 8#32
  let v4424 : BitVec 32 := Scalar.muli v4423 c8_i32_3117
  let c0_i32_3121 : BitVec 32 := 0#32
  ![v21.toNat, v22.toNat, v4419.toNat, v4421.toNat, v4424.toNat, 0]

def k1_off401 (i : grid1.Coords) (v4419 : BitVec 32) (v4421 : BitVec 32) (v4423 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3117 : BitVec 32 := 8#32
  let v4424 : BitVec 32 := Scalar.muli v4423 c8_i32_3117
  let c0_i32_3128 : BitVec 32 := 0#32
  ![v21.toNat, v22.toNat, v4419.toNat, v4421.toNat, v4424.toNat, 0]
def k1_off402 (i : grid1.Coords) (v4442 : BitVec 32) (v4444 : BitVec 32) (v4446 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3132 : BitVec 32 := 8#32
  let v4447 : BitVec 32 := Scalar.muli v4446 c8_i32_3132
  let c0_i32_3136 : BitVec 32 := 0#32
  ![v21.toNat, v22.toNat, v4442.toNat, v4444.toNat, v4447.toNat, 0]

def k1_off403 (i : grid1.Coords) (v4442 : BitVec 32) (v4444 : BitVec 32) (v4446 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3132 : BitVec 32 := 8#32
  let v4447 : BitVec 32 := Scalar.muli v4446 c8_i32_3132
  let c0_i32_3143 : BitVec 32 := 0#32
  ![v21.toNat, v22.toNat, v4442.toNat, v4444.toNat, v4447.toNat, 0]
def k1_off404 (i : grid1.Coords) (v4465 : BitVec 32) (v4467 : BitVec 32) (v4469 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3147 : BitVec 32 := 8#32
  let v4470 : BitVec 32 := Scalar.muli v4469 c8_i32_3147
  let c0_i32_3151 : BitVec 32 := 0#32
  ![v21.toNat, v22.toNat, v4465.toNat, v4467.toNat, v4470.toNat, 0]

def k1_off405 (i : grid1.Coords) (v4465 : BitVec 32) (v4467 : BitVec 32) (v4469 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3147 : BitVec 32 := 8#32
  let v4470 : BitVec 32 := Scalar.muli v4469 c8_i32_3147
  let c0_i32_3158 : BitVec 32 := 0#32
  ![v21.toNat, v22.toNat, v4465.toNat, v4467.toNat, v4470.toNat, 0]
def k1_off406 (i : grid1.Coords) (v4488 : BitVec 32) (v4490 : BitVec 32) (v4492 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3162 : BitVec 32 := 8#32
  let v4493 : BitVec 32 := Scalar.muli v4492 c8_i32_3162
  let c0_i32_3166 : BitVec 32 := 0#32
  ![v21.toNat, v22.toNat, v4488.toNat, v4490.toNat, v4493.toNat, 0]

def k1_off407 (i : grid1.Coords) (v4488 : BitVec 32) (v4490 : BitVec 32) (v4492 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3162 : BitVec 32 := 8#32
  let v4493 : BitVec 32 := Scalar.muli v4492 c8_i32_3162
  let c0_i32_3173 : BitVec 32 := 0#32
  ![v21.toNat, v22.toNat, v4488.toNat, v4490.toNat, v4493.toNat, 0]
def k1_off408 (i : grid1.Coords) (v4511 : BitVec 32) (v4513 : BitVec 32) (v4515 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3177 : BitVec 32 := 8#32
  let v4516 : BitVec 32 := Scalar.muli v4515 c8_i32_3177
  let c0_i32_3181 : BitVec 32 := 0#32
  ![v21.toNat, v22.toNat, v4511.toNat, v4513.toNat, v4516.toNat, 0]

def k1_off409 (i : grid1.Coords) (v4511 : BitVec 32) (v4513 : BitVec 32) (v4515 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3177 : BitVec 32 := 8#32
  let v4516 : BitVec 32 := Scalar.muli v4515 c8_i32_3177
  let c0_i32_3188 : BitVec 32 := 0#32
  ![v21.toNat, v22.toNat, v4511.toNat, v4513.toNat, v4516.toNat, 0]
def k1_off410 (i : grid1.Coords) (v4534 : BitVec 32) (v4536 : BitVec 32) (v4538 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3192 : BitVec 32 := 8#32
  let v4539 : BitVec 32 := Scalar.muli v4538 c8_i32_3192
  let c0_i32_3196 : BitVec 32 := 0#32
  ![v21.toNat, v22.toNat, v4534.toNat, v4536.toNat, v4539.toNat, 0]

def k1_off411 (i : grid1.Coords) (v4534 : BitVec 32) (v4536 : BitVec 32) (v4538 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3192 : BitVec 32 := 8#32
  let v4539 : BitVec 32 := Scalar.muli v4538 c8_i32_3192
  let c0_i32_3203 : BitVec 32 := 0#32
  ![v21.toNat, v22.toNat, v4534.toNat, v4536.toNat, v4539.toNat, 0]
def k1_off412 (i : grid1.Coords) (v4568 : BitVec 32) (v4570 : BitVec 32) (v4572 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3212 : BitVec 32 := 8#32
  let v4573 : BitVec 32 := Scalar.muli v4572 c8_i32_3212
  let c0_i32_3216 : BitVec 32 := 0#32
  ![v21.toNat, v22.toNat, v4568.toNat, v4570.toNat, v4573.toNat, 0]

def k1_off413 (i : grid1.Coords) (v4568 : BitVec 32) (v4570 : BitVec 32) (v4572 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3212 : BitVec 32 := 8#32
  let v4573 : BitVec 32 := Scalar.muli v4572 c8_i32_3212
  let c0_i32_3223 : BitVec 32 := 0#32
  ![v21.toNat, v22.toNat, v4568.toNat, v4570.toNat, v4573.toNat, 0]
def k1_off414 (i : grid1.Coords) (v4591 : BitVec 32) (v4593 : BitVec 32) (v4595 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3227 : BitVec 32 := 8#32
  let v4596 : BitVec 32 := Scalar.muli v4595 c8_i32_3227
  let c0_i32_3231 : BitVec 32 := 0#32
  ![v21.toNat, v22.toNat, v4591.toNat, v4593.toNat, v4596.toNat, 0]

def k1_off415 (i : grid1.Coords) (v4591 : BitVec 32) (v4593 : BitVec 32) (v4595 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3227 : BitVec 32 := 8#32
  let v4596 : BitVec 32 := Scalar.muli v4595 c8_i32_3227
  let c0_i32_3238 : BitVec 32 := 0#32
  ![v21.toNat, v22.toNat, v4591.toNat, v4593.toNat, v4596.toNat, 0]
def k1_off416 (i : grid1.Coords) (v4614 : BitVec 32) (v4616 : BitVec 32) (v4618 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3242 : BitVec 32 := 8#32
  let v4619 : BitVec 32 := Scalar.muli v4618 c8_i32_3242
  let c0_i32_3246 : BitVec 32 := 0#32
  ![v21.toNat, v22.toNat, v4614.toNat, v4616.toNat, v4619.toNat, 0]

def k1_off417 (i : grid1.Coords) (v4614 : BitVec 32) (v4616 : BitVec 32) (v4618 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3242 : BitVec 32 := 8#32
  let v4619 : BitVec 32 := Scalar.muli v4618 c8_i32_3242
  let c0_i32_3253 : BitVec 32 := 0#32
  ![v21.toNat, v22.toNat, v4614.toNat, v4616.toNat, v4619.toNat, 0]
def k1_off418 (i : grid1.Coords) (v4637 : BitVec 32) (v4639 : BitVec 32) (v4641 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3257 : BitVec 32 := 8#32
  let v4642 : BitVec 32 := Scalar.muli v4641 c8_i32_3257
  let c0_i32_3261 : BitVec 32 := 0#32
  ![v21.toNat, v22.toNat, v4637.toNat, v4639.toNat, v4642.toNat, 0]

def k1_off419 (i : grid1.Coords) (v4637 : BitVec 32) (v4639 : BitVec 32) (v4641 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3257 : BitVec 32 := 8#32
  let v4642 : BitVec 32 := Scalar.muli v4641 c8_i32_3257
  let c0_i32_3268 : BitVec 32 := 0#32
  ![v21.toNat, v22.toNat, v4637.toNat, v4639.toNat, v4642.toNat, 0]
def k1_off420 (i : grid1.Coords) (v4660 : BitVec 32) (v4662 : BitVec 32) (v4664 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3272 : BitVec 32 := 8#32
  let v4665 : BitVec 32 := Scalar.muli v4664 c8_i32_3272
  let c0_i32_3276 : BitVec 32 := 0#32
  ![v21.toNat, v22.toNat, v4660.toNat, v4662.toNat, v4665.toNat, 0]

def k1_off421 (i : grid1.Coords) (v4660 : BitVec 32) (v4662 : BitVec 32) (v4664 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3272 : BitVec 32 := 8#32
  let v4665 : BitVec 32 := Scalar.muli v4664 c8_i32_3272
  let c0_i32_3283 : BitVec 32 := 0#32
  ![v21.toNat, v22.toNat, v4660.toNat, v4662.toNat, v4665.toNat, 0]
def k1_off422 (i : grid1.Coords) (v4683 : BitVec 32) (v4685 : BitVec 32) (v4687 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3287 : BitVec 32 := 8#32
  let v4688 : BitVec 32 := Scalar.muli v4687 c8_i32_3287
  let c0_i32_3291 : BitVec 32 := 0#32
  ![v21.toNat, v22.toNat, v4683.toNat, v4685.toNat, v4688.toNat, 0]

def k1_off423 (i : grid1.Coords) (v4683 : BitVec 32) (v4685 : BitVec 32) (v4687 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3287 : BitVec 32 := 8#32
  let v4688 : BitVec 32 := Scalar.muli v4687 c8_i32_3287
  let c0_i32_3298 : BitVec 32 := 0#32
  ![v21.toNat, v22.toNat, v4683.toNat, v4685.toNat, v4688.toNat, 0]
def k1_off424 (i : grid1.Coords) (v4706 : BitVec 32) (v4708 : BitVec 32) (v4710 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3302 : BitVec 32 := 8#32
  let v4711 : BitVec 32 := Scalar.muli v4710 c8_i32_3302
  let c0_i32_3306 : BitVec 32 := 0#32
  ![v21.toNat, v22.toNat, v4706.toNat, v4708.toNat, v4711.toNat, 0]

def k1_off425 (i : grid1.Coords) (v4706 : BitVec 32) (v4708 : BitVec 32) (v4710 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3302 : BitVec 32 := 8#32
  let v4711 : BitVec 32 := Scalar.muli v4710 c8_i32_3302
  let c0_i32_3313 : BitVec 32 := 0#32
  ![v21.toNat, v22.toNat, v4706.toNat, v4708.toNat, v4711.toNat, 0]
def k1_off426 (i : grid1.Coords) (v4729 : BitVec 32) (v4731 : BitVec 32) (v4733 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3317 : BitVec 32 := 8#32
  let v4734 : BitVec 32 := Scalar.muli v4733 c8_i32_3317
  let c0_i32_3321 : BitVec 32 := 0#32
  ![v21.toNat, v22.toNat, v4729.toNat, v4731.toNat, v4734.toNat, 0]

def k1_off427 (i : grid1.Coords) (v4729 : BitVec 32) (v4731 : BitVec 32) (v4733 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3317 : BitVec 32 := 8#32
  let v4734 : BitVec 32 := Scalar.muli v4733 c8_i32_3317
  let c0_i32_3328 : BitVec 32 := 0#32
  ![v21.toNat, v22.toNat, v4729.toNat, v4731.toNat, v4734.toNat, 0]
def k1_off428 (i : grid1.Coords) (v4752 : BitVec 32) (v4754 : BitVec 32) (v4756 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3332 : BitVec 32 := 8#32
  let v4757 : BitVec 32 := Scalar.muli v4756 c8_i32_3332
  let c0_i32_3336 : BitVec 32 := 0#32
  ![v21.toNat, v22.toNat, v4752.toNat, v4754.toNat, v4757.toNat, 0]

def k1_off429 (i : grid1.Coords) (v4752 : BitVec 32) (v4754 : BitVec 32) (v4756 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3332 : BitVec 32 := 8#32
  let v4757 : BitVec 32 := Scalar.muli v4756 c8_i32_3332
  let c0_i32_3343 : BitVec 32 := 0#32
  ![v21.toNat, v22.toNat, v4752.toNat, v4754.toNat, v4757.toNat, 0]
def k1_off430 (i : grid1.Coords) (v4775 : BitVec 32) (v4777 : BitVec 32) (v4779 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3347 : BitVec 32 := 8#32
  let v4780 : BitVec 32 := Scalar.muli v4779 c8_i32_3347
  let c0_i32_3351 : BitVec 32 := 0#32
  ![v21.toNat, v22.toNat, v4775.toNat, v4777.toNat, v4780.toNat, 0]

def k1_off431 (i : grid1.Coords) (v4775 : BitVec 32) (v4777 : BitVec 32) (v4779 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3347 : BitVec 32 := 8#32
  let v4780 : BitVec 32 := Scalar.muli v4779 c8_i32_3347
  let c0_i32_3358 : BitVec 32 := 0#32
  ![v21.toNat, v22.toNat, v4775.toNat, v4777.toNat, v4780.toNat, 0]
def k1_off432 (i : grid1.Coords) (v4798 : BitVec 32) (v4800 : BitVec 32) (v4802 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3362 : BitVec 32 := 8#32
  let v4803 : BitVec 32 := Scalar.muli v4802 c8_i32_3362
  let c0_i32_3366 : BitVec 32 := 0#32
  ![v21.toNat, v22.toNat, v4798.toNat, v4800.toNat, v4803.toNat, 0]

def k1_off433 (i : grid1.Coords) (v4798 : BitVec 32) (v4800 : BitVec 32) (v4802 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3362 : BitVec 32 := 8#32
  let v4803 : BitVec 32 := Scalar.muli v4802 c8_i32_3362
  let c0_i32_3373 : BitVec 32 := 0#32
  ![v21.toNat, v22.toNat, v4798.toNat, v4800.toNat, v4803.toNat, 0]
def k1_off434 (i : grid1.Coords) (v4821 : BitVec 32) (v4823 : BitVec 32) (v4825 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3377 : BitVec 32 := 8#32
  let v4826 : BitVec 32 := Scalar.muli v4825 c8_i32_3377
  let c0_i32_3381 : BitVec 32 := 0#32
  ![v21.toNat, v22.toNat, v4821.toNat, v4823.toNat, v4826.toNat, 0]

def k1_off435 (i : grid1.Coords) (v4821 : BitVec 32) (v4823 : BitVec 32) (v4825 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3377 : BitVec 32 := 8#32
  let v4826 : BitVec 32 := Scalar.muli v4825 c8_i32_3377
  let c0_i32_3388 : BitVec 32 := 0#32
  ![v21.toNat, v22.toNat, v4821.toNat, v4823.toNat, v4826.toNat, 0]
def k1_off436 (i : grid1.Coords) (v4844 : BitVec 32) (v4846 : BitVec 32) (v4848 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3392 : BitVec 32 := 8#32
  let v4849 : BitVec 32 := Scalar.muli v4848 c8_i32_3392
  let c0_i32_3396 : BitVec 32 := 0#32
  ![v21.toNat, v22.toNat, v4844.toNat, v4846.toNat, v4849.toNat, 0]

def k1_off437 (i : grid1.Coords) (v4844 : BitVec 32) (v4846 : BitVec 32) (v4848 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3392 : BitVec 32 := 8#32
  let v4849 : BitVec 32 := Scalar.muli v4848 c8_i32_3392
  let c0_i32_3403 : BitVec 32 := 0#32
  ![v21.toNat, v22.toNat, v4844.toNat, v4846.toNat, v4849.toNat, 0]
def k1_off438 (i : grid1.Coords) (v4867 : BitVec 32) (v4869 : BitVec 32) (v4871 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3407 : BitVec 32 := 8#32
  let v4872 : BitVec 32 := Scalar.muli v4871 c8_i32_3407
  let c0_i32_3411 : BitVec 32 := 0#32
  ![v21.toNat, v22.toNat, v4867.toNat, v4869.toNat, v4872.toNat, 0]

def k1_off439 (i : grid1.Coords) (v4867 : BitVec 32) (v4869 : BitVec 32) (v4871 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3407 : BitVec 32 := 8#32
  let v4872 : BitVec 32 := Scalar.muli v4871 c8_i32_3407
  let c0_i32_3418 : BitVec 32 := 0#32
  ![v21.toNat, v22.toNat, v4867.toNat, v4869.toNat, v4872.toNat, 0]
def k1_off440 (i : grid1.Coords) (v4890 : BitVec 32) (v4892 : BitVec 32) (v4894 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3422 : BitVec 32 := 8#32
  let v4895 : BitVec 32 := Scalar.muli v4894 c8_i32_3422
  let c0_i32_3426 : BitVec 32 := 0#32
  ![v21.toNat, v22.toNat, v4890.toNat, v4892.toNat, v4895.toNat, 0]

def k1_off441 (i : grid1.Coords) (v4890 : BitVec 32) (v4892 : BitVec 32) (v4894 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3422 : BitVec 32 := 8#32
  let v4895 : BitVec 32 := Scalar.muli v4894 c8_i32_3422
  let c0_i32_3433 : BitVec 32 := 0#32
  ![v21.toNat, v22.toNat, v4890.toNat, v4892.toNat, v4895.toNat, 0]
def k1_off442 (i : grid1.Coords) (v4913 : BitVec 32) (v4915 : BitVec 32) (v4917 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3437 : BitVec 32 := 8#32
  let v4918 : BitVec 32 := Scalar.muli v4917 c8_i32_3437
  let c0_i32_3441 : BitVec 32 := 0#32
  ![v21.toNat, v22.toNat, v4913.toNat, v4915.toNat, v4918.toNat, 0]

def k1_off443 (i : grid1.Coords) (v4913 : BitVec 32) (v4915 : BitVec 32) (v4917 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3437 : BitVec 32 := 8#32
  let v4918 : BitVec 32 := Scalar.muli v4917 c8_i32_3437
  let c0_i32_3448 : BitVec 32 := 0#32
  ![v21.toNat, v22.toNat, v4913.toNat, v4915.toNat, v4918.toNat, 0]

def k1_chk278 (i : grid1.Coords) (v4913 : BitVec 32) (v4915 : BitVec 32) (v4917 : BitVec 32) : Prop :=
  (∀ (k1_h1 : k1_cond1 i = 1#1), ∀ a, (k1_off442 i v4913 v4915 v4917) a + S1x1x1x1x8x20.size a ≤ S3x8x9x80x80x20.size a) ∧
  (∀ (k1_h1 : k1_cond1 i = 1#1), ∀ a, (k1_off443 i v4913 v4915 v4917) a + S1x1x1x1x8x5.size a ≤ S3x8x9x80x80x5.size a)
theorem k1_off442_inb : ∀ (i : grid1.Coords) (v4913 : BitVec 32) (v4915 : BitVec 32) (v4917 : BitVec 32) (k1_hw278 : k1_chk278 i v4913 v4915 v4917), ∀ (k1_h1 : k1_cond1 i = 1#1), ∀ a, (k1_off442 i v4913 v4915 v4917) a + S1x1x1x1x8x20.size a ≤ S3x8x9x80x80x20.size a := fun i v4913 v4915 v4917 k1_hw278 k1_h1 => k1_hw278.1 k1_h1
theorem k1_off443_inb : ∀ (i : grid1.Coords) (v4913 : BitVec 32) (v4915 : BitVec 32) (v4917 : BitVec 32) (k1_hw278 : k1_chk278 i v4913 v4915 v4917), ∀ (k1_h1 : k1_cond1 i = 1#1), ∀ a, (k1_off443 i v4913 v4915 v4917) a + S1x1x1x1x8x5.size a ≤ S3x8x9x80x80x5.size a := fun i v4913 v4915 v4917 k1_hw278 k1_h1 => k1_hw278.2 k1_h1

def k1_off444 (i : grid1.Coords) (v4189 : BitVec 32) (v4191 : BitVec 32) (v4193 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2967 : BitVec 32 := 8#32
  let v4194 : BitVec 32 := Scalar.muli v4193 c8_i32_2967
  let c0_i32_3455 : BitVec 32 := 0#32
  ![v21.toNat, v22.toNat, v4189.toNat, v4191.toNat, v4194.toNat, 0]
def k1_off445 (i : grid1.Coords) (v4189 : BitVec 32) (v4191 : BitVec 32) (v4193 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2967 : BitVec 32 := 8#32
  let v4194 : BitVec 32 := Scalar.muli v4193 c8_i32_2967
  let c0_i32_3462 : BitVec 32 := 0#32
  ![v21.toNat, v22.toNat, v4189.toNat, v4191.toNat, v4194.toNat, 0]

def k1_chk247 (i : grid1.Coords) (v4189 : BitVec 32) (v4191 : BitVec 32) (v4193 : BitVec 32) : Prop :=
  (∀ (k1_h1 : k1_cond1 i = 1#1), ∀ a, (k1_off380 i v4189 v4191 v4193) a + S1x1x1x1x8x20.size a ≤ S3x8x9x80x80x20.size a) ∧
  (∀ (k1_h1 : k1_cond1 i = 1#1), ∀ a, (k1_off381 i v4189 v4191 v4193) a + S1x1x1x1x8x5.size a ≤ S3x8x9x80x80x5.size a) ∧
  (∀ (k1_h1 : k1_cond1 i = 1#1), ∀ a, (k1_off444 i v4189 v4191 v4193) a + S1x1x1x1x8x20.size a ≤ S3x8x9x80x80x20.size a) ∧
  (∀ (k1_h1 : k1_cond1 i = 1#1), ∀ a, (k1_off445 i v4189 v4191 v4193) a + S1x1x1x1x8x5.size a ≤ S3x8x9x80x80x5.size a)
theorem k1_off380_inb : ∀ (i : grid1.Coords) (v4189 : BitVec 32) (v4191 : BitVec 32) (v4193 : BitVec 32) (k1_hw247 : k1_chk247 i v4189 v4191 v4193), ∀ (k1_h1 : k1_cond1 i = 1#1), ∀ a, (k1_off380 i v4189 v4191 v4193) a + S1x1x1x1x8x20.size a ≤ S3x8x9x80x80x20.size a := fun i v4189 v4191 v4193 k1_hw247 k1_h1 => k1_hw247.1 k1_h1
theorem k1_off381_inb : ∀ (i : grid1.Coords) (v4189 : BitVec 32) (v4191 : BitVec 32) (v4193 : BitVec 32) (k1_hw247 : k1_chk247 i v4189 v4191 v4193), ∀ (k1_h1 : k1_cond1 i = 1#1), ∀ a, (k1_off381 i v4189 v4191 v4193) a + S1x1x1x1x8x5.size a ≤ S3x8x9x80x80x5.size a := fun i v4189 v4191 v4193 k1_hw247 k1_h1 => k1_hw247.2.1 k1_h1
theorem k1_off444_inb : ∀ (i : grid1.Coords) (v4189 : BitVec 32) (v4191 : BitVec 32) (v4193 : BitVec 32) (k1_hw247 : k1_chk247 i v4189 v4191 v4193), ∀ (k1_h1 : k1_cond1 i = 1#1), ∀ a, (k1_off444 i v4189 v4191 v4193) a + S1x1x1x1x8x20.size a ≤ S3x8x9x80x80x20.size a := fun i v4189 v4191 v4193 k1_hw247 k1_h1 => k1_hw247.2.2.1 k1_h1
theorem k1_off445_inb : ∀ (i : grid1.Coords) (v4189 : BitVec 32) (v4191 : BitVec 32) (v4193 : BitVec 32) (k1_hw247 : k1_chk247 i v4189 v4191 v4193), ∀ (k1_h1 : k1_cond1 i = 1#1), ∀ a, (k1_off445 i v4189 v4191 v4193) a + S1x1x1x1x8x5.size a ≤ S3x8x9x80x80x5.size a := fun i v4189 v4191 v4193 k1_hw247 k1_h1 => k1_hw247.2.2.2 k1_h1

def k1_off446 (i : grid1.Coords) (v4212 : BitVec 32) (v4214 : BitVec 32) (v4216 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2982 : BitVec 32 := 8#32
  let v4217 : BitVec 32 := Scalar.muli v4216 c8_i32_2982
  let c0_i32_3469 : BitVec 32 := 0#32
  ![v21.toNat, v22.toNat, v4212.toNat, v4214.toNat, v4217.toNat, 0]
def k1_off447 (i : grid1.Coords) (v4212 : BitVec 32) (v4214 : BitVec 32) (v4216 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2982 : BitVec 32 := 8#32
  let v4217 : BitVec 32 := Scalar.muli v4216 c8_i32_2982
  let c0_i32_3476 : BitVec 32 := 0#32
  ![v21.toNat, v22.toNat, v4212.toNat, v4214.toNat, v4217.toNat, 0]

def k1_chk248 (i : grid1.Coords) (v4212 : BitVec 32) (v4214 : BitVec 32) (v4216 : BitVec 32) : Prop :=
  (∀ (k1_h1 : k1_cond1 i = 1#1), ∀ a, (k1_off382 i v4212 v4214 v4216) a + S1x1x1x1x8x20.size a ≤ S3x8x9x80x80x20.size a) ∧
  (∀ (k1_h1 : k1_cond1 i = 1#1), ∀ a, (k1_off383 i v4212 v4214 v4216) a + S1x1x1x1x8x5.size a ≤ S3x8x9x80x80x5.size a) ∧
  (∀ (k1_h1 : k1_cond1 i = 1#1), ∀ a, (k1_off446 i v4212 v4214 v4216) a + S1x1x1x1x8x20.size a ≤ S3x8x9x80x80x20.size a) ∧
  (∀ (k1_h1 : k1_cond1 i = 1#1), ∀ a, (k1_off447 i v4212 v4214 v4216) a + S1x1x1x1x8x5.size a ≤ S3x8x9x80x80x5.size a)
theorem k1_off382_inb : ∀ (i : grid1.Coords) (v4212 : BitVec 32) (v4214 : BitVec 32) (v4216 : BitVec 32) (k1_hw248 : k1_chk248 i v4212 v4214 v4216), ∀ (k1_h1 : k1_cond1 i = 1#1), ∀ a, (k1_off382 i v4212 v4214 v4216) a + S1x1x1x1x8x20.size a ≤ S3x8x9x80x80x20.size a := fun i v4212 v4214 v4216 k1_hw248 k1_h1 => k1_hw248.1 k1_h1
theorem k1_off383_inb : ∀ (i : grid1.Coords) (v4212 : BitVec 32) (v4214 : BitVec 32) (v4216 : BitVec 32) (k1_hw248 : k1_chk248 i v4212 v4214 v4216), ∀ (k1_h1 : k1_cond1 i = 1#1), ∀ a, (k1_off383 i v4212 v4214 v4216) a + S1x1x1x1x8x5.size a ≤ S3x8x9x80x80x5.size a := fun i v4212 v4214 v4216 k1_hw248 k1_h1 => k1_hw248.2.1 k1_h1
theorem k1_off446_inb : ∀ (i : grid1.Coords) (v4212 : BitVec 32) (v4214 : BitVec 32) (v4216 : BitVec 32) (k1_hw248 : k1_chk248 i v4212 v4214 v4216), ∀ (k1_h1 : k1_cond1 i = 1#1), ∀ a, (k1_off446 i v4212 v4214 v4216) a + S1x1x1x1x8x20.size a ≤ S3x8x9x80x80x20.size a := fun i v4212 v4214 v4216 k1_hw248 k1_h1 => k1_hw248.2.2.1 k1_h1
theorem k1_off447_inb : ∀ (i : grid1.Coords) (v4212 : BitVec 32) (v4214 : BitVec 32) (v4216 : BitVec 32) (k1_hw248 : k1_chk248 i v4212 v4214 v4216), ∀ (k1_h1 : k1_cond1 i = 1#1), ∀ a, (k1_off447 i v4212 v4214 v4216) a + S1x1x1x1x8x5.size a ≤ S3x8x9x80x80x5.size a := fun i v4212 v4214 v4216 k1_hw248 k1_h1 => k1_hw248.2.2.2 k1_h1

def k1_off448 (i : grid1.Coords) (v4235 : BitVec 32) (v4237 : BitVec 32) (v4239 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2997 : BitVec 32 := 8#32
  let v4240 : BitVec 32 := Scalar.muli v4239 c8_i32_2997
  let c0_i32_3483 : BitVec 32 := 0#32
  ![v21.toNat, v22.toNat, v4235.toNat, v4237.toNat, v4240.toNat, 0]
def k1_off449 (i : grid1.Coords) (v4235 : BitVec 32) (v4237 : BitVec 32) (v4239 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_2997 : BitVec 32 := 8#32
  let v4240 : BitVec 32 := Scalar.muli v4239 c8_i32_2997
  let c0_i32_3490 : BitVec 32 := 0#32
  ![v21.toNat, v22.toNat, v4235.toNat, v4237.toNat, v4240.toNat, 0]

def k1_chk249 (i : grid1.Coords) (v4235 : BitVec 32) (v4237 : BitVec 32) (v4239 : BitVec 32) : Prop :=
  (∀ (k1_h1 : k1_cond1 i = 1#1), ∀ a, (k1_off384 i v4235 v4237 v4239) a + S1x1x1x1x8x20.size a ≤ S3x8x9x80x80x20.size a) ∧
  (∀ (k1_h1 : k1_cond1 i = 1#1), ∀ a, (k1_off385 i v4235 v4237 v4239) a + S1x1x1x1x8x5.size a ≤ S3x8x9x80x80x5.size a) ∧
  (∀ (k1_h1 : k1_cond1 i = 1#1), ∀ a, (k1_off448 i v4235 v4237 v4239) a + S1x1x1x1x8x20.size a ≤ S3x8x9x80x80x20.size a) ∧
  (∀ (k1_h1 : k1_cond1 i = 1#1), ∀ a, (k1_off449 i v4235 v4237 v4239) a + S1x1x1x1x8x5.size a ≤ S3x8x9x80x80x5.size a)
theorem k1_off384_inb : ∀ (i : grid1.Coords) (v4235 : BitVec 32) (v4237 : BitVec 32) (v4239 : BitVec 32) (k1_hw249 : k1_chk249 i v4235 v4237 v4239), ∀ (k1_h1 : k1_cond1 i = 1#1), ∀ a, (k1_off384 i v4235 v4237 v4239) a + S1x1x1x1x8x20.size a ≤ S3x8x9x80x80x20.size a := fun i v4235 v4237 v4239 k1_hw249 k1_h1 => k1_hw249.1 k1_h1
theorem k1_off385_inb : ∀ (i : grid1.Coords) (v4235 : BitVec 32) (v4237 : BitVec 32) (v4239 : BitVec 32) (k1_hw249 : k1_chk249 i v4235 v4237 v4239), ∀ (k1_h1 : k1_cond1 i = 1#1), ∀ a, (k1_off385 i v4235 v4237 v4239) a + S1x1x1x1x8x5.size a ≤ S3x8x9x80x80x5.size a := fun i v4235 v4237 v4239 k1_hw249 k1_h1 => k1_hw249.2.1 k1_h1
theorem k1_off448_inb : ∀ (i : grid1.Coords) (v4235 : BitVec 32) (v4237 : BitVec 32) (v4239 : BitVec 32) (k1_hw249 : k1_chk249 i v4235 v4237 v4239), ∀ (k1_h1 : k1_cond1 i = 1#1), ∀ a, (k1_off448 i v4235 v4237 v4239) a + S1x1x1x1x8x20.size a ≤ S3x8x9x80x80x20.size a := fun i v4235 v4237 v4239 k1_hw249 k1_h1 => k1_hw249.2.2.1 k1_h1
theorem k1_off449_inb : ∀ (i : grid1.Coords) (v4235 : BitVec 32) (v4237 : BitVec 32) (v4239 : BitVec 32) (k1_hw249 : k1_chk249 i v4235 v4237 v4239), ∀ (k1_h1 : k1_cond1 i = 1#1), ∀ a, (k1_off449 i v4235 v4237 v4239) a + S1x1x1x1x8x5.size a ≤ S3x8x9x80x80x5.size a := fun i v4235 v4237 v4239 k1_hw249 k1_h1 => k1_hw249.2.2.2 k1_h1

def k1_off450 (i : grid1.Coords) (v4258 : BitVec 32) (v4260 : BitVec 32) (v4262 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3012 : BitVec 32 := 8#32
  let v4263 : BitVec 32 := Scalar.muli v4262 c8_i32_3012
  let c0_i32_3497 : BitVec 32 := 0#32
  ![v21.toNat, v22.toNat, v4258.toNat, v4260.toNat, v4263.toNat, 0]
def k1_off451 (i : grid1.Coords) (v4258 : BitVec 32) (v4260 : BitVec 32) (v4262 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3012 : BitVec 32 := 8#32
  let v4263 : BitVec 32 := Scalar.muli v4262 c8_i32_3012
  let c0_i32_3504 : BitVec 32 := 0#32
  ![v21.toNat, v22.toNat, v4258.toNat, v4260.toNat, v4263.toNat, 0]

def k1_chk250 (i : grid1.Coords) (v4258 : BitVec 32) (v4260 : BitVec 32) (v4262 : BitVec 32) : Prop :=
  (∀ (k1_h1 : k1_cond1 i = 1#1), ∀ a, (k1_off386 i v4258 v4260 v4262) a + S1x1x1x1x8x20.size a ≤ S3x8x9x80x80x20.size a) ∧
  (∀ (k1_h1 : k1_cond1 i = 1#1), ∀ a, (k1_off387 i v4258 v4260 v4262) a + S1x1x1x1x8x5.size a ≤ S3x8x9x80x80x5.size a) ∧
  (∀ (k1_h1 : k1_cond1 i = 1#1), ∀ a, (k1_off450 i v4258 v4260 v4262) a + S1x1x1x1x8x20.size a ≤ S3x8x9x80x80x20.size a) ∧
  (∀ (k1_h1 : k1_cond1 i = 1#1), ∀ a, (k1_off451 i v4258 v4260 v4262) a + S1x1x1x1x8x5.size a ≤ S3x8x9x80x80x5.size a)
theorem k1_off386_inb : ∀ (i : grid1.Coords) (v4258 : BitVec 32) (v4260 : BitVec 32) (v4262 : BitVec 32) (k1_hw250 : k1_chk250 i v4258 v4260 v4262), ∀ (k1_h1 : k1_cond1 i = 1#1), ∀ a, (k1_off386 i v4258 v4260 v4262) a + S1x1x1x1x8x20.size a ≤ S3x8x9x80x80x20.size a := fun i v4258 v4260 v4262 k1_hw250 k1_h1 => k1_hw250.1 k1_h1
theorem k1_off387_inb : ∀ (i : grid1.Coords) (v4258 : BitVec 32) (v4260 : BitVec 32) (v4262 : BitVec 32) (k1_hw250 : k1_chk250 i v4258 v4260 v4262), ∀ (k1_h1 : k1_cond1 i = 1#1), ∀ a, (k1_off387 i v4258 v4260 v4262) a + S1x1x1x1x8x5.size a ≤ S3x8x9x80x80x5.size a := fun i v4258 v4260 v4262 k1_hw250 k1_h1 => k1_hw250.2.1 k1_h1
theorem k1_off450_inb : ∀ (i : grid1.Coords) (v4258 : BitVec 32) (v4260 : BitVec 32) (v4262 : BitVec 32) (k1_hw250 : k1_chk250 i v4258 v4260 v4262), ∀ (k1_h1 : k1_cond1 i = 1#1), ∀ a, (k1_off450 i v4258 v4260 v4262) a + S1x1x1x1x8x20.size a ≤ S3x8x9x80x80x20.size a := fun i v4258 v4260 v4262 k1_hw250 k1_h1 => k1_hw250.2.2.1 k1_h1
theorem k1_off451_inb : ∀ (i : grid1.Coords) (v4258 : BitVec 32) (v4260 : BitVec 32) (v4262 : BitVec 32) (k1_hw250 : k1_chk250 i v4258 v4260 v4262), ∀ (k1_h1 : k1_cond1 i = 1#1), ∀ a, (k1_off451 i v4258 v4260 v4262) a + S1x1x1x1x8x5.size a ≤ S3x8x9x80x80x5.size a := fun i v4258 v4260 v4262 k1_hw250 k1_h1 => k1_hw250.2.2.2 k1_h1

def k1_off452 (i : grid1.Coords) (v4281 : BitVec 32) (v4283 : BitVec 32) (v4285 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3027 : BitVec 32 := 8#32
  let v4286 : BitVec 32 := Scalar.muli v4285 c8_i32_3027
  let c0_i32_3511 : BitVec 32 := 0#32
  ![v21.toNat, v22.toNat, v4281.toNat, v4283.toNat, v4286.toNat, 0]
def k1_off453 (i : grid1.Coords) (v4281 : BitVec 32) (v4283 : BitVec 32) (v4285 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3027 : BitVec 32 := 8#32
  let v4286 : BitVec 32 := Scalar.muli v4285 c8_i32_3027
  let c0_i32_3518 : BitVec 32 := 0#32
  ![v21.toNat, v22.toNat, v4281.toNat, v4283.toNat, v4286.toNat, 0]

def k1_chk251 (i : grid1.Coords) (v4281 : BitVec 32) (v4283 : BitVec 32) (v4285 : BitVec 32) : Prop :=
  (∀ (k1_h1 : k1_cond1 i = 1#1), ∀ a, (k1_off388 i v4281 v4283 v4285) a + S1x1x1x1x8x20.size a ≤ S3x8x9x80x80x20.size a) ∧
  (∀ (k1_h1 : k1_cond1 i = 1#1), ∀ a, (k1_off389 i v4281 v4283 v4285) a + S1x1x1x1x8x5.size a ≤ S3x8x9x80x80x5.size a) ∧
  (∀ (k1_h1 : k1_cond1 i = 1#1), ∀ a, (k1_off452 i v4281 v4283 v4285) a + S1x1x1x1x8x20.size a ≤ S3x8x9x80x80x20.size a) ∧
  (∀ (k1_h1 : k1_cond1 i = 1#1), ∀ a, (k1_off453 i v4281 v4283 v4285) a + S1x1x1x1x8x5.size a ≤ S3x8x9x80x80x5.size a)
theorem k1_off388_inb : ∀ (i : grid1.Coords) (v4281 : BitVec 32) (v4283 : BitVec 32) (v4285 : BitVec 32) (k1_hw251 : k1_chk251 i v4281 v4283 v4285), ∀ (k1_h1 : k1_cond1 i = 1#1), ∀ a, (k1_off388 i v4281 v4283 v4285) a + S1x1x1x1x8x20.size a ≤ S3x8x9x80x80x20.size a := fun i v4281 v4283 v4285 k1_hw251 k1_h1 => k1_hw251.1 k1_h1
theorem k1_off389_inb : ∀ (i : grid1.Coords) (v4281 : BitVec 32) (v4283 : BitVec 32) (v4285 : BitVec 32) (k1_hw251 : k1_chk251 i v4281 v4283 v4285), ∀ (k1_h1 : k1_cond1 i = 1#1), ∀ a, (k1_off389 i v4281 v4283 v4285) a + S1x1x1x1x8x5.size a ≤ S3x8x9x80x80x5.size a := fun i v4281 v4283 v4285 k1_hw251 k1_h1 => k1_hw251.2.1 k1_h1
theorem k1_off452_inb : ∀ (i : grid1.Coords) (v4281 : BitVec 32) (v4283 : BitVec 32) (v4285 : BitVec 32) (k1_hw251 : k1_chk251 i v4281 v4283 v4285), ∀ (k1_h1 : k1_cond1 i = 1#1), ∀ a, (k1_off452 i v4281 v4283 v4285) a + S1x1x1x1x8x20.size a ≤ S3x8x9x80x80x20.size a := fun i v4281 v4283 v4285 k1_hw251 k1_h1 => k1_hw251.2.2.1 k1_h1
theorem k1_off453_inb : ∀ (i : grid1.Coords) (v4281 : BitVec 32) (v4283 : BitVec 32) (v4285 : BitVec 32) (k1_hw251 : k1_chk251 i v4281 v4283 v4285), ∀ (k1_h1 : k1_cond1 i = 1#1), ∀ a, (k1_off453 i v4281 v4283 v4285) a + S1x1x1x1x8x5.size a ≤ S3x8x9x80x80x5.size a := fun i v4281 v4283 v4285 k1_hw251 k1_h1 => k1_hw251.2.2.2 k1_h1

def k1_off454 (i : grid1.Coords) (v4304 : BitVec 32) (v4306 : BitVec 32) (v4308 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3042 : BitVec 32 := 8#32
  let v4309 : BitVec 32 := Scalar.muli v4308 c8_i32_3042
  let c0_i32_3525 : BitVec 32 := 0#32
  ![v21.toNat, v22.toNat, v4304.toNat, v4306.toNat, v4309.toNat, 0]
def k1_off455 (i : grid1.Coords) (v4304 : BitVec 32) (v4306 : BitVec 32) (v4308 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3042 : BitVec 32 := 8#32
  let v4309 : BitVec 32 := Scalar.muli v4308 c8_i32_3042
  let c0_i32_3532 : BitVec 32 := 0#32
  ![v21.toNat, v22.toNat, v4304.toNat, v4306.toNat, v4309.toNat, 0]

def k1_chk252 (i : grid1.Coords) (v4304 : BitVec 32) (v4306 : BitVec 32) (v4308 : BitVec 32) : Prop :=
  (∀ (k1_h1 : k1_cond1 i = 1#1), ∀ a, (k1_off390 i v4304 v4306 v4308) a + S1x1x1x1x8x20.size a ≤ S3x8x9x80x80x20.size a) ∧
  (∀ (k1_h1 : k1_cond1 i = 1#1), ∀ a, (k1_off391 i v4304 v4306 v4308) a + S1x1x1x1x8x5.size a ≤ S3x8x9x80x80x5.size a) ∧
  (∀ (k1_h1 : k1_cond1 i = 1#1), ∀ a, (k1_off454 i v4304 v4306 v4308) a + S1x1x1x1x8x20.size a ≤ S3x8x9x80x80x20.size a) ∧
  (∀ (k1_h1 : k1_cond1 i = 1#1), ∀ a, (k1_off455 i v4304 v4306 v4308) a + S1x1x1x1x8x5.size a ≤ S3x8x9x80x80x5.size a)
theorem k1_off390_inb : ∀ (i : grid1.Coords) (v4304 : BitVec 32) (v4306 : BitVec 32) (v4308 : BitVec 32) (k1_hw252 : k1_chk252 i v4304 v4306 v4308), ∀ (k1_h1 : k1_cond1 i = 1#1), ∀ a, (k1_off390 i v4304 v4306 v4308) a + S1x1x1x1x8x20.size a ≤ S3x8x9x80x80x20.size a := fun i v4304 v4306 v4308 k1_hw252 k1_h1 => k1_hw252.1 k1_h1
theorem k1_off391_inb : ∀ (i : grid1.Coords) (v4304 : BitVec 32) (v4306 : BitVec 32) (v4308 : BitVec 32) (k1_hw252 : k1_chk252 i v4304 v4306 v4308), ∀ (k1_h1 : k1_cond1 i = 1#1), ∀ a, (k1_off391 i v4304 v4306 v4308) a + S1x1x1x1x8x5.size a ≤ S3x8x9x80x80x5.size a := fun i v4304 v4306 v4308 k1_hw252 k1_h1 => k1_hw252.2.1 k1_h1
theorem k1_off454_inb : ∀ (i : grid1.Coords) (v4304 : BitVec 32) (v4306 : BitVec 32) (v4308 : BitVec 32) (k1_hw252 : k1_chk252 i v4304 v4306 v4308), ∀ (k1_h1 : k1_cond1 i = 1#1), ∀ a, (k1_off454 i v4304 v4306 v4308) a + S1x1x1x1x8x20.size a ≤ S3x8x9x80x80x20.size a := fun i v4304 v4306 v4308 k1_hw252 k1_h1 => k1_hw252.2.2.1 k1_h1
theorem k1_off455_inb : ∀ (i : grid1.Coords) (v4304 : BitVec 32) (v4306 : BitVec 32) (v4308 : BitVec 32) (k1_hw252 : k1_chk252 i v4304 v4306 v4308), ∀ (k1_h1 : k1_cond1 i = 1#1), ∀ a, (k1_off455 i v4304 v4306 v4308) a + S1x1x1x1x8x5.size a ≤ S3x8x9x80x80x5.size a := fun i v4304 v4306 v4308 k1_hw252 k1_h1 => k1_hw252.2.2.2 k1_h1

def k1_off456 (i : grid1.Coords) (v4327 : BitVec 32) (v4329 : BitVec 32) (v4331 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3057 : BitVec 32 := 8#32
  let v4332 : BitVec 32 := Scalar.muli v4331 c8_i32_3057
  let c0_i32_3539 : BitVec 32 := 0#32
  ![v21.toNat, v22.toNat, v4327.toNat, v4329.toNat, v4332.toNat, 0]
def k1_off457 (i : grid1.Coords) (v4327 : BitVec 32) (v4329 : BitVec 32) (v4331 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3057 : BitVec 32 := 8#32
  let v4332 : BitVec 32 := Scalar.muli v4331 c8_i32_3057
  let c0_i32_3546 : BitVec 32 := 0#32
  ![v21.toNat, v22.toNat, v4327.toNat, v4329.toNat, v4332.toNat, 0]

def k1_chk253 (i : grid1.Coords) (v4327 : BitVec 32) (v4329 : BitVec 32) (v4331 : BitVec 32) : Prop :=
  (∀ (k1_h1 : k1_cond1 i = 1#1), ∀ a, (k1_off392 i v4327 v4329 v4331) a + S1x1x1x1x8x20.size a ≤ S3x8x9x80x80x20.size a) ∧
  (∀ (k1_h1 : k1_cond1 i = 1#1), ∀ a, (k1_off393 i v4327 v4329 v4331) a + S1x1x1x1x8x5.size a ≤ S3x8x9x80x80x5.size a) ∧
  (∀ (k1_h1 : k1_cond1 i = 1#1), ∀ a, (k1_off456 i v4327 v4329 v4331) a + S1x1x1x1x8x20.size a ≤ S3x8x9x80x80x20.size a) ∧
  (∀ (k1_h1 : k1_cond1 i = 1#1), ∀ a, (k1_off457 i v4327 v4329 v4331) a + S1x1x1x1x8x5.size a ≤ S3x8x9x80x80x5.size a)
theorem k1_off392_inb : ∀ (i : grid1.Coords) (v4327 : BitVec 32) (v4329 : BitVec 32) (v4331 : BitVec 32) (k1_hw253 : k1_chk253 i v4327 v4329 v4331), ∀ (k1_h1 : k1_cond1 i = 1#1), ∀ a, (k1_off392 i v4327 v4329 v4331) a + S1x1x1x1x8x20.size a ≤ S3x8x9x80x80x20.size a := fun i v4327 v4329 v4331 k1_hw253 k1_h1 => k1_hw253.1 k1_h1
theorem k1_off393_inb : ∀ (i : grid1.Coords) (v4327 : BitVec 32) (v4329 : BitVec 32) (v4331 : BitVec 32) (k1_hw253 : k1_chk253 i v4327 v4329 v4331), ∀ (k1_h1 : k1_cond1 i = 1#1), ∀ a, (k1_off393 i v4327 v4329 v4331) a + S1x1x1x1x8x5.size a ≤ S3x8x9x80x80x5.size a := fun i v4327 v4329 v4331 k1_hw253 k1_h1 => k1_hw253.2.1 k1_h1
theorem k1_off456_inb : ∀ (i : grid1.Coords) (v4327 : BitVec 32) (v4329 : BitVec 32) (v4331 : BitVec 32) (k1_hw253 : k1_chk253 i v4327 v4329 v4331), ∀ (k1_h1 : k1_cond1 i = 1#1), ∀ a, (k1_off456 i v4327 v4329 v4331) a + S1x1x1x1x8x20.size a ≤ S3x8x9x80x80x20.size a := fun i v4327 v4329 v4331 k1_hw253 k1_h1 => k1_hw253.2.2.1 k1_h1
theorem k1_off457_inb : ∀ (i : grid1.Coords) (v4327 : BitVec 32) (v4329 : BitVec 32) (v4331 : BitVec 32) (k1_hw253 : k1_chk253 i v4327 v4329 v4331), ∀ (k1_h1 : k1_cond1 i = 1#1), ∀ a, (k1_off457 i v4327 v4329 v4331) a + S1x1x1x1x8x5.size a ≤ S3x8x9x80x80x5.size a := fun i v4327 v4329 v4331 k1_hw253 k1_h1 => k1_hw253.2.2.2 k1_h1

def k1_off458 (i : grid1.Coords) (v4350 : BitVec 32) (v4352 : BitVec 32) (v4354 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3072 : BitVec 32 := 8#32
  let v4355 : BitVec 32 := Scalar.muli v4354 c8_i32_3072
  let c0_i32_3553 : BitVec 32 := 0#32
  ![v21.toNat, v22.toNat, v4350.toNat, v4352.toNat, v4355.toNat, 0]
def k1_off459 (i : grid1.Coords) (v4350 : BitVec 32) (v4352 : BitVec 32) (v4354 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3072 : BitVec 32 := 8#32
  let v4355 : BitVec 32 := Scalar.muli v4354 c8_i32_3072
  let c0_i32_3560 : BitVec 32 := 0#32
  ![v21.toNat, v22.toNat, v4350.toNat, v4352.toNat, v4355.toNat, 0]

def k1_chk254 (i : grid1.Coords) (v4350 : BitVec 32) (v4352 : BitVec 32) (v4354 : BitVec 32) : Prop :=
  (∀ (k1_h1 : k1_cond1 i = 1#1), ∀ a, (k1_off394 i v4350 v4352 v4354) a + S1x1x1x1x8x20.size a ≤ S3x8x9x80x80x20.size a) ∧
  (∀ (k1_h1 : k1_cond1 i = 1#1), ∀ a, (k1_off395 i v4350 v4352 v4354) a + S1x1x1x1x8x5.size a ≤ S3x8x9x80x80x5.size a) ∧
  (∀ (k1_h1 : k1_cond1 i = 1#1), ∀ a, (k1_off458 i v4350 v4352 v4354) a + S1x1x1x1x8x20.size a ≤ S3x8x9x80x80x20.size a) ∧
  (∀ (k1_h1 : k1_cond1 i = 1#1), ∀ a, (k1_off459 i v4350 v4352 v4354) a + S1x1x1x1x8x5.size a ≤ S3x8x9x80x80x5.size a)
theorem k1_off394_inb : ∀ (i : grid1.Coords) (v4350 : BitVec 32) (v4352 : BitVec 32) (v4354 : BitVec 32) (k1_hw254 : k1_chk254 i v4350 v4352 v4354), ∀ (k1_h1 : k1_cond1 i = 1#1), ∀ a, (k1_off394 i v4350 v4352 v4354) a + S1x1x1x1x8x20.size a ≤ S3x8x9x80x80x20.size a := fun i v4350 v4352 v4354 k1_hw254 k1_h1 => k1_hw254.1 k1_h1
theorem k1_off395_inb : ∀ (i : grid1.Coords) (v4350 : BitVec 32) (v4352 : BitVec 32) (v4354 : BitVec 32) (k1_hw254 : k1_chk254 i v4350 v4352 v4354), ∀ (k1_h1 : k1_cond1 i = 1#1), ∀ a, (k1_off395 i v4350 v4352 v4354) a + S1x1x1x1x8x5.size a ≤ S3x8x9x80x80x5.size a := fun i v4350 v4352 v4354 k1_hw254 k1_h1 => k1_hw254.2.1 k1_h1
theorem k1_off458_inb : ∀ (i : grid1.Coords) (v4350 : BitVec 32) (v4352 : BitVec 32) (v4354 : BitVec 32) (k1_hw254 : k1_chk254 i v4350 v4352 v4354), ∀ (k1_h1 : k1_cond1 i = 1#1), ∀ a, (k1_off458 i v4350 v4352 v4354) a + S1x1x1x1x8x20.size a ≤ S3x8x9x80x80x20.size a := fun i v4350 v4352 v4354 k1_hw254 k1_h1 => k1_hw254.2.2.1 k1_h1
theorem k1_off459_inb : ∀ (i : grid1.Coords) (v4350 : BitVec 32) (v4352 : BitVec 32) (v4354 : BitVec 32) (k1_hw254 : k1_chk254 i v4350 v4352 v4354), ∀ (k1_h1 : k1_cond1 i = 1#1), ∀ a, (k1_off459 i v4350 v4352 v4354) a + S1x1x1x1x8x5.size a ≤ S3x8x9x80x80x5.size a := fun i v4350 v4352 v4354 k1_hw254 k1_h1 => k1_hw254.2.2.2 k1_h1

def k1_off460 (i : grid1.Coords) (v4373 : BitVec 32) (v4375 : BitVec 32) (v4377 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3087 : BitVec 32 := 8#32
  let v4378 : BitVec 32 := Scalar.muli v4377 c8_i32_3087
  let c0_i32_3567 : BitVec 32 := 0#32
  ![v21.toNat, v22.toNat, v4373.toNat, v4375.toNat, v4378.toNat, 0]
def k1_off461 (i : grid1.Coords) (v4373 : BitVec 32) (v4375 : BitVec 32) (v4377 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3087 : BitVec 32 := 8#32
  let v4378 : BitVec 32 := Scalar.muli v4377 c8_i32_3087
  let c0_i32_3574 : BitVec 32 := 0#32
  ![v21.toNat, v22.toNat, v4373.toNat, v4375.toNat, v4378.toNat, 0]

def k1_chk255 (i : grid1.Coords) (v4373 : BitVec 32) (v4375 : BitVec 32) (v4377 : BitVec 32) : Prop :=
  (∀ (k1_h1 : k1_cond1 i = 1#1), ∀ a, (k1_off396 i v4373 v4375 v4377) a + S1x1x1x1x8x20.size a ≤ S3x8x9x80x80x20.size a) ∧
  (∀ (k1_h1 : k1_cond1 i = 1#1), ∀ a, (k1_off397 i v4373 v4375 v4377) a + S1x1x1x1x8x5.size a ≤ S3x8x9x80x80x5.size a) ∧
  (∀ (k1_h1 : k1_cond1 i = 1#1), ∀ a, (k1_off460 i v4373 v4375 v4377) a + S1x1x1x1x8x20.size a ≤ S3x8x9x80x80x20.size a) ∧
  (∀ (k1_h1 : k1_cond1 i = 1#1), ∀ a, (k1_off461 i v4373 v4375 v4377) a + S1x1x1x1x8x5.size a ≤ S3x8x9x80x80x5.size a)
theorem k1_off396_inb : ∀ (i : grid1.Coords) (v4373 : BitVec 32) (v4375 : BitVec 32) (v4377 : BitVec 32) (k1_hw255 : k1_chk255 i v4373 v4375 v4377), ∀ (k1_h1 : k1_cond1 i = 1#1), ∀ a, (k1_off396 i v4373 v4375 v4377) a + S1x1x1x1x8x20.size a ≤ S3x8x9x80x80x20.size a := fun i v4373 v4375 v4377 k1_hw255 k1_h1 => k1_hw255.1 k1_h1
theorem k1_off397_inb : ∀ (i : grid1.Coords) (v4373 : BitVec 32) (v4375 : BitVec 32) (v4377 : BitVec 32) (k1_hw255 : k1_chk255 i v4373 v4375 v4377), ∀ (k1_h1 : k1_cond1 i = 1#1), ∀ a, (k1_off397 i v4373 v4375 v4377) a + S1x1x1x1x8x5.size a ≤ S3x8x9x80x80x5.size a := fun i v4373 v4375 v4377 k1_hw255 k1_h1 => k1_hw255.2.1 k1_h1
theorem k1_off460_inb : ∀ (i : grid1.Coords) (v4373 : BitVec 32) (v4375 : BitVec 32) (v4377 : BitVec 32) (k1_hw255 : k1_chk255 i v4373 v4375 v4377), ∀ (k1_h1 : k1_cond1 i = 1#1), ∀ a, (k1_off460 i v4373 v4375 v4377) a + S1x1x1x1x8x20.size a ≤ S3x8x9x80x80x20.size a := fun i v4373 v4375 v4377 k1_hw255 k1_h1 => k1_hw255.2.2.1 k1_h1
theorem k1_off461_inb : ∀ (i : grid1.Coords) (v4373 : BitVec 32) (v4375 : BitVec 32) (v4377 : BitVec 32) (k1_hw255 : k1_chk255 i v4373 v4375 v4377), ∀ (k1_h1 : k1_cond1 i = 1#1), ∀ a, (k1_off461 i v4373 v4375 v4377) a + S1x1x1x1x8x5.size a ≤ S3x8x9x80x80x5.size a := fun i v4373 v4375 v4377 k1_hw255 k1_h1 => k1_hw255.2.2.2 k1_h1

def k1_off462 (i : grid1.Coords) (v4396 : BitVec 32) (v4398 : BitVec 32) (v4400 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3102 : BitVec 32 := 8#32
  let v4401 : BitVec 32 := Scalar.muli v4400 c8_i32_3102
  let c0_i32_3581 : BitVec 32 := 0#32
  ![v21.toNat, v22.toNat, v4396.toNat, v4398.toNat, v4401.toNat, 0]
def k1_off463 (i : grid1.Coords) (v4396 : BitVec 32) (v4398 : BitVec 32) (v4400 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3102 : BitVec 32 := 8#32
  let v4401 : BitVec 32 := Scalar.muli v4400 c8_i32_3102
  let c0_i32_3588 : BitVec 32 := 0#32
  ![v21.toNat, v22.toNat, v4396.toNat, v4398.toNat, v4401.toNat, 0]

def k1_chk256 (i : grid1.Coords) (v4396 : BitVec 32) (v4398 : BitVec 32) (v4400 : BitVec 32) : Prop :=
  (∀ (k1_h1 : k1_cond1 i = 1#1), ∀ a, (k1_off398 i v4396 v4398 v4400) a + S1x1x1x1x8x20.size a ≤ S3x8x9x80x80x20.size a) ∧
  (∀ (k1_h1 : k1_cond1 i = 1#1), ∀ a, (k1_off399 i v4396 v4398 v4400) a + S1x1x1x1x8x5.size a ≤ S3x8x9x80x80x5.size a) ∧
  (∀ (k1_h1 : k1_cond1 i = 1#1), ∀ a, (k1_off462 i v4396 v4398 v4400) a + S1x1x1x1x8x20.size a ≤ S3x8x9x80x80x20.size a) ∧
  (∀ (k1_h1 : k1_cond1 i = 1#1), ∀ a, (k1_off463 i v4396 v4398 v4400) a + S1x1x1x1x8x5.size a ≤ S3x8x9x80x80x5.size a)
theorem k1_off398_inb : ∀ (i : grid1.Coords) (v4396 : BitVec 32) (v4398 : BitVec 32) (v4400 : BitVec 32) (k1_hw256 : k1_chk256 i v4396 v4398 v4400), ∀ (k1_h1 : k1_cond1 i = 1#1), ∀ a, (k1_off398 i v4396 v4398 v4400) a + S1x1x1x1x8x20.size a ≤ S3x8x9x80x80x20.size a := fun i v4396 v4398 v4400 k1_hw256 k1_h1 => k1_hw256.1 k1_h1
theorem k1_off399_inb : ∀ (i : grid1.Coords) (v4396 : BitVec 32) (v4398 : BitVec 32) (v4400 : BitVec 32) (k1_hw256 : k1_chk256 i v4396 v4398 v4400), ∀ (k1_h1 : k1_cond1 i = 1#1), ∀ a, (k1_off399 i v4396 v4398 v4400) a + S1x1x1x1x8x5.size a ≤ S3x8x9x80x80x5.size a := fun i v4396 v4398 v4400 k1_hw256 k1_h1 => k1_hw256.2.1 k1_h1
theorem k1_off462_inb : ∀ (i : grid1.Coords) (v4396 : BitVec 32) (v4398 : BitVec 32) (v4400 : BitVec 32) (k1_hw256 : k1_chk256 i v4396 v4398 v4400), ∀ (k1_h1 : k1_cond1 i = 1#1), ∀ a, (k1_off462 i v4396 v4398 v4400) a + S1x1x1x1x8x20.size a ≤ S3x8x9x80x80x20.size a := fun i v4396 v4398 v4400 k1_hw256 k1_h1 => k1_hw256.2.2.1 k1_h1
theorem k1_off463_inb : ∀ (i : grid1.Coords) (v4396 : BitVec 32) (v4398 : BitVec 32) (v4400 : BitVec 32) (k1_hw256 : k1_chk256 i v4396 v4398 v4400), ∀ (k1_h1 : k1_cond1 i = 1#1), ∀ a, (k1_off463 i v4396 v4398 v4400) a + S1x1x1x1x8x5.size a ≤ S3x8x9x80x80x5.size a := fun i v4396 v4398 v4400 k1_hw256 k1_h1 => k1_hw256.2.2.2 k1_h1

def k1_off464 (i : grid1.Coords) (v4419 : BitVec 32) (v4421 : BitVec 32) (v4423 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3117 : BitVec 32 := 8#32
  let v4424 : BitVec 32 := Scalar.muli v4423 c8_i32_3117
  let c0_i32_3595 : BitVec 32 := 0#32
  ![v21.toNat, v22.toNat, v4419.toNat, v4421.toNat, v4424.toNat, 0]
def k1_off465 (i : grid1.Coords) (v4419 : BitVec 32) (v4421 : BitVec 32) (v4423 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3117 : BitVec 32 := 8#32
  let v4424 : BitVec 32 := Scalar.muli v4423 c8_i32_3117
  let c0_i32_3602 : BitVec 32 := 0#32
  ![v21.toNat, v22.toNat, v4419.toNat, v4421.toNat, v4424.toNat, 0]

def k1_chk257 (i : grid1.Coords) (v4419 : BitVec 32) (v4421 : BitVec 32) (v4423 : BitVec 32) : Prop :=
  (∀ (k1_h1 : k1_cond1 i = 1#1), ∀ a, (k1_off400 i v4419 v4421 v4423) a + S1x1x1x1x8x20.size a ≤ S3x8x9x80x80x20.size a) ∧
  (∀ (k1_h1 : k1_cond1 i = 1#1), ∀ a, (k1_off401 i v4419 v4421 v4423) a + S1x1x1x1x8x5.size a ≤ S3x8x9x80x80x5.size a) ∧
  (∀ (k1_h1 : k1_cond1 i = 1#1), ∀ a, (k1_off464 i v4419 v4421 v4423) a + S1x1x1x1x8x20.size a ≤ S3x8x9x80x80x20.size a) ∧
  (∀ (k1_h1 : k1_cond1 i = 1#1), ∀ a, (k1_off465 i v4419 v4421 v4423) a + S1x1x1x1x8x5.size a ≤ S3x8x9x80x80x5.size a)
theorem k1_off400_inb : ∀ (i : grid1.Coords) (v4419 : BitVec 32) (v4421 : BitVec 32) (v4423 : BitVec 32) (k1_hw257 : k1_chk257 i v4419 v4421 v4423), ∀ (k1_h1 : k1_cond1 i = 1#1), ∀ a, (k1_off400 i v4419 v4421 v4423) a + S1x1x1x1x8x20.size a ≤ S3x8x9x80x80x20.size a := fun i v4419 v4421 v4423 k1_hw257 k1_h1 => k1_hw257.1 k1_h1
theorem k1_off401_inb : ∀ (i : grid1.Coords) (v4419 : BitVec 32) (v4421 : BitVec 32) (v4423 : BitVec 32) (k1_hw257 : k1_chk257 i v4419 v4421 v4423), ∀ (k1_h1 : k1_cond1 i = 1#1), ∀ a, (k1_off401 i v4419 v4421 v4423) a + S1x1x1x1x8x5.size a ≤ S3x8x9x80x80x5.size a := fun i v4419 v4421 v4423 k1_hw257 k1_h1 => k1_hw257.2.1 k1_h1
theorem k1_off464_inb : ∀ (i : grid1.Coords) (v4419 : BitVec 32) (v4421 : BitVec 32) (v4423 : BitVec 32) (k1_hw257 : k1_chk257 i v4419 v4421 v4423), ∀ (k1_h1 : k1_cond1 i = 1#1), ∀ a, (k1_off464 i v4419 v4421 v4423) a + S1x1x1x1x8x20.size a ≤ S3x8x9x80x80x20.size a := fun i v4419 v4421 v4423 k1_hw257 k1_h1 => k1_hw257.2.2.1 k1_h1
theorem k1_off465_inb : ∀ (i : grid1.Coords) (v4419 : BitVec 32) (v4421 : BitVec 32) (v4423 : BitVec 32) (k1_hw257 : k1_chk257 i v4419 v4421 v4423), ∀ (k1_h1 : k1_cond1 i = 1#1), ∀ a, (k1_off465 i v4419 v4421 v4423) a + S1x1x1x1x8x5.size a ≤ S3x8x9x80x80x5.size a := fun i v4419 v4421 v4423 k1_hw257 k1_h1 => k1_hw257.2.2.2 k1_h1

def k1_off466 (i : grid1.Coords) (v4442 : BitVec 32) (v4444 : BitVec 32) (v4446 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3132 : BitVec 32 := 8#32
  let v4447 : BitVec 32 := Scalar.muli v4446 c8_i32_3132
  let c0_i32_3609 : BitVec 32 := 0#32
  ![v21.toNat, v22.toNat, v4442.toNat, v4444.toNat, v4447.toNat, 0]
def k1_off467 (i : grid1.Coords) (v4442 : BitVec 32) (v4444 : BitVec 32) (v4446 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3132 : BitVec 32 := 8#32
  let v4447 : BitVec 32 := Scalar.muli v4446 c8_i32_3132
  let c0_i32_3616 : BitVec 32 := 0#32
  ![v21.toNat, v22.toNat, v4442.toNat, v4444.toNat, v4447.toNat, 0]

def k1_chk258 (i : grid1.Coords) (v4442 : BitVec 32) (v4444 : BitVec 32) (v4446 : BitVec 32) : Prop :=
  (∀ (k1_h1 : k1_cond1 i = 1#1), ∀ a, (k1_off402 i v4442 v4444 v4446) a + S1x1x1x1x8x20.size a ≤ S3x8x9x80x80x20.size a) ∧
  (∀ (k1_h1 : k1_cond1 i = 1#1), ∀ a, (k1_off403 i v4442 v4444 v4446) a + S1x1x1x1x8x5.size a ≤ S3x8x9x80x80x5.size a) ∧
  (∀ (k1_h1 : k1_cond1 i = 1#1), ∀ a, (k1_off466 i v4442 v4444 v4446) a + S1x1x1x1x8x20.size a ≤ S3x8x9x80x80x20.size a) ∧
  (∀ (k1_h1 : k1_cond1 i = 1#1), ∀ a, (k1_off467 i v4442 v4444 v4446) a + S1x1x1x1x8x5.size a ≤ S3x8x9x80x80x5.size a)
theorem k1_off402_inb : ∀ (i : grid1.Coords) (v4442 : BitVec 32) (v4444 : BitVec 32) (v4446 : BitVec 32) (k1_hw258 : k1_chk258 i v4442 v4444 v4446), ∀ (k1_h1 : k1_cond1 i = 1#1), ∀ a, (k1_off402 i v4442 v4444 v4446) a + S1x1x1x1x8x20.size a ≤ S3x8x9x80x80x20.size a := fun i v4442 v4444 v4446 k1_hw258 k1_h1 => k1_hw258.1 k1_h1
theorem k1_off403_inb : ∀ (i : grid1.Coords) (v4442 : BitVec 32) (v4444 : BitVec 32) (v4446 : BitVec 32) (k1_hw258 : k1_chk258 i v4442 v4444 v4446), ∀ (k1_h1 : k1_cond1 i = 1#1), ∀ a, (k1_off403 i v4442 v4444 v4446) a + S1x1x1x1x8x5.size a ≤ S3x8x9x80x80x5.size a := fun i v4442 v4444 v4446 k1_hw258 k1_h1 => k1_hw258.2.1 k1_h1
theorem k1_off466_inb : ∀ (i : grid1.Coords) (v4442 : BitVec 32) (v4444 : BitVec 32) (v4446 : BitVec 32) (k1_hw258 : k1_chk258 i v4442 v4444 v4446), ∀ (k1_h1 : k1_cond1 i = 1#1), ∀ a, (k1_off466 i v4442 v4444 v4446) a + S1x1x1x1x8x20.size a ≤ S3x8x9x80x80x20.size a := fun i v4442 v4444 v4446 k1_hw258 k1_h1 => k1_hw258.2.2.1 k1_h1
theorem k1_off467_inb : ∀ (i : grid1.Coords) (v4442 : BitVec 32) (v4444 : BitVec 32) (v4446 : BitVec 32) (k1_hw258 : k1_chk258 i v4442 v4444 v4446), ∀ (k1_h1 : k1_cond1 i = 1#1), ∀ a, (k1_off467 i v4442 v4444 v4446) a + S1x1x1x1x8x5.size a ≤ S3x8x9x80x80x5.size a := fun i v4442 v4444 v4446 k1_hw258 k1_h1 => k1_hw258.2.2.2 k1_h1

def k1_off468 (i : grid1.Coords) (v4465 : BitVec 32) (v4467 : BitVec 32) (v4469 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3147 : BitVec 32 := 8#32
  let v4470 : BitVec 32 := Scalar.muli v4469 c8_i32_3147
  let c0_i32_3623 : BitVec 32 := 0#32
  ![v21.toNat, v22.toNat, v4465.toNat, v4467.toNat, v4470.toNat, 0]
def k1_off469 (i : grid1.Coords) (v4465 : BitVec 32) (v4467 : BitVec 32) (v4469 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3147 : BitVec 32 := 8#32
  let v4470 : BitVec 32 := Scalar.muli v4469 c8_i32_3147
  let c0_i32_3630 : BitVec 32 := 0#32
  ![v21.toNat, v22.toNat, v4465.toNat, v4467.toNat, v4470.toNat, 0]

def k1_chk259 (i : grid1.Coords) (v4465 : BitVec 32) (v4467 : BitVec 32) (v4469 : BitVec 32) : Prop :=
  (∀ (k1_h1 : k1_cond1 i = 1#1), ∀ a, (k1_off404 i v4465 v4467 v4469) a + S1x1x1x1x8x20.size a ≤ S3x8x9x80x80x20.size a) ∧
  (∀ (k1_h1 : k1_cond1 i = 1#1), ∀ a, (k1_off405 i v4465 v4467 v4469) a + S1x1x1x1x8x5.size a ≤ S3x8x9x80x80x5.size a) ∧
  (∀ (k1_h1 : k1_cond1 i = 1#1), ∀ a, (k1_off468 i v4465 v4467 v4469) a + S1x1x1x1x8x20.size a ≤ S3x8x9x80x80x20.size a) ∧
  (∀ (k1_h1 : k1_cond1 i = 1#1), ∀ a, (k1_off469 i v4465 v4467 v4469) a + S1x1x1x1x8x5.size a ≤ S3x8x9x80x80x5.size a)
theorem k1_off404_inb : ∀ (i : grid1.Coords) (v4465 : BitVec 32) (v4467 : BitVec 32) (v4469 : BitVec 32) (k1_hw259 : k1_chk259 i v4465 v4467 v4469), ∀ (k1_h1 : k1_cond1 i = 1#1), ∀ a, (k1_off404 i v4465 v4467 v4469) a + S1x1x1x1x8x20.size a ≤ S3x8x9x80x80x20.size a := fun i v4465 v4467 v4469 k1_hw259 k1_h1 => k1_hw259.1 k1_h1
theorem k1_off405_inb : ∀ (i : grid1.Coords) (v4465 : BitVec 32) (v4467 : BitVec 32) (v4469 : BitVec 32) (k1_hw259 : k1_chk259 i v4465 v4467 v4469), ∀ (k1_h1 : k1_cond1 i = 1#1), ∀ a, (k1_off405 i v4465 v4467 v4469) a + S1x1x1x1x8x5.size a ≤ S3x8x9x80x80x5.size a := fun i v4465 v4467 v4469 k1_hw259 k1_h1 => k1_hw259.2.1 k1_h1
theorem k1_off468_inb : ∀ (i : grid1.Coords) (v4465 : BitVec 32) (v4467 : BitVec 32) (v4469 : BitVec 32) (k1_hw259 : k1_chk259 i v4465 v4467 v4469), ∀ (k1_h1 : k1_cond1 i = 1#1), ∀ a, (k1_off468 i v4465 v4467 v4469) a + S1x1x1x1x8x20.size a ≤ S3x8x9x80x80x20.size a := fun i v4465 v4467 v4469 k1_hw259 k1_h1 => k1_hw259.2.2.1 k1_h1
theorem k1_off469_inb : ∀ (i : grid1.Coords) (v4465 : BitVec 32) (v4467 : BitVec 32) (v4469 : BitVec 32) (k1_hw259 : k1_chk259 i v4465 v4467 v4469), ∀ (k1_h1 : k1_cond1 i = 1#1), ∀ a, (k1_off469 i v4465 v4467 v4469) a + S1x1x1x1x8x5.size a ≤ S3x8x9x80x80x5.size a := fun i v4465 v4467 v4469 k1_hw259 k1_h1 => k1_hw259.2.2.2 k1_h1

def k1_off470 (i : grid1.Coords) (v4488 : BitVec 32) (v4490 : BitVec 32) (v4492 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3162 : BitVec 32 := 8#32
  let v4493 : BitVec 32 := Scalar.muli v4492 c8_i32_3162
  let c0_i32_3637 : BitVec 32 := 0#32
  ![v21.toNat, v22.toNat, v4488.toNat, v4490.toNat, v4493.toNat, 0]
def k1_off471 (i : grid1.Coords) (v4488 : BitVec 32) (v4490 : BitVec 32) (v4492 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3162 : BitVec 32 := 8#32
  let v4493 : BitVec 32 := Scalar.muli v4492 c8_i32_3162
  let c0_i32_3644 : BitVec 32 := 0#32
  ![v21.toNat, v22.toNat, v4488.toNat, v4490.toNat, v4493.toNat, 0]

def k1_chk260 (i : grid1.Coords) (v4488 : BitVec 32) (v4490 : BitVec 32) (v4492 : BitVec 32) : Prop :=
  (∀ (k1_h1 : k1_cond1 i = 1#1), ∀ a, (k1_off406 i v4488 v4490 v4492) a + S1x1x1x1x8x20.size a ≤ S3x8x9x80x80x20.size a) ∧
  (∀ (k1_h1 : k1_cond1 i = 1#1), ∀ a, (k1_off407 i v4488 v4490 v4492) a + S1x1x1x1x8x5.size a ≤ S3x8x9x80x80x5.size a) ∧
  (∀ (k1_h1 : k1_cond1 i = 1#1), ∀ a, (k1_off470 i v4488 v4490 v4492) a + S1x1x1x1x8x20.size a ≤ S3x8x9x80x80x20.size a) ∧
  (∀ (k1_h1 : k1_cond1 i = 1#1), ∀ a, (k1_off471 i v4488 v4490 v4492) a + S1x1x1x1x8x5.size a ≤ S3x8x9x80x80x5.size a)
theorem k1_off406_inb : ∀ (i : grid1.Coords) (v4488 : BitVec 32) (v4490 : BitVec 32) (v4492 : BitVec 32) (k1_hw260 : k1_chk260 i v4488 v4490 v4492), ∀ (k1_h1 : k1_cond1 i = 1#1), ∀ a, (k1_off406 i v4488 v4490 v4492) a + S1x1x1x1x8x20.size a ≤ S3x8x9x80x80x20.size a := fun i v4488 v4490 v4492 k1_hw260 k1_h1 => k1_hw260.1 k1_h1
theorem k1_off407_inb : ∀ (i : grid1.Coords) (v4488 : BitVec 32) (v4490 : BitVec 32) (v4492 : BitVec 32) (k1_hw260 : k1_chk260 i v4488 v4490 v4492), ∀ (k1_h1 : k1_cond1 i = 1#1), ∀ a, (k1_off407 i v4488 v4490 v4492) a + S1x1x1x1x8x5.size a ≤ S3x8x9x80x80x5.size a := fun i v4488 v4490 v4492 k1_hw260 k1_h1 => k1_hw260.2.1 k1_h1
theorem k1_off470_inb : ∀ (i : grid1.Coords) (v4488 : BitVec 32) (v4490 : BitVec 32) (v4492 : BitVec 32) (k1_hw260 : k1_chk260 i v4488 v4490 v4492), ∀ (k1_h1 : k1_cond1 i = 1#1), ∀ a, (k1_off470 i v4488 v4490 v4492) a + S1x1x1x1x8x20.size a ≤ S3x8x9x80x80x20.size a := fun i v4488 v4490 v4492 k1_hw260 k1_h1 => k1_hw260.2.2.1 k1_h1
theorem k1_off471_inb : ∀ (i : grid1.Coords) (v4488 : BitVec 32) (v4490 : BitVec 32) (v4492 : BitVec 32) (k1_hw260 : k1_chk260 i v4488 v4490 v4492), ∀ (k1_h1 : k1_cond1 i = 1#1), ∀ a, (k1_off471 i v4488 v4490 v4492) a + S1x1x1x1x8x5.size a ≤ S3x8x9x80x80x5.size a := fun i v4488 v4490 v4492 k1_hw260 k1_h1 => k1_hw260.2.2.2 k1_h1

def k1_off472 (i : grid1.Coords) (v4511 : BitVec 32) (v4513 : BitVec 32) (v4515 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3177 : BitVec 32 := 8#32
  let v4516 : BitVec 32 := Scalar.muli v4515 c8_i32_3177
  let c0_i32_3651 : BitVec 32 := 0#32
  ![v21.toNat, v22.toNat, v4511.toNat, v4513.toNat, v4516.toNat, 0]
def k1_off473 (i : grid1.Coords) (v4511 : BitVec 32) (v4513 : BitVec 32) (v4515 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3177 : BitVec 32 := 8#32
  let v4516 : BitVec 32 := Scalar.muli v4515 c8_i32_3177
  let c0_i32_3658 : BitVec 32 := 0#32
  ![v21.toNat, v22.toNat, v4511.toNat, v4513.toNat, v4516.toNat, 0]

def k1_chk261 (i : grid1.Coords) (v4511 : BitVec 32) (v4513 : BitVec 32) (v4515 : BitVec 32) : Prop :=
  (∀ (k1_h1 : k1_cond1 i = 1#1), ∀ a, (k1_off408 i v4511 v4513 v4515) a + S1x1x1x1x8x20.size a ≤ S3x8x9x80x80x20.size a) ∧
  (∀ (k1_h1 : k1_cond1 i = 1#1), ∀ a, (k1_off409 i v4511 v4513 v4515) a + S1x1x1x1x8x5.size a ≤ S3x8x9x80x80x5.size a) ∧
  (∀ (k1_h1 : k1_cond1 i = 1#1), ∀ a, (k1_off472 i v4511 v4513 v4515) a + S1x1x1x1x8x20.size a ≤ S3x8x9x80x80x20.size a) ∧
  (∀ (k1_h1 : k1_cond1 i = 1#1), ∀ a, (k1_off473 i v4511 v4513 v4515) a + S1x1x1x1x8x5.size a ≤ S3x8x9x80x80x5.size a)
theorem k1_off408_inb : ∀ (i : grid1.Coords) (v4511 : BitVec 32) (v4513 : BitVec 32) (v4515 : BitVec 32) (k1_hw261 : k1_chk261 i v4511 v4513 v4515), ∀ (k1_h1 : k1_cond1 i = 1#1), ∀ a, (k1_off408 i v4511 v4513 v4515) a + S1x1x1x1x8x20.size a ≤ S3x8x9x80x80x20.size a := fun i v4511 v4513 v4515 k1_hw261 k1_h1 => k1_hw261.1 k1_h1
theorem k1_off409_inb : ∀ (i : grid1.Coords) (v4511 : BitVec 32) (v4513 : BitVec 32) (v4515 : BitVec 32) (k1_hw261 : k1_chk261 i v4511 v4513 v4515), ∀ (k1_h1 : k1_cond1 i = 1#1), ∀ a, (k1_off409 i v4511 v4513 v4515) a + S1x1x1x1x8x5.size a ≤ S3x8x9x80x80x5.size a := fun i v4511 v4513 v4515 k1_hw261 k1_h1 => k1_hw261.2.1 k1_h1
theorem k1_off472_inb : ∀ (i : grid1.Coords) (v4511 : BitVec 32) (v4513 : BitVec 32) (v4515 : BitVec 32) (k1_hw261 : k1_chk261 i v4511 v4513 v4515), ∀ (k1_h1 : k1_cond1 i = 1#1), ∀ a, (k1_off472 i v4511 v4513 v4515) a + S1x1x1x1x8x20.size a ≤ S3x8x9x80x80x20.size a := fun i v4511 v4513 v4515 k1_hw261 k1_h1 => k1_hw261.2.2.1 k1_h1
theorem k1_off473_inb : ∀ (i : grid1.Coords) (v4511 : BitVec 32) (v4513 : BitVec 32) (v4515 : BitVec 32) (k1_hw261 : k1_chk261 i v4511 v4513 v4515), ∀ (k1_h1 : k1_cond1 i = 1#1), ∀ a, (k1_off473 i v4511 v4513 v4515) a + S1x1x1x1x8x5.size a ≤ S3x8x9x80x80x5.size a := fun i v4511 v4513 v4515 k1_hw261 k1_h1 => k1_hw261.2.2.2 k1_h1

def k1_off474 (i : grid1.Coords) (v4534 : BitVec 32) (v4536 : BitVec 32) (v4538 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3192 : BitVec 32 := 8#32
  let v4539 : BitVec 32 := Scalar.muli v4538 c8_i32_3192
  let c0_i32_3665 : BitVec 32 := 0#32
  ![v21.toNat, v22.toNat, v4534.toNat, v4536.toNat, v4539.toNat, 0]
def k1_off475 (i : grid1.Coords) (v4534 : BitVec 32) (v4536 : BitVec 32) (v4538 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3192 : BitVec 32 := 8#32
  let v4539 : BitVec 32 := Scalar.muli v4538 c8_i32_3192
  let c0_i32_3672 : BitVec 32 := 0#32
  ![v21.toNat, v22.toNat, v4534.toNat, v4536.toNat, v4539.toNat, 0]

def k1_chk262 (i : grid1.Coords) (v4534 : BitVec 32) (v4536 : BitVec 32) (v4538 : BitVec 32) : Prop :=
  (∀ (k1_h1 : k1_cond1 i = 1#1), ∀ a, (k1_off410 i v4534 v4536 v4538) a + S1x1x1x1x8x20.size a ≤ S3x8x9x80x80x20.size a) ∧
  (∀ (k1_h1 : k1_cond1 i = 1#1), ∀ a, (k1_off411 i v4534 v4536 v4538) a + S1x1x1x1x8x5.size a ≤ S3x8x9x80x80x5.size a) ∧
  (∀ (k1_h1 : k1_cond1 i = 1#1), ∀ a, (k1_off474 i v4534 v4536 v4538) a + S1x1x1x1x8x20.size a ≤ S3x8x9x80x80x20.size a) ∧
  (∀ (k1_h1 : k1_cond1 i = 1#1), ∀ a, (k1_off475 i v4534 v4536 v4538) a + S1x1x1x1x8x5.size a ≤ S3x8x9x80x80x5.size a)
theorem k1_off410_inb : ∀ (i : grid1.Coords) (v4534 : BitVec 32) (v4536 : BitVec 32) (v4538 : BitVec 32) (k1_hw262 : k1_chk262 i v4534 v4536 v4538), ∀ (k1_h1 : k1_cond1 i = 1#1), ∀ a, (k1_off410 i v4534 v4536 v4538) a + S1x1x1x1x8x20.size a ≤ S3x8x9x80x80x20.size a := fun i v4534 v4536 v4538 k1_hw262 k1_h1 => k1_hw262.1 k1_h1
theorem k1_off411_inb : ∀ (i : grid1.Coords) (v4534 : BitVec 32) (v4536 : BitVec 32) (v4538 : BitVec 32) (k1_hw262 : k1_chk262 i v4534 v4536 v4538), ∀ (k1_h1 : k1_cond1 i = 1#1), ∀ a, (k1_off411 i v4534 v4536 v4538) a + S1x1x1x1x8x5.size a ≤ S3x8x9x80x80x5.size a := fun i v4534 v4536 v4538 k1_hw262 k1_h1 => k1_hw262.2.1 k1_h1
theorem k1_off474_inb : ∀ (i : grid1.Coords) (v4534 : BitVec 32) (v4536 : BitVec 32) (v4538 : BitVec 32) (k1_hw262 : k1_chk262 i v4534 v4536 v4538), ∀ (k1_h1 : k1_cond1 i = 1#1), ∀ a, (k1_off474 i v4534 v4536 v4538) a + S1x1x1x1x8x20.size a ≤ S3x8x9x80x80x20.size a := fun i v4534 v4536 v4538 k1_hw262 k1_h1 => k1_hw262.2.2.1 k1_h1
theorem k1_off475_inb : ∀ (i : grid1.Coords) (v4534 : BitVec 32) (v4536 : BitVec 32) (v4538 : BitVec 32) (k1_hw262 : k1_chk262 i v4534 v4536 v4538), ∀ (k1_h1 : k1_cond1 i = 1#1), ∀ a, (k1_off475 i v4534 v4536 v4538) a + S1x1x1x1x8x5.size a ≤ S3x8x9x80x80x5.size a := fun i v4534 v4536 v4538 k1_hw262 k1_h1 => k1_hw262.2.2.2 k1_h1

def k1_off476 (i : grid1.Coords) (v4568 : BitVec 32) (v4570 : BitVec 32) (v4572 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3212 : BitVec 32 := 8#32
  let v4573 : BitVec 32 := Scalar.muli v4572 c8_i32_3212
  let c0_i32_3679 : BitVec 32 := 0#32
  ![v21.toNat, v22.toNat, v4568.toNat, v4570.toNat, v4573.toNat, 0]
def k1_off477 (i : grid1.Coords) (v4568 : BitVec 32) (v4570 : BitVec 32) (v4572 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3212 : BitVec 32 := 8#32
  let v4573 : BitVec 32 := Scalar.muli v4572 c8_i32_3212
  let c0_i32_3686 : BitVec 32 := 0#32
  ![v21.toNat, v22.toNat, v4568.toNat, v4570.toNat, v4573.toNat, 0]

def k1_chk263 (i : grid1.Coords) (v4568 : BitVec 32) (v4570 : BitVec 32) (v4572 : BitVec 32) : Prop :=
  (∀ (k1_h1 : k1_cond1 i = 1#1), ∀ a, (k1_off412 i v4568 v4570 v4572) a + S1x1x1x1x8x20.size a ≤ S3x8x9x80x80x20.size a) ∧
  (∀ (k1_h1 : k1_cond1 i = 1#1), ∀ a, (k1_off413 i v4568 v4570 v4572) a + S1x1x1x1x8x5.size a ≤ S3x8x9x80x80x5.size a) ∧
  (∀ (k1_h1 : k1_cond1 i = 1#1), ∀ a, (k1_off476 i v4568 v4570 v4572) a + S1x1x1x1x8x20.size a ≤ S3x8x9x80x80x20.size a) ∧
  (∀ (k1_h1 : k1_cond1 i = 1#1), ∀ a, (k1_off477 i v4568 v4570 v4572) a + S1x1x1x1x8x5.size a ≤ S3x8x9x80x80x5.size a)
theorem k1_off412_inb : ∀ (i : grid1.Coords) (v4568 : BitVec 32) (v4570 : BitVec 32) (v4572 : BitVec 32) (k1_hw263 : k1_chk263 i v4568 v4570 v4572), ∀ (k1_h1 : k1_cond1 i = 1#1), ∀ a, (k1_off412 i v4568 v4570 v4572) a + S1x1x1x1x8x20.size a ≤ S3x8x9x80x80x20.size a := fun i v4568 v4570 v4572 k1_hw263 k1_h1 => k1_hw263.1 k1_h1
theorem k1_off413_inb : ∀ (i : grid1.Coords) (v4568 : BitVec 32) (v4570 : BitVec 32) (v4572 : BitVec 32) (k1_hw263 : k1_chk263 i v4568 v4570 v4572), ∀ (k1_h1 : k1_cond1 i = 1#1), ∀ a, (k1_off413 i v4568 v4570 v4572) a + S1x1x1x1x8x5.size a ≤ S3x8x9x80x80x5.size a := fun i v4568 v4570 v4572 k1_hw263 k1_h1 => k1_hw263.2.1 k1_h1
theorem k1_off476_inb : ∀ (i : grid1.Coords) (v4568 : BitVec 32) (v4570 : BitVec 32) (v4572 : BitVec 32) (k1_hw263 : k1_chk263 i v4568 v4570 v4572), ∀ (k1_h1 : k1_cond1 i = 1#1), ∀ a, (k1_off476 i v4568 v4570 v4572) a + S1x1x1x1x8x20.size a ≤ S3x8x9x80x80x20.size a := fun i v4568 v4570 v4572 k1_hw263 k1_h1 => k1_hw263.2.2.1 k1_h1
theorem k1_off477_inb : ∀ (i : grid1.Coords) (v4568 : BitVec 32) (v4570 : BitVec 32) (v4572 : BitVec 32) (k1_hw263 : k1_chk263 i v4568 v4570 v4572), ∀ (k1_h1 : k1_cond1 i = 1#1), ∀ a, (k1_off477 i v4568 v4570 v4572) a + S1x1x1x1x8x5.size a ≤ S3x8x9x80x80x5.size a := fun i v4568 v4570 v4572 k1_hw263 k1_h1 => k1_hw263.2.2.2 k1_h1

def k1_off478 (i : grid1.Coords) (v4591 : BitVec 32) (v4593 : BitVec 32) (v4595 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3227 : BitVec 32 := 8#32
  let v4596 : BitVec 32 := Scalar.muli v4595 c8_i32_3227
  let c0_i32_3693 : BitVec 32 := 0#32
  ![v21.toNat, v22.toNat, v4591.toNat, v4593.toNat, v4596.toNat, 0]
def k1_off479 (i : grid1.Coords) (v4591 : BitVec 32) (v4593 : BitVec 32) (v4595 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3227 : BitVec 32 := 8#32
  let v4596 : BitVec 32 := Scalar.muli v4595 c8_i32_3227
  let c0_i32_3700 : BitVec 32 := 0#32
  ![v21.toNat, v22.toNat, v4591.toNat, v4593.toNat, v4596.toNat, 0]

def k1_chk264 (i : grid1.Coords) (v4591 : BitVec 32) (v4593 : BitVec 32) (v4595 : BitVec 32) : Prop :=
  (∀ (k1_h1 : k1_cond1 i = 1#1), ∀ a, (k1_off414 i v4591 v4593 v4595) a + S1x1x1x1x8x20.size a ≤ S3x8x9x80x80x20.size a) ∧
  (∀ (k1_h1 : k1_cond1 i = 1#1), ∀ a, (k1_off415 i v4591 v4593 v4595) a + S1x1x1x1x8x5.size a ≤ S3x8x9x80x80x5.size a) ∧
  (∀ (k1_h1 : k1_cond1 i = 1#1), ∀ a, (k1_off478 i v4591 v4593 v4595) a + S1x1x1x1x8x20.size a ≤ S3x8x9x80x80x20.size a) ∧
  (∀ (k1_h1 : k1_cond1 i = 1#1), ∀ a, (k1_off479 i v4591 v4593 v4595) a + S1x1x1x1x8x5.size a ≤ S3x8x9x80x80x5.size a)
theorem k1_off414_inb : ∀ (i : grid1.Coords) (v4591 : BitVec 32) (v4593 : BitVec 32) (v4595 : BitVec 32) (k1_hw264 : k1_chk264 i v4591 v4593 v4595), ∀ (k1_h1 : k1_cond1 i = 1#1), ∀ a, (k1_off414 i v4591 v4593 v4595) a + S1x1x1x1x8x20.size a ≤ S3x8x9x80x80x20.size a := fun i v4591 v4593 v4595 k1_hw264 k1_h1 => k1_hw264.1 k1_h1
theorem k1_off415_inb : ∀ (i : grid1.Coords) (v4591 : BitVec 32) (v4593 : BitVec 32) (v4595 : BitVec 32) (k1_hw264 : k1_chk264 i v4591 v4593 v4595), ∀ (k1_h1 : k1_cond1 i = 1#1), ∀ a, (k1_off415 i v4591 v4593 v4595) a + S1x1x1x1x8x5.size a ≤ S3x8x9x80x80x5.size a := fun i v4591 v4593 v4595 k1_hw264 k1_h1 => k1_hw264.2.1 k1_h1
theorem k1_off478_inb : ∀ (i : grid1.Coords) (v4591 : BitVec 32) (v4593 : BitVec 32) (v4595 : BitVec 32) (k1_hw264 : k1_chk264 i v4591 v4593 v4595), ∀ (k1_h1 : k1_cond1 i = 1#1), ∀ a, (k1_off478 i v4591 v4593 v4595) a + S1x1x1x1x8x20.size a ≤ S3x8x9x80x80x20.size a := fun i v4591 v4593 v4595 k1_hw264 k1_h1 => k1_hw264.2.2.1 k1_h1
theorem k1_off479_inb : ∀ (i : grid1.Coords) (v4591 : BitVec 32) (v4593 : BitVec 32) (v4595 : BitVec 32) (k1_hw264 : k1_chk264 i v4591 v4593 v4595), ∀ (k1_h1 : k1_cond1 i = 1#1), ∀ a, (k1_off479 i v4591 v4593 v4595) a + S1x1x1x1x8x5.size a ≤ S3x8x9x80x80x5.size a := fun i v4591 v4593 v4595 k1_hw264 k1_h1 => k1_hw264.2.2.2 k1_h1

def k1_off480 (i : grid1.Coords) (v4614 : BitVec 32) (v4616 : BitVec 32) (v4618 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3242 : BitVec 32 := 8#32
  let v4619 : BitVec 32 := Scalar.muli v4618 c8_i32_3242
  let c0_i32_3707 : BitVec 32 := 0#32
  ![v21.toNat, v22.toNat, v4614.toNat, v4616.toNat, v4619.toNat, 0]
def k1_off481 (i : grid1.Coords) (v4614 : BitVec 32) (v4616 : BitVec 32) (v4618 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3242 : BitVec 32 := 8#32
  let v4619 : BitVec 32 := Scalar.muli v4618 c8_i32_3242
  let c0_i32_3714 : BitVec 32 := 0#32
  ![v21.toNat, v22.toNat, v4614.toNat, v4616.toNat, v4619.toNat, 0]

def k1_chk265 (i : grid1.Coords) (v4614 : BitVec 32) (v4616 : BitVec 32) (v4618 : BitVec 32) : Prop :=
  (∀ (k1_h1 : k1_cond1 i = 1#1), ∀ a, (k1_off416 i v4614 v4616 v4618) a + S1x1x1x1x8x20.size a ≤ S3x8x9x80x80x20.size a) ∧
  (∀ (k1_h1 : k1_cond1 i = 1#1), ∀ a, (k1_off417 i v4614 v4616 v4618) a + S1x1x1x1x8x5.size a ≤ S3x8x9x80x80x5.size a) ∧
  (∀ (k1_h1 : k1_cond1 i = 1#1), ∀ a, (k1_off480 i v4614 v4616 v4618) a + S1x1x1x1x8x20.size a ≤ S3x8x9x80x80x20.size a) ∧
  (∀ (k1_h1 : k1_cond1 i = 1#1), ∀ a, (k1_off481 i v4614 v4616 v4618) a + S1x1x1x1x8x5.size a ≤ S3x8x9x80x80x5.size a)
theorem k1_off416_inb : ∀ (i : grid1.Coords) (v4614 : BitVec 32) (v4616 : BitVec 32) (v4618 : BitVec 32) (k1_hw265 : k1_chk265 i v4614 v4616 v4618), ∀ (k1_h1 : k1_cond1 i = 1#1), ∀ a, (k1_off416 i v4614 v4616 v4618) a + S1x1x1x1x8x20.size a ≤ S3x8x9x80x80x20.size a := fun i v4614 v4616 v4618 k1_hw265 k1_h1 => k1_hw265.1 k1_h1
theorem k1_off417_inb : ∀ (i : grid1.Coords) (v4614 : BitVec 32) (v4616 : BitVec 32) (v4618 : BitVec 32) (k1_hw265 : k1_chk265 i v4614 v4616 v4618), ∀ (k1_h1 : k1_cond1 i = 1#1), ∀ a, (k1_off417 i v4614 v4616 v4618) a + S1x1x1x1x8x5.size a ≤ S3x8x9x80x80x5.size a := fun i v4614 v4616 v4618 k1_hw265 k1_h1 => k1_hw265.2.1 k1_h1
theorem k1_off480_inb : ∀ (i : grid1.Coords) (v4614 : BitVec 32) (v4616 : BitVec 32) (v4618 : BitVec 32) (k1_hw265 : k1_chk265 i v4614 v4616 v4618), ∀ (k1_h1 : k1_cond1 i = 1#1), ∀ a, (k1_off480 i v4614 v4616 v4618) a + S1x1x1x1x8x20.size a ≤ S3x8x9x80x80x20.size a := fun i v4614 v4616 v4618 k1_hw265 k1_h1 => k1_hw265.2.2.1 k1_h1
theorem k1_off481_inb : ∀ (i : grid1.Coords) (v4614 : BitVec 32) (v4616 : BitVec 32) (v4618 : BitVec 32) (k1_hw265 : k1_chk265 i v4614 v4616 v4618), ∀ (k1_h1 : k1_cond1 i = 1#1), ∀ a, (k1_off481 i v4614 v4616 v4618) a + S1x1x1x1x8x5.size a ≤ S3x8x9x80x80x5.size a := fun i v4614 v4616 v4618 k1_hw265 k1_h1 => k1_hw265.2.2.2 k1_h1

def k1_off482 (i : grid1.Coords) (v4637 : BitVec 32) (v4639 : BitVec 32) (v4641 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3257 : BitVec 32 := 8#32
  let v4642 : BitVec 32 := Scalar.muli v4641 c8_i32_3257
  let c0_i32_3721 : BitVec 32 := 0#32
  ![v21.toNat, v22.toNat, v4637.toNat, v4639.toNat, v4642.toNat, 0]
def k1_off483 (i : grid1.Coords) (v4637 : BitVec 32) (v4639 : BitVec 32) (v4641 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3257 : BitVec 32 := 8#32
  let v4642 : BitVec 32 := Scalar.muli v4641 c8_i32_3257
  let c0_i32_3728 : BitVec 32 := 0#32
  ![v21.toNat, v22.toNat, v4637.toNat, v4639.toNat, v4642.toNat, 0]

def k1_chk266 (i : grid1.Coords) (v4637 : BitVec 32) (v4639 : BitVec 32) (v4641 : BitVec 32) : Prop :=
  (∀ (k1_h1 : k1_cond1 i = 1#1), ∀ a, (k1_off418 i v4637 v4639 v4641) a + S1x1x1x1x8x20.size a ≤ S3x8x9x80x80x20.size a) ∧
  (∀ (k1_h1 : k1_cond1 i = 1#1), ∀ a, (k1_off419 i v4637 v4639 v4641) a + S1x1x1x1x8x5.size a ≤ S3x8x9x80x80x5.size a) ∧
  (∀ (k1_h1 : k1_cond1 i = 1#1), ∀ a, (k1_off482 i v4637 v4639 v4641) a + S1x1x1x1x8x20.size a ≤ S3x8x9x80x80x20.size a) ∧
  (∀ (k1_h1 : k1_cond1 i = 1#1), ∀ a, (k1_off483 i v4637 v4639 v4641) a + S1x1x1x1x8x5.size a ≤ S3x8x9x80x80x5.size a)
theorem k1_off418_inb : ∀ (i : grid1.Coords) (v4637 : BitVec 32) (v4639 : BitVec 32) (v4641 : BitVec 32) (k1_hw266 : k1_chk266 i v4637 v4639 v4641), ∀ (k1_h1 : k1_cond1 i = 1#1), ∀ a, (k1_off418 i v4637 v4639 v4641) a + S1x1x1x1x8x20.size a ≤ S3x8x9x80x80x20.size a := fun i v4637 v4639 v4641 k1_hw266 k1_h1 => k1_hw266.1 k1_h1
theorem k1_off419_inb : ∀ (i : grid1.Coords) (v4637 : BitVec 32) (v4639 : BitVec 32) (v4641 : BitVec 32) (k1_hw266 : k1_chk266 i v4637 v4639 v4641), ∀ (k1_h1 : k1_cond1 i = 1#1), ∀ a, (k1_off419 i v4637 v4639 v4641) a + S1x1x1x1x8x5.size a ≤ S3x8x9x80x80x5.size a := fun i v4637 v4639 v4641 k1_hw266 k1_h1 => k1_hw266.2.1 k1_h1
theorem k1_off482_inb : ∀ (i : grid1.Coords) (v4637 : BitVec 32) (v4639 : BitVec 32) (v4641 : BitVec 32) (k1_hw266 : k1_chk266 i v4637 v4639 v4641), ∀ (k1_h1 : k1_cond1 i = 1#1), ∀ a, (k1_off482 i v4637 v4639 v4641) a + S1x1x1x1x8x20.size a ≤ S3x8x9x80x80x20.size a := fun i v4637 v4639 v4641 k1_hw266 k1_h1 => k1_hw266.2.2.1 k1_h1
theorem k1_off483_inb : ∀ (i : grid1.Coords) (v4637 : BitVec 32) (v4639 : BitVec 32) (v4641 : BitVec 32) (k1_hw266 : k1_chk266 i v4637 v4639 v4641), ∀ (k1_h1 : k1_cond1 i = 1#1), ∀ a, (k1_off483 i v4637 v4639 v4641) a + S1x1x1x1x8x5.size a ≤ S3x8x9x80x80x5.size a := fun i v4637 v4639 v4641 k1_hw266 k1_h1 => k1_hw266.2.2.2 k1_h1

def k1_off484 (i : grid1.Coords) (v4660 : BitVec 32) (v4662 : BitVec 32) (v4664 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3272 : BitVec 32 := 8#32
  let v4665 : BitVec 32 := Scalar.muli v4664 c8_i32_3272
  let c0_i32_3735 : BitVec 32 := 0#32
  ![v21.toNat, v22.toNat, v4660.toNat, v4662.toNat, v4665.toNat, 0]
def k1_off485 (i : grid1.Coords) (v4660 : BitVec 32) (v4662 : BitVec 32) (v4664 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3272 : BitVec 32 := 8#32
  let v4665 : BitVec 32 := Scalar.muli v4664 c8_i32_3272
  let c0_i32_3742 : BitVec 32 := 0#32
  ![v21.toNat, v22.toNat, v4660.toNat, v4662.toNat, v4665.toNat, 0]

def k1_chk267 (i : grid1.Coords) (v4660 : BitVec 32) (v4662 : BitVec 32) (v4664 : BitVec 32) : Prop :=
  (∀ (k1_h1 : k1_cond1 i = 1#1), ∀ a, (k1_off420 i v4660 v4662 v4664) a + S1x1x1x1x8x20.size a ≤ S3x8x9x80x80x20.size a) ∧
  (∀ (k1_h1 : k1_cond1 i = 1#1), ∀ a, (k1_off421 i v4660 v4662 v4664) a + S1x1x1x1x8x5.size a ≤ S3x8x9x80x80x5.size a) ∧
  (∀ (k1_h1 : k1_cond1 i = 1#1), ∀ a, (k1_off484 i v4660 v4662 v4664) a + S1x1x1x1x8x20.size a ≤ S3x8x9x80x80x20.size a) ∧
  (∀ (k1_h1 : k1_cond1 i = 1#1), ∀ a, (k1_off485 i v4660 v4662 v4664) a + S1x1x1x1x8x5.size a ≤ S3x8x9x80x80x5.size a)
theorem k1_off420_inb : ∀ (i : grid1.Coords) (v4660 : BitVec 32) (v4662 : BitVec 32) (v4664 : BitVec 32) (k1_hw267 : k1_chk267 i v4660 v4662 v4664), ∀ (k1_h1 : k1_cond1 i = 1#1), ∀ a, (k1_off420 i v4660 v4662 v4664) a + S1x1x1x1x8x20.size a ≤ S3x8x9x80x80x20.size a := fun i v4660 v4662 v4664 k1_hw267 k1_h1 => k1_hw267.1 k1_h1
theorem k1_off421_inb : ∀ (i : grid1.Coords) (v4660 : BitVec 32) (v4662 : BitVec 32) (v4664 : BitVec 32) (k1_hw267 : k1_chk267 i v4660 v4662 v4664), ∀ (k1_h1 : k1_cond1 i = 1#1), ∀ a, (k1_off421 i v4660 v4662 v4664) a + S1x1x1x1x8x5.size a ≤ S3x8x9x80x80x5.size a := fun i v4660 v4662 v4664 k1_hw267 k1_h1 => k1_hw267.2.1 k1_h1
theorem k1_off484_inb : ∀ (i : grid1.Coords) (v4660 : BitVec 32) (v4662 : BitVec 32) (v4664 : BitVec 32) (k1_hw267 : k1_chk267 i v4660 v4662 v4664), ∀ (k1_h1 : k1_cond1 i = 1#1), ∀ a, (k1_off484 i v4660 v4662 v4664) a + S1x1x1x1x8x20.size a ≤ S3x8x9x80x80x20.size a := fun i v4660 v4662 v4664 k1_hw267 k1_h1 => k1_hw267.2.2.1 k1_h1
theorem k1_off485_inb : ∀ (i : grid1.Coords) (v4660 : BitVec 32) (v4662 : BitVec 32) (v4664 : BitVec 32) (k1_hw267 : k1_chk267 i v4660 v4662 v4664), ∀ (k1_h1 : k1_cond1 i = 1#1), ∀ a, (k1_off485 i v4660 v4662 v4664) a + S1x1x1x1x8x5.size a ≤ S3x8x9x80x80x5.size a := fun i v4660 v4662 v4664 k1_hw267 k1_h1 => k1_hw267.2.2.2 k1_h1

def k1_off486 (i : grid1.Coords) (v4683 : BitVec 32) (v4685 : BitVec 32) (v4687 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3287 : BitVec 32 := 8#32
  let v4688 : BitVec 32 := Scalar.muli v4687 c8_i32_3287
  let c0_i32_3749 : BitVec 32 := 0#32
  ![v21.toNat, v22.toNat, v4683.toNat, v4685.toNat, v4688.toNat, 0]
def k1_off487 (i : grid1.Coords) (v4683 : BitVec 32) (v4685 : BitVec 32) (v4687 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3287 : BitVec 32 := 8#32
  let v4688 : BitVec 32 := Scalar.muli v4687 c8_i32_3287
  let c0_i32_3756 : BitVec 32 := 0#32
  ![v21.toNat, v22.toNat, v4683.toNat, v4685.toNat, v4688.toNat, 0]

def k1_chk268 (i : grid1.Coords) (v4683 : BitVec 32) (v4685 : BitVec 32) (v4687 : BitVec 32) : Prop :=
  (∀ (k1_h1 : k1_cond1 i = 1#1), ∀ a, (k1_off422 i v4683 v4685 v4687) a + S1x1x1x1x8x20.size a ≤ S3x8x9x80x80x20.size a) ∧
  (∀ (k1_h1 : k1_cond1 i = 1#1), ∀ a, (k1_off423 i v4683 v4685 v4687) a + S1x1x1x1x8x5.size a ≤ S3x8x9x80x80x5.size a) ∧
  (∀ (k1_h1 : k1_cond1 i = 1#1), ∀ a, (k1_off486 i v4683 v4685 v4687) a + S1x1x1x1x8x20.size a ≤ S3x8x9x80x80x20.size a) ∧
  (∀ (k1_h1 : k1_cond1 i = 1#1), ∀ a, (k1_off487 i v4683 v4685 v4687) a + S1x1x1x1x8x5.size a ≤ S3x8x9x80x80x5.size a)
theorem k1_off422_inb : ∀ (i : grid1.Coords) (v4683 : BitVec 32) (v4685 : BitVec 32) (v4687 : BitVec 32) (k1_hw268 : k1_chk268 i v4683 v4685 v4687), ∀ (k1_h1 : k1_cond1 i = 1#1), ∀ a, (k1_off422 i v4683 v4685 v4687) a + S1x1x1x1x8x20.size a ≤ S3x8x9x80x80x20.size a := fun i v4683 v4685 v4687 k1_hw268 k1_h1 => k1_hw268.1 k1_h1
theorem k1_off423_inb : ∀ (i : grid1.Coords) (v4683 : BitVec 32) (v4685 : BitVec 32) (v4687 : BitVec 32) (k1_hw268 : k1_chk268 i v4683 v4685 v4687), ∀ (k1_h1 : k1_cond1 i = 1#1), ∀ a, (k1_off423 i v4683 v4685 v4687) a + S1x1x1x1x8x5.size a ≤ S3x8x9x80x80x5.size a := fun i v4683 v4685 v4687 k1_hw268 k1_h1 => k1_hw268.2.1 k1_h1
theorem k1_off486_inb : ∀ (i : grid1.Coords) (v4683 : BitVec 32) (v4685 : BitVec 32) (v4687 : BitVec 32) (k1_hw268 : k1_chk268 i v4683 v4685 v4687), ∀ (k1_h1 : k1_cond1 i = 1#1), ∀ a, (k1_off486 i v4683 v4685 v4687) a + S1x1x1x1x8x20.size a ≤ S3x8x9x80x80x20.size a := fun i v4683 v4685 v4687 k1_hw268 k1_h1 => k1_hw268.2.2.1 k1_h1
theorem k1_off487_inb : ∀ (i : grid1.Coords) (v4683 : BitVec 32) (v4685 : BitVec 32) (v4687 : BitVec 32) (k1_hw268 : k1_chk268 i v4683 v4685 v4687), ∀ (k1_h1 : k1_cond1 i = 1#1), ∀ a, (k1_off487 i v4683 v4685 v4687) a + S1x1x1x1x8x5.size a ≤ S3x8x9x80x80x5.size a := fun i v4683 v4685 v4687 k1_hw268 k1_h1 => k1_hw268.2.2.2 k1_h1

def k1_off488 (i : grid1.Coords) (v4706 : BitVec 32) (v4708 : BitVec 32) (v4710 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3302 : BitVec 32 := 8#32
  let v4711 : BitVec 32 := Scalar.muli v4710 c8_i32_3302
  let c0_i32_3763 : BitVec 32 := 0#32
  ![v21.toNat, v22.toNat, v4706.toNat, v4708.toNat, v4711.toNat, 0]
def k1_off489 (i : grid1.Coords) (v4706 : BitVec 32) (v4708 : BitVec 32) (v4710 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3302 : BitVec 32 := 8#32
  let v4711 : BitVec 32 := Scalar.muli v4710 c8_i32_3302
  let c0_i32_3770 : BitVec 32 := 0#32
  ![v21.toNat, v22.toNat, v4706.toNat, v4708.toNat, v4711.toNat, 0]

def k1_chk269 (i : grid1.Coords) (v4706 : BitVec 32) (v4708 : BitVec 32) (v4710 : BitVec 32) : Prop :=
  (∀ (k1_h1 : k1_cond1 i = 1#1), ∀ a, (k1_off424 i v4706 v4708 v4710) a + S1x1x1x1x8x20.size a ≤ S3x8x9x80x80x20.size a) ∧
  (∀ (k1_h1 : k1_cond1 i = 1#1), ∀ a, (k1_off425 i v4706 v4708 v4710) a + S1x1x1x1x8x5.size a ≤ S3x8x9x80x80x5.size a) ∧
  (∀ (k1_h1 : k1_cond1 i = 1#1), ∀ a, (k1_off488 i v4706 v4708 v4710) a + S1x1x1x1x8x20.size a ≤ S3x8x9x80x80x20.size a) ∧
  (∀ (k1_h1 : k1_cond1 i = 1#1), ∀ a, (k1_off489 i v4706 v4708 v4710) a + S1x1x1x1x8x5.size a ≤ S3x8x9x80x80x5.size a)
theorem k1_off424_inb : ∀ (i : grid1.Coords) (v4706 : BitVec 32) (v4708 : BitVec 32) (v4710 : BitVec 32) (k1_hw269 : k1_chk269 i v4706 v4708 v4710), ∀ (k1_h1 : k1_cond1 i = 1#1), ∀ a, (k1_off424 i v4706 v4708 v4710) a + S1x1x1x1x8x20.size a ≤ S3x8x9x80x80x20.size a := fun i v4706 v4708 v4710 k1_hw269 k1_h1 => k1_hw269.1 k1_h1
theorem k1_off425_inb : ∀ (i : grid1.Coords) (v4706 : BitVec 32) (v4708 : BitVec 32) (v4710 : BitVec 32) (k1_hw269 : k1_chk269 i v4706 v4708 v4710), ∀ (k1_h1 : k1_cond1 i = 1#1), ∀ a, (k1_off425 i v4706 v4708 v4710) a + S1x1x1x1x8x5.size a ≤ S3x8x9x80x80x5.size a := fun i v4706 v4708 v4710 k1_hw269 k1_h1 => k1_hw269.2.1 k1_h1
theorem k1_off488_inb : ∀ (i : grid1.Coords) (v4706 : BitVec 32) (v4708 : BitVec 32) (v4710 : BitVec 32) (k1_hw269 : k1_chk269 i v4706 v4708 v4710), ∀ (k1_h1 : k1_cond1 i = 1#1), ∀ a, (k1_off488 i v4706 v4708 v4710) a + S1x1x1x1x8x20.size a ≤ S3x8x9x80x80x20.size a := fun i v4706 v4708 v4710 k1_hw269 k1_h1 => k1_hw269.2.2.1 k1_h1
theorem k1_off489_inb : ∀ (i : grid1.Coords) (v4706 : BitVec 32) (v4708 : BitVec 32) (v4710 : BitVec 32) (k1_hw269 : k1_chk269 i v4706 v4708 v4710), ∀ (k1_h1 : k1_cond1 i = 1#1), ∀ a, (k1_off489 i v4706 v4708 v4710) a + S1x1x1x1x8x5.size a ≤ S3x8x9x80x80x5.size a := fun i v4706 v4708 v4710 k1_hw269 k1_h1 => k1_hw269.2.2.2 k1_h1

def k1_off490 (i : grid1.Coords) (v4729 : BitVec 32) (v4731 : BitVec 32) (v4733 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3317 : BitVec 32 := 8#32
  let v4734 : BitVec 32 := Scalar.muli v4733 c8_i32_3317
  let c0_i32_3777 : BitVec 32 := 0#32
  ![v21.toNat, v22.toNat, v4729.toNat, v4731.toNat, v4734.toNat, 0]
def k1_off491 (i : grid1.Coords) (v4729 : BitVec 32) (v4731 : BitVec 32) (v4733 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3317 : BitVec 32 := 8#32
  let v4734 : BitVec 32 := Scalar.muli v4733 c8_i32_3317
  let c0_i32_3784 : BitVec 32 := 0#32
  ![v21.toNat, v22.toNat, v4729.toNat, v4731.toNat, v4734.toNat, 0]

def k1_chk270 (i : grid1.Coords) (v4729 : BitVec 32) (v4731 : BitVec 32) (v4733 : BitVec 32) : Prop :=
  (∀ (k1_h1 : k1_cond1 i = 1#1), ∀ a, (k1_off426 i v4729 v4731 v4733) a + S1x1x1x1x8x20.size a ≤ S3x8x9x80x80x20.size a) ∧
  (∀ (k1_h1 : k1_cond1 i = 1#1), ∀ a, (k1_off427 i v4729 v4731 v4733) a + S1x1x1x1x8x5.size a ≤ S3x8x9x80x80x5.size a) ∧
  (∀ (k1_h1 : k1_cond1 i = 1#1), ∀ a, (k1_off490 i v4729 v4731 v4733) a + S1x1x1x1x8x20.size a ≤ S3x8x9x80x80x20.size a) ∧
  (∀ (k1_h1 : k1_cond1 i = 1#1), ∀ a, (k1_off491 i v4729 v4731 v4733) a + S1x1x1x1x8x5.size a ≤ S3x8x9x80x80x5.size a)
theorem k1_off426_inb : ∀ (i : grid1.Coords) (v4729 : BitVec 32) (v4731 : BitVec 32) (v4733 : BitVec 32) (k1_hw270 : k1_chk270 i v4729 v4731 v4733), ∀ (k1_h1 : k1_cond1 i = 1#1), ∀ a, (k1_off426 i v4729 v4731 v4733) a + S1x1x1x1x8x20.size a ≤ S3x8x9x80x80x20.size a := fun i v4729 v4731 v4733 k1_hw270 k1_h1 => k1_hw270.1 k1_h1
theorem k1_off427_inb : ∀ (i : grid1.Coords) (v4729 : BitVec 32) (v4731 : BitVec 32) (v4733 : BitVec 32) (k1_hw270 : k1_chk270 i v4729 v4731 v4733), ∀ (k1_h1 : k1_cond1 i = 1#1), ∀ a, (k1_off427 i v4729 v4731 v4733) a + S1x1x1x1x8x5.size a ≤ S3x8x9x80x80x5.size a := fun i v4729 v4731 v4733 k1_hw270 k1_h1 => k1_hw270.2.1 k1_h1
theorem k1_off490_inb : ∀ (i : grid1.Coords) (v4729 : BitVec 32) (v4731 : BitVec 32) (v4733 : BitVec 32) (k1_hw270 : k1_chk270 i v4729 v4731 v4733), ∀ (k1_h1 : k1_cond1 i = 1#1), ∀ a, (k1_off490 i v4729 v4731 v4733) a + S1x1x1x1x8x20.size a ≤ S3x8x9x80x80x20.size a := fun i v4729 v4731 v4733 k1_hw270 k1_h1 => k1_hw270.2.2.1 k1_h1
theorem k1_off491_inb : ∀ (i : grid1.Coords) (v4729 : BitVec 32) (v4731 : BitVec 32) (v4733 : BitVec 32) (k1_hw270 : k1_chk270 i v4729 v4731 v4733), ∀ (k1_h1 : k1_cond1 i = 1#1), ∀ a, (k1_off491 i v4729 v4731 v4733) a + S1x1x1x1x8x5.size a ≤ S3x8x9x80x80x5.size a := fun i v4729 v4731 v4733 k1_hw270 k1_h1 => k1_hw270.2.2.2 k1_h1

def k1_off492 (i : grid1.Coords) (v4752 : BitVec 32) (v4754 : BitVec 32) (v4756 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3332 : BitVec 32 := 8#32
  let v4757 : BitVec 32 := Scalar.muli v4756 c8_i32_3332
  let c0_i32_3791 : BitVec 32 := 0#32
  ![v21.toNat, v22.toNat, v4752.toNat, v4754.toNat, v4757.toNat, 0]
def k1_off493 (i : grid1.Coords) (v4752 : BitVec 32) (v4754 : BitVec 32) (v4756 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3332 : BitVec 32 := 8#32
  let v4757 : BitVec 32 := Scalar.muli v4756 c8_i32_3332
  let c0_i32_3798 : BitVec 32 := 0#32
  ![v21.toNat, v22.toNat, v4752.toNat, v4754.toNat, v4757.toNat, 0]

def k1_chk271 (i : grid1.Coords) (v4752 : BitVec 32) (v4754 : BitVec 32) (v4756 : BitVec 32) : Prop :=
  (∀ (k1_h1 : k1_cond1 i = 1#1), ∀ a, (k1_off428 i v4752 v4754 v4756) a + S1x1x1x1x8x20.size a ≤ S3x8x9x80x80x20.size a) ∧
  (∀ (k1_h1 : k1_cond1 i = 1#1), ∀ a, (k1_off429 i v4752 v4754 v4756) a + S1x1x1x1x8x5.size a ≤ S3x8x9x80x80x5.size a) ∧
  (∀ (k1_h1 : k1_cond1 i = 1#1), ∀ a, (k1_off492 i v4752 v4754 v4756) a + S1x1x1x1x8x20.size a ≤ S3x8x9x80x80x20.size a) ∧
  (∀ (k1_h1 : k1_cond1 i = 1#1), ∀ a, (k1_off493 i v4752 v4754 v4756) a + S1x1x1x1x8x5.size a ≤ S3x8x9x80x80x5.size a)
theorem k1_off428_inb : ∀ (i : grid1.Coords) (v4752 : BitVec 32) (v4754 : BitVec 32) (v4756 : BitVec 32) (k1_hw271 : k1_chk271 i v4752 v4754 v4756), ∀ (k1_h1 : k1_cond1 i = 1#1), ∀ a, (k1_off428 i v4752 v4754 v4756) a + S1x1x1x1x8x20.size a ≤ S3x8x9x80x80x20.size a := fun i v4752 v4754 v4756 k1_hw271 k1_h1 => k1_hw271.1 k1_h1
theorem k1_off429_inb : ∀ (i : grid1.Coords) (v4752 : BitVec 32) (v4754 : BitVec 32) (v4756 : BitVec 32) (k1_hw271 : k1_chk271 i v4752 v4754 v4756), ∀ (k1_h1 : k1_cond1 i = 1#1), ∀ a, (k1_off429 i v4752 v4754 v4756) a + S1x1x1x1x8x5.size a ≤ S3x8x9x80x80x5.size a := fun i v4752 v4754 v4756 k1_hw271 k1_h1 => k1_hw271.2.1 k1_h1
theorem k1_off492_inb : ∀ (i : grid1.Coords) (v4752 : BitVec 32) (v4754 : BitVec 32) (v4756 : BitVec 32) (k1_hw271 : k1_chk271 i v4752 v4754 v4756), ∀ (k1_h1 : k1_cond1 i = 1#1), ∀ a, (k1_off492 i v4752 v4754 v4756) a + S1x1x1x1x8x20.size a ≤ S3x8x9x80x80x20.size a := fun i v4752 v4754 v4756 k1_hw271 k1_h1 => k1_hw271.2.2.1 k1_h1
theorem k1_off493_inb : ∀ (i : grid1.Coords) (v4752 : BitVec 32) (v4754 : BitVec 32) (v4756 : BitVec 32) (k1_hw271 : k1_chk271 i v4752 v4754 v4756), ∀ (k1_h1 : k1_cond1 i = 1#1), ∀ a, (k1_off493 i v4752 v4754 v4756) a + S1x1x1x1x8x5.size a ≤ S3x8x9x80x80x5.size a := fun i v4752 v4754 v4756 k1_hw271 k1_h1 => k1_hw271.2.2.2 k1_h1

def k1_off494 (i : grid1.Coords) (v4775 : BitVec 32) (v4777 : BitVec 32) (v4779 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3347 : BitVec 32 := 8#32
  let v4780 : BitVec 32 := Scalar.muli v4779 c8_i32_3347
  let c0_i32_3805 : BitVec 32 := 0#32
  ![v21.toNat, v22.toNat, v4775.toNat, v4777.toNat, v4780.toNat, 0]
def k1_off495 (i : grid1.Coords) (v4775 : BitVec 32) (v4777 : BitVec 32) (v4779 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3347 : BitVec 32 := 8#32
  let v4780 : BitVec 32 := Scalar.muli v4779 c8_i32_3347
  let c0_i32_3812 : BitVec 32 := 0#32
  ![v21.toNat, v22.toNat, v4775.toNat, v4777.toNat, v4780.toNat, 0]

def k1_chk272 (i : grid1.Coords) (v4775 : BitVec 32) (v4777 : BitVec 32) (v4779 : BitVec 32) : Prop :=
  (∀ (k1_h1 : k1_cond1 i = 1#1), ∀ a, (k1_off430 i v4775 v4777 v4779) a + S1x1x1x1x8x20.size a ≤ S3x8x9x80x80x20.size a) ∧
  (∀ (k1_h1 : k1_cond1 i = 1#1), ∀ a, (k1_off431 i v4775 v4777 v4779) a + S1x1x1x1x8x5.size a ≤ S3x8x9x80x80x5.size a) ∧
  (∀ (k1_h1 : k1_cond1 i = 1#1), ∀ a, (k1_off494 i v4775 v4777 v4779) a + S1x1x1x1x8x20.size a ≤ S3x8x9x80x80x20.size a) ∧
  (∀ (k1_h1 : k1_cond1 i = 1#1), ∀ a, (k1_off495 i v4775 v4777 v4779) a + S1x1x1x1x8x5.size a ≤ S3x8x9x80x80x5.size a)
theorem k1_off430_inb : ∀ (i : grid1.Coords) (v4775 : BitVec 32) (v4777 : BitVec 32) (v4779 : BitVec 32) (k1_hw272 : k1_chk272 i v4775 v4777 v4779), ∀ (k1_h1 : k1_cond1 i = 1#1), ∀ a, (k1_off430 i v4775 v4777 v4779) a + S1x1x1x1x8x20.size a ≤ S3x8x9x80x80x20.size a := fun i v4775 v4777 v4779 k1_hw272 k1_h1 => k1_hw272.1 k1_h1
theorem k1_off431_inb : ∀ (i : grid1.Coords) (v4775 : BitVec 32) (v4777 : BitVec 32) (v4779 : BitVec 32) (k1_hw272 : k1_chk272 i v4775 v4777 v4779), ∀ (k1_h1 : k1_cond1 i = 1#1), ∀ a, (k1_off431 i v4775 v4777 v4779) a + S1x1x1x1x8x5.size a ≤ S3x8x9x80x80x5.size a := fun i v4775 v4777 v4779 k1_hw272 k1_h1 => k1_hw272.2.1 k1_h1
theorem k1_off494_inb : ∀ (i : grid1.Coords) (v4775 : BitVec 32) (v4777 : BitVec 32) (v4779 : BitVec 32) (k1_hw272 : k1_chk272 i v4775 v4777 v4779), ∀ (k1_h1 : k1_cond1 i = 1#1), ∀ a, (k1_off494 i v4775 v4777 v4779) a + S1x1x1x1x8x20.size a ≤ S3x8x9x80x80x20.size a := fun i v4775 v4777 v4779 k1_hw272 k1_h1 => k1_hw272.2.2.1 k1_h1
theorem k1_off495_inb : ∀ (i : grid1.Coords) (v4775 : BitVec 32) (v4777 : BitVec 32) (v4779 : BitVec 32) (k1_hw272 : k1_chk272 i v4775 v4777 v4779), ∀ (k1_h1 : k1_cond1 i = 1#1), ∀ a, (k1_off495 i v4775 v4777 v4779) a + S1x1x1x1x8x5.size a ≤ S3x8x9x80x80x5.size a := fun i v4775 v4777 v4779 k1_hw272 k1_h1 => k1_hw272.2.2.2 k1_h1

def k1_off496 (i : grid1.Coords) (v4798 : BitVec 32) (v4800 : BitVec 32) (v4802 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3362 : BitVec 32 := 8#32
  let v4803 : BitVec 32 := Scalar.muli v4802 c8_i32_3362
  let c0_i32_3819 : BitVec 32 := 0#32
  ![v21.toNat, v22.toNat, v4798.toNat, v4800.toNat, v4803.toNat, 0]
def k1_off497 (i : grid1.Coords) (v4798 : BitVec 32) (v4800 : BitVec 32) (v4802 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3362 : BitVec 32 := 8#32
  let v4803 : BitVec 32 := Scalar.muli v4802 c8_i32_3362
  let c0_i32_3826 : BitVec 32 := 0#32
  ![v21.toNat, v22.toNat, v4798.toNat, v4800.toNat, v4803.toNat, 0]

def k1_chk273 (i : grid1.Coords) (v4798 : BitVec 32) (v4800 : BitVec 32) (v4802 : BitVec 32) : Prop :=
  (∀ (k1_h1 : k1_cond1 i = 1#1), ∀ a, (k1_off432 i v4798 v4800 v4802) a + S1x1x1x1x8x20.size a ≤ S3x8x9x80x80x20.size a) ∧
  (∀ (k1_h1 : k1_cond1 i = 1#1), ∀ a, (k1_off433 i v4798 v4800 v4802) a + S1x1x1x1x8x5.size a ≤ S3x8x9x80x80x5.size a) ∧
  (∀ (k1_h1 : k1_cond1 i = 1#1), ∀ a, (k1_off496 i v4798 v4800 v4802) a + S1x1x1x1x8x20.size a ≤ S3x8x9x80x80x20.size a) ∧
  (∀ (k1_h1 : k1_cond1 i = 1#1), ∀ a, (k1_off497 i v4798 v4800 v4802) a + S1x1x1x1x8x5.size a ≤ S3x8x9x80x80x5.size a)
theorem k1_off432_inb : ∀ (i : grid1.Coords) (v4798 : BitVec 32) (v4800 : BitVec 32) (v4802 : BitVec 32) (k1_hw273 : k1_chk273 i v4798 v4800 v4802), ∀ (k1_h1 : k1_cond1 i = 1#1), ∀ a, (k1_off432 i v4798 v4800 v4802) a + S1x1x1x1x8x20.size a ≤ S3x8x9x80x80x20.size a := fun i v4798 v4800 v4802 k1_hw273 k1_h1 => k1_hw273.1 k1_h1
theorem k1_off433_inb : ∀ (i : grid1.Coords) (v4798 : BitVec 32) (v4800 : BitVec 32) (v4802 : BitVec 32) (k1_hw273 : k1_chk273 i v4798 v4800 v4802), ∀ (k1_h1 : k1_cond1 i = 1#1), ∀ a, (k1_off433 i v4798 v4800 v4802) a + S1x1x1x1x8x5.size a ≤ S3x8x9x80x80x5.size a := fun i v4798 v4800 v4802 k1_hw273 k1_h1 => k1_hw273.2.1 k1_h1
theorem k1_off496_inb : ∀ (i : grid1.Coords) (v4798 : BitVec 32) (v4800 : BitVec 32) (v4802 : BitVec 32) (k1_hw273 : k1_chk273 i v4798 v4800 v4802), ∀ (k1_h1 : k1_cond1 i = 1#1), ∀ a, (k1_off496 i v4798 v4800 v4802) a + S1x1x1x1x8x20.size a ≤ S3x8x9x80x80x20.size a := fun i v4798 v4800 v4802 k1_hw273 k1_h1 => k1_hw273.2.2.1 k1_h1
theorem k1_off497_inb : ∀ (i : grid1.Coords) (v4798 : BitVec 32) (v4800 : BitVec 32) (v4802 : BitVec 32) (k1_hw273 : k1_chk273 i v4798 v4800 v4802), ∀ (k1_h1 : k1_cond1 i = 1#1), ∀ a, (k1_off497 i v4798 v4800 v4802) a + S1x1x1x1x8x5.size a ≤ S3x8x9x80x80x5.size a := fun i v4798 v4800 v4802 k1_hw273 k1_h1 => k1_hw273.2.2.2 k1_h1

def k1_off498 (i : grid1.Coords) (v4821 : BitVec 32) (v4823 : BitVec 32) (v4825 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3377 : BitVec 32 := 8#32
  let v4826 : BitVec 32 := Scalar.muli v4825 c8_i32_3377
  let c0_i32_3833 : BitVec 32 := 0#32
  ![v21.toNat, v22.toNat, v4821.toNat, v4823.toNat, v4826.toNat, 0]
def k1_off499 (i : grid1.Coords) (v4821 : BitVec 32) (v4823 : BitVec 32) (v4825 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3377 : BitVec 32 := 8#32
  let v4826 : BitVec 32 := Scalar.muli v4825 c8_i32_3377
  let c0_i32_3840 : BitVec 32 := 0#32
  ![v21.toNat, v22.toNat, v4821.toNat, v4823.toNat, v4826.toNat, 0]

def k1_chk274 (i : grid1.Coords) (v4821 : BitVec 32) (v4823 : BitVec 32) (v4825 : BitVec 32) : Prop :=
  (∀ (k1_h1 : k1_cond1 i = 1#1), ∀ a, (k1_off434 i v4821 v4823 v4825) a + S1x1x1x1x8x20.size a ≤ S3x8x9x80x80x20.size a) ∧
  (∀ (k1_h1 : k1_cond1 i = 1#1), ∀ a, (k1_off435 i v4821 v4823 v4825) a + S1x1x1x1x8x5.size a ≤ S3x8x9x80x80x5.size a) ∧
  (∀ (k1_h1 : k1_cond1 i = 1#1), ∀ a, (k1_off498 i v4821 v4823 v4825) a + S1x1x1x1x8x20.size a ≤ S3x8x9x80x80x20.size a) ∧
  (∀ (k1_h1 : k1_cond1 i = 1#1), ∀ a, (k1_off499 i v4821 v4823 v4825) a + S1x1x1x1x8x5.size a ≤ S3x8x9x80x80x5.size a)
theorem k1_off434_inb : ∀ (i : grid1.Coords) (v4821 : BitVec 32) (v4823 : BitVec 32) (v4825 : BitVec 32) (k1_hw274 : k1_chk274 i v4821 v4823 v4825), ∀ (k1_h1 : k1_cond1 i = 1#1), ∀ a, (k1_off434 i v4821 v4823 v4825) a + S1x1x1x1x8x20.size a ≤ S3x8x9x80x80x20.size a := fun i v4821 v4823 v4825 k1_hw274 k1_h1 => k1_hw274.1 k1_h1
theorem k1_off435_inb : ∀ (i : grid1.Coords) (v4821 : BitVec 32) (v4823 : BitVec 32) (v4825 : BitVec 32) (k1_hw274 : k1_chk274 i v4821 v4823 v4825), ∀ (k1_h1 : k1_cond1 i = 1#1), ∀ a, (k1_off435 i v4821 v4823 v4825) a + S1x1x1x1x8x5.size a ≤ S3x8x9x80x80x5.size a := fun i v4821 v4823 v4825 k1_hw274 k1_h1 => k1_hw274.2.1 k1_h1
theorem k1_off498_inb : ∀ (i : grid1.Coords) (v4821 : BitVec 32) (v4823 : BitVec 32) (v4825 : BitVec 32) (k1_hw274 : k1_chk274 i v4821 v4823 v4825), ∀ (k1_h1 : k1_cond1 i = 1#1), ∀ a, (k1_off498 i v4821 v4823 v4825) a + S1x1x1x1x8x20.size a ≤ S3x8x9x80x80x20.size a := fun i v4821 v4823 v4825 k1_hw274 k1_h1 => k1_hw274.2.2.1 k1_h1
theorem k1_off499_inb : ∀ (i : grid1.Coords) (v4821 : BitVec 32) (v4823 : BitVec 32) (v4825 : BitVec 32) (k1_hw274 : k1_chk274 i v4821 v4823 v4825), ∀ (k1_h1 : k1_cond1 i = 1#1), ∀ a, (k1_off499 i v4821 v4823 v4825) a + S1x1x1x1x8x5.size a ≤ S3x8x9x80x80x5.size a := fun i v4821 v4823 v4825 k1_hw274 k1_h1 => k1_hw274.2.2.2 k1_h1

def k1_off500 (i : grid1.Coords) (v4844 : BitVec 32) (v4846 : BitVec 32) (v4848 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3392 : BitVec 32 := 8#32
  let v4849 : BitVec 32 := Scalar.muli v4848 c8_i32_3392
  let c0_i32_3847 : BitVec 32 := 0#32
  ![v21.toNat, v22.toNat, v4844.toNat, v4846.toNat, v4849.toNat, 0]
def k1_off501 (i : grid1.Coords) (v4844 : BitVec 32) (v4846 : BitVec 32) (v4848 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3392 : BitVec 32 := 8#32
  let v4849 : BitVec 32 := Scalar.muli v4848 c8_i32_3392
  let c0_i32_3854 : BitVec 32 := 0#32
  ![v21.toNat, v22.toNat, v4844.toNat, v4846.toNat, v4849.toNat, 0]

def k1_chk275 (i : grid1.Coords) (v4844 : BitVec 32) (v4846 : BitVec 32) (v4848 : BitVec 32) : Prop :=
  (∀ (k1_h1 : k1_cond1 i = 1#1), ∀ a, (k1_off436 i v4844 v4846 v4848) a + S1x1x1x1x8x20.size a ≤ S3x8x9x80x80x20.size a) ∧
  (∀ (k1_h1 : k1_cond1 i = 1#1), ∀ a, (k1_off437 i v4844 v4846 v4848) a + S1x1x1x1x8x5.size a ≤ S3x8x9x80x80x5.size a) ∧
  (∀ (k1_h1 : k1_cond1 i = 1#1), ∀ a, (k1_off500 i v4844 v4846 v4848) a + S1x1x1x1x8x20.size a ≤ S3x8x9x80x80x20.size a) ∧
  (∀ (k1_h1 : k1_cond1 i = 1#1), ∀ a, (k1_off501 i v4844 v4846 v4848) a + S1x1x1x1x8x5.size a ≤ S3x8x9x80x80x5.size a)
theorem k1_off436_inb : ∀ (i : grid1.Coords) (v4844 : BitVec 32) (v4846 : BitVec 32) (v4848 : BitVec 32) (k1_hw275 : k1_chk275 i v4844 v4846 v4848), ∀ (k1_h1 : k1_cond1 i = 1#1), ∀ a, (k1_off436 i v4844 v4846 v4848) a + S1x1x1x1x8x20.size a ≤ S3x8x9x80x80x20.size a := fun i v4844 v4846 v4848 k1_hw275 k1_h1 => k1_hw275.1 k1_h1
theorem k1_off437_inb : ∀ (i : grid1.Coords) (v4844 : BitVec 32) (v4846 : BitVec 32) (v4848 : BitVec 32) (k1_hw275 : k1_chk275 i v4844 v4846 v4848), ∀ (k1_h1 : k1_cond1 i = 1#1), ∀ a, (k1_off437 i v4844 v4846 v4848) a + S1x1x1x1x8x5.size a ≤ S3x8x9x80x80x5.size a := fun i v4844 v4846 v4848 k1_hw275 k1_h1 => k1_hw275.2.1 k1_h1
theorem k1_off500_inb : ∀ (i : grid1.Coords) (v4844 : BitVec 32) (v4846 : BitVec 32) (v4848 : BitVec 32) (k1_hw275 : k1_chk275 i v4844 v4846 v4848), ∀ (k1_h1 : k1_cond1 i = 1#1), ∀ a, (k1_off500 i v4844 v4846 v4848) a + S1x1x1x1x8x20.size a ≤ S3x8x9x80x80x20.size a := fun i v4844 v4846 v4848 k1_hw275 k1_h1 => k1_hw275.2.2.1 k1_h1
theorem k1_off501_inb : ∀ (i : grid1.Coords) (v4844 : BitVec 32) (v4846 : BitVec 32) (v4848 : BitVec 32) (k1_hw275 : k1_chk275 i v4844 v4846 v4848), ∀ (k1_h1 : k1_cond1 i = 1#1), ∀ a, (k1_off501 i v4844 v4846 v4848) a + S1x1x1x1x8x5.size a ≤ S3x8x9x80x80x5.size a := fun i v4844 v4846 v4848 k1_hw275 k1_h1 => k1_hw275.2.2.2 k1_h1

def k1_off502 (i : grid1.Coords) (v4867 : BitVec 32) (v4869 : BitVec 32) (v4871 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3407 : BitVec 32 := 8#32
  let v4872 : BitVec 32 := Scalar.muli v4871 c8_i32_3407
  let c0_i32_3861 : BitVec 32 := 0#32
  ![v21.toNat, v22.toNat, v4867.toNat, v4869.toNat, v4872.toNat, 0]
def k1_off503 (i : grid1.Coords) (v4867 : BitVec 32) (v4869 : BitVec 32) (v4871 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3407 : BitVec 32 := 8#32
  let v4872 : BitVec 32 := Scalar.muli v4871 c8_i32_3407
  let c0_i32_3868 : BitVec 32 := 0#32
  ![v21.toNat, v22.toNat, v4867.toNat, v4869.toNat, v4872.toNat, 0]

def k1_chk276 (i : grid1.Coords) (v4867 : BitVec 32) (v4869 : BitVec 32) (v4871 : BitVec 32) : Prop :=
  (∀ (k1_h1 : k1_cond1 i = 1#1), ∀ a, (k1_off438 i v4867 v4869 v4871) a + S1x1x1x1x8x20.size a ≤ S3x8x9x80x80x20.size a) ∧
  (∀ (k1_h1 : k1_cond1 i = 1#1), ∀ a, (k1_off439 i v4867 v4869 v4871) a + S1x1x1x1x8x5.size a ≤ S3x8x9x80x80x5.size a) ∧
  (∀ (k1_h1 : k1_cond1 i = 1#1), ∀ a, (k1_off502 i v4867 v4869 v4871) a + S1x1x1x1x8x20.size a ≤ S3x8x9x80x80x20.size a) ∧
  (∀ (k1_h1 : k1_cond1 i = 1#1), ∀ a, (k1_off503 i v4867 v4869 v4871) a + S1x1x1x1x8x5.size a ≤ S3x8x9x80x80x5.size a)
theorem k1_off438_inb : ∀ (i : grid1.Coords) (v4867 : BitVec 32) (v4869 : BitVec 32) (v4871 : BitVec 32) (k1_hw276 : k1_chk276 i v4867 v4869 v4871), ∀ (k1_h1 : k1_cond1 i = 1#1), ∀ a, (k1_off438 i v4867 v4869 v4871) a + S1x1x1x1x8x20.size a ≤ S3x8x9x80x80x20.size a := fun i v4867 v4869 v4871 k1_hw276 k1_h1 => k1_hw276.1 k1_h1
theorem k1_off439_inb : ∀ (i : grid1.Coords) (v4867 : BitVec 32) (v4869 : BitVec 32) (v4871 : BitVec 32) (k1_hw276 : k1_chk276 i v4867 v4869 v4871), ∀ (k1_h1 : k1_cond1 i = 1#1), ∀ a, (k1_off439 i v4867 v4869 v4871) a + S1x1x1x1x8x5.size a ≤ S3x8x9x80x80x5.size a := fun i v4867 v4869 v4871 k1_hw276 k1_h1 => k1_hw276.2.1 k1_h1
theorem k1_off502_inb : ∀ (i : grid1.Coords) (v4867 : BitVec 32) (v4869 : BitVec 32) (v4871 : BitVec 32) (k1_hw276 : k1_chk276 i v4867 v4869 v4871), ∀ (k1_h1 : k1_cond1 i = 1#1), ∀ a, (k1_off502 i v4867 v4869 v4871) a + S1x1x1x1x8x20.size a ≤ S3x8x9x80x80x20.size a := fun i v4867 v4869 v4871 k1_hw276 k1_h1 => k1_hw276.2.2.1 k1_h1
theorem k1_off503_inb : ∀ (i : grid1.Coords) (v4867 : BitVec 32) (v4869 : BitVec 32) (v4871 : BitVec 32) (k1_hw276 : k1_chk276 i v4867 v4869 v4871), ∀ (k1_h1 : k1_cond1 i = 1#1), ∀ a, (k1_off503 i v4867 v4869 v4871) a + S1x1x1x1x8x5.size a ≤ S3x8x9x80x80x5.size a := fun i v4867 v4869 v4871 k1_hw276 k1_h1 => k1_hw276.2.2.2 k1_h1

def k1_off504 (i : grid1.Coords) (v4890 : BitVec 32) (v4892 : BitVec 32) (v4894 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3422 : BitVec 32 := 8#32
  let v4895 : BitVec 32 := Scalar.muli v4894 c8_i32_3422
  let c0_i32_3875 : BitVec 32 := 0#32
  ![v21.toNat, v22.toNat, v4890.toNat, v4892.toNat, v4895.toNat, 0]
def k1_off505 (i : grid1.Coords) (v4890 : BitVec 32) (v4892 : BitVec 32) (v4894 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.remsi v1 c8_i32_5
  let c8_i32_3422 : BitVec 32 := 8#32
  let v4895 : BitVec 32 := Scalar.muli v4894 c8_i32_3422
  let c0_i32_3882 : BitVec 32 := 0#32
  ![v21.toNat, v22.toNat, v4890.toNat, v4892.toNat, v4895.toNat, 0]

def k1_chk277 (i : grid1.Coords) (v4890 : BitVec 32) (v4892 : BitVec 32) (v4894 : BitVec 32) : Prop :=
  (∀ (k1_h1 : k1_cond1 i = 1#1), ∀ a, (k1_off440 i v4890 v4892 v4894) a + S1x1x1x1x8x20.size a ≤ S3x8x9x80x80x20.size a) ∧
  (∀ (k1_h1 : k1_cond1 i = 1#1), ∀ a, (k1_off441 i v4890 v4892 v4894) a + S1x1x1x1x8x5.size a ≤ S3x8x9x80x80x5.size a) ∧
  (∀ (k1_h1 : k1_cond1 i = 1#1), ∀ a, (k1_off504 i v4890 v4892 v4894) a + S1x1x1x1x8x20.size a ≤ S3x8x9x80x80x20.size a) ∧
  (∀ (k1_h1 : k1_cond1 i = 1#1), ∀ a, (k1_off505 i v4890 v4892 v4894) a + S1x1x1x1x8x5.size a ≤ S3x8x9x80x80x5.size a)
theorem k1_off440_inb : ∀ (i : grid1.Coords) (v4890 : BitVec 32) (v4892 : BitVec 32) (v4894 : BitVec 32) (k1_hw277 : k1_chk277 i v4890 v4892 v4894), ∀ (k1_h1 : k1_cond1 i = 1#1), ∀ a, (k1_off440 i v4890 v4892 v4894) a + S1x1x1x1x8x20.size a ≤ S3x8x9x80x80x20.size a := fun i v4890 v4892 v4894 k1_hw277 k1_h1 => k1_hw277.1 k1_h1
theorem k1_off441_inb : ∀ (i : grid1.Coords) (v4890 : BitVec 32) (v4892 : BitVec 32) (v4894 : BitVec 32) (k1_hw277 : k1_chk277 i v4890 v4892 v4894), ∀ (k1_h1 : k1_cond1 i = 1#1), ∀ a, (k1_off441 i v4890 v4892 v4894) a + S1x1x1x1x8x5.size a ≤ S3x8x9x80x80x5.size a := fun i v4890 v4892 v4894 k1_hw277 k1_h1 => k1_hw277.2.1 k1_h1
theorem k1_off504_inb : ∀ (i : grid1.Coords) (v4890 : BitVec 32) (v4892 : BitVec 32) (v4894 : BitVec 32) (k1_hw277 : k1_chk277 i v4890 v4892 v4894), ∀ (k1_h1 : k1_cond1 i = 1#1), ∀ a, (k1_off504 i v4890 v4892 v4894) a + S1x1x1x1x8x20.size a ≤ S3x8x9x80x80x20.size a := fun i v4890 v4892 v4894 k1_hw277 k1_h1 => k1_hw277.2.2.1 k1_h1
theorem k1_off505_inb : ∀ (i : grid1.Coords) (v4890 : BitVec 32) (v4892 : BitVec 32) (v4894 : BitVec 32) (k1_hw277 : k1_chk277 i v4890 v4892 v4894), ∀ (k1_h1 : k1_cond1 i = 1#1), ∀ a, (k1_off505 i v4890 v4892 v4894) a + S1x1x1x1x8x5.size a ≤ S3x8x9x80x80x5.size a := fun i v4890 v4892 v4894 k1_hw277 k1_h1 => k1_hw277.2.2.2 k1_h1

def k1_chk279 (i : grid1.Coords) (v5448 : IVec S16 32) (v5450 : IVec S16 32) (v5453 : IVec S16 32) (v5454 : IVec S16 32) : Prop :=
  (∀ (k1_h1 : k1_cond1 i = 1#1), ∀ a x, ((![v5448, v5453, v5454] : Fin 3 → IVec S16 32) a x).toNat < S32x8x20.size a) ∧
  (∀ (k1_h1 : k1_cond1 i = 1#1), ∀ a x, ((![v5450, v5454] : Fin 2 → IVec S16 32) a x).toNat < S128x20.size a)
theorem k1_idx301_inb : ∀ (i : grid1.Coords) (v5448 : IVec S16 32) (v5450 : IVec S16 32) (v5453 : IVec S16 32) (v5454 : IVec S16 32) (k1_hw279 : k1_chk279 i v5448 v5450 v5453 v5454), ∀ (k1_h1 : k1_cond1 i = 1#1), ∀ a x, ((![v5448, v5453, v5454] : Fin 3 → IVec S16 32) a x).toNat < S32x8x20.size a := fun i v5448 v5450 v5453 v5454 k1_hw279 k1_h1 => k1_hw279.1 k1_h1
theorem k1_idx302_inb : ∀ (i : grid1.Coords) (v5448 : IVec S16 32) (v5450 : IVec S16 32) (v5453 : IVec S16 32) (v5454 : IVec S16 32) (k1_hw279 : k1_chk279 i v5448 v5450 v5453 v5454), ∀ (k1_h1 : k1_cond1 i = 1#1), ∀ a x, ((![v5450, v5454] : Fin 2 → IVec S16 32) a x).toNat < S128x20.size a := fun i v5448 v5450 v5453 v5454 k1_hw279 k1_h1 => k1_hw279.2 k1_h1

def k1_chk280 (i : grid1.Coords) (v5448 : IVec S16 32) (v5450 : IVec S16 32) (v5453 : IVec S16 32) (v5456 : IVec S16 32) : Prop :=
  (∀ (k1_h1 : k1_cond1 i = 1#1), ∀ a x, ((![v5448, v5453, v5456] : Fin 3 → IVec S16 32) a x).toNat < S32x8x20.size a) ∧
  (∀ (k1_h1 : k1_cond1 i = 1#1), ∀ a x, ((![v5450, v5456] : Fin 2 → IVec S16 32) a x).toNat < S128x20.size a)
theorem k1_idx303_inb : ∀ (i : grid1.Coords) (v5448 : IVec S16 32) (v5450 : IVec S16 32) (v5453 : IVec S16 32) (v5456 : IVec S16 32) (k1_hw280 : k1_chk280 i v5448 v5450 v5453 v5456), ∀ (k1_h1 : k1_cond1 i = 1#1), ∀ a x, ((![v5448, v5453, v5456] : Fin 3 → IVec S16 32) a x).toNat < S32x8x20.size a := fun i v5448 v5450 v5453 v5456 k1_hw280 k1_h1 => k1_hw280.1 k1_h1
theorem k1_idx304_inb : ∀ (i : grid1.Coords) (v5448 : IVec S16 32) (v5450 : IVec S16 32) (v5453 : IVec S16 32) (v5456 : IVec S16 32) (k1_hw280 : k1_chk280 i v5448 v5450 v5453 v5456), ∀ (k1_h1 : k1_cond1 i = 1#1), ∀ a x, ((![v5450, v5456] : Fin 2 → IVec S16 32) a x).toNat < S128x20.size a := fun i v5448 v5450 v5453 v5456 k1_hw280 k1_h1 => k1_hw280.2 k1_h1

def k1_chk281 (i : grid1.Coords) (v5448 : IVec S16 32) (v5450 : IVec S16 32) (v5453 : IVec S16 32) (v5458 : IVec S16 32) : Prop :=
  (∀ (k1_h1 : k1_cond1 i = 1#1), ∀ a x, ((![v5448, v5453, v5458] : Fin 3 → IVec S16 32) a x).toNat < S32x8x20.size a) ∧
  (∀ (k1_h1 : k1_cond1 i = 1#1), ∀ a x, ((![v5450, v5458] : Fin 2 → IVec S16 32) a x).toNat < S128x20.size a)
theorem k1_idx305_inb : ∀ (i : grid1.Coords) (v5448 : IVec S16 32) (v5450 : IVec S16 32) (v5453 : IVec S16 32) (v5458 : IVec S16 32) (k1_hw281 : k1_chk281 i v5448 v5450 v5453 v5458), ∀ (k1_h1 : k1_cond1 i = 1#1), ∀ a x, ((![v5448, v5453, v5458] : Fin 3 → IVec S16 32) a x).toNat < S32x8x20.size a := fun i v5448 v5450 v5453 v5458 k1_hw281 k1_h1 => k1_hw281.1 k1_h1
theorem k1_idx306_inb : ∀ (i : grid1.Coords) (v5448 : IVec S16 32) (v5450 : IVec S16 32) (v5453 : IVec S16 32) (v5458 : IVec S16 32) (k1_hw281 : k1_chk281 i v5448 v5450 v5453 v5458), ∀ (k1_h1 : k1_cond1 i = 1#1), ∀ a x, ((![v5450, v5458] : Fin 2 → IVec S16 32) a x).toNat < S128x20.size a := fun i v5448 v5450 v5453 v5458 k1_hw281 k1_h1 => k1_hw281.2 k1_h1

def k1_chk282 (i : grid1.Coords) (v5448 : IVec S16 32) (v5450 : IVec S16 32) (v5453 : IVec S16 32) (v5460 : IVec S16 32) : Prop :=
  (∀ (k1_h1 : k1_cond1 i = 1#1), ∀ a x, ((![v5448, v5453, v5460] : Fin 3 → IVec S16 32) a x).toNat < S32x8x20.size a) ∧
  (∀ (k1_h1 : k1_cond1 i = 1#1), ∀ a x, ((![v5450, v5460] : Fin 2 → IVec S16 32) a x).toNat < S128x20.size a)
theorem k1_idx307_inb : ∀ (i : grid1.Coords) (v5448 : IVec S16 32) (v5450 : IVec S16 32) (v5453 : IVec S16 32) (v5460 : IVec S16 32) (k1_hw282 : k1_chk282 i v5448 v5450 v5453 v5460), ∀ (k1_h1 : k1_cond1 i = 1#1), ∀ a x, ((![v5448, v5453, v5460] : Fin 3 → IVec S16 32) a x).toNat < S32x8x20.size a := fun i v5448 v5450 v5453 v5460 k1_hw282 k1_h1 => k1_hw282.1 k1_h1
theorem k1_idx308_inb : ∀ (i : grid1.Coords) (v5448 : IVec S16 32) (v5450 : IVec S16 32) (v5453 : IVec S16 32) (v5460 : IVec S16 32) (k1_hw282 : k1_chk282 i v5448 v5450 v5453 v5460), ∀ (k1_h1 : k1_cond1 i = 1#1), ∀ a x, ((![v5450, v5460] : Fin 2 → IVec S16 32) a x).toNat < S128x20.size a := fun i v5448 v5450 v5453 v5460 k1_hw282 k1_h1 => k1_hw282.2 k1_h1

def k1_chk283 (i : grid1.Coords) (v5448 : IVec S16 32) (v5450 : IVec S16 32) (v5453 : IVec S16 32) (v5462 : IVec S16 32) : Prop :=
  (∀ (k1_h1 : k1_cond1 i = 1#1), ∀ a x, ((![v5448, v5453, v5462] : Fin 3 → IVec S16 32) a x).toNat < S32x8x20.size a) ∧
  (∀ (k1_h1 : k1_cond1 i = 1#1), ∀ a x, ((![v5450, v5462] : Fin 2 → IVec S16 32) a x).toNat < S128x20.size a)
theorem k1_idx309_inb : ∀ (i : grid1.Coords) (v5448 : IVec S16 32) (v5450 : IVec S16 32) (v5453 : IVec S16 32) (v5462 : IVec S16 32) (k1_hw283 : k1_chk283 i v5448 v5450 v5453 v5462), ∀ (k1_h1 : k1_cond1 i = 1#1), ∀ a x, ((![v5448, v5453, v5462] : Fin 3 → IVec S16 32) a x).toNat < S32x8x20.size a := fun i v5448 v5450 v5453 v5462 k1_hw283 k1_h1 => k1_hw283.1 k1_h1
theorem k1_idx310_inb : ∀ (i : grid1.Coords) (v5448 : IVec S16 32) (v5450 : IVec S16 32) (v5453 : IVec S16 32) (v5462 : IVec S16 32) (k1_hw283 : k1_chk283 i v5448 v5450 v5453 v5462), ∀ (k1_h1 : k1_cond1 i = 1#1), ∀ a x, ((![v5450, v5462] : Fin 2 → IVec S16 32) a x).toNat < S128x20.size a := fun i v5448 v5450 v5453 v5462 k1_hw283 k1_h1 => k1_hw283.2 k1_h1

def k1_chk284 (i : grid1.Coords) (v5448 : IVec S16 32) (v5450 : IVec S16 32) (v5453 : IVec S16 32) (v5464 : IVec S16 32) : Prop :=
  (∀ (k1_h1 : k1_cond1 i = 1#1), ∀ a x, ((![v5448, v5453, v5464] : Fin 3 → IVec S16 32) a x).toNat < S32x8x20.size a) ∧
  (∀ (k1_h1 : k1_cond1 i = 1#1), ∀ a x, ((![v5450, v5464] : Fin 2 → IVec S16 32) a x).toNat < S128x20.size a)
theorem k1_idx311_inb : ∀ (i : grid1.Coords) (v5448 : IVec S16 32) (v5450 : IVec S16 32) (v5453 : IVec S16 32) (v5464 : IVec S16 32) (k1_hw284 : k1_chk284 i v5448 v5450 v5453 v5464), ∀ (k1_h1 : k1_cond1 i = 1#1), ∀ a x, ((![v5448, v5453, v5464] : Fin 3 → IVec S16 32) a x).toNat < S32x8x20.size a := fun i v5448 v5450 v5453 v5464 k1_hw284 k1_h1 => k1_hw284.1 k1_h1
theorem k1_idx312_inb : ∀ (i : grid1.Coords) (v5448 : IVec S16 32) (v5450 : IVec S16 32) (v5453 : IVec S16 32) (v5464 : IVec S16 32) (k1_hw284 : k1_chk284 i v5448 v5450 v5453 v5464), ∀ (k1_h1 : k1_cond1 i = 1#1), ∀ a x, ((![v5450, v5464] : Fin 2 → IVec S16 32) a x).toNat < S128x20.size a := fun i v5448 v5450 v5453 v5464 k1_hw284 k1_h1 => k1_hw284.2 k1_h1

def k1_chk285 (i : grid1.Coords) (v5448 : IVec S16 32) (v5450 : IVec S16 32) (v5453 : IVec S16 32) (v5466 : IVec S16 32) : Prop :=
  (∀ (k1_h1 : k1_cond1 i = 1#1), ∀ a x, ((![v5448, v5453, v5466] : Fin 3 → IVec S16 32) a x).toNat < S32x8x20.size a) ∧
  (∀ (k1_h1 : k1_cond1 i = 1#1), ∀ a x, ((![v5450, v5466] : Fin 2 → IVec S16 32) a x).toNat < S128x20.size a)
theorem k1_idx313_inb : ∀ (i : grid1.Coords) (v5448 : IVec S16 32) (v5450 : IVec S16 32) (v5453 : IVec S16 32) (v5466 : IVec S16 32) (k1_hw285 : k1_chk285 i v5448 v5450 v5453 v5466), ∀ (k1_h1 : k1_cond1 i = 1#1), ∀ a x, ((![v5448, v5453, v5466] : Fin 3 → IVec S16 32) a x).toNat < S32x8x20.size a := fun i v5448 v5450 v5453 v5466 k1_hw285 k1_h1 => k1_hw285.1 k1_h1
theorem k1_idx314_inb : ∀ (i : grid1.Coords) (v5448 : IVec S16 32) (v5450 : IVec S16 32) (v5453 : IVec S16 32) (v5466 : IVec S16 32) (k1_hw285 : k1_chk285 i v5448 v5450 v5453 v5466), ∀ (k1_h1 : k1_cond1 i = 1#1), ∀ a x, ((![v5450, v5466] : Fin 2 → IVec S16 32) a x).toNat < S128x20.size a := fun i v5448 v5450 v5453 v5466 k1_hw285 k1_h1 => k1_hw285.2 k1_h1

def k1_chk286 (i : grid1.Coords) (v5448 : IVec S16 32) (v5450 : IVec S16 32) (v5453 : IVec S16 32) (v5468 : IVec S16 32) : Prop :=
  (∀ (k1_h1 : k1_cond1 i = 1#1), ∀ a x, ((![v5448, v5453, v5468] : Fin 3 → IVec S16 32) a x).toNat < S32x8x20.size a) ∧
  (∀ (k1_h1 : k1_cond1 i = 1#1), ∀ a x, ((![v5450, v5468] : Fin 2 → IVec S16 32) a x).toNat < S128x20.size a)
theorem k1_idx315_inb : ∀ (i : grid1.Coords) (v5448 : IVec S16 32) (v5450 : IVec S16 32) (v5453 : IVec S16 32) (v5468 : IVec S16 32) (k1_hw286 : k1_chk286 i v5448 v5450 v5453 v5468), ∀ (k1_h1 : k1_cond1 i = 1#1), ∀ a x, ((![v5448, v5453, v5468] : Fin 3 → IVec S16 32) a x).toNat < S32x8x20.size a := fun i v5448 v5450 v5453 v5468 k1_hw286 k1_h1 => k1_hw286.1 k1_h1
theorem k1_idx316_inb : ∀ (i : grid1.Coords) (v5448 : IVec S16 32) (v5450 : IVec S16 32) (v5453 : IVec S16 32) (v5468 : IVec S16 32) (k1_hw286 : k1_chk286 i v5448 v5450 v5453 v5468), ∀ (k1_h1 : k1_cond1 i = 1#1), ∀ a x, ((![v5450, v5468] : Fin 2 → IVec S16 32) a x).toNat < S128x20.size a := fun i v5448 v5450 v5453 v5468 k1_hw286 k1_h1 => k1_hw286.2 k1_h1

def k1_chk287 (i : grid1.Coords) (v5448 : IVec S16 32) (v5450 : IVec S16 32) (v5453 : IVec S16 32) (v5470 : IVec S16 32) : Prop :=
  (∀ (k1_h1 : k1_cond1 i = 1#1), ∀ a x, ((![v5448, v5453, v5470] : Fin 3 → IVec S16 32) a x).toNat < S32x8x20.size a) ∧
  (∀ (k1_h1 : k1_cond1 i = 1#1), ∀ a x, ((![v5450, v5470] : Fin 2 → IVec S16 32) a x).toNat < S128x20.size a)
theorem k1_idx317_inb : ∀ (i : grid1.Coords) (v5448 : IVec S16 32) (v5450 : IVec S16 32) (v5453 : IVec S16 32) (v5470 : IVec S16 32) (k1_hw287 : k1_chk287 i v5448 v5450 v5453 v5470), ∀ (k1_h1 : k1_cond1 i = 1#1), ∀ a x, ((![v5448, v5453, v5470] : Fin 3 → IVec S16 32) a x).toNat < S32x8x20.size a := fun i v5448 v5450 v5453 v5470 k1_hw287 k1_h1 => k1_hw287.1 k1_h1
theorem k1_idx318_inb : ∀ (i : grid1.Coords) (v5448 : IVec S16 32) (v5450 : IVec S16 32) (v5453 : IVec S16 32) (v5470 : IVec S16 32) (k1_hw287 : k1_chk287 i v5448 v5450 v5453 v5470), ∀ (k1_h1 : k1_cond1 i = 1#1), ∀ a x, ((![v5450, v5470] : Fin 2 → IVec S16 32) a x).toNat < S128x20.size a := fun i v5448 v5450 v5453 v5470 k1_hw287 k1_h1 => k1_hw287.2 k1_h1

def k1_chk288 (i : grid1.Coords) (v5448 : IVec S16 32) (v5450 : IVec S16 32) (v5453 : IVec S16 32) (v5472 : IVec S16 32) : Prop :=
  (∀ (k1_h1 : k1_cond1 i = 1#1), ∀ a x, ((![v5448, v5453, v5472] : Fin 3 → IVec S16 32) a x).toNat < S32x8x20.size a) ∧
  (∀ (k1_h1 : k1_cond1 i = 1#1), ∀ a x, ((![v5450, v5472] : Fin 2 → IVec S16 32) a x).toNat < S128x20.size a)
theorem k1_idx319_inb : ∀ (i : grid1.Coords) (v5448 : IVec S16 32) (v5450 : IVec S16 32) (v5453 : IVec S16 32) (v5472 : IVec S16 32) (k1_hw288 : k1_chk288 i v5448 v5450 v5453 v5472), ∀ (k1_h1 : k1_cond1 i = 1#1), ∀ a x, ((![v5448, v5453, v5472] : Fin 3 → IVec S16 32) a x).toNat < S32x8x20.size a := fun i v5448 v5450 v5453 v5472 k1_hw288 k1_h1 => k1_hw288.1 k1_h1
theorem k1_idx320_inb : ∀ (i : grid1.Coords) (v5448 : IVec S16 32) (v5450 : IVec S16 32) (v5453 : IVec S16 32) (v5472 : IVec S16 32) (k1_hw288 : k1_chk288 i v5448 v5450 v5453 v5472), ∀ (k1_h1 : k1_cond1 i = 1#1), ∀ a x, ((![v5450, v5472] : Fin 2 → IVec S16 32) a x).toNat < S128x20.size a := fun i v5448 v5450 v5453 v5472 k1_hw288 k1_h1 => k1_hw288.2 k1_h1

def k1_chk289 (i : grid1.Coords) (v5448 : IVec S16 32) (v5450 : IVec S16 32) (v5453 : IVec S16 32) (v5474 : IVec S16 32) : Prop :=
  (∀ (k1_h1 : k1_cond1 i = 1#1), ∀ a x, ((![v5448, v5453, v5474] : Fin 3 → IVec S16 32) a x).toNat < S32x8x20.size a) ∧
  (∀ (k1_h1 : k1_cond1 i = 1#1), ∀ a x, ((![v5450, v5474] : Fin 2 → IVec S16 32) a x).toNat < S128x20.size a)
theorem k1_idx321_inb : ∀ (i : grid1.Coords) (v5448 : IVec S16 32) (v5450 : IVec S16 32) (v5453 : IVec S16 32) (v5474 : IVec S16 32) (k1_hw289 : k1_chk289 i v5448 v5450 v5453 v5474), ∀ (k1_h1 : k1_cond1 i = 1#1), ∀ a x, ((![v5448, v5453, v5474] : Fin 3 → IVec S16 32) a x).toNat < S32x8x20.size a := fun i v5448 v5450 v5453 v5474 k1_hw289 k1_h1 => k1_hw289.1 k1_h1
theorem k1_idx322_inb : ∀ (i : grid1.Coords) (v5448 : IVec S16 32) (v5450 : IVec S16 32) (v5453 : IVec S16 32) (v5474 : IVec S16 32) (k1_hw289 : k1_chk289 i v5448 v5450 v5453 v5474), ∀ (k1_h1 : k1_cond1 i = 1#1), ∀ a x, ((![v5450, v5474] : Fin 2 → IVec S16 32) a x).toNat < S128x20.size a := fun i v5448 v5450 v5453 v5474 k1_hw289 k1_h1 => k1_hw289.2 k1_h1

def k1_chk290 (i : grid1.Coords) (v5448 : IVec S16 32) (v5450 : IVec S16 32) (v5453 : IVec S16 32) (v5476 : IVec S16 32) : Prop :=
  (∀ (k1_h1 : k1_cond1 i = 1#1), ∀ a x, ((![v5448, v5453, v5476] : Fin 3 → IVec S16 32) a x).toNat < S32x8x20.size a) ∧
  (∀ (k1_h1 : k1_cond1 i = 1#1), ∀ a x, ((![v5450, v5476] : Fin 2 → IVec S16 32) a x).toNat < S128x20.size a)
theorem k1_idx323_inb : ∀ (i : grid1.Coords) (v5448 : IVec S16 32) (v5450 : IVec S16 32) (v5453 : IVec S16 32) (v5476 : IVec S16 32) (k1_hw290 : k1_chk290 i v5448 v5450 v5453 v5476), ∀ (k1_h1 : k1_cond1 i = 1#1), ∀ a x, ((![v5448, v5453, v5476] : Fin 3 → IVec S16 32) a x).toNat < S32x8x20.size a := fun i v5448 v5450 v5453 v5476 k1_hw290 k1_h1 => k1_hw290.1 k1_h1
theorem k1_idx324_inb : ∀ (i : grid1.Coords) (v5448 : IVec S16 32) (v5450 : IVec S16 32) (v5453 : IVec S16 32) (v5476 : IVec S16 32) (k1_hw290 : k1_chk290 i v5448 v5450 v5453 v5476), ∀ (k1_h1 : k1_cond1 i = 1#1), ∀ a x, ((![v5450, v5476] : Fin 2 → IVec S16 32) a x).toNat < S128x20.size a := fun i v5448 v5450 v5453 v5476 k1_hw290 k1_h1 => k1_hw290.2 k1_h1

def k1_chk291 (i : grid1.Coords) (v5448 : IVec S16 32) (v5450 : IVec S16 32) (v5453 : IVec S16 32) (v5478 : IVec S16 32) : Prop :=
  (∀ (k1_h1 : k1_cond1 i = 1#1), ∀ a x, ((![v5448, v5453, v5478] : Fin 3 → IVec S16 32) a x).toNat < S32x8x20.size a) ∧
  (∀ (k1_h1 : k1_cond1 i = 1#1), ∀ a x, ((![v5450, v5478] : Fin 2 → IVec S16 32) a x).toNat < S128x20.size a)
theorem k1_idx325_inb : ∀ (i : grid1.Coords) (v5448 : IVec S16 32) (v5450 : IVec S16 32) (v5453 : IVec S16 32) (v5478 : IVec S16 32) (k1_hw291 : k1_chk291 i v5448 v5450 v5453 v5478), ∀ (k1_h1 : k1_cond1 i = 1#1), ∀ a x, ((![v5448, v5453, v5478] : Fin 3 → IVec S16 32) a x).toNat < S32x8x20.size a := fun i v5448 v5450 v5453 v5478 k1_hw291 k1_h1 => k1_hw291.1 k1_h1
theorem k1_idx326_inb : ∀ (i : grid1.Coords) (v5448 : IVec S16 32) (v5450 : IVec S16 32) (v5453 : IVec S16 32) (v5478 : IVec S16 32) (k1_hw291 : k1_chk291 i v5448 v5450 v5453 v5478), ∀ (k1_h1 : k1_cond1 i = 1#1), ∀ a x, ((![v5450, v5478] : Fin 2 → IVec S16 32) a x).toNat < S128x20.size a := fun i v5448 v5450 v5453 v5478 k1_hw291 k1_h1 => k1_hw291.2 k1_h1

def k1_chk292 (i : grid1.Coords) (v5448 : IVec S16 32) (v5450 : IVec S16 32) (v5453 : IVec S16 32) (v5480 : IVec S16 32) : Prop :=
  (∀ (k1_h1 : k1_cond1 i = 1#1), ∀ a x, ((![v5448, v5453, v5480] : Fin 3 → IVec S16 32) a x).toNat < S32x8x20.size a) ∧
  (∀ (k1_h1 : k1_cond1 i = 1#1), ∀ a x, ((![v5450, v5480] : Fin 2 → IVec S16 32) a x).toNat < S128x20.size a)
theorem k1_idx327_inb : ∀ (i : grid1.Coords) (v5448 : IVec S16 32) (v5450 : IVec S16 32) (v5453 : IVec S16 32) (v5480 : IVec S16 32) (k1_hw292 : k1_chk292 i v5448 v5450 v5453 v5480), ∀ (k1_h1 : k1_cond1 i = 1#1), ∀ a x, ((![v5448, v5453, v5480] : Fin 3 → IVec S16 32) a x).toNat < S32x8x20.size a := fun i v5448 v5450 v5453 v5480 k1_hw292 k1_h1 => k1_hw292.1 k1_h1
theorem k1_idx328_inb : ∀ (i : grid1.Coords) (v5448 : IVec S16 32) (v5450 : IVec S16 32) (v5453 : IVec S16 32) (v5480 : IVec S16 32) (k1_hw292 : k1_chk292 i v5448 v5450 v5453 v5480), ∀ (k1_h1 : k1_cond1 i = 1#1), ∀ a x, ((![v5450, v5480] : Fin 2 → IVec S16 32) a x).toNat < S128x20.size a := fun i v5448 v5450 v5453 v5480 k1_hw292 k1_h1 => k1_hw292.2 k1_h1

def k1_chk293 (i : grid1.Coords) (v5448 : IVec S16 32) (v5450 : IVec S16 32) (v5453 : IVec S16 32) (v5482 : IVec S16 32) : Prop :=
  (∀ (k1_h1 : k1_cond1 i = 1#1), ∀ a x, ((![v5448, v5453, v5482] : Fin 3 → IVec S16 32) a x).toNat < S32x8x20.size a) ∧
  (∀ (k1_h1 : k1_cond1 i = 1#1), ∀ a x, ((![v5450, v5482] : Fin 2 → IVec S16 32) a x).toNat < S128x20.size a)
theorem k1_idx329_inb : ∀ (i : grid1.Coords) (v5448 : IVec S16 32) (v5450 : IVec S16 32) (v5453 : IVec S16 32) (v5482 : IVec S16 32) (k1_hw293 : k1_chk293 i v5448 v5450 v5453 v5482), ∀ (k1_h1 : k1_cond1 i = 1#1), ∀ a x, ((![v5448, v5453, v5482] : Fin 3 → IVec S16 32) a x).toNat < S32x8x20.size a := fun i v5448 v5450 v5453 v5482 k1_hw293 k1_h1 => k1_hw293.1 k1_h1
theorem k1_idx330_inb : ∀ (i : grid1.Coords) (v5448 : IVec S16 32) (v5450 : IVec S16 32) (v5453 : IVec S16 32) (v5482 : IVec S16 32) (k1_hw293 : k1_chk293 i v5448 v5450 v5453 v5482), ∀ (k1_h1 : k1_cond1 i = 1#1), ∀ a x, ((![v5450, v5482] : Fin 2 → IVec S16 32) a x).toNat < S128x20.size a := fun i v5448 v5450 v5453 v5482 k1_hw293 k1_h1 => k1_hw293.2 k1_h1

def k1_chk294 (i : grid1.Coords) (v5448 : IVec S16 32) (v5450 : IVec S16 32) (v5453 : IVec S16 32) (v5484 : IVec S16 32) : Prop :=
  (∀ (k1_h1 : k1_cond1 i = 1#1), ∀ a x, ((![v5448, v5453, v5484] : Fin 3 → IVec S16 32) a x).toNat < S32x8x20.size a) ∧
  (∀ (k1_h1 : k1_cond1 i = 1#1), ∀ a x, ((![v5450, v5484] : Fin 2 → IVec S16 32) a x).toNat < S128x20.size a)
theorem k1_idx331_inb : ∀ (i : grid1.Coords) (v5448 : IVec S16 32) (v5450 : IVec S16 32) (v5453 : IVec S16 32) (v5484 : IVec S16 32) (k1_hw294 : k1_chk294 i v5448 v5450 v5453 v5484), ∀ (k1_h1 : k1_cond1 i = 1#1), ∀ a x, ((![v5448, v5453, v5484] : Fin 3 → IVec S16 32) a x).toNat < S32x8x20.size a := fun i v5448 v5450 v5453 v5484 k1_hw294 k1_h1 => k1_hw294.1 k1_h1
theorem k1_idx332_inb : ∀ (i : grid1.Coords) (v5448 : IVec S16 32) (v5450 : IVec S16 32) (v5453 : IVec S16 32) (v5484 : IVec S16 32) (k1_hw294 : k1_chk294 i v5448 v5450 v5453 v5484), ∀ (k1_h1 : k1_cond1 i = 1#1), ∀ a x, ((![v5450, v5484] : Fin 2 → IVec S16 32) a x).toNat < S128x20.size a := fun i v5448 v5450 v5453 v5484 k1_hw294 k1_h1 => k1_hw294.2 k1_h1

def k1_chk295 (i : grid1.Coords) (v5448 : IVec S16 32) (v5450 : IVec S16 32) (v5453 : IVec S16 32) (v5486 : IVec S16 32) : Prop :=
  (∀ (k1_h1 : k1_cond1 i = 1#1), ∀ a x, ((![v5448, v5453, v5486] : Fin 3 → IVec S16 32) a x).toNat < S32x8x20.size a) ∧
  (∀ (k1_h1 : k1_cond1 i = 1#1), ∀ a x, ((![v5450, v5486] : Fin 2 → IVec S16 32) a x).toNat < S128x20.size a)
theorem k1_idx333_inb : ∀ (i : grid1.Coords) (v5448 : IVec S16 32) (v5450 : IVec S16 32) (v5453 : IVec S16 32) (v5486 : IVec S16 32) (k1_hw295 : k1_chk295 i v5448 v5450 v5453 v5486), ∀ (k1_h1 : k1_cond1 i = 1#1), ∀ a x, ((![v5448, v5453, v5486] : Fin 3 → IVec S16 32) a x).toNat < S32x8x20.size a := fun i v5448 v5450 v5453 v5486 k1_hw295 k1_h1 => k1_hw295.1 k1_h1
theorem k1_idx334_inb : ∀ (i : grid1.Coords) (v5448 : IVec S16 32) (v5450 : IVec S16 32) (v5453 : IVec S16 32) (v5486 : IVec S16 32) (k1_hw295 : k1_chk295 i v5448 v5450 v5453 v5486), ∀ (k1_h1 : k1_cond1 i = 1#1), ∀ a x, ((![v5450, v5486] : Fin 2 → IVec S16 32) a x).toNat < S128x20.size a := fun i v5448 v5450 v5453 v5486 k1_hw295 k1_h1 => k1_hw295.2 k1_h1

def k1_chk296 (i : grid1.Coords) (v5448 : IVec S16 32) (v5450 : IVec S16 32) (v5453 : IVec S16 32) (v5488 : IVec S16 32) : Prop :=
  (∀ (k1_h1 : k1_cond1 i = 1#1), ∀ a x, ((![v5448, v5453, v5488] : Fin 3 → IVec S16 32) a x).toNat < S32x8x20.size a) ∧
  (∀ (k1_h1 : k1_cond1 i = 1#1), ∀ a x, ((![v5450, v5488] : Fin 2 → IVec S16 32) a x).toNat < S128x20.size a)
theorem k1_idx335_inb : ∀ (i : grid1.Coords) (v5448 : IVec S16 32) (v5450 : IVec S16 32) (v5453 : IVec S16 32) (v5488 : IVec S16 32) (k1_hw296 : k1_chk296 i v5448 v5450 v5453 v5488), ∀ (k1_h1 : k1_cond1 i = 1#1), ∀ a x, ((![v5448, v5453, v5488] : Fin 3 → IVec S16 32) a x).toNat < S32x8x20.size a := fun i v5448 v5450 v5453 v5488 k1_hw296 k1_h1 => k1_hw296.1 k1_h1
theorem k1_idx336_inb : ∀ (i : grid1.Coords) (v5448 : IVec S16 32) (v5450 : IVec S16 32) (v5453 : IVec S16 32) (v5488 : IVec S16 32) (k1_hw296 : k1_chk296 i v5448 v5450 v5453 v5488), ∀ (k1_h1 : k1_cond1 i = 1#1), ∀ a x, ((![v5450, v5488] : Fin 2 → IVec S16 32) a x).toNat < S128x20.size a := fun i v5448 v5450 v5453 v5488 k1_hw296 k1_h1 => k1_hw296.2 k1_h1

def k1_chk297 (i : grid1.Coords) (v5448 : IVec S16 32) (v5450 : IVec S16 32) (v5453 : IVec S16 32) (v5490 : IVec S16 32) : Prop :=
  (∀ (k1_h1 : k1_cond1 i = 1#1), ∀ a x, ((![v5448, v5453, v5490] : Fin 3 → IVec S16 32) a x).toNat < S32x8x20.size a) ∧
  (∀ (k1_h1 : k1_cond1 i = 1#1), ∀ a x, ((![v5450, v5490] : Fin 2 → IVec S16 32) a x).toNat < S128x20.size a)
theorem k1_idx337_inb : ∀ (i : grid1.Coords) (v5448 : IVec S16 32) (v5450 : IVec S16 32) (v5453 : IVec S16 32) (v5490 : IVec S16 32) (k1_hw297 : k1_chk297 i v5448 v5450 v5453 v5490), ∀ (k1_h1 : k1_cond1 i = 1#1), ∀ a x, ((![v5448, v5453, v5490] : Fin 3 → IVec S16 32) a x).toNat < S32x8x20.size a := fun i v5448 v5450 v5453 v5490 k1_hw297 k1_h1 => k1_hw297.1 k1_h1
theorem k1_idx338_inb : ∀ (i : grid1.Coords) (v5448 : IVec S16 32) (v5450 : IVec S16 32) (v5453 : IVec S16 32) (v5490 : IVec S16 32) (k1_hw297 : k1_chk297 i v5448 v5450 v5453 v5490), ∀ (k1_h1 : k1_cond1 i = 1#1), ∀ a x, ((![v5450, v5490] : Fin 2 → IVec S16 32) a x).toNat < S128x20.size a := fun i v5448 v5450 v5453 v5490 k1_hw297 k1_h1 => k1_hw297.2 k1_h1

def k1_chk298 (i : grid1.Coords) (v5448 : IVec S16 32) (v5450 : IVec S16 32) (v5453 : IVec S16 32) (v5492 : IVec S16 32) : Prop :=
  (∀ (k1_h1 : k1_cond1 i = 1#1), ∀ a x, ((![v5448, v5453, v5492] : Fin 3 → IVec S16 32) a x).toNat < S32x8x20.size a) ∧
  (∀ (k1_h1 : k1_cond1 i = 1#1), ∀ a x, ((![v5450, v5492] : Fin 2 → IVec S16 32) a x).toNat < S128x20.size a)
theorem k1_idx339_inb : ∀ (i : grid1.Coords) (v5448 : IVec S16 32) (v5450 : IVec S16 32) (v5453 : IVec S16 32) (v5492 : IVec S16 32) (k1_hw298 : k1_chk298 i v5448 v5450 v5453 v5492), ∀ (k1_h1 : k1_cond1 i = 1#1), ∀ a x, ((![v5448, v5453, v5492] : Fin 3 → IVec S16 32) a x).toNat < S32x8x20.size a := fun i v5448 v5450 v5453 v5492 k1_hw298 k1_h1 => k1_hw298.1 k1_h1
theorem k1_idx340_inb : ∀ (i : grid1.Coords) (v5448 : IVec S16 32) (v5450 : IVec S16 32) (v5453 : IVec S16 32) (v5492 : IVec S16 32) (k1_hw298 : k1_chk298 i v5448 v5450 v5453 v5492), ∀ (k1_h1 : k1_cond1 i = 1#1), ∀ a x, ((![v5450, v5492] : Fin 2 → IVec S16 32) a x).toNat < S128x20.size a := fun i v5448 v5450 v5453 v5492 k1_hw298 k1_h1 => k1_hw298.2 k1_h1

def k1_chk299 (i : grid1.Coords) (v5448 : IVec S16 32) (v5450 : IVec S16 32) (v5453 : IVec S16 32) (v5494 : IVec S16 32) : Prop :=
  (∀ (k1_h1 : k1_cond1 i = 1#1), ∀ a x, ((![v5448, v5453, v5494] : Fin 3 → IVec S16 32) a x).toNat < S32x8x5.size a) ∧
  (∀ (k1_h1 : k1_cond1 i = 1#1), ∀ a x, ((![v5450, v5494] : Fin 2 → IVec S16 32) a x).toNat < S128x5.size a)
theorem k1_idx341_inb : ∀ (i : grid1.Coords) (v5448 : IVec S16 32) (v5450 : IVec S16 32) (v5453 : IVec S16 32) (v5494 : IVec S16 32) (k1_hw299 : k1_chk299 i v5448 v5450 v5453 v5494), ∀ (k1_h1 : k1_cond1 i = 1#1), ∀ a x, ((![v5448, v5453, v5494] : Fin 3 → IVec S16 32) a x).toNat < S32x8x5.size a := fun i v5448 v5450 v5453 v5494 k1_hw299 k1_h1 => k1_hw299.1 k1_h1
theorem k1_idx342_inb : ∀ (i : grid1.Coords) (v5448 : IVec S16 32) (v5450 : IVec S16 32) (v5453 : IVec S16 32) (v5494 : IVec S16 32) (k1_hw299 : k1_chk299 i v5448 v5450 v5453 v5494), ∀ (k1_h1 : k1_cond1 i = 1#1), ∀ a x, ((![v5450, v5494] : Fin 2 → IVec S16 32) a x).toNat < S128x5.size a := fun i v5448 v5450 v5453 v5494 k1_hw299 k1_h1 => k1_hw299.2 k1_h1

def k1_chk300 (i : grid1.Coords) (v5448 : IVec S16 32) (v5450 : IVec S16 32) (v5453 : IVec S16 32) (v5496 : IVec S16 32) : Prop :=
  (∀ (k1_h1 : k1_cond1 i = 1#1), ∀ a x, ((![v5448, v5453, v5496] : Fin 3 → IVec S16 32) a x).toNat < S32x8x5.size a) ∧
  (∀ (k1_h1 : k1_cond1 i = 1#1), ∀ a x, ((![v5450, v5496] : Fin 2 → IVec S16 32) a x).toNat < S128x5.size a)
theorem k1_idx343_inb : ∀ (i : grid1.Coords) (v5448 : IVec S16 32) (v5450 : IVec S16 32) (v5453 : IVec S16 32) (v5496 : IVec S16 32) (k1_hw300 : k1_chk300 i v5448 v5450 v5453 v5496), ∀ (k1_h1 : k1_cond1 i = 1#1), ∀ a x, ((![v5448, v5453, v5496] : Fin 3 → IVec S16 32) a x).toNat < S32x8x5.size a := fun i v5448 v5450 v5453 v5496 k1_hw300 k1_h1 => k1_hw300.1 k1_h1
theorem k1_idx344_inb : ∀ (i : grid1.Coords) (v5448 : IVec S16 32) (v5450 : IVec S16 32) (v5453 : IVec S16 32) (v5496 : IVec S16 32) (k1_hw300 : k1_chk300 i v5448 v5450 v5453 v5496), ∀ (k1_h1 : k1_cond1 i = 1#1), ∀ a x, ((![v5450, v5496] : Fin 2 → IVec S16 32) a x).toNat < S128x5.size a := fun i v5448 v5450 v5453 v5496 k1_hw300 k1_h1 => k1_hw300.2 k1_h1

def k1_chk301 (i : grid1.Coords) (v5448 : IVec S16 32) (v5450 : IVec S16 32) (v5453 : IVec S16 32) (v5498 : IVec S16 32) : Prop :=
  (∀ (k1_h1 : k1_cond1 i = 1#1), ∀ a x, ((![v5448, v5453, v5498] : Fin 3 → IVec S16 32) a x).toNat < S32x8x5.size a) ∧
  (∀ (k1_h1 : k1_cond1 i = 1#1), ∀ a x, ((![v5450, v5498] : Fin 2 → IVec S16 32) a x).toNat < S128x5.size a)
theorem k1_idx345_inb : ∀ (i : grid1.Coords) (v5448 : IVec S16 32) (v5450 : IVec S16 32) (v5453 : IVec S16 32) (v5498 : IVec S16 32) (k1_hw301 : k1_chk301 i v5448 v5450 v5453 v5498), ∀ (k1_h1 : k1_cond1 i = 1#1), ∀ a x, ((![v5448, v5453, v5498] : Fin 3 → IVec S16 32) a x).toNat < S32x8x5.size a := fun i v5448 v5450 v5453 v5498 k1_hw301 k1_h1 => k1_hw301.1 k1_h1
theorem k1_idx346_inb : ∀ (i : grid1.Coords) (v5448 : IVec S16 32) (v5450 : IVec S16 32) (v5453 : IVec S16 32) (v5498 : IVec S16 32) (k1_hw301 : k1_chk301 i v5448 v5450 v5453 v5498), ∀ (k1_h1 : k1_cond1 i = 1#1), ∀ a x, ((![v5450, v5498] : Fin 2 → IVec S16 32) a x).toNat < S128x5.size a := fun i v5448 v5450 v5453 v5498 k1_hw301 k1_h1 => k1_hw301.2 k1_h1

def k1_chk302 (i : grid1.Coords) (v5448 : IVec S16 32) (v5450 : IVec S16 32) (v5453 : IVec S16 32) (v5500 : IVec S16 32) : Prop :=
  (∀ (k1_h1 : k1_cond1 i = 1#1), ∀ a x, ((![v5448, v5453, v5500] : Fin 3 → IVec S16 32) a x).toNat < S32x8x5.size a) ∧
  (∀ (k1_h1 : k1_cond1 i = 1#1), ∀ a x, ((![v5450, v5500] : Fin 2 → IVec S16 32) a x).toNat < S128x5.size a)
theorem k1_idx347_inb : ∀ (i : grid1.Coords) (v5448 : IVec S16 32) (v5450 : IVec S16 32) (v5453 : IVec S16 32) (v5500 : IVec S16 32) (k1_hw302 : k1_chk302 i v5448 v5450 v5453 v5500), ∀ (k1_h1 : k1_cond1 i = 1#1), ∀ a x, ((![v5448, v5453, v5500] : Fin 3 → IVec S16 32) a x).toNat < S32x8x5.size a := fun i v5448 v5450 v5453 v5500 k1_hw302 k1_h1 => k1_hw302.1 k1_h1
theorem k1_idx348_inb : ∀ (i : grid1.Coords) (v5448 : IVec S16 32) (v5450 : IVec S16 32) (v5453 : IVec S16 32) (v5500 : IVec S16 32) (k1_hw302 : k1_chk302 i v5448 v5450 v5453 v5500), ∀ (k1_h1 : k1_cond1 i = 1#1), ∀ a x, ((![v5450, v5500] : Fin 2 → IVec S16 32) a x).toNat < S128x5.size a := fun i v5448 v5450 v5453 v5500 k1_hw302 k1_h1 => k1_hw302.2 k1_h1

def k1_chk303 (i : grid1.Coords) (v5448 : IVec S16 32) (v5450 : IVec S16 32) (v5453 : IVec S16 32) (v5502 : IVec S16 32) : Prop :=
  (∀ (k1_h1 : k1_cond1 i = 1#1), ∀ a x, ((![v5448, v5453, v5502] : Fin 3 → IVec S16 32) a x).toNat < S32x8x5.size a) ∧
  (∀ (k1_h1 : k1_cond1 i = 1#1), ∀ a x, ((![v5450, v5502] : Fin 2 → IVec S16 32) a x).toNat < S128x5.size a)
theorem k1_idx349_inb : ∀ (i : grid1.Coords) (v5448 : IVec S16 32) (v5450 : IVec S16 32) (v5453 : IVec S16 32) (v5502 : IVec S16 32) (k1_hw303 : k1_chk303 i v5448 v5450 v5453 v5502), ∀ (k1_h1 : k1_cond1 i = 1#1), ∀ a x, ((![v5448, v5453, v5502] : Fin 3 → IVec S16 32) a x).toNat < S32x8x5.size a := fun i v5448 v5450 v5453 v5502 k1_hw303 k1_h1 => k1_hw303.1 k1_h1
theorem k1_idx350_inb : ∀ (i : grid1.Coords) (v5448 : IVec S16 32) (v5450 : IVec S16 32) (v5453 : IVec S16 32) (v5502 : IVec S16 32) (k1_hw303 : k1_chk303 i v5448 v5450 v5453 v5502), ∀ (k1_h1 : k1_cond1 i = 1#1), ∀ a x, ((![v5450, v5502] : Fin 2 → IVec S16 32) a x).toNat < S128x5.size a := fun i v5448 v5450 v5453 v5502 k1_hw303 k1_h1 => k1_hw303.2 k1_h1

def k1_chk304 (i : grid1.Coords) (v5505 : IVec S16 32) (v5507 : IVec S16 32) (v5510 : IVec S16 32) (v5511 : IVec S16 32) : Prop :=
  (∀ (k1_h1 : k1_cond1 i = 1#1), ∀ a x, ((![v5505, v5510, v5511] : Fin 3 → IVec S16 32) a x).toNat < S32x8x20.size a) ∧
  (∀ (k1_h1 : k1_cond1 i = 1#1), ∀ a x, ((![v5507, v5511] : Fin 2 → IVec S16 32) a x).toNat < S128x20.size a)
theorem k1_idx351_inb : ∀ (i : grid1.Coords) (v5505 : IVec S16 32) (v5507 : IVec S16 32) (v5510 : IVec S16 32) (v5511 : IVec S16 32) (k1_hw304 : k1_chk304 i v5505 v5507 v5510 v5511), ∀ (k1_h1 : k1_cond1 i = 1#1), ∀ a x, ((![v5505, v5510, v5511] : Fin 3 → IVec S16 32) a x).toNat < S32x8x20.size a := fun i v5505 v5507 v5510 v5511 k1_hw304 k1_h1 => k1_hw304.1 k1_h1
theorem k1_idx352_inb : ∀ (i : grid1.Coords) (v5505 : IVec S16 32) (v5507 : IVec S16 32) (v5510 : IVec S16 32) (v5511 : IVec S16 32) (k1_hw304 : k1_chk304 i v5505 v5507 v5510 v5511), ∀ (k1_h1 : k1_cond1 i = 1#1), ∀ a x, ((![v5507, v5511] : Fin 2 → IVec S16 32) a x).toNat < S128x20.size a := fun i v5505 v5507 v5510 v5511 k1_hw304 k1_h1 => k1_hw304.2 k1_h1

def k1_chk305 (i : grid1.Coords) (v5505 : IVec S16 32) (v5507 : IVec S16 32) (v5510 : IVec S16 32) (v5513 : IVec S16 32) : Prop :=
  (∀ (k1_h1 : k1_cond1 i = 1#1), ∀ a x, ((![v5505, v5510, v5513] : Fin 3 → IVec S16 32) a x).toNat < S32x8x20.size a) ∧
  (∀ (k1_h1 : k1_cond1 i = 1#1), ∀ a x, ((![v5507, v5513] : Fin 2 → IVec S16 32) a x).toNat < S128x20.size a)
theorem k1_idx353_inb : ∀ (i : grid1.Coords) (v5505 : IVec S16 32) (v5507 : IVec S16 32) (v5510 : IVec S16 32) (v5513 : IVec S16 32) (k1_hw305 : k1_chk305 i v5505 v5507 v5510 v5513), ∀ (k1_h1 : k1_cond1 i = 1#1), ∀ a x, ((![v5505, v5510, v5513] : Fin 3 → IVec S16 32) a x).toNat < S32x8x20.size a := fun i v5505 v5507 v5510 v5513 k1_hw305 k1_h1 => k1_hw305.1 k1_h1
theorem k1_idx354_inb : ∀ (i : grid1.Coords) (v5505 : IVec S16 32) (v5507 : IVec S16 32) (v5510 : IVec S16 32) (v5513 : IVec S16 32) (k1_hw305 : k1_chk305 i v5505 v5507 v5510 v5513), ∀ (k1_h1 : k1_cond1 i = 1#1), ∀ a x, ((![v5507, v5513] : Fin 2 → IVec S16 32) a x).toNat < S128x20.size a := fun i v5505 v5507 v5510 v5513 k1_hw305 k1_h1 => k1_hw305.2 k1_h1

def k1_chk306 (i : grid1.Coords) (v5505 : IVec S16 32) (v5507 : IVec S16 32) (v5510 : IVec S16 32) (v5515 : IVec S16 32) : Prop :=
  (∀ (k1_h1 : k1_cond1 i = 1#1), ∀ a x, ((![v5505, v5510, v5515] : Fin 3 → IVec S16 32) a x).toNat < S32x8x20.size a) ∧
  (∀ (k1_h1 : k1_cond1 i = 1#1), ∀ a x, ((![v5507, v5515] : Fin 2 → IVec S16 32) a x).toNat < S128x20.size a)
theorem k1_idx355_inb : ∀ (i : grid1.Coords) (v5505 : IVec S16 32) (v5507 : IVec S16 32) (v5510 : IVec S16 32) (v5515 : IVec S16 32) (k1_hw306 : k1_chk306 i v5505 v5507 v5510 v5515), ∀ (k1_h1 : k1_cond1 i = 1#1), ∀ a x, ((![v5505, v5510, v5515] : Fin 3 → IVec S16 32) a x).toNat < S32x8x20.size a := fun i v5505 v5507 v5510 v5515 k1_hw306 k1_h1 => k1_hw306.1 k1_h1
theorem k1_idx356_inb : ∀ (i : grid1.Coords) (v5505 : IVec S16 32) (v5507 : IVec S16 32) (v5510 : IVec S16 32) (v5515 : IVec S16 32) (k1_hw306 : k1_chk306 i v5505 v5507 v5510 v5515), ∀ (k1_h1 : k1_cond1 i = 1#1), ∀ a x, ((![v5507, v5515] : Fin 2 → IVec S16 32) a x).toNat < S128x20.size a := fun i v5505 v5507 v5510 v5515 k1_hw306 k1_h1 => k1_hw306.2 k1_h1

def k1_chk307 (i : grid1.Coords) (v5505 : IVec S16 32) (v5507 : IVec S16 32) (v5510 : IVec S16 32) (v5517 : IVec S16 32) : Prop :=
  (∀ (k1_h1 : k1_cond1 i = 1#1), ∀ a x, ((![v5505, v5510, v5517] : Fin 3 → IVec S16 32) a x).toNat < S32x8x20.size a) ∧
  (∀ (k1_h1 : k1_cond1 i = 1#1), ∀ a x, ((![v5507, v5517] : Fin 2 → IVec S16 32) a x).toNat < S128x20.size a)
theorem k1_idx357_inb : ∀ (i : grid1.Coords) (v5505 : IVec S16 32) (v5507 : IVec S16 32) (v5510 : IVec S16 32) (v5517 : IVec S16 32) (k1_hw307 : k1_chk307 i v5505 v5507 v5510 v5517), ∀ (k1_h1 : k1_cond1 i = 1#1), ∀ a x, ((![v5505, v5510, v5517] : Fin 3 → IVec S16 32) a x).toNat < S32x8x20.size a := fun i v5505 v5507 v5510 v5517 k1_hw307 k1_h1 => k1_hw307.1 k1_h1
theorem k1_idx358_inb : ∀ (i : grid1.Coords) (v5505 : IVec S16 32) (v5507 : IVec S16 32) (v5510 : IVec S16 32) (v5517 : IVec S16 32) (k1_hw307 : k1_chk307 i v5505 v5507 v5510 v5517), ∀ (k1_h1 : k1_cond1 i = 1#1), ∀ a x, ((![v5507, v5517] : Fin 2 → IVec S16 32) a x).toNat < S128x20.size a := fun i v5505 v5507 v5510 v5517 k1_hw307 k1_h1 => k1_hw307.2 k1_h1

def k1_chk308 (i : grid1.Coords) (v5505 : IVec S16 32) (v5507 : IVec S16 32) (v5510 : IVec S16 32) (v5519 : IVec S16 32) : Prop :=
  (∀ (k1_h1 : k1_cond1 i = 1#1), ∀ a x, ((![v5505, v5510, v5519] : Fin 3 → IVec S16 32) a x).toNat < S32x8x20.size a) ∧
  (∀ (k1_h1 : k1_cond1 i = 1#1), ∀ a x, ((![v5507, v5519] : Fin 2 → IVec S16 32) a x).toNat < S128x20.size a)
theorem k1_idx359_inb : ∀ (i : grid1.Coords) (v5505 : IVec S16 32) (v5507 : IVec S16 32) (v5510 : IVec S16 32) (v5519 : IVec S16 32) (k1_hw308 : k1_chk308 i v5505 v5507 v5510 v5519), ∀ (k1_h1 : k1_cond1 i = 1#1), ∀ a x, ((![v5505, v5510, v5519] : Fin 3 → IVec S16 32) a x).toNat < S32x8x20.size a := fun i v5505 v5507 v5510 v5519 k1_hw308 k1_h1 => k1_hw308.1 k1_h1
theorem k1_idx360_inb : ∀ (i : grid1.Coords) (v5505 : IVec S16 32) (v5507 : IVec S16 32) (v5510 : IVec S16 32) (v5519 : IVec S16 32) (k1_hw308 : k1_chk308 i v5505 v5507 v5510 v5519), ∀ (k1_h1 : k1_cond1 i = 1#1), ∀ a x, ((![v5507, v5519] : Fin 2 → IVec S16 32) a x).toNat < S128x20.size a := fun i v5505 v5507 v5510 v5519 k1_hw308 k1_h1 => k1_hw308.2 k1_h1

def k1_chk309 (i : grid1.Coords) (v5505 : IVec S16 32) (v5507 : IVec S16 32) (v5510 : IVec S16 32) (v5521 : IVec S16 32) : Prop :=
  (∀ (k1_h1 : k1_cond1 i = 1#1), ∀ a x, ((![v5505, v5510, v5521] : Fin 3 → IVec S16 32) a x).toNat < S32x8x20.size a) ∧
  (∀ (k1_h1 : k1_cond1 i = 1#1), ∀ a x, ((![v5507, v5521] : Fin 2 → IVec S16 32) a x).toNat < S128x20.size a)
theorem k1_idx361_inb : ∀ (i : grid1.Coords) (v5505 : IVec S16 32) (v5507 : IVec S16 32) (v5510 : IVec S16 32) (v5521 : IVec S16 32) (k1_hw309 : k1_chk309 i v5505 v5507 v5510 v5521), ∀ (k1_h1 : k1_cond1 i = 1#1), ∀ a x, ((![v5505, v5510, v5521] : Fin 3 → IVec S16 32) a x).toNat < S32x8x20.size a := fun i v5505 v5507 v5510 v5521 k1_hw309 k1_h1 => k1_hw309.1 k1_h1
theorem k1_idx362_inb : ∀ (i : grid1.Coords) (v5505 : IVec S16 32) (v5507 : IVec S16 32) (v5510 : IVec S16 32) (v5521 : IVec S16 32) (k1_hw309 : k1_chk309 i v5505 v5507 v5510 v5521), ∀ (k1_h1 : k1_cond1 i = 1#1), ∀ a x, ((![v5507, v5521] : Fin 2 → IVec S16 32) a x).toNat < S128x20.size a := fun i v5505 v5507 v5510 v5521 k1_hw309 k1_h1 => k1_hw309.2 k1_h1

def k1_chk310 (i : grid1.Coords) (v5505 : IVec S16 32) (v5507 : IVec S16 32) (v5510 : IVec S16 32) (v5523 : IVec S16 32) : Prop :=
  (∀ (k1_h1 : k1_cond1 i = 1#1), ∀ a x, ((![v5505, v5510, v5523] : Fin 3 → IVec S16 32) a x).toNat < S32x8x20.size a) ∧
  (∀ (k1_h1 : k1_cond1 i = 1#1), ∀ a x, ((![v5507, v5523] : Fin 2 → IVec S16 32) a x).toNat < S128x20.size a)
theorem k1_idx363_inb : ∀ (i : grid1.Coords) (v5505 : IVec S16 32) (v5507 : IVec S16 32) (v5510 : IVec S16 32) (v5523 : IVec S16 32) (k1_hw310 : k1_chk310 i v5505 v5507 v5510 v5523), ∀ (k1_h1 : k1_cond1 i = 1#1), ∀ a x, ((![v5505, v5510, v5523] : Fin 3 → IVec S16 32) a x).toNat < S32x8x20.size a := fun i v5505 v5507 v5510 v5523 k1_hw310 k1_h1 => k1_hw310.1 k1_h1
theorem k1_idx364_inb : ∀ (i : grid1.Coords) (v5505 : IVec S16 32) (v5507 : IVec S16 32) (v5510 : IVec S16 32) (v5523 : IVec S16 32) (k1_hw310 : k1_chk310 i v5505 v5507 v5510 v5523), ∀ (k1_h1 : k1_cond1 i = 1#1), ∀ a x, ((![v5507, v5523] : Fin 2 → IVec S16 32) a x).toNat < S128x20.size a := fun i v5505 v5507 v5510 v5523 k1_hw310 k1_h1 => k1_hw310.2 k1_h1

def k1_chk311 (i : grid1.Coords) (v5505 : IVec S16 32) (v5507 : IVec S16 32) (v5510 : IVec S16 32) (v5525 : IVec S16 32) : Prop :=
  (∀ (k1_h1 : k1_cond1 i = 1#1), ∀ a x, ((![v5505, v5510, v5525] : Fin 3 → IVec S16 32) a x).toNat < S32x8x20.size a) ∧
  (∀ (k1_h1 : k1_cond1 i = 1#1), ∀ a x, ((![v5507, v5525] : Fin 2 → IVec S16 32) a x).toNat < S128x20.size a)
theorem k1_idx365_inb : ∀ (i : grid1.Coords) (v5505 : IVec S16 32) (v5507 : IVec S16 32) (v5510 : IVec S16 32) (v5525 : IVec S16 32) (k1_hw311 : k1_chk311 i v5505 v5507 v5510 v5525), ∀ (k1_h1 : k1_cond1 i = 1#1), ∀ a x, ((![v5505, v5510, v5525] : Fin 3 → IVec S16 32) a x).toNat < S32x8x20.size a := fun i v5505 v5507 v5510 v5525 k1_hw311 k1_h1 => k1_hw311.1 k1_h1
theorem k1_idx366_inb : ∀ (i : grid1.Coords) (v5505 : IVec S16 32) (v5507 : IVec S16 32) (v5510 : IVec S16 32) (v5525 : IVec S16 32) (k1_hw311 : k1_chk311 i v5505 v5507 v5510 v5525), ∀ (k1_h1 : k1_cond1 i = 1#1), ∀ a x, ((![v5507, v5525] : Fin 2 → IVec S16 32) a x).toNat < S128x20.size a := fun i v5505 v5507 v5510 v5525 k1_hw311 k1_h1 => k1_hw311.2 k1_h1

def k1_chk312 (i : grid1.Coords) (v5505 : IVec S16 32) (v5507 : IVec S16 32) (v5510 : IVec S16 32) (v5527 : IVec S16 32) : Prop :=
  (∀ (k1_h1 : k1_cond1 i = 1#1), ∀ a x, ((![v5505, v5510, v5527] : Fin 3 → IVec S16 32) a x).toNat < S32x8x20.size a) ∧
  (∀ (k1_h1 : k1_cond1 i = 1#1), ∀ a x, ((![v5507, v5527] : Fin 2 → IVec S16 32) a x).toNat < S128x20.size a)
theorem k1_idx367_inb : ∀ (i : grid1.Coords) (v5505 : IVec S16 32) (v5507 : IVec S16 32) (v5510 : IVec S16 32) (v5527 : IVec S16 32) (k1_hw312 : k1_chk312 i v5505 v5507 v5510 v5527), ∀ (k1_h1 : k1_cond1 i = 1#1), ∀ a x, ((![v5505, v5510, v5527] : Fin 3 → IVec S16 32) a x).toNat < S32x8x20.size a := fun i v5505 v5507 v5510 v5527 k1_hw312 k1_h1 => k1_hw312.1 k1_h1
theorem k1_idx368_inb : ∀ (i : grid1.Coords) (v5505 : IVec S16 32) (v5507 : IVec S16 32) (v5510 : IVec S16 32) (v5527 : IVec S16 32) (k1_hw312 : k1_chk312 i v5505 v5507 v5510 v5527), ∀ (k1_h1 : k1_cond1 i = 1#1), ∀ a x, ((![v5507, v5527] : Fin 2 → IVec S16 32) a x).toNat < S128x20.size a := fun i v5505 v5507 v5510 v5527 k1_hw312 k1_h1 => k1_hw312.2 k1_h1

def k1_chk313 (i : grid1.Coords) (v5505 : IVec S16 32) (v5507 : IVec S16 32) (v5510 : IVec S16 32) (v5529 : IVec S16 32) : Prop :=
  (∀ (k1_h1 : k1_cond1 i = 1#1), ∀ a x, ((![v5505, v5510, v5529] : Fin 3 → IVec S16 32) a x).toNat < S32x8x20.size a) ∧
  (∀ (k1_h1 : k1_cond1 i = 1#1), ∀ a x, ((![v5507, v5529] : Fin 2 → IVec S16 32) a x).toNat < S128x20.size a)
theorem k1_idx369_inb : ∀ (i : grid1.Coords) (v5505 : IVec S16 32) (v5507 : IVec S16 32) (v5510 : IVec S16 32) (v5529 : IVec S16 32) (k1_hw313 : k1_chk313 i v5505 v5507 v5510 v5529), ∀ (k1_h1 : k1_cond1 i = 1#1), ∀ a x, ((![v5505, v5510, v5529] : Fin 3 → IVec S16 32) a x).toNat < S32x8x20.size a := fun i v5505 v5507 v5510 v5529 k1_hw313 k1_h1 => k1_hw313.1 k1_h1
theorem k1_idx370_inb : ∀ (i : grid1.Coords) (v5505 : IVec S16 32) (v5507 : IVec S16 32) (v5510 : IVec S16 32) (v5529 : IVec S16 32) (k1_hw313 : k1_chk313 i v5505 v5507 v5510 v5529), ∀ (k1_h1 : k1_cond1 i = 1#1), ∀ a x, ((![v5507, v5529] : Fin 2 → IVec S16 32) a x).toNat < S128x20.size a := fun i v5505 v5507 v5510 v5529 k1_hw313 k1_h1 => k1_hw313.2 k1_h1

def k1_chk314 (i : grid1.Coords) (v5505 : IVec S16 32) (v5507 : IVec S16 32) (v5510 : IVec S16 32) (v5531 : IVec S16 32) : Prop :=
  (∀ (k1_h1 : k1_cond1 i = 1#1), ∀ a x, ((![v5505, v5510, v5531] : Fin 3 → IVec S16 32) a x).toNat < S32x8x20.size a) ∧
  (∀ (k1_h1 : k1_cond1 i = 1#1), ∀ a x, ((![v5507, v5531] : Fin 2 → IVec S16 32) a x).toNat < S128x20.size a)
theorem k1_idx371_inb : ∀ (i : grid1.Coords) (v5505 : IVec S16 32) (v5507 : IVec S16 32) (v5510 : IVec S16 32) (v5531 : IVec S16 32) (k1_hw314 : k1_chk314 i v5505 v5507 v5510 v5531), ∀ (k1_h1 : k1_cond1 i = 1#1), ∀ a x, ((![v5505, v5510, v5531] : Fin 3 → IVec S16 32) a x).toNat < S32x8x20.size a := fun i v5505 v5507 v5510 v5531 k1_hw314 k1_h1 => k1_hw314.1 k1_h1
theorem k1_idx372_inb : ∀ (i : grid1.Coords) (v5505 : IVec S16 32) (v5507 : IVec S16 32) (v5510 : IVec S16 32) (v5531 : IVec S16 32) (k1_hw314 : k1_chk314 i v5505 v5507 v5510 v5531), ∀ (k1_h1 : k1_cond1 i = 1#1), ∀ a x, ((![v5507, v5531] : Fin 2 → IVec S16 32) a x).toNat < S128x20.size a := fun i v5505 v5507 v5510 v5531 k1_hw314 k1_h1 => k1_hw314.2 k1_h1

def k1_chk315 (i : grid1.Coords) (v5505 : IVec S16 32) (v5507 : IVec S16 32) (v5510 : IVec S16 32) (v5533 : IVec S16 32) : Prop :=
  (∀ (k1_h1 : k1_cond1 i = 1#1), ∀ a x, ((![v5505, v5510, v5533] : Fin 3 → IVec S16 32) a x).toNat < S32x8x20.size a) ∧
  (∀ (k1_h1 : k1_cond1 i = 1#1), ∀ a x, ((![v5507, v5533] : Fin 2 → IVec S16 32) a x).toNat < S128x20.size a)
theorem k1_idx373_inb : ∀ (i : grid1.Coords) (v5505 : IVec S16 32) (v5507 : IVec S16 32) (v5510 : IVec S16 32) (v5533 : IVec S16 32) (k1_hw315 : k1_chk315 i v5505 v5507 v5510 v5533), ∀ (k1_h1 : k1_cond1 i = 1#1), ∀ a x, ((![v5505, v5510, v5533] : Fin 3 → IVec S16 32) a x).toNat < S32x8x20.size a := fun i v5505 v5507 v5510 v5533 k1_hw315 k1_h1 => k1_hw315.1 k1_h1
theorem k1_idx374_inb : ∀ (i : grid1.Coords) (v5505 : IVec S16 32) (v5507 : IVec S16 32) (v5510 : IVec S16 32) (v5533 : IVec S16 32) (k1_hw315 : k1_chk315 i v5505 v5507 v5510 v5533), ∀ (k1_h1 : k1_cond1 i = 1#1), ∀ a x, ((![v5507, v5533] : Fin 2 → IVec S16 32) a x).toNat < S128x20.size a := fun i v5505 v5507 v5510 v5533 k1_hw315 k1_h1 => k1_hw315.2 k1_h1

def k1_chk316 (i : grid1.Coords) (v5505 : IVec S16 32) (v5507 : IVec S16 32) (v5510 : IVec S16 32) (v5535 : IVec S16 32) : Prop :=
  (∀ (k1_h1 : k1_cond1 i = 1#1), ∀ a x, ((![v5505, v5510, v5535] : Fin 3 → IVec S16 32) a x).toNat < S32x8x20.size a) ∧
  (∀ (k1_h1 : k1_cond1 i = 1#1), ∀ a x, ((![v5507, v5535] : Fin 2 → IVec S16 32) a x).toNat < S128x20.size a)
theorem k1_idx375_inb : ∀ (i : grid1.Coords) (v5505 : IVec S16 32) (v5507 : IVec S16 32) (v5510 : IVec S16 32) (v5535 : IVec S16 32) (k1_hw316 : k1_chk316 i v5505 v5507 v5510 v5535), ∀ (k1_h1 : k1_cond1 i = 1#1), ∀ a x, ((![v5505, v5510, v5535] : Fin 3 → IVec S16 32) a x).toNat < S32x8x20.size a := fun i v5505 v5507 v5510 v5535 k1_hw316 k1_h1 => k1_hw316.1 k1_h1
theorem k1_idx376_inb : ∀ (i : grid1.Coords) (v5505 : IVec S16 32) (v5507 : IVec S16 32) (v5510 : IVec S16 32) (v5535 : IVec S16 32) (k1_hw316 : k1_chk316 i v5505 v5507 v5510 v5535), ∀ (k1_h1 : k1_cond1 i = 1#1), ∀ a x, ((![v5507, v5535] : Fin 2 → IVec S16 32) a x).toNat < S128x20.size a := fun i v5505 v5507 v5510 v5535 k1_hw316 k1_h1 => k1_hw316.2 k1_h1

def k1_chk317 (i : grid1.Coords) (v5505 : IVec S16 32) (v5507 : IVec S16 32) (v5510 : IVec S16 32) (v5537 : IVec S16 32) : Prop :=
  (∀ (k1_h1 : k1_cond1 i = 1#1), ∀ a x, ((![v5505, v5510, v5537] : Fin 3 → IVec S16 32) a x).toNat < S32x8x20.size a) ∧
  (∀ (k1_h1 : k1_cond1 i = 1#1), ∀ a x, ((![v5507, v5537] : Fin 2 → IVec S16 32) a x).toNat < S128x20.size a)
theorem k1_idx377_inb : ∀ (i : grid1.Coords) (v5505 : IVec S16 32) (v5507 : IVec S16 32) (v5510 : IVec S16 32) (v5537 : IVec S16 32) (k1_hw317 : k1_chk317 i v5505 v5507 v5510 v5537), ∀ (k1_h1 : k1_cond1 i = 1#1), ∀ a x, ((![v5505, v5510, v5537] : Fin 3 → IVec S16 32) a x).toNat < S32x8x20.size a := fun i v5505 v5507 v5510 v5537 k1_hw317 k1_h1 => k1_hw317.1 k1_h1
theorem k1_idx378_inb : ∀ (i : grid1.Coords) (v5505 : IVec S16 32) (v5507 : IVec S16 32) (v5510 : IVec S16 32) (v5537 : IVec S16 32) (k1_hw317 : k1_chk317 i v5505 v5507 v5510 v5537), ∀ (k1_h1 : k1_cond1 i = 1#1), ∀ a x, ((![v5507, v5537] : Fin 2 → IVec S16 32) a x).toNat < S128x20.size a := fun i v5505 v5507 v5510 v5537 k1_hw317 k1_h1 => k1_hw317.2 k1_h1

def k1_chk318 (i : grid1.Coords) (v5505 : IVec S16 32) (v5507 : IVec S16 32) (v5510 : IVec S16 32) (v5539 : IVec S16 32) : Prop :=
  (∀ (k1_h1 : k1_cond1 i = 1#1), ∀ a x, ((![v5505, v5510, v5539] : Fin 3 → IVec S16 32) a x).toNat < S32x8x20.size a) ∧
  (∀ (k1_h1 : k1_cond1 i = 1#1), ∀ a x, ((![v5507, v5539] : Fin 2 → IVec S16 32) a x).toNat < S128x20.size a)
theorem k1_idx379_inb : ∀ (i : grid1.Coords) (v5505 : IVec S16 32) (v5507 : IVec S16 32) (v5510 : IVec S16 32) (v5539 : IVec S16 32) (k1_hw318 : k1_chk318 i v5505 v5507 v5510 v5539), ∀ (k1_h1 : k1_cond1 i = 1#1), ∀ a x, ((![v5505, v5510, v5539] : Fin 3 → IVec S16 32) a x).toNat < S32x8x20.size a := fun i v5505 v5507 v5510 v5539 k1_hw318 k1_h1 => k1_hw318.1 k1_h1
theorem k1_idx380_inb : ∀ (i : grid1.Coords) (v5505 : IVec S16 32) (v5507 : IVec S16 32) (v5510 : IVec S16 32) (v5539 : IVec S16 32) (k1_hw318 : k1_chk318 i v5505 v5507 v5510 v5539), ∀ (k1_h1 : k1_cond1 i = 1#1), ∀ a x, ((![v5507, v5539] : Fin 2 → IVec S16 32) a x).toNat < S128x20.size a := fun i v5505 v5507 v5510 v5539 k1_hw318 k1_h1 => k1_hw318.2 k1_h1

def k1_chk319 (i : grid1.Coords) (v5505 : IVec S16 32) (v5507 : IVec S16 32) (v5510 : IVec S16 32) (v5541 : IVec S16 32) : Prop :=
  (∀ (k1_h1 : k1_cond1 i = 1#1), ∀ a x, ((![v5505, v5510, v5541] : Fin 3 → IVec S16 32) a x).toNat < S32x8x20.size a) ∧
  (∀ (k1_h1 : k1_cond1 i = 1#1), ∀ a x, ((![v5507, v5541] : Fin 2 → IVec S16 32) a x).toNat < S128x20.size a)
theorem k1_idx381_inb : ∀ (i : grid1.Coords) (v5505 : IVec S16 32) (v5507 : IVec S16 32) (v5510 : IVec S16 32) (v5541 : IVec S16 32) (k1_hw319 : k1_chk319 i v5505 v5507 v5510 v5541), ∀ (k1_h1 : k1_cond1 i = 1#1), ∀ a x, ((![v5505, v5510, v5541] : Fin 3 → IVec S16 32) a x).toNat < S32x8x20.size a := fun i v5505 v5507 v5510 v5541 k1_hw319 k1_h1 => k1_hw319.1 k1_h1
theorem k1_idx382_inb : ∀ (i : grid1.Coords) (v5505 : IVec S16 32) (v5507 : IVec S16 32) (v5510 : IVec S16 32) (v5541 : IVec S16 32) (k1_hw319 : k1_chk319 i v5505 v5507 v5510 v5541), ∀ (k1_h1 : k1_cond1 i = 1#1), ∀ a x, ((![v5507, v5541] : Fin 2 → IVec S16 32) a x).toNat < S128x20.size a := fun i v5505 v5507 v5510 v5541 k1_hw319 k1_h1 => k1_hw319.2 k1_h1

def k1_chk320 (i : grid1.Coords) (v5505 : IVec S16 32) (v5507 : IVec S16 32) (v5510 : IVec S16 32) (v5543 : IVec S16 32) : Prop :=
  (∀ (k1_h1 : k1_cond1 i = 1#1), ∀ a x, ((![v5505, v5510, v5543] : Fin 3 → IVec S16 32) a x).toNat < S32x8x20.size a) ∧
  (∀ (k1_h1 : k1_cond1 i = 1#1), ∀ a x, ((![v5507, v5543] : Fin 2 → IVec S16 32) a x).toNat < S128x20.size a)
theorem k1_idx383_inb : ∀ (i : grid1.Coords) (v5505 : IVec S16 32) (v5507 : IVec S16 32) (v5510 : IVec S16 32) (v5543 : IVec S16 32) (k1_hw320 : k1_chk320 i v5505 v5507 v5510 v5543), ∀ (k1_h1 : k1_cond1 i = 1#1), ∀ a x, ((![v5505, v5510, v5543] : Fin 3 → IVec S16 32) a x).toNat < S32x8x20.size a := fun i v5505 v5507 v5510 v5543 k1_hw320 k1_h1 => k1_hw320.1 k1_h1
theorem k1_idx384_inb : ∀ (i : grid1.Coords) (v5505 : IVec S16 32) (v5507 : IVec S16 32) (v5510 : IVec S16 32) (v5543 : IVec S16 32) (k1_hw320 : k1_chk320 i v5505 v5507 v5510 v5543), ∀ (k1_h1 : k1_cond1 i = 1#1), ∀ a x, ((![v5507, v5543] : Fin 2 → IVec S16 32) a x).toNat < S128x20.size a := fun i v5505 v5507 v5510 v5543 k1_hw320 k1_h1 => k1_hw320.2 k1_h1

def k1_chk321 (i : grid1.Coords) (v5505 : IVec S16 32) (v5507 : IVec S16 32) (v5510 : IVec S16 32) (v5545 : IVec S16 32) : Prop :=
  (∀ (k1_h1 : k1_cond1 i = 1#1), ∀ a x, ((![v5505, v5510, v5545] : Fin 3 → IVec S16 32) a x).toNat < S32x8x20.size a) ∧
  (∀ (k1_h1 : k1_cond1 i = 1#1), ∀ a x, ((![v5507, v5545] : Fin 2 → IVec S16 32) a x).toNat < S128x20.size a)
theorem k1_idx385_inb : ∀ (i : grid1.Coords) (v5505 : IVec S16 32) (v5507 : IVec S16 32) (v5510 : IVec S16 32) (v5545 : IVec S16 32) (k1_hw321 : k1_chk321 i v5505 v5507 v5510 v5545), ∀ (k1_h1 : k1_cond1 i = 1#1), ∀ a x, ((![v5505, v5510, v5545] : Fin 3 → IVec S16 32) a x).toNat < S32x8x20.size a := fun i v5505 v5507 v5510 v5545 k1_hw321 k1_h1 => k1_hw321.1 k1_h1
theorem k1_idx386_inb : ∀ (i : grid1.Coords) (v5505 : IVec S16 32) (v5507 : IVec S16 32) (v5510 : IVec S16 32) (v5545 : IVec S16 32) (k1_hw321 : k1_chk321 i v5505 v5507 v5510 v5545), ∀ (k1_h1 : k1_cond1 i = 1#1), ∀ a x, ((![v5507, v5545] : Fin 2 → IVec S16 32) a x).toNat < S128x20.size a := fun i v5505 v5507 v5510 v5545 k1_hw321 k1_h1 => k1_hw321.2 k1_h1

def k1_chk322 (i : grid1.Coords) (v5505 : IVec S16 32) (v5507 : IVec S16 32) (v5510 : IVec S16 32) (v5547 : IVec S16 32) : Prop :=
  (∀ (k1_h1 : k1_cond1 i = 1#1), ∀ a x, ((![v5505, v5510, v5547] : Fin 3 → IVec S16 32) a x).toNat < S32x8x20.size a) ∧
  (∀ (k1_h1 : k1_cond1 i = 1#1), ∀ a x, ((![v5507, v5547] : Fin 2 → IVec S16 32) a x).toNat < S128x20.size a)
theorem k1_idx387_inb : ∀ (i : grid1.Coords) (v5505 : IVec S16 32) (v5507 : IVec S16 32) (v5510 : IVec S16 32) (v5547 : IVec S16 32) (k1_hw322 : k1_chk322 i v5505 v5507 v5510 v5547), ∀ (k1_h1 : k1_cond1 i = 1#1), ∀ a x, ((![v5505, v5510, v5547] : Fin 3 → IVec S16 32) a x).toNat < S32x8x20.size a := fun i v5505 v5507 v5510 v5547 k1_hw322 k1_h1 => k1_hw322.1 k1_h1
theorem k1_idx388_inb : ∀ (i : grid1.Coords) (v5505 : IVec S16 32) (v5507 : IVec S16 32) (v5510 : IVec S16 32) (v5547 : IVec S16 32) (k1_hw322 : k1_chk322 i v5505 v5507 v5510 v5547), ∀ (k1_h1 : k1_cond1 i = 1#1), ∀ a x, ((![v5507, v5547] : Fin 2 → IVec S16 32) a x).toNat < S128x20.size a := fun i v5505 v5507 v5510 v5547 k1_hw322 k1_h1 => k1_hw322.2 k1_h1

def k1_chk323 (i : grid1.Coords) (v5505 : IVec S16 32) (v5507 : IVec S16 32) (v5510 : IVec S16 32) (v5549 : IVec S16 32) : Prop :=
  (∀ (k1_h1 : k1_cond1 i = 1#1), ∀ a x, ((![v5505, v5510, v5549] : Fin 3 → IVec S16 32) a x).toNat < S32x8x20.size a) ∧
  (∀ (k1_h1 : k1_cond1 i = 1#1), ∀ a x, ((![v5507, v5549] : Fin 2 → IVec S16 32) a x).toNat < S128x20.size a)
theorem k1_idx389_inb : ∀ (i : grid1.Coords) (v5505 : IVec S16 32) (v5507 : IVec S16 32) (v5510 : IVec S16 32) (v5549 : IVec S16 32) (k1_hw323 : k1_chk323 i v5505 v5507 v5510 v5549), ∀ (k1_h1 : k1_cond1 i = 1#1), ∀ a x, ((![v5505, v5510, v5549] : Fin 3 → IVec S16 32) a x).toNat < S32x8x20.size a := fun i v5505 v5507 v5510 v5549 k1_hw323 k1_h1 => k1_hw323.1 k1_h1
theorem k1_idx390_inb : ∀ (i : grid1.Coords) (v5505 : IVec S16 32) (v5507 : IVec S16 32) (v5510 : IVec S16 32) (v5549 : IVec S16 32) (k1_hw323 : k1_chk323 i v5505 v5507 v5510 v5549), ∀ (k1_h1 : k1_cond1 i = 1#1), ∀ a x, ((![v5507, v5549] : Fin 2 → IVec S16 32) a x).toNat < S128x20.size a := fun i v5505 v5507 v5510 v5549 k1_hw323 k1_h1 => k1_hw323.2 k1_h1

def k1_chk324 (i : grid1.Coords) (v5505 : IVec S16 32) (v5507 : IVec S16 32) (v5510 : IVec S16 32) (v5551 : IVec S16 32) : Prop :=
  (∀ (k1_h1 : k1_cond1 i = 1#1), ∀ a x, ((![v5505, v5510, v5551] : Fin 3 → IVec S16 32) a x).toNat < S32x8x5.size a) ∧
  (∀ (k1_h1 : k1_cond1 i = 1#1), ∀ a x, ((![v5507, v5551] : Fin 2 → IVec S16 32) a x).toNat < S128x5.size a)
theorem k1_idx391_inb : ∀ (i : grid1.Coords) (v5505 : IVec S16 32) (v5507 : IVec S16 32) (v5510 : IVec S16 32) (v5551 : IVec S16 32) (k1_hw324 : k1_chk324 i v5505 v5507 v5510 v5551), ∀ (k1_h1 : k1_cond1 i = 1#1), ∀ a x, ((![v5505, v5510, v5551] : Fin 3 → IVec S16 32) a x).toNat < S32x8x5.size a := fun i v5505 v5507 v5510 v5551 k1_hw324 k1_h1 => k1_hw324.1 k1_h1
theorem k1_idx392_inb : ∀ (i : grid1.Coords) (v5505 : IVec S16 32) (v5507 : IVec S16 32) (v5510 : IVec S16 32) (v5551 : IVec S16 32) (k1_hw324 : k1_chk324 i v5505 v5507 v5510 v5551), ∀ (k1_h1 : k1_cond1 i = 1#1), ∀ a x, ((![v5507, v5551] : Fin 2 → IVec S16 32) a x).toNat < S128x5.size a := fun i v5505 v5507 v5510 v5551 k1_hw324 k1_h1 => k1_hw324.2 k1_h1

def k1_chk325 (i : grid1.Coords) (v5505 : IVec S16 32) (v5507 : IVec S16 32) (v5510 : IVec S16 32) (v5553 : IVec S16 32) : Prop :=
  (∀ (k1_h1 : k1_cond1 i = 1#1), ∀ a x, ((![v5505, v5510, v5553] : Fin 3 → IVec S16 32) a x).toNat < S32x8x5.size a) ∧
  (∀ (k1_h1 : k1_cond1 i = 1#1), ∀ a x, ((![v5507, v5553] : Fin 2 → IVec S16 32) a x).toNat < S128x5.size a)
theorem k1_idx393_inb : ∀ (i : grid1.Coords) (v5505 : IVec S16 32) (v5507 : IVec S16 32) (v5510 : IVec S16 32) (v5553 : IVec S16 32) (k1_hw325 : k1_chk325 i v5505 v5507 v5510 v5553), ∀ (k1_h1 : k1_cond1 i = 1#1), ∀ a x, ((![v5505, v5510, v5553] : Fin 3 → IVec S16 32) a x).toNat < S32x8x5.size a := fun i v5505 v5507 v5510 v5553 k1_hw325 k1_h1 => k1_hw325.1 k1_h1
theorem k1_idx394_inb : ∀ (i : grid1.Coords) (v5505 : IVec S16 32) (v5507 : IVec S16 32) (v5510 : IVec S16 32) (v5553 : IVec S16 32) (k1_hw325 : k1_chk325 i v5505 v5507 v5510 v5553), ∀ (k1_h1 : k1_cond1 i = 1#1), ∀ a x, ((![v5507, v5553] : Fin 2 → IVec S16 32) a x).toNat < S128x5.size a := fun i v5505 v5507 v5510 v5553 k1_hw325 k1_h1 => k1_hw325.2 k1_h1

def k1_chk326 (i : grid1.Coords) (v5505 : IVec S16 32) (v5507 : IVec S16 32) (v5510 : IVec S16 32) (v5555 : IVec S16 32) : Prop :=
  (∀ (k1_h1 : k1_cond1 i = 1#1), ∀ a x, ((![v5505, v5510, v5555] : Fin 3 → IVec S16 32) a x).toNat < S32x8x5.size a) ∧
  (∀ (k1_h1 : k1_cond1 i = 1#1), ∀ a x, ((![v5507, v5555] : Fin 2 → IVec S16 32) a x).toNat < S128x5.size a)
theorem k1_idx395_inb : ∀ (i : grid1.Coords) (v5505 : IVec S16 32) (v5507 : IVec S16 32) (v5510 : IVec S16 32) (v5555 : IVec S16 32) (k1_hw326 : k1_chk326 i v5505 v5507 v5510 v5555), ∀ (k1_h1 : k1_cond1 i = 1#1), ∀ a x, ((![v5505, v5510, v5555] : Fin 3 → IVec S16 32) a x).toNat < S32x8x5.size a := fun i v5505 v5507 v5510 v5555 k1_hw326 k1_h1 => k1_hw326.1 k1_h1
theorem k1_idx396_inb : ∀ (i : grid1.Coords) (v5505 : IVec S16 32) (v5507 : IVec S16 32) (v5510 : IVec S16 32) (v5555 : IVec S16 32) (k1_hw326 : k1_chk326 i v5505 v5507 v5510 v5555), ∀ (k1_h1 : k1_cond1 i = 1#1), ∀ a x, ((![v5507, v5555] : Fin 2 → IVec S16 32) a x).toNat < S128x5.size a := fun i v5505 v5507 v5510 v5555 k1_hw326 k1_h1 => k1_hw326.2 k1_h1

def k1_chk327 (i : grid1.Coords) (v5505 : IVec S16 32) (v5507 : IVec S16 32) (v5510 : IVec S16 32) (v5557 : IVec S16 32) : Prop :=
  (∀ (k1_h1 : k1_cond1 i = 1#1), ∀ a x, ((![v5505, v5510, v5557] : Fin 3 → IVec S16 32) a x).toNat < S32x8x5.size a) ∧
  (∀ (k1_h1 : k1_cond1 i = 1#1), ∀ a x, ((![v5507, v5557] : Fin 2 → IVec S16 32) a x).toNat < S128x5.size a)
theorem k1_idx397_inb : ∀ (i : grid1.Coords) (v5505 : IVec S16 32) (v5507 : IVec S16 32) (v5510 : IVec S16 32) (v5557 : IVec S16 32) (k1_hw327 : k1_chk327 i v5505 v5507 v5510 v5557), ∀ (k1_h1 : k1_cond1 i = 1#1), ∀ a x, ((![v5505, v5510, v5557] : Fin 3 → IVec S16 32) a x).toNat < S32x8x5.size a := fun i v5505 v5507 v5510 v5557 k1_hw327 k1_h1 => k1_hw327.1 k1_h1
theorem k1_idx398_inb : ∀ (i : grid1.Coords) (v5505 : IVec S16 32) (v5507 : IVec S16 32) (v5510 : IVec S16 32) (v5557 : IVec S16 32) (k1_hw327 : k1_chk327 i v5505 v5507 v5510 v5557), ∀ (k1_h1 : k1_cond1 i = 1#1), ∀ a x, ((![v5507, v5557] : Fin 2 → IVec S16 32) a x).toNat < S128x5.size a := fun i v5505 v5507 v5510 v5557 k1_hw327 k1_h1 => k1_hw327.2 k1_h1

def k1_chk328 (i : grid1.Coords) (v5505 : IVec S16 32) (v5507 : IVec S16 32) (v5510 : IVec S16 32) (v5559 : IVec S16 32) : Prop :=
  (∀ (k1_h1 : k1_cond1 i = 1#1), ∀ a x, ((![v5505, v5510, v5559] : Fin 3 → IVec S16 32) a x).toNat < S32x8x5.size a) ∧
  (∀ (k1_h1 : k1_cond1 i = 1#1), ∀ a x, ((![v5507, v5559] : Fin 2 → IVec S16 32) a x).toNat < S128x5.size a)
theorem k1_idx399_inb : ∀ (i : grid1.Coords) (v5505 : IVec S16 32) (v5507 : IVec S16 32) (v5510 : IVec S16 32) (v5559 : IVec S16 32) (k1_hw328 : k1_chk328 i v5505 v5507 v5510 v5559), ∀ (k1_h1 : k1_cond1 i = 1#1), ∀ a x, ((![v5505, v5510, v5559] : Fin 3 → IVec S16 32) a x).toNat < S32x8x5.size a := fun i v5505 v5507 v5510 v5559 k1_hw328 k1_h1 => k1_hw328.1 k1_h1
theorem k1_idx400_inb : ∀ (i : grid1.Coords) (v5505 : IVec S16 32) (v5507 : IVec S16 32) (v5510 : IVec S16 32) (v5559 : IVec S16 32) (k1_hw328 : k1_chk328 i v5505 v5507 v5510 v5559), ∀ (k1_h1 : k1_cond1 i = 1#1), ∀ a x, ((![v5507, v5559] : Fin 2 → IVec S16 32) a x).toNat < S128x5.size a := fun i v5505 v5507 v5510 v5559 k1_hw328 k1_h1 => k1_hw328.2 k1_h1
def k1_off506 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3958_r1 : BitVec 32 := 0#32
  let c0_i32_3959_r1 : BitVec 32 := 0#32
  ![v1.toNat, 0, 0]
def k1_off507 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3956_r2 : BitVec 32 := 0#32
  let c0_i32_3957_r2 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x9x4 : Shape := ⟨3, ![3, 9, 4]⟩
abbrev S8x100x6 : Shape := ⟨3, ![8, 100, 6]⟩
abbrev S3x8x9x80x80x5 : Shape := ⟨6, ![3, 8, 9, 80, 80, 5]⟩
abbrev S3x8x9x80x80x20 : Shape := ⟨6, ![3, 8, 9, 80, 80, 20]⟩
abbrev S1x3x9x4 : Shape := ⟨4, ![1, 3, 9, 4]⟩
abbrev S8x3x9x4 : Shape := ⟨4, ![8, 3, 9, 4]⟩
abbrev S8 : Shape := ⟨1, ![8]⟩
abbrev S8x1 : Shape := ⟨2, ![8, 1]⟩
abbrev S8x100x1 : Shape := ⟨3, ![8, 100, 1]⟩
abbrev S8x100 : Shape := ⟨2, ![8, 100]⟩
abbrev S_ : Shape := ⟨0, ![]⟩
abbrev S8x100x4 : Shape := ⟨3, ![8, 100, 4]⟩
abbrev S8x100x2 : Shape := ⟨3, ![8, 100, 2]⟩
abbrev S8x1x9x4 : Shape := ⟨4, ![8, 1, 9, 4]⟩
abbrev S8x9x4 : Shape := ⟨3, ![8, 9, 4]⟩
abbrev S8x9x2 : Shape := ⟨3, ![8, 9, 2]⟩
abbrev S8x9x1x2 : Shape := ⟨4, ![8, 9, 1, 2]⟩
abbrev S8x1x100x2 : Shape := ⟨4, ![8, 1, 100, 2]⟩
abbrev S8x9x100x2 : Shape := ⟨4, ![8, 9, 100, 2]⟩
abbrev S8x9x100x1 : Shape := ⟨4, ![8, 9, 100, 1]⟩
abbrev S8x9x100 : Shape := ⟨3, ![8, 9, 100]⟩
abbrev S8x9x1 : Shape := ⟨3, ![8, 9, 1]⟩
abbrev S8x9 : Shape := ⟨2, ![8, 9]⟩
abbrev S8x1x100 : Shape := ⟨3, ![8, 1, 100]⟩
abbrev S9 : Shape := ⟨1, ![9]⟩
abbrev S1x9x1 : Shape := ⟨3, ![1, 9, 1]⟩
abbrev S1x8x9x80x80x20 : Shape := ⟨6, ![1, 8, 9, 80, 80, 20]⟩
abbrev S8x9x80x80x20 : Shape := ⟨5, ![8, 9, 80, 80, 20]⟩
abbrev S8x100x20 : Shape := ⟨3, ![8, 100, 20]⟩
abbrev S1x8x9x80x80x5 : Shape := ⟨6, ![1, 8, 9, 80, 80, 5]⟩
abbrev S8x9x80x80x5 : Shape := ⟨5, ![8, 9, 80, 80, 5]⟩
abbrev S8x100x5 : Shape := ⟨3, ![8, 100, 5]⟩
abbrev S1x1x20 : Shape := ⟨3, ![1, 1, 20]⟩
abbrev S1x8x100x20 : Shape := ⟨4, ![1, 8, 100, 20]⟩
abbrev S3x8x100x20 : Shape := ⟨4, ![3, 8, 100, 20]⟩
abbrev S1x8x100x5 : Shape := ⟨4, ![1, 8, 100, 5]⟩
abbrev S3x8x100x5 : Shape := ⟨4, ![3, 8, 100, 5]⟩
abbrev S1x8x100x4 : Shape := ⟨4, ![1, 8, 100, 4]⟩
abbrev S3x8x100x4 : Shape := ⟨4, ![3, 8, 100, 4]⟩

abbrev nBuf : Space → Nat
  | .hbm => 897
  | .vmem => 0
  | .smem => 0
  | _ => 0

abbrev hbmTy0_0 (i : Nat) : BufTy := match i % 128 with
  | 0 => ⟨S3x9x4, .f32⟩
  | 1 => ⟨S8x100x6, .f32⟩
  | 2 => ⟨S3x8x9x80x80x5, .f32⟩
  | 3 => ⟨S3x8x9x80x80x20, .f32⟩
  | 4 => ⟨S1x3x9x4, .f32⟩
  | 5 => ⟨S8x3x9x4, .f32⟩
  | 6 => ⟨S8, .i32⟩
  | 7 => ⟨S8x1, .i32⟩
  | 8 => ⟨S8x100x1, .f32⟩
  | 9 => ⟨S8x100, .f32⟩
  | 10 => ⟨S8x100x1, .f32⟩
  | 11 => ⟨S8x100, .f32⟩
  | 12 => ⟨S8x100, .f32⟩
  | 13 => ⟨S8x100x1, .f32⟩
  | 14 => ⟨S8x100, .f32⟩
  | 15 => ⟨S8x100x1, .f32⟩
  | 16 => ⟨S8x100, .f32⟩
  | 17 => ⟨S8x100, .f32⟩
  | 18 => ⟨S8x100, .f32⟩
  | 19 => ⟨S_, .f32⟩
  | 20 => ⟨S8x100, .f32⟩
  | 21 => ⟨S8x100, .f32⟩
  | 22 => ⟨S8x100, .f32⟩
  | 23 => ⟨S_, .f32⟩
  | 24 => ⟨S8x100, .f32⟩
  | 25 => ⟨S8x100, .f32⟩
  | 26 => ⟨S_, .f32⟩
  | 27 => ⟨S8x100, .f32⟩
  | 28 => ⟨S8x100, .f32⟩
  | 29 => ⟨S_, .f32⟩
  | 30 => ⟨S8x100, .f32⟩
  | 31 => ⟨S8x100, .f32⟩
  | 32 => ⟨S8x100x1, .f32⟩
  | 33 => ⟨S8x100x1, .f32⟩
  | 34 => ⟨S8x100x1, .f32⟩
  | 35 => ⟨S8x100x1, .f32⟩
  | 36 => ⟨S8x100x4, .f32⟩
  | 37 => ⟨S_, .f32⟩
  | 38 => ⟨S8x100x4, .f32⟩
  | 39 => ⟨S8x100x4, .f32⟩
  | 40 => ⟨S8x100x1, .f32⟩
  | 41 => ⟨S8x100, .f32⟩
  | 42 => ⟨S8x100x1, .f32⟩
  | 43 => ⟨S8x100, .f32⟩
  | 44 => ⟨S8x100, .f32⟩
  | 45 => ⟨S8x100x1, .f32⟩
  | 46 => ⟨S8x100, .f32⟩
  | 47 => ⟨S8x100x1, .f32⟩
  | 48 => ⟨S8x100, .f32⟩
  | 49 => ⟨S8x100, .f32⟩
  | 50 => ⟨S_, .f32⟩
  | 51 => ⟨S8x100, .f32⟩
  | 52 => ⟨S8x100, .f32⟩
  | 53 => ⟨S_, .f32⟩
  | 54 => ⟨S8x100, .f32⟩
  | 55 => ⟨S8x100, .f32⟩
  | 56 => ⟨S8x100x1, .f32⟩
  | 57 => ⟨S8x100x1, .f32⟩
  | 58 => ⟨S8x100x2, .f32⟩
  | 59 => ⟨S_, .f32⟩
  | 60 => ⟨S8x100x2, .f32⟩
  | 61 => ⟨S8x100x2, .f32⟩
  | 62 => ⟨S8x100x2, .i32⟩
  | 63 => ⟨S8x1x9x4, .f32⟩
  | 64 => ⟨S8x9x4, .f32⟩
  | 65 => ⟨S8x9x2, .f32⟩
  | 66 => ⟨S8x9x1x2, .f32⟩
  | 67 => ⟨S8x100x2, .f32⟩
  | 68 => ⟨S8x1x100x2, .f32⟩
  | 69 => ⟨S8x9x100x2, .f32⟩
  | 70 => ⟨S8x9x100x2, .f32⟩
  | 71 => ⟨S8x9x100x2, .f32⟩
  | 72 => ⟨S8x9x2, .f32⟩
  | 73 => ⟨S8x9x1x2, .f32⟩
  | 74 => ⟨S8x100x2, .f32⟩
  | 75 => ⟨S8x1x100x2, .f32⟩
  | 76 => ⟨S8x9x100x2, .f32⟩
  | 77 => ⟨S8x9x100x2, .f32⟩
  | 78 => ⟨S8x9x100x2, .f32⟩
  | 79 => ⟨S8x9x100x2, .f32⟩
  | 80 => ⟨S_, .f32⟩
  | 81 => ⟨S8x9x100x2, .f32⟩
  | 82 => ⟨S8x9x100x2, .f32⟩
  | 83 => ⟨S8x9x100x1, .f32⟩
  | 84 => ⟨S8x9x100, .f32⟩
  | 85 => ⟨S8x9x100x1, .f32⟩
  | 86 => ⟨S8x9x100, .f32⟩
  | 87 => ⟨S8x9x100, .f32⟩
  | 88 => ⟨S8x9x1, .f32⟩
  | 89 => ⟨S8x9, .f32⟩
  | 90 => ⟨S8x9x1, .f32⟩
  | 91 => ⟨S8x9, .f32⟩
  | 92 => ⟨S8x9, .f32⟩
  | 93 => ⟨S8x9x1, .f32⟩
  | 94 => ⟨S8x9, .f32⟩
  | 95 => ⟨S8x9x1, .f32⟩
  | 96 => ⟨S8x9, .f32⟩
  | 97 => ⟨S8x9, .f32⟩
  | 98 => ⟨S8x9, .f32⟩
  | 99 => ⟨S8x100x1, .f32⟩
  | 100 => ⟨S8x100, .f32⟩
  | 101 => ⟨S8x100x1, .f32⟩
  | 102 => ⟨S8x100, .f32⟩
  | 103 => ⟨S8x100, .f32⟩
  | 104 => ⟨S8x100x1, .f32⟩
  | 105 => ⟨S8x100, .f32⟩
  | 106 => ⟨S8x100x1, .f32⟩
  | 107 => ⟨S8x100, .f32⟩
  | 108 => ⟨S8x100, .f32⟩
  | 109 => ⟨S8x100, .f32⟩
  | 110 => ⟨S8x9x1, .f32⟩
  | 111 => ⟨S8x1x100, .f32⟩
  | 112 => ⟨S8x9x100, .f32⟩
  | 113 => ⟨S8x9x100, .f32⟩
  | 114 => ⟨S8x9x100, .f32⟩
  | 115 => ⟨S8x9x100, .f32⟩
  | 116 => ⟨S_, .f32⟩
  | 117 => ⟨S8x9x100, .f32⟩
  | 118 => ⟨S8x9x100, .f32⟩
  | 119 => ⟨S8x9x100, .f32⟩
  | 120 => ⟨S_, .f32⟩
  | 121 => ⟨S8x100, .f32⟩
  | 122 => ⟨S8x1x100, .f32⟩
  | 123 => ⟨S9, .i32⟩
  | 124 => ⟨S1x9x1, .i32⟩
  | 125 => ⟨S8x9x100, .f32⟩
  | 126 => ⟨S8x9x100, .i1⟩
  | 127 => ⟨S_, .i32⟩
  | _ => ⟨S3x9x4, .f32⟩

abbrev hbmTy0_1 (i : Nat) : BufTy := match i % 128 with
  | 0 => ⟨S_, .i32⟩
  | 1 => ⟨S8x9x100, .i32⟩
  | 2 => ⟨S8x9x100, .i32⟩
  | 3 => ⟨S8x9x100, .i32⟩
  | 4 => ⟨S_, .i32⟩
  | 5 => ⟨S8x100, .i32⟩
  | 6 => ⟨S_, .i32⟩
  | 7 => ⟨S8x1, .i32⟩
  | 8 => ⟨S8x1, .i1⟩
  | 9 => ⟨S_, .i32⟩
  | 10 => ⟨S8x1, .i32⟩
  | 11 => ⟨S8x1, .i32⟩
  | 12 => ⟨S8x1, .i32⟩
  | 13 => ⟨S_, .i32⟩
  | 14 => ⟨S8x100, .i32⟩
  | 15 => ⟨S8x100, .i1⟩
  | 16 => ⟨S_, .i32⟩
  | 17 => ⟨S8x100, .i32⟩
  | 18 => ⟨S8x100, .i32⟩
  | 19 => ⟨S8x100, .i32⟩
  | 20 => ⟨S8x100, .i32⟩
  | 21 => ⟨S8x100x1, .i32⟩
  | 22 => ⟨S8x100x1, .i32⟩
  | 23 => ⟨S8x100x2, .i32⟩
  | 24 => ⟨S8x100x4, .f32⟩
  | 25 => ⟨S8x100x1, .i32⟩
  | 26 => ⟨S8x100, .i32⟩
  | 27 => ⟨S8x100x1, .i32⟩
  | 28 => ⟨S8x100, .i32⟩
  | 29 => ⟨S1x8x9x80x80x20, .f32⟩
  | 30 => ⟨S8x9x80x80x20, .f32⟩
  | 31 => ⟨S_, .i32⟩
  | 32 => ⟨S8x1, .i32⟩
  | 33 => ⟨S8x1, .i1⟩
  | 34 => ⟨S_, .i32⟩
  | 35 => ⟨S8x1, .i32⟩
  | 36 => ⟨S8x1, .i32⟩
  | 37 => ⟨S8x1, .i32⟩
  | 38 => ⟨S_, .i32⟩
  | 39 => ⟨S8x100, .i32⟩
  | 40 => ⟨S8x100, .i1⟩
  | 41 => ⟨S_, .i32⟩
  | 42 => ⟨S8x100, .i32⟩
  | 43 => ⟨S8x100, .i32⟩
  | 44 => ⟨S8x100, .i32⟩
  | 45 => ⟨S_, .i32⟩
  | 46 => ⟨S8x100, .i32⟩
  | 47 => ⟨S8x100, .i1⟩
  | 48 => ⟨S_, .i32⟩
  | 49 => ⟨S8x100, .i32⟩
  | 50 => ⟨S8x100, .i32⟩
  | 51 => ⟨S8x100, .i32⟩
  | 52 => ⟨S_, .i32⟩
  | 53 => ⟨S8x100, .i32⟩
  | 54 => ⟨S8x100, .i1⟩
  | 55 => ⟨S_, .i32⟩
  | 56 => ⟨S8x100, .i32⟩
  | 57 => ⟨S8x100, .i32⟩
  | 58 => ⟨S8x100, .i32⟩
  | 59 => ⟨S8x100, .i32⟩
  | 60 => ⟨S8x100x1, .i32⟩
  | 61 => ⟨S8x100x1, .i32⟩
  | 62 => ⟨S8x100x1, .i32⟩
  | 63 => ⟨S8x100x1, .i32⟩
  | 64 => ⟨S8x100x4, .i32⟩
  | 65 => ⟨S8x100x20, .f32⟩
  | 66 => ⟨S1x8x9x80x80x5, .f32⟩
  | 67 => ⟨S8x9x80x80x5, .f32⟩
  | 68 => ⟨S_, .i32⟩
  | 69 => ⟨S8x1, .i32⟩
  | 70 => ⟨S8x1, .i1⟩
  | 71 => ⟨S_, .i32⟩
  | 72 => ⟨S8x1, .i32⟩
  | 73 => ⟨S8x1, .i32⟩
  | 74 => ⟨S8x1, .i32⟩
  | 75 => ⟨S_, .i32⟩
  | 76 => ⟨S8x100, .i32⟩
  | 77 => ⟨S8x100, .i1⟩
  | 78 => ⟨S_, .i32⟩
  | 79 => ⟨S8x100, .i32⟩
  | 80 => ⟨S8x100, .i32⟩
  | 81 => ⟨S8x100, .i32⟩
  | 82 => ⟨S_, .i32⟩
  | 83 => ⟨S8x100, .i32⟩
  | 84 => ⟨S8x100, .i1⟩
  | 85 => ⟨S_, .i32⟩
  | 86 => ⟨S8x100, .i32⟩
  | 87 => ⟨S8x100, .i32⟩
  | 88 => ⟨S8x100, .i32⟩
  | 89 => ⟨S_, .i32⟩
  | 90 => ⟨S8x100, .i32⟩
  | 91 => ⟨S8x100, .i1⟩
  | 92 => ⟨S_, .i32⟩
  | 93 => ⟨S8x100, .i32⟩
  | 94 => ⟨S8x100, .i32⟩
  | 95 => ⟨S8x100, .i32⟩
  | 96 => ⟨S8x100, .i32⟩
  | 97 => ⟨S8x100x1, .i32⟩
  | 98 => ⟨S8x100x1, .i32⟩
  | 99 => ⟨S8x100x1, .i32⟩
  | 100 => ⟨S8x100x1, .i32⟩
  | 101 => ⟨S8x100x4, .i32⟩
  | 102 => ⟨S8x100x5, .f32⟩
  | 103 => ⟨S8x100x1, .f32⟩
  | 104 => ⟨S8x100, .f32⟩
  | 105 => ⟨S8x100x1, .f32⟩
  | 106 => ⟨S8x100, .f32⟩
  | 107 => ⟨S8x100, .f32⟩
  | 108 => ⟨S_, .f32⟩
  | 109 => ⟨S8x100, .f32⟩
  | 110 => ⟨S8x100, .f32⟩
  | 111 => ⟨S8x100x1, .f32⟩
  | 112 => ⟨S8x100, .f32⟩
  | 113 => ⟨S8x100x1, .f32⟩
  | 114 => ⟨S8x100, .f32⟩
  | 115 => ⟨S8x100, .f32⟩
  | 116 => ⟨S_, .f32⟩
  | 117 => ⟨S8x100, .f32⟩
  | 118 => ⟨S8x100, .f32⟩
  | 119 => ⟨S8x100x1, .f32⟩
  | 120 => ⟨S8x100, .f32⟩
  | 121 => ⟨S8x100x1, .f32⟩
  | 122 => ⟨S8x100, .f32⟩
  | 123 => ⟨S8x100, .f32⟩
  | 124 => ⟨S_, .f32⟩
  | 125 => ⟨S8x100, .f32⟩
  | 126 => ⟨S8x100, .f32⟩
  | 127 => ⟨S8x100x1, .f32⟩
  | _ => ⟨S3x9x4, .f32⟩

abbrev hbmTy0_2 (i : Nat) : BufTy := match i % 128 with
  | 0 => ⟨S8x100, .f32⟩
  | 1 => ⟨S8x100x1, .f32⟩
  | 2 => ⟨S8x100, .f32⟩
  | 3 => ⟨S8x100, .f32⟩
  | 4 => ⟨S_, .f32⟩
  | 5 => ⟨S8x100, .f32⟩
  | 6 => ⟨S8x100, .f32⟩
  | 7 => ⟨S8x100x1, .f32⟩
  | 8 => ⟨S8x100, .f32⟩
  | 9 => ⟨S_, .f32⟩
  | 10 => ⟨S8x100, .f32⟩
  | 11 => ⟨S8x100, .f32⟩
  | 12 => ⟨S8x100, .f32⟩
  | 13 => ⟨S8x100x1, .f32⟩
  | 14 => ⟨S8x100, .f32⟩
  | 15 => ⟨S_, .f32⟩
  | 16 => ⟨S8x100, .f32⟩
  | 17 => ⟨S8x100, .f32⟩
  | 18 => ⟨S8x100, .f32⟩
  | 19 => ⟨S8x100, .i32⟩
  | 20 => ⟨S8x100, .f32⟩
  | 21 => ⟨S8x100, .f32⟩
  | 22 => ⟨S8x100, .i32⟩
  | 23 => ⟨S8x100, .f32⟩
  | 24 => ⟨S8x100, .f32⟩
  | 25 => ⟨S8x100, .f32⟩
  | 26 => ⟨S8x100, .f32⟩
  | 27 => ⟨S8x100, .f32⟩
  | 28 => ⟨S8x100, .f32⟩
  | 29 => ⟨S8x100x1, .f32⟩
  | 30 => ⟨S8x100x1, .f32⟩
  | 31 => ⟨S8x100x1, .f32⟩
  | 32 => ⟨S8x100x1, .f32⟩
  | 33 => ⟨S8x100x4, .f32⟩
  | 34 => ⟨S8x100x1, .f32⟩
  | 35 => ⟨S8x100, .f32⟩
  | 36 => ⟨S8x100, .i32⟩
  | 37 => ⟨S8x100x1, .i32⟩
  | 38 => ⟨S1x1x20, .i32⟩
  | 39 => ⟨S8x100x20, .i32⟩
  | 40 => ⟨S8x100x20, .i32⟩
  | 41 => ⟨S8x100x20, .i1⟩
  | 42 => ⟨S8x100x20, .f32⟩
  | 43 => ⟨S8x100x1, .f32⟩
  | 44 => ⟨S8x100, .f32⟩
  | 45 => ⟨S8x100x1, .f32⟩
  | 46 => ⟨S8x100, .f32⟩
  | 47 => ⟨S8x100, .f32⟩
  | 48 => ⟨S8x100x1, .f32⟩
  | 49 => ⟨S8x100, .f32⟩
  | 50 => ⟨S8x100x1, .f32⟩
  | 51 => ⟨S8x100, .f32⟩
  | 52 => ⟨S8x100, .f32⟩
  | 53 => ⟨S8x100, .f32⟩
  | 54 => ⟨S_, .f32⟩
  | 55 => ⟨S8x100, .f32⟩
  | 56 => ⟨S8x100, .f32⟩
  | 57 => ⟨S8x100, .f32⟩
  | 58 => ⟨S_, .f32⟩
  | 59 => ⟨S8x100, .f32⟩
  | 60 => ⟨S8x100, .f32⟩
  | 61 => ⟨S_, .f32⟩
  | 62 => ⟨S8x100, .f32⟩
  | 63 => ⟨S8x100, .f32⟩
  | 64 => ⟨S_, .f32⟩
  | 65 => ⟨S8x100, .f32⟩
  | 66 => ⟨S8x100, .f32⟩
  | 67 => ⟨S8x100x1, .f32⟩
  | 68 => ⟨S8x100x1, .f32⟩
  | 69 => ⟨S8x100x1, .f32⟩
  | 70 => ⟨S8x100x1, .f32⟩
  | 71 => ⟨S8x100x4, .f32⟩
  | 72 => ⟨S_, .f32⟩
  | 73 => ⟨S8x100x4, .f32⟩
  | 74 => ⟨S8x100x4, .f32⟩
  | 75 => ⟨S8x100x1, .f32⟩
  | 76 => ⟨S8x100, .f32⟩
  | 77 => ⟨S8x100x1, .f32⟩
  | 78 => ⟨S8x100, .f32⟩
  | 79 => ⟨S8x100, .f32⟩
  | 80 => ⟨S8x100x1, .f32⟩
  | 81 => ⟨S8x100, .f32⟩
  | 82 => ⟨S8x100x1, .f32⟩
  | 83 => ⟨S8x100, .f32⟩
  | 84 => ⟨S8x100, .f32⟩
  | 85 => ⟨S_, .f32⟩
  | 86 => ⟨S8x100, .f32⟩
  | 87 => ⟨S8x100, .f32⟩
  | 88 => ⟨S_, .f32⟩
  | 89 => ⟨S8x100, .f32⟩
  | 90 => ⟨S8x100, .f32⟩
  | 91 => ⟨S8x100x1, .f32⟩
  | 92 => ⟨S8x100x1, .f32⟩
  | 93 => ⟨S8x100x2, .f32⟩
  | 94 => ⟨S_, .f32⟩
  | 95 => ⟨S8x100x2, .f32⟩
  | 96 => ⟨S8x100x2, .f32⟩
  | 97 => ⟨S8x100x2, .i32⟩
  | 98 => ⟨S8x1x9x4, .f32⟩
  | 99 => ⟨S8x9x4, .f32⟩
  | 100 => ⟨S8x9x2, .f32⟩
  | 101 => ⟨S8x9x1x2, .f32⟩
  | 102 => ⟨S8x100x2, .f32⟩
  | 103 => ⟨S8x1x100x2, .f32⟩
  | 104 => ⟨S8x9x100x2, .f32⟩
  | 105 => ⟨S8x9x100x2, .f32⟩
  | 106 => ⟨S8x9x100x2, .f32⟩
  | 107 => ⟨S8x9x2, .f32⟩
  | 108 => ⟨S8x9x1x2, .f32⟩
  | 109 => ⟨S8x100x2, .f32⟩
  | 110 => ⟨S8x1x100x2, .f32⟩
  | 111 => ⟨S8x9x100x2, .f32⟩
  | 112 => ⟨S8x9x100x2, .f32⟩
  | 113 => ⟨S8x9x100x2, .f32⟩
  | 114 => ⟨S8x9x100x2, .f32⟩
  | 115 => ⟨S_, .f32⟩
  | 116 => ⟨S8x9x100x2, .f32⟩
  | 117 => ⟨S8x9x100x2, .f32⟩
  | 118 => ⟨S8x9x100x1, .f32⟩
  | 119 => ⟨S8x9x100, .f32⟩
  | 120 => ⟨S8x9x100x1, .f32⟩
  | 121 => ⟨S8x9x100, .f32⟩
  | 122 => ⟨S8x9x100, .f32⟩
  | 123 => ⟨S8x9x1, .f32⟩
  | 124 => ⟨S8x9, .f32⟩
  | 125 => ⟨S8x9x1, .f32⟩
  | 126 => ⟨S8x9, .f32⟩
  | 127 => ⟨S8x9, .f32⟩
  | _ => ⟨S3x9x4, .f32⟩

abbrev hbmTy0_3 (i : Nat) : BufTy := match i % 128 with
  | 0 => ⟨S8x9x1, .f32⟩
  | 1 => ⟨S8x9, .f32⟩
  | 2 => ⟨S8x9x1, .f32⟩
  | 3 => ⟨S8x9, .f32⟩
  | 4 => ⟨S8x9, .f32⟩
  | 5 => ⟨S8x9, .f32⟩
  | 6 => ⟨S8x100x1, .f32⟩
  | 7 => ⟨S8x100, .f32⟩
  | 8 => ⟨S8x100x1, .f32⟩
  | 9 => ⟨S8x100, .f32⟩
  | 10 => ⟨S8x100, .f32⟩
  | 11 => ⟨S8x100x1, .f32⟩
  | 12 => ⟨S8x100, .f32⟩
  | 13 => ⟨S8x100x1, .f32⟩
  | 14 => ⟨S8x100, .f32⟩
  | 15 => ⟨S8x100, .f32⟩
  | 16 => ⟨S8x100, .f32⟩
  | 17 => ⟨S8x9x1, .f32⟩
  | 18 => ⟨S8x1x100, .f32⟩
  | 19 => ⟨S8x9x100, .f32⟩
  | 20 => ⟨S8x9x100, .f32⟩
  | 21 => ⟨S8x9x100, .f32⟩
  | 22 => ⟨S8x9x100, .f32⟩
  | 23 => ⟨S_, .f32⟩
  | 24 => ⟨S8x9x100, .f32⟩
  | 25 => ⟨S8x9x100, .f32⟩
  | 26 => ⟨S8x9x100, .f32⟩
  | 27 => ⟨S_, .f32⟩
  | 28 => ⟨S8x100, .f32⟩
  | 29 => ⟨S8x1x100, .f32⟩
  | 30 => ⟨S9, .i32⟩
  | 31 => ⟨S1x9x1, .i32⟩
  | 32 => ⟨S8x9x100, .f32⟩
  | 33 => ⟨S8x9x100, .i1⟩
  | 34 => ⟨S_, .i32⟩
  | 35 => ⟨S_, .i32⟩
  | 36 => ⟨S8x9x100, .i32⟩
  | 37 => ⟨S8x9x100, .i32⟩
  | 38 => ⟨S8x9x100, .i32⟩
  | 39 => ⟨S_, .i32⟩
  | 40 => ⟨S8x100, .i32⟩
  | 41 => ⟨S_, .i32⟩
  | 42 => ⟨S8x1, .i32⟩
  | 43 => ⟨S8x1, .i1⟩
  | 44 => ⟨S_, .i32⟩
  | 45 => ⟨S8x1, .i32⟩
  | 46 => ⟨S8x1, .i32⟩
  | 47 => ⟨S8x1, .i32⟩
  | 48 => ⟨S_, .i32⟩
  | 49 => ⟨S8x100, .i32⟩
  | 50 => ⟨S8x100, .i1⟩
  | 51 => ⟨S_, .i32⟩
  | 52 => ⟨S8x100, .i32⟩
  | 53 => ⟨S8x100, .i32⟩
  | 54 => ⟨S8x100, .i32⟩
  | 55 => ⟨S8x100, .i32⟩
  | 56 => ⟨S8x100x1, .i32⟩
  | 57 => ⟨S8x100x1, .i32⟩
  | 58 => ⟨S8x100x2, .i32⟩
  | 59 => ⟨S8x100x4, .f32⟩
  | 60 => ⟨S8x100x1, .i32⟩
  | 61 => ⟨S8x100, .i32⟩
  | 62 => ⟨S8x100x1, .i32⟩
  | 63 => ⟨S8x100, .i32⟩
  | 64 => ⟨S1x8x9x80x80x20, .f32⟩
  | 65 => ⟨S8x9x80x80x20, .f32⟩
  | 66 => ⟨S_, .i32⟩
  | 67 => ⟨S8x1, .i32⟩
  | 68 => ⟨S8x1, .i1⟩
  | 69 => ⟨S_, .i32⟩
  | 70 => ⟨S8x1, .i32⟩
  | 71 => ⟨S8x1, .i32⟩
  | 72 => ⟨S8x1, .i32⟩
  | 73 => ⟨S_, .i32⟩
  | 74 => ⟨S8x100, .i32⟩
  | 75 => ⟨S8x100, .i1⟩
  | 76 => ⟨S_, .i32⟩
  | 77 => ⟨S8x100, .i32⟩
  | 78 => ⟨S8x100, .i32⟩
  | 79 => ⟨S8x100, .i32⟩
  | 80 => ⟨S_, .i32⟩
  | 81 => ⟨S8x100, .i32⟩
  | 82 => ⟨S8x100, .i1⟩
  | 83 => ⟨S_, .i32⟩
  | 84 => ⟨S8x100, .i32⟩
  | 85 => ⟨S8x100, .i32⟩
  | 86 => ⟨S8x100, .i32⟩
  | 87 => ⟨S_, .i32⟩
  | 88 => ⟨S8x100, .i32⟩
  | 89 => ⟨S8x100, .i1⟩
  | 90 => ⟨S_, .i32⟩
  | 91 => ⟨S8x100, .i32⟩
  | 92 => ⟨S8x100, .i32⟩
  | 93 => ⟨S8x100, .i32⟩
  | 94 => ⟨S8x100, .i32⟩
  | 95 => ⟨S8x100x1, .i32⟩
  | 96 => ⟨S8x100x1, .i32⟩
  | 97 => ⟨S8x100x1, .i32⟩
  | 98 => ⟨S8x100x1, .i32⟩
  | 99 => ⟨S8x100x4, .i32⟩
  | 100 => ⟨S8x100x20, .f32⟩
  | 101 => ⟨S1x8x9x80x80x5, .f32⟩
  | 102 => ⟨S8x9x80x80x5, .f32⟩
  | 103 => ⟨S_, .i32⟩
  | 104 => ⟨S8x1, .i32⟩
  | 105 => ⟨S8x1, .i1⟩
  | 106 => ⟨S_, .i32⟩
  | 107 => ⟨S8x1, .i32⟩
  | 108 => ⟨S8x1, .i32⟩
  | 109 => ⟨S8x1, .i32⟩
  | 110 => ⟨S_, .i32⟩
  | 111 => ⟨S8x100, .i32⟩
  | 112 => ⟨S8x100, .i1⟩
  | 113 => ⟨S_, .i32⟩
  | 114 => ⟨S8x100, .i32⟩
  | 115 => ⟨S8x100, .i32⟩
  | 116 => ⟨S8x100, .i32⟩
  | 117 => ⟨S_, .i32⟩
  | 118 => ⟨S8x100, .i32⟩
  | 119 => ⟨S8x100, .i1⟩
  | 120 => ⟨S_, .i32⟩
  | 121 => ⟨S8x100, .i32⟩
  | 122 => ⟨S8x100, .i32⟩
  | 123 => ⟨S8x100, .i32⟩
  | 124 => ⟨S_, .i32⟩
  | 125 => ⟨S8x100, .i32⟩
  | 126 => ⟨S8x100, .i1⟩
  | 127 => ⟨S_, .i32⟩
  | _ => ⟨S3x9x4, .f32⟩

abbrev hbmTy0_4 (i : Nat) : BufTy := match i % 128 with
  | 0 => ⟨S8x100, .i32⟩
  | 1 => ⟨S8x100, .i32⟩
  | 2 => ⟨S8x100, .i32⟩
  | 3 => ⟨S8x100, .i32⟩
  | 4 => ⟨S8x100x1, .i32⟩
  | 5 => ⟨S8x100x1, .i32⟩
  | 6 => ⟨S8x100x1, .i32⟩
  | 7 => ⟨S8x100x1, .i32⟩
  | 8 => ⟨S8x100x4, .i32⟩
  | 9 => ⟨S8x100x5, .f32⟩
  | 10 => ⟨S8x100x1, .f32⟩
  | 11 => ⟨S8x100, .f32⟩
  | 12 => ⟨S8x100x1, .f32⟩
  | 13 => ⟨S8x100, .f32⟩
  | 14 => ⟨S8x100, .f32⟩
  | 15 => ⟨S_, .f32⟩
  | 16 => ⟨S8x100, .f32⟩
  | 17 => ⟨S8x100, .f32⟩
  | 18 => ⟨S8x100x1, .f32⟩
  | 19 => ⟨S8x100, .f32⟩
  | 20 => ⟨S8x100x1, .f32⟩
  | 21 => ⟨S8x100, .f32⟩
  | 22 => ⟨S8x100, .f32⟩
  | 23 => ⟨S_, .f32⟩
  | 24 => ⟨S8x100, .f32⟩
  | 25 => ⟨S8x100, .f32⟩
  | 26 => ⟨S8x100x1, .f32⟩
  | 27 => ⟨S8x100, .f32⟩
  | 28 => ⟨S8x100x1, .f32⟩
  | 29 => ⟨S8x100, .f32⟩
  | 30 => ⟨S8x100, .f32⟩
  | 31 => ⟨S_, .f32⟩
  | 32 => ⟨S8x100, .f32⟩
  | 33 => ⟨S8x100, .f32⟩
  | 34 => ⟨S8x100x1, .f32⟩
  | 35 => ⟨S8x100, .f32⟩
  | 36 => ⟨S8x100x1, .f32⟩
  | 37 => ⟨S8x100, .f32⟩
  | 38 => ⟨S8x100, .f32⟩
  | 39 => ⟨S_, .f32⟩
  | 40 => ⟨S8x100, .f32⟩
  | 41 => ⟨S8x100, .f32⟩
  | 42 => ⟨S8x100x1, .f32⟩
  | 43 => ⟨S8x100, .f32⟩
  | 44 => ⟨S_, .f32⟩
  | 45 => ⟨S8x100, .f32⟩
  | 46 => ⟨S8x100, .f32⟩
  | 47 => ⟨S8x100, .f32⟩
  | 48 => ⟨S8x100x1, .f32⟩
  | 49 => ⟨S8x100, .f32⟩
  | 50 => ⟨S_, .f32⟩
  | 51 => ⟨S8x100, .f32⟩
  | 52 => ⟨S8x100, .f32⟩
  | 53 => ⟨S8x100, .f32⟩
  | 54 => ⟨S8x100, .i32⟩
  | 55 => ⟨S8x100, .f32⟩
  | 56 => ⟨S8x100, .f32⟩
  | 57 => ⟨S8x100, .i32⟩
  | 58 => ⟨S8x100, .f32⟩
  | 59 => ⟨S8x100, .f32⟩
  | 60 => ⟨S8x100, .f32⟩
  | 61 => ⟨S8x100, .f32⟩
  | 62 => ⟨S8x100, .f32⟩
  | 63 => ⟨S8x100, .f32⟩
  | 64 => ⟨S8x100x1, .f32⟩
  | 65 => ⟨S8x100x1, .f32⟩
  | 66 => ⟨S8x100x1, .f32⟩
  | 67 => ⟨S8x100x1, .f32⟩
  | 68 => ⟨S8x100x4, .f32⟩
  | 69 => ⟨S8x100x1, .f32⟩
  | 70 => ⟨S8x100, .f32⟩
  | 71 => ⟨S8x100, .i32⟩
  | 72 => ⟨S8x100x1, .i32⟩
  | 73 => ⟨S1x1x20, .i32⟩
  | 74 => ⟨S8x100x20, .i32⟩
  | 75 => ⟨S8x100x20, .i32⟩
  | 76 => ⟨S8x100x20, .i1⟩
  | 77 => ⟨S8x100x20, .f32⟩
  | 78 => ⟨S8x100x1, .f32⟩
  | 79 => ⟨S8x100, .f32⟩
  | 80 => ⟨S8x100x1, .f32⟩
  | 81 => ⟨S8x100, .f32⟩
  | 82 => ⟨S8x100, .f32⟩
  | 83 => ⟨S8x100x1, .f32⟩
  | 84 => ⟨S8x100, .f32⟩
  | 85 => ⟨S8x100x1, .f32⟩
  | 86 => ⟨S8x100, .f32⟩
  | 87 => ⟨S8x100, .f32⟩
  | 88 => ⟨S8x100, .f32⟩
  | 89 => ⟨S_, .f32⟩
  | 90 => ⟨S8x100, .f32⟩
  | 91 => ⟨S8x100, .f32⟩
  | 92 => ⟨S8x100, .f32⟩
  | 93 => ⟨S_, .f32⟩
  | 94 => ⟨S8x100, .f32⟩
  | 95 => ⟨S8x100, .f32⟩
  | 96 => ⟨S_, .f32⟩
  | 97 => ⟨S8x100, .f32⟩
  | 98 => ⟨S8x100, .f32⟩
  | 99 => ⟨S_, .f32⟩
  | 100 => ⟨S8x100, .f32⟩
  | 101 => ⟨S8x100, .f32⟩
  | 102 => ⟨S8x100x1, .f32⟩
  | 103 => ⟨S8x100x1, .f32⟩
  | 104 => ⟨S8x100x1, .f32⟩
  | 105 => ⟨S8x100x1, .f32⟩
  | 106 => ⟨S8x100x4, .f32⟩
  | 107 => ⟨S_, .f32⟩
  | 108 => ⟨S8x100x4, .f32⟩
  | 109 => ⟨S8x100x4, .f32⟩
  | 110 => ⟨S8x100x1, .f32⟩
  | 111 => ⟨S8x100, .f32⟩
  | 112 => ⟨S8x100x1, .f32⟩
  | 113 => ⟨S8x100, .f32⟩
  | 114 => ⟨S8x100, .f32⟩
  | 115 => ⟨S8x100x1, .f32⟩
  | 116 => ⟨S8x100, .f32⟩
  | 117 => ⟨S8x100x1, .f32⟩
  | 118 => ⟨S8x100, .f32⟩
  | 119 => ⟨S8x100, .f32⟩
  | 120 => ⟨S_, .f32⟩
  | 121 => ⟨S8x100, .f32⟩
  | 122 => ⟨S8x100, .f32⟩
  | 123 => ⟨S_, .f32⟩
  | 124 => ⟨S8x100, .f32⟩
  | 125 => ⟨S8x100, .f32⟩
  | 126 => ⟨S8x100x1, .f32⟩
  | 127 => ⟨S8x100x1, .f32⟩
  | _ => ⟨S3x9x4, .f32⟩

abbrev hbmTy0_5 (i : Nat) : BufTy := match i % 128 with
  | 0 => ⟨S8x100x2, .f32⟩
  | 1 => ⟨S_, .f32⟩
  | 2 => ⟨S8x100x2, .f32⟩
  | 3 => ⟨S8x100x2, .f32⟩
  | 4 => ⟨S8x100x2, .i32⟩
  | 5 => ⟨S8x1x9x4, .f32⟩
  | 6 => ⟨S8x9x4, .f32⟩
  | 7 => ⟨S8x9x2, .f32⟩
  | 8 => ⟨S8x9x1x2, .f32⟩
  | 9 => ⟨S8x100x2, .f32⟩
  | 10 => ⟨S8x1x100x2, .f32⟩
  | 11 => ⟨S8x9x100x2, .f32⟩
  | 12 => ⟨S8x9x100x2, .f32⟩
  | 13 => ⟨S8x9x100x2, .f32⟩
  | 14 => ⟨S8x9x2, .f32⟩
  | 15 => ⟨S8x9x1x2, .f32⟩
  | 16 => ⟨S8x100x2, .f32⟩
  | 17 => ⟨S8x1x100x2, .f32⟩
  | 18 => ⟨S8x9x100x2, .f32⟩
  | 19 => ⟨S8x9x100x2, .f32⟩
  | 20 => ⟨S8x9x100x2, .f32⟩
  | 21 => ⟨S8x9x100x2, .f32⟩
  | 22 => ⟨S_, .f32⟩
  | 23 => ⟨S8x9x100x2, .f32⟩
  | 24 => ⟨S8x9x100x2, .f32⟩
  | 25 => ⟨S8x9x100x1, .f32⟩
  | 26 => ⟨S8x9x100, .f32⟩
  | 27 => ⟨S8x9x100x1, .f32⟩
  | 28 => ⟨S8x9x100, .f32⟩
  | 29 => ⟨S8x9x100, .f32⟩
  | 30 => ⟨S8x9x1, .f32⟩
  | 31 => ⟨S8x9, .f32⟩
  | 32 => ⟨S8x9x1, .f32⟩
  | 33 => ⟨S8x9, .f32⟩
  | 34 => ⟨S8x9, .f32⟩
  | 35 => ⟨S8x9x1, .f32⟩
  | 36 => ⟨S8x9, .f32⟩
  | 37 => ⟨S8x9x1, .f32⟩
  | 38 => ⟨S8x9, .f32⟩
  | 39 => ⟨S8x9, .f32⟩
  | 40 => ⟨S8x9, .f32⟩
  | 41 => ⟨S8x100x1, .f32⟩
  | 42 => ⟨S8x100, .f32⟩
  | 43 => ⟨S8x100x1, .f32⟩
  | 44 => ⟨S8x100, .f32⟩
  | 45 => ⟨S8x100, .f32⟩
  | 46 => ⟨S8x100x1, .f32⟩
  | 47 => ⟨S8x100, .f32⟩
  | 48 => ⟨S8x100x1, .f32⟩
  | 49 => ⟨S8x100, .f32⟩
  | 50 => ⟨S8x100, .f32⟩
  | 51 => ⟨S8x100, .f32⟩
  | 52 => ⟨S8x9x1, .f32⟩
  | 53 => ⟨S8x1x100, .f32⟩
  | 54 => ⟨S8x9x100, .f32⟩
  | 55 => ⟨S8x9x100, .f32⟩
  | 56 => ⟨S8x9x100, .f32⟩
  | 57 => ⟨S8x9x100, .f32⟩
  | 58 => ⟨S_, .f32⟩
  | 59 => ⟨S8x9x100, .f32⟩
  | 60 => ⟨S8x9x100, .f32⟩
  | 61 => ⟨S8x9x100, .f32⟩
  | 62 => ⟨S_, .f32⟩
  | 63 => ⟨S8x100, .f32⟩
  | 64 => ⟨S8x1x100, .f32⟩
  | 65 => ⟨S9, .i32⟩
  | 66 => ⟨S1x9x1, .i32⟩
  | 67 => ⟨S8x9x100, .f32⟩
  | 68 => ⟨S8x9x100, .i1⟩
  | 69 => ⟨S_, .i32⟩
  | 70 => ⟨S_, .i32⟩
  | 71 => ⟨S8x9x100, .i32⟩
  | 72 => ⟨S8x9x100, .i32⟩
  | 73 => ⟨S8x9x100, .i32⟩
  | 74 => ⟨S_, .i32⟩
  | 75 => ⟨S8x100, .i32⟩
  | 76 => ⟨S_, .i32⟩
  | 77 => ⟨S8x1, .i32⟩
  | 78 => ⟨S8x1, .i1⟩
  | 79 => ⟨S_, .i32⟩
  | 80 => ⟨S8x1, .i32⟩
  | 81 => ⟨S8x1, .i32⟩
  | 82 => ⟨S8x1, .i32⟩
  | 83 => ⟨S_, .i32⟩
  | 84 => ⟨S8x100, .i32⟩
  | 85 => ⟨S8x100, .i1⟩
  | 86 => ⟨S_, .i32⟩
  | 87 => ⟨S8x100, .i32⟩
  | 88 => ⟨S8x100, .i32⟩
  | 89 => ⟨S8x100, .i32⟩
  | 90 => ⟨S8x100, .i32⟩
  | 91 => ⟨S8x100x1, .i32⟩
  | 92 => ⟨S8x100x1, .i32⟩
  | 93 => ⟨S8x100x2, .i32⟩
  | 94 => ⟨S8x100x4, .f32⟩
  | 95 => ⟨S8x100x1, .i32⟩
  | 96 => ⟨S8x100, .i32⟩
  | 97 => ⟨S8x100x1, .i32⟩
  | 98 => ⟨S8x100, .i32⟩
  | 99 => ⟨S1x8x9x80x80x20, .f32⟩
  | 100 => ⟨S8x9x80x80x20, .f32⟩
  | 101 => ⟨S_, .i32⟩
  | 102 => ⟨S8x1, .i32⟩
  | 103 => ⟨S8x1, .i1⟩
  | 104 => ⟨S_, .i32⟩
  | 105 => ⟨S8x1, .i32⟩
  | 106 => ⟨S8x1, .i32⟩
  | 107 => ⟨S8x1, .i32⟩
  | 108 => ⟨S_, .i32⟩
  | 109 => ⟨S8x100, .i32⟩
  | 110 => ⟨S8x100, .i1⟩
  | 111 => ⟨S_, .i32⟩
  | 112 => ⟨S8x100, .i32⟩
  | 113 => ⟨S8x100, .i32⟩
  | 114 => ⟨S8x100, .i32⟩
  | 115 => ⟨S_, .i32⟩
  | 116 => ⟨S8x100, .i32⟩
  | 117 => ⟨S8x100, .i1⟩
  | 118 => ⟨S_, .i32⟩
  | 119 => ⟨S8x100, .i32⟩
  | 120 => ⟨S8x100, .i32⟩
  | 121 => ⟨S8x100, .i32⟩
  | 122 => ⟨S_, .i32⟩
  | 123 => ⟨S8x100, .i32⟩
  | 124 => ⟨S8x100, .i1⟩
  | 125 => ⟨S_, .i32⟩
  | 126 => ⟨S8x100, .i32⟩
  | 127 => ⟨S8x100, .i32⟩
  | _ => ⟨S3x9x4, .f32⟩

abbrev hbmTy0_6 (i : Nat) : BufTy := match i % 128 with
  | 0 => ⟨S8x100, .i32⟩
  | 1 => ⟨S8x100, .i32⟩
  | 2 => ⟨S8x100x1, .i32⟩
  | 3 => ⟨S8x100x1, .i32⟩
  | 4 => ⟨S8x100x1, .i32⟩
  | 5 => ⟨S8x100x1, .i32⟩
  | 6 => ⟨S8x100x4, .i32⟩
  | 7 => ⟨S8x100x20, .f32⟩
  | 8 => ⟨S1x8x9x80x80x5, .f32⟩
  | 9 => ⟨S8x9x80x80x5, .f32⟩
  | 10 => ⟨S_, .i32⟩
  | 11 => ⟨S8x1, .i32⟩
  | 12 => ⟨S8x1, .i1⟩
  | 13 => ⟨S_, .i32⟩
  | 14 => ⟨S8x1, .i32⟩
  | 15 => ⟨S8x1, .i32⟩
  | 16 => ⟨S8x1, .i32⟩
  | 17 => ⟨S_, .i32⟩
  | 18 => ⟨S8x100, .i32⟩
  | 19 => ⟨S8x100, .i1⟩
  | 20 => ⟨S_, .i32⟩
  | 21 => ⟨S8x100, .i32⟩
  | 22 => ⟨S8x100, .i32⟩
  | 23 => ⟨S8x100, .i32⟩
  | 24 => ⟨S_, .i32⟩
  | 25 => ⟨S8x100, .i32⟩
  | 26 => ⟨S8x100, .i1⟩
  | 27 => ⟨S_, .i32⟩
  | 28 => ⟨S8x100, .i32⟩
  | 29 => ⟨S8x100, .i32⟩
  | 30 => ⟨S8x100, .i32⟩
  | 31 => ⟨S_, .i32⟩
  | 32 => ⟨S8x100, .i32⟩
  | 33 => ⟨S8x100, .i1⟩
  | 34 => ⟨S_, .i32⟩
  | 35 => ⟨S8x100, .i32⟩
  | 36 => ⟨S8x100, .i32⟩
  | 37 => ⟨S8x100, .i32⟩
  | 38 => ⟨S8x100, .i32⟩
  | 39 => ⟨S8x100x1, .i32⟩
  | 40 => ⟨S8x100x1, .i32⟩
  | 41 => ⟨S8x100x1, .i32⟩
  | 42 => ⟨S8x100x1, .i32⟩
  | 43 => ⟨S8x100x4, .i32⟩
  | 44 => ⟨S8x100x5, .f32⟩
  | 45 => ⟨S8x100x1, .f32⟩
  | 46 => ⟨S8x100, .f32⟩
  | 47 => ⟨S8x100x1, .f32⟩
  | 48 => ⟨S8x100, .f32⟩
  | 49 => ⟨S8x100, .f32⟩
  | 50 => ⟨S_, .f32⟩
  | 51 => ⟨S8x100, .f32⟩
  | 52 => ⟨S8x100, .f32⟩
  | 53 => ⟨S8x100x1, .f32⟩
  | 54 => ⟨S8x100, .f32⟩
  | 55 => ⟨S8x100x1, .f32⟩
  | 56 => ⟨S8x100, .f32⟩
  | 57 => ⟨S8x100, .f32⟩
  | 58 => ⟨S_, .f32⟩
  | 59 => ⟨S8x100, .f32⟩
  | 60 => ⟨S8x100, .f32⟩
  | 61 => ⟨S8x100x1, .f32⟩
  | 62 => ⟨S8x100, .f32⟩
  | 63 => ⟨S8x100x1, .f32⟩
  | 64 => ⟨S8x100, .f32⟩
  | 65 => ⟨S8x100, .f32⟩
  | 66 => ⟨S_, .f32⟩
  | 67 => ⟨S8x100, .f32⟩
  | 68 => ⟨S8x100, .f32⟩
  | 69 => ⟨S8x100x1, .f32⟩
  | 70 => ⟨S8x100, .f32⟩
  | 71 => ⟨S8x100x1, .f32⟩
  | 72 => ⟨S8x100, .f32⟩
  | 73 => ⟨S8x100, .f32⟩
  | 74 => ⟨S_, .f32⟩
  | 75 => ⟨S8x100, .f32⟩
  | 76 => ⟨S8x100, .f32⟩
  | 77 => ⟨S8x100x1, .f32⟩
  | 78 => ⟨S8x100, .f32⟩
  | 79 => ⟨S_, .f32⟩
  | 80 => ⟨S8x100, .f32⟩
  | 81 => ⟨S8x100, .f32⟩
  | 82 => ⟨S8x100, .f32⟩
  | 83 => ⟨S8x100x1, .f32⟩
  | 84 => ⟨S8x100, .f32⟩
  | 85 => ⟨S_, .f32⟩
  | 86 => ⟨S8x100, .f32⟩
  | 87 => ⟨S8x100, .f32⟩
  | 88 => ⟨S8x100, .f32⟩
  | 89 => ⟨S8x100, .i32⟩
  | 90 => ⟨S8x100, .f32⟩
  | 91 => ⟨S8x100, .f32⟩
  | 92 => ⟨S8x100, .i32⟩
  | 93 => ⟨S8x100, .f32⟩
  | 94 => ⟨S8x100, .f32⟩
  | 95 => ⟨S8x100, .f32⟩
  | 96 => ⟨S8x100, .f32⟩
  | 97 => ⟨S8x100, .f32⟩
  | 98 => ⟨S8x100, .f32⟩
  | 99 => ⟨S8x100x1, .f32⟩
  | 100 => ⟨S8x100x1, .f32⟩
  | 101 => ⟨S8x100x1, .f32⟩
  | 102 => ⟨S8x100x1, .f32⟩
  | 103 => ⟨S8x100x4, .f32⟩
  | 104 => ⟨S8x100x1, .f32⟩
  | 105 => ⟨S8x100, .f32⟩
  | 106 => ⟨S8x100, .i32⟩
  | 107 => ⟨S8x100x1, .i32⟩
  | 108 => ⟨S1x1x20, .i32⟩
  | 109 => ⟨S8x100x20, .i32⟩
  | 110 => ⟨S8x100x20, .i32⟩
  | 111 => ⟨S8x100x20, .i1⟩
  | 112 => ⟨S8x100x20, .f32⟩
  | 113 => ⟨S1x8x100x20, .f32⟩
  | 114 => ⟨S1x8x100x20, .f32⟩
  | 115 => ⟨S1x8x100x20, .f32⟩
  | 116 => ⟨S3x8x100x20, .f32⟩
  | 117 => ⟨S1x8x100x5, .f32⟩
  | 118 => ⟨S1x8x100x5, .f32⟩
  | 119 => ⟨S1x8x100x5, .f32⟩
  | 120 => ⟨S3x8x100x5, .f32⟩
  | 121 => ⟨S1x8x100x20, .f32⟩
  | 122 => ⟨S1x8x100x20, .f32⟩
  | 123 => ⟨S1x8x100x20, .f32⟩
  | 124 => ⟨S3x8x100x20, .f32⟩
  | 125 => ⟨S1x8x100x4, .f32⟩
  | 126 => ⟨S1x8x100x4, .f32⟩
  | 127 => ⟨S1x8x100x4, .f32⟩
  | _ => ⟨S3x9x4, .f32⟩

abbrev hbmTy0_7 (i : Nat) : BufTy := match i % 128 with
  | 0 => ⟨S3x8x100x4, .f32⟩
  | _ => ⟨S3x9x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S3x9x4, .f32⟩

abbrev bufTy : (tb : Table) → Fin (tcTables nBuf tb) → BufTy
  | .hbm, ⟨i, _⟩ => hbmTy i
  | _, _ => ⟨S3x9x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_cst_8 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_9 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_c : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_v112 : Ref sig .tc := ⟨.hbm, 131, rfl⟩
abbrev main_c_10 : Ref sig .tc := ⟨.hbm, 132, rfl⟩
abbrev main_v113 : Ref sig .tc := ⟨.hbm, 133, rfl⟩
abbrev main_c_11 : Ref sig .tc := ⟨.hbm, 134, rfl⟩
abbrev main_v114 : Ref sig .tc := ⟨.hbm, 135, rfl⟩
abbrev main_v115 : Ref sig .tc := ⟨.hbm, 136, rfl⟩
abbrev main_c_12 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_c_13 : Ref sig .tc := ⟨.hbm, 141, rfl⟩
abbrev main_v119 : Ref sig .tc := ⟨.hbm, 142, rfl⟩
abbrev main_v120 : Ref sig .tc := ⟨.hbm, 143, rfl⟩
abbrev main_c_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_c_15 : Ref sig .tc := ⟨.hbm, 159, rfl⟩
abbrev main_v135 : Ref sig .tc := ⟨.hbm, 160, rfl⟩
abbrev main_v136 : Ref sig .tc := ⟨.hbm, 161, rfl⟩
abbrev main_c_16 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_c_17 : Ref sig .tc := ⟨.hbm, 166, rfl⟩
abbrev main_v140 : Ref sig .tc := ⟨.hbm, 167, rfl⟩
abbrev main_v141 : Ref sig .tc := ⟨.hbm, 168, rfl⟩
abbrev main_c_18 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_c_19 : Ref sig .tc := ⟨.hbm, 173, rfl⟩
abbrev main_v145 : Ref sig .tc := ⟨.hbm, 174, rfl⟩
abbrev main_v146 : Ref sig .tc := ⟨.hbm, 175, rfl⟩
abbrev main_c_20 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_c_21 : Ref sig .tc := ⟨.hbm, 180, rfl⟩
abbrev main_v150 : Ref sig .tc := ⟨.hbm, 181, rfl⟩
abbrev main_v151 : Ref sig .tc := ⟨.hbm, 182, rfl⟩
abbrev main_c_22 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_c_23 : Ref sig .tc := ⟨.hbm, 196, rfl⟩
abbrev main_v164 : Ref sig .tc := ⟨.hbm, 197, rfl⟩
abbrev main_v165 : Ref sig .tc := ⟨.hbm, 198, rfl⟩
abbrev main_c_24 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_c_25 : Ref sig .tc := ⟨.hbm, 203, rfl⟩
abbrev main_v169 : Ref sig .tc := ⟨.hbm, 204, rfl⟩
abbrev main_v170 : Ref sig .tc := ⟨.hbm, 205, rfl⟩
abbrev main_c_26 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_c_27 : Ref sig .tc := ⟨.hbm, 210, rfl⟩
abbrev main_v174 : Ref sig .tc := ⟨.hbm, 211, rfl⟩
abbrev main_v175 : Ref sig .tc := ⟨.hbm, 212, rfl⟩
abbrev main_c_28 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_c_29 : Ref sig .tc := ⟨.hbm, 217, rfl⟩
abbrev main_v179 : Ref sig .tc := ⟨.hbm, 218, rfl⟩
abbrev main_v180 : Ref sig .tc := ⟨.hbm, 219, rfl⟩
abbrev main_c_30 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_cst_31 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_cst_32 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_cst_33 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_cst_34 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_35 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_cst_36 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_call1_v0 : Ref sig .tc := ⟨.hbm, 293, rfl⟩
abbrev main_call1_v1 : Ref sig .tc := ⟨.hbm, 294, rfl⟩
abbrev main_call1_v2 : Ref sig .tc := ⟨.hbm, 295, rfl⟩
abbrev main_call1_v3 : Ref sig .tc := ⟨.hbm, 296, rfl⟩
abbrev main_call1_v4 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_cst_37 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_cst_38 : Ref sig .tc := ⟨.hbm, 314, rfl⟩
abbrev main_v262 : Ref sig .tc := ⟨.hbm, 315, rfl⟩
abbrev main_v263 : Ref sig .tc := ⟨.hbm, 316, rfl⟩
abbrev main_cst_39 : Ref sig .tc := ⟨.hbm, 317, rfl⟩
abbrev main_v264 : Ref sig .tc := ⟨.hbm, 318, rfl⟩
abbrev main_v265 : Ref sig .tc := ⟨.hbm, 319, rfl⟩
abbrev main_cst_40 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_cst_41 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_cst_42 : Ref sig .tc := ⟨.hbm, 341, rfl⟩
abbrev main_v285 : Ref sig .tc := ⟨.hbm, 342, rfl⟩
abbrev main_v286 : Ref sig .tc := ⟨.hbm, 343, rfl⟩
abbrev main_cst_43 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_cst_44 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_cst_45 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_cst_46 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_cst_47 : Ref sig .tc := ⟨.hbm, 411, rfl⟩
abbrev main_v350 : Ref sig .tc := ⟨.hbm, 412, rfl⟩
abbrev main_v351 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_c_48 : Ref sig .tc := ⟨.hbm, 418, rfl⟩
abbrev main_call2_v0 : Ref sig .tc := ⟨.hbm, 419, rfl⟩
abbrev main_call2_v1 : Ref sig .tc := ⟨.hbm, 420, rfl⟩
abbrev main_call2_v2 : Ref sig .tc := ⟨.hbm, 421, rfl⟩
abbrev main_v356 : Ref sig .tc := ⟨.hbm, 422, rfl⟩
abbrev main_c_49 : Ref sig .tc := ⟨.hbm, 423, rfl⟩
abbrev main_v357 : Ref sig .tc := ⟨.hbm, 424, rfl⟩
abbrev main_c_50 : Ref sig .tc := ⟨.hbm, 425, rfl⟩
abbrev main_v358 : Ref sig .tc := ⟨.hbm, 426, rfl⟩
abbrev main_v359 : Ref sig .tc := ⟨.hbm, 427, rfl⟩
abbrev main_c_51 : Ref sig .tc := ⟨.hbm, 428, rfl⟩
abbrev main_v360 : Ref sig .tc := ⟨.hbm, 429, rfl⟩
abbrev main_v361 : Ref sig .tc := ⟨.hbm, 430, rfl⟩
abbrev main_v362 : Ref sig .tc := ⟨.hbm, 431, rfl⟩
abbrev main_c_52 : Ref sig .tc := ⟨.hbm, 432, rfl⟩
abbrev main_v363 : Ref sig .tc := ⟨.hbm, 433, rfl⟩
abbrev main_v364 : Ref sig .tc := ⟨.hbm, 434, rfl⟩
abbrev main_c_53 : Ref sig .tc := ⟨.hbm, 435, rfl⟩
abbrev main_v365 : Ref sig .tc := ⟨.hbm, 436, rfl⟩
abbrev main_v366 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_v378 : Ref sig .tc := ⟨.hbm, 449, rfl⟩
abbrev main_c_54 : Ref sig .tc := ⟨.hbm, 450, rfl⟩
abbrev main_v379 : Ref sig .tc := ⟨.hbm, 451, rfl⟩
abbrev main_v380 : Ref sig .tc := ⟨.hbm, 452, rfl⟩
abbrev main_c_55 : Ref sig .tc := ⟨.hbm, 453, rfl⟩
abbrev main_v381 : Ref sig .tc := ⟨.hbm, 454, rfl⟩
abbrev main_v382 : Ref sig .tc := ⟨.hbm, 455, rfl⟩
abbrev main_v383 : Ref sig .tc := ⟨.hbm, 456, rfl⟩
abbrev main_c_56 : Ref sig .tc := ⟨.hbm, 457, rfl⟩
abbrev main_v384 : Ref sig .tc := ⟨.hbm, 458, rfl⟩
abbrev main_v385 : Ref sig .tc := ⟨.hbm, 459, rfl⟩
abbrev main_c_57 : Ref sig .tc := ⟨.hbm, 460, rfl⟩
abbrev main_v386 : Ref sig .tc := ⟨.hbm, 461, rfl⟩
abbrev main_v387 : Ref sig .tc := ⟨.hbm, 462, rfl⟩
abbrev main_v388 : Ref sig .tc := ⟨.hbm, 463, rfl⟩
abbrev main_c_58 : Ref sig .tc := ⟨.hbm, 464, rfl⟩
abbrev main_v389 : Ref sig .tc := ⟨.hbm, 465, rfl⟩
abbrev main_v390 : Ref sig .tc := ⟨.hbm, 466, rfl⟩
abbrev main_c_59 : Ref sig .tc := ⟨.hbm, 467, rfl⟩
abbrev main_v391 : Ref sig .tc := ⟨.hbm, 468, rfl⟩
abbrev main_v392 : Ref sig .tc := ⟨.hbm, 469, rfl⟩
abbrev main_v393 : Ref sig .tc := ⟨.hbm, 470, rfl⟩
abbrev main_c_60 : Ref sig .tc := ⟨.hbm, 471, rfl⟩
abbrev main_v394 : Ref sig .tc := ⟨.hbm, 472, rfl⟩
abbrev main_v395 : Ref sig .tc := ⟨.hbm, 473, rfl⟩
abbrev main_c_61 : Ref sig .tc := ⟨.hbm, 474, rfl⟩
abbrev main_v396 : Ref sig .tc := ⟨.hbm, 475, rfl⟩
abbrev main_v397 : Ref sig .tc := ⟨.hbm, 476, rfl⟩
abbrev main_v398 : Ref sig .tc := ⟨.hbm, 477, rfl⟩
abbrev main_v399 : Ref sig .tc := ⟨.hbm, 478, rfl⟩
abbrev main_v400 : Ref sig .tc := ⟨.hbm, 479, rfl⟩
abbrev main_v401 : Ref sig .tc := ⟨.hbm, 480, rfl⟩
abbrev main_v402 : Ref sig .tc := ⟨.hbm, 481, rfl⟩
abbrev main_v403 : Ref sig .tc := ⟨.hbm, 482, rfl⟩
abbrev main_v404 : Ref sig .tc := ⟨.hbm, 483, rfl⟩
abbrev main_v405 : Ref sig .tc := ⟨.hbm, 484, rfl⟩
abbrev main_v406 : Ref sig .tc := ⟨.hbm, 485, rfl⟩
abbrev main_v407 : Ref sig .tc := ⟨.hbm, 486, rfl⟩
abbrev main_c_62 : Ref sig .tc := ⟨.hbm, 487, rfl⟩
abbrev main_v408 : Ref sig .tc := ⟨.hbm, 488, rfl⟩
abbrev main_v409 : Ref sig .tc := ⟨.hbm, 489, rfl⟩
abbrev main_c_63 : Ref sig .tc := ⟨.hbm, 490, rfl⟩
abbrev main_v410 : Ref sig .tc := ⟨.hbm, 491, rfl⟩
abbrev main_v411 : Ref sig .tc := ⟨.hbm, 492, rfl⟩
abbrev main_v412 : Ref sig .tc := ⟨.hbm, 493, rfl⟩
abbrev main_c_64 : Ref sig .tc := ⟨.hbm, 494, rfl⟩
abbrev main_v413 : Ref sig .tc := ⟨.hbm, 495, rfl⟩
abbrev main_v414 : Ref sig .tc := ⟨.hbm, 496, rfl⟩
abbrev main_c_65 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_c_66 : Ref sig .tc := ⟨.hbm, 501, rfl⟩
abbrev main_v418 : Ref sig .tc := ⟨.hbm, 502, rfl⟩
abbrev main_v419 : Ref sig .tc := ⟨.hbm, 503, rfl⟩
abbrev main_c_67 : Ref sig .tc := ⟨.hbm, 504, rfl⟩
abbrev main_v420 : Ref sig .tc := ⟨.hbm, 505, rfl⟩
abbrev main_v421 : Ref sig .tc := ⟨.hbm, 506, rfl⟩
abbrev main_v422 : Ref sig .tc := ⟨.hbm, 507, rfl⟩
abbrev main_c_68 : Ref sig .tc := ⟨.hbm, 508, rfl⟩
abbrev main_v423 : Ref sig .tc := ⟨.hbm, 509, rfl⟩
abbrev main_v424 : Ref sig .tc := ⟨.hbm, 510, rfl⟩
abbrev main_c_69 : Ref sig .tc := ⟨.hbm, 511, rfl⟩
abbrev main_v425 : Ref sig .tc := ⟨.hbm, 512, rfl⟩
abbrev main_v426 : Ref sig .tc := ⟨.hbm, 513, rfl⟩
abbrev main_v427 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩
abbrev main_v432 : Ref sig .tc := ⟨.hbm, 519, rfl⟩
abbrev main_v433 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_v438 : Ref sig .tc := ⟨.hbm, 525, rfl⟩
abbrev main_v439 : Ref sig .tc := ⟨.hbm, 526, rfl⟩
abbrev main_cst_70 : Ref sig .tc := ⟨.hbm, 527, rfl⟩
abbrev main_v440 : Ref sig .tc := ⟨.hbm, 528, rfl⟩
abbrev main_v441 : Ref sig .tc := ⟨.hbm, 529, rfl⟩
abbrev main_v442 : Ref sig .tc := ⟨.hbm, 530, rfl⟩
abbrev main_v443 : Ref sig .tc := ⟨.hbm, 531, rfl⟩
abbrev main_v444 : Ref sig .tc := ⟨.hbm, 532, rfl⟩
abbrev main_v445 : Ref sig .tc := ⟨.hbm, 533, rfl⟩
abbrev main_v446 : Ref sig .tc := ⟨.hbm, 534, rfl⟩
abbrev main_cst_71 : Ref sig .tc := ⟨.hbm, 535, rfl⟩
abbrev main_v447 : Ref sig .tc := ⟨.hbm, 536, rfl⟩
abbrev main_v448 : Ref sig .tc := ⟨.hbm, 537, rfl⟩
abbrev main_v449 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_cst_72 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_cst_73 : Ref sig .tc := ⟨.hbm, 551, rfl⟩
abbrev main_v461 : Ref sig .tc := ⟨.hbm, 552, rfl⟩
abbrev main_v462 : Ref sig .tc := ⟨.hbm, 553, rfl⟩
abbrev main_v463 : Ref sig .tc := ⟨.hbm, 554, rfl⟩
abbrev main_v464 : Ref sig .tc := ⟨.hbm, 555, rfl⟩
abbrev main_cst_74 : Ref sig .tc := ⟨.hbm, 556, rfl⟩
abbrev main_v465 : Ref sig .tc := ⟨.hbm, 557, rfl⟩
abbrev main_v466 : Ref sig .tc := ⟨.hbm, 558, rfl⟩
abbrev main_v467 : Ref sig .tc := ⟨.hbm, 559, rfl⟩
abbrev main_v468 : Ref sig .tc := ⟨.hbm, 560, rfl⟩
abbrev main_v469 : Ref sig .tc := ⟨.hbm, 561, rfl⟩
abbrev main_cst_75 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩
abbrev main_v473 : Ref sig .tc := ⟨.hbm, 566, rfl⟩
abbrev main_v474 : Ref sig .tc := ⟨.hbm, 567, rfl⟩
abbrev main_v475 : Ref sig .tc := ⟨.hbm, 568, rfl⟩
abbrev main_v476 : Ref sig .tc := ⟨.hbm, 569, rfl⟩
abbrev main_v477 : Ref sig .tc := ⟨.hbm, 570, rfl⟩
abbrev main_v478 : Ref sig .tc := ⟨.hbm, 571, rfl⟩
abbrev main_v479 : Ref sig .tc := ⟨.hbm, 572, rfl⟩
abbrev main_v480 : Ref sig .tc := ⟨.hbm, 573, rfl⟩
abbrev main_v481 : Ref sig .tc := ⟨.hbm, 574, rfl⟩
abbrev main_v482 : Ref sig .tc := ⟨.hbm, 575, rfl⟩
abbrev main_v483 : Ref sig .tc := ⟨.hbm, 576, rfl⟩
abbrev main_v484 : Ref sig .tc := ⟨.hbm, 577, rfl⟩
abbrev main_v485 : Ref sig .tc := ⟨.hbm, 578, rfl⟩
abbrev main_v486 : Ref sig .tc := ⟨.hbm, 579, rfl⟩
abbrev main_v487 : Ref sig .tc := ⟨.hbm, 580, rfl⟩
abbrev main_v488 : Ref sig .tc := ⟨.hbm, 581, rfl⟩
abbrev main_v489 : Ref sig .tc := ⟨.hbm, 582, rfl⟩
abbrev main_v490 : Ref sig .tc := ⟨.hbm, 583, rfl⟩
abbrev main_call3_v0 : Ref sig .tc := ⟨.hbm, 584, rfl⟩
abbrev main_call3_v1 : Ref sig .tc := ⟨.hbm, 585, rfl⟩
abbrev main_call3_v2 : Ref sig .tc := ⟨.hbm, 586, rfl⟩
abbrev main_call3_v3 : Ref sig .tc := ⟨.hbm, 587, rfl⟩
abbrev main_call3_v4 : Ref sig .tc := ⟨.hbm, 588, rfl⟩
abbrev main_v491 : Ref sig .tc := ⟨.hbm, 589, rfl⟩
abbrev main_v492 : Ref sig .tc := ⟨.hbm, 590, rfl⟩
abbrev main_v493 : Ref sig .tc := ⟨.hbm, 591, rfl⟩
abbrev main_v494 : Ref sig .tc := ⟨.hbm, 592, rfl⟩
abbrev main_v495 : Ref sig .tc := ⟨.hbm, 593, rfl⟩
abbrev main_v496 : Ref sig .tc := ⟨.hbm, 594, rfl⟩
abbrev main_v497 : Ref sig .tc := ⟨.hbm, 595, rfl⟩
abbrev main_v498 : Ref sig .tc := ⟨.hbm, 596, rfl⟩
abbrev main_v499 : Ref sig .tc := ⟨.hbm, 597, rfl⟩
abbrev main_v500 : Ref sig .tc := ⟨.hbm, 598, rfl⟩
abbrev main_v501 : Ref sig .tc := ⟨.hbm, 599, rfl⟩
abbrev main_v502 : Ref sig .tc := ⟨.hbm, 600, rfl⟩
abbrev main_cst_76 : Ref sig .tc := ⟨.hbm, 601, rfl⟩
abbrev main_v503 : Ref sig .tc := ⟨.hbm, 602, rfl⟩
abbrev main_v504 : Ref sig .tc := ⟨.hbm, 603, rfl⟩
abbrev main_v505 : Ref sig .tc := ⟨.hbm, 604, rfl⟩
abbrev main_cst_77 : Ref sig .tc := ⟨.hbm, 605, rfl⟩
abbrev main_v506 : Ref sig .tc := ⟨.hbm, 606, rfl⟩
abbrev main_v507 : Ref sig .tc := ⟨.hbm, 607, rfl⟩
abbrev main_cst_78 : Ref sig .tc := ⟨.hbm, 608, rfl⟩
abbrev main_v508 : Ref sig .tc := ⟨.hbm, 609, rfl⟩
abbrev main_v509 : Ref sig .tc := ⟨.hbm, 610, rfl⟩
abbrev main_cst_79 : Ref sig .tc := ⟨.hbm, 611, rfl⟩
abbrev main_v510 : Ref sig .tc := ⟨.hbm, 612, rfl⟩
abbrev main_v511 : Ref sig .tc := ⟨.hbm, 613, rfl⟩
abbrev main_v512 : Ref sig .tc := ⟨.hbm, 614, rfl⟩
abbrev main_v513 : Ref sig .tc := ⟨.hbm, 615, rfl⟩
abbrev main_v514 : Ref sig .tc := ⟨.hbm, 616, rfl⟩
abbrev main_v515 : Ref sig .tc := ⟨.hbm, 617, rfl⟩
abbrev main_v516 : Ref sig .tc := ⟨.hbm, 618, rfl⟩
abbrev main_cst_80 : Ref sig .tc := ⟨.hbm, 619, rfl⟩
abbrev main_v517 : Ref sig .tc := ⟨.hbm, 620, rfl⟩
abbrev main_v518 : Ref sig .tc := ⟨.hbm, 621, rfl⟩
abbrev main_v519 : Ref sig .tc := ⟨.hbm, 622, rfl⟩
abbrev main_v520 : Ref sig .tc := ⟨.hbm, 623, rfl⟩
abbrev main_v521 : Ref sig .tc := ⟨.hbm, 624, rfl⟩
abbrev main_v522 : Ref sig .tc := ⟨.hbm, 625, rfl⟩
abbrev main_v523 : Ref sig .tc := ⟨.hbm, 626, rfl⟩
abbrev main_v524 : Ref sig .tc := ⟨.hbm, 627, rfl⟩
abbrev main_v525 : Ref sig .tc := ⟨.hbm, 628, rfl⟩
abbrev main_v526 : Ref sig .tc := ⟨.hbm, 629, rfl⟩
abbrev main_v527 : Ref sig .tc := ⟨.hbm, 630, rfl⟩
abbrev main_v528 : Ref sig .tc := ⟨.hbm, 631, rfl⟩
abbrev main_cst_81 : Ref sig .tc := ⟨.hbm, 632, rfl⟩
abbrev main_v529 : Ref sig .tc := ⟨.hbm, 633, rfl⟩
abbrev main_v530 : Ref sig .tc := ⟨.hbm, 634, rfl⟩
abbrev main_cst_82 : Ref sig .tc := ⟨.hbm, 635, rfl⟩
abbrev main_v531 : Ref sig .tc := ⟨.hbm, 636, rfl⟩
abbrev main_v532 : Ref sig .tc := ⟨.hbm, 637, rfl⟩
abbrev main_v533 : Ref sig .tc := ⟨.hbm, 638, rfl⟩
abbrev main_v534 : Ref sig .tc := ⟨.hbm, 639, rfl⟩
abbrev main_v535 : Ref sig .tc := ⟨.hbm, 640, rfl⟩
abbrev main_cst_83 : Ref sig .tc := ⟨.hbm, 641, rfl⟩
abbrev main_v536 : Ref sig .tc := ⟨.hbm, 642, rfl⟩
abbrev main_v537 : Ref sig .tc := ⟨.hbm, 643, rfl⟩
abbrev main_v538 : Ref sig .tc := ⟨.hbm, 644, rfl⟩
abbrev main_v539 : Ref sig .tc := ⟨.hbm, 645, rfl⟩
abbrev main_v540 : Ref sig .tc := ⟨.hbm, 646, rfl⟩
abbrev main_v541 : Ref sig .tc := ⟨.hbm, 647, rfl⟩
abbrev main_v542 : Ref sig .tc := ⟨.hbm, 648, rfl⟩
abbrev main_v543 : Ref sig .tc := ⟨.hbm, 649, rfl⟩
abbrev main_v544 : Ref sig .tc := ⟨.hbm, 650, rfl⟩
abbrev main_v545 : Ref sig .tc := ⟨.hbm, 651, rfl⟩
abbrev main_v546 : Ref sig .tc := ⟨.hbm, 652, rfl⟩
abbrev main_v547 : Ref sig .tc := ⟨.hbm, 653, rfl⟩
abbrev main_v548 : Ref sig .tc := ⟨.hbm, 654, rfl⟩
abbrev main_v549 : Ref sig .tc := ⟨.hbm, 655, rfl⟩
abbrev main_v550 : Ref sig .tc := ⟨.hbm, 656, rfl⟩
abbrev main_v551 : Ref sig .tc := ⟨.hbm, 657, rfl⟩
abbrev main_v552 : Ref sig .tc := ⟨.hbm, 658, rfl⟩
abbrev main_v553 : Ref sig .tc := ⟨.hbm, 659, rfl⟩
abbrev main_v554 : Ref sig .tc := ⟨.hbm, 660, rfl⟩
abbrev main_v555 : Ref sig .tc := ⟨.hbm, 661, rfl⟩
abbrev main_cst_84 : Ref sig .tc := ⟨.hbm, 662, rfl⟩
abbrev main_v556 : Ref sig .tc := ⟨.hbm, 663, rfl⟩
abbrev main_v557 : Ref sig .tc := ⟨.hbm, 664, rfl⟩
abbrev main_v558 : Ref sig .tc := ⟨.hbm, 665, rfl⟩
abbrev main_v559 : Ref sig .tc := ⟨.hbm, 666, rfl⟩
abbrev main_v560 : Ref sig .tc := ⟨.hbm, 667, rfl⟩
abbrev main_v561 : Ref sig .tc := ⟨.hbm, 668, rfl⟩
abbrev main_v562 : Ref sig .tc := ⟨.hbm, 669, rfl⟩
abbrev main_v563 : Ref sig .tc := ⟨.hbm, 670, rfl⟩
abbrev main_v564 : Ref sig .tc := ⟨.hbm, 671, rfl⟩
abbrev main_v565 : Ref sig .tc := ⟨.hbm, 672, rfl⟩
abbrev main_v566 : Ref sig .tc := ⟨.hbm, 673, rfl⟩
abbrev main_v567 : Ref sig .tc := ⟨.hbm, 674, rfl⟩
abbrev main_v568 : Ref sig .tc := ⟨.hbm, 675, rfl⟩
abbrev main_v569 : Ref sig .tc := ⟨.hbm, 676, rfl⟩
abbrev main_v570 : Ref sig .tc := ⟨.hbm, 677, rfl⟩
abbrev main_v571 : Ref sig .tc := ⟨.hbm, 678, rfl⟩
abbrev main_v572 : Ref sig .tc := ⟨.hbm, 679, rfl⟩
abbrev main_v573 : Ref sig .tc := ⟨.hbm, 680, rfl⟩
abbrev main_v574 : Ref sig .tc := ⟨.hbm, 681, rfl⟩
abbrev main_v575 : Ref sig .tc := ⟨.hbm, 682, rfl⟩
abbrev main_v576 : Ref sig .tc := ⟨.hbm, 683, rfl⟩
abbrev main_v577 : Ref sig .tc := ⟨.hbm, 684, rfl⟩
abbrev main_v578 : Ref sig .tc := ⟨.hbm, 685, rfl⟩
abbrev main_v579 : Ref sig .tc := ⟨.hbm, 686, rfl⟩
abbrev main_v580 : Ref sig .tc := ⟨.hbm, 687, rfl⟩
abbrev main_v581 : Ref sig .tc := ⟨.hbm, 688, rfl⟩
abbrev main_v582 : Ref sig .tc := ⟨.hbm, 689, rfl⟩
abbrev main_v583 : Ref sig .tc := ⟨.hbm, 690, rfl⟩
abbrev main_v584 : Ref sig .tc := ⟨.hbm, 691, rfl⟩
abbrev main_v585 : Ref sig .tc := ⟨.hbm, 692, rfl⟩
abbrev main_v586 : Ref sig .tc := ⟨.hbm, 693, rfl⟩
abbrev main_v587 : Ref sig .tc := ⟨.hbm, 694, rfl⟩
abbrev main_v588 : Ref sig .tc := ⟨.hbm, 695, rfl⟩
abbrev main_v589 : Ref sig .tc := ⟨.hbm, 696, rfl⟩
abbrev main_v590 : Ref sig .tc := ⟨.hbm, 697, rfl⟩
abbrev main_cst_85 : Ref sig .tc := ⟨.hbm, 698, rfl⟩
abbrev main_v591 : Ref sig .tc := ⟨.hbm, 699, rfl⟩
abbrev main_v592 : Ref sig .tc := ⟨.hbm, 700, rfl⟩
abbrev main_v593 : Ref sig .tc := ⟨.hbm, 701, rfl⟩
abbrev main_cst_86 : Ref sig .tc := ⟨.hbm, 702, rfl⟩
abbrev main_v594 : Ref sig .tc := ⟨.hbm, 703, rfl⟩
abbrev main_v595 : Ref sig .tc := ⟨.hbm, 704, rfl⟩
abbrev main_v596 : Ref sig .tc := ⟨.hbm, 705, rfl⟩
abbrev main_v597 : Ref sig .tc := ⟨.hbm, 706, rfl⟩
abbrev main_v598 : Ref sig .tc := ⟨.hbm, 707, rfl⟩
abbrev main_v599 : Ref sig .tc := ⟨.hbm, 708, rfl⟩
abbrev main_c_87 : Ref sig .tc := ⟨.hbm, 709, rfl⟩
abbrev main_call4_v0 : Ref sig .tc := ⟨.hbm, 710, rfl⟩
abbrev main_call4_v1 : Ref sig .tc := ⟨.hbm, 711, rfl⟩
abbrev main_call4_v2 : Ref sig .tc := ⟨.hbm, 712, rfl⟩
abbrev main_v600 : Ref sig .tc := ⟨.hbm, 713, rfl⟩
abbrev main_c_88 : Ref sig .tc := ⟨.hbm, 714, rfl⟩
abbrev main_v601 : Ref sig .tc := ⟨.hbm, 715, rfl⟩
abbrev main_c_89 : Ref sig .tc := ⟨.hbm, 716, rfl⟩
abbrev main_v602 : Ref sig .tc := ⟨.hbm, 717, rfl⟩
abbrev main_v603 : Ref sig .tc := ⟨.hbm, 718, rfl⟩
abbrev main_c_90 : Ref sig .tc := ⟨.hbm, 719, rfl⟩
abbrev main_v604 : Ref sig .tc := ⟨.hbm, 720, rfl⟩
abbrev main_v605 : Ref sig .tc := ⟨.hbm, 721, rfl⟩
abbrev main_v606 : Ref sig .tc := ⟨.hbm, 722, rfl⟩
abbrev main_c_91 : Ref sig .tc := ⟨.hbm, 723, rfl⟩
abbrev main_v607 : Ref sig .tc := ⟨.hbm, 724, rfl⟩
abbrev main_v608 : Ref sig .tc := ⟨.hbm, 725, rfl⟩
abbrev main_c_92 : Ref sig .tc := ⟨.hbm, 726, rfl⟩
abbrev main_v609 : Ref sig .tc := ⟨.hbm, 727, rfl⟩
abbrev main_v610 : Ref sig .tc := ⟨.hbm, 728, rfl⟩
abbrev main_v611 : Ref sig .tc := ⟨.hbm, 729, rfl⟩
abbrev main_v612 : Ref sig .tc := ⟨.hbm, 730, rfl⟩
abbrev main_v613 : Ref sig .tc := ⟨.hbm, 731, rfl⟩
abbrev main_v614 : Ref sig .tc := ⟨.hbm, 732, rfl⟩
abbrev main_v615 : Ref sig .tc := ⟨.hbm, 733, rfl⟩
abbrev main_v616 : Ref sig .tc := ⟨.hbm, 734, rfl⟩
abbrev main_v617 : Ref sig .tc := ⟨.hbm, 735, rfl⟩
abbrev main_v618 : Ref sig .tc := ⟨.hbm, 736, rfl⟩
abbrev main_v619 : Ref sig .tc := ⟨.hbm, 737, rfl⟩
abbrev main_v620 : Ref sig .tc := ⟨.hbm, 738, rfl⟩
abbrev main_v621 : Ref sig .tc := ⟨.hbm, 739, rfl⟩
abbrev main_v622 : Ref sig .tc := ⟨.hbm, 740, rfl⟩
abbrev main_c_93 : Ref sig .tc := ⟨.hbm, 741, rfl⟩
abbrev main_v623 : Ref sig .tc := ⟨.hbm, 742, rfl⟩
abbrev main_v624 : Ref sig .tc := ⟨.hbm, 743, rfl⟩
abbrev main_c_94 : Ref sig .tc := ⟨.hbm, 744, rfl⟩
abbrev main_v625 : Ref sig .tc := ⟨.hbm, 745, rfl⟩
abbrev main_v626 : Ref sig .tc := ⟨.hbm, 746, rfl⟩
abbrev main_v627 : Ref sig .tc := ⟨.hbm, 747, rfl⟩
abbrev main_c_95 : Ref sig .tc := ⟨.hbm, 748, rfl⟩
abbrev main_v628 : Ref sig .tc := ⟨.hbm, 749, rfl⟩
abbrev main_v629 : Ref sig .tc := ⟨.hbm, 750, rfl⟩
abbrev main_c_96 : Ref sig .tc := ⟨.hbm, 751, rfl⟩
abbrev main_v630 : Ref sig .tc := ⟨.hbm, 752, rfl⟩
abbrev main_v631 : Ref sig .tc := ⟨.hbm, 753, rfl⟩
abbrev main_v632 : Ref sig .tc := ⟨.hbm, 754, rfl⟩
abbrev main_c_97 : Ref sig .tc := ⟨.hbm, 755, rfl⟩
abbrev main_v633 : Ref sig .tc := ⟨.hbm, 756, rfl⟩
abbrev main_v634 : Ref sig .tc := ⟨.hbm, 757, rfl⟩
abbrev main_c_98 : Ref sig .tc := ⟨.hbm, 758, rfl⟩
abbrev main_v635 : Ref sig .tc := ⟨.hbm, 759, rfl⟩
abbrev main_v636 : Ref sig .tc := ⟨.hbm, 760, rfl⟩
abbrev main_v637 : Ref sig .tc := ⟨.hbm, 761, rfl⟩
abbrev main_c_99 : Ref sig .tc := ⟨.hbm, 762, rfl⟩
abbrev main_v638 : Ref sig .tc := ⟨.hbm, 763, rfl⟩
abbrev main_v639 : Ref sig .tc := ⟨.hbm, 764, rfl⟩
abbrev main_c_100 : Ref sig .tc := ⟨.hbm, 765, rfl⟩
abbrev main_v640 : Ref sig .tc := ⟨.hbm, 766, rfl⟩
abbrev main_v641 : Ref sig .tc := ⟨.hbm, 767, rfl⟩
abbrev main_v642 : Ref sig .tc := ⟨.hbm, 768, rfl⟩
abbrev main_v643 : Ref sig .tc := ⟨.hbm, 769, rfl⟩
abbrev main_v644 : Ref sig .tc := ⟨.hbm, 770, rfl⟩
abbrev main_v645 : Ref sig .tc := ⟨.hbm, 771, rfl⟩
abbrev main_v646 : Ref sig .tc := ⟨.hbm, 772, rfl⟩
abbrev main_v647 : Ref sig .tc := ⟨.hbm, 773, rfl⟩
abbrev main_v648 : Ref sig .tc := ⟨.hbm, 774, rfl⟩
abbrev main_v649 : Ref sig .tc := ⟨.hbm, 775, rfl⟩
abbrev main_v650 : Ref sig .tc := ⟨.hbm, 776, rfl⟩
abbrev main_v651 : Ref sig .tc := ⟨.hbm, 777, rfl⟩
abbrev main_c_101 : Ref sig .tc := ⟨.hbm, 778, rfl⟩
abbrev main_v652 : Ref sig .tc := ⟨.hbm, 779, rfl⟩
abbrev main_v653 : Ref sig .tc := ⟨.hbm, 780, rfl⟩
abbrev main_c_102 : Ref sig .tc := ⟨.hbm, 781, rfl⟩
abbrev main_v654 : Ref sig .tc := ⟨.hbm, 782, rfl⟩
abbrev main_v655 : Ref sig .tc := ⟨.hbm, 783, rfl⟩
abbrev main_v656 : Ref sig .tc := ⟨.hbm, 784, rfl⟩
abbrev main_c_103 : Ref sig .tc := ⟨.hbm, 785, rfl⟩
abbrev main_v657 : Ref sig .tc := ⟨.hbm, 786, rfl⟩
abbrev main_v658 : Ref sig .tc := ⟨.hbm, 787, rfl⟩
abbrev main_c_104 : Ref sig .tc := ⟨.hbm, 788, rfl⟩
abbrev main_v659 : Ref sig .tc := ⟨.hbm, 789, rfl⟩
abbrev main_v660 : Ref sig .tc := ⟨.hbm, 790, rfl⟩
abbrev main_v661 : Ref sig .tc := ⟨.hbm, 791, rfl⟩
abbrev main_c_105 : Ref sig .tc := ⟨.hbm, 792, rfl⟩
abbrev main_v662 : Ref sig .tc := ⟨.hbm, 793, rfl⟩
abbrev main_v663 : Ref sig .tc := ⟨.hbm, 794, rfl⟩
abbrev main_c_106 : Ref sig .tc := ⟨.hbm, 795, rfl⟩
abbrev main_v664 : Ref sig .tc := ⟨.hbm, 796, rfl⟩
abbrev main_v665 : Ref sig .tc := ⟨.hbm, 797, rfl⟩
abbrev main_v666 : Ref sig .tc := ⟨.hbm, 798, rfl⟩
abbrev main_c_107 : Ref sig .tc := ⟨.hbm, 799, rfl⟩
abbrev main_v667 : Ref sig .tc := ⟨.hbm, 800, rfl⟩
abbrev main_v668 : Ref sig .tc := ⟨.hbm, 801, rfl⟩
abbrev main_c_108 : Ref sig .tc := ⟨.hbm, 802, rfl⟩
abbrev main_v669 : Ref sig .tc := ⟨.hbm, 803, rfl⟩
abbrev main_v670 : Ref sig .tc := ⟨.hbm, 804, rfl⟩
abbrev main_v671 : Ref sig .tc := ⟨.hbm, 805, rfl⟩
abbrev main_v672 : Ref sig .tc := ⟨.hbm, 806, rfl⟩
abbrev main_v673 : Ref sig .tc := ⟨.hbm, 807, rfl⟩
abbrev main_v674 : Ref sig .tc := ⟨.hbm, 808, rfl⟩
abbrev main_v675 : Ref sig .tc := ⟨.hbm, 809, rfl⟩
abbrev main_v676 : Ref sig .tc := ⟨.hbm, 810, rfl⟩
abbrev main_v677 : Ref sig .tc := ⟨.hbm, 811, rfl⟩
abbrev main_v678 : Ref sig .tc := ⟨.hbm, 812, rfl⟩
abbrev main_v679 : Ref sig .tc := ⟨.hbm, 813, rfl⟩
abbrev main_v680 : Ref sig .tc := ⟨.hbm, 814, rfl⟩
abbrev main_v681 : Ref sig .tc := ⟨.hbm, 815, rfl⟩
abbrev main_v682 : Ref sig .tc := ⟨.hbm, 816, rfl⟩
abbrev main_v683 : Ref sig .tc := ⟨.hbm, 817, rfl⟩
abbrev main_cst_109 : Ref sig .tc := ⟨.hbm, 818, rfl⟩
abbrev main_v684 : Ref sig .tc := ⟨.hbm, 819, rfl⟩
abbrev main_v685 : Ref sig .tc := ⟨.hbm, 820, rfl⟩
abbrev main_v686 : Ref sig .tc := ⟨.hbm, 821, rfl⟩
abbrev main_v687 : Ref sig .tc := ⟨.hbm, 822, rfl⟩
abbrev main_v688 : Ref sig .tc := ⟨.hbm, 823, rfl⟩
abbrev main_v689 : Ref sig .tc := ⟨.hbm, 824, rfl⟩
abbrev main_v690 : Ref sig .tc := ⟨.hbm, 825, rfl⟩
abbrev main_cst_110 : Ref sig .tc := ⟨.hbm, 826, rfl⟩
abbrev main_v691 : Ref sig .tc := ⟨.hbm, 827, rfl⟩
abbrev main_v692 : Ref sig .tc := ⟨.hbm, 828, rfl⟩
abbrev main_v693 : Ref sig .tc := ⟨.hbm, 829, rfl⟩
abbrev main_v694 : Ref sig .tc := ⟨.hbm, 830, rfl⟩
abbrev main_v695 : Ref sig .tc := ⟨.hbm, 831, rfl⟩
abbrev main_v696 : Ref sig .tc := ⟨.hbm, 832, rfl⟩
abbrev main_v697 : Ref sig .tc := ⟨.hbm, 833, rfl⟩
abbrev main_cst_111 : Ref sig .tc := ⟨.hbm, 834, rfl⟩
abbrev main_v698 : Ref sig .tc := ⟨.hbm, 835, rfl⟩
abbrev main_v699 : Ref sig .tc := ⟨.hbm, 836, rfl⟩
abbrev main_v700 : Ref sig .tc := ⟨.hbm, 837, rfl⟩
abbrev main_v701 : Ref sig .tc := ⟨.hbm, 838, rfl⟩
abbrev main_v702 : Ref sig .tc := ⟨.hbm, 839, rfl⟩
abbrev main_v703 : Ref sig .tc := ⟨.hbm, 840, rfl⟩
abbrev main_v704 : Ref sig .tc := ⟨.hbm, 841, rfl⟩
abbrev main_cst_112 : Ref sig .tc := ⟨.hbm, 842, rfl⟩
abbrev main_v705 : Ref sig .tc := ⟨.hbm, 843, rfl⟩
abbrev main_v706 : Ref sig .tc := ⟨.hbm, 844, rfl⟩
abbrev main_v707 : Ref sig .tc := ⟨.hbm, 845, rfl⟩
abbrev main_v708 : Ref sig .tc := ⟨.hbm, 846, rfl⟩
abbrev main_cst_113 : Ref sig .tc := ⟨.hbm, 847, rfl⟩
abbrev main_v709 : Ref sig .tc := ⟨.hbm, 848, rfl⟩
abbrev main_v710 : Ref sig .tc := ⟨.hbm, 849, rfl⟩
abbrev main_v711 : Ref sig .tc := ⟨.hbm, 850, rfl⟩
abbrev main_v712 : Ref sig .tc := ⟨.hbm, 851, rfl⟩
abbrev main_v713 : Ref sig .tc := ⟨.hbm, 852, rfl⟩
abbrev main_cst_114 : Ref sig .tc := ⟨.hbm, 853, rfl⟩
abbrev main_v714 : Ref sig .tc := ⟨.hbm, 854, rfl⟩
abbrev main_v715 : Ref sig .tc := ⟨.hbm, 855, rfl⟩
abbrev main_v716 : Ref sig .tc := ⟨.hbm, 856, rfl⟩
abbrev main_v717 : Ref sig .tc := ⟨.hbm, 857, rfl⟩
abbrev main_v718 : Ref sig .tc := ⟨.hbm, 858, rfl⟩
abbrev main_v719 : Ref sig .tc := ⟨.hbm, 859, rfl⟩
abbrev main_v720 : Ref sig .tc := ⟨.hbm, 860, rfl⟩
abbrev main_v721 : Ref sig .tc := ⟨.hbm, 861, rfl⟩
abbrev main_v722 : Ref sig .tc := ⟨.hbm, 862, rfl⟩
abbrev main_v723 : Ref sig .tc := ⟨.hbm, 863, rfl⟩
abbrev main_v724 : Ref sig .tc := ⟨.hbm, 864, rfl⟩
abbrev main_v725 : Ref sig .tc := ⟨.hbm, 865, rfl⟩
abbrev main_v726 : Ref sig .tc := ⟨.hbm, 866, rfl⟩
abbrev main_v727 : Ref sig .tc := ⟨.hbm, 867, rfl⟩
abbrev main_v728 : Ref sig .tc := ⟨.hbm, 868, rfl⟩
abbrev main_v729 : Ref sig .tc := ⟨.hbm, 869, rfl⟩
abbrev main_v730 : Ref sig .tc := ⟨.hbm, 870, rfl⟩
abbrev main_v731 : Ref sig .tc := ⟨.hbm, 871, rfl⟩
abbrev main_v732 : Ref sig .tc := ⟨.hbm, 872, rfl⟩
abbrev main_v733 : Ref sig .tc := ⟨.hbm, 873, rfl⟩
abbrev main_v734 : Ref sig .tc := ⟨.hbm, 874, rfl⟩
abbrev main_call5_v0 : Ref sig .tc := ⟨.hbm, 875, rfl⟩
abbrev main_call5_v1 : Ref sig .tc := ⟨.hbm, 876, rfl⟩
abbrev main_call5_v2 : Ref sig .tc := ⟨.hbm, 877, rfl⟩
abbrev main_call5_v3 : Ref sig .tc := ⟨.hbm, 878, rfl⟩
abbrev main_call5_v4 : Ref sig .tc := ⟨.hbm, 879, rfl⟩
abbrev main_v735 : Ref sig .tc := ⟨.hbm, 880, rfl⟩
abbrev main_v736 : Ref sig .tc := ⟨.hbm, 881, rfl⟩
abbrev main_v737 : Ref sig .tc := ⟨.hbm, 882, rfl⟩
abbrev main_v738 : Ref sig .tc := ⟨.hbm, 883, rfl⟩
abbrev main_v739 : Ref sig .tc := ⟨.hbm, 884, rfl⟩
abbrev main_v740 : Ref sig .tc := ⟨.hbm, 885, rfl⟩
abbrev main_v741 : Ref sig .tc := ⟨.hbm, 886, rfl⟩
abbrev main_v742 : Ref sig .tc := ⟨.hbm, 887, rfl⟩
abbrev main_v743 : Ref sig .tc := ⟨.hbm, 888, rfl⟩
abbrev main_v744 : Ref sig .tc := ⟨.hbm, 889, rfl⟩
abbrev main_v745 : Ref sig .tc := ⟨.hbm, 890, rfl⟩
abbrev main_v746 : Ref sig .tc := ⟨.hbm, 891, rfl⟩
abbrev main_v747 : Ref sig .tc := ⟨.hbm, 892, rfl⟩
abbrev main_v748 : Ref sig .tc := ⟨.hbm, 893, rfl⟩
abbrev main_v749 : Ref sig .tc := ⟨.hbm, 894, rfl⟩
abbrev main_v750 : Ref sig .tc := ⟨.hbm, 895, rfl⟩
abbrev main_v751 : Ref sig .tc := ⟨.hbm, 896, rfl⟩

abbrev nD : Nat := 1
abbrev τ : Topo := Topo.v7x

variable {F : FTy → Type} [FloatOps F]
-- ==== Assign.lean ====
abbrev S3x9x4 : Shape := ⟨3, ![3, 9, 4]⟩
abbrev S8x100x6 : Shape := ⟨3, ![8, 100, 6]⟩
abbrev S6x8x100 : Shape := ⟨3, ![6, 8, 100]⟩
abbrev S_ : Shape := ⟨0, ![]⟩
abbrev S6x8x128 : Shape := ⟨3, ![6, 8, 128]⟩
abbrev S3x8x128 : Shape := ⟨3, ![3, 8, 128]⟩
abbrev S3x8x100x4 : Shape := ⟨4, ![3, 8, 100, 4]⟩
abbrev S3x8x100x20 : Shape := ⟨4, ![3, 8, 100, 20]⟩
abbrev S1x8x128 : Shape := ⟨3, ![1, 8, 128]⟩
abbrev S8x128 : Shape := ⟨2, ![8, 128]⟩
abbrev S8x100 : Shape := ⟨2, ![8, 100]⟩
abbrev S8x100x20 : Shape := ⟨3, ![8, 100, 20]⟩
abbrev S8x100x1 : Shape := ⟨3, ![8, 100, 1]⟩
abbrev S1x1x1 : Shape := ⟨3, ![1, 1, 1]⟩
abbrev S8x100x4 : Shape := ⟨3, ![8, 100, 4]⟩
abbrev S1x8x100x4 : Shape := ⟨4, ![1, 8, 100, 4]⟩
abbrev S1x8x100x20 : Shape := ⟨4, ![1, 8, 100, 20]⟩

abbrev nBuf : Space → Nat
  | .hbm => 9
  | .vmem => 4
  | .smem => 1
  | _ => 0

abbrev bufTy : (tb : Table) → Fin (tcTables nBuf tb) → BufTy
  | .hbm, ⟨0, _⟩ => ⟨S3x9x4, .f32⟩
  | .hbm, ⟨1, _⟩ => ⟨S8x100x6, .f32⟩
  | .hbm, ⟨2, _⟩ => ⟨S6x8x100, .f32⟩
  | .hbm, ⟨3, _⟩ => ⟨S_, .i32⟩
  | .hbm, ⟨4, _⟩ => ⟨S_, .f32⟩
  | .hbm, ⟨5, _⟩ => ⟨S6x8x128, .f32⟩
  | .hbm, ⟨6, _⟩ => ⟨S3x8x128, .i32⟩
  | .hbm, ⟨7, _⟩ => ⟨S3x8x100x4, .f32⟩
  | .hbm, ⟨8, _⟩ => ⟨S3x8x100x20, .f32⟩
  | .local _ .vmem, ⟨0, _⟩ => ⟨S6x8x128, .f32⟩
  | .local _ .vmem, ⟨1, _⟩ => ⟨S3x8x128, .i32⟩
  | .local _ .vmem, ⟨2, _⟩ => ⟨S3x8x100x4, .f32⟩
  | .local _ .vmem, ⟨3, _⟩ => ⟨S3x8x100x20, .f32⟩
  | .local _ .smem, ⟨0, _⟩ => ⟨S3x9x4, .f32⟩
  | _, _ => ⟨S3x9x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S3x9x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8x100x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x100x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AssignmentIdeal.lean ====
abbrev S3x9x4 : Shape := ⟨3, ![3, 9, 4]⟩
abbrev S8x100x6 : Shape := ⟨3, ![8, 100, 6]⟩
abbrev S1x3x9x4 : Shape := ⟨4, ![1, 3, 9, 4]⟩
abbrev S8x3x9x4 : Shape := ⟨4, ![8, 3, 9, 4]⟩
abbrev S8 : Shape := ⟨1, ![8]⟩
abbrev S8x1 : Shape := ⟨2, ![8, 1]⟩
abbrev S_ : Shape := ⟨0, ![]⟩
abbrev S8x128x6 : Shape := ⟨3, ![8, 128, 6]⟩
abbrev S8x128x1 : Shape := ⟨3, ![8, 128, 1]⟩
abbrev S8x128 : Shape := ⟨2, ![8, 128]⟩
abbrev S8x128x4 : Shape := ⟨3, ![8, 128, 4]⟩
abbrev S8x128x2 : Shape := ⟨3, ![8, 128, 2]⟩
abbrev S8x1x9x4 : Shape := ⟨4, ![8, 1, 9, 4]⟩
abbrev S8x9x4 : Shape := ⟨3, ![8, 9, 4]⟩
abbrev S8x9x2 : Shape := ⟨3, ![8, 9, 2]⟩
abbrev S8x9x1x2 : Shape := ⟨4, ![8, 9, 1, 2]⟩
abbrev S8x1x128x2 : Shape := ⟨4, ![8, 1, 128, 2]⟩
abbrev S8x9x128x2 : Shape := ⟨4, ![8, 9, 128, 2]⟩
abbrev S8x9x128x1 : Shape := ⟨4, ![8, 9, 128, 1]⟩
abbrev S8x9x128 : Shape := ⟨3, ![8, 9, 128]⟩
abbrev S8x9x1 : Shape := ⟨3, ![8, 9, 1]⟩
abbrev S8x9 : Shape := ⟨2, ![8, 9]⟩
abbrev S8x1x128 : Shape := ⟨3, ![8, 1, 128]⟩
abbrev S9 : Shape := ⟨1, ![9]⟩
abbrev S1x9x1 : Shape := ⟨3, ![1, 9, 1]⟩
abbrev S8x100 : Shape := ⟨2, ![8, 100]⟩
abbrev S8x100x1 : Shape := ⟨3, ![8, 100, 1]⟩
abbrev S8x100x2 : Shape := ⟨3, ![8, 100, 2]⟩
abbrev S8x100x4 : Shape := ⟨3, ![8, 100, 4]⟩
abbrev S1x1x20 : Shape := ⟨3, ![1, 1, 20]⟩
abbrev S8x100x20 : Shape := ⟨3, ![8, 100, 20]⟩
abbrev S1x8x128 : Shape := ⟨3, ![1, 8, 128]⟩
abbrev S3x8x128 : Shape := ⟨3, ![3, 8, 128]⟩
abbrev S1x8x100x4 : Shape := ⟨4, ![1, 8, 100, 4]⟩
abbrev S3x8x100x4 : Shape := ⟨4, ![3, 8, 100, 4]⟩
abbrev S1x8x100x20 : Shape := ⟨4, ![1, 8, 100, 20]⟩
abbrev S3x8x100x20 : Shape := ⟨4, ![3, 8, 100, 20]⟩

abbrev nBuf : Space → Nat
  | .hbm => 699
  | .vmem => 0
  | .smem => 0
  | _ => 0

abbrev hbmTy0_0 (i : Nat) : BufTy := match i % 128 with
  | 0 => ⟨S3x9x4, .f32⟩
  | 1 => ⟨S8x100x6, .f32⟩
  | 2 => ⟨S1x3x9x4, .f32⟩
  | 3 => ⟨S8x3x9x4, .f32⟩
  | 4 => ⟨S8, .i32⟩
  | 5 => ⟨S8x1, .i32⟩
  | 6 => ⟨S_, .i32⟩
  | 7 => ⟨S_, .f32⟩
  | 8 => ⟨S8x128x6, .f32⟩
  | 9 => ⟨S8x128x1, .f32⟩
  | 10 => ⟨S8x128, .f32⟩
  | 11 => ⟨S8x128x1, .f32⟩
  | 12 => ⟨S8x128, .f32⟩
  | 13 => ⟨S8x128, .f32⟩
  | 14 => ⟨S8x128x1, .f32⟩
  | 15 => ⟨S8x128, .f32⟩
  | 16 => ⟨S8x128x1, .f32⟩
  | 17 => ⟨S8x128, .f32⟩
  | 18 => ⟨S8x128, .f32⟩
  | 19 => ⟨S8x128, .f32⟩
  | 20 => ⟨S_, .f32⟩
  | 21 => ⟨S8x128, .f32⟩
  | 22 => ⟨S8x128, .f32⟩
  | 23 => ⟨S8x128, .f32⟩
  | 24 => ⟨S_, .f32⟩
  | 25 => ⟨S8x128, .f32⟩
  | 26 => ⟨S8x128, .f32⟩
  | 27 => ⟨S_, .f32⟩
  | 28 => ⟨S8x128, .f32⟩
  | 29 => ⟨S8x128, .f32⟩
  | 30 => ⟨S_, .f32⟩
  | 31 => ⟨S8x128, .f32⟩
  | 32 => ⟨S8x128, .f32⟩
  | 33 => ⟨S8x128x1, .f32⟩
  | 34 => ⟨S8x128x1, .f32⟩
  | 35 => ⟨S8x128x1, .f32⟩
  | 36 => ⟨S8x128x1, .f32⟩
  | 37 => ⟨S8x128x4, .f32⟩
  | 38 => ⟨S_, .f32⟩
  | 39 => ⟨S8x128x4, .f32⟩
  | 40 => ⟨S8x128x4, .f32⟩
  | 41 => ⟨S8x128x1, .f32⟩
  | 42 => ⟨S8x128, .f32⟩
  | 43 => ⟨S8x128x1, .f32⟩
  | 44 => ⟨S8x128, .f32⟩
  | 45 => ⟨S8x128, .f32⟩
  | 46 => ⟨S8x128x1, .f32⟩
  | 47 => ⟨S8x128, .f32⟩
  | 48 => ⟨S8x128x1, .f32⟩
  | 49 => ⟨S8x128, .f32⟩
  | 50 => ⟨S8x128, .f32⟩
  | 51 => ⟨S_, .f32⟩
  | 52 => ⟨S8x128, .f32⟩
  | 53 => ⟨S8x128, .f32⟩
  | 54 => ⟨S_, .f32⟩
  | 55 => ⟨S8x128, .f32⟩
  | 56 => ⟨S8x128, .f32⟩
  | 57 => ⟨S8x128x1, .f32⟩
  | 58 => ⟨S8x128x1, .f32⟩
  | 59 => ⟨S8x128x2, .f32⟩
  | 60 => ⟨S_, .f32⟩
  | 61 => ⟨S8x128x2, .f32⟩
  | 62 => ⟨S8x128x2, .f32⟩
  | 63 => ⟨S8x128x2, .i32⟩
  | 64 => ⟨S8x1x9x4, .f32⟩
  | 65 => ⟨S8x9x4, .f32⟩
  | 66 => ⟨S8x9x2, .f32⟩
  | 67 => ⟨S8x9x1x2, .f32⟩
  | 68 => ⟨S8x128x2, .f32⟩
  | 69 => ⟨S8x1x128x2, .f32⟩
  | 70 => ⟨S8x9x128x2, .f32⟩
  | 71 => ⟨S8x9x128x2, .f32⟩
  | 72 => ⟨S8x9x128x2, .f32⟩
  | 73 => ⟨S8x9x2, .f32⟩
  | 74 => ⟨S8x9x1x2, .f32⟩
  | 75 => ⟨S8x128x2, .f32⟩
  | 76 => ⟨S8x1x128x2, .f32⟩
  | 77 => ⟨S8x9x128x2, .f32⟩
  | 78 => ⟨S8x9x128x2, .f32⟩
  | 79 => ⟨S8x9x128x2, .f32⟩
  | 80 => ⟨S8x9x128x2, .f32⟩
  | 81 => ⟨S_, .f32⟩
  | 82 => ⟨S8x9x128x2, .f32⟩
  | 83 => ⟨S8x9x128x2, .f32⟩
  | 84 => ⟨S8x9x128x1, .f32⟩
  | 85 => ⟨S8x9x128, .f32⟩
  | 86 => ⟨S8x9x128x1, .f32⟩
  | 87 => ⟨S8x9x128, .f32⟩
  | 88 => ⟨S8x9x128, .f32⟩
  | 89 => ⟨S8x9x1, .f32⟩
  | 90 => ⟨S8x9, .f32⟩
  | 91 => ⟨S8x9x1, .f32⟩
  | 92 => ⟨S8x9, .f32⟩
  | 93 => ⟨S8x9, .f32⟩
  | 94 => ⟨S8x9x1, .f32⟩
  | 95 => ⟨S8x9, .f32⟩
  | 96 => ⟨S8x9x1, .f32⟩
  | 97 => ⟨S8x9, .f32⟩
  | 98 => ⟨S8x9, .f32⟩
  | 99 => ⟨S8x9, .f32⟩
  | 100 => ⟨S8x128x1, .f32⟩
  | 101 => ⟨S8x128, .f32⟩
  | 102 => ⟨S8x128x1, .f32⟩
  | 103 => ⟨S8x128, .f32⟩
  | 104 => ⟨S8x128, .f32⟩
  | 105 => ⟨S8x128x1, .f32⟩
  | 106 => ⟨S8x128, .f32⟩
  | 107 => ⟨S8x128x1, .f32⟩
  | 108 => ⟨S8x128, .f32⟩
  | 109 => ⟨S8x128, .f32⟩
  | 110 => ⟨S8x128, .f32⟩
  | 111 => ⟨S8x9x1, .f32⟩
  | 112 => ⟨S8x1x128, .f32⟩
  | 113 => ⟨S8x9x128, .f32⟩
  | 114 => ⟨S8x9x128, .f32⟩
  | 115 => ⟨S8x9x128, .f32⟩
  | 116 => ⟨S8x9x128, .f32⟩
  | 117 => ⟨S_, .f32⟩
  | 118 => ⟨S8x9x128, .f32⟩
  | 119 => ⟨S8x9x128, .f32⟩
  | 120 => ⟨S8x9x128, .f32⟩
  | 121 => ⟨S_, .f32⟩
  | 122 => ⟨S8x128, .f32⟩
  | 123 => ⟨S8x1x128, .f32⟩
  | 124 => ⟨S9, .i32⟩
  | 125 => ⟨S1x9x1, .i32⟩
  | 126 => ⟨S8x9x128, .f32⟩
  | 127 => ⟨S8x9x128, .i1⟩
  | _ => ⟨S3x9x4, .f32⟩

abbrev hbmTy0_1 (i : Nat) : BufTy := match i % 128 with
  | 0 => ⟨S_, .i32⟩
  | 1 => ⟨S_, .i32⟩
  | 2 => ⟨S8x9x128, .i32⟩
  | 3 => ⟨S8x9x128, .i32⟩
  | 4 => ⟨S8x9x128, .i32⟩
  | 5 => ⟨S_, .i32⟩
  | 6 => ⟨S8x128, .i32⟩
  | 7 => ⟨S8x100, .i32⟩
  | 8 => ⟨S_, .i32⟩
  | 9 => ⟨S8x1, .i32⟩
  | 10 => ⟨S8x1, .i1⟩
  | 11 => ⟨S_, .i32⟩
  | 12 => ⟨S8x1, .i32⟩
  | 13 => ⟨S8x1, .i32⟩
  | 14 => ⟨S8x1, .i32⟩
  | 15 => ⟨S_, .i32⟩
  | 16 => ⟨S8x100, .i32⟩
  | 17 => ⟨S8x100, .i1⟩
  | 18 => ⟨S_, .i32⟩
  | 19 => ⟨S8x100, .i32⟩
  | 20 => ⟨S8x100, .i32⟩
  | 21 => ⟨S8x100, .i32⟩
  | 22 => ⟨S8x100, .i32⟩
  | 23 => ⟨S8x100x1, .i32⟩
  | 24 => ⟨S8x100x1, .i32⟩
  | 25 => ⟨S8x100x2, .i32⟩
  | 26 => ⟨S8x100x4, .f32⟩
  | 27 => ⟨S_, .i32⟩
  | 28 => ⟨S8x128, .i32⟩
  | 29 => ⟨S8x128, .i32⟩
  | 30 => ⟨S8x128x1, .i32⟩
  | 31 => ⟨S8x128, .i32⟩
  | 32 => ⟨S_, .i32⟩
  | 33 => ⟨S8x128, .i32⟩
  | 34 => ⟨S8x128, .i32⟩
  | 35 => ⟨S8x128, .i32⟩
  | 36 => ⟨S8x128x1, .i32⟩
  | 37 => ⟨S8x128, .i32⟩
  | 38 => ⟨S8x128, .i32⟩
  | 39 => ⟨S8x100x1, .f32⟩
  | 40 => ⟨S8x100, .f32⟩
  | 41 => ⟨S8x100x1, .f32⟩
  | 42 => ⟨S8x100, .f32⟩
  | 43 => ⟨S8x100, .f32⟩
  | 44 => ⟨S_, .f32⟩
  | 45 => ⟨S8x100, .f32⟩
  | 46 => ⟨S8x100, .f32⟩
  | 47 => ⟨S8x100x1, .f32⟩
  | 48 => ⟨S8x100, .f32⟩
  | 49 => ⟨S8x100x1, .f32⟩
  | 50 => ⟨S8x100, .f32⟩
  | 51 => ⟨S8x100, .f32⟩
  | 52 => ⟨S_, .f32⟩
  | 53 => ⟨S8x100, .f32⟩
  | 54 => ⟨S8x100, .f32⟩
  | 55 => ⟨S8x100x1, .f32⟩
  | 56 => ⟨S8x100, .f32⟩
  | 57 => ⟨S8x100x1, .f32⟩
  | 58 => ⟨S8x100, .f32⟩
  | 59 => ⟨S8x100, .f32⟩
  | 60 => ⟨S_, .f32⟩
  | 61 => ⟨S8x100, .f32⟩
  | 62 => ⟨S8x100, .f32⟩
  | 63 => ⟨S8x100x1, .f32⟩
  | 64 => ⟨S8x100, .f32⟩
  | 65 => ⟨S8x100x1, .f32⟩
  | 66 => ⟨S8x100, .f32⟩
  | 67 => ⟨S8x100, .f32⟩
  | 68 => ⟨S_, .f32⟩
  | 69 => ⟨S8x100, .f32⟩
  | 70 => ⟨S8x100, .f32⟩
  | 71 => ⟨S8x100x1, .f32⟩
  | 72 => ⟨S8x100, .f32⟩
  | 73 => ⟨S_, .f32⟩
  | 74 => ⟨S8x100, .f32⟩
  | 75 => ⟨S8x100, .f32⟩
  | 76 => ⟨S8x100, .f32⟩
  | 77 => ⟨S8x100x1, .f32⟩
  | 78 => ⟨S8x100, .f32⟩
  | 79 => ⟨S_, .f32⟩
  | 80 => ⟨S8x100, .f32⟩
  | 81 => ⟨S8x100, .f32⟩
  | 82 => ⟨S8x100, .f32⟩
  | 83 => ⟨S8x100, .i32⟩
  | 84 => ⟨S8x100, .f32⟩
  | 85 => ⟨S8x100, .f32⟩
  | 86 => ⟨S8x100, .i32⟩
  | 87 => ⟨S8x100, .f32⟩
  | 88 => ⟨S8x100, .f32⟩
  | 89 => ⟨S8x100, .f32⟩
  | 90 => ⟨S8x100, .f32⟩
  | 91 => ⟨S8x100, .f32⟩
  | 92 => ⟨S8x100, .f32⟩
  | 93 => ⟨S8x100x1, .f32⟩
  | 94 => ⟨S8x100x1, .f32⟩
  | 95 => ⟨S8x100x1, .f32⟩
  | 96 => ⟨S8x100x1, .f32⟩
  | 97 => ⟨S8x100x4, .f32⟩
  | 98 => ⟨S8x100x1, .f32⟩
  | 99 => ⟨S8x100, .f32⟩
  | 100 => ⟨S8x100, .i32⟩
  | 101 => ⟨S8x100x1, .i32⟩
  | 102 => ⟨S1x1x20, .i32⟩
  | 103 => ⟨S8x100x20, .i32⟩
  | 104 => ⟨S8x100x20, .i32⟩
  | 105 => ⟨S8x100x20, .i1⟩
  | 106 => ⟨S8x100x20, .f32⟩
  | 107 => ⟨S8x128x1, .f32⟩
  | 108 => ⟨S8x128, .f32⟩
  | 109 => ⟨S8x128x1, .f32⟩
  | 110 => ⟨S8x128, .f32⟩
  | 111 => ⟨S8x128, .f32⟩
  | 112 => ⟨S8x128x1, .f32⟩
  | 113 => ⟨S8x128, .f32⟩
  | 114 => ⟨S8x128x1, .f32⟩
  | 115 => ⟨S8x128, .f32⟩
  | 116 => ⟨S8x128, .f32⟩
  | 117 => ⟨S8x128, .f32⟩
  | 118 => ⟨S_, .f32⟩
  | 119 => ⟨S8x128, .f32⟩
  | 120 => ⟨S8x128, .f32⟩
  | 121 => ⟨S8x128, .f32⟩
  | 122 => ⟨S_, .f32⟩
  | 123 => ⟨S8x128, .f32⟩
  | 124 => ⟨S8x128, .f32⟩
  | 125 => ⟨S_, .f32⟩
  | 126 => ⟨S8x128, .f32⟩
  | 127 => ⟨S8x128, .f32⟩
  | _ => ⟨S3x9x4, .f32⟩

abbrev hbmTy0_2 (i : Nat) : BufTy := match i % 128 with
  | 0 => ⟨S_, .f32⟩
  | 1 => ⟨S8x128, .f32⟩
  | 2 => ⟨S8x128, .f32⟩
  | 3 => ⟨S8x128x1, .f32⟩
  | 4 => ⟨S8x128x1, .f32⟩
  | 5 => ⟨S8x128x1, .f32⟩
  | 6 => ⟨S8x128x1, .f32⟩
  | 7 => ⟨S8x128x4, .f32⟩
  | 8 => ⟨S_, .f32⟩
  | 9 => ⟨S8x128x4, .f32⟩
  | 10 => ⟨S8x128x4, .f32⟩
  | 11 => ⟨S8x128x1, .f32⟩
  | 12 => ⟨S8x128, .f32⟩
  | 13 => ⟨S8x128x1, .f32⟩
  | 14 => ⟨S8x128, .f32⟩
  | 15 => ⟨S8x128, .f32⟩
  | 16 => ⟨S8x128x1, .f32⟩
  | 17 => ⟨S8x128, .f32⟩
  | 18 => ⟨S8x128x1, .f32⟩
  | 19 => ⟨S8x128, .f32⟩
  | 20 => ⟨S8x128, .f32⟩
  | 21 => ⟨S_, .f32⟩
  | 22 => ⟨S8x128, .f32⟩
  | 23 => ⟨S8x128, .f32⟩
  | 24 => ⟨S_, .f32⟩
  | 25 => ⟨S8x128, .f32⟩
  | 26 => ⟨S8x128, .f32⟩
  | 27 => ⟨S8x128x1, .f32⟩
  | 28 => ⟨S8x128x1, .f32⟩
  | 29 => ⟨S8x128x2, .f32⟩
  | 30 => ⟨S_, .f32⟩
  | 31 => ⟨S8x128x2, .f32⟩
  | 32 => ⟨S8x128x2, .f32⟩
  | 33 => ⟨S8x128x2, .i32⟩
  | 34 => ⟨S8x1x9x4, .f32⟩
  | 35 => ⟨S8x9x4, .f32⟩
  | 36 => ⟨S8x9x2, .f32⟩
  | 37 => ⟨S8x9x1x2, .f32⟩
  | 38 => ⟨S8x128x2, .f32⟩
  | 39 => ⟨S8x1x128x2, .f32⟩
  | 40 => ⟨S8x9x128x2, .f32⟩
  | 41 => ⟨S8x9x128x2, .f32⟩
  | 42 => ⟨S8x9x128x2, .f32⟩
  | 43 => ⟨S8x9x2, .f32⟩
  | 44 => ⟨S8x9x1x2, .f32⟩
  | 45 => ⟨S8x128x2, .f32⟩
  | 46 => ⟨S8x1x128x2, .f32⟩
  | 47 => ⟨S8x9x128x2, .f32⟩
  | 48 => ⟨S8x9x128x2, .f32⟩
  | 49 => ⟨S8x9x128x2, .f32⟩
  | 50 => ⟨S8x9x128x2, .f32⟩
  | 51 => ⟨S_, .f32⟩
  | 52 => ⟨S8x9x128x2, .f32⟩
  | 53 => ⟨S8x9x128x2, .f32⟩
  | 54 => ⟨S8x9x128x1, .f32⟩
  | 55 => ⟨S8x9x128, .f32⟩
  | 56 => ⟨S8x9x128x1, .f32⟩
  | 57 => ⟨S8x9x128, .f32⟩
  | 58 => ⟨S8x9x128, .f32⟩
  | 59 => ⟨S8x9x1, .f32⟩
  | 60 => ⟨S8x9, .f32⟩
  | 61 => ⟨S8x9x1, .f32⟩
  | 62 => ⟨S8x9, .f32⟩
  | 63 => ⟨S8x9, .f32⟩
  | 64 => ⟨S8x9x1, .f32⟩
  | 65 => ⟨S8x9, .f32⟩
  | 66 => ⟨S8x9x1, .f32⟩
  | 67 => ⟨S8x9, .f32⟩
  | 68 => ⟨S8x9, .f32⟩
  | 69 => ⟨S8x9, .f32⟩
  | 70 => ⟨S8x128x1, .f32⟩
  | 71 => ⟨S8x128, .f32⟩
  | 72 => ⟨S8x128x1, .f32⟩
  | 73 => ⟨S8x128, .f32⟩
  | 74 => ⟨S8x128, .f32⟩
  | 75 => ⟨S8x128x1, .f32⟩
  | 76 => ⟨S8x128, .f32⟩
  | 77 => ⟨S8x128x1, .f32⟩
  | 78 => ⟨S8x128, .f32⟩
  | 79 => ⟨S8x128, .f32⟩
  | 80 => ⟨S8x128, .f32⟩
  | 81 => ⟨S8x9x1, .f32⟩
  | 82 => ⟨S8x1x128, .f32⟩
  | 83 => ⟨S8x9x128, .f32⟩
  | 84 => ⟨S8x9x128, .f32⟩
  | 85 => ⟨S8x9x128, .f32⟩
  | 86 => ⟨S8x9x128, .f32⟩
  | 87 => ⟨S_, .f32⟩
  | 88 => ⟨S8x9x128, .f32⟩
  | 89 => ⟨S8x9x128, .f32⟩
  | 90 => ⟨S8x9x128, .f32⟩
  | 91 => ⟨S_, .f32⟩
  | 92 => ⟨S8x128, .f32⟩
  | 93 => ⟨S8x1x128, .f32⟩
  | 94 => ⟨S9, .i32⟩
  | 95 => ⟨S1x9x1, .i32⟩
  | 96 => ⟨S8x9x128, .f32⟩
  | 97 => ⟨S8x9x128, .i1⟩
  | 98 => ⟨S_, .i32⟩
  | 99 => ⟨S_, .i32⟩
  | 100 => ⟨S8x9x128, .i32⟩
  | 101 => ⟨S8x9x128, .i32⟩
  | 102 => ⟨S8x9x128, .i32⟩
  | 103 => ⟨S_, .i32⟩
  | 104 => ⟨S8x128, .i32⟩
  | 105 => ⟨S8x100, .i32⟩
  | 106 => ⟨S_, .i32⟩
  | 107 => ⟨S8x1, .i32⟩
  | 108 => ⟨S8x1, .i1⟩
  | 109 => ⟨S_, .i32⟩
  | 110 => ⟨S8x1, .i32⟩
  | 111 => ⟨S8x1, .i32⟩
  | 112 => ⟨S8x1, .i32⟩
  | 113 => ⟨S_, .i32⟩
  | 114 => ⟨S8x100, .i32⟩
  | 115 => ⟨S8x100, .i1⟩
  | 116 => ⟨S_, .i32⟩
  | 117 => ⟨S8x100, .i32⟩
  | 118 => ⟨S8x100, .i32⟩
  | 119 => ⟨S8x100, .i32⟩
  | 120 => ⟨S8x100, .i32⟩
  | 121 => ⟨S8x100x1, .i32⟩
  | 122 => ⟨S8x100x1, .i32⟩
  | 123 => ⟨S8x100x2, .i32⟩
  | 124 => ⟨S8x100x4, .f32⟩
  | 125 => ⟨S_, .i32⟩
  | 126 => ⟨S8x128, .i32⟩
  | 127 => ⟨S8x128, .i32⟩
  | _ => ⟨S3x9x4, .f32⟩

abbrev hbmTy0_3 (i : Nat) : BufTy := match i % 128 with
  | 0 => ⟨S8x128x1, .i32⟩
  | 1 => ⟨S8x128, .i32⟩
  | 2 => ⟨S_, .i32⟩
  | 3 => ⟨S8x128, .i32⟩
  | 4 => ⟨S8x128, .i32⟩
  | 5 => ⟨S8x128, .i32⟩
  | 6 => ⟨S8x128x1, .i32⟩
  | 7 => ⟨S8x128, .i32⟩
  | 8 => ⟨S8x128, .i32⟩
  | 9 => ⟨S8x100x1, .f32⟩
  | 10 => ⟨S8x100, .f32⟩
  | 11 => ⟨S8x100x1, .f32⟩
  | 12 => ⟨S8x100, .f32⟩
  | 13 => ⟨S8x100, .f32⟩
  | 14 => ⟨S_, .f32⟩
  | 15 => ⟨S8x100, .f32⟩
  | 16 => ⟨S8x100, .f32⟩
  | 17 => ⟨S8x100x1, .f32⟩
  | 18 => ⟨S8x100, .f32⟩
  | 19 => ⟨S8x100x1, .f32⟩
  | 20 => ⟨S8x100, .f32⟩
  | 21 => ⟨S8x100, .f32⟩
  | 22 => ⟨S_, .f32⟩
  | 23 => ⟨S8x100, .f32⟩
  | 24 => ⟨S8x100, .f32⟩
  | 25 => ⟨S8x100x1, .f32⟩
  | 26 => ⟨S8x100, .f32⟩
  | 27 => ⟨S8x100x1, .f32⟩
  | 28 => ⟨S8x100, .f32⟩
  | 29 => ⟨S8x100, .f32⟩
  | 30 => ⟨S_, .f32⟩
  | 31 => ⟨S8x100, .f32⟩
  | 32 => ⟨S8x100, .f32⟩
  | 33 => ⟨S8x100x1, .f32⟩
  | 34 => ⟨S8x100, .f32⟩
  | 35 => ⟨S8x100x1, .f32⟩
  | 36 => ⟨S8x100, .f32⟩
  | 37 => ⟨S8x100, .f32⟩
  | 38 => ⟨S_, .f32⟩
  | 39 => ⟨S8x100, .f32⟩
  | 40 => ⟨S8x100, .f32⟩
  | 41 => ⟨S8x100x1, .f32⟩
  | 42 => ⟨S8x100, .f32⟩
  | 43 => ⟨S_, .f32⟩
  | 44 => ⟨S8x100, .f32⟩
  | 45 => ⟨S8x100, .f32⟩
  | 46 => ⟨S8x100, .f32⟩
  | 47 => ⟨S8x100x1, .f32⟩
  | 48 => ⟨S8x100, .f32⟩
  | 49 => ⟨S_, .f32⟩
  | 50 => ⟨S8x100, .f32⟩
  | 51 => ⟨S8x100, .f32⟩
  | 52 => ⟨S8x100, .f32⟩
  | 53 => ⟨S8x100, .i32⟩
  | 54 => ⟨S8x100, .f32⟩
  | 55 => ⟨S8x100, .f32⟩
  | 56 => ⟨S8x100, .i32⟩
  | 57 => ⟨S8x100, .f32⟩
  | 58 => ⟨S8x100, .f32⟩
  | 59 => ⟨S8x100, .f32⟩
  | 60 => ⟨S8x100, .f32⟩
  | 61 => ⟨S8x100, .f32⟩
  | 62 => ⟨S8x100, .f32⟩
  | 63 => ⟨S8x100x1, .f32⟩
  | 64 => ⟨S8x100x1, .f32⟩
  | 65 => ⟨S8x100x1, .f32⟩
  | 66 => ⟨S8x100x1, .f32⟩
  | 67 => ⟨S8x100x4, .f32⟩
  | 68 => ⟨S8x100x1, .f32⟩
  | 69 => ⟨S8x100, .f32⟩
  | 70 => ⟨S8x100, .i32⟩
  | 71 => ⟨S8x100x1, .i32⟩
  | 72 => ⟨S1x1x20, .i32⟩
  | 73 => ⟨S8x100x20, .i32⟩
  | 74 => ⟨S8x100x20, .i32⟩
  | 75 => ⟨S8x100x20, .i1⟩
  | 76 => ⟨S8x100x20, .f32⟩
  | 77 => ⟨S8x128x1, .f32⟩
  | 78 => ⟨S8x128, .f32⟩
  | 79 => ⟨S8x128x1, .f32⟩
  | 80 => ⟨S8x128, .f32⟩
  | 81 => ⟨S8x128, .f32⟩
  | 82 => ⟨S8x128x1, .f32⟩
  | 83 => ⟨S8x128, .f32⟩
  | 84 => ⟨S8x128x1, .f32⟩
  | 85 => ⟨S8x128, .f32⟩
  | 86 => ⟨S8x128, .f32⟩
  | 87 => ⟨S8x128, .f32⟩
  | 88 => ⟨S_, .f32⟩
  | 89 => ⟨S8x128, .f32⟩
  | 90 => ⟨S8x128, .f32⟩
  | 91 => ⟨S8x128, .f32⟩
  | 92 => ⟨S_, .f32⟩
  | 93 => ⟨S8x128, .f32⟩
  | 94 => ⟨S8x128, .f32⟩
  | 95 => ⟨S_, .f32⟩
  | 96 => ⟨S8x128, .f32⟩
  | 97 => ⟨S8x128, .f32⟩
  | 98 => ⟨S_, .f32⟩
  | 99 => ⟨S8x128, .f32⟩
  | 100 => ⟨S8x128, .f32⟩
  | 101 => ⟨S8x128x1, .f32⟩
  | 102 => ⟨S8x128x1, .f32⟩
  | 103 => ⟨S8x128x1, .f32⟩
  | 104 => ⟨S8x128x1, .f32⟩
  | 105 => ⟨S8x128x4, .f32⟩
  | 106 => ⟨S_, .f32⟩
  | 107 => ⟨S8x128x4, .f32⟩
  | 108 => ⟨S8x128x4, .f32⟩
  | 109 => ⟨S8x128x1, .f32⟩
  | 110 => ⟨S8x128, .f32⟩
  | 111 => ⟨S8x128x1, .f32⟩
  | 112 => ⟨S8x128, .f32⟩
  | 113 => ⟨S8x128, .f32⟩
  | 114 => ⟨S8x128x1, .f32⟩
  | 115 => ⟨S8x128, .f32⟩
  | 116 => ⟨S8x128x1, .f32⟩
  | 117 => ⟨S8x128, .f32⟩
  | 118 => ⟨S8x128, .f32⟩
  | 119 => ⟨S_, .f32⟩
  | 120 => ⟨S8x128, .f32⟩
  | 121 => ⟨S8x128, .f32⟩
  | 122 => ⟨S_, .f32⟩
  | 123 => ⟨S8x128, .f32⟩
  | 124 => ⟨S8x128, .f32⟩
  | 125 => ⟨S8x128x1, .f32⟩
  | 126 => ⟨S8x128x1, .f32⟩
  | 127 => ⟨S8x128x2, .f32⟩
  | _ => ⟨S3x9x4, .f32⟩

abbrev hbmTy0_4 (i : Nat) : BufTy := match i % 128 with
  | 0 => ⟨S_, .f32⟩
  | 1 => ⟨S8x128x2, .f32⟩
  | 2 => ⟨S8x128x2, .f32⟩
  | 3 => ⟨S8x128x2, .i32⟩
  | 4 => ⟨S8x1x9x4, .f32⟩
  | 5 => ⟨S8x9x4, .f32⟩
  | 6 => ⟨S8x9x2, .f32⟩
  | 7 => ⟨S8x9x1x2, .f32⟩
  | 8 => ⟨S8x128x2, .f32⟩
  | 9 => ⟨S8x1x128x2, .f32⟩
  | 10 => ⟨S8x9x128x2, .f32⟩
  | 11 => ⟨S8x9x128x2, .f32⟩
  | 12 => ⟨S8x9x128x2, .f32⟩
  | 13 => ⟨S8x9x2, .f32⟩
  | 14 => ⟨S8x9x1x2, .f32⟩
  | 15 => ⟨S8x128x2, .f32⟩
  | 16 => ⟨S8x1x128x2, .f32⟩
  | 17 => ⟨S8x9x128x2, .f32⟩
  | 18 => ⟨S8x9x128x2, .f32⟩
  | 19 => ⟨S8x9x128x2, .f32⟩
  | 20 => ⟨S8x9x128x2, .f32⟩
  | 21 => ⟨S_, .f32⟩
  | 22 => ⟨S8x9x128x2, .f32⟩
  | 23 => ⟨S8x9x128x2, .f32⟩
  | 24 => ⟨S8x9x128x1, .f32⟩
  | 25 => ⟨S8x9x128, .f32⟩
  | 26 => ⟨S8x9x128x1, .f32⟩
  | 27 => ⟨S8x9x128, .f32⟩
  | 28 => ⟨S8x9x128, .f32⟩
  | 29 => ⟨S8x9x1, .f32⟩
  | 30 => ⟨S8x9, .f32⟩
  | 31 => ⟨S8x9x1, .f32⟩
  | 32 => ⟨S8x9, .f32⟩
  | 33 => ⟨S8x9, .f32⟩
  | 34 => ⟨S8x9x1, .f32⟩
  | 35 => ⟨S8x9, .f32⟩
  | 36 => ⟨S8x9x1, .f32⟩
  | 37 => ⟨S8x9, .f32⟩
  | 38 => ⟨S8x9, .f32⟩
  | 39 => ⟨S8x9, .f32⟩
  | 40 => ⟨S8x128x1, .f32⟩
  | 41 => ⟨S8x128, .f32⟩
  | 42 => ⟨S8x128x1, .f32⟩
  | 43 => ⟨S8x128, .f32⟩
  | 44 => ⟨S8x128, .f32⟩
  | 45 => ⟨S8x128x1, .f32⟩
  | 46 => ⟨S8x128, .f32⟩
  | 47 => ⟨S8x128x1, .f32⟩
  | 48 => ⟨S8x128, .f32⟩
  | 49 => ⟨S8x128, .f32⟩
  | 50 => ⟨S8x128, .f32⟩
  | 51 => ⟨S8x9x1, .f32⟩
  | 52 => ⟨S8x1x128, .f32⟩
  | 53 => ⟨S8x9x128, .f32⟩
  | 54 => ⟨S8x9x128, .f32⟩
  | 55 => ⟨S8x9x128, .f32⟩
  | 56 => ⟨S8x9x128, .f32⟩
  | 57 => ⟨S_, .f32⟩
  | 58 => ⟨S8x9x128, .f32⟩
  | 59 => ⟨S8x9x128, .f32⟩
  | 60 => ⟨S8x9x128, .f32⟩
  | 61 => ⟨S_, .f32⟩
  | 62 => ⟨S8x128, .f32⟩
  | 63 => ⟨S8x1x128, .f32⟩
  | 64 => ⟨S9, .i32⟩
  | 65 => ⟨S1x9x1, .i32⟩
  | 66 => ⟨S8x9x128, .f32⟩
  | 67 => ⟨S8x9x128, .i1⟩
  | 68 => ⟨S_, .i32⟩
  | 69 => ⟨S_, .i32⟩
  | 70 => ⟨S8x9x128, .i32⟩
  | 71 => ⟨S8x9x128, .i32⟩
  | 72 => ⟨S8x9x128, .i32⟩
  | 73 => ⟨S_, .i32⟩
  | 74 => ⟨S8x128, .i32⟩
  | 75 => ⟨S8x100, .i32⟩
  | 76 => ⟨S_, .i32⟩
  | 77 => ⟨S8x1, .i32⟩
  | 78 => ⟨S8x1, .i1⟩
  | 79 => ⟨S_, .i32⟩
  | 80 => ⟨S8x1, .i32⟩
  | 81 => ⟨S8x1, .i32⟩
  | 82 => ⟨S8x1, .i32⟩
  | 83 => ⟨S_, .i32⟩
  | 84 => ⟨S8x100, .i32⟩
  | 85 => ⟨S8x100, .i1⟩
  | 86 => ⟨S_, .i32⟩
  | 87 => ⟨S8x100, .i32⟩
  | 88 => ⟨S8x100, .i32⟩
  | 89 => ⟨S8x100, .i32⟩
  | 90 => ⟨S8x100, .i32⟩
  | 91 => ⟨S8x100x1, .i32⟩
  | 92 => ⟨S8x100x1, .i32⟩
  | 93 => ⟨S8x100x2, .i32⟩
  | 94 => ⟨S8x100x4, .f32⟩
  | 95 => ⟨S_, .i32⟩
  | 96 => ⟨S8x128, .i32⟩
  | 97 => ⟨S8x128, .i32⟩
  | 98 => ⟨S8x128x1, .i32⟩
  | 99 => ⟨S8x128, .i32⟩
  | 100 => ⟨S_, .i32⟩
  | 101 => ⟨S8x128, .i32⟩
  | 102 => ⟨S8x128, .i32⟩
  | 103 => ⟨S8x128, .i32⟩
  | 104 => ⟨S8x128x1, .i32⟩
  | 105 => ⟨S8x128, .i32⟩
  | 106 => ⟨S8x128, .i32⟩
  | 107 => ⟨S8x100x1, .f32⟩
  | 108 => ⟨S8x100, .f32⟩
  | 109 => ⟨S8x100x1, .f32⟩
  | 110 => ⟨S8x100, .f32⟩
  | 111 => ⟨S8x100, .f32⟩
  | 112 => ⟨S_, .f32⟩
  | 113 => ⟨S8x100, .f32⟩
  | 114 => ⟨S8x100, .f32⟩
  | 115 => ⟨S8x100x1, .f32⟩
  | 116 => ⟨S8x100, .f32⟩
  | 117 => ⟨S8x100x1, .f32⟩
  | 118 => ⟨S8x100, .f32⟩
  | 119 => ⟨S8x100, .f32⟩
  | 120 => ⟨S_, .f32⟩
  | 121 => ⟨S8x100, .f32⟩
  | 122 => ⟨S8x100, .f32⟩
  | 123 => ⟨S8x100x1, .f32⟩
  | 124 => ⟨S8x100, .f32⟩
  | 125 => ⟨S8x100x1, .f32⟩
  | 126 => ⟨S8x100, .f32⟩
  | 127 => ⟨S8x100, .f32⟩
  | _ => ⟨S3x9x4, .f32⟩

abbrev hbmTy0_5 (i : Nat) : BufTy := match i % 128 with
  | 0 => ⟨S_, .f32⟩
  | 1 => ⟨S8x100, .f32⟩
  | 2 => ⟨S8x100, .f32⟩
  | 3 => ⟨S8x100x1, .f32⟩
  | 4 => ⟨S8x100, .f32⟩
  | 5 => ⟨S8x100x1, .f32⟩
  | 6 => ⟨S8x100, .f32⟩
  | 7 => ⟨S8x100, .f32⟩
  | 8 => ⟨S_, .f32⟩
  | 9 => ⟨S8x100, .f32⟩
  | 10 => ⟨S8x100, .f32⟩
  | 11 => ⟨S8x100x1, .f32⟩
  | 12 => ⟨S8x100, .f32⟩
  | 13 => ⟨S_, .f32⟩
  | 14 => ⟨S8x100, .f32⟩
  | 15 => ⟨S8x100, .f32⟩
  | 16 => ⟨S8x100, .f32⟩
  | 17 => ⟨S8x100x1, .f32⟩
  | 18 => ⟨S8x100, .f32⟩
  | 19 => ⟨S_, .f32⟩
  | 20 => ⟨S8x100, .f32⟩
  | 21 => ⟨S8x100, .f32⟩
  | 22 => ⟨S8x100, .f32⟩
  | 23 => ⟨S8x100, .i32⟩
  | 24 => ⟨S8x100, .f32⟩
  | 25 => ⟨S8x100, .f32⟩
  | 26 => ⟨S8x100, .i32⟩
  | 27 => ⟨S8x100, .f32⟩
  | 28 => ⟨S8x100, .f32⟩
  | 29 => ⟨S8x100, .f32⟩
  | 30 => ⟨S8x100, .f32⟩
  | 31 => ⟨S8x100, .f32⟩
  | 32 => ⟨S8x100, .f32⟩
  | 33 => ⟨S8x100x1, .f32⟩
  | 34 => ⟨S8x100x1, .f32⟩
  | 35 => ⟨S8x100x1, .f32⟩
  | 36 => ⟨S8x100x1, .f32⟩
  | 37 => ⟨S8x100x4, .f32⟩
  | 38 => ⟨S8x100x1, .f32⟩
  | 39 => ⟨S8x100, .f32⟩
  | 40 => ⟨S8x100, .i32⟩
  | 41 => ⟨S8x100x1, .i32⟩
  | 42 => ⟨S1x1x20, .i32⟩
  | 43 => ⟨S8x100x20, .i32⟩
  | 44 => ⟨S8x100x20, .i32⟩
  | 45 => ⟨S8x100x20, .i1⟩
  | 46 => ⟨S8x100x20, .f32⟩
  | 47 => ⟨S1x8x128, .i32⟩
  | 48 => ⟨S1x8x128, .i32⟩
  | 49 => ⟨S1x8x128, .i32⟩
  | 50 => ⟨S3x8x128, .i32⟩
  | 51 => ⟨S1x8x100x4, .f32⟩
  | 52 => ⟨S1x8x100x4, .f32⟩
  | 53 => ⟨S1x8x100x4, .f32⟩
  | 54 => ⟨S3x8x100x4, .f32⟩
  | 55 => ⟨S1x8x100x20, .f32⟩
  | 56 => ⟨S1x8x100x20, .f32⟩
  | 57 => ⟨S1x8x100x20, .f32⟩
  | 58 => ⟨S3x8x100x20, .f32⟩
  | _ => ⟨S3x9x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S3x9x4, .f32⟩

abbrev bufTy : (tb : Table) → Fin (tcTables nBuf tb) → BufTy
  | .hbm, ⟨i, _⟩ => hbmTy i
  | _, _ => ⟨S3x9x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_8 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_cst_9 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_c_10 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v113 : Ref sig .tc := ⟨.hbm, 132, rfl⟩
abbrev main_c_11 : Ref sig .tc := ⟨.hbm, 133, rfl⟩
abbrev main_v114 : Ref sig .tc := ⟨.hbm, 134, rfl⟩
abbrev main_v115 : Ref sig .tc := ⟨.hbm, 135, rfl⟩
abbrev main_c_12 : Ref sig .tc := ⟨.hbm, 136, rfl⟩
abbrev main_v116 : Ref sig .tc := ⟨.hbm, 137, rfl⟩
abbrev main_v117 : Ref sig .tc := ⟨.hbm, 138, rfl⟩
abbrev main_c_13 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_c_14 : Ref sig .tc := ⟨.hbm, 143, rfl⟩
abbrev main_v121 : Ref sig .tc := ⟨.hbm, 144, rfl⟩
abbrev main_v122 : Ref sig .tc := ⟨.hbm, 145, rfl⟩
abbrev main_c_15 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_c_16 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_c_17 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_18 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_cst_19 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_cst_20 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_cst_21 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_cst_22 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_cst_23 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_call2_v0 : Ref sig .tc := ⟨.hbm, 229, rfl⟩
abbrev main_call2_v1 : Ref sig .tc := ⟨.hbm, 230, rfl⟩
abbrev main_call2_v2 : Ref sig .tc := ⟨.hbm, 231, rfl⟩
abbrev main_call2_v3 : Ref sig .tc := ⟨.hbm, 232, rfl⟩
abbrev main_call2_v4 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_cst_24 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_cst_25 : Ref sig .tc := ⟨.hbm, 250, rfl⟩
abbrev main_v212 : Ref sig .tc := ⟨.hbm, 251, rfl⟩
abbrev main_v213 : Ref sig .tc := ⟨.hbm, 252, rfl⟩
abbrev main_cst_26 : Ref sig .tc := ⟨.hbm, 253, rfl⟩
abbrev main_v214 : Ref sig .tc := ⟨.hbm, 254, rfl⟩
abbrev main_v215 : Ref sig .tc := ⟨.hbm, 255, rfl⟩
abbrev main_cst_27 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_cst_28 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_cst_29 : Ref sig .tc := ⟨.hbm, 277, rfl⟩
abbrev main_v235 : Ref sig .tc := ⟨.hbm, 278, rfl⟩
abbrev main_v236 : Ref sig .tc := ⟨.hbm, 279, rfl⟩
abbrev main_cst_30 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_cst_31 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_cst_32 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_cst_33 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_cst_34 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_c_35 : Ref sig .tc := ⟨.hbm, 354, rfl⟩
abbrev main_call3_v0 : Ref sig .tc := ⟨.hbm, 355, rfl⟩
abbrev main_call3_v1 : Ref sig .tc := ⟨.hbm, 356, rfl⟩
abbrev main_call3_v2 : Ref sig .tc := ⟨.hbm, 357, rfl⟩
abbrev main_v306 : Ref sig .tc := ⟨.hbm, 358, rfl⟩
abbrev main_c_36 : Ref sig .tc := ⟨.hbm, 359, rfl⟩
abbrev main_v307 : Ref sig .tc := ⟨.hbm, 360, rfl⟩
abbrev main_v308 : Ref sig .tc := ⟨.hbm, 361, rfl⟩
abbrev main_c_37 : Ref sig .tc := ⟨.hbm, 362, rfl⟩
abbrev main_v309 : Ref sig .tc := ⟨.hbm, 363, rfl⟩
abbrev main_v310 : Ref sig .tc := ⟨.hbm, 364, rfl⟩
abbrev main_c_38 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_c_39 : Ref sig .tc := ⟨.hbm, 369, rfl⟩
abbrev main_v314 : Ref sig .tc := ⟨.hbm, 370, rfl⟩
abbrev main_v315 : Ref sig .tc := ⟨.hbm, 371, rfl⟩
abbrev main_c_40 : Ref sig .tc := ⟨.hbm, 372, rfl⟩
abbrev main_v316 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_c_41 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_c_42 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_v337 : Ref sig .tc := ⟨.hbm, 396, rfl⟩
abbrev main_v338 : Ref sig .tc := ⟨.hbm, 397, rfl⟩
abbrev main_cst_43 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_cst_44 : Ref sig .tc := ⟨.hbm, 406, rfl⟩
abbrev main_v346 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_v352 : Ref sig .tc := ⟨.hbm, 413, rfl⟩
abbrev main_cst_45 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩
abbrev main_cst_46 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_cst_47 : Ref sig .tc := ⟨.hbm, 427, rfl⟩
abbrev main_v364 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_cst_48 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_v373 : Ref sig .tc := ⟨.hbm, 438, rfl⟩
abbrev main_v374 : Ref sig .tc := ⟨.hbm, 439, rfl⟩
abbrev main_v375 : Ref sig .tc := ⟨.hbm, 440, rfl⟩
abbrev main_v376 : Ref sig .tc := ⟨.hbm, 441, rfl⟩
abbrev main_v377 : Ref sig .tc := ⟨.hbm, 442, rfl⟩
abbrev main_v378 : Ref sig .tc := ⟨.hbm, 443, rfl⟩
abbrev main_v379 : Ref sig .tc := ⟨.hbm, 444, rfl⟩
abbrev main_v380 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_call4_v0 : Ref sig .tc := ⟨.hbm, 455, rfl⟩
abbrev main_call4_v1 : Ref sig .tc := ⟨.hbm, 456, rfl⟩
abbrev main_call4_v2 : Ref sig .tc := ⟨.hbm, 457, rfl⟩
abbrev main_call4_v3 : Ref sig .tc := ⟨.hbm, 458, rfl⟩
abbrev main_call4_v4 : Ref sig .tc := ⟨.hbm, 459, rfl⟩
abbrev main_v390 : Ref sig .tc := ⟨.hbm, 460, rfl⟩
abbrev main_v391 : Ref sig .tc := ⟨.hbm, 461, rfl⟩
abbrev main_v392 : Ref sig .tc := ⟨.hbm, 462, rfl⟩
abbrev main_v393 : Ref sig .tc := ⟨.hbm, 463, rfl⟩
abbrev main_v394 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_v398 : Ref sig .tc := ⟨.hbm, 468, rfl⟩
abbrev main_v399 : Ref sig .tc := ⟨.hbm, 469, rfl⟩
abbrev main_v400 : Ref sig .tc := ⟨.hbm, 470, rfl⟩
abbrev main_v401 : Ref sig .tc := ⟨.hbm, 471, rfl⟩
abbrev main_cst_49 : Ref sig .tc := ⟨.hbm, 472, rfl⟩
abbrev main_v402 : Ref sig .tc := ⟨.hbm, 473, rfl⟩
abbrev main_v403 : Ref sig .tc := ⟨.hbm, 474, rfl⟩
abbrev main_v404 : Ref sig .tc := ⟨.hbm, 475, rfl⟩
abbrev main_cst_50 : Ref sig .tc := ⟨.hbm, 476, rfl⟩
abbrev main_v405 : Ref sig .tc := ⟨.hbm, 477, rfl⟩
abbrev main_v406 : Ref sig .tc := ⟨.hbm, 478, rfl⟩
abbrev main_cst_51 : Ref sig .tc := ⟨.hbm, 479, rfl⟩
abbrev main_v407 : Ref sig .tc := ⟨.hbm, 480, rfl⟩
abbrev main_v408 : Ref sig .tc := ⟨.hbm, 481, rfl⟩
abbrev main_cst_52 : Ref sig .tc := ⟨.hbm, 482, rfl⟩
abbrev main_v409 : Ref sig .tc := ⟨.hbm, 483, rfl⟩
abbrev main_v410 : Ref sig .tc := ⟨.hbm, 484, rfl⟩
abbrev main_v411 : Ref sig .tc := ⟨.hbm, 485, rfl⟩
abbrev main_v412 : Ref sig .tc := ⟨.hbm, 486, rfl⟩
abbrev main_v413 : Ref sig .tc := ⟨.hbm, 487, rfl⟩
abbrev main_v414 : Ref sig .tc := ⟨.hbm, 488, rfl⟩
abbrev main_v415 : Ref sig .tc := ⟨.hbm, 489, rfl⟩
abbrev main_cst_53 : Ref sig .tc := ⟨.hbm, 490, rfl⟩
abbrev main_v416 : Ref sig .tc := ⟨.hbm, 491, rfl⟩
abbrev main_v417 : Ref sig .tc := ⟨.hbm, 492, rfl⟩
abbrev main_v418 : Ref sig .tc := ⟨.hbm, 493, rfl⟩
abbrev main_v419 : Ref sig .tc := ⟨.hbm, 494, rfl⟩
abbrev main_v420 : Ref sig .tc := ⟨.hbm, 495, rfl⟩
abbrev main_v421 : Ref sig .tc := ⟨.hbm, 496, rfl⟩
abbrev main_v422 : Ref sig .tc := ⟨.hbm, 497, rfl⟩
abbrev main_v423 : Ref sig .tc := ⟨.hbm, 498, rfl⟩
abbrev main_v424 : Ref sig .tc := ⟨.hbm, 499, rfl⟩
abbrev main_v425 : Ref sig .tc := ⟨.hbm, 500, rfl⟩
abbrev main_v426 : Ref sig .tc := ⟨.hbm, 501, rfl⟩
abbrev main_v427 : Ref sig .tc := ⟨.hbm, 502, rfl⟩
abbrev main_cst_54 : Ref sig .tc := ⟨.hbm, 503, rfl⟩
abbrev main_v428 : Ref sig .tc := ⟨.hbm, 504, rfl⟩
abbrev main_v429 : Ref sig .tc := ⟨.hbm, 505, rfl⟩
abbrev main_cst_55 : Ref sig .tc := ⟨.hbm, 506, rfl⟩
abbrev main_v430 : Ref sig .tc := ⟨.hbm, 507, rfl⟩
abbrev main_v431 : Ref sig .tc := ⟨.hbm, 508, rfl⟩
abbrev main_v432 : Ref sig .tc := ⟨.hbm, 509, rfl⟩
abbrev main_v433 : Ref sig .tc := ⟨.hbm, 510, rfl⟩
abbrev main_v434 : Ref sig .tc := ⟨.hbm, 511, rfl⟩
abbrev main_cst_56 : Ref sig .tc := ⟨.hbm, 512, rfl⟩
abbrev main_v435 : Ref sig .tc := ⟨.hbm, 513, rfl⟩
abbrev main_v436 : Ref sig .tc := ⟨.hbm, 514, rfl⟩
abbrev main_v437 : Ref sig .tc := ⟨.hbm, 515, rfl⟩
abbrev main_v438 : Ref sig .tc := ⟨.hbm, 516, rfl⟩
abbrev main_v439 : Ref sig .tc := ⟨.hbm, 517, rfl⟩
abbrev main_v440 : Ref sig .tc := ⟨.hbm, 518, rfl⟩
abbrev main_v441 : Ref sig .tc := ⟨.hbm, 519, rfl⟩
abbrev main_v442 : Ref sig .tc := ⟨.hbm, 520, rfl⟩
abbrev main_v443 : Ref sig .tc := ⟨.hbm, 521, rfl⟩
abbrev main_v444 : Ref sig .tc := ⟨.hbm, 522, rfl⟩
abbrev main_v445 : Ref sig .tc := ⟨.hbm, 523, rfl⟩
abbrev main_v446 : Ref sig .tc := ⟨.hbm, 524, rfl⟩
abbrev main_v447 : Ref sig .tc := ⟨.hbm, 525, rfl⟩
abbrev main_v448 : Ref sig .tc := ⟨.hbm, 526, rfl⟩
abbrev main_v449 : Ref sig .tc := ⟨.hbm, 527, rfl⟩
abbrev main_v450 : Ref sig .tc := ⟨.hbm, 528, rfl⟩
abbrev main_v451 : Ref sig .tc := ⟨.hbm, 529, rfl⟩
abbrev main_v452 : Ref sig .tc := ⟨.hbm, 530, rfl⟩
abbrev main_v453 : Ref sig .tc := ⟨.hbm, 531, rfl⟩
abbrev main_v454 : Ref sig .tc := ⟨.hbm, 532, rfl⟩
abbrev main_cst_57 : Ref sig .tc := ⟨.hbm, 533, rfl⟩
abbrev main_v455 : Ref sig .tc := ⟨.hbm, 534, rfl⟩
abbrev main_v456 : Ref sig .tc := ⟨.hbm, 535, rfl⟩
abbrev main_v457 : Ref sig .tc := ⟨.hbm, 536, rfl⟩
abbrev main_v458 : Ref sig .tc := ⟨.hbm, 537, rfl⟩
abbrev main_v459 : Ref sig .tc := ⟨.hbm, 538, rfl⟩
abbrev main_v460 : Ref sig .tc := ⟨.hbm, 539, rfl⟩
abbrev main_v461 : Ref sig .tc := ⟨.hbm, 540, rfl⟩
abbrev main_v462 : Ref sig .tc := ⟨.hbm, 541, rfl⟩
abbrev main_v463 : Ref sig .tc := ⟨.hbm, 542, rfl⟩
abbrev main_v464 : Ref sig .tc := ⟨.hbm, 543, rfl⟩
abbrev main_v465 : Ref sig .tc := ⟨.hbm, 544, rfl⟩
abbrev main_v466 : Ref sig .tc := ⟨.hbm, 545, rfl⟩
abbrev main_v467 : Ref sig .tc := ⟨.hbm, 546, rfl⟩
abbrev main_v468 : Ref sig .tc := ⟨.hbm, 547, rfl⟩
abbrev main_v469 : Ref sig .tc := ⟨.hbm, 548, rfl⟩
abbrev main_v470 : Ref sig .tc := ⟨.hbm, 549, rfl⟩
abbrev main_v471 : Ref sig .tc := ⟨.hbm, 550, rfl⟩
abbrev main_v472 : Ref sig .tc := ⟨.hbm, 551, rfl⟩
abbrev main_v473 : Ref sig .tc := ⟨.hbm, 552, rfl⟩
abbrev main_v474 : Ref sig .tc := ⟨.hbm, 553, rfl⟩
abbrev main_v475 : Ref sig .tc := ⟨.hbm, 554, rfl⟩
abbrev main_v476 : Ref sig .tc := ⟨.hbm, 555, rfl⟩
abbrev main_v477 : Ref sig .tc := ⟨.hbm, 556, rfl⟩
abbrev main_v478 : Ref sig .tc := ⟨.hbm, 557, rfl⟩
abbrev main_v479 : Ref sig .tc := ⟨.hbm, 558, rfl⟩
abbrev main_v480 : Ref sig .tc := ⟨.hbm, 559, rfl⟩
abbrev main_v481 : Ref sig .tc := ⟨.hbm, 560, rfl⟩
abbrev main_v482 : Ref sig .tc := ⟨.hbm, 561, rfl⟩
abbrev main_v483 : Ref sig .tc := ⟨.hbm, 562, rfl⟩
abbrev main_v484 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_v488 : Ref sig .tc := ⟨.hbm, 567, rfl⟩
abbrev main_v489 : Ref sig .tc := ⟨.hbm, 568, rfl⟩
abbrev main_cst_58 : Ref sig .tc := ⟨.hbm, 569, rfl⟩
abbrev main_v490 : Ref sig .tc := ⟨.hbm, 570, rfl⟩
abbrev main_v491 : Ref sig .tc := ⟨.hbm, 571, rfl⟩
abbrev main_v492 : Ref sig .tc := ⟨.hbm, 572, rfl⟩
abbrev main_cst_59 : Ref sig .tc := ⟨.hbm, 573, rfl⟩
abbrev main_v493 : Ref sig .tc := ⟨.hbm, 574, rfl⟩
abbrev main_v494 : Ref sig .tc := ⟨.hbm, 575, rfl⟩
abbrev main_v495 : Ref sig .tc := ⟨.hbm, 576, rfl⟩
abbrev main_v496 : Ref sig .tc := ⟨.hbm, 577, rfl⟩
abbrev main_v497 : Ref sig .tc := ⟨.hbm, 578, rfl⟩
abbrev main_v498 : Ref sig .tc := ⟨.hbm, 579, rfl⟩
abbrev main_c_60 : Ref sig .tc := ⟨.hbm, 580, rfl⟩
abbrev main_call5_v0 : Ref sig .tc := ⟨.hbm, 581, rfl⟩
abbrev main_call5_v1 : Ref sig .tc := ⟨.hbm, 582, rfl⟩
abbrev main_call5_v2 : Ref sig .tc := ⟨.hbm, 583, rfl⟩
abbrev main_v499 : Ref sig .tc := ⟨.hbm, 584, rfl⟩
abbrev main_c_61 : Ref sig .tc := ⟨.hbm, 585, rfl⟩
abbrev main_v500 : Ref sig .tc := ⟨.hbm, 586, rfl⟩
abbrev main_v501 : Ref sig .tc := ⟨.hbm, 587, rfl⟩
abbrev main_c_62 : Ref sig .tc := ⟨.hbm, 588, rfl⟩
abbrev main_v502 : Ref sig .tc := ⟨.hbm, 589, rfl⟩
abbrev main_v503 : Ref sig .tc := ⟨.hbm, 590, rfl⟩
abbrev main_c_63 : Ref sig .tc := ⟨.hbm, 591, rfl⟩
abbrev main_v504 : Ref sig .tc := ⟨.hbm, 592, rfl⟩
abbrev main_v505 : Ref sig .tc := ⟨.hbm, 593, rfl⟩
abbrev main_v506 : Ref sig .tc := ⟨.hbm, 594, rfl⟩
abbrev main_c_64 : Ref sig .tc := ⟨.hbm, 595, rfl⟩
abbrev main_v507 : Ref sig .tc := ⟨.hbm, 596, rfl⟩
abbrev main_v508 : Ref sig .tc := ⟨.hbm, 597, rfl⟩
abbrev main_c_65 : Ref sig .tc := ⟨.hbm, 598, rfl⟩
abbrev main_v509 : Ref sig .tc := ⟨.hbm, 599, rfl⟩
abbrev main_v510 : Ref sig .tc := ⟨.hbm, 600, rfl⟩
abbrev main_v511 : Ref sig .tc := ⟨.hbm, 601, rfl⟩
abbrev main_v512 : Ref sig .tc := ⟨.hbm, 602, rfl⟩
abbrev main_v513 : Ref sig .tc := ⟨.hbm, 603, rfl⟩
abbrev main_v514 : Ref sig .tc := ⟨.hbm, 604, rfl⟩
abbrev main_v515 : Ref sig .tc := ⟨.hbm, 605, rfl⟩
abbrev main_v516 : Ref sig .tc := ⟨.hbm, 606, rfl⟩
abbrev main_c_66 : Ref sig .tc := ⟨.hbm, 607, rfl⟩
abbrev main_v517 : Ref sig .tc := ⟨.hbm, 608, rfl⟩
abbrev main_v518 : Ref sig .tc := ⟨.hbm, 609, rfl⟩
abbrev main_v519 : Ref sig .tc := ⟨.hbm, 610, rfl⟩
abbrev main_v520 : Ref sig .tc := ⟨.hbm, 611, rfl⟩
abbrev main_c_67 : Ref sig .tc := ⟨.hbm, 612, rfl⟩
abbrev main_v521 : Ref sig .tc := ⟨.hbm, 613, rfl⟩
abbrev main_v522 : Ref sig .tc := ⟨.hbm, 614, rfl⟩
abbrev main_v523 : Ref sig .tc := ⟨.hbm, 615, rfl⟩
abbrev main_v524 : Ref sig .tc := ⟨.hbm, 616, rfl⟩
abbrev main_v525 : Ref sig .tc := ⟨.hbm, 617, rfl⟩
abbrev main_v526 : Ref sig .tc := ⟨.hbm, 618, rfl⟩
abbrev main_v527 : Ref sig .tc := ⟨.hbm, 619, rfl⟩
abbrev main_v528 : Ref sig .tc := ⟨.hbm, 620, rfl⟩
abbrev main_v529 : Ref sig .tc := ⟨.hbm, 621, rfl⟩
abbrev main_v530 : Ref sig .tc := ⟨.hbm, 622, rfl⟩
abbrev main_v531 : Ref sig .tc := ⟨.hbm, 623, rfl⟩
abbrev main_cst_68 : Ref sig .tc := ⟨.hbm, 624, rfl⟩
abbrev main_v532 : Ref sig .tc := ⟨.hbm, 625, rfl⟩
abbrev main_v533 : Ref sig .tc := ⟨.hbm, 626, rfl⟩
abbrev main_v534 : Ref sig .tc := ⟨.hbm, 627, rfl⟩
abbrev main_v535 : Ref sig .tc := ⟨.hbm, 628, rfl⟩
abbrev main_v536 : Ref sig .tc := ⟨.hbm, 629, rfl⟩
abbrev main_v537 : Ref sig .tc := ⟨.hbm, 630, rfl⟩
abbrev main_v538 : Ref sig .tc := ⟨.hbm, 631, rfl⟩
abbrev main_cst_69 : Ref sig .tc := ⟨.hbm, 632, rfl⟩
abbrev main_v539 : Ref sig .tc := ⟨.hbm, 633, rfl⟩
abbrev main_v540 : Ref sig .tc := ⟨.hbm, 634, rfl⟩
abbrev main_v541 : Ref sig .tc := ⟨.hbm, 635, rfl⟩
abbrev main_v542 : Ref sig .tc := ⟨.hbm, 636, rfl⟩
abbrev main_v543 : Ref sig .tc := ⟨.hbm, 637, rfl⟩
abbrev main_v544 : Ref sig .tc := ⟨.hbm, 638, rfl⟩
abbrev main_v545 : Ref sig .tc := ⟨.hbm, 639, rfl⟩
abbrev main_cst_70 : Ref sig .tc := ⟨.hbm, 640, rfl⟩
abbrev main_v546 : Ref sig .tc := ⟨.hbm, 641, rfl⟩
abbrev main_v547 : Ref sig .tc := ⟨.hbm, 642, rfl⟩
abbrev main_v548 : Ref sig .tc := ⟨.hbm, 643, rfl⟩
abbrev main_v549 : Ref sig .tc := ⟨.hbm, 644, rfl⟩
abbrev main_v550 : Ref sig .tc := ⟨.hbm, 645, rfl⟩
abbrev main_v551 : Ref sig .tc := ⟨.hbm, 646, rfl⟩
abbrev main_v552 : Ref sig .tc := ⟨.hbm, 647, rfl⟩
abbrev main_cst_71 : Ref sig .tc := ⟨.hbm, 648, rfl⟩
abbrev main_v553 : Ref sig .tc := ⟨.hbm, 649, rfl⟩
abbrev main_v554 : Ref sig .tc := ⟨.hbm, 650, rfl⟩
abbrev main_v555 : Ref sig .tc := ⟨.hbm, 651, rfl⟩
abbrev main_v556 : Ref sig .tc := ⟨.hbm, 652, rfl⟩
abbrev main_cst_72 : Ref sig .tc := ⟨.hbm, 653, rfl⟩
abbrev main_v557 : Ref sig .tc := ⟨.hbm, 654, rfl⟩
abbrev main_v558 : Ref sig .tc := ⟨.hbm, 655, rfl⟩
abbrev main_v559 : Ref sig .tc := ⟨.hbm, 656, rfl⟩
abbrev main_v560 : Ref sig .tc := ⟨.hbm, 657, rfl⟩
abbrev main_v561 : Ref sig .tc := ⟨.hbm, 658, rfl⟩
abbrev main_cst_73 : Ref sig .tc := ⟨.hbm, 659, rfl⟩
abbrev main_v562 : Ref sig .tc := ⟨.hbm, 660, rfl⟩
abbrev main_v563 : Ref sig .tc := ⟨.hbm, 661, rfl⟩
abbrev main_v564 : Ref sig .tc := ⟨.hbm, 662, rfl⟩
abbrev main_v565 : Ref sig .tc := ⟨.hbm, 663, rfl⟩
abbrev main_v566 : Ref sig .tc := ⟨.hbm, 664, rfl⟩
abbrev main_v567 : Ref sig .tc := ⟨.hbm, 665, rfl⟩
abbrev main_v568 : Ref sig .tc := ⟨.hbm, 666, rfl⟩
abbrev main_v569 : Ref sig .tc := ⟨.hbm, 667, rfl⟩
abbrev main_v570 : Ref sig .tc := ⟨.hbm, 668, rfl⟩
abbrev main_v571 : Ref sig .tc := ⟨.hbm, 669, rfl⟩
abbrev main_v572 : Ref sig .tc := ⟨.hbm, 670, rfl⟩
abbrev main_v573 : Ref sig .tc := ⟨.hbm, 671, rfl⟩
abbrev main_v574 : Ref sig .tc := ⟨.hbm, 672, rfl⟩
abbrev main_v575 : Ref sig .tc := ⟨.hbm, 673, rfl⟩
abbrev main_v576 : Ref sig .tc := ⟨.hbm, 674, rfl⟩
abbrev main_v577 : Ref sig .tc := ⟨.hbm, 675, rfl⟩
abbrev main_v578 : Ref sig .tc := ⟨.hbm, 676, rfl⟩
abbrev main_v579 : Ref sig .tc := ⟨.hbm, 677, rfl⟩
abbrev main_v580 : Ref sig .tc := ⟨.hbm, 678, rfl⟩
abbrev main_v581 : Ref sig .tc := ⟨.hbm, 679, rfl⟩
abbrev main_v582 : Ref sig .tc := ⟨.hbm, 680, rfl⟩
abbrev main_call6_v0 : Ref sig .tc := ⟨.hbm, 681, rfl⟩
abbrev main_call6_v1 : Ref sig .tc := ⟨.hbm, 682, rfl⟩
abbrev main_call6_v2 : Ref sig .tc := ⟨.hbm, 683, rfl⟩
abbrev main_call6_v3 : Ref sig .tc := ⟨.hbm, 684, rfl⟩
abbrev main_call6_v4 : Ref sig .tc := ⟨.hbm, 685, rfl⟩
abbrev main_v583 : Ref sig .tc := ⟨.hbm, 686, rfl⟩
abbrev main_v584 : Ref sig .tc := ⟨.hbm, 687, rfl⟩
abbrev main_v585 : Ref sig .tc := ⟨.hbm, 688, rfl⟩
abbrev main_v586 : Ref sig .tc := ⟨.hbm, 689, rfl⟩
abbrev main_v587 : Ref sig .tc := ⟨.hbm, 690, rfl⟩
abbrev main_v588 : Ref sig .tc := ⟨.hbm, 691, rfl⟩
abbrev main_v589 : Ref sig .tc := ⟨.hbm, 692, rfl⟩
abbrev main_v590 : Ref sig .tc := ⟨.hbm, 693, rfl⟩
abbrev main_v591 : Ref sig .tc := ⟨.hbm, 694, rfl⟩
abbrev main_v592 : Ref sig .tc := ⟨.hbm, 695, rfl⟩
abbrev main_v593 : Ref sig .tc := ⟨.hbm, 696, rfl⟩
abbrev main_v594 : Ref sig .tc := ⟨.hbm, 697, rfl⟩
abbrev main_v595 : Ref sig .tc := ⟨.hbm, 698, rfl⟩

abbrev nD : Nat := 1
abbrev τ : Topo := Topo.v7x

variable {F : FTy → Type} [FloatOps F]
-- ==== Proof.Same.lean ====
module

public import proofs.«01_k».proof.Proof.Gen.Kernel
public import proofs.«01_k».proof.Proof.Gen.KernelIdeal
public import proofs.«01_k».proof.Defs

/-! # The two printed programs are one program

No operation of the kernel is rewritten on the way to its idealization, so the two printed programs run
the same bodies, and what is proved of the one program's run holds of the other's. -/

@[expose] public section

noncomputable section

open Idealize.ShloMosaic

namespace Cert.Proof.K

variable {F : FTy → Type} [FloatOps F] [hK : Cert.Kernel.Facts] [hI : Cert.KernelIdeal.Facts]

set_option maxHeartbeats 0 in
/-- The TensorCore body of the kernel is the TensorCore body of its idealization. -/
theorem bodyT_eq : @Eq (type_of% (@Cert.Kernel.cc0__tc_body F _ hK))
    (@Cert.Kernel.cc0__tc_body F _ hK) (@Cert.KernelIdeal.cc0__tc_body F _ hI) := rfl

set_option maxHeartbeats 0 in
/-- The SparseCore body of the kernel is the SparseCore body of its idealization. -/
theorem bodyS_eq : @Eq (type_of% (@Cert.Kernel.cc1__sc_body F _ hK))
    (@Cert.Kernel.cc1__sc_body F _ hK) (@Cert.KernelIdeal.cc1__sc_body F _ hI) := rfl

open Cert.KernelIdeal Cert.KernelIdeal.Gen in
/-- The kernels' body table, with given bodies on the TensorCore and on the vector subcores. -/
def table (A : type_of% (@Cert.KernelIdeal.cc0__tc_body F _ hI)) (B : type_of% (@Cert.KernelIdeal.cc1__sc_body F _ hI)) : Defs nD τ sig (Elt F) Λ₀
  | .tc, 0, (t, s) => A (win0_0.stage (s 0)) (hstage0_0 0) (win0_1.stage (s 1)) (hstage0_1 0) (win0_2.stage (s 2)) (hstage0_2 0) (win0_3.stage (s 3)) (hstage0_3 0) (win0_4.stage (s 4)) (hstage0_4 0)
  | .scVector c s, 1, _ => SparseCore.onTile hcore1 hsub1 (fun c s => B (fun | 0 => c | 1 => s | ⟨_ + 2, h⟩ => absurd h (Nat.not_lt.2 (Nat.le_add_left _ _))) (Memref.whole main_arg3_scv) (Memref.isWhole_whole _) (Memref.whole main_arg2_scv) (Memref.isWhole_whole _) (Memref.whole main_v3_scv) (Memref.isWhole_whole _) (Memref.whole main_v4_0_scv) (Memref.isWhole_whole _) (Memref.whole main_v4_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 cc1_scoped1 cc1_scoped2) ⟨⟩ c s
  | _, ℓ, a => .op (.call ℓ a) .ret

/-- The idealization's table is the table with its bodies. -/
theorem table_ideal : @Cert.KernelIdeal.defs₀ F _ hI = table (@Cert.KernelIdeal.cc0__tc_body F _ hI) (@Cert.KernelIdeal.cc1__sc_body F _ hI) := rfl

set_option maxHeartbeats 4000000 in
/-- The kernel's table is the table with its bodies. -/
theorem table_kernel : @Eq (type_of% (@Cert.Kernel.defs₀ F _ hK)) (@Cert.Kernel.defs₀ F _ hK)
    (table (hI := hI) (@Cert.Kernel.cc0__tc_body F _ hK) (@Cert.Kernel.cc1__sc_body F _ hK)) := by
  funext p ℓ a
  match p, ℓ with
  | .tc, ⟨0, _⟩ => rfl
  | .tc, ⟨1, _⟩ => rfl
  | .scScalar _, _ => rfl
  | .scVector c s, ⟨0, _⟩ => rfl
  | .scVector c s, ⟨1, _⟩ => rfl

/-- The two programs have the same body tables. -/
theorem defs0_eq : @Eq (type_of% (@Cert.Kernel.defs₀ F _ hK)) (@Cert.Kernel.defs₀ F _ hK) (@Cert.KernelIdeal.defs₀ F _ hI) :=
  (table_kernel (hI := hI)).trans ((congrArg₂ table bodyT_eq bodyS_eq).trans table_ideal.symm)

open Cert.KernelIdeal in
/-- The whole table over a given table of bodies. -/
def whole (D : type_of% (@Cert.KernelIdeal.defs₀ F _ hI)) : type_of% (@Cert.KernelIdeal.defs F _ hI) :=
  sc.defs (Pipeline.defs pcfgs D)

/-- The idealization's whole table. -/
theorem whole_ideal : @Cert.KernelIdeal.defs F _ hI = whole (@Cert.KernelIdeal.defs₀ F _ hI) := rfl

set_option maxHeartbeats 4000000 in
/-- The kernel's whole table. -/
theorem whole_kernel : @Eq (type_of% (@Cert.Kernel.defs F _ hK)) (@Cert.Kernel.defs F _ hK)
    (whole (hI := hI) (@Cert.Kernel.defs₀ F _ hK)) := rfl

/-- The two programs have the same whole tables. -/
theorem defs_eq : @Eq (type_of% (@Cert.Kernel.defs F _ hK)) (@Cert.Kernel.defs F _ hK) (@Cert.KernelIdeal.defs F _ hI) :=
  (whole_kernel (hI := hI)).trans ((congrArg whole defs0_eq).trans whole_ideal.symm)

set_option maxHeartbeats 4000000 in
/-- The two programs have the same threads. -/
theorem threads_eq : @Eq (type_of% (@Cert.Kernel.threads F _ hK)) (@Cert.Kernel.threads F _ hK)
    (@Cert.KernelIdeal.threads F _ hI) := rfl

/-- A run of given threads over a given table. -/
def runs (D : type_of% (@Cert.KernelIdeal.defs F _ hI)) (T : type_of% (@Cert.KernelIdeal.threads F _ hI)) :
    type_of% (θ_run (@Cert.KernelIdeal.defs F _ hI) (@Cert.KernelIdeal.threads F _ hI)) := θ_run D T

/-- The kernel's run as a run of its threads over its table. -/
theorem runs_kernel : @Eq (type_of% (θ_run (@Cert.Kernel.defs F _ hK) (@Cert.Kernel.threads F _ hK)))
    (θ_run (@Cert.Kernel.defs F _ hK) (@Cert.Kernel.threads F _ hK))
    (runs (hI := hI) (@Cert.Kernel.defs F _ hK) (@Cert.Kernel.threads F _ hK)) := rfl

/-- The kernel runs as its idealization does. -/
theorem run_eq : @Eq (type_of% (θ_run (@Cert.Kernel.defs F _ hK) (@Cert.Kernel.threads F _ hK)))
    (θ_run (@Cert.Kernel.defs F _ hK) (@Cert.Kernel.threads F _ hK))
    (θ_run (@Cert.KernelIdeal.defs F _ hI) (@Cert.KernelIdeal.threads F _ hI)) :=
  (runs_kernel (hI := hI)).trans (congrArg₂ runs defs_eq threads_eq)

end Cert.Proof.K
-- ==== Proof.Target.lean ====
module

public import proofs.«01_k».proof.Proof.Gen.ReferenceIdeal.Run
public import Idealize.ShloMosaic.Lib.Pointwise

/-!
The reference, its three levels written as one: the overlaps of the anchors with the boxes, the least anchor of the
largest overlap, the grid cells, the regression targets and the class rows.
-/

@[expose] public section

noncomputable section

namespace Cert.Proof.T

open Cert.ReferenceIdeal Cert.ReferenceIdeal.Gen Cert.ReferenceIdeal.Value
open Idealize.ShloMosaic Idealize.ShloMosaic.TcCoe Idealize.SL.Sem

variable {F : FTy → Type} [FloatOps F]

theorem slicesA : ∀ l : Fin 3, S8x3x9x4.Slices ![0, l.val, 0, 0] S8x1x9x4 := fun l =>
  match l with
  | ⟨0, _⟩ => slices_S8x3x9x4_S8x1x9x4_0_0_0_0
  | ⟨1, _⟩ => slices_S8x3x9x4_S8x1x9x4_0_1_0_0
  | ⟨2, _⟩ => slices_S8x3x9x4_S8x1x9x4_0_2_0_0

/-- The widths and the heights of the boxes. -/
def wid (T : FVec F S8x100x6 .f32) : FVec F S8x100 .f32 :=
  subf (shapeCast _ (extractStridedSlice S8x100x1 ![0, 0, 2] T slices_S8x100x6_S8x100x1_0_0_2) shapeCasts_S8x100x1_S8x100) (shapeCast _
    (extractStridedSlice S8x100x1 ![0, 0, 0] T slices_S8x100x6_S8x100x1_0_0_0) shapeCasts_S8x100x1_S8x100)

def hei (T : FVec F S8x100x6 .f32) : FVec F S8x100 .f32 :=
  subf (shapeCast _ (extractStridedSlice S8x100x1 ![0, 0, 3] T slices_S8x100x6_S8x100x1_0_0_3) shapeCasts_S8x100x1_S8x100) (shapeCast _
    (extractStridedSlice S8x100x1 ![0, 0, 1] T slices_S8x100x6_S8x100x1_0_0_1) shapeCasts_S8x100x1_S8x100)

/-- The boxes moved to the origin and scaled to a level's grid. -/
def box (W H : FVec F S8x100 .f32) (S : BitVec 32) : FVec F S8x100x4 .f32 :=
  Host.divf ((concatenate S8x100x4 2 [⟨S8x100x1, (broadcastInDim S8x100x1 ![0, 1] bcast_S8x100_S8x100x1_0_1 (Host.divf (Host.negf W)
    (broadcastInDim S8x100 ![] bcast_S_S8x100 (constant S_ .f32 0x40000000#32))))⟩, ⟨S8x100x1,
    (broadcastInDim S8x100x1 ![0, 1] bcast_S8x100_S8x100x1_0_1 (Host.divf (Host.negf H) (broadcastInDim S8x100 ![] bcast_S_S8x100
    (constant S_ .f32 0x40000000#32))))⟩, ⟨S8x100x1, (broadcastInDim S8x100x1 ![0, 1] bcast_S8x100_S8x100x1_0_1 (Host.divf W
    (broadcastInDim S8x100 ![] bcast_S_S8x100 (constant S_ .f32 0x40000000#32))))⟩, ⟨S8x100x1,
    (broadcastInDim S8x100x1 ![0, 1] bcast_S8x100_S8x100x1_0_1 (Host.divf H (broadcastInDim S8x100 ![] bcast_S_S8x100
    (constant S_ .f32 0x40000000#32))))⟩] concatenates_S8x100x1_S8x100x1_S8x100x1_S8x100x1_S8x100x4_d2))
    (broadcastInDim S8x100x4 ![] bcast_S_S8x100x4 (constant S_ .f32 S))

/-- The grid cells. -/
def grid (T : FVec F S8x100x6 .f32) (S : BitVec 32) : IVec S8x100x2 32 :=
  fptosi 32 (Host.divf (concatenate S8x100x2 2 [⟨S8x100x1, (broadcastInDim S8x100x1 ![0, 1] bcast_S8x100_S8x100x1_0_1 (Host.divf (wid T)
    (broadcastInDim S8x100 ![] bcast_S_S8x100 (constant S_ .f32 0x40000000#32))))⟩, ⟨S8x100x1,
    (broadcastInDim S8x100x1 ![0, 1] bcast_S8x100_S8x100x1_0_1 (Host.divf (hei T) (broadcastInDim S8x100 ![] bcast_S_S8x100
    (constant S_ .f32 0x40000000#32))))⟩] concatenates_S8x100x1_S8x100x1_S8x100x2_d2) (broadcastInDim S8x100x2 ![] bcast_S_S8x100x2
    (constant S_ .f32 S)))

/-- A level's anchors. -/
def anch (A : FVec F S8x3x9x4 .f32) (l : Fin 3) : FVec F S8x9x4 .f32 :=
  shapeCast _ (extractStridedSlice S8x1x9x4 ![0, l.val, 0, 0] A (slicesA l)) shapeCasts_S8x1x9x4_S8x9x4

/-- The sides of the common parts. -/
def wh (a : FVec F S8x9x4 .f32) (B : FVec F S8x100x4 .f32) : FVec F S8x9x100x2 .f32 :=
  maximumf (subf (minimumf (broadcastInDim S8x9x100x2 ![0, 1, 2, 3] bcast_S8x9x1x2_S8x9x100x2_0_1_2_3
    (broadcastInDim S8x9x1x2 ![0, 1, 3] bcast_S8x9x2_S8x9x1x2_0_1_3 (extractStridedSlice S8x9x2 ![0, 0, 2] a slices_S8x9x4_S8x9x2_0_0_2)))
    (broadcastInDim S8x9x100x2 ![0, 1, 2, 3] bcast_S8x1x100x2_S8x9x100x2_0_1_2_3
    (broadcastInDim S8x1x100x2 ![0, 2, 3] bcast_S8x100x2_S8x1x100x2_0_2_3
    (extractStridedSlice S8x100x2 ![0, 0, 2] B slices_S8x100x4_S8x100x2_0_0_2)))) (maximumf
    (broadcastInDim S8x9x100x2 ![0, 1, 2, 3] bcast_S8x9x1x2_S8x9x100x2_0_1_2_3 (broadcastInDim S8x9x1x2 ![0, 1, 3] bcast_S8x9x2_S8x9x1x2_0_1_3
    (extractStridedSlice S8x9x2 ![0, 0, 0] a slices_S8x9x4_S8x9x2_0_0_0)))
    (broadcastInDim S8x9x100x2 ![0, 1, 2, 3] bcast_S8x1x100x2_S8x9x100x2_0_1_2_3
    (broadcastInDim S8x1x100x2 ![0, 2, 3] bcast_S8x100x2_S8x1x100x2_0_2_3
    (extractStridedSlice S8x100x2 ![0, 0, 0] B slices_S8x100x4_S8x100x2_0_0_0))))) (broadcastInDim S8x9x100x2 ![] bcast_S_S8x9x100x2
    (constant S_ .f32 0x00000000#32))

/-- Their areas. -/
def common (w : FVec F S8x9x100x2 .f32) : FVec F S8x9x100 .f32 :=
  mulf (shapeCast _ (extractStridedSlice S8x9x100x1 ![0, 0, 0, 0] w slices_S8x9x100x2_S8x9x100x1_0_0_0_0) shapeCasts_S8x9x100x1_S8x9x100)
    (shapeCast _ (extractStridedSlice S8x9x100x1 ![0, 0, 0, 1] w slices_S8x9x100x2_S8x9x100x1_0_0_0_1) shapeCasts_S8x9x100x1_S8x9x100)

/-- The overlaps. -/
def over (a : FVec F S8x9x4 .f32) (B : FVec F S8x100x4 .f32) : FVec F S8x9x100 .f32 :=
  Host.divf (common (wh a B)) (maximumf (subf (addf (broadcastInDim S8x9x100 ![0, 1, 2] bcast_S8x9x1_S8x9x100_0_1_2
    (broadcastInDim S8x9x1 ![0, 1] bcast_S8x9_S8x9x1_0_1 (mulf (subf (shapeCast _
    (extractStridedSlice S8x9x1 ![0, 0, 2] a slices_S8x9x4_S8x9x1_0_0_2) shapeCasts_S8x9x1_S8x9) (shapeCast _
    (extractStridedSlice S8x9x1 ![0, 0, 0] a slices_S8x9x4_S8x9x1_0_0_0) shapeCasts_S8x9x1_S8x9)) (subf (shapeCast _
    (extractStridedSlice S8x9x1 ![0, 0, 3] a slices_S8x9x4_S8x9x1_0_0_3) shapeCasts_S8x9x1_S8x9) (shapeCast _
    (extractStridedSlice S8x9x1 ![0, 0, 1] a slices_S8x9x4_S8x9x1_0_0_1) shapeCasts_S8x9x1_S8x9)))))
    (broadcastInDim S8x9x100 ![0, 1, 2] bcast_S8x1x100_S8x9x100_0_1_2 (broadcastInDim S8x1x100 ![0, 2] bcast_S8x100_S8x1x100_0_2 (mulf (subf
    (shapeCast _ (extractStridedSlice S8x100x1 ![0, 0, 2] B slices_S8x100x4_S8x100x1_0_0_2) shapeCasts_S8x100x1_S8x100) (shapeCast _
    (extractStridedSlice S8x100x1 ![0, 0, 0] B slices_S8x100x4_S8x100x1_0_0_0) shapeCasts_S8x100x1_S8x100)) (subf (shapeCast _
    (extractStridedSlice S8x100x1 ![0, 0, 3] B slices_S8x100x4_S8x100x1_0_0_3) shapeCasts_S8x100x1_S8x100) (shapeCast _
    (extractStridedSlice S8x100x1 ![0, 0, 1] B slices_S8x100x4_S8x100x1_0_0_1) shapeCasts_S8x100x1_S8x100)))))) (common (wh a B)))
    (broadcastInDim S8x9x100 ![] bcast_S_S8x9x100 (constant S_ .f32 0x2EDBE6FF#32)))

/-- The largest overlap of each box. -/
def top (o : FVec F S8x9x100 .f32) : FVec F S8x100 .f32 :=
  Host.reduce FloatOps.maximumf o (constant S_ .f32 0xFF800000#32) reducesTo_S8x9x100_S8x100_d1 h_S_

/-- The anchors' numbers where the overlap is the largest, nine elsewhere. -/
def nums (o : FVec F S8x9x100 .f32) : IVec S8x9x100 32 :=
  select (cmpf .oeq o (broadcastInDim S8x9x100 ![0, 1, 2] bcast_S8x1x100_S8x9x100_0_1_2 (broadcastInDim S8x1x100 ![0, 2] bcast_S8x100_S8x1x100_0_2
    (top o)))) (broadcastInDim S8x9x100 ![0, 1, 2] bcast_S1x9x1_S8x9x100_0_1_2 (broadcastInDim S1x9x1 ![1] bcast_S9_S1x9x1_1 (iotaInDim S9 32 0)))
    (broadcastInDim S8x9x100 ![] bcast_S_S8x9x100 (id (constantI S_ 32 9#32)))

/-- The least of these numbers. -/
def amx (o : FVec F S8x9x100 .f32) : IVec S8x100 32 :=
  Host.reduce IntOp.minsi (nums o) (constantI S_ 32 2147483647#32) reducesTo_S8x9x100_S8x100_d1 h_S_

/-- The chosen anchors. -/
def near (a : FVec F S8x9x4 .f32) (g : IVec S8x100 32) (v : IVec S8x1 32) : FVec F S8x100x4 .f32 :=
  Host.gather gather_S8x9x4_S8x100x2_S8x100x4_2_01_n_n_01_2_114 a (concatenate S8x100x2 2 [⟨S8x100x1,
    (broadcastInDim S8x100x1 ![0, 1] bcast_S8x100_S8x100x1_0_1 (broadcastInDim S8x100 ![0, 1] bcast_S8x1_S8x100_0_1 (select (cmpi .slt v
    (broadcastInDim S8x1 ![] bcast_S_S8x1 (constantI S_ 32 0#32))) (addi v (broadcastInDim S8x1 ![] bcast_S_S8x1 (constantI S_ 32 8#32))) v)))⟩,
    ⟨S8x100x1, (broadcastInDim S8x100x1 ![0, 1] bcast_S8x100_S8x100x1_0_1 (select (cmpi .slt g (broadcastInDim S8x100 ![] bcast_S_S8x100
    (constantI S_ 32 0#32))) (addi g (broadcastInDim S8x100 ![] bcast_S_S8x100
    (constantI S_ 32 9#32))) g))⟩] concatenates_S8x100x1_S8x100x1_S8x100x2_d2)

/-- The raised sides of the targets. -/
def gtw (x : FVec F S8x100x6 .f32) : FVec F S8x100 .f32 :=
  maximumf (subf (shapeCast _ (extractStridedSlice S8x100x1 ![0, 0, 2] x slices_S8x100x6_S8x100x1_0_0_2) shapeCasts_S8x100x1_S8x100) (shapeCast _
    (extractStridedSlice S8x100x1 ![0, 0, 0] x slices_S8x100x6_S8x100x1_0_0_0) shapeCasts_S8x100x1_S8x100))
    (broadcastInDim S8x100 ![] bcast_S_S8x100 (constant S_ .f32 0x3F800000#32))

def gth (x : FVec F S8x100x6 .f32) : FVec F S8x100 .f32 :=
  maximumf (subf (shapeCast _ (extractStridedSlice S8x100x1 ![0, 0, 3] x slices_S8x100x6_S8x100x1_0_0_3) shapeCasts_S8x100x1_S8x100) (shapeCast _
    (extractStridedSlice S8x100x1 ![0, 0, 1] x slices_S8x100x6_S8x100x1_0_0_1) shapeCasts_S8x100x1_S8x100))
    (broadcastInDim S8x100 ![] bcast_S_S8x100 (constant S_ .f32 0x3F800000#32))

/-- Their centres. -/
def cx (x : FVec F S8x100x6 .f32) : FVec F S8x100 .f32 :=
  addf (shapeCast _ (extractStridedSlice S8x100x1 ![0, 0, 0] x slices_S8x100x6_S8x100x1_0_0_0) shapeCasts_S8x100x1_S8x100) (mulf
    (broadcastInDim S8x100 ![] bcast_S_S8x100 (constant S_ .f32 0x3F000000#32)) (gtw x))

def cy (x : FVec F S8x100x6 .f32) : FVec F S8x100 .f32 :=
  addf (shapeCast _ (extractStridedSlice S8x100x1 ![0, 0, 1] x slices_S8x100x6_S8x100x1_0_0_1) shapeCasts_S8x100x1_S8x100) (mulf
    (broadcastInDim S8x100 ![] bcast_S_S8x100 (constant S_ .f32 0x3F000000#32)) (gth x))

/-- A level's regression targets. -/
def enc (x : FVec F S8x100x6 .f32) (r : FVec F S8x100x4 .f32) : FVec F S1x8x100x4 .f32 :=
  ((broadcastInDim S1x8x100x4 ![1, 2, 3] bcast_S8x100x4_S1x8x100x4_1_2_3 ((concatenate S8x100x4 2 [⟨S8x100x1,
    ((broadcastInDim S8x100x1 ![0, 1] bcast_S8x100_S8x100x1_0_1 (subf (cx x) (sitofp .f32 (fptosi 32 (cx x))))))⟩, ⟨S8x100x1,
    ((broadcastInDim S8x100x1 ![0, 1] bcast_S8x100_S8x100x1_0_1 (subf (cy x) (sitofp .f32 (fptosi 32 (cy x))))))⟩, ⟨S8x100x1,
    ((broadcastInDim S8x100x1 ![0, 1] bcast_S8x100_S8x100x1_0_1 (Host.log (Host.divf (gtw x) (maximumf (subf (shapeCast _
    (extractStridedSlice S8x100x1 ![0, 0, 2] r slices_S8x100x4_S8x100x1_0_0_2) shapeCasts_S8x100x1_S8x100) (shapeCast _
    (extractStridedSlice S8x100x1 ![0, 0, 0] r slices_S8x100x4_S8x100x1_0_0_0) shapeCasts_S8x100x1_S8x100))
    (broadcastInDim S8x100 ![] bcast_S_S8x100 (constant S_ .f32 0x3F800000#32)))))))⟩, ⟨S8x100x1,
    ((broadcastInDim S8x100x1 ![0, 1] bcast_S8x100_S8x100x1_0_1 (Host.log (Host.divf (gth x) (maximumf (subf (shapeCast _
    (extractStridedSlice S8x100x1 ![0, 0, 3] r slices_S8x100x4_S8x100x1_0_0_3) shapeCasts_S8x100x1_S8x100) (shapeCast _
    (extractStridedSlice S8x100x1 ![0, 0, 1] r slices_S8x100x4_S8x100x1_0_0_1) shapeCasts_S8x100x1_S8x100))
    (broadcastInDim S8x100 ![] bcast_S_S8x100
    (constant S_ .f32 0x3F800000#32)))))))⟩] concatenates_S8x100x1_S8x100x1_S8x100x1_S8x100x1_S8x100x4_d2))))

/-- The class rows. -/
def hot (x : FVec F S8x100x6 .f32) : FVec F S1x8x100x20 .f32 :=
  broadcastInDim S1x8x100x20 ![1, 2, 3] bcast_S8x100x20_S1x8x100x20_1_2_3 (uitofp .f32 (cmpi .eq
    (broadcastInDim S8x100x20 ![0, 1, 2] bcast_S8x100x1_S8x100x20_0_1_2 (broadcastInDim S8x100x1 ![0, 1] bcast_S8x100_S8x100x1_0_1
      (fptosi 32 (shapeCast _ (extractStridedSlice S8x100x1 ![0, 0, 4] x slices_S8x100x6_S8x100x1_0_0_4) shapeCasts_S8x100x1_S8x100))))
    (broadcastInDim S8x100x20 ![0, 1, 2] bcast_S1x1x20_S8x100x20_0_1_2 (iotaInDim S1x1x20 32 2))))

/-- The levels' strides, as literals. -/
def str : Fin 3 → BitVec 32 := ![0x42000000#32, 0x41800000#32, 0x41000000#32]

/-- The anchors for each image, and the images' numbers. -/
def img (A : FVec F S3x9x4 .f32) : FVec F S8x3x9x4 .f32 :=
  broadcastInDim S8x3x9x4 ![0, 1, 2, 3] bcast_S1x3x9x4_S8x3x9x4_0_1_2_3 (broadcastInDim S1x3x9x4 ![1, 2, 3] bcast_S3x9x4_S1x3x9x4_1_2_3 A)
def imgs : IVec S8x1 32 := shapeCast _ (iotaInDim S8 32 0) shapeCasts_S8_S8x1

/-- The chosen anchors' numbers, the columns and the rows of the grid cells, on a level. -/
def lamx (A : FVec F S3x9x4 .f32) (x : FVec F S8x100x6 .f32) (l : Fin 3) : IVec S8x100 32 :=
  amx (over (anch (img A) l) (box (wid x) (hei x) (str l)))
def lcol (x : FVec F S8x100x6 .f32) (l : Fin 3) : IVec S8x100 32 :=
  shapeCast _ (extractStridedSlice S8x100x1 ![0, 0, 0] (grid x (str l)) slices_S8x100x2_S8x100x1_0_0_0) shapeCasts_S8x100x1_S8x100
def llin (x : FVec F S8x100x6 .f32) (l : Fin 3) : IVec S8x100 32 :=
  shapeCast _ (extractStridedSlice S8x100x1 ![0, 0, 1] (grid x (str l)) slices_S8x100x2_S8x100x1_0_0_1) shapeCasts_S8x100x1_S8x100

/-- What a level gives to the regression targets. -/
def lenc (A : FVec F S3x9x4 .f32) (x : FVec F S8x100x6 .f32) (l : Fin 3) : FVec F S1x8x100x4 .f32 :=
  enc x (near (anch (img A) l) (lamx A x l) imgs)

/-- The regression targets and the class rows. -/
def T1 (A : FVec F S3x9x4 .f32) (x : FVec F S8x100x6 .f32) : FVec F S3x8x100x4 .f32 :=
  concatenate S3x8x100x4 0 [⟨S1x8x100x4, lenc A x 0⟩, ⟨S1x8x100x4, lenc A x 1⟩, ⟨S1x8x100x4, lenc A x 2⟩] concatenates_S1x8x100x4_S1x8x100x4_S1x8x100x4_S3x8x100x4_d0
def T2 (x : FVec F S8x100x6 .f32) : FVec F S3x8x100x20 .f32 :=
  concatenate S3x8x100x20 0 [⟨S1x8x100x20, hot x⟩, ⟨S1x8x100x20, hot x⟩, ⟨S1x8x100x20, hot x⟩] concatenates_S1x8x100x20_S1x8x100x20_S1x8x100x20_S3x8x100x20_d0

variable (m : (ℓ : Loc nD τ sig) → Buf (Elt F) ℓ) (ρ : Dev nD → PrngReg)

/-- The run ends with these, and with what the gathers read. -/
theorem run_eq : θ_run defs (onTc (τ := τ) (main (F := F))) ⟨m, fun _ => 0, ρ⟩ fun r => ∀ c : Dev nD,
      r.2.mem ((c.tc : Thread nD τ).loc main_v739) = res_out0 (StableHlo.launchContents m c)
      ∧ r.2.mem ((c.tc : Thread nD τ).loc main_v743) = res_out1 (StableHlo.launchContents m c)
      ∧ r.2.mem ((c.tc : Thread nD τ).loc main_v747) = T2 (m ((c.tc : Thread nD τ).loc main_arg1))
      ∧ r.2.mem ((c.tc : Thread nD τ).loc main_v751) = T1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2.1, (h c).2.2.2.1, (h c).2.2.2.2⟩) (run m ρ)

end Cert.Proof.T

end
-- ==== Proof.Base.lean ====
module

public import proofs.«01_k».proof.Defs
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.ValueIdxRank6
public import Idealize.ShloMosaic.Lib.ValueIdxCoords
public import proofs.«01_k».proof.Proof.Gen.KernelIdeal

/-!
The program as the launch theorem sees it, the buffers of one vector subcore, and what each of them
is to hold: words of the fetched index list, slabs of the two tables, and rows of the two outputs.
-/

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Batch MayWaits pending)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the pipeline's beside the transfers' counters -/

abbrev UH : Type := URounds (GSem nD τ sig) ℕ
abbrev UP : Type := URounds (GSem nD τ sig) Unit
abbrev UU : Type := UH × (UP × Counters)

/-- The resources of this proof: the machine's, with the two kinds of rounds and the transfers' counters. -/
abbrev MM (F : FTy → Type) : Type := MT nD τ sig (HIx 1) (Elt F) ℕ UU ℕ
local notation "𝕄" => MM F

/-- The handshakes' rounds, the left factor. -/
abbrev EH : Emb UH (MM F) := embL
/-- The pipeline's rounds, the middle factor. -/
def EP : Emb UP (MM F) := (Emb.inl : Emb UP (UP × Counters)).trans (embR (A := UH) (B := UP × Counters))
instance EP_landsIn : (EP : Emb UP (MM F)).LandsIn (upEmb : UEmb _ (MM F)) := by unfold EP; infer_instance
/-- The transfers' counters, the right factor. -/
abbrev EC : UEmb Counters (MM F) := countersEmb

/-! ## Words of the index list -/

/-- The word as the packed triple: the anchor, the column, and the row's block of eight and place in it. -/
abbrev wA (w : BitVec 32) : BitVec 32 := IntOp.shrui .vector w 14#32
abbrev wX (w : BitVec 32) : BitVec 32 := IntOp.andi (IntOp.shrui .vector w 7#32) 127#32
abbrev wT (w : BitVec 32) : BitVec 32 := IntOp.andi (IntOp.shrui .vector w 3#32) 15#32
abbrev wS (w : BitVec 32) : BitVec 32 := IntOp.andi w 7#32

/-- The word names a cell of the grid. -/
def InR (w : BitVec 32) : Prop := (wA w).toNat < 9 ∧ (wX w).toNat < 80 ∧ (wT w).toNat < 10

/-- The number of one subcore among the thirty-two. -/
abbrev wid (L : grid1.Coords) : ℕ := 2 * (L 1).val + (L 0).val

/-- Word `n` of a list of 128. -/
abbrev word (wv : S128.Idx → BitVec 32) (n : ℕ) : BitVec 32 := wv (ix1 (Fin.ofNat 128 n))
/-- The sixteen words from `b` on. -/
def ldw (wv : S128.Idx → BitVec 32) (b : ℕ) : IVec S16 32 := fun x => word wv (b + (x 0).val)

/-! ## What the buffers hold -/

/-- Entry of a table of six axes: the subcore's level and image, the word's anchor and column, `row` and `col`. -/
def tgt {n : ℕ} (ct : (⟨6, ![3, 8, 9, 80, 80, n]⟩ : Shape).Idx → Elt F .f32) (L : grid1.Coords) (w : BitVec 32) (row : ℕ) (col : Fin n) : Elt F .f32 :=
  ct (ix6 (Fin.ofNat 3 (wid L / 8)) (Fin.ofNat 8 (wid L % 8)) (Fin.ofNat 9 (wA w).toNat) (Fin.ofNat 80 (wX w).toNat) (Fin.ofNat 80 row) col)

/-- The fetched slabs of chunk `c`: for each of its thirty-two words, the word's block of eight rows. -/
def slabs {n : ℕ} (ct : (⟨6, ![3, 8, 9, 80, 80, n]⟩ : Shape).Idx → Elt F .f32) (L : grid1.Coords) (wv : S128.Idx → BitVec 32) (c : ℕ)
    (y : (⟨3, ![32, 8, n]⟩ : Shape).Idx) : Elt F .f32 :=
  tgt ct L (word wv (32 * c + (y 0).val)) (8 * (wT (word wv (32 * c + (y 0).val))).toNat + (y 1).val) (y 2)

/-- The rows picked: for each of the 128 words, the row it names. -/
def rows {n : ℕ} (ct : (⟨6, ![3, 8, 9, 80, 80, n]⟩ : Shape).Idx → Elt F .f32) (L : grid1.Coords) (wv : S128.Idx → BitVec 32)
    (y : (⟨2, ![128, n]⟩ : Shape).Idx) : Elt F .f32 :=
  tgt ct L (word wv (y 0).val) (8 * (wT (word wv (y 0).val)).toNat + (wS (word wv (y 0).val)).toNat) (y 1)

/-- Sixteen entries of one column of the picked rows, the `k`-th column written. -/
def outVec {n : ℕ} [NeZero n] (f : (⟨2, ![128, n]⟩ : Shape).Idx → Elt F .f32) (k : ℕ) : S16.Idx → Elt F .f32 :=
  fun x => f (ix2 (Fin.ofNat 128 (16 * (k / n) + (x 0).val)) (Fin.ofNat n (k % n)))

/-- The first `k` columns of sixteen written. -/
def Good {n : ℕ} (f : (⟨2, ![128, n]⟩ : Shape).Idx → Elt F .f32) (k : ℕ) (g : (⟨2, ![128, n]⟩ : Shape).Idx → Elt F .f32) : Prop :=
  ∀ y, (y 0).val / 16 * n + (y 1).val < k → g y = f y

/-! ## The thread and its memrefs -/

abbrev cV (L : grid1.Coords) : Fin τ.nSC := (L 0).castLE hcore1
abbrev jV (L : grid1.Coords) : Fin τ.nSub := (L 1).castLE hsub1
/-- The vector subcore at coordinates `L`. -/
abbrev th (d : Dev nD) (L : grid1.Coords) : Thread nD τ := V d (cV L) (jV L)

abbrev clsM : Memref sig .scVector .hbm S3x8x9x80x80x20 .f32 := Memref.whole main_arg3_scv
abbrev regM : Memref sig .scVector .hbm S3x8x9x80x80x5 .f32 := Memref.whole main_arg2_scv
abbrev idxM : Memref sig .scVector .hbm S3072 .i32 := Memref.whole main_v3_scv
abbrev clsoM : Memref sig .scVector .hbm S24x100x20 .f32 := Memref.whole main_v4_0_scv
abbrev regoM : Memref sig .scVector .hbm S24x128x5 .f32 := Memref.whole main_v4_1_scv
abbrev pW : Memref sig .scVector .vmem S128 .i32 := Memref.whole cc1_scratch0
abbrev cD : Memref sig .scVector .vmem S32x8x20 .f32 := Memref.whole cc1_scratch1
abbrev rD : Memref sig .scVector .vmem S32x8x5 .f32 := Memref.whole cc1_scratch2
abbrev cO : Memref sig .scVector .vmem S128x20 .f32 := Memref.whole cc1_scratch3
abbrev rO : Memref sig .scVector .vmem S128x5 .f32 := Memref.whole cc1_scratch4
abbrev semC : SemLoc sig := .dma cc1_scratch5.sem
abbrev semR : SemLoc sig := .dma cc1_scratch6.sem

theorem slab_inb {n : ℕ} (t : Fin 32) : ∀ a, (![t.val, 0, 0] : Fin 3 → ℕ) a + (![1, 8, n] : Fin 3 → ℕ) a ≤ (⟨3, ![32, 8, n]⟩ : Shape).size a := by
  intro a; have := t.isLt; fin_cases a <;> simp <;> omega
/-- Slab `t` of the fetched classifications, and of the fetched regressions. -/
abbrev slabC (t : Fin 32) : Memref sig .scVector .vmem S8x20 .f32 :=
  (cD.slice (Rect.unit (s := S32x8x20) ![t.val, 0, 0] S1x8x20.size (slab_inb t)) (fun _ => rfl)).squeeze S8x20 squeezes_S1x8x20_S8x20
abbrev slabR (t : Fin 32) : Memref sig .scVector .vmem S8x5 .f32 :=
  (rD.slice (Rect.unit (s := S32x8x5) ![t.val, 0, 0] S1x8x5.size (slab_inb t)) (fun _ => rfl)).squeeze S8x5 squeezes_S1x8x5_S8x5

/-- Some share of a whole buffer at known contents. -/
def rd (ℓ : Loc nD τ sig) (f : Buf (Elt F) ℓ) : sProp 𝕄 := iprop(∃ q, ℓ ↦{q} f)

variable [FloatOps F]

section State
variable (d : Dev nD) (L : grid1.Coords) (ct : S3x8x9x80x80x20.Idx → Elt F .f32) (rt : S3x8x9x80x80x5.Idx → Elt F .f32)
  (wv : S128.Idx → BitVec 32) (O : CellTallies nD τ sig (HIx 1)) (W : Waits sig (HIx 1))

abbrev NC : ℕ := (slabC 0).view.dmaCredit
abbrev NR : ℕ := (slabR 0).view.dmaCredit

/-- What copy `t` of chunk `c` delivers: slab `t` at the word's block. -/
def delC (c : ℕ) (t : Fin 32) : sProp 𝕄 := (slabC t).view.loc (th d L) ↦[(slabC t).view.set]{fullShare} (slabs ct L wv c : Buf (Elt F) ((slabC t).view.loc (th d L)))
def delR (c : ℕ) (t : Fin 32) : sProp 𝕄 := (slabR t).view.loc (th d L) ↦[(slabR t).view.set]{fullShare} (slabs rt L wv c : Buf (Elt F) ((slabR t).view.loc (th d L)))

/-- The part of the state that stays: the index words, the two tables to read, what the thread owes. -/
def Common : sProp 𝕄 := iprop(MayWaits (th d L) none O ∗ (pW.view.loc (th d L) ↦{fullShare} (wv : Buf (Elt F) (pW.view.loc (th d L))))
  ∗ rd (clsM.view.loc (th d L)) ct ∗ rd (regM.view.loc (th d L)) rt ∗ ∃ W', ⌜∀ p ∈ W', p ∈ W ∨ p.2 = none⌝ ∗ owes (th d L) O W')

/-- The two outputs with their first `n` and `n'` columns of sixteen written. -/
def Outs (n n' : ℕ) : sProp 𝕄 := iprop((∃ g, ⌜Good (rows ct L wv) n g⌝ ∗ cO.view.loc (th d L) ↦{fullShare} g)
  ∗ (∃ g, ⌜Good (rows rt L wv) n' g⌝ ∗ rO.view.loc (th d L) ↦{fullShare} g))

/-- Chunk `c` being fetched: `k`, `k'` copies started and `u`, `u'` waited for. -/
def Bst (c k k' u u' : ℕ) : sProp 𝕄 := iprop(Common d L ct rt wv O W ∗ Outs d L ct rt wv (40 * c) (10 * c)
  ∗ (bigSep (pending (n := 32) k) fun t => iprop(∃ f, (slabC t).view.loc (th d L) ↦[(slabC t).view.set]{fullShare} f))
  ∗ (bigSep (pending (n := 32) k') fun t => iprop(∃ f, (slabR t).view.loc (th d L) ↦[(slabR t).view.set]{fullShare} f))
  ∗ Batch EC (th d L) semC none NC (delC d L ct wv c) k (u * NC) ∗ Batch EC (th d L) semR none NR (delR d L rt wv c) k' (u' * NR))

/-- Chunk `c` being picked from: its slabs fetched, `n` and `n'` columns of sixteen written. -/
def Sst (c n n' : ℕ) : sProp 𝕄 := iprop(Common d L ct rt wv O W ∗ Outs d L ct rt wv n n'
  ∗ (cD.view.loc (th d L) ↦{fullShare} (slabs ct L wv c : Buf (Elt F) (cD.view.loc (th d L))))
  ∗ (rD.view.loc (th d L) ↦{fullShare} (slabs rt L wv c : Buf (Elt F) (rD.view.loc (th d L))))
  ∗ semVal (th d L, semC) 0 ∗ semVal (th d L, semR) 0)

/-! ### Before the first chunk and after the last -/

/-- The subcore's 128 words of the index list. -/
def words (iv : S3072.Idx → BitVec 32) : S128.Idx → BitVec 32 := fun y => iv (ix1 (Fin.ofNat 3072 (128 * wid L + (y 0).val)))

abbrev sem0 : SemLoc sig := .dma cc1_scoped0.sem
abbrev sem1 : SemLoc sig := .dma cc1_scoped1.sem
abbrev sem2 : SemLoc sig := .dma cc1_scoped2.sem

/-- The subcore's row of each output array. -/
abbrev rowC (h : k1_cond1 L = 1#1) : Memref sig .scVector .hbm S100x20 .f32 :=
  (clsoM.slice (Rect.unit (s := S24x100x20) (k1_off506 L) S1x100x20.size (k1_off506_inb L h)) (fun _ => rfl)).squeeze S100x20 squeezes_S1x100x20_S100x20
abbrev rowR (h : k1_cond1 L = 1#1) : Memref sig .scVector .hbm S128x5 .f32 :=
  (regoM.slice (Rect.unit (s := S24x128x5) (k1_off507 L) S1x128x5.size (k1_off507_inb L h)) (fun _ => rfl)).squeeze S128x5 squeezes_S1x128x5_S128x5
abbrev cO100 : Memref sig .scVector .vmem S100x20 .f32 := cO.slice (Rect.unit (s := S128x20) ![0, 0] S100x20.size inb_S128x20_S100x20_0_0) (fun _ => rfl)

/-- What the two output arrays hold where this subcore writes. -/
def outC : S24x100x20.Idx → Elt F .f32 := fun y => rows ct L wv (ix2 (Fin.ofNat 128 (y 1).val) (y 2))
def outR : S24x128x5.Idx → Elt F .f32 := fun y => rows rt L wv (ix2 (y 1) (y 2))

abbrev NP : ℕ := pW.view.dmaCredit

/-- What stays while the words are fetched. -/
def F00 : sProp 𝕄 := iprop(MayWaits (th d L) none O
  ∗ rd (clsM.view.loc (th d L)) ct ∗ rd (regM.view.loc (th d L)) rt
  ∗ (∃ f, cD.view.loc (th d L) ↦{fullShare} f) ∗ (∃ f, rD.view.loc (th d L) ↦{fullShare} f)
  ∗ (∃ f, cO.view.loc (th d L) ↦{fullShare} f) ∗ (∃ f, rO.view.loc (th d L) ↦{fullShare} f)
  ∗ semVal (th d L, semC) 0 ∗ semVal (th d L, semR) 0 ∗ owes (th d L) O W)

/-- At the start. -/
def F0 (iv : S3072.Idx → BitVec 32) : sProp 𝕄 := iprop(F00 d L ct rt O W
  ∗ rd (idxM.view.loc (th d L)) iv ∗ (∃ f, pW.view.loc (th d L) ↦{fullShare} f) ∗ semVal (th d L, sem0) 0)

/-- The words being fetched. -/
def F1 (iv : S3072.Idx → BitVec 32) : sProp 𝕄 := iprop(F00 d L ct rt O W
  ∗ Batch EC (th d L) sem0 none NP (fun _ : Fin 1 => iprop(pW.view.loc (th d L) ↦{fullShare} (words L iv : Buf (Elt F) (pW.view.loc (th d L))))) 1 0)

/-- What stays while the two outputs are written out. -/
def E0 : sProp 𝕄 := iprop(MayWaits (th d L) none O ∗ (∃ f, pW.view.loc (th d L) ↦{fullShare} f)
  ∗ (∃ f, cD.view.loc (th d L) ↦{fullShare} f) ∗ (∃ f, rD.view.loc (th d L) ↦{fullShare} f)
  ∗ (∃ f, cO.view.loc (th d L) ↦[Finset.univ \ cO100.view.set]{fullShare} f)
  ∗ semVal (th d L, semC) 0 ∗ semVal (th d L, semR) 0 ∗ ∃ W', ⌜∀ p ∈ W', p ∈ W ∨ p.2 = none⌝ ∗ owes (th d L) O W')

/-- The rest of what the thread brings: the first copy's counter, its rows of the outputs, the last copies' counters. -/
def RR (h : k1_cond1 L = 1#1) : sProp 𝕄 := iprop((∃ f, (rowC L h).view.loc (th d L) ↦[(rowC L h).view.set]{fullShare} f)
  ∗ (∃ f, (rowR L h).view.loc (th d L) ↦[(rowR L h).view.set]{fullShare} f) ∗ semVal (th d L, sem1) 0 ∗ semVal (th d L, sem2) 0)

/-- The row of classifications delivered, the scratch it came from given back. -/
def delOC (h : k1_cond1 L = 1#1) : sProp 𝕄 := iprop(((rowC L h).view.loc (th d L) ↦[(rowC L h).view.set]{fullShare} (outC L ct wv : Buf (Elt F) ((rowC L h).view.loc (th d L))))
  ∗ ∃ f, cO.view.loc (th d L) ↦[cO100.view.set]{fullShare} f)
def delOR (h : k1_cond1 L = 1#1) : sProp 𝕄 := iprop(((rowR L h).view.loc (th d L) ↦[(rowR L h).view.set]{fullShare} (outR L rt wv : Buf (Elt F) ((rowR L h).view.loc (th d L))))
  ∗ ∃ f, rO.view.loc (th d L) ↦{fullShare} f)

/-- The classifications being written out. -/
def E1 (h : k1_cond1 L = 1#1) : sProp 𝕄 := iprop(E0 d L O W ∗ (∃ g, ⌜Good (rows rt L wv) 40 g⌝ ∗ rO.view.loc (th d L) ↦{fullShare} g)
  ∗ (∃ f, (rowR L h).view.loc (th d L) ↦[(rowR L h).view.set]{fullShare} f) ∗ semVal (th d L, sem2) 0
  ∗ Batch EC (th d L) sem1 none (rowC L h).view.dmaCredit (fun _ : Fin 1 => delOC d L ct wv h) 1 0)
/-- The classifications written out. -/
def E2 (h : k1_cond1 L = 1#1) : sProp 𝕄 := iprop(E0 d L O W ∗ (∃ g, ⌜Good (rows rt L wv) 40 g⌝ ∗ rO.view.loc (th d L) ↦{fullShare} g)
  ∗ (∃ f, (rowR L h).view.loc (th d L) ↦[(rowR L h).view.set]{fullShare} f) ∗ semVal (th d L, sem2) 0 ∗ semVal (th d L, sem1) 0 ∗ delOC d L ct wv h)
/-- The regressions being written out. -/
def E3 (h : k1_cond1 L = 1#1) : sProp 𝕄 := iprop(E0 d L O W ∗ semVal (th d L, sem1) 0 ∗ delOC d L ct wv h
  ∗ Batch EC (th d L) sem2 none (rowR L h).view.dmaCredit (fun _ : Fin 1 => delOR d L rt wv h) 1 0)
/-- At the end. -/
def E4 (h : k1_cond1 L = 1#1) : sProp 𝕄 := iprop(E0 d L O W ∗ semVal (th d L, sem1) 0 ∗ delOC d L ct wv h
  ∗ semVal (th d L, sem2) 0 ∗ delOR d L rt wv h)

instance (c : ℕ) (t : Fin 32) : Storable (upEmb : UEmb _ 𝕄) (delC d L ct wv c t) := by unfold delC; infer_instance
instance (c : ℕ) (t : Fin 32) : Storable (upEmb : UEmb _ 𝕄) (delR d L rt wv c t) := by unfold delR; infer_instance
instance (h : k1_cond1 L = 1#1) : Storable (upEmb : UEmb _ 𝕄) (delOC d L ct wv h) := by unfold delOC; infer_instance
instance (h : k1_cond1 L = 1#1) : Storable (upEmb : UEmb _ 𝕄) (delOR d L rt wv h) := by unfold delOR; infer_instance

end State

/-- The weakest precondition of a program of the subcore at `L`. -/
abbrev WP (d : Dev nD) (L : grid1.Coords) {α : Type} (p : Prog (TpuEff nD τ sig (Elt F) Λ₀ (.scVector (cV L) (jV L))) α) (Q : α → sProp 𝕄) : sProp 𝕄 :=
  wp frame (wpE (defs₀ (F := F)) 𝒱₀ (th d L) none) Set.univ p Q

end Cert.Proof.K
-- ==== Proof.Facts.lean ====
module

public import proofs.«01_k».proof.Proof.Base

/-!
Facts about the words, the offsets they give, and what the copies, gathers and scatters compute.
-/

@[expose] public section

noncomputable section

namespace Cert.Proof.K

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (Batch MayWaits pending)

variable {F : FTy → Type}

/-! ## The subcore's number and the offsets -/

/-- The subcores that work are the first twenty-four. -/
theorem wid_lt : ∀ L : grid1.Coords, k1_cond1 L = 1#1 → wid L < 24 := by decide +kernel

theorem off_lev : ∀ L : grid1.Coords, wid L < 24 → k1_off2 L 0 0 0 0 = wid L / 8 ∧ k1_off2 L 0 0 0 1 = wid L % 8 := by decide +kernel

theorem mul8 (t : BitVec 32) (ht : t.toNat < 10) : (Scalar.muli t 8#32).toNat = 8 * t.toNat := by
  show (t * 8#32).toNat = _
  rw [BitVec.toNat_mul]; simp; omega

/-- A word's slice begins at its level, image, anchor and column, and eight times its block. -/
theorem off2_eq {L : grid1.Coords} (hL : wid L < 24) (a x t : BitVec 32) (ht : t.toNat < 10) :
    k1_off2 L a x t = ![wid L / 8, wid L % 8, a.toNat, x.toNat, 8 * t.toNat, 0] := by
  funext b
  fin_cases b
  · exact (off_lev L hL).1
  · exact (off_lev L hL).2
  · rfl
  · rfl
  · exact mul8 t ht
  · rfl

theorem off3_eq {L : grid1.Coords} (hL : wid L < 24) (a x t : BitVec 32) (ht : t.toNat < 10) :
    k1_off3 L a x t = ![wid L / 8, wid L % 8, a.toNat, x.toNat, 8 * t.toNat, 0] := off2_eq hL a x t ht

theorem off_inb {n : ℕ} {L : grid1.Coords} (hL : wid L < 24) {a x t : BitVec 32} (ha : a.toNat < 9) (hx : x.toNat < 80) (ht : t.toNat < 10) :
    ∀ b, (![wid L / 8, wid L % 8, a.toNat, x.toNat, 8 * t.toNat, 0] : Fin 6 → ℕ) b + (![1, 1, 1, 1, 8, n] : Fin 6 → ℕ) b
      ≤ (![3, 8, 9, 80, 80, n] : Fin 6 → ℕ) b := by
  intro b
  fin_cases b <;> simp <;> omega

/-- A word in range passes its check. -/
theorem chk_word {L : grid1.Coords} {w : BitVec 32} (hw : InR w) : k1_chk1 L (wA w) (wX w) (wT w) := by
  obtain ⟨ha, hx, ht⟩ := hw
  have h2 : ∀ h : k1_cond1 L = 1#1, ∀ b, k1_off2 L (wA w) (wX w) (wT w) b + S1x1x1x1x8x20.size b ≤ S3x8x9x80x80x20.size b := by
    intro h; rw [off2_eq (wid_lt L h) _ _ _ ht]; exact off_inb (wid_lt L h) ha hx ht
  have h3 : ∀ h : k1_cond1 L = 1#1, ∀ b, k1_off3 L (wA w) (wX w) (wT w) b + S1x1x1x1x8x5.size b ≤ S3x8x9x80x80x5.size b := by
    intro h; rw [off3_eq (wid_lt L h) _ _ _ ht]; exact off_inb (wid_lt L h) ha hx ht
  exact ⟨h2, h3, h2, h3⟩

/-! ## Lanes -/

/-- The lanes' numbers. -/
abbrev lanes : IVec S16 32 := iota .scVector S16 32 [0] iota_S16_d0_w32_scVector

theorem lane_toNat {b : BitVec 32} (hb : b.toNat ≤ 112) (x : S16.Idx) : (addi lanes (broadcast S16 b) x).toNat = (x 0).val + b.toNat := by
  have hx : (x 0).val < 16 := (x 0).isLt
  show (BitVec.ofNat 32 (0 * 16 + (x 0).val) + b).toNat = _
  rw [BitVec.toNat_add, BitVec.toNat_ofNat]
  omega

theorem wS_lt (w : BitVec 32) : (wS w).toNat < 8 := by
  show (w &&& 7#32).toNat < 8
  rw [BitVec.toNat_and]
  exact lt_of_le_of_lt Nat.and_le_right (by decide)

theorem wT_lt (w : BitVec 32) : (wT w).toNat < 16 := by
  show (_ &&& 15#32).toNat < 16
  rw [BitVec.toNat_and]
  exact lt_of_le_of_lt Nat.and_le_right (by decide)

theorem chkC {L : grid1.Coords} {wv : S128.Idx → BitVec 32} {jb mb cc : BitVec 32} {b : ℕ} (hj : jb.toNat ≤ 16) (hm : mb.toNat ≤ 112) (hc : cc.toNat < 20) :
    k1_chk33 L (addi lanes (broadcast S16 jb)) (addi lanes (broadcast S16 mb)) (andi (ldw wv b) (broadcast S16 7#32)) (broadcast S16 cc) := by
  constructor
  · intro _ a x
    have hx : (x 0).val < 16 := (x 0).isLt
    fin_cases a
    · show (addi lanes (broadcast S16 jb) x).toNat < 32
      rw [lane_toNat (by omega)]; omega
    · exact wS_lt _
    · exact hc
  · intro _ a x
    have hx : (x 0).val < 16 := (x 0).isLt
    fin_cases a
    · show (addi lanes (broadcast S16 mb) x).toNat < 128
      rw [lane_toNat (by omega)]; omega
    · exact hc

theorem chkR {L : grid1.Coords} {wv : S128.Idx → BitVec 32} {jb mb cc : BitVec 32} {b : ℕ} (hj : jb.toNat ≤ 16) (hm : mb.toNat ≤ 112) (hc : cc.toNat < 5) :
    k1_chk53 L (addi lanes (broadcast S16 jb)) (addi lanes (broadcast S16 mb)) (andi (ldw wv b) (broadcast S16 7#32)) (broadcast S16 cc) := by
  constructor
  · intro _ a x
    have hx : (x 0).val < 16 := (x 0).isLt
    fin_cases a
    · show (addi lanes (broadcast S16 jb) x).toNat < 32
      rw [lane_toNat (by omega)]; omega
    · exact wS_lt _
    · exact hc
  · intro _ a x
    have hx : (x 0).val < 16 := (x 0).isLt
    fin_cases a
    · show (addi lanes (broadcast S16 mb) x).toNat < 128
      rw [lane_toNat (by omega)]; omega
    · exact hc

/-! ## Gathers -/

theorem gather_val {n : ℕ} [NeZero n] {ct : (⟨6, ![3, 8, 9, 80, 80, n]⟩ : Shape).Idx → Elt F .f32} {L : grid1.Coords} {wv : S128.Idx → BitVec 32}
    {k b c : ℕ} {jb cc : BitVec 32} {hh}
    (hj : jb.toNat = 16 * (k / n % 2)) (hb : b = 16 * (k / n)) (hc : cc.toNat = k % n) (hn : k / (2 * n) = c) (hk : c < 4) :
    loadIdx (s := ⟨3, ![32, 8, n]⟩) (e := .f32) (slabs ct L wv c) ![addi lanes (broadcast S16 jb), andi (ldw wv b) (broadcast S16 7#32), broadcast S16 cc] hh
      = outVec (rows ct L wv) k := by
  funext x
  have hx : (x 0).val < 16 := (x 0).isLt
  have hjx := lane_toNat (b := jb) (by omega) x
  have hk2 : k / n / 2 = c := by rw [Nat.div_div_eq_div_mul, Nat.mul_comm n 2]; exact hn
  have e : 32 * c + ((x 0).val + jb.toNat) = b + (x 0).val := by omega
  have hlt : b + (x 0).val < 128 := by omega
  have hw : word wv (32 * c + (addi lanes (broadcast S16 jb) x).toNat) = word wv (b + (x 0).val) := by rw [hjx, e]
  have hfin : ((Fin.ofNat 128 (16 * (k / n) + (x 0).val)) : Fin 128).val = b + (x 0).val := by
    show (16 * (k / n) + (x 0).val) % 128 = _
    omega
  have hcol : (⟨cc.toNat, hh 2 x⟩ : Fin n) = Fin.ofNat n (k % n) := by
    apply Fin.ext; show cc.toNat = k % n % n; rw [hc, Nat.mod_mod]
  show tgt ct L (word wv (32 * c + (addi lanes (broadcast S16 jb) x).toNat))
      (8 * (wT (word wv (32 * c + (addi lanes (broadcast S16 jb) x).toNat))).toNat + (wS (word wv (b + (x 0).val))).toNat) (⟨cc.toNat, hh 2 x⟩ : Fin n)
    = tgt ct L (word wv ((Fin.ofNat 128 (16 * (k / n) + (x 0).val)) : Fin 128).val)
      (8 * (wT (word wv ((Fin.ofNat 128 (16 * (k / n) + (x 0).val)) : Fin 128).val)).toNat + (wS (word wv ((Fin.ofNat 128 (16 * (k / n) + (x 0).val)) : Fin 128).val)).toNat) (Fin.ofNat n (k % n))
  rw [hw, hfin, hcol]

/-! ## Scatters -/

/-- Conditional writes over a list, in order: where no entry of the list writes, the old value. -/
theorem foldl_keep {ι X A : Type} (p : ι → X → Prop) [∀ k y, Decidable (p k y)] (v : ι → A) (y : X) (l : List ι) :
    ∀ f : X → A, (∀ k ∈ l, ¬ p k y) → l.foldl (fun g k j => if p k j then v k else g j) f y = f y := by
  induction l with
  | nil => intro f _; rfl
  | cons a l ih =>
    intro f h
    rw [List.foldl_cons, ih _ fun k hk => h k (List.mem_cons_of_mem _ hk)]
    exact if_neg (h a List.mem_cons_self)

/-- Where exactly one entry writes, its value. -/
theorem foldl_write {ι X A : Type} (p : ι → X → Prop) [∀ k y, Decidable (p k y)] (v : ι → A) (y : X) (k : ι) (l : List ι) :
    ∀ f : X → A, k ∈ l → p k y → (∀ k', p k' y → k' = k) → l.foldl (fun g k j => if p k j then v k else g j) f y = v k := by
  induction l with
  | nil => intro f h; exact absurd h List.not_mem_nil
  | cons a l ih =>
    intro f h hp hu
    rw [List.foldl_cons]
    by_cases hk : k ∈ l
    · exact ih _ hk hp hu
    · have hka : a = k := by
        rcases List.mem_cons.mp h with h | h
        · exact h.symm
        · exact absurd h hk
      subst hka
      rw [foldl_keep p v y l _ fun k' hk' hp' => hk (hu k' hp' ▸ hk')]
      exact if_pos hp

/-- Lane `l` of a scatter to column `cc` from row `mb` on names the entry `y`. -/
def Hits {n : ℕ} (mb cc : BitVec 32) (hh : ∀ a x, ((![addi lanes (broadcast S16 mb), broadcast S16 cc] : Fin 2 → IVec S16 32) a x).toNat < (⟨2, ![128, n]⟩ : Shape).size a)
    (l : Fin ((![16] : Fin 1 → ℕ) 0)) (y : (⟨2, ![128, n]⟩ : Shape).Idx) : Prop :=
  ∀ a, (y a).val = (idxAt (s := ⟨2, ![128, n]⟩) (t := S16) ![addi lanes (broadcast S16 mb), broadcast S16 cc] hh (Shape.ofLane l) a).val

instance {n : ℕ} {mb cc : BitVec 32} {hh} (l : Fin ((![16] : Fin 1 → ℕ) 0)) (y : (⟨2, ![128, n]⟩ : Shape).Idx) : Decidable (Hits mb cc hh l y) := by
  unfold Hits; infer_instance

/-- A scatter of column `k` leaves one more column written. -/
theorem scatter_good [FloatOps F] {n : ℕ} [NeZero n] {f g : (⟨2, ![128, n]⟩ : Shape).Idx → Elt F .f32} {k : ℕ} {mb cc : BitVec 32} {hh}
    (hn : k = mb.toNat / 16 * n + cc.toNat) (hm : mb.toNat % 16 = 0) (hm' : mb.toNat < 128) (hc : cc.toNat < n) (hg : Good f k g) :
    Good f (k + 1) (storeIdx (s := ⟨2, ![128, n]⟩) (e := .f32) (d := ![16]) g ![addi lanes (broadcast S16 mb), broadcast S16 cc] (outVec f k) (fun _ => 1#1) false hh) := by
  have hb : mb.toNat ≤ 112 := by omega
  intro y hy
  have hy0 : (y 0).val < 128 := (y 0).isLt
  have hy1 : (y 1).val < n := (y 1).isLt
  have hp : ∀ (l : Fin ((![16] : Fin 1 → ℕ) 0)), Hits mb cc hh l y ↔ (y 0).val = l.val + mb.toNat ∧ (y 1).val = cc.toNat := by
    intro l
    have e0 : (idxAt (s := ⟨2, ![128, n]⟩) (t := S16) ![addi lanes (broadcast S16 mb), broadcast S16 cc] hh (Shape.ofLane l) 0).val = l.val + mb.toNat :=
      lane_toNat hb (Shape.ofLane l)
    constructor
    · intro h; exact ⟨(h 0).trans e0, h 1⟩
    · rintro ⟨h0, h1⟩ a
      fin_cases a
      · exact h0.trans e0.symm
      · exact h1
  have hfold : storeIdx (s := ⟨2, ![128, n]⟩) (e := .f32) (d := ![16]) g ![addi lanes (broadcast S16 mb), broadcast S16 cc] (outVec f k) (fun _ => 1#1) false hh
      = (List.finRange ((![16] : Fin 1 → ℕ) 0)).foldl (fun (g : (⟨2, ![128, n]⟩ : Shape).Idx → Elt F .f32) l => fun j =>
        if Hits mb cc hh l j then outVec f k (Shape.ofLane l) else g j) g := by
    unfold storeIdx
    refine List.foldl_ext _ _ g fun a b _ => ?_
    dsimp only
    rw [if_pos (by rfl : (1#1 : BitVec 1) = 1)]
    funext j
    by_cases hb : Hits mb cc hh b j
    · rw [if_pos hb]; exact (if_pos hb).trans (if_neg Bool.false_ne_true)
    · rw [if_neg hb]; exact if_neg hb
  rw [hfold]
  have hkn : k / n = mb.toNat / 16 := by
    rw [hn, Nat.mul_comm, Nat.mul_add_div (Nat.pos_of_neZero n), Nat.div_eq_of_lt hc, Nat.add_zero]
  have hkm : k % n = cc.toNat := by
    rw [hn, Nat.mul_comm, Nat.mul_add_mod, Nat.mod_eq_of_lt hc]
  by_cases hcase : (y 0).val / 16 = mb.toNat / 16 ∧ (y 1).val = cc.toNat
  · obtain ⟨h0, h1⟩ := hcase
    have hl : (y 0).val - mb.toNat < 16 := by omega
    rw [foldl_write (Hits mb cc hh) (fun l : Fin ((![16] : Fin 1 → ℕ) 0) => outVec f k (Shape.ofLane l)) y ⟨(y 0).val - mb.toNat, hl⟩ (List.finRange ((![16] : Fin 1 → ℕ) 0)) g (List.mem_finRange _)
      ((hp _).mpr ⟨by show (y 0).val = (y 0).val - mb.toNat + mb.toNat; omega, h1⟩)
      (fun k' hk' => Fin.ext (by have := ((hp k').mp hk').1; show k'.val = (y 0).val - mb.toNat; omega))]
    show f (ix2 (Fin.ofNat 128 (16 * (k / n) + ((y 0).val - mb.toNat))) (Fin.ofNat n (k % n))) = f y
    congr 1
    rw [eq_ix2 y]
    congr 1
    · apply Fin.ext; show (16 * (k / n) + ((y 0).val - mb.toNat)) % 128 = (y 0).val
      rw [hkn]; omega
    · apply Fin.ext; show k % n % n = (y 1).val
      rw [hkm, Nat.mod_eq_of_lt hc, h1]
  · rw [foldl_keep (Hits mb cc hh) (fun l : Fin ((![16] : Fin 1 → ℕ) 0) => outVec f k (Shape.ofLane l)) y (List.finRange ((![16] : Fin 1 → ℕ) 0)) g fun l _ h => hcase (by
      have := (hp l).mp h; have hl : l.val < 16 := l.isLt; exact ⟨by omega, this.2⟩)]
    refine hg y ?_
    rcases Nat.lt_or_ge ((y 0).val / 16 * n + (y 1).val) k with h | h
    · exact h
    · exfalso
      have he : (y 0).val / 16 * n + (y 1).val = mb.toNat / 16 * n + cc.toNat := by omega
      refine hcase ⟨?_, ?_⟩
      · have := congrArg (· / n) he
        simpa [Nat.mul_comm _ n, Nat.mul_add_div (Nat.pos_of_neZero n), Nat.div_eq_of_lt hc, Nat.div_eq_of_lt hy1] using this
      · have := congrArg (· % n) he
        simpa [Nat.mul_comm _ n, Nat.mul_add_mod, Nat.mod_eq_of_lt hc, Nat.mod_eq_of_lt hy1] using this

/-! ## Slabs -/

/-- Element `y` of slab `t` is `(t, y 0, y 1)` of the fetched array. -/
theorem slab_emb {n : ℕ} (t : ℕ) (ht : t < 32) {hb} (h : (⟨2, ![8, n]⟩ : Shape).numel = (⟨3, ![1, 8, n]⟩ : Shape).numel) (y : (⟨2, ![8, n]⟩ : Shape).Idx) :
    (Rect.unit (s := ⟨3, ![32, 8, n]⟩) ![t, 0, 0] ![1, 8, n] hb).emb (Shape.reshapeEquiv h y) = ix3 ⟨t, ht⟩ (y 0) (y 1) := by
  rw [Shape.reshapeEquiv_eq_of_rowMajor h (y := ix3 (0 : Fin 1) (y 0) (y 1)) (by
    rw [Shape.rowMajor_val_two, Shape.rowMajor_val_three]
    show (0 * 8 + (y 0).val) * n + (y 1).val = (y 0).val * n + (y 1).val
    rw [Nat.zero_mul, Nat.zero_add])]
  funext a
  apply Fin.ext
  fin_cases a
  · show t + 1 * 0 = t; omega
  · show 0 + 1 * (y 0).val = (y 0).val; omega
  · show 0 + 1 * (y 1).val = (y 1).val; omega

/-- What a word's slice of a table reads. -/
theorem src_val {n : ℕ} (ct : (⟨6, ![3, 8, 9, 80, 80, n]⟩ : Shape).Idx → Elt F .f32) {L : grid1.Coords} (hL : wid L < 24) {w : BitVec 32} (hw : InR w) {off : Fin 6 → ℕ} {hb}
    (ho : ![wid L / 8, wid L % 8, (wA w).toNat, (wX w).toNat, 8 * (wT w).toNat, 0] = off)
    (h : (⟨2, ![8, n]⟩ : Shape).numel = (⟨6, ![1, 1, 1, 1, 8, n]⟩ : Shape).numel) (y : (⟨2, ![8, n]⟩ : Shape).Idx) :
    ct ((Rect.unit (s := ⟨6, ![3, 8, 9, 80, 80, n]⟩) off ![1, 1, 1, 1, 8, n] hb).emb (Shape.reshapeEquiv h y))
      = tgt ct L w (8 * (wT w).toNat + (y 0).val) (y 1) := by
  subst ho
  obtain ⟨ha, hx, ht⟩ := hw
  have hy0 : (y 0).val < 8 := (y 0).isLt
  rw [Shape.reshapeEquiv_eq_of_rowMajor h (y := ix6 (0 : Fin 1) (0 : Fin 1) (0 : Fin 1) (0 : Fin 1) (y 0) (y 1)) (by
    rw [Shape.rowMajor_val_two, Shape.rowMajor_val_six]
    show ((((0 * 1 + 0) * 1 + 0) * 1 + 0) * 8 + (y 0).val) * n + (y 1).val = (y 0).val * n + (y 1).val
    simp)]
  show ct _ = ct _
  congr 1
  funext a
  apply Fin.ext
  fin_cases a
  · show wid L / 8 + 1 * 0 = wid L / 8 % 3; omega
  · show wid L % 8 + 1 * 0 = wid L % 8 % 8; omega
  · show (wA w).toNat + 1 * 0 = (wA w).toNat % 9; omega
  · show (wX w).toNat + 1 * 0 = (wX w).toNat % 80; omega
  · show 8 * (wT w).toNat + 1 * (y 0).val = (8 * (wT w).toNat + (y 0).val) % 80; omega
  · show 0 + 1 * (y 1).val = (y 1).val; omega

end Cert.Proof.K
-- ==== Proof.Steps.lean ====
module

public import proofs.«01_k».proof.Proof.Facts

/-!
One step of a vector subcore's program from each state to the next.
-/

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Batch MayWaits pending bigSep_pending_zero bigSep_pending_step wp_dmaBatch wp_waitBatchMulO wp_waitBatchLastO batch_collect' batch_alloc')

variable {F : FTy → Type}
local notation "𝕄" => MM F
variable [FloatOps F]
variable {d : Dev nD} {L : grid1.Coords} {ct : S3x8x9x80x80x20.Idx → Elt F .f32} {rt : S3x8x9x80x80x5.Idx → Elt F .f32}
  {wv : S128.Idx → BitVec 32} {O : CellTallies nD τ sig (HIx 1)} {W : Waits sig (HIx 1)} {R : sProp (MM F)}
variable {α β : Type} {Q : α → sProp (MM F)}

/-- The end of a part. -/
theorem pure_step {S : sProp 𝕄} {x : α} (h : S ⊢ Q x) : S ⊢ WP d L (pure x) Q := by
  rw [WP, wp_pure]; exact h.trans fupd_intro

/-- A part's text in place of its name. -/
theorem enter {S : sProp 𝕄} {p : Prog (TpuEff nD τ sig (Elt F) Λ₀ (.scVector (cV L) (jV L))) β} {k : β → Prog (TpuEff nD τ sig (Elt F) Λ₀ (.scVector (cV L) (jV L))) α}
    (h : S ⊢ WP d L (p >>= k) Q) : S ⊢ WP d L (p >>= k) Q := h

/-- A branch whose condition holds. -/
theorem dite_step {S : sProp 𝕄} {c : Prop} {dec : Decidable c} {t : c → Prog (TpuEff nD τ sig (Elt F) Λ₀ (.scVector (cV L) (jV L))) α}
    {e : ¬c → Prog (TpuEff nD τ sig (Elt F) Λ₀ (.scVector (cV L) (jV L))) α} (hc : c) (h : S ⊢ WP d L (t hc) Q) : S ⊢ WP d L (@dite _ c dec t e) Q := by
  rw [dif_pos hc]; exact h

/-- The start of a part. -/
theorem bind_step {S : sProp 𝕄} {p : Prog (TpuEff nD τ sig (Elt F) Λ₀ (.scVector (cV L) (jV L))) β} {k : β → Prog (TpuEff nD τ sig (Elt F) Λ₀ (.scVector (cV L) (jV L))) α}
    (h : S ⊢ WP d L p fun x => WP d L (k x) Q) : S ⊢ WP d L (p >>= k) Q := by
  rw [WP, wp_bind]; exact h

theorem lift_bind {e : TpuEff nD τ sig (Elt F) Λ₀ (.scVector (cV L) (jV L)) β} {k : β → Prog (TpuEff nD τ sig (Elt F) Λ₀ (.scVector (cV L) (jV L))) α} :
    (Prog.lift e >>= k) = .op e k := by
  simp only [Prog.lift, Prog.bind_op, Prog.bind_ret]

/-- A range check that holds. -/
theorem assume_step {S : sProp 𝕄} {P : Prop} {dec : Decidable P} {k : PLift P → Prog (TpuEff nD τ sig (Elt F) Λ₀ (.scVector (cV L) (jV L))) α}
    (hP : P) (h : S ⊢ WP d L (k ⟨hP⟩) Q) : S ⊢ WP d L (Prog.lift (TpuEff.assume P dec) >>= k) Q := by
  rw [lift_bind]; exact h.trans (wp_assume _ _ _ _ hP)

theorem assumeB {c k k' u u' : ℕ} {P : Prop} {dec : Decidable P} {kk : PLift P → Prog (TpuEff nD τ sig (Elt F) Λ₀ (.scVector (cV L) (jV L))) α}
    (hw : ∀ n, InR (word wv n))
    (hP : k1_chk1 L (wA (word wv (32 * c + k))) (wX (word wv (32 * c + k))) (wT (word wv (32 * c + k))) → P)
    (h : iprop(R ∗ Bst d L ct rt wv O W c k k' u u') ⊢ WP d L (kk ⟨hP (chk_word (hw _))⟩) Q) :
    iprop(R ∗ Bst d L ct rt wv O W c k k' u u') ⊢ WP d L (Prog.lift (TpuEff.assume P dec) >>= kk) Q := assume_step _ h

theorem load_val {b : ℕ} {hb} : pW.view.readAt (Elt F) (Rect.unit (s := S128) ![b] S16.size hb).toLoadRect (wv : Buf (Elt F) (pW.view.loc (th d L))) = ldw wv b := by
  funext x
  rw [View.readAt_apply, View.read_apply]
  have hx : (x 0).val < 16 := (x 0).isLt
  have hb0 : b + 16 ≤ 128 := hb 0
  show wv _ = wv (ix1 (Fin.ofNat 128 (b + (x 0).val)))
  congr 1
  funext a
  obtain rfl : a = (0 : Fin 1) := Subsingleton.elim (α := Fin 1) _ _
  apply Fin.ext
  show b + 1 * (x 0).val = (b + (x 0).val) % 128
  omega

theorem loadB {c k k' u u' b : ℕ} {hb hl} {kk : (S16.Idx → BitVec 32) → Prog (TpuEff nD τ sig (Elt F) Λ₀ (.scVector (cV L) (jV L))) α}
    (h : iprop(R ∗ Bst d L ct rt wv O W c k k' u u') ⊢ WP d L (kk (ldw wv b)) Q) :
    iprop(R ∗ Bst d L ct rt wv O W c k k' u u') ⊢ WP d L (Prog.lift (TpuEff.load pW (Rect.unit (s := S128) ![b] S16.size hb).toLoadRect hl) >>= kk) Q := by
  rw [lift_bind]
  unfold Bst Common at *
  iintro ⟨HR, ⟨⟨#Hmw, Hp, Hrest⟩, Hst⟩⟩
  iapply (wp_load (m := pW) 𝒱₀ (th d L) none Set.univ (S := Finset.univ) (q := fullShare) (f := (wv : Buf (Elt F) (pW.view.loc (th d L)))) (Finset.subset_univ _)) $$ Hp
  iintro Hp
  rw [load_val]
  iapply h
  isplitl [HR]; · iexact HR
  isplitl [Hp Hrest]
  · isplitr; · iexact Hmw
    isplitl [Hp]; · iexact Hp
    iexact Hrest
  iexact Hst

theorem loadS {c n n' b : ℕ} {hb hl} {kk : (S16.Idx → BitVec 32) → Prog (TpuEff nD τ sig (Elt F) Λ₀ (.scVector (cV L) (jV L))) α}
    (h : iprop(R ∗ Sst d L ct rt wv O W c n n') ⊢ WP d L (kk (ldw wv b)) Q) :
    iprop(R ∗ Sst d L ct rt wv O W c n n') ⊢ WP d L (Prog.lift (TpuEff.load pW (Rect.unit (s := S128) ![b] S16.size hb).toLoadRect hl) >>= kk) Q := by
  rw [lift_bind]
  unfold Sst Common at *
  iintro ⟨HR, ⟨⟨#Hmw, Hp, Hrest⟩, Hst⟩⟩
  iapply (wp_load (m := pW) 𝒱₀ (th d L) none Set.univ (S := Finset.univ) (q := fullShare) (f := (wv : Buf (Elt F) (pW.view.loc (th d L)))) (Finset.subset_univ _)) $$ Hp
  iintro Hp
  rw [load_val]
  iapply h
  isplitl [HR]; · iexact HR
  isplitl [Hp Hrest]
  · isplitr; · iexact Hmw
    isplitl [Hp]; · iexact Hp
    iexact Hrest
  iexact Hst

/-- From some share of a buffer, a share of some of its elements beside. -/
theorem rd_take {ℓ : Loc nD τ sig} {f : Buf (Elt F) ℓ} (I : Finset (Idx ℓ)) :
    (rd ℓ f : sProp 𝕄) ⊢ iprop(rd ℓ f ∗ ∃ q, ℓ ↦[I]{q} f) := by
  unfold rd
  iintro ⟨%q, H⟩
  ihave H' := (pointsTo_share (PosShare.mem_left_op_right q)).1 $$ H
  icases H' with ⟨H1, H2⟩
  ihave H2' := (pointsTo_split_subset (Finset.subset_univ I)).1 $$ H2
  icases H2' with ⟨H2, -⟩
  isplitl [H1]
  · iexists _; iexact H1
  · iexists _; iexact H2

theorem delivC {c t : ℕ} {off} {hoff} {hb h1 h2 h3 h4} {q : PosShare TreeShare} {fd : S32x8x20.Idx → Elt F .f32}
    (hL : wid L < 24) (hw : ∀ n, InR (word wv n)) (ht : t < 32)
    (ho : k1_off2 L (wA (word wv (32 * c + t))) (wX (word wv (32 * c + t))) (wT (word wv (32 * c + t))) = off) :
    iprop(((((cD.slice (Rect.unit (s := S32x8x20) ![t, 0, 0] S1x8x20.size hb) h3).squeeze S8x20 h4).view.loc (th d L))
        ↦[((cD.slice (Rect.unit (s := S32x8x20) ![t, 0, 0] S1x8x20.size hb) h3).squeeze S8x20 h4).view.set]{fullShare}
          (((cD.slice (Rect.unit (s := S32x8x20) ![t, 0, 0] S1x8x20.size hb) h3).squeeze S8x20 h4).view.write (Elt F) fd
            (ReadAs.same.apply (((clsM.slice (Rect.unit (s := S3x8x9x80x80x20) off S1x1x1x1x8x20.size hoff) h1).squeeze S8x20 h2).view.read (Elt F) ct)) Finset.univ))
      ∗ (((clsM.slice (Rect.unit (s := S3x8x9x80x80x20) off S1x1x1x1x8x20.size hoff) h1).squeeze S8x20 h2).view.loc (th d L)
        ↦[((clsM.slice (Rect.unit (s := S3x8x9x80x80x20) off S1x1x1x1x8x20.size hoff) h1).squeeze S8x20 h2).view.set]{q} (ct : Buf (Elt F) (clsM.view.loc (th d L)))))
      ⊢ (delC d L ct wv c ⟨t, ht⟩ : sProp 𝕄) := by
  iintro ⟨H, -⟩
  unfold delC
  refine Entails.of_eq (pointsTo_congr fun i hi => ?_)
  obtain ⟨y, -, rfl⟩ := Finset.mem_map.mp hi
  refine (View.write_emb_of_mem _ _ (Finset.mem_univ y)).trans ?_
  have ho' := (off2_eq hL _ _ _ (hw (32 * c + t)).2.2).symm.trans ho
  refine (src_val ct hL (hw (32 * c + t)) ho' (by decide) y).trans ?_
  have he : ((cD.slice (Rect.unit (s := S32x8x20) ![t, 0, 0] S1x8x20.size hb) h3).squeeze S8x20 h4).view.emb y = ix3 ⟨t, ht⟩ (y 0) (y 1) := slab_emb t ht (by decide) y
  rw [he]
  rfl

theorem delivR {c t : ℕ} {off} {hoff} {hb h1 h2 h3 h4} {q : PosShare TreeShare} {fd : S32x8x5.Idx → Elt F .f32}
    (hL : wid L < 24) (hw : ∀ n, InR (word wv n)) (ht : t < 32)
    (ho : k1_off3 L (wA (word wv (32 * c + t))) (wX (word wv (32 * c + t))) (wT (word wv (32 * c + t))) = off) :
    iprop(((((rD.slice (Rect.unit (s := S32x8x5) ![t, 0, 0] S1x8x5.size hb) h3).squeeze S8x5 h4).view.loc (th d L))
        ↦[((rD.slice (Rect.unit (s := S32x8x5) ![t, 0, 0] S1x8x5.size hb) h3).squeeze S8x5 h4).view.set]{fullShare}
          (((rD.slice (Rect.unit (s := S32x8x5) ![t, 0, 0] S1x8x5.size hb) h3).squeeze S8x5 h4).view.write (Elt F) fd
            (ReadAs.same.apply (((regM.slice (Rect.unit (s := S3x8x9x80x80x5) off S1x1x1x1x8x5.size hoff) h1).squeeze S8x5 h2).view.read (Elt F) rt)) Finset.univ))
      ∗ (((regM.slice (Rect.unit (s := S3x8x9x80x80x5) off S1x1x1x1x8x5.size hoff) h1).squeeze S8x5 h2).view.loc (th d L)
        ↦[((regM.slice (Rect.unit (s := S3x8x9x80x80x5) off S1x1x1x1x8x5.size hoff) h1).squeeze S8x5 h2).view.set]{q} (rt : Buf (Elt F) (regM.view.loc (th d L)))))
      ⊢ (delR d L rt wv c ⟨t, ht⟩ : sProp 𝕄) := by
  iintro ⟨H, -⟩
  unfold delR
  refine Entails.of_eq (pointsTo_congr fun i hi => ?_)
  obtain ⟨y, -, rfl⟩ := Finset.mem_map.mp hi
  refine (View.write_emb_of_mem _ _ (Finset.mem_univ y)).trans ?_
  have ho' := (off3_eq hL _ _ _ (hw (32 * c + t)).2.2).symm.trans ho
  refine (src_val rt hL (hw (32 * c + t)) ho' (by decide) y).trans ?_
  have he : ((rD.slice (Rect.unit (s := S32x8x5) ![t, 0, 0] S1x8x5.size hb) h3).squeeze S8x5 h4).view.emb y = ix3 ⟨t, ht⟩ (y 0) (y 1) := slab_emb t ht (by decide) y
  rw [he]
  rfl

theorem issueC {c k t k' u u' : ℕ} {off} {hoff} {hb h1 h2 h3 h4 w1 w2 w3} {kk : PUnit → Prog (TpuEff nD τ sig (Elt F) Λ₀ (.scVector (cV L) (jV L))) α}
    (hL : wid L < 24) (hw : ∀ n, InR (word wv n)) (hkt : k = t) (ht : t < 32) (hu : u ≤ t)
    (ho : k1_off2 L (wA (word wv (32 * c + t))) (wX (word wv (32 * c + t))) (wT (word wv (32 * c + t))) = off)
    (h : iprop(R ∗ Bst d L ct rt wv O W c (t + 1) k' u u') ⊢ WP d L (kk ⟨⟩) Q) :
    iprop(R ∗ Bst d L ct rt wv O W c k k' u u') ⊢ WP d L (Prog.lift (.enqueueDma ((clsM.slice (Rect.unit (s := S3x8x9x80x80x20) off S1x1x1x1x8x20.size hoff) h1).squeeze S8x20 h2)
      (.here ((cD.slice (Rect.unit (s := S32x8x20) ![t, 0, 0] S1x8x20.size hb) h3).squeeze S8x20 h4)) (.dma cc1_scratch5.sem) w1 w2 w3) >>= kk) Q := by
  rw [lift_bind]
  subst hkt
  unfold Bst Common at *
  iintro ⟨HR, ⟨⟨#Hmw, Hp, Hct, Hrt, HO⟩, Hout, HsC, HsR, HbC, HbR⟩⟩
  ihave Htk := (rd_take (F := F) ((clsM.slice (Rect.unit (s := S3x8x9x80x80x20) off S1x1x1x1x8x20.size hoff) h1).squeeze S8x20 h2).view.set) $$ Hct
  icases Htk with ⟨Hct, %q, Hsrc⟩
  ihave Hst := (Entails.of_eq (bigSep_pending_step _ _ ht)) $$ HsC
  icases Hst with ⟨⟨%f, Hd⟩, HsC⟩
  iapply (wp_dmaBatch EC 𝒱₀ (th d L) none (hsrc := w1) (hdst := w2) (hsem := w3) none NC rfl (subset_refl _) ht (Nat.mul_le_mul_right _ hu) (delivC (ct := ct) (hoff := hoff) (hb := hb) (h1 := h1) (h2 := h2) (h3 := h3) (h4 := h4) (q := q) (fd := f) hL hw ht ho)) $$ [Hsrc Hd HbC]
  · isplitl [Hsrc]; · iexact Hsrc
    isplitl [Hd]; · iexact Hd
    iexact HbC
  iintro HbC
  iapply h
  isplitl [HR]; · iexact HR
  isplitl [Hp Hct Hrt HO]
  · isplitr; · iexact Hmw
    isplitl [Hp]; · iexact Hp
    isplitl [Hct]; · iexact Hct
    isplitl [Hrt]; · iexact Hrt
    iexact HO
  isplitl [Hout]; · iexact Hout
  isplitl [HsC]; · iexact HsC
  isplitl [HsR]; · iexact HsR
  isplitl [HbC]; · iexact HbC
  iexact HbR

theorem issueR {c k t k' u u' : ℕ} {off} {hoff} {hb h1 h2 h3 h4 w1 w2 w3} {kk : PUnit → Prog (TpuEff nD τ sig (Elt F) Λ₀ (.scVector (cV L) (jV L))) α}
    (hL : wid L < 24) (hw : ∀ n, InR (word wv n)) (hkt : k' = t) (ht : t < 32) (hu : u' ≤ t)
    (ho : k1_off3 L (wA (word wv (32 * c + t))) (wX (word wv (32 * c + t))) (wT (word wv (32 * c + t))) = off)
    (h : iprop(R ∗ Bst d L ct rt wv O W c k (t + 1) u u') ⊢ WP d L (kk ⟨⟩) Q) :
    iprop(R ∗ Bst d L ct rt wv O W c k k' u u') ⊢ WP d L (Prog.lift (.enqueueDma ((regM.slice (Rect.unit (s := S3x8x9x80x80x5) off S1x1x1x1x8x5.size hoff) h1).squeeze S8x5 h2)
      (.here ((rD.slice (Rect.unit (s := S32x8x5) ![t, 0, 0] S1x8x5.size hb) h3).squeeze S8x5 h4)) (.dma cc1_scratch6.sem) w1 w2 w3) >>= kk) Q := by
  rw [lift_bind]
  subst hkt
  unfold Bst Common at *
  iintro ⟨HR, ⟨⟨#Hmw, Hp, Hct, Hrt, HO⟩, Hout, HsC, HsR, HbC, HbR⟩⟩
  ihave Htk := (rd_take (F := F) ((regM.slice (Rect.unit (s := S3x8x9x80x80x5) off S1x1x1x1x8x5.size hoff) h1).squeeze S8x5 h2).view.set) $$ Hrt
  icases Htk with ⟨Hrt, %q, Hsrc⟩
  ihave Hst := (Entails.of_eq (bigSep_pending_step _ _ ht)) $$ HsR
  icases Hst with ⟨⟨%f, Hd⟩, HsR⟩
  iapply (wp_dmaBatch EC 𝒱₀ (th d L) none (hsrc := w1) (hdst := w2) (hsem := w3) none NR rfl (subset_refl _) ht (Nat.mul_le_mul_right _ hu) (delivR (rt := rt) (hoff := hoff) (hb := hb) (h1 := h1) (h2 := h2) (h3 := h3) (h4 := h4) (q := q) (fd := f) hL hw ht ho)) $$ [Hsrc Hd HbR]
  · isplitl [Hsrc]; · iexact Hsrc
    isplitl [Hd]; · iexact Hd
    iexact HbR
  iintro HbR
  iapply h
  isplitl [HR]; · iexact HR
  isplitl [Hp Hct Hrt HO]
  · isplitr; · iexact Hmw
    isplitl [Hp]; · iexact Hp
    isplitl [Hct]; · iexact Hct
    isplitl [Hrt]; · iexact Hrt
    iexact HO
  isplitl [Hout]; · iexact Hout
  isplitl [HsC]; · iexact HsC
  isplitl [HsR]; · iexact HsR
  isplitl [HbC]; · iexact HbC
  iexact HbR

theorem waits_insert {W' : Waits sig (HIx 1)} {s : SemLoc sig} (h : ∀ p ∈ W', p ∈ W ∨ p.2 = none) : ∀ p ∈ insert (s, (none : HIx 1)) W', p ∈ W ∨ p.2 = none := by
  intro p hp
  rcases Finset.mem_insert.mp hp with rfl | hp
  · exact Or.inr rfl
  · exact h p hp

theorem waitC {c k k' t u u' : ℕ} {src : Memref sig .scVector .hbm S8x20 .f32} {hb h3 h4 w1 w2} {kk : PUnit → Prog (TpuEff nD τ sig (Elt F) Λ₀ (.scVector (cV L) (jV L))) α}
    (hut : u = t) (hu : t < k) (h : iprop(R ∗ Bst d L ct rt wv O W c k k' (t + 1) u') ⊢ WP d L (kk ⟨⟩) Q) :
    iprop(R ∗ Bst d L ct rt wv O W c k k' u u') ⊢ WP d L (Prog.lift (.waitDma2 cc1_scratch5.sem src
      ((cD.slice (Rect.unit (s := S32x8x20) ![t, 0, 0] S1x8x20.size hb) h3).squeeze S8x20 h4) w1 w2) >>= kk) Q := by
  rw [lift_bind]
  subst hut
  unfold Bst Common at *
  iintro ⟨HR, ⟨⟨#Hmw, Hp, Hct, Hrt, %W', %hW', HO⟩, Hout, HsC, HsR, HbC, HbR⟩⟩
  iapply (wp_waitBatchMulO EC 𝒱₀ (th d L) none (hsrc := w1) (hdst := w2) none (N := NC) (j := k) (u := u * NC) 1 (one_mul _).symm (by
      rw [← Nat.add_mul, Nat.mul_comm NC]; exact Nat.mul_le_mul_right _ hu)) $$ [HbC HO]
  · isplitl [HbC]; · iexact HbC
    isplitl [HO]; · iexact HO
    iapply (MayWaits.elim semC) $$ Hmw
  iintro ⟨HbC, HO⟩
  rw [← Nat.add_mul]
  iapply h
  isplitl [HR]; · iexact HR
  isplitl [Hp Hct Hrt HO]
  · isplitr; · iexact Hmw
    isplitl [Hp]; · iexact Hp
    isplitl [Hct]; · iexact Hct
    isplitl [Hrt]; · iexact Hrt
    iexists (insert (semC, none) W')
    isplitr
    · ipureintro; exact waits_insert hW'
    iexact HO
  isplitl [Hout]; · iexact Hout
  isplitl [HsC]; · iexact HsC
  isplitl [HsR]; · iexact HsR
  isplitl [HbC]; · iexact HbC
  iexact HbR

theorem waitR {c k k' t u u' : ℕ} {src : Memref sig .scVector .hbm S8x5 .f32} {hb h3 h4 w1 w2} {kk : PUnit → Prog (TpuEff nD τ sig (Elt F) Λ₀ (.scVector (cV L) (jV L))) α}
    (hut : u' = t) (hu : t < k') (h : iprop(R ∗ Bst d L ct rt wv O W c k k' u (t + 1)) ⊢ WP d L (kk ⟨⟩) Q) :
    iprop(R ∗ Bst d L ct rt wv O W c k k' u u') ⊢ WP d L (Prog.lift (.waitDma2 cc1_scratch6.sem src
      ((rD.slice (Rect.unit (s := S32x8x5) ![t, 0, 0] S1x8x5.size hb) h3).squeeze S8x5 h4) w1 w2) >>= kk) Q := by
  rw [lift_bind]
  subst hut
  unfold Bst Common at *
  iintro ⟨HR, ⟨⟨#Hmw, Hp, Hct, Hrt, %W', %hW', HO⟩, Hout, HsC, HsR, HbC, HbR⟩⟩
  iapply (wp_waitBatchMulO EC 𝒱₀ (th d L) none (hsrc := w1) (hdst := w2) none (N := NR) (j := k') (u := u' * NR) 1 (one_mul _).symm (by
      rw [← Nat.add_mul, Nat.mul_comm NR]; exact Nat.mul_le_mul_right _ hu)) $$ [HbR HO]
  · isplitl [HbR]; · iexact HbR
    isplitl [HO]; · iexact HO
    iapply (MayWaits.elim semR) $$ Hmw
  iintro ⟨HbR, HO⟩
  rw [← Nat.add_mul]
  iapply h
  isplitl [HR]; · iexact HR
  isplitl [Hp Hct Hrt HO]
  · isplitr; · iexact Hmw
    isplitl [Hp]; · iexact Hp
    isplitl [Hct]; · iexact Hct
    isplitl [Hrt]; · iexact Hrt
    iexists (insert (semR, none) W')
    isplitr
    · ipureintro; exact waits_insert hW'
    iexact HO
  isplitl [Hout]; · iexact Hout
  isplitl [HsC]; · iexact HsC
  isplitl [HsR]; · iexact HsR
  isplitl [HbC]; · iexact HbC
  iexact HbR

theorem slabC_mem (t : Fin 32) (i : S32x8x20.Idx) : i ∈ (slabC t).view.set ↔ (i 0).val = t.val := by
  have e : (slabC t).view.set = (Rect.unit (s := S32x8x20) ![t.val, 0, 0] S1x8x20.size (slab_inb t)).set :=
    (View.set_reshape _ _).trans (View.set_slice_whole _ _)
  rw [e, Rect.mem_set_unit]
  have h1 : (i 1).val < 8 := (i 1).isLt
  have h2 : (i 2).val < 20 := (i 2).isLt
  constructor
  · intro h
    have := h 0
    have ha : t.val ≤ (i 0).val := this.1
    have hb : (i 0).val < t.val + 1 := this.2
    omega
  · intro h a
    fin_cases a
    · exact ⟨h.symm.le, by show (i 0).val < t.val + 1; omega⟩
    · exact ⟨Nat.zero_le _, by show (i 1).val < 0 + 8; omega⟩
    · exact ⟨Nat.zero_le _, by show (i 2).val < 0 + 20; omega⟩

/-- The thirty-two slabs are the whole of the fetched array. -/
theorem slabC_all (f : Buf (Elt F) (cD.view.loc (th d L))) :
    (bigSep Finset.univ fun t : Fin 32 => ((slabC t).view.loc (th d L) ↦[(slabC t).view.set]{fullShare} f : sProp 𝕄)) = cD.view.loc (th d L) ↦{fullShare} f := by
  refine (pointsTo_biUnion (ℓ := cD.view.loc (th d L)) (q := fullShare) (f := f) Finset.univ (fun t : Fin 32 => (slabC t).view.set) fun t _ t' _ hne => ?_).symm.trans ?_
  · rw [Finset.disjoint_left]
    intro i hi hi'
    exact hne (Fin.ext (((slabC_mem t i).mp hi).symm.trans ((slabC_mem t' i).mp hi')))
  · rw [show (Finset.univ.biUnion fun t : Fin 32 => (slabC t).view.set) = Finset.univ from Finset.eq_univ_of_forall fun i =>
      Finset.mem_biUnion.mpr ⟨i 0, Finset.mem_univ _, (slabC_mem _ i).mpr rfl⟩]

theorem slabR_mem (t : Fin 32) (i : S32x8x5.Idx) : i ∈ (slabR t).view.set ↔ (i 0).val = t.val := by
  have e : (slabR t).view.set = (Rect.unit (s := S32x8x5) ![t.val, 0, 0] S1x8x5.size (slab_inb t)).set :=
    (View.set_reshape _ _).trans (View.set_slice_whole _ _)
  rw [e, Rect.mem_set_unit]
  have h1 : (i 1).val < 8 := (i 1).isLt
  have h2 : (i 2).val < 5 := (i 2).isLt
  constructor
  · intro h
    have := h 0
    have ha : t.val ≤ (i 0).val := this.1
    have hb : (i 0).val < t.val + 1 := this.2
    omega
  · intro h a
    fin_cases a
    · exact ⟨h.symm.le, by show (i 0).val < t.val + 1; omega⟩
    · exact ⟨Nat.zero_le _, by show (i 1).val < 0 + 8; omega⟩
    · exact ⟨Nat.zero_le _, by show (i 2).val < 0 + 5; omega⟩

/-- The thirty-two slabs are the whole of the fetched array. -/
theorem slabR_all (f : Buf (Elt F) (rD.view.loc (th d L))) :
    (bigSep Finset.univ fun t : Fin 32 => ((slabR t).view.loc (th d L) ↦[(slabR t).view.set]{fullShare} f : sProp 𝕄)) = rD.view.loc (th d L) ↦{fullShare} f := by
  refine (pointsTo_biUnion (ℓ := rD.view.loc (th d L)) (q := fullShare) (f := f) Finset.univ (fun t : Fin 32 => (slabR t).view.set) fun t _ t' _ hne => ?_).symm.trans ?_
  · rw [Finset.disjoint_left]
    intro i hi hi'
    exact hne (Fin.ext (((slabR_mem t i).mp hi).symm.trans ((slabR_mem t' i).mp hi')))
  · rw [show (Finset.univ.biUnion fun t : Fin 32 => (slabR t).view.set) = Finset.univ from Finset.eq_univ_of_forall fun i =>
      Finset.mem_biUnion.mpr ⟨i 0, Finset.mem_univ _, (slabR_mem _ i).mpr rfl⟩]

/-- What a chunk's copies deliver is the fetched array. -/
theorem delC_all {c : ℕ} : (bigSep Finset.univ (delC d L ct wv c) : sProp 𝕄) = cD.view.loc (th d L) ↦{fullShare} (slabs ct L wv c : Buf (Elt F) (cD.view.loc (th d L))) := slabC_all _

/-- What a chunk's copies deliver is the fetched array. -/
theorem delR_all {c : ℕ} : (bigSep Finset.univ (delR d L rt wv c) : sProp 𝕄) = rD.view.loc (th d L) ↦{fullShare} (slabs rt L wv c : Buf (Elt F) (rD.view.loc (th d L))) := slabR_all _

theorem NC_pos : 0 < NC := View.dmaCredit_pos _ (by decide)
theorem NR_pos : 0 < NR := View.dmaCredit_pos _ (by decide)

/-- All of a chunk's copies have landed. -/
theorem collect {c : ℕ} {p : Prog (TpuEff nD τ sig (Elt F) Λ₀ (.scVector (cV L) (jV L))) α}
    (h : iprop(R ∗ Sst d L ct rt wv O W c (40 * c) (10 * c)) ⊢ WP d L p Q) :
    iprop(R ∗ Bst d L ct rt wv O W c 32 32 32 32) ⊢ WP d L p Q := by
  unfold Bst at *
  unfold Sst at h
  rw [Nat.mul_comm 32 NC, Nat.mul_comm 32 NR]
  iintro ⟨HR, ⟨Hcom, Hout, -, -, HbC, HbR⟩⟩
  imod (batch_collect' EC (th d L) NC_pos) $$ HbC with ⟨HdC, HsC⟩
  imod (batch_collect' EC (th d L) NR_pos) $$ HbR with ⟨HdR, HsR⟩
  ihave HdC := (Entails.of_eq (delC_all (F := F))) $$ HdC
  ihave HdR := (Entails.of_eq (delR_all (F := F))) $$ HdR
  iapply h
  isplitl [HR]; · iexact HR
  isplitl [Hcom]; · iexact Hcom
  isplitl [Hout]; · iexact Hout
  isplitl [HdC]; · iexact HdC
  isplitl [HdR]; · iexact HdR
  isplitl [HsC]; · iexact HsC
  iexact HsR

/-- The fetched array given back to its slabs. -/
theorem openC (f : Buf (Elt F) (cD.view.loc (th d L))) :
    (cD.view.loc (th d L) ↦{fullShare} f : sProp 𝕄)
      ⊢ bigSep (pending (n := 32) 0) fun t => iprop(∃ f, (slabC t).view.loc (th d L) ↦[(slabC t).view.set]{fullShare} f) := by
  rw [← slabC_all, ← bigSep_pending_zero]
  exact bigSep_mono fun t _ => exists_intro (Φ := fun g => iprop(_ ↦[_]{fullShare} g)) f

/-- The fetched array given back to its slabs. -/
theorem openR (f : Buf (Elt F) (rD.view.loc (th d L))) :
    (rD.view.loc (th d L) ↦{fullShare} f : sProp 𝕄)
      ⊢ bigSep (pending (n := 32) 0) fun t => iprop(∃ f, (slabR t).view.loc (th d L) ↦[(slabR t).view.set]{fullShare} f) := by
  rw [← slabR_all, ← bigSep_pending_zero]
  exact bigSep_mono fun t _ => exists_intro (Φ := fun g => iprop(_ ↦[_]{fullShare} g)) f

/-- The next chunk begins. -/
theorem next {c n n' : ℕ} {p : Prog (TpuEff nD τ sig (Elt F) Λ₀ (.scVector (cV L) (jV L))) α}
    (hn : 40 * (c + 1) = n) (hn' : 10 * (c + 1) = n')
    (h : iprop(R ∗ Bst d L ct rt wv O W (c + 1) 0 0 0 0) ⊢ WP d L p Q) :
    iprop(R ∗ Sst d L ct rt wv O W c n n') ⊢ WP d L p Q := by
  subst hn hn'
  unfold Sst
  unfold Bst at h
  iintro ⟨HR, ⟨Hcom, Hout, HdC, HdR, HsC, HsR⟩⟩
  imod (batch_alloc' EC (th d L) none NC (delC d L ct wv (c + 1))) $$ HsC with HbC
  imod (batch_alloc' EC (th d L) none NR (delR d L rt wv (c + 1))) $$ HsR with HbR
  ihave HdC := (openC (F := F) _) $$ HdC
  ihave HdR := (openR (F := F) _) $$ HdR
  iapply h
  isplitl [HR]; · iexact HR
  isplitl [Hcom]; · iexact Hcom
  isplitl [Hout]; · iexact Hout
  isplitl [HdC]; · iexact HdC
  isplitl [HdR]; · iexact HdR
  isplitl [HbC]; · rw [Nat.zero_mul]; iexact HbC
  rw [Nat.zero_mul]; iexact HbR

theorem assumeS {c n n' : ℕ} {P : Prop} {dec : Decidable P} {kk : PLift P → Prog (TpuEff nD τ sig (Elt F) Λ₀ (.scVector (cV L) (jV L))) α}
    (hP : P) (h : iprop(R ∗ Sst d L ct rt wv O W c n n') ⊢ WP d L (kk ⟨hP⟩) Q) :
    iprop(R ∗ Sst d L ct rt wv O W c n n') ⊢ WP d L (Prog.lift (TpuEff.assume P dec) >>= kk) Q := assume_step _ h

theorem gatherC {c n n' b : ℕ} {jb cc : BitVec 32} {hh hl} {kk : (S16.Idx → Elt F .f32) → Prog (TpuEff nD τ sig (Elt F) Λ₀ (.scVector (cV L) (jV L))) α}
    (hj : jb.toNat = 16 * (n / 20 % 2)) (hb : b = 16 * (n / 20)) (hc : cc.toNat = n % 20) (hn : n / 40 = c) (hk : c < 4)
    (h : iprop(R ∗ Sst d L ct rt wv O W c n n') ⊢ WP d L (kk (outVec (rows ct L wv) n)) Q) :
    iprop(R ∗ Sst d L ct rt wv O W c n n') ⊢ WP d L (SparseCore.vectorLoadIdx cD ![addi lanes (broadcast S16 jb), andi (ldw wv b) (broadcast S16 7#32), broadcast S16 cc] hh hl >>= kk) Q := by
  unfold Sst at *
  iintro ⟨HR, ⟨Hcom, Hout, HdC, HdR, HsC, HsR⟩⟩
  iapply (SparseCore.wp_vectorLoadIdx 𝒱₀ (th d L) none Set.univ (base := cD) (S := Finset.univ) (Finset.subset_univ _)) $$ HdC
  iintro HdC
  rw [show ∀ f, (cD.access (Rect.whole S32x8x20)).read (Elt F) f = f from Memref.read_access_whole _ cc1_scratch1, gather_val hj hb hc hn hk]
  iapply h
  isplitl [HR]; · iexact HR
  isplitl [Hcom]; · iexact Hcom
  isplitl [Hout]; · iexact Hout
  isplitl [HdC]; · iexact HdC
  isplitl [HdR]; · iexact HdR
  isplitl [HsC]; · iexact HsC
  iexact HsR

theorem gatherR {c n n' b : ℕ} {jb cc : BitVec 32} {hh hl} {kk : (S16.Idx → Elt F .f32) → Prog (TpuEff nD τ sig (Elt F) Λ₀ (.scVector (cV L) (jV L))) α}
    (hj : jb.toNat = 16 * (n' / 5 % 2)) (hb : b = 16 * (n' / 5)) (hc : cc.toNat = n' % 5) (hn : n' / 10 = c) (hk : c < 4)
    (h : iprop(R ∗ Sst d L ct rt wv O W c n n') ⊢ WP d L (kk (outVec (rows rt L wv) n')) Q) :
    iprop(R ∗ Sst d L ct rt wv O W c n n') ⊢ WP d L (SparseCore.vectorLoadIdx rD ![addi lanes (broadcast S16 jb), andi (ldw wv b) (broadcast S16 7#32), broadcast S16 cc] hh hl >>= kk) Q := by
  unfold Sst at *
  iintro ⟨HR, ⟨Hcom, Hout, HdC, HdR, HsC, HsR⟩⟩
  iapply (SparseCore.wp_vectorLoadIdx 𝒱₀ (th d L) none Set.univ (base := rD) (S := Finset.univ) (Finset.subset_univ _)) $$ HdR
  iintro HdR
  rw [show ∀ f, (rD.access (Rect.whole S32x8x5)).read (Elt F) f = f from Memref.read_access_whole _ cc1_scratch2, gather_val hj hb hc hn hk]
  iapply h
  isplitl [HR]; · iexact HR
  isplitl [Hcom]; · iexact Hcom
  isplitl [Hout]; · iexact Hout
  isplitl [HdC]; · iexact HdC
  isplitl [HdR]; · iexact HdR
  isplitl [HsC]; · iexact HsC
  iexact HsR

theorem scatterC {c n k n' : ℕ} {mb cc : BitVec 32} {hh hs} {kk : PUnit → Prog (TpuEff nD τ sig (Elt F) Λ₀ (.scVector (cV L) (jV L))) α}
    (hk : k = n) (hn : n = mb.toNat / 16 * 20 + cc.toNat) (hm : mb.toNat % 16 = 0) (hm' : mb.toNat < 128) (hc : cc.toNat < 20)
    (h : iprop(R ∗ Sst d L ct rt wv O W c (mb.toNat / 16 * 20 + cc.toNat + 1) n') ⊢ WP d L (kk ⟨⟩) Q) :
    iprop(R ∗ Sst d L ct rt wv O W c n n') ⊢ WP d L (SparseCore.vectorStoreIdx cO ![addi lanes (broadcast S16 mb), broadcast S16 cc] (outVec (rows ct L wv) k) (fun _ => 1#1) false hh hs >>= kk) Q := by
  subst hk
  rw [← hn] at h
  unfold Sst Outs at *
  iintro ⟨HR, ⟨Hcom, ⟨⟨%g, %hg, Ho⟩, HoR⟩, HdC, HdR, HsC, HsR⟩⟩
  have key := SparseCore.wp_vectorStoreIdx (defs := defs₀ (F := F)) 𝒱₀ (th d L) none Set.univ (base := cO) (idxs := ![addi lanes (broadcast S16 mb), broadcast S16 cc])
    (v := outVec (rows ct L wv) k) (mask := fun _ => 1#1) (add := false) (h := hh) (hs := hs) (k := kk) (f := g) (Q := Q)
  rw [show (cO.access (Rect.whole S128x20)).set = Finset.univ from Memref.set_access_whole cc1_scratch3,
    show (cO.access (Rect.whole S128x20)).read (Elt F) g = g from Memref.read_access_whole _ cc1_scratch3 g,
    show ∀ w, (cO.access (Rect.whole S128x20)).write (Elt F) g w Finset.univ = w from Memref.write_access_whole_univ _ cc1_scratch3 g] at key
  iapply key $$ Ho
  iintro Ho
  iapply h
  isplitl [HR]; · iexact HR
  isplitl [Hcom]; · iexact Hcom
  isplitl [Ho HoR]
  · isplitl [Ho]
    · iexists (storeIdx (s := S128x20) (e := .f32) (d := ![16]) g ![addi lanes (broadcast S16 mb), broadcast S16 cc] (outVec (rows ct L wv) k) (fun _ => 1#1) false hh); isplitr
      · ipureintro; exact scatter_good hn hm hm' hc hg
      · iexact Ho
    iexact HoR
  isplitl [HdC]; · iexact HdC
  isplitl [HdR]; · iexact HdR
  isplitl [HsC]; · iexact HsC
  iexact HsR

theorem scatterR {c n k n' : ℕ} {mb cc : BitVec 32} {hh hs} {kk : PUnit → Prog (TpuEff nD τ sig (Elt F) Λ₀ (.scVector (cV L) (jV L))) α}
    (hk : k = n') (hn : n' = mb.toNat / 16 * 5 + cc.toNat) (hm : mb.toNat % 16 = 0) (hm' : mb.toNat < 128) (hc : cc.toNat < 5)
    (h : iprop(R ∗ Sst d L ct rt wv O W c n (mb.toNat / 16 * 5 + cc.toNat + 1)) ⊢ WP d L (kk ⟨⟩) Q) :
    iprop(R ∗ Sst d L ct rt wv O W c n n') ⊢ WP d L (SparseCore.vectorStoreIdx rO ![addi lanes (broadcast S16 mb), broadcast S16 cc] (outVec (rows rt L wv) k) (fun _ => 1#1) false hh hs >>= kk) Q := by
  subst hk
  rw [← hn] at h
  unfold Sst Outs at *
  iintro ⟨HR, ⟨Hcom, ⟨HoC, ⟨%g, %hg, Ho⟩⟩, HdC, HdR, HsC, HsR⟩⟩
  have key := SparseCore.wp_vectorStoreIdx (defs := defs₀ (F := F)) 𝒱₀ (th d L) none Set.univ (base := rO) (idxs := ![addi lanes (broadcast S16 mb), broadcast S16 cc])
    (v := outVec (rows rt L wv) k) (mask := fun _ => 1#1) (add := false) (h := hh) (hs := hs) (k := kk) (f := g) (Q := Q)
  rw [show (rO.access (Rect.whole S128x5)).set = Finset.univ from Memref.set_access_whole cc1_scratch4,
    show (rO.access (Rect.whole S128x5)).read (Elt F) g = g from Memref.read_access_whole _ cc1_scratch4 g,
    show ∀ w, (rO.access (Rect.whole S128x5)).write (Elt F) g w Finset.univ = w from Memref.write_access_whole_univ _ cc1_scratch4 g] at key
  iapply key $$ Ho
  iintro Ho
  iapply h
  isplitl [HR]; · iexact HR
  isplitl [Hcom]; · iexact Hcom
  isplitl [Ho HoC]
  · isplitl [HoC]; · iexact HoC
    iexists (storeIdx (s := S128x5) (e := .f32) (d := ![16]) g ![addi lanes (broadcast S16 mb), broadcast S16 cc] (outVec (rows rt L wv) k) (fun _ => 1#1) false hh); isplitr
    · ipureintro; exact scatter_good hn hm hm' hc hg
    · iexact Ho
  isplitl [HdC]; · iexact HdC
  isplitl [HdR]; · iexact HdR
  isplitl [HsC]; · iexact HsC
  iexact HsR

theorem bigSep_fin1 (D : Fin 1 → sProp 𝕄) : bigSep Finset.univ D = D 0 := by
  rw [Finset.univ_unique, bigSep_singleton]; rfl

/-- The copy of the index words delivers the subcore's 128 words. -/
theorem delivP {iv : S3072.Idx → BitVec 32} {hb h1} {q : PosShare TreeShare} {fd : S128.Idx → BitVec 32} (hL : wid L < 24) :
    iprop((pW.view.loc (th d L) ↦[Finset.univ]{fullShare} (pW.view.write (Elt F) fd
        (ReadAs.same.apply ((idxM.slice (Rect.unit (s := S3072) (k1_off1 L) S128.size hb) h1).view.read (Elt F) (iv : Buf (Elt F) (idxM.view.loc (th d L))))) Finset.univ))
      ∗ ((idxM.slice (Rect.unit (s := S3072) (k1_off1 L) S128.size hb) h1).view.loc (th d L)
        ↦[(idxM.slice (Rect.unit (s := S3072) (k1_off1 L) S128.size hb) h1).view.set]{q} (iv : Buf (Elt F) (idxM.view.loc (th d L)))))
      ⊢ (pW.view.loc (th d L) ↦{fullShare} (words L iv : Buf (Elt F) (pW.view.loc (th d L))) : sProp 𝕄) := by
  iintro ⟨H, -⟩
  refine Entails.of_eq (pointsTo_congr fun i hi => ?_)
  refine (congrFun (View.write_whole_univ _ _ _) i).trans ?_
  show iv _ = iv _
  congr 1
  funext a
  obtain rfl : a = 0 := Subsingleton.elim (α := Fin 1) _ _
  apply Fin.ext
  have h0 : (L 0).val < 2 := (L 0).isLt
  have h1 : (L 1).val < 16 := (L 1).isLt
  have hi : (i 0).val < 128 := (i 0).isLt
  show k1_off1 L 0 + 1 * (i 0).val = (128 * (2 * (L 1).val + (L 0).val) + (i 0).val) % 3072
  rw [k1_off1_eq]
  show 256 * (L 1).val + 128 * (L 0).val + 1 * (i 0).val = _
  have hL' : 2 * (L 1).val + (L 0).val < 24 := hL
  omega

theorem fetchIssue {iv : S3072.Idx → BitVec 32} {hb h1 w1 w2 w3} {kk : PUnit → Prog (TpuEff nD τ sig (Elt F) Λ₀ (.scVector (cV L) (jV L))) α}
    (hL : wid L < 24)
    (h : iprop(R ∗ F1 d L ct rt O W iv) ⊢ WP d L (kk ⟨⟩) Q) :
    iprop(R ∗ F0 d L ct rt O W iv) ⊢ WP d L (Prog.lift (.enqueueDma (idxM.slice (Rect.unit (s := S3072) (k1_off1 L) S128.size hb) h1)
      (.here pW) (.dma cc1_scoped0.sem) w1 w2 w3) >>= kk) Q := by
  rw [lift_bind]
  unfold F0
  unfold F1 at h
  iintro ⟨HR, ⟨HF, Hi, ⟨%f, Hp⟩, Hs⟩⟩
  ihave Htk := (rd_take (F := F) (idxM.slice (Rect.unit (s := S3072) (k1_off1 L) S128.size hb) h1).view.set) $$ Hi
  icases Htk with ⟨-, %q, Hsrc⟩
  imod (batch_alloc' EC (th d L) none NP (fun _ : Fin 1 => iprop(pW.view.loc (th d L) ↦{fullShare} (words L iv : Buf (Elt F) (pW.view.loc (th d L)))))) $$ Hs with Hb
  iapply (wp_dmaBatch EC 𝒱₀ (th d L) none (hsrc := w1) (hdst := w2) (hsem := w3) none NP rfl (Finset.subset_univ _) Nat.zero_lt_one (Nat.zero_le _)
    (D := fun _ : Fin 1 => iprop(pW.view.loc (th d L) ↦{fullShare} (words L iv : Buf (Elt F) (pW.view.loc (th d L)))))
    (delivP (F := F) (d := d) hL (iv := iv) (hb := hb) (h1 := h1) (q := q) (fd := f))) $$ [Hsrc Hp Hb]
  · isplitl [Hsrc]; · iexact Hsrc
    isplitl [Hp]; · iexact Hp
    iexact Hb
  iintro Hb
  iapply h
  isplitl [HR]; · iexact HR
  isplitl [HF]; · iexact HF
  iexact Hb

theorem fetchWait {iv : S3072.Idx → BitVec 32} {src : Memref sig .scVector .hbm S128 .i32} {w1 w2} {kk : PUnit → Prog (TpuEff nD τ sig (Elt F) Λ₀ (.scVector (cV L) (jV L))) α}
    (h : iprop(iprop(R ∗ semVal (th d L, sem0) 0) ∗ Bst d L ct rt (words L iv) O W 0 0 0 0 0) ⊢ WP d L (kk ⟨⟩) Q) :
    iprop(R ∗ F1 d L ct rt O W iv) ⊢ WP d L (Prog.lift (.waitDma2 cc1_scoped0.sem src pW w1 w2) >>= kk) Q := by
  rw [lift_bind]
  unfold F1 F00
  unfold Bst Common Outs at h
  iintro ⟨HR, ⟨⟨#Hmw, Hct, Hrt, ⟨%f1, HcD⟩, ⟨%f2, HrD⟩, ⟨%g1, HcO⟩, ⟨%g2, HrO⟩, HsC, HsR, HO⟩, Hb⟩⟩
  iapply (wp_waitBatchLastO EC 𝒱₀ (th d L) none (hsrc := w1) (hdst := w2) none (N := NP) rfl (View.dmaCredit_pos _ (by decide)) (n := 1) (u := 0) (by omega)) $$ [Hb HO]
  · isplitl [Hb]; · iexact Hb
    isplitl [HO]; · iexact HO
    iapply (MayWaits.elim sem0) $$ Hmw
  iintro ⟨HD, Hs, HO⟩
  ihave HD := (Entails.of_eq (bigSep_fin1 _)) $$ HD
  imod (batch_alloc' EC (th d L) none NC (delC d L ct (words L iv) 0)) $$ HsC with HbC
  imod (batch_alloc' EC (th d L) none NR (delR d L rt (words L iv) 0)) $$ HsR with HbR
  ihave HcD := (openC (F := F) _) $$ HcD
  ihave HrD := (openR (F := F) _) $$ HrD
  iapply h
  isplitl [HR Hs]
  · isplitl [HR]; · iexact HR
    iexact Hs
  isplitl [HD Hct Hrt HO]
  · isplitr; · iexact Hmw
    isplitl [HD]; · iexact HD
    isplitl [Hct]; · iexact Hct
    isplitl [Hrt]; · iexact Hrt
    iexists (insert (sem0, none) W); isplitr
    · ipureintro; exact waits_insert fun p hp => .inl hp
    iexact HO
  isplitl [HcO HrO]
  · isplitl [HcO]
    · iexists g1; isplitr
      · ipureintro; exact fun y hy => absurd hy (Nat.not_lt_zero _)
      · iexact HcO
    · iexists g2; isplitr
      · ipureintro; exact fun y hy => absurd hy (Nat.not_lt_zero _)
      · iexact HrO
  isplitl [HcD]; · iexact HcD
  isplitl [HrD]; · iexact HrD
  isplitl [HbC]; · rw [Nat.zero_mul]; iexact HbC
  rw [Nat.zero_mul]; iexact HbR

/-- Where a row of the output lies in it. -/
theorem row_emb {m n r : ℕ} {off : Fin 3 → ℕ} {hb} (ho : off = ![r, 0, 0]) (h : (⟨2, ![m, n]⟩ : Shape).numel = (⟨3, ![1, m, n]⟩ : Shape).numel) (y : (⟨2, ![m, n]⟩ : Shape).Idx) (a : Fin 3) :
    ((Rect.unit (s := ⟨3, ![24, m, n]⟩) off ![1, m, n] hb).emb (Shape.reshapeEquiv h y) a).val = (![r, (y 0).val, (y 1).val] : Fin 3 → ℕ) a := by
  subst ho
  rw [Shape.reshapeEquiv_eq_of_rowMajor h (y := ix3 (0 : Fin 1) (y 0) (y 1)) (by
    rw [Shape.rowMajor_val_two, Shape.rowMajor_val_three]
    show (0 * m + (y 0).val) * n + (y 1).val = (y 0).val * n + (y 1).val
    rw [Nat.zero_mul, Nat.zero_add])]
  fin_cases a
  · show r + 1 * 0 = r; omega
  · show 0 + 1 * (y 0).val = (y 0).val; omega
  · show 0 + 1 * (y 1).val = (y 1).val; omega

theorem delivOC_val {hb h1 h2 h3 h4} {fd : S24x100x20.Idx → Elt F .f32} {g : S128x20.Idx → Elt F .f32}
    (hg : Good (rows ct L wv) 160 g) : ∀ i ∈ ((clsoM.slice (Rect.unit (s := S24x100x20) (k1_off506 L) S1x100x20.size hb) h3).squeeze S100x20 h4).view.set,
      (((clsoM.slice (Rect.unit (s := S24x100x20) (k1_off506 L) S1x100x20.size hb) h3).squeeze S100x20 h4).view.write (Elt F) fd (ReadAs.same.apply ((cO.slice (Rect.unit (s := S128x20) ![0, 0] S100x20.size h1) h2).view.read (Elt F) g)) Finset.univ) i = outC L ct wv i := by
  intro i hi
  obtain ⟨y, -, rfl⟩ := Finset.mem_map.mp hi
  have hy0 : (y 0).val < 100 := (y 0).isLt
  have hy1 : (y 1).val < 20 := (y 1).isLt
  refine (View.write_emb_of_mem _ _ (Finset.mem_univ y)).trans ?_
  have hL0 : (L 0).val < 2 := (L 0).isLt
  have hL1 : (L 1).val < 16 := (L 1).isLt
  have hem : ∀ a : Fin 3, (((((clsoM.slice (Rect.unit (s := S24x100x20) (k1_off506 L) S1x100x20.size hb) h3).squeeze S100x20 h4).view.emb y : S24x100x20.Idx) a).val : ℕ) = (![2 * (L 1).val + (L 0).val, (y 0).val, (y 1).val] : Fin 3 → ℕ) a :=
    row_emb (by rw [← k1_off506_eq L]) (by decide) y
  have hv : (cO.slice (Rect.unit (s := S128x20) ![0, 0] S100x20.size h1) h2).view.read (Elt F) g y = g (ix2 (Fin.ofNat 128 (y 0).val) (y 1)) := by
    show g _ = g _
    congr 1
    funext a
    apply Fin.ext
    fin_cases a
    · show 0 + 1 * (y 0).val = (y 0).val % 128; omega
    · show 0 + 1 * (y 1).val = (y 1).val; omega
  refine Eq.trans (b := g (ix2 (Fin.ofNat 128 (y 0).val) (y 1))) hv ?_
  rw [hg _ (by show ((y 0).val % 128) / 16 * 20 + (y 1).val < 160; omega)]
  show rows ct L wv _ = rows ct L wv _
  congr 1
  funext a
  apply Fin.ext
  fin_cases a
  · show (y 0).val % 128 = ((((clsoM.slice (Rect.unit (s := S24x100x20) (k1_off506 L) S1x100x20.size hb) h3).squeeze S100x20 h4).view.emb y : S24x100x20.Idx) 1).val % 128
    rw [hem 1]
    show (y 0).val % 128 = (y 0).val % 128
    omega
  · exact (hem 2).symm

theorem delivOR_val {hb h3 h4} {fd : S24x128x5.Idx → Elt F .f32} {g : S128x5.Idx → Elt F .f32}
    (hg : Good (rows rt L wv) 40 g) : ∀ i ∈ ((regoM.slice (Rect.unit (s := S24x128x5) (k1_off507 L) S1x128x5.size hb) h3).squeeze S128x5 h4).view.set,
      (((regoM.slice (Rect.unit (s := S24x128x5) (k1_off507 L) S1x128x5.size hb) h3).squeeze S128x5 h4).view.write (Elt F) fd (ReadAs.same.apply (rO.view.read (Elt F) g)) Finset.univ) i = outR L rt wv i := by
  intro i hi
  obtain ⟨y, -, rfl⟩ := Finset.mem_map.mp hi
  have hy0 : (y 0).val < 128 := (y 0).isLt
  have hy1 : (y 1).val < 5 := (y 1).isLt
  refine (View.write_emb_of_mem _ _ (Finset.mem_univ y)).trans ?_
  have hL0 : (L 0).val < 2 := (L 0).isLt
  have hL1 : (L 1).val < 16 := (L 1).isLt
  have hem : ∀ a : Fin 3, (((((regoM.slice (Rect.unit (s := S24x128x5) (k1_off507 L) S1x128x5.size hb) h3).squeeze S128x5 h4).view.emb y : S24x128x5.Idx) a).val : ℕ) = (![2 * (L 1).val + (L 0).val, (y 0).val, (y 1).val] : Fin 3 → ℕ) a :=
    row_emb (by rw [← k1_off507_eq L]) (by decide) y
  have hv : rO.view.read (Elt F) g y = g (ix2 (Fin.ofNat 128 (y 0).val) (y 1)) := by
    show g _ = g _
    congr 1
    funext a
    apply Fin.ext
    fin_cases a
    · show (y 0).val = (y 0).val % 128; omega
    · show (y 1).val = (y 1).val; omega
  refine Eq.trans (b := g (ix2 (Fin.ofNat 128 (y 0).val) (y 1))) hv ?_
  rw [hg _ (by show ((y 0).val % 128) / 16 * 5 + (y 1).val < 40; omega)]
  show rows rt L wv _ = rows rt L wv _
  congr 1
  funext a
  apply Fin.ext
  fin_cases a
  · show (y 0).val % 128 = ((((regoM.slice (Rect.unit (s := S24x128x5) (k1_off507 L) S1x128x5.size hb) h3).squeeze S128x5 h4).view.emb y : S24x128x5.Idx) 1).val
    rw [hem 1]
    show (y 0).val % 128 = (y 0).val
    omega
  · exact (hem 2).symm

/-- The copy of the picked rows out of the scratch delivers the subcore's row of the output. -/
theorem delivOC {hb h1 h2 h3 h4} {fd : S24x100x20.Idx → Elt F .f32} {g : S128x20.Idx → Elt F .f32} (hh : k1_cond1 L = 1#1)
    (hg : Good (rows ct L wv) 160 g) :
    iprop((((clsoM.slice (Rect.unit (s := S24x100x20) (k1_off506 L) S1x100x20.size hb) h3).squeeze S100x20 h4).view.loc (th d L) ↦[((clsoM.slice (Rect.unit (s := S24x100x20) (k1_off506 L) S1x100x20.size hb) h3).squeeze S100x20 h4).view.set]{fullShare} (((clsoM.slice (Rect.unit (s := S24x100x20) (k1_off506 L) S1x100x20.size hb) h3).squeeze S100x20 h4).view.write (Elt F) fd
        (ReadAs.same.apply ((cO.slice (Rect.unit (s := S128x20) ![0, 0] S100x20.size h1) h2).view.read (Elt F) g)) Finset.univ))
      ∗ ((cO.slice (Rect.unit (s := S128x20) ![0, 0] S100x20.size h1) h2).view.loc (th d L) ↦[(cO.slice (Rect.unit (s := S128x20) ![0, 0] S100x20.size h1) h2).view.set]{fullShare} (g : Buf (Elt F) (cO.view.loc (th d L)))))
      ⊢ (delOC d L ct wv hh : sProp 𝕄) := by
  iintro ⟨H, Hg⟩
  unfold delOC
  isplitl [H]
  · iapply (Entails.of_eq (pointsTo_congr (delivOC_val (hb := hb) (h3 := h3) (h4 := h4) (fd := fd) (h1 := h1) (h2 := h2) hg))) $$ H
  · iexists g
    iexact Hg

/-- The copy of the picked rows out of the scratch delivers the subcore's row of the output. -/
theorem delivOR {hb h3 h4} {fd : S24x128x5.Idx → Elt F .f32} {g : S128x5.Idx → Elt F .f32} (hh : k1_cond1 L = 1#1)
    (hg : Good (rows rt L wv) 40 g) :
    iprop((((regoM.slice (Rect.unit (s := S24x128x5) (k1_off507 L) S1x128x5.size hb) h3).squeeze S128x5 h4).view.loc (th d L) ↦[((regoM.slice (Rect.unit (s := S24x128x5) (k1_off507 L) S1x128x5.size hb) h3).squeeze S128x5 h4).view.set]{fullShare} (((regoM.slice (Rect.unit (s := S24x128x5) (k1_off507 L) S1x128x5.size hb) h3).squeeze S128x5 h4).view.write (Elt F) fd
        (ReadAs.same.apply (rO.view.read (Elt F) g)) Finset.univ))
      ∗ (rO.view.loc (th d L) ↦[rO.view.set]{fullShare} (g : Buf (Elt F) (rO.view.loc (th d L)))))
      ⊢ (delOR d L rt wv hh : sProp 𝕄) := by
  iintro ⟨H, Hg⟩
  unfold delOR
  isplitl [H]
  · iapply (Entails.of_eq (pointsTo_congr (delivOR_val (hb := hb) (h3 := h3) (h4 := h4) (fd := fd) hg))) $$ H
  · iexists g
    iapply (Entails.of_eq (by rw [show rO.view.set = Finset.univ from View.set_whole _])) $$ Hg

theorem outIssueC {R' : sProp 𝕄} {c n n' : ℕ} {hb h1 h2 h3 h4 w1 w2 w3} {kk : PUnit → Prog (TpuEff nD τ sig (Elt F) Λ₀ (.scVector (cV L) (jV L))) α}
    (hh : k1_cond1 L = 1#1) (hn : n = 160) (hn' : n' = 40)
    (h : iprop(iprop(R' ∗ semVal (th d L, sem0) 0) ∗ E1 d L ct rt wv O W hh) ⊢ WP d L (kk ⟨⟩) Q) :
    iprop(iprop(iprop(R' ∗ RR d L hh) ∗ semVal (th d L, sem0) 0) ∗ Sst d L ct rt wv O W c n n') ⊢ WP d L (Prog.lift (.enqueueDma
      (cO.slice (Rect.unit (s := S128x20) ![0, 0] S100x20.size h1) h2)
      (.here ((clsoM.slice (Rect.unit (s := S24x100x20) (k1_off506 L) S1x100x20.size hb) h3).squeeze S100x20 h4)) (.dma cc1_scoped1.sem) w1 w2 w3) >>= kk) Q := by
  rw [lift_bind]
  subst hn hn'
  unfold Sst Common Outs RR
  unfold E1 E0 at h
  iintro ⟨⟨⟨HR, ⟨%fo, HrowC⟩, HrowR, Hs1, Hs2⟩, Hs0⟩, ⟨⟨#Hmw, Hp, Hct, Hrt, HO⟩, ⟨⟨%g, %hg, Hg⟩, Hg'⟩, HdC, HdR, HsC, HsR⟩⟩
  ihave Hg2 := (pointsTo_split_subset (Finset.subset_univ cO100.view.set)).1 $$ Hg
  icases Hg2 with ⟨Hg, Hrest⟩
  imod (batch_alloc' EC (th d L) none (rowC L hh).view.dmaCredit (fun _ : Fin 1 => delOC d L ct wv hh)) $$ Hs1 with Hb
  iapply (wp_dmaBatch EC 𝒱₀ (th d L) none (hsrc := w1) (hdst := w2) (hsem := w3) none (rowC L hh).view.dmaCredit rfl (subset_refl _) Nat.zero_lt_one (Nat.zero_le _)
    (D := fun _ : Fin 1 => delOC d L ct wv hh)
    (delivOC (F := F) (d := d) (ct := ct) (hb := hb) (h1 := h1) (h2 := h2) (h3 := h3) (h4 := h4) (fd := fo) hh hg)) $$ [Hg HrowC Hb]
  · isplitl [Hg]; · iexact Hg
    isplitl [HrowC]; · iexact HrowC
    iexact Hb
  iintro Hb
  iapply h
  isplitl [HR Hs0]
  · isplitl [HR]; · iexact HR
    iexact Hs0
  isplitl [Hp HdC HdR Hrest HsC HsR HO]
  · isplitr; · iexact Hmw
    isplitl [Hp]; · iexists _; iexact Hp
    isplitl [HdC]; · iexists _; iexact HdC
    isplitl [HdR]; · iexists _; iexact HdR
    isplitl [Hrest]; · iexists _; iexact Hrest
    isplitl [HsC]; · iexact HsC
    isplitl [HsR]; · iexact HsR
    iexact HO
  isplitl [Hg']; · iexact Hg'
  isplitl [HrowR]; · iexact HrowR
  isplitl [Hs2]; · iexact Hs2
  iexact Hb

theorem outWaitC {src : Memref sig .scVector .vmem S100x20 .f32} {hb h3 h4 w1 w2} {kk : PUnit → Prog (TpuEff nD τ sig (Elt F) Λ₀ (.scVector (cV L) (jV L))) α}
    {hh : k1_cond1 L = 1#1} (h : iprop(R ∗ E2 d L ct rt wv O W hh) ⊢ WP d L (kk ⟨⟩) Q) :
    iprop(R ∗ E1 d L ct rt wv O W hh) ⊢ WP d L (Prog.lift (.waitDma2 cc1_scoped1.sem src
      ((clsoM.slice (Rect.unit (s := S24x100x20) (k1_off506 L) S1x100x20.size hb) h3).squeeze S100x20 h4) w1 w2) >>= kk) Q := by
  rw [lift_bind]
  unfold E1 E0
  unfold E2 E0 at h
  iintro ⟨HR, ⟨⟨#Hmw, Hp, HdC, HdR, Hrest, HsC, HsR, %W', %hW', HO⟩, Hg', HrowR, Hs2, Hb⟩⟩
  iapply (wp_waitBatchLastO EC 𝒱₀ (th d L) none (hsrc := w1) (hdst := w2) none (N := (rowC L hh).view.dmaCredit) rfl (View.dmaCredit_pos _ (by decide)) (n := 1) (u := 0) (by omega)) $$ [Hb HO]
  · isplitl [Hb]; · iexact Hb
    isplitl [HO]; · iexact HO
    iapply (MayWaits.elim sem1) $$ Hmw
  iintro ⟨HD, Hs, HO⟩
  ihave HD := (Entails.of_eq (bigSep_fin1 _)) $$ HD
  iapply h
  isplitl [HR]; · iexact HR
  isplitl [Hp HdC HdR Hrest HsC HsR HO]
  · isplitr; · iexact Hmw
    isplitl [Hp]; · iexact Hp
    isplitl [HdC]; · iexact HdC
    isplitl [HdR]; · iexact HdR
    isplitl [Hrest]; · iexact Hrest
    isplitl [HsC]; · iexact HsC
    isplitl [HsR]; · iexact HsR
    iexists (insert (sem1, none) W'); isplitr
    · ipureintro; exact waits_insert hW'
    iexact HO
  isplitl [Hg']; · iexact Hg'
  isplitl [HrowR]; · iexact HrowR
  isplitl [Hs2]; · iexact Hs2
  isplitl [Hs]; · iexact Hs
  iexact HD

theorem outIssueR {hb h3 h4 w1 w2 w3} {kk : PUnit → Prog (TpuEff nD τ sig (Elt F) Λ₀ (.scVector (cV L) (jV L))) α}
    {hh : k1_cond1 L = 1#1} (h : iprop(R ∗ E3 d L ct rt wv O W hh) ⊢ WP d L (kk ⟨⟩) Q) :
    iprop(R ∗ E2 d L ct rt wv O W hh) ⊢ WP d L (Prog.lift (.enqueueDma rO
      (.here ((regoM.slice (Rect.unit (s := S24x128x5) (k1_off507 L) S1x128x5.size hb) h3).squeeze S128x5 h4)) (.dma cc1_scoped2.sem) w1 w2 w3) >>= kk) Q := by
  rw [lift_bind]
  unfold E2
  unfold E3 at h
  iintro ⟨HR, ⟨HE, ⟨%g, %hg, Hg⟩, ⟨%fo, HrowR⟩, Hs2, Hs1, HdO⟩⟩
  imod (batch_alloc' EC (th d L) none (rowR L hh).view.dmaCredit (fun _ : Fin 1 => delOR d L rt wv hh)) $$ Hs2 with Hb
  ihave Hg := (Entails.of_eq (show (rO.view.loc (th d L) ↦{fullShare} g : sProp 𝕄) = (rO.view.loc (th d L) ↦[rO.view.set]{fullShare} g) by
    rw [show rO.view.set = Finset.univ from View.set_whole _])) $$ Hg
  iapply (wp_dmaBatch EC 𝒱₀ (th d L) none (hsrc := w1) (hdst := w2) (hsem := w3) none (rowR L hh).view.dmaCredit rfl (subset_refl _) Nat.zero_lt_one (Nat.zero_le _)
    (D := fun _ : Fin 1 => delOR d L rt wv hh)
    (delivOR (F := F) (d := d) (rt := rt) (hb := hb) (h3 := h3) (h4 := h4) (fd := fo) hh hg)) $$ [Hg HrowR Hb]
  · isplitl [Hg]; · iexact Hg
    isplitl [HrowR]; · iexact HrowR
    iexact Hb
  iintro Hb
  iapply h
  isplitl [HR]; · iexact HR
  isplitl [HE]; · iexact HE
  isplitl [Hs1]; · iexact Hs1
  isplitl [HdO]; · iexact HdO
  iexact Hb

theorem outWaitR {src : Memref sig .scVector .vmem S128x5 .f32} {hb h3 h4 w1 w2} {kk : PUnit → Prog (TpuEff nD τ sig (Elt F) Λ₀ (.scVector (cV L) (jV L))) α}
    {hh : k1_cond1 L = 1#1} (h : iprop(R ∗ E4 d L ct rt wv O W hh) ⊢ WP d L (kk ⟨⟩) Q) :
    iprop(R ∗ E3 d L ct rt wv O W hh) ⊢ WP d L (Prog.lift (.waitDma2 cc1_scoped2.sem src
      ((regoM.slice (Rect.unit (s := S24x128x5) (k1_off507 L) S1x128x5.size hb) h3).squeeze S128x5 h4) w1 w2) >>= kk) Q := by
  rw [lift_bind]
  unfold E3 E0
  unfold E4 E0 at h
  iintro ⟨HR, ⟨⟨#Hmw, Hp, HdC, HdR, Hrest, HsC, HsR, %W', %hW', HO⟩, Hs1, HdO, Hb⟩⟩
  iapply (wp_waitBatchLastO EC 𝒱₀ (th d L) none (hsrc := w1) (hdst := w2) none (N := (rowR L hh).view.dmaCredit) rfl (View.dmaCredit_pos _ (by decide)) (n := 1) (u := 0) (by omega)) $$ [Hb HO]
  · isplitl [Hb]; · iexact Hb
    isplitl [HO]; · iexact HO
    iapply (MayWaits.elim sem2) $$ Hmw
  iintro ⟨HD, Hs, HO⟩
  ihave HD := (Entails.of_eq (bigSep_fin1 _)) $$ HD
  iapply h
  isplitl [HR]; · iexact HR
  isplitl [Hp HdC HdR Hrest HsC HsR HO]
  · isplitr; · iexact Hmw
    isplitl [Hp]; · iexact Hp
    isplitl [HdC]; · iexact HdC
    isplitl [HdR]; · iexact HdR
    isplitl [Hrest]; · iexact Hrest
    isplitl [HsC]; · iexact HsC
    isplitl [HsR]; · iexact HsR
    iexists (insert (sem2, none) W'); isplitr
    · ipureintro; exact waits_insert hW'
    iexact HO
  isplitl [Hs1]; · iexact Hs1
  isplitl [HdO]; · iexact HdO
  isplitl [Hs]; · iexact Hs
  iexact HD

end Cert.Proof.K
-- ==== Proof.Body.lean ====
module

public import proofs.«01_k».proof.Proof.Steps

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Batch MayWaits pending)

variable {F : FTy → Type}
local notation "𝕄" => MM F
variable [FloatOps F]
variable {d : Dev nD} {L : grid1.Coords} {ct : S3x8x9x80x80x20.Idx → Elt F .f32} {rt : S3x8x9x80x80x5.Idx → Elt F .f32}
  {wv : S128.Idx → BitVec 32} {O : CellTallies nD τ sig (HIx 1)} {W : Waits sig (HIx 1)} {R : sProp (MM F)}
variable {α β : Type} {Q : α → sProp (MM F)}
set_option maxHeartbeats 0
set_option maxRecDepth 100000
/-- An active subcore's body: it fetches its words, fetches and picks from the slabs chunk by chunk, and writes its two rows out. -/
theorem body_active (h1 : k1_cond1 L = 1#1) (iv : S3072.Idx → BitVec 32) (hw : ∀ n, InR (word (words L iv) n)) :
    iprop(iprop(R ∗ RR d L h1) ∗ F0 d L ct rt O W iv) ⊢ WP d L (cc1__sc_body (F := F) L clsM (Memref.isWhole_whole _) regM (Memref.isWhole_whole _) idxM (Memref.isWhole_whole _) clsoM (Memref.isWhole_whole _) regoM (Memref.isWhole_whole _)
      pW (Memref.isWhole_whole _) cD (Memref.isWhole_whole _) rD (Memref.isWhole_whole _) cO (Memref.isWhole_whole _) rO (Memref.isWhole_whole _) cc1_scratch5 cc1_scratch6 cc1_scoped0 cc1_scoped1 cc1_scoped2)
      fun _ => iprop(iprop(R ∗ semVal (th d L, sem0) 0) ∗ E4 d L ct rt (words L iv) O W h1) := by
  have hL : wid L < 24 := wid_lt L h1
  delta cc1__sc_body
  with_reducible refine dite_step h1 ?_
  iterate 2
    with_reducible refine bind_step ?_
    refine enter (F := F) ?_
  with_reducible refine fetchIssue hL ?_
  with_reducible refine fetchWait ?_
  with_reducible refine loadB ?_
  repeat (first
   | ((with_reducible refine assumeB hw ?_ ?_); first | exact id | exact fun h => ⟨h.1, h.2.1⟩)
   | ((with_reducible refine issueC hL hw ?_ ?_ ?_ ?_ ?_); rfl; decide; decide; rfl)
   | ((with_reducible refine issueR hL hw ?_ ?_ ?_ ?_ ?_); rfl; decide; decide; rfl)
   | with_reducible refine loadB ?_
   | ((with_reducible refine waitC ?_ ?_ ?_); rfl; decide)
   | ((with_reducible refine waitR ?_ ?_ ?_); rfl; decide)
   | with_reducible refine collect ?_
   | with_reducible refine loadS ?_
   | ((with_reducible refine gatherC ?_ ?_ ?_ ?_ ?_ ?_); decide; decide; decide; decide; decide)
   | ((with_reducible refine gatherR ?_ ?_ ?_ ?_ ?_ ?_); decide; decide; decide; decide; decide)
   | ((with_reducible refine scatterC ?_ ?_ ?_ ?_ ?_ ?_); rfl; decide; decide; decide; decide)
   | ((with_reducible refine scatterR ?_ ?_ ?_ ?_ ?_ ?_); rfl; decide; decide; decide; decide)
   | ((with_reducible refine assumeS ?_ ?_); first | exact chkC (by decide) (by decide) (by decide) | exact chkR (by decide) (by decide) (by decide))
   | with_reducible refine pure_step ?_
   | ((with_reducible refine outIssueC h1 ?_ ?_ ?_); decide; decide)
   | with_reducible refine outWaitC ?_
   | with_reducible refine outIssueR ?_
   | with_reducible refine outWaitR ?_
   | with_reducible refine bind_step ?_
   | ((with_reducible refine next ?_ ?_ ?_); decide; decide)
   | refine enter (F := F) ?_)
  exact .rfl
end Cert.Proof.K
-- ==== Proof.Tile.lean ====
module

public import proofs.«01_k».proof.Proof.Body

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Batch MayWaits pending)

variable {F : FTy → Type}
local notation "𝕄" => MM F
variable [FloatOps F]
variable {d : Dev nD} {L : grid1.Coords} {ct : S3x8x9x80x80x20.Idx → Elt F .f32} {rt : S3x8x9x80x80x5.Idx → Elt F .f32}
  {wv : S128.Idx → BitVec 32} {O : CellTallies nD τ sig (HIx 1)} {W : Waits sig (HIx 1)} {R : sProp (MM F)}
variable {α β : Type} {Q : α → sProp (MM F)}

/-! ## A subcore's share and what it leaves -/

/-- The coordinates of the subcore numbered `r`. -/
def LL (r : ℕ) : grid1.Coords := fun
  | 0 => (⟨r % 2, Nat.mod_lt _ (by decide)⟩ : Fin 2)
  | 1 => (⟨r / 2 % 16, Nat.mod_lt _ (by decide)⟩ : Fin 16)
  | ⟨_ + 2, h⟩ => absurd h (Nat.not_lt.2 (Nat.le_add_left _ _))

omit [FloatOps F] in
theorem LL_wid (L : grid1.Coords) : LL (wid L) = L := by
  have h0 : (L 0).val < 2 := (L 0).isLt
  have h1 : (L 1).val < 16 := (L 1).isLt
  funext a
  match a with
  | 0 => apply Fin.ext; show (2 * (L 1).val + (L 0).val) % 2 = _; omega
  | 1 => apply Fin.ext; show (2 * (L 1).val + (L 0).val) / 2 % 16 = _; omega

/-- The classifications the subcores write: each row by the subcore of its number. -/
def clsOut (ct : S3x8x9x80x80x20.Idx → Elt F .f32) (iv : S3072.Idx → BitVec 32) : S24x100x20.Idx → Elt F .f32 :=
  fun y => outC (LL (y 0).val) ct (words (LL (y 0).val) iv) y
/-- The regressions they write. -/
def regOut (rt : S3x8x9x80x80x5.Idx → Elt F .f32) (iv : S3072.Idx → BitVec 32) : S24x128x5.Idx → Elt F .f32 :=
  fun y => outR (LL (y 0).val) rt (words (LL (y 0).val) iv) y

/-- Row `r` of the two outputs. -/
def cset (r : ℕ) : Finset S24x100x20.Idx := Finset.univ.filter fun y => (y 0).val = r
def rset (r : ℕ) : Finset S24x128x5.Idx := Finset.univ.filter fun y => (y 0).val = r

abbrev iLoc (d : Dev nD) : Loc nD τ sig := (SparseCore.T d).loc main_v3
abbrev cLoc (d : Dev nD) : Loc nD τ sig := (SparseCore.T d).loc main_arg3
abbrev rLoc (d : Dev nD) : Loc nD τ sig := (SparseCore.T d).loc main_arg2
abbrev coLoc (d : Dev nD) : Loc nD τ sig := (SparseCore.T d).loc main_v4_0
abbrev roLoc (d : Dev nD) : Loc nD τ sig := (SparseCore.T d).loc main_v4_1

/-- What subcore `r` is handed: the three inputs to read, its row of each output. -/
def goP (d : Dev nD) (iv : S3072.Idx → BitVec 32) (ct : S3x8x9x80x80x20.Idx → Elt F .f32) (rt : S3x8x9x80x80x5.Idx → Elt F .f32) (r : ℕ) : sProp 𝕄 :=
  iprop(rd (iLoc d) iv ∗ rd (cLoc d) ct ∗ rd (rLoc d) rt
    ∗ (∃ f, coLoc d ↦[cset r]{fullShare} f) ∗ (∃ f, roLoc d ↦[rset r]{fullShare} f))
/-- What it gives back: its rows written. -/
def tdP (d : Dev nD) (iv : S3072.Idx → BitVec 32) (ct : S3x8x9x80x80x20.Idx → Elt F .f32) (rt : S3x8x9x80x80x5.Idx → Elt F .f32) (r : ℕ) : sProp 𝕄 :=
  iprop((coLoc d ↦[cset r]{fullShare} (clsOut ct iv : Buf (Elt F) (coLoc d))) ∗ (roLoc d ↦[rset r]{fullShare} (regOut rt iv : Buf (Elt F) (roLoc d))))

instance (d iv ct rt r) : Storable (upEmb : UEmb _ 𝕄) (goP (F := F) d iv ct rt r) := by unfold goP rd; infer_instance
instance (d iv ct rt r) : Storable (upEmb : UEmb _ 𝕄) (tdP (F := F) d iv ct rt r) := by unfold tdP; infer_instance

omit [FloatOps F] in
theorem rowC_set (h : k1_cond1 L = 1#1) : (rowC L h).view.set = cset (wid L) := by
  have e : (rowC L h).view.set = (Rect.unit (s := S24x100x20) (k1_off506 L) S1x100x20.size (k1_off506_inb L h)).set :=
    (View.set_reshape _ _).trans (View.set_slice_whole _ _)
  ext i
  rw [e, Rect.mem_set_unit, cset, Finset.mem_filter, k1_off506_eq]
  have hw : wid L = 2 * (L 1).val + (L 0).val := rfl
  have h1 : (i 1).val < 100 := (i 1).isLt
  have h2 : (i 2).val < 20 := (i 2).isLt
  constructor
  · intro h
    have := h 0
    have ha : 2 * (L 1).val + (L 0).val ≤ (i 0).val := this.1
    have hb : (i 0).val < 2 * (L 1).val + (L 0).val + 1 := this.2
    exact ⟨Finset.mem_univ _, by omega⟩
  · rintro ⟨-, h⟩ a
    fin_cases a
    · exact ⟨h.symm.le, by show (i 0).val < 2 * (L 1).val + (L 0).val + 1; omega⟩
    · exact ⟨Nat.zero_le _, by show (i 1).val < 0 + 100; omega⟩
    · exact ⟨Nat.zero_le _, by show (i 2).val < 0 + 20; omega⟩
omit [FloatOps F] in
theorem rowR_set (h : k1_cond1 L = 1#1) : (rowR L h).view.set = rset (wid L) := by
  have e : (rowR L h).view.set = (Rect.unit (s := S24x128x5) (k1_off507 L) S1x128x5.size (k1_off507_inb L h)).set :=
    (View.set_reshape _ _).trans (View.set_slice_whole _ _)
  ext i
  rw [e, Rect.mem_set_unit, rset, Finset.mem_filter, k1_off507_eq]
  have hw : wid L = 2 * (L 1).val + (L 0).val := rfl
  have h1 : (i 1).val < 128 := (i 1).isLt
  have h2 : (i 2).val < 5 := (i 2).isLt
  constructor
  · intro h
    have := h 0
    have ha : 2 * (L 1).val + (L 0).val ≤ (i 0).val := this.1
    have hb : (i 0).val < 2 * (L 1).val + (L 0).val + 1 := this.2
    exact ⟨Finset.mem_univ _, by omega⟩
  · rintro ⟨-, h⟩ a
    fin_cases a
    · exact ⟨h.symm.le, by show (i 0).val < 2 * (L 1).val + (L 0).val + 1; omega⟩
    · exact ⟨Nat.zero_le _, by show (i 1).val < 0 + 128; omega⟩
    · exact ⟨Nat.zero_le _, by show (i 2).val < 0 + 5; omega⟩

/-! ## The subcore's own buffers and counters -/

abbrev g (d : Dev nD) (L : grid1.Coords) (s : SemLoc sig) : GSem nD τ sig := (th d L, s)

omit [FloatOps F] in
theorem g_ne {s s' : SemLoc sig} (h : s ≠ s') : g d L s ≠ g d L s' := fun e => h (Prod.mk.inj e).2
omit [FloatOps F] in
theorem g_mem {s : SemLoc sig} (h : s.isScoped .scVector = true) : g d L s ∈ ownCells (th d L) := mem_ownCells.mpr ⟨rfl, h⟩

def semsRest (d : Dev nD) (L : grid1.Coords) : sProp 𝕄 :=
  bigSep ((((((ownCells (th d L)).erase (g d L semC)).erase (g d L semR)).erase (g d L sem0)).erase (g d L sem1)).erase (g d L sem2)) fun x => semVal x 0

omit [FloatOps F] in
theorem ownSems0_V : (ownSems0 (th d L) : sProp 𝕄)
    = iprop(semVal (g d L semC) 0 ∗ semVal (g d L semR) 0 ∗ semVal (g d L sem0) 0 ∗ semVal (g d L sem1) 0 ∗ semVal (g d L sem2) 0 ∗ semsRest d L) := by
  unfold SparseCore.Cfg.ownSems0 semsRest
  rw [SparseCore.bigSep_erase' (g_mem (s := semC) (by decide)),
    SparseCore.bigSep_erase' (Finset.mem_erase.mpr ⟨g_ne (by decide), g_mem (s := semR) (by decide)⟩),
    SparseCore.bigSep_erase' (Finset.mem_erase.mpr ⟨g_ne (by decide), Finset.mem_erase.mpr ⟨g_ne (by decide), g_mem (s := sem0) (by decide)⟩⟩),
    SparseCore.bigSep_erase' (Finset.mem_erase.mpr ⟨g_ne (by decide), Finset.mem_erase.mpr ⟨g_ne (by decide), Finset.mem_erase.mpr ⟨g_ne (by decide), g_mem (s := sem1) (by decide)⟩⟩⟩),
    SparseCore.bigSep_erase' (Finset.mem_erase.mpr ⟨g_ne (by decide), Finset.mem_erase.mpr ⟨g_ne (by decide), Finset.mem_erase.mpr ⟨g_ne (by decide),
      Finset.mem_erase.mpr ⟨g_ne (by decide), g_mem (s := sem2) (by decide)⟩⟩⟩⟩)]

abbrev bf (L : grid1.Coords) (b : Ref sig .scVector) : DevRef τ sig := (Proc.scVector (cV L) (jV L)).devRef b
omit [FloatOps F] in
theorem bf_ne {b b' : Ref sig .scVector} (h : b ≠ b') : bf L b ≠ bf L b' := fun e => h (Proc.devRef_injective _ e)

def bufsRest (d : Dev nD) (L : grid1.Coords) : sProp 𝕄 :=
  bigSep ((((((ownRefs (τ := τ) (.scVector (cV L) (jV L))).erase (bf L cc1_scratch0)).erase (bf L cc1_scratch1)).erase (bf L cc1_scratch2)).erase (bf L cc1_scratch3)).erase (bf L cc1_scratch4))
    fun b => iprop(∃ f, ((d, b) : Loc nD τ sig) ↦{fullShare} f)

omit [FloatOps F] in
theorem ownBufs_V : (ownBufs (th d L) : sProp 𝕄)
    = iprop((∃ f, pW.view.loc (th d L) ↦{fullShare} f) ∗ (∃ f, cD.view.loc (th d L) ↦{fullShare} f) ∗ (∃ f, rD.view.loc (th d L) ↦{fullShare} f)
        ∗ (∃ f, cO.view.loc (th d L) ↦{fullShare} f) ∗ (∃ f, rO.view.loc (th d L) ↦{fullShare} f) ∗ bufsRest d L) := by
  unfold SparseCore.Cfg.ownBufs bufsRest
  have hm : ∀ b : Ref sig .scVector, (bf L b).owner = .proc (.scVector (cV L) (jV L)) → bf L b ∈ ownRefs (τ := τ) (.scVector (cV L) (jV L)) := fun b h =>
    SparseCore.Cfg.mem_ownRefs_of_owner h
  refine (SparseCore.bigSep_erase' (hm cc1_scratch0 rfl)).trans ?_
  rw [SparseCore.bigSep_erase' (Finset.mem_erase.mpr ⟨bf_ne (by decide), hm cc1_scratch1 rfl⟩),
    SparseCore.bigSep_erase' (Finset.mem_erase.mpr ⟨bf_ne (by decide), Finset.mem_erase.mpr ⟨bf_ne (by decide), hm cc1_scratch2 rfl⟩⟩),
    SparseCore.bigSep_erase' (Finset.mem_erase.mpr ⟨bf_ne (by decide), Finset.mem_erase.mpr ⟨bf_ne (by decide), Finset.mem_erase.mpr ⟨bf_ne (by decide), hm cc1_scratch3 rfl⟩⟩⟩),
    SparseCore.bigSep_erase' (Finset.mem_erase.mpr ⟨bf_ne (by decide), Finset.mem_erase.mpr ⟨bf_ne (by decide), Finset.mem_erase.mpr ⟨bf_ne (by decide),
      Finset.mem_erase.mpr ⟨bf_ne (by decide), hm cc1_scratch4 rfl⟩⟩⟩⟩)]

/-! ## The body of any subcore -/

variable {iv : S3072.Idx → BitVec 32}

theorem pts_cls (h : k1_cond1 L = 1#1) : ((rowC L h).view.loc (th d L) ↦[(rowC L h).view.set]{fullShare} (outC L ct (words L iv) : Buf (Elt F) ((rowC L h).view.loc (th d L))) : sProp 𝕄)
    = (coLoc d ↦[cset (wid L)]{fullShare} (clsOut ct iv : Buf (Elt F) (coLoc d))) := by
  rw [rowC_set]
  refine pointsTo_congr fun i hi => ?_
  have hi' : (i 0).val = wid L := (Finset.mem_filter.mp hi).2
  show outC L ct (words L iv) i = outC (LL (i 0).val) ct (words (LL (i 0).val) iv) i
  rw [hi', LL_wid]
theorem pts_reg (h : k1_cond1 L = 1#1) : ((rowR L h).view.loc (th d L) ↦[(rowR L h).view.set]{fullShare} (outR L rt (words L iv) : Buf (Elt F) ((rowR L h).view.loc (th d L))) : sProp 𝕄)
    = (roLoc d ↦[rset (wid L)]{fullShare} (regOut rt iv : Buf (Elt F) (roLoc d))) := by
  rw [rowR_set]
  refine pointsTo_congr fun i hi => ?_
  have hi' : (i 0).val = wid L := (Finset.mem_filter.mp hi).2
  show outR L rt (words L iv) i = outR (LL (i 0).val) rt (words (LL (i 0).val) iv) i
  rw [hi', LL_wid]

abbrev bodyAt (L : grid1.Coords) : Prog (TpuEff nD τ sig (Elt F) Λ₀ (.scVector (cV L) (jV L))) PUnit :=
  cc1__sc_body (F := F) L clsM (Memref.isWhole_whole _) regM (Memref.isWhole_whole _) idxM (Memref.isWhole_whole _) clsoM (Memref.isWhole_whole _) regoM (Memref.isWhole_whole _)
      pW (Memref.isWhole_whole _) cD (Memref.isWhole_whole _) rD (Memref.isWhole_whole _) cO (Memref.isWhole_whole _) rO (Memref.isWhole_whole _) cc1_scratch5 cc1_scratch6 cc1_scoped0 cc1_scoped1 cc1_scoped2

/-- What a subcore holds at its body's start and at its end. -/
abbrev tilePre (d : Dev nD) (L : grid1.Coords) (iv : S3072.Idx → BitVec 32) (ct : S3x8x9x80x80x20.Idx → Elt F .f32) (rt : S3x8x9x80x80x5.Idx → Elt F .f32)
    (O : CellTallies nD τ sig (HIx 1)) (W : Waits sig (HIx 1)) : sProp 𝕄 :=
  iprop(levAts (K (F := F)).L (K (F := F)).lev ∗ emp ∗ goP d iv ct rt (wid L) ∗ scopedBufs (th d L) ∗ scopedSems0 (th d L) ∗ owes (th d L) O W)
abbrev tilePost (d : Dev nD) (L : grid1.Coords) (iv : S3072.Idx → BitVec 32) (ct : S3x8x9x80x80x20.Idx → Elt F .f32) (rt : S3x8x9x80x80x5.Idx → Elt F .f32)
    (O : CellTallies nD τ sig (HIx 1)) (W : Waits sig (HIx 1)) : sProp 𝕄 :=
  iprop(tdP d iv ct rt (wid L) ∗ scopedBufs (th d L) ∗ scopedSems0 (th d L) ∗ ∃ W', ⌜∀ p ∈ W', p ∈ W ∨ p.2 = none⌝ ∗ owes (th d L) O W')

theorem tile_start (hO : ∀ g, O g none = 0) (h1 : k1_cond1 L = 1#1) :
    tilePre d L iv ct rt O W ⊢ iprop(iprop(iprop(bufsRest d L ∗ semsRest d L) ∗ RR d L h1) ∗ F0 d L ct rt O W iv) := by
  unfold tilePre
  rw [(K (F := F)).scopedBufs_V facts d (cV L) (jV L), SparseCore.Cfg.scopedSems0_V (Val := Elt F) d (cV L) (jV L), ownSems0_V, ownBufs_V]
  unfold goP RR F0 F00
  rw [rowC_set, rowR_set]
  iintro ⟨#Hlv, -, ⟨Hi, Hc, Hr, Hco, Hro⟩, ⟨HpW, HcD, HrD, HcO, HrO, Hbr⟩, ⟨HsC, HsR, Hs0, Hs1, Hs2, Hsr⟩, HO⟩
  ihave Hmw := ((K (F := F)).mayWaits_none (thr := th d L) hO) $$ Hlv
  isplitl [Hbr Hsr Hco Hro Hs1 Hs2]
  · isplitl [Hbr Hsr]
    · isplitl [Hbr]; · iexact Hbr
      iexact Hsr
    isplitl [Hco]; · iexact Hco
    isplitl [Hro]; · iexact Hro
    isplitl [Hs1]; · iexact Hs1
    iexact Hs2
  isplitr [Hi HpW Hs0]
  · isplitl [Hmw]; · iexact Hmw
    isplitl [Hc]; · iexact Hc
    isplitl [Hr]; · iexact Hr
    isplitl [HcD]; · iexact HcD
    isplitl [HrD]; · iexact HrD
    isplitl [HcO]; · iexact HcO
    isplitl [HrO]; · iexact HrO
    isplitl [HsC]; · iexact HsC
    isplitl [HsR]; · iexact HsR
    iexact HO
  isplitl [Hi]; · iexact Hi
  isplitl [HpW]; · iexact HpW
  iexact Hs0

theorem tile_end (h1 : k1_cond1 L = 1#1) :
    iprop(iprop(iprop(bufsRest d L ∗ semsRest d L) ∗ semVal (th d L, sem0) 0) ∗ E4 d L ct rt (words L iv) O W h1) ⊢ tilePost d L iv ct rt O W := by
  unfold tilePost
  rw [(K (F := F)).scopedBufs_V facts d (cV L) (jV L), SparseCore.Cfg.scopedSems0_V (Val := Elt F) d (cV L) (jV L), ownSems0_V, ownBufs_V]
  unfold E4 E0 delOC delOR tdP
  rw [pts_cls, pts_reg]
  iintro ⟨⟨⟨Hbr, Hsr⟩, Hs0⟩, ⟨-, HpW, HcD, HrD, ⟨%f1, HcO⟩, HsC, HsR, HO⟩, Hs1, ⟨Hco, %f2, HcO'⟩, Hs2, ⟨Hro, HrO⟩⟩
  isplitl [Hco Hro]
  · isplitl [Hco]; · iexact Hco
    iexact Hro
  isplitl [HpW HcD HrD HcO HcO' HrO Hbr]
  · isplitl [HpW]; · iexact HpW
    isplitl [HcD]; · iexact HcD
    isplitl [HrD]; · iexact HrD
    isplitl [HcO HcO']
    · iexists _
      iapply (pointsTo_join_subset (Finset.subset_univ cO100.view.set))
      isplitl [HcO']; · iexact HcO'
      iexact HcO
    isplitl [HrO]; · iexact HrO
    iexact Hbr
  isplitl [HsC HsR Hs0 Hs1 Hs2 Hsr]
  · isplitl [HsC]; · iexact HsC
    isplitl [HsR]; · iexact HsR
    isplitl [Hs0]; · iexact Hs0
    isplitl [Hs1]; · iexact Hs1
    isplitl [Hs2]; · iexact Hs2
    iexact Hsr
  iexact HO

omit [FloatOps F] in
theorem cset_empty {r : ℕ} (h : 24 ≤ r) : cset r = ∅ := by
  refine Finset.filter_eq_empty_iff.mpr fun y _ e => ?_
  have : (y 0).val < 24 := (y 0).isLt
  omega
omit [FloatOps F] in
theorem rset_empty {r : ℕ} (h : 24 ≤ r) : rset r = ∅ := by
  refine Finset.filter_eq_empty_iff.mpr fun y _ e => ?_
  have : (y 0).val < 24 := (y 0).isLt
  omega

omit [FloatOps F] in
theorem wid_ge : ∀ {L : grid1.Coords}, ¬ k1_cond1 L = 1#1 → 24 ≤ wid L := by decide +kernel

/-- The body of a subcore with no row to write does nothing. -/
theorem body_idle (h : ¬ k1_cond1 L = 1#1) : (bodyAt (F := F) L) = pure ⟨⟩ := by
  unfold bodyAt
  delta cc1__sc_body
  exact dif_neg h

/-- The body of any subcore, from what it is handed to what it gives back. -/
theorem tile_body (hI : ∀ i, InR (iv i)) (hO : ∀ g, O g none = 0) :
    tilePre d L iv ct rt O W ⊢ WP d L (bodyAt L) fun _ => tilePost d L iv ct rt O W := by
  by_cases h1 : k1_cond1 L = 1#1
  · exact (tile_start hO h1).trans ((body_active h1 iv fun n => hI _).trans (wp_mono frame _ _ fun _ => tile_end h1))
  · rw [body_idle h1]
    unfold tilePre tilePost goP tdP
    rw [cset_empty (wid_ge h1), rset_empty (wid_ge h1), pointsTo_empty, pointsTo_empty]
    unfold WP
    rw [wp_pure]
    iintro ⟨-, -, -, Hb, Hs, HO⟩
    imodintro
    isplitr
    · isplitr; · iempintro
      iempintro
    isplitl [Hb]; · iexact Hb
    isplitl [Hs]; · iexact Hs
    iexists W; isplitr
    · ipureintro; exact fun p hp => .inl hp
    iexact HO

end Cert.Proof.K
-- ==== Proof.Call.lean ====
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Batch MayWaits pending)

variable {F : FTy → Type}
local notation "𝕄" => MM F
variable [FloatOps F]

/-! ## The call's payloads -/

section Call
variable (iv : Dev nD → S3072.Idx → BitVec 32) (ct : Dev nD → S3x8x9x80x80x20.Idx → Elt F .f32) (rt : Dev nD → S3x8x9x80x80x5.Idx → Elt F .f32)

/-- What each handshake of the call carries: a subcore's share, and a SparseCore's the shares of its subcores. -/
def P : (K (F := F)).Pay (nD := nD) (Val := Elt F) (Name := ℕ) (U := UU) where
  st := fun q d c => bigSep Finset.univ fun i : Fin ((K (F := F)).nSub q) => goP d (iv d) (ct d) (rt d) (2 * i.val + c.val)
  dn := fun q d c => bigSep Finset.univ fun i : Fin ((K (F := F)).nSub q) => tdP d (iv d) (ct d) (rt d) (2 * i.val + c.val)
  go := fun _ d c i => goP d (iv d) (ct d) (rt d) (2 * i.val + c.val)
  td := fun _ d c i => tdP d (iv d) (ct d) (rt d) (2 * i.val + c.val)
  x := fun _ _ => iprop(emp)

instance P_storable : (P (F := F) iv ct rt).IsStorable where
  st q d c := by unfold P; infer_instance
  dn q d c := by unfold P; infer_instance
  go q d c i := by unfold P; infer_instance
  td q d c i := by unfold P; infer_instance

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (F := F) (coordsV c s)
          clsM (Memref.isWhole_whole _) regM (Memref.isWhole_whole _) idxM (Memref.isWhole_whole _) clsoM (Memref.isWhole_whole _) regoM (Memref.isWhole_whole _)
          pW (Memref.isWhole_whole _) cD (Memref.isWhole_whole _) rD (Memref.isWhole_whole _) cO (Memref.isWhole_whole _) rO (Memref.isWhole_whole _)
          cc1_scratch5 cc1_scratch6 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation on each vector subcore. -/
theorem tileObl (hI : ∀ d i, InR (iv d i)) : (K (F := F)).TileObl (D (F := F)) 𝒱 (P iv ct rt) v₀ 0 := by
  intro d c i O W hO _ _
  simp only [show (P (F := F) iv ct rt).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body (d := d) (L := coordsV ⟨_, hc.1⟩ ⟨_, hc.2⟩) (O := O) (W := W) (hI d) hO).trans (wp_mono frame _ _ fun _ => obl_post)

theorem vecSplit : (K (F := F)).VecSplit' (P iv ct rt) 0 := by
  intro d c
  show (P (F := F) iv ct rt).st 0 d c ⊢ |={Set.univ}=> iprop((P (F := F) iv ct rt).st 0 d c ∗ ((P (F := F) iv ct rt).dn 0 d c -∗ (P (F := F) iv ct rt).dn 0 d c))
  iintro H; imodintro
  isplitl [H]; · iexact H
  iintro H; iexact H

omit [FloatOps F] in
theorem bigSep_emps {I : Type} (s : Finset I) : (bigSep s fun _ => iprop(emp)) = (iprop(emp) : sProp 𝕄) := bigSep_emp_const s

/-! ## What the TensorCore hands over and takes back -/

/-- A resource to read can be handed to any number of readers and kept. -/
theorem rd_many {ℓ : Loc nD τ sig} {f : Buf (Elt F) ℓ} {I : Type} [DecidableEq I] (s : Finset I) :
    (rd ℓ f : sProp 𝕄) ⊢ iprop(rd ℓ f ∗ bigSep s fun _ => rd ℓ f) := by
  induction s using Finset.induction_on with
  | empty =>
    rw [bigSep_empty]
    iintro H
    isplitl [H]; · iexact H
    iempintro
  | insert a s ha ih =>
    rw [SparseCore.bigSep_insert' ha]
    refine ih.trans ?_
    iintro ⟨H, Hs⟩
    ihave H' := (rd_take (F := F) (ℓ := ℓ) (f := f) Finset.univ) $$ H
    icases H' with ⟨H1, H2⟩
    isplitl [H1]; · iexact H1
    isplitl [H2]; · unfold rd; iexact H2
    iexact Hs

/-- The number of a (SparseCore, subcore) pair. -/
abbrev num (p : Fin 2 × Fin 16) : ℕ := 2 * p.2.val + p.1.val

omit [FloatOps F] in
theorem num_inj {p q : Fin 2 × Fin 16} (h : num p = num q) : p = q := by
  obtain ⟨a, b⟩ := p; obtain ⟨a', b'⟩ := q
  have h' : 2 * b.val + a.val = 2 * b'.val + a'.val := h
  ext <;> simp <;> omega

omit [FloatOps F] in
theorem cls_rows (d : Dev nD) (f : Buf (Elt F) (coLoc d)) :
    (coLoc d ↦{fullShare} f : sProp 𝕄) = bigSep (Finset.univ ×ˢ Finset.univ) fun p : Fin 2 × Fin 16 => coLoc d ↦[cset (num p)]{fullShare} f := by
  have hU : (Finset.univ ×ˢ Finset.univ : Finset (Fin 2 × Fin 16)).biUnion (fun p => cset (num p)) = Finset.univ := by
    refine Finset.eq_univ_of_forall fun y => Finset.mem_biUnion.mpr ?_
    have hy : (y 0).val < 24 := (y 0).isLt
    refine ⟨(⟨(y 0).val % 2, Nat.mod_lt _ (by decide)⟩, ⟨(y 0).val / 2, by omega⟩), Finset.mem_product.mpr ⟨Finset.mem_univ _, Finset.mem_univ _⟩, Finset.mem_filter.mpr ⟨Finset.mem_univ _, ?_⟩⟩
    show (y 0).val = 2 * ((y 0).val / 2) + (y 0).val % 2
    omega
  rw [← pointsTo_biUnion (Finset.univ ×ˢ Finset.univ) (ℓ := coLoc d) (fun p : Fin 2 × Fin 16 => cset (num p)) fun p _ q _ h =>
    Finset.disjoint_left.mpr fun y hp hq => h (num_inj ((Finset.mem_filter.mp hp).2.symm.trans (Finset.mem_filter.mp hq).2)), hU]
omit [FloatOps F] in
theorem reg_rows (d : Dev nD) (f : Buf (Elt F) (roLoc d)) :
    (roLoc d ↦{fullShare} f : sProp 𝕄) = bigSep (Finset.univ ×ˢ Finset.univ) fun p : Fin 2 × Fin 16 => roLoc d ↦[rset (num p)]{fullShare} f := by
  have hU : (Finset.univ ×ˢ Finset.univ : Finset (Fin 2 × Fin 16)).biUnion (fun p => rset (num p)) = Finset.univ := by
    refine Finset.eq_univ_of_forall fun y => Finset.mem_biUnion.mpr ?_
    have hy : (y 0).val < 24 := (y 0).isLt
    refine ⟨(⟨(y 0).val % 2, Nat.mod_lt _ (by decide)⟩, ⟨(y 0).val / 2, by omega⟩), Finset.mem_product.mpr ⟨Finset.mem_univ _, Finset.mem_univ _⟩, Finset.mem_filter.mpr ⟨Finset.mem_univ _, ?_⟩⟩
    show (y 0).val = 2 * ((y 0).val / 2) + (y 0).val % 2
    omega
  rw [← pointsTo_biUnion (Finset.univ ×ˢ Finset.univ) (ℓ := roLoc d) (fun p : Fin 2 × Fin 16 => rset (num p)) fun p _ q _ h =>
    Finset.disjoint_left.mpr fun y hp hq => h (num_inj ((Finset.mem_filter.mp hp).2.symm.trans (Finset.mem_filter.mp hq).2)), hU]

omit [FloatOps F] in
theorem cls_ex (d : Dev nD) (f : Buf (Elt F) (coLoc d)) :
    (bigSep (Finset.univ ×ˢ Finset.univ) fun p : Fin 2 × Fin 16 => (coLoc d ↦[cset (num p)]{fullShare} f : sProp 𝕄))
      ⊢ bigSep (Finset.univ ×ˢ Finset.univ) fun p : Fin 2 × Fin 16 => iprop(∃ f, coLoc d ↦[cset (num p)]{fullShare} f) :=
  bigSep_mono fun p _ => (show (coLoc d ↦[cset (num p)]{fullShare} f : sProp 𝕄) ⊢ iprop(∃ f, coLoc d ↦[cset (num p)]{fullShare} f) from by
    iintro H; iexists f; iexact H)

omit [FloatOps F] in
theorem reg_ex (d : Dev nD) (f : Buf (Elt F) (roLoc d)) :
    (bigSep (Finset.univ ×ˢ Finset.univ) fun p : Fin 2 × Fin 16 => (roLoc d ↦[rset (num p)]{fullShare} f : sProp 𝕄))
      ⊢ bigSep (Finset.univ ×ˢ Finset.univ) fun p : Fin 2 × Fin 16 => iprop(∃ f, roLoc d ↦[rset (num p)]{fullShare} f) :=
  bigSep_mono fun p _ => (show (roLoc d ↦[rset (num p)]{fullShare} f : sProp 𝕄) ⊢ iprop(∃ f, roLoc d ↦[rset (num p)]{fullShare} f) from by
    iintro H; iexists f; iexact H)

/-- The five arrays make the two SparseCores' shares; the inputs stay readable. -/
theorem st_intro (d : Dev nD) (f : Buf (Elt F) (coLoc d)) (f' : Buf (Elt F) (roLoc d)) :
    iprop(rd (iLoc d) (iv d) ∗ rd (cLoc d) (ct d) ∗ rd (rLoc d) (rt d) ∗ (coLoc d ↦{fullShare} f) ∗ (roLoc d ↦{fullShare} f'))
      ⊢ iprop((bigSep Finset.univ fun c : Fin ((K (F := F)).nCore 0) => (P iv ct rt).st 0 d c) ∗ rd (cLoc d) (ct d) ∗ rd (rLoc d) (rt d)) := by
  have e : (bigSep Finset.univ fun c : Fin ((K (F := F)).nCore 0) => (P iv ct rt).st 0 d c)
      = bigSep (Finset.univ ×ˢ Finset.univ) fun p : Fin 2 × Fin 16 => goP d (iv d) (ct d) (rt d) (num p) :=
    (SparseCore.bigSep_product (Finset.univ : Finset (Fin 2)) (Finset.univ : Finset (Fin 16)) fun p => goP d (iv d) (ct d) (rt d) (num p)).symm
  rw [e, cls_rows, reg_rows]
  unfold goP
  rw [bigSep_sep', bigSep_sep', bigSep_sep', bigSep_sep']
  iintro ⟨Hi, Hc, Hr, Hco, Hro⟩
  ihave Hi' := (rd_many (F := F) (Finset.univ ×ˢ Finset.univ : Finset (Fin 2 × Fin 16))) $$ Hi
  ihave Hc' := (rd_many (F := F) (Finset.univ ×ˢ Finset.univ : Finset (Fin 2 × Fin 16))) $$ Hc
  ihave Hr' := (rd_many (F := F) (Finset.univ ×ˢ Finset.univ : Finset (Fin 2 × Fin 16))) $$ Hr
  icases Hi' with ⟨-, Hi⟩
  icases Hc' with ⟨Hc0, Hc⟩
  icases Hr' with ⟨Hr0, Hr⟩
  isplitr [Hc0 Hr0]
  · isplitl [Hi]; · iexact Hi
    isplitl [Hc]; · iexact Hc
    isplitl [Hr]; · iexact Hr
    isplitl [Hco]
    · iapply (cls_ex d f) $$ Hco
    · iapply (reg_ex d f') $$ Hro
  isplitl [Hc0]; · iexact Hc0
  iexact Hr0

/-- What comes back is the two outputs, written. -/
theorem dn_eq (d : Dev nD) :
    (bigSep Finset.univ fun c : Fin ((K (F := F)).nCore 0) => (P iv ct rt).dn 0 d c)
      = iprop((coLoc d ↦{fullShare} (clsOut (ct d) (iv d) : Buf (Elt F) (coLoc d))) ∗ (roLoc d ↦{fullShare} (regOut (rt d) (iv d) : Buf (Elt F) (roLoc d)))) := by
  have e : (bigSep Finset.univ fun c : Fin ((K (F := F)).nCore 0) => (P iv ct rt).dn 0 d c)
      = bigSep (Finset.univ ×ˢ Finset.univ) fun p : Fin 2 × Fin 16 => tdP d (iv d) (ct d) (rt d) (num p) :=
    (SparseCore.bigSep_product (Finset.univ : Finset (Fin 2)) (Finset.univ : Finset (Fin 16)) fun p => tdP d (iv d) (ct d) (rt d) (num p)).symm
  rw [e, cls_rows, reg_rows]
  unfold tdP
  rw [bigSep_sep']

end Call

end Cert.Proof.K
-- ==== Proof.TcRun.lean ====
module

public import proofs.«01_k».proof.Proof.Base
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-!
The TensorCore call's body, run once over any staging buffers.
-/

@[expose] public section

set_option maxRecDepth 16384

noncomputable section

namespace Cert.Proof.K

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

set_option maxHeartbeats 1000000 in
/-- The body's run over whole staging buffers: the inputs as they were, and each output with the pieces written that
the run finds. -/
noncomputable def kernelRun0_A (c : Dev nD) (arg0 : Memref sig .tc .smem S3x9x4 .f32) (harg0 : arg0.IsWhole) (arg1 : Memref sig .tc .vmem S6x8x128 .f32) (harg1 : arg1.IsWhole) (arg2 : Memref sig .tc .vmem S3x8x128 .i32) (harg2 : arg2.IsWhole) (arg3 : Memref sig .tc .vmem S3x8x100x4 .f32) (harg3 : arg3.IsWhole) (arg4 : Memref sig .tc .vmem S3x8x100x20 .f32) (harg4 : arg4.IsWhole)
    (x0 : Vec F S3x9x4 .f32) (x1 : Vec F S6x8x128 .f32) :
    Σ' (L2 : List (View.Piece (Elt F) S3x8x128 .i32)), Σ' (L3 : List (View.Piece (Elt F) S3x8x100x4 .f32)), { L4 : List (View.Piece (Elt F) S3x8x100x20 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4)) -∗ K ⟨⟩))
          ⊢ wp frame (wpE (defs₀ (F := F)) Variants.none c none) E (cc0__tc_body arg0 harg0 arg1 harg1 arg2 harg2 arg3 harg3 arg4 harg4) K } := by
  refine ⟨?_, ?_, ?_, fun E K => ?run⟩
  case run =>
    simp only [cc0__tc_body_eq_skeleton]; unfold cc0__tc_body_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    isplitl [H3]; · iexists _; iexact H3
    iexists _; iexact H4

end Cert.Proof.K

end
-- ==== Proof.Region.lean ====
module

public import proofs.«01_k».proof.Proof.Base
public import proofs.«01_k».proof.Proof.TcRun
public import proofs.«01_k».proof.Proof.Gen.KernelIdeal.Launch
public import Idealize.ShloMosaic.Lib.Pipeline.Frame
public import Idealize.ShloMosaic.Lib.Pipeline.FrameTail
public import Idealize.ShloMosaic.Lib.Pipeline.RegionArrays
public import Idealize.ShloMosaic.Lib.Pipeline.RegionArraysS
public import Idealize.ShloMosaic.Lib.StableHlo.Run
public import Idealize.ShloMosaic.Lib.StableHlo.RunRead

/-!
The TensorCore call as a region of the whole program: what its outputs hold, its proof data, and its entry and exit.
-/

@[expose] public section

set_option maxRecDepth 16384

noncomputable section

namespace Cert.Proof.K

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The host's lines before the call -/

/-- The host's line before the first call: the targets by component, padded by zeros. -/
def ops1 : List (HloOp τ sig (Elt F)) :=
  [ StableHlo.unary main_arg1 main_v0 ((transpose S6x8x100 [2, 0, 1] · transposes_S8x100x6_S6x8x100_2_0_1) : (⟨S8x100x6, .f32⟩ : BufTy).Contents (Elt F) → (⟨S6x8x100, .f32⟩ : BufTy).Contents (Elt F)),
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_v0 : StableHlo.TRef sig ⟨S6x8x100, .f32⟩) (.of main_call0_v0 : StableHlo.TRef sig ⟨S_, .f32⟩) (.of main_v1 : StableHlo.TRef sig ⟨S6x8x128, .f32⟩) (fun x v => pad S6x8x128 ![0, 0, 0] ![0, 0, 28] ![0, 0, 0] x v pads_S6x8x100_S6x8x128_000_000_0280 h_S_) ]

variable (m : (ℓ : Loc nD τ sig) → Buf (Elt F) ℓ)

/-- The contents at the first call. -/
def V0 (d : Dev nD) : Valuation τ sig (Elt F) := StableHlo.after ops1 (StableHlo.launchContents m d)

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V0 m c (Proc.devRef .tc (Pipeline.arrRef spec0 w)))

/-- Input window 0's current staging buffer holds its block at every point, fetched there or not, for ANY proof
    data whose array is `V`'s (`hA`) and whose body leaves the block in place (`hafter`)
    `Dat.before_in_eq_fetched` (unfetched, the index has not moved), the window uncut and never idle. -/
theorem before0_0_of {c : Dev nD} (dat : Dat τ (Elt F) (HIx 1) ℕ UU ℕ cfg0 c) (hA : dat.A 0 = V0 m c (Proc.devRef .tc (Pipeline.arrRef spec0 0)))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)
    `Dat.before_in_eq_fetched` (unfetched, the index has not moved), the window uncut and never idle. -/
theorem before0_1_of {c : Dev nD} (dat : Dat τ (Elt F) (HIx 1) ℕ UU ℕ cfg0 c) (hA : dat.A 1 = V0 m c (Proc.devRef .tc (Pipeline.arrRef spec0 1)))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- One staging buffer of output window 2, through which its contents are stated (`View.read_writes_of_cover`: the
    choice does not matter). -/
abbrev VO0_2 : View sig .tc .vmem S3x8x128 .i32 := (Memref.whole cc0_stg2_0 : Memref sig .tc .vmem S3x8x128 .i32).view
/-- One staging buffer of output window 3, through which its contents are stated (`View.read_writes_of_cover`: the
    choice does not matter). -/
abbrev VO0_3 : View sig .tc .vmem S3x8x100x4 .f32 := (Memref.whole cc0_stg3_0 : Memref sig .tc .vmem S3x8x100x4 .f32).view
/-- One staging buffer of output window 4, through which its contents are stated (`View.read_writes_of_cover`: the
    choice does not matter). -/
abbrev VO0_4 : View sig .tc .vmem S3x8x100x20 .f32 := (Memref.whole cc0_stg4_0 : Memref sig .tc .vmem S3x8x100x20 .f32).view
/-- Each window's current staging memref at point `t`, spelled as the pipeline passes it (`bodyAt0`), and its wholeness. -/
abbrev ms0_0 (t : Fin cfg0.N) : Memref sig .tc .smem S3x9x4 .f32 := win0_0.stage (cfg0.slots t 0)
abbrev hs0_0 (t : Fin cfg0.N) : (ms0_0 t).IsWhole := hstage0_0 0
abbrev ms0_1 (t : Fin cfg0.N) : Memref sig .tc .vmem S6x8x128 .f32 := win0_1.stage (cfg0.slots t 1)
abbrev hs0_1 (t : Fin cfg0.N) : (ms0_1 t).IsWhole := hstage0_1 0
abbrev ms0_2 (t : Fin cfg0.N) : Memref sig .tc .vmem S3x8x128 .i32 := win0_2.stage (cfg0.slots t 2)
abbrev hs0_2 (t : Fin cfg0.N) : (ms0_2 t).IsWhole := hstage0_2 0
abbrev ms0_3 (t : Fin cfg0.N) : Memref sig .tc .vmem S3x8x100x4 .f32 := win0_3.stage (cfg0.slots t 3)
abbrev hs0_3 (t : Fin cfg0.N) : (ms0_3 t).IsWhole := hstage0_3 0
abbrev ms0_4 (t : Fin cfg0.N) : Memref sig .tc .vmem S3x8x100x20 .f32 := win0_4.stage (cfg0.slots t 4)
abbrev hs0_4 (t : Fin cfg0.N) : (ms0_4 t).IsWhole := hstage0_4 0

/-- The run's pieces for output 2 tile its block (3 stores of `S1x8x128`, checked by evaluation), so they cover it. -/
theorem cover0_A_2 (c : Dev nD) (arg0 : Memref sig .tc .smem S3x9x4 .f32) (harg0 : arg0.IsWhole) (arg1 : Memref sig .tc .vmem S6x8x128 .f32) (harg1 : arg1.IsWhole) (arg2 : Memref sig .tc .vmem S3x8x128 .i32) (harg2 : arg2.IsWhole) (arg3 : Memref sig .tc .vmem S3x8x100x4 .f32) (harg3 : arg3.IsWhole) (arg4 : Memref sig .tc .vmem S3x8x100x20 .f32) (harg4 : arg4.IsWhole)
    (x0 : Vec F S3x9x4 .f32) (x1 : Vec F S6x8x128 .f32) (y : S3x8x128.Idx) :
    ∃ pc ∈ (kernelRun0_A c arg0 harg0 arg1 harg1 arg2 harg2 arg3 harg3 arg4 harg4 x0 x1).1, y ∈ pc.1.set :=
  View.cover_of_tiledL (kernelRun0_A c arg0 harg0 arg1 harg1 arg2 harg2 arg3 harg3 arg4 harg4 x0 x1).1 S1x8x128.size (by sl_kernel_rfl) y

/-- What the run leaves in output 2's staging buffer: its pieces read back over junk. -/
def out0_A_2 (c : Dev nD) (arg0 : Memref sig .tc .smem S3x9x4 .f32) (harg0 : arg0.IsWhole) (arg1 : Memref sig .tc .vmem S6x8x128 .f32) (harg1 : arg1.IsWhole) (arg2 : Memref sig .tc .vmem S3x8x128 .i32) (harg2 : arg2.IsWhole) (arg3 : Memref sig .tc .vmem S3x8x100x4 .f32) (harg3 : arg3.IsWhole) (arg4 : Memref sig .tc .vmem S3x8x100x20 .f32) (harg4 : arg4.IsWhole)
    (x0 : Vec F S3x9x4 .f32) (x1 : Vec F S6x8x128 .f32) : Vec F S3x8x128 .i32 :=
  VO0_2.read (Elt F) (VO0_2.writes (Elt F) VO0_2.junk (kernelRun0_A c arg0 harg0 arg1 harg1 arg2 harg2 arg3 harg3 arg4 harg4 x0 x1).1)

/-- The run's pieces for output 3 tile its block (3 stores of `S1x8x100x4`, checked by evaluation), so they cover it. -/
theorem cover0_A_3 (c : Dev nD) (arg0 : Memref sig .tc .smem S3x9x4 .f32) (harg0 : arg0.IsWhole) (arg1 : Memref sig .tc .vmem S6x8x128 .f32) (harg1 : arg1.IsWhole) (arg2 : Memref sig .tc .vmem S3x8x128 .i32) (harg2 : arg2.IsWhole) (arg3 : Memref sig .tc .vmem S3x8x100x4 .f32) (harg3 : arg3.IsWhole) (arg4 : Memref sig .tc .vmem S3x8x100x20 .f32) (harg4 : arg4.IsWhole)
    (x0 : Vec F S3x9x4 .f32) (x1 : Vec F S6x8x128 .f32) (y : S3x8x100x4.Idx) :
    ∃ pc ∈ (kernelRun0_A c arg0 harg0 arg1 harg1 arg2 harg2 arg3 harg3 arg4 harg4 x0 x1).2.1, y ∈ pc.1.set :=
  View.cover_of_tiledL (kernelRun0_A c arg0 harg0 arg1 harg1 arg2 harg2 arg3 harg3 arg4 harg4 x0 x1).2.1 S1x8x100x4.size (by sl_kernel_rfl) y

/-- What the run leaves in output 3's staging buffer: its pieces read back over junk. -/
def out0_A_3 (c : Dev nD) (arg0 : Memref sig .tc .smem S3x9x4 .f32) (harg0 : arg0.IsWhole) (arg1 : Memref sig .tc .vmem S6x8x128 .f32) (harg1 : arg1.IsWhole) (arg2 : Memref sig .tc .vmem S3x8x128 .i32) (harg2 : arg2.IsWhole) (arg3 : Memref sig .tc .vmem S3x8x100x4 .f32) (harg3 : arg3.IsWhole) (arg4 : Memref sig .tc .vmem S3x8x100x20 .f32) (harg4 : arg4.IsWhole)
    (x0 : Vec F S3x9x4 .f32) (x1 : Vec F S6x8x128 .f32) : Vec F S3x8x100x4 .f32 :=
  VO0_3.read (Elt F) (VO0_3.writes (Elt F) VO0_3.junk (kernelRun0_A c arg0 harg0 arg1 harg1 arg2 harg2 arg3 harg3 arg4 harg4 x0 x1).2.1)

/-- The run's pieces for output 4 tile its block (3 stores of `S1x8x100x20`, checked by evaluation), so they cover it. -/
theorem cover0_A_4 (c : Dev nD) (arg0 : Memref sig .tc .smem S3x9x4 .f32) (harg0 : arg0.IsWhole) (arg1 : Memref sig .tc .vmem S6x8x128 .f32) (harg1 : arg1.IsWhole) (arg2 : Memref sig .tc .vmem S3x8x128 .i32) (harg2 : arg2.IsWhole) (arg3 : Memref sig .tc .vmem S3x8x100x4 .f32) (harg3 : arg3.IsWhole) (arg4 : Memref sig .tc .vmem S3x8x100x20 .f32) (harg4 : arg4.IsWhole)
    (x0 : Vec F S3x9x4 .f32) (x1 : Vec F S6x8x128 .f32) (y : S3x8x100x20.Idx) :
    ∃ pc ∈ (kernelRun0_A c arg0 harg0 arg1 harg1 arg2 harg2 arg3 harg3 arg4 harg4 x0 x1).2.2.1, y ∈ pc.1.set :=
  View.cover_of_tiledL (kernelRun0_A c arg0 harg0 arg1 harg1 arg2 harg2 arg3 harg3 arg4 harg4 x0 x1).2.2.1 S1x8x100x20.size (by sl_kernel_rfl) y

/-- What the run leaves in output 4's staging buffer: its pieces read back over junk. -/
def out0_A_4 (c : Dev nD) (arg0 : Memref sig .tc .smem S3x9x4 .f32) (harg0 : arg0.IsWhole) (arg1 : Memref sig .tc .vmem S6x8x128 .f32) (harg1 : arg1.IsWhole) (arg2 : Memref sig .tc .vmem S3x8x128 .i32) (harg2 : arg2.IsWhole) (arg3 : Memref sig .tc .vmem S3x8x100x4 .f32) (harg3 : arg3.IsWhole) (arg4 : Memref sig .tc .vmem S3x8x100x20 .f32) (harg4 : arg4.IsWhole)
    (x0 : Vec F S3x9x4 .f32) (x1 : Vec F S6x8x128 .f32) : Vec F S3x8x100x20 .f32 :=
  VO0_4.read (Elt F) (VO0_4.writes (Elt F) VO0_4.junk (kernelRun0_A c arg0 harg0 arg1 harg1 arg2 harg2 arg3 harg3 arg4 harg4 x0 x1).2.2.1)

/-! ## What the outputs hold after each point -/

/-- What the outputs' staging buffers hold after the body at point `t` (as a tuple, in window order): the run's contents at
    the point's memrefs and input blocks. -/
def outsAt0 (c : Dev nD) (t : Fin cfg0.N) : Vec F S3x8x128 .i32 × Vec F S3x8x100x4 .f32 × Vec F S3x8x100x20 .f32 :=
  (out0_A_2 c (ms0_0 t) (hs0_0 t) (ms0_1 t) (hs0_1 t) (ms0_2 t) (hs0_2 t) (ms0_3 t) (hs0_3 t) (ms0_4 t) (hs0_4 t) (iblk m c 0 t) (iblk m c 1 t), out0_A_3 c (ms0_0 t) (hs0_0 t) (ms0_1 t) (hs0_1 t) (ms0_2 t) (hs0_2 t) (ms0_3 t) (hs0_3 t) (ms0_4 t) (hs0_4 t) (iblk m c 0 t) (iblk m c 1 t), out0_A_4 c (ms0_0 t) (hs0_0 t) (ms0_1 t) (hs0_1 t) (ms0_2 t) (hs0_2 t) (ms0_3 t) (hs0_3 t) (ms0_4 t) (hs0_4 t) (iblk m c 0 t) (iblk m c 1 t))

/-! ## The pipeline's proof data -/

/-- The proof data of the one pipeline on core `c`: the arrays as the region finds them (`V`); after the body at
    point `t` each input's buffer at its block and the outputs' at `outsAt0`; the invariant the class's
    (the scoped rest and the generator register); nothing owed; full shares. -/
def dats (_ : Fin 1) (c : Dev nD) : Dat τ (Elt F) (HIx 1) ℕ UU ℕ cfg0 c where
  A w := V0 m c (Proc.devRef .tc (Pipeline.arrRef spec0 w))
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2
  Φ _ := iprop(Pipeline.scopedRest spec0 c ∗ ∃ r, prngReg c r)
  q _ := fullShare
  owed _ := (K (F := F)).Otc c 0
  recorded _ := {p | (K (F := F)).lev ((c : Thread nD τ), p.1) p.2 ≤ 0}

/-- The proof data's arrays are the region-entry contents: the proof data's definition projected (`dsimp`), so that
    `V` — a fold over @main's host prefix, long for some programs — is never unfolded to check it. -/
theorem A_eq (c : Dev nD) (w : Fin cfg0.W) : (dats m 0 c).A w = V0 m c (Proc.devRef .tc (Pipeline.arrRef spec0 w)) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt none t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt none t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt none t.succ = (dats m 0 c).owesAt none t.castSucc from rfl,
    after0_0, after0_1, after0_2, after0_3, after0_4]
  unfold outsAt0
  unfold out0_A_2 out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _)
  unfold owns; iexists _; isplitr
  swap; · iexact H4
  ipureintro; exact View.read_writes_of_cover _ _ _ _ _ (cover0_A_4 c _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  rfl

/-- The library's body obligation, at every point: the body's triple restated. -/
theorem body_obligation (c : Dev nD) : BodyObligation (dats (F := F) m 0 c) (defs₀ (F := F)) Variants.none none Set.univ := fun t => by
  rw [bigSep_W0, bigSep_W0, defs₀_row]
  exact triple_restated (sound_body m c t) rfl .rfl fun _ => .rfl

/-! ## The region -/

abbrev adm : (p : Fin 1) → (pcfgs (F := F) p).Adm := fun p => (cfgs p).toPCfg_adm

theorem kit : Pipeline.PLaunchFacts (nD := nD) (τ := τ) (pcfgs (F := F)) 0 := launch0.toP

/-- The contents once the first call is done. -/
def VR (d : Dev nD) : Valuation τ sig (Elt F) := Pipeline.afterRegion (dats m 0 d) (V0 m d)

/-- What the TensorCore owes while the first call runs, at a bound on what it has waited for. -/
def owing (d : Dev nD) : sProp 𝕄 :=
  iprop(∃ W : Waits sig (HIx 1), ⌜(K (F := F)).WBelow (SparseCore.T d) W 0⌝ ∗ owes (SparseCore.T d) ((K (F := F)).Otc d 0) W)

theorem share0 (c : Dev nD) (w : Fin cfg0.W) : (dats (F := F) m 0 c).share w = fullShare := (dats (F := F) m 0 c).share_full (fun _ => rfl) w

/-- The first call, entered from its arrays at `V0` and left with them at `VR`. -/
def seg : Pipeline.RegionSeg (pcfgs (F := F)) adm (dats (F := F) m) none (defs₀ (F := F)) 𝒱₀ (K (F := F)).L (K (F := F)).lev 0 where
  win := (kit (F := F)).to₀.win
  block_pos := (kit (F := F)).block_pos
  stage_whole := (kit (F := F)).stage_whole
  K := PEmpty
  osem k := k.elim
  ho := Pipeline.OwnSemFacts.none _
  hbody c := (body_obligation m c).loose
  hwaits c := Pipeline.cellsWaits_of_cut (Pipeline.pin (pcfgs (F := F)) adm) (dats (F := F) m) none 0 c 0 ((K (F := F)).Otc c 0) (fun _ => rfl)
    (fun _ _ => Finset.mem_univ _) (fun _ _ => le_of_eq rfl) (fun g i h => ⟨Finset.mem_univ _, lt_of_lt_of_le (Nat.succ_pos _) ((K (F := F)).lev_of_Otc_pos h)⟩)
  pre c := iprop(StableHlo.held (c.tc : Thread nD τ) (Pipeline.arrRefs spec0) (V0 m c) ∗ (∃ r, prngReg c r) ∗ owing c)
  post c := iprop(StableHlo.held (c.tc : Thread nD τ) (Pipeline.arrRefs spec0) (VR m c) ∗ (∃ r, prngReg c r) ∗ owing c)
  X c := iprop(∃ r, prngReg c r)
  Y c := iprop(∃ r, prngReg c r)
  Z _ := iprop(emp)
  hentry c := by
    rw [Pipeline.ownSems0_none, Pipeline.prefHeld_of_none _ rfl,
      ← Pipeline.arrays_held (pcfgs (F := F)) adm (dats (F := F) m) 0 kit c (share0 m c) ((dats (F := F) m 0 c).arrAt · 0) (V0 m c) (fun w => A_eq m c w)]
    iintro ⟨⟨Ha, HX, HO⟩, -, -⟩
    imodintro
    isplitl [Ha]; · iexact Ha
    isplitr; · iempintro
    isplitl [HO]
    · unfold owing Pipeline.Dat.owesAt Pipeline.owesWithin
      icases HO with ⟨%W, %hW, HO⟩; iexists W
      isplitr; · ipureintro; exact fun p hp => Or.inl (hW p hp)
      iexact HO
    isplitl [HX]; · iexact HX
    iempintro
  hin c := by
    rw [show (dats (F := F) m 0 c).Φ 0 = iprop(Pipeline.scopedRest spec0 c ∗ ∃ r, prngReg c r) from rfl]
    iintro ⟨HX, -, Hr⟩
    isplitl [Hr]; · iexact Hr
    iexact HX
  hout c := by
    rw [show (dats (F := F) m 0 c).Φ (Fin.last (Pipeline.pin (pcfgs (F := F)) adm 0).N) = iprop(Pipeline.scopedRest spec0 c ∗ ∃ r, prngReg c r) from rfl, Pipeline.ownSems0_none]
    iintro ⟨Hr, HY⟩
    isplitl [HY]; · iexact HY
    isplitr; · iempintro
    iexact Hr
  hexit c := by
    rw [← Pipeline.arrays_held (pcfgs (F := F)) adm (dats (F := F) m) 0 kit c (share0 m c) ((dats (F := F) m 0 c).arrAt · cfg0.N) (VR m c)
      (fun w => (Pipeline.afterRegion_arr (dats (F := F) m 0 c) (V0 m c) (kit (F := F)).win.arr_inj w).symm)]
    iintro ⟨Ha, HO, HY, -⟩
    imodintro
    isplitl [Ha]; · iexact Ha
    isplitl [HY]; · iexact HY
    unfold owing Pipeline.Dat.owesAt Pipeline.owesWithin
    icases HO with ⟨%W, %hW, HO⟩; iexists W
    isplitr
    · ipureintro
      intro p hp
      rcases hW hp with h | ⟨w, s, rfl⟩
      · exact h
      · exact le_of_eq rfl
    iexact HO

end Cert.Proof.K

end
-- ==== Proof.Main.lean ====
module

public import proofs.«01_k».proof.Proof.Call
public import proofs.«01_k».proof.Proof.Region
public import Idealize.ShloMosaic.Lib.StableHlo.Run
public import Idealize.ShloMosaic.Lib.StableHlo.RunRead
public import Idealize.ShloMosaic.Lib.Pipeline.Frame
public import Idealize.ShloMosaic.Lib.SparseCore.Quiescent

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held after seq launchContents wp_seq held_sub_split held_congr)
open Idealize.ShloMosaic.Transfers (Batch MayWaits pending)

variable {F : FTy → Type}
local notation "𝕄" => MM F
variable [FloatOps F]

/-! ## The host's lines -/

/-- The host's line between the calls: the words, flattened. -/
def opsR : List (HloOp τ sig (Elt F)) :=
  [StableHlo.reshape main_v2_0 main_v3 (rfl : (.i32 : EltTy) = .i32) shapeCasts_S3x8x128_S3072]

/-- The host's line after them: each output of the second to its result's shape, the second one's rows cut to 100. -/
def ops2 : List (HloOp τ sig (Elt F)) :=
  [StableHlo.reshape main_v4_0 main_v5 (rfl : (.f32 : EltTy) = .f32) shapeCasts_S24x100x20_S3x8x100x20,
   StableHlo.unary main_v4_1 main_v6 ((extractStridedSlice S24x100x5 ![0, 0, 0] · slices_S24x128x5_S24x100x5_0_0_0) : (⟨S24x128x5, .f32⟩ : BufTy).Contents (Elt F) → (⟨S24x100x5, .f32⟩ : BufTy).Contents (Elt F)),
   StableHlo.reshape main_v6 main_v7 (rfl : (.f32 : EltTy) = .f32) shapeCasts_S24x100x5_S3x8x100x5]

theorem main_eq (d : Dev nD) : main (F := F) d
    = (seq ops1 >>= fun _ => Prog.lift (.customCall (SparseCore.inner (Pipeline.entry 0)) ()) >>= fun _ => seq opsR >>= fun _ => (sc (F := F)).run d 0 >>= fun _ => seq ops2 >>= fun _ => pure ⟨⟩) := by
  rw [StableHlo.seq_bind_seqK, StableHlo.seq_bind_seqK, StableHlo.seq_bind_seqK]
  rfl

/-! ## The contents along @main -/

variable (m : (ℓ : Loc nD τ sig) → Buf (Elt F) ℓ) (ρ : Dev nD → PrngReg)

abbrev a2' : DevRef τ sig := Proc.devRef .tc (main_arg2 : Ref sig .tc)
abbrev a3' : DevRef τ sig := Proc.devRef .tc (main_arg3 : Ref sig .tc)
abbrev v3' : DevRef τ sig := Proc.devRef .tc (main_v3 : Ref sig .tc)
abbrev c4' : DevRef τ sig := Proc.devRef .tc (main_v4_0 : Ref sig .tc)
abbrev r4' : DevRef τ sig := Proc.devRef .tc (main_v4_1 : Ref sig .tc)

/-- What the second call takes. -/
abbrev S5 : Finset (DevRef τ sig) := {v3', a3', a2', c4', r4'}
/-- What it hands back to be written to. -/
abbrev S2 : Finset (DevRef τ sig) := {c4', r4'}

/-- The contents at the second call. -/
def V1 (d : Dev nD) : Valuation τ sig (Elt F) := after opsR (VR m d)

/-- The words, the class scores and the boxes that the second call reads. -/
def ivM (d : Dev nD) : S3072.Idx → BitVec 32 := V1 m d v3'
def ctM (d : Dev nD) : S3x8x9x80x80x20.Idx → Elt F .f32 := V1 m d a3'
def rtM (d : Dev nD) : S3x8x9x80x80x5.Idx → Elt F .f32 := V1 m d a2'

/-- The contents once both calls are done. -/
def V2 (d : Dev nD) : Valuation τ sig (Elt F) :=
  Function.update (Function.update (V1 m d) c4' (clsOut (ctM m d) (ivM m d))) r4' (regOut (rtM m d) (ivM m d))

/-- The contents at the end, but for the three arrays the second call reads. -/
def V3 (d : Dev nD) : Valuation τ sig (Elt F) := after ops2 (V2 m d)

theorem VR_of (d : Dev nD) (r : Ref sig .tc) (h : ∀ w, Pipeline.arrRef spec0 w = r → (cfg0.win w).isOut = false) :
    VR m d (Proc.devRef .tc r) = V0 m d (Proc.devRef .tc r) :=
  Pipeline.afterRegion_keeps (dats (F := F) m 0 d) (V0 m d) (kit (F := F)).win.arr_inj (A_eq m d) r h

theorem V1_of (d : Dev nD) (r : Ref sig .tc) (h : r ∉ [main_v3]) : V1 m d (Proc.devRef .tc r) = VR m d (Proc.devRef .tc r) := by
  unfold V1
  rw [StableHlo.after_unwritten [main_v3] rfl h]

theorem V0_arg0 (d : Dev nD) : V0 m d (Proc.devRef .tc (main_arg0 : Ref sig .tc)) = m ((SparseCore.T d).loc main_arg0) := by
  unfold V0 ops1; after_results_simp
theorem V0_arg1 (d : Dev nD) : V0 m d (Proc.devRef .tc (main_arg1 : Ref sig .tc)) = m ((SparseCore.T d).loc main_arg1) := by
  unfold V0 ops1; after_results_simp
theorem V1_arg0 (d : Dev nD) : V1 m d (Proc.devRef .tc (main_arg0 : Ref sig .tc)) = m ((SparseCore.T d).loc main_arg0) :=
  (V1_of m d _ (by decide)).trans ((VR_of m d _ (by decide)).trans (V0_arg0 m d))
theorem V1_arg1 (d : Dev nD) : V1 m d (Proc.devRef .tc (main_arg1 : Ref sig .tc)) = m ((SparseCore.T d).loc main_arg1) :=
  (V1_of m d _ (by decide)).trans ((VR_of m d _ (by decide)).trans (V0_arg1 m d))
theorem V1_arg2 (d : Dev nD) : V1 m d a2' = m (rLoc d) := by
  refine (V1_of m d _ (by decide)).trans ((VR_of m d _ (by decide)).trans ?_)
  unfold V0 ops1; after_results_simp
theorem V1_arg3 (d : Dev nD) : V1 m d a3' = m (cLoc d) := by
  refine (V1_of m d _ (by decide)).trans ((VR_of m d _ (by decide)).trans ?_)
  unfold V0 ops1; after_results_simp

theorem ivM_eq (d : Dev nD) : ivM m d = shapeCast S3072 (VR m d (Proc.devRef .tc (main_v2_0 : Ref sig .tc)) : S3x8x128.Idx → BitVec 32) shapeCasts_S3x8x128_S3072 := by
  unfold ivM V1 opsR; after_results_simp; rfl

theorem V2_c (d : Dev nD) : V2 m d c4' = clsOut (ctM m d) (ivM m d) := by
  unfold V2; rw [Function.update_of_ne (show c4' ≠ r4' by decide), Function.update_self]
theorem V2_r (d : Dev nD) : V2 m d r4' = regOut (rtM m d) (ivM m d) := by
  unfold V2; rw [Function.update_self]
theorem V2_of_ne (d : Dev nD) (b : DevRef τ sig) (h : b ∉ S2) : V2 m d b = V1 m d b := by
  unfold V2
  rw [Function.update_of_ne (fun e => h (by rw [e]; decide)), Function.update_of_ne (fun e => h (by rw [e]; decide))]

theorem V3_of (d : Dev nD) (r : Ref sig .tc) (h : r ∉ [main_v5, main_v6, main_v7]) (h' : Proc.devRef .tc r ∉ S2) :
    V3 m d (Proc.devRef .tc r) = V1 m d (Proc.devRef .tc r) := by
  unfold V3
  rw [StableHlo.after_unwritten [main_v5, main_v6, main_v7] rfl h, V2_of_ne m d _ h']

theorem V3_cls (d : Dev nD) : V3 m d (Proc.devRef .tc (main_v5 : Ref sig .tc))
    = shapeCast S3x8x100x20 (clsOut (m (cLoc d)) (ivM m d)) shapeCasts_S24x100x20_S3x8x100x20 := by
  unfold V3 ops2; after_results_simp
  rw [show V2 m d (Proc.devRef .tc main_v4_0) = clsOut (ctM m d) (ivM m d) from V2_c m d, show ctM m d = m (cLoc d) from V1_arg3 m d]
  rfl
theorem V3_reg (d : Dev nD) : V3 m d (Proc.devRef .tc (main_v7 : Ref sig .tc))
    = shapeCast S3x8x100x5 (extractStridedSlice S24x100x5 ![0, 0, 0] (regOut (m (rLoc d)) (ivM m d)) slices_S24x128x5_S24x100x5_0_0_0 : S24x100x5.Idx → Elt F .f32) shapeCasts_S24x100x5_S3x8x100x5 := by
  unfold V3 ops2; after_results_simp
  rw [show V2 m d (Proc.devRef .tc main_v4_1) = regOut (rtM m d) (ivM m d) from V2_r m d, show rtM m d = m (rLoc d) from V1_arg2 m d]
  rfl

/-! ## @main on the TensorCore -/

abbrev SU : Finset (DevRef τ sig) := Pipeline.ucRefs τ sig

theorem S5_sub : S5 ⊆ SU := by decide
theorem ops1_sub : ∀ op ∈ ops1 (F := F), op.bufs ⊆ SU := fun op hop =>
  Pipeline.sub_ucRefs op ((List.forall_iff_forall_mem.mp (show (ops1 (F := F)).Forall fun op => op.bufs ⊆ StableHlo.tcRefs τ sig from
    ⟨StableHlo.unary_bufs_sub .., StableHlo.nullary_bufs_sub .., StableHlo.unary_bufs_sub .., StableHlo.binary_bufs_sub ..⟩)) op hop)
theorem opsR_sub : ∀ op ∈ opsR (F := F), op.bufs ⊆ SU := fun op hop =>
  Pipeline.sub_ucRefs op ((List.forall_iff_forall_mem.mp (show (opsR (F := F)).Forall fun op => op.bufs ⊆ StableHlo.tcRefs τ sig from
    StableHlo.reshape_bufs_sub ..)) op hop)
theorem ops2_sub : ∀ op ∈ ops2 (F := F), op.bufs ⊆ SU \ {v3', a3', a2'} := fun op hop =>
  (List.forall_iff_forall_mem.mp (show (ops2 (F := F)).Forall fun op => op.bufs ⊆ SU \ {v3', a3', a2'} from
    ⟨by change HloOp.bufs _ ⊆ _; rw [StableHlo.reshape_bufs]; decide, by change HloOp.bufs _ ⊆ _; rw [StableHlo.unary_bufs]; decide,
      by change HloOp.bufs _ ⊆ _; rw [StableHlo.reshape_bufs]; decide⟩)) op hop
theorem ops1_fresh : ∀ op ∈ ops1 (F := F), op.fresh = ∅ := fun op hop =>
  (List.forall_iff_forall_mem.mp (show (ops1 (F := F)).Forall fun op => op.fresh = ∅ from ⟨rfl, rfl, rfl, rfl⟩)) op hop
theorem opsR_fresh : ∀ op ∈ opsR (F := F), op.fresh = ∅ := fun op hop =>
  (List.forall_iff_forall_mem.mp (show (opsR (F := F)).Forall fun op => op.fresh = ∅ from rfl)) op hop
theorem ops2_fresh : ∀ op ∈ ops2 (F := F), op.fresh = ∅ := fun op hop =>
  (List.forall_iff_forall_mem.mp (show (ops2 (F := F)).Forall fun op => op.fresh = ∅ from ⟨rfl, rfl, rfl⟩)) op hop

/-- The five arrays the call takes, one by one. -/
theorem held_S5 (d : Dev nD) (W : Valuation τ sig (Elt F)) :
    (held (SparseCore.T d) S5 W : sProp 𝕄) = iprop((iLoc d ↦{fullShare} W v3') ∗ (cLoc d ↦{fullShare} W a3') ∗ (rLoc d ↦{fullShare} W a2')
      ∗ (coLoc d ↦{fullShare} W c4') ∗ (roLoc d ↦{fullShare} W r4')) := by
  unfold held S5
  rw [SparseCore.bigSep_insert' (by decide), SparseCore.bigSep_insert' (by decide), SparseCore.bigSep_insert' (by decide), SparseCore.bigSep_insert' (by decide), bigSep_singleton]
theorem held_S2 (d : Dev nD) (W : Valuation τ sig (Elt F)) :
    (held (SparseCore.T d) S2 W : sProp 𝕄) = iprop((coLoc d ↦{fullShare} W c4') ∗ (roLoc d ↦{fullShare} W r4')) := by
  unfold held S2
  rw [SparseCore.bigSep_insert' (by decide), bigSep_singleton]

/-- What the TensorCore holds after the call: all but the three arrays that the call reads. -/
theorem held_after (d : Dev nD) :
    (held (SparseCore.T d) (SU \ {v3', a3', a2'}) (V2 m d) : sProp 𝕄)
      = iprop(((coLoc d ↦{fullShare} (clsOut (ctM m d) (ivM m d) : Buf (Elt F) (coLoc d))) ∗ (roLoc d ↦{fullShare} (regOut (rtM m d) (ivM m d) : Buf (Elt F) (roLoc d))))
          ∗ held (SparseCore.T d) (SU \ S5) (V1 m d)) := by
  have e : (held (SparseCore.T d) (SU \ S5) (V2 m d) : sProp 𝕄) = held (SparseCore.T d) (SU \ S5) (V1 m d) :=
    held_congr (SparseCore.T d) fun b hb => V2_of_ne m d b fun h => (Finset.mem_sdiff.mp hb).2 ((show S2 ⊆ S5 by decide) h)
  rw [held_sub_split (SparseCore.T d) (show S2 ⊆ SU \ {v3', a3', a2'} by decide), held_S2, V2_c, V2_r,
    show (SU \ {v3', a3', a2'}) \ S2 = SU \ S5 by decide, e]

/-- What it holds before the call, the call's five arrays apart. -/
theorem held_before (d : Dev nD) :
    (held (d.tc : Thread nD τ) SU (after opsR (VR m d)) : sProp 𝕄)
      = iprop(((iLoc d ↦{fullShare} V1 m d v3') ∗ (cLoc d ↦{fullShare} V1 m d a3') ∗ (rLoc d ↦{fullShare} V1 m d a2')
          ∗ (coLoc d ↦{fullShare} V1 m d c4') ∗ (roLoc d ↦{fullShare} V1 m d r4')) ∗ held (SparseCore.T d) (SU \ S5) (V1 m d)) := by
  rw [← held_S5, ← held_sub_split (SparseCore.T d) S5_sub]
  rfl

/-- What @main leaves the claim. -/
def FIN (d : Dev nD) : sProp 𝕄 :=
  iprop(rd (cLoc d) (ctM m d) ∗ rd (rLoc d) (rtM m d) ∗ held (SparseCore.T d) (SU \ {v3', a3', a2'}) (V3 m d))

/-- The first call's arrays and the rest, before it, -/
theorem held_V0 (d : Dev nD) : (held (d.tc : Thread nD τ) SU (after ops1 (launchContents m d)) : sProp 𝕄)
    = iprop(held (d.tc : Thread nD τ) (Pipeline.arrRefs spec0) (V0 m d) ∗ held (d.tc : Thread nD τ) (SU \ Pipeline.arrRefs spec0) (V0 m d)) := by
  rw [← held_sub_split (d.tc : Thread nD τ) (Pipeline.arrRefs_sub_ucRefs spec0 (by decide))]
  rfl
/-- and after it. -/
theorem held_VR (d : Dev nD) : (held (d.tc : Thread nD τ) SU (VR m d) : sProp 𝕄)
    = iprop(held (d.tc : Thread nD τ) (Pipeline.arrRefs spec0) (VR m d) ∗ held (d.tc : Thread nD τ) (SU \ Pipeline.arrRefs spec0) (V0 m d)) := by
  have e : (held (d.tc : Thread nD τ) (SU \ Pipeline.arrRefs spec0) (VR m d) : sProp 𝕄) = held (d.tc : Thread nD τ) (SU \ Pipeline.arrRefs spec0) (V0 m d) :=
    held_congr (d.tc : Thread nD τ) (Pipeline.afterRegion_off (dats (F := F) m 0 d) (V0 m d) SU : ∀ b ∈ SU \ Pipeline.arrRefs spec0, VR m d b = V0 m d b)
  rw [held_sub_split (d.tc : Thread nD τ) (Pipeline.arrRefs_sub_ucRefs spec0 (by decide)), e]

/-- What the TensorCore holds of the second call: what it owes, and the rest. -/
theorem tcSt_split (d : Dev nD) : ∃ R : sProp 𝕄, (K (F := F)).tcSt EH d 0 = iprop(owing d ∗ R) := ⟨_, rfl⟩

/-- The first call's rounds on one device. -/
def ghost (d : Dev nD) : sProp 𝕄 :=
  iprop(Pipeline.cellsGhost (Pipeline.pin (pcfgs (F := F)) adm) EP 0 d ∗ Pipeline.toksInit (Pipeline.pin (pcfgs (F := F)) adm) EP 0 d)

/-- The launch element: both calls' rounds, no counter taken. -/
def u₀ : UU := (initOf (K (F := F)).hsCells (K (F := F)).hsToks,
  (initOf (Pipeline.cells (Pipeline.pin (pcfgs (F := F)) adm) ((kit (F := F)).cellOf_inj adm)) (Pipeline.launchToks (Pipeline.pin (pcfgs (F := F)) adm) ((kit (F := F)).cellOf_inj adm)), 1))

omit [FloatOps F] in
theorem bigSep_one (X : Fin 1 → sProp 𝕄) : bigSep Finset.univ X = X 0 := by
  rw [show (Finset.univ : Finset (Fin 1)) = {0} from rfl, bigSep_singleton]

theorem EP_own (x : UP) : (BI.own (((Emb.inl : Emb UP (UP × Counters)).trans (embR (A := UH) (B := UP × Counters))) x) : sProp 𝕄) ⊢ BI.own (EP x) := .rfl

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (ivM m) (ctM m) (rtM m)).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  ihave HP := (EP_own _) $$ HP
  imod (Pipeline.fund_ghost (Pipeline.pin (pcfgs (F := F)) adm) EP ((kit (F := F)).cellOf_inj adm)) $$ HP with ⟨Hg, Ht⟩
  imodintro
  isplitl [HH]; · iexact HH
  isplitl [Hg Ht]
  · unfold ghost
    rw [bigSep_sep']
    isplitl [Hg]
    · iapply (Entails.of_eq (bigSep_congr fun c _ => bigSep_one fun p => Pipeline.cellsGhost (Pipeline.pin (pcfgs (F := F)) adm) EP p c)) $$ Hg
    · iapply (Entails.of_eq (bigSep_congr fun c _ => bigSep_one fun p => Pipeline.toksInit (Pipeline.pin (pcfgs (F := F)) adm) EP p c)) $$ Ht
  unfold P; dsimp only
  rw [show (bigSep Finset.univ fun _ : Thread nD τ => bigSep Finset.univ fun _ : Fin 1 => (iprop(emp) : sProp 𝕄)) = iprop(emp) from
    (bigSep_congr fun _ _ => bigSep_emps _).trans (bigSep_emps _)]
  iempintro

/-- The first call's line of @main. -/
theorem call0 [∀ e, Nonempty (Elt F e)] (d : Dev nD) (Q : PUnit → sProp 𝕄) :
    iprop((iprop(boundary (SparseCore.T d : Thread nD τ) ∗ (seg m).post d) -∗ Q ⟨⟩) ∗ boundary (SparseCore.T d : Thread nD τ) ∗ (seg m).pre d ∗ levAts (K (F := F)).L (K (F := F)).lev ∗ ghost d)
      ⊢ wp frame (wpE ((K (F := F)).defs (D (F := F))) 𝒱 (SparseCore.T d) none) Set.univ (Prog.lift (.customCall (SparseCore.inner (Pipeline.entry 0)) ())) Q := by
  have e : (Prog.lift (.customCall (SparseCore.inner (Pipeline.entry 0)) ()) : Prog (TpuEff nD τ sig (Elt F) (SparseCore.Sig (ΛP (F := F)) 1) .tc) PUnit)
      = SparseCore.liftProg (Prog.op (.customCall (Pipeline.entry 0) ()) .ret : Prog (TpuEff nD τ sig (Elt F) (ΛP (F := F)) .tc) PUnit) := rfl
  rw [e]
  have hl := (K (F := F)).wp_liftProg (D (F := F)) 𝒱 (SparseCore.T d) Set.univ none (Prog.op (.customCall (Pipeline.entry 0) ()) .ret : Prog (TpuEff nD τ sig (Elt F) (ΛP (F := F)) .tc) PUnit) Q
  refine BIBase.Entails.trans ?_ hl
  refine BIBase.Entails.trans ?_ (Pipeline.RegionSeg.wp (pcfgs (F := F)) adm (dats (F := F) m) none ((kit (F := F)).cellOf_inj adm) EP (defs₀ (F := F)) 𝒱₀ (K (F := F)).L (K (F := F)).lev (seg m) d none (fun _ h => nomatch h) .ret Q)
  unfold ghost
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg] <;> iassumption

/-- @main on a device's TensorCore. -/
theorem hmain [∀ e, Nonempty (Elt F e)] (κ : GSem nD τ sig → ℕ) (d : Dev nD) :
    iprop((K (F := F)).ctx EH (P (ivM m) (ctM m) (rtM m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) SU (launchContents m d) from
    Pipeline.unscopedBufs_held d (launchContents m d), main_eq]
  obtain ⟨R, hR⟩ := tcSt_split (F := F) d
  rw [hR]
  iintro ⟨#Hctx, ⟨Ho, Hst⟩, ⟨Hb, Hheld, Hts, Hpr⟩, Hgh⟩
  iapply (wp_seq 𝒱 none Set.univ d SU (fun _ => Prog.lift (.customCall (SparseCore.inner (Pipeline.entry 0)) ()) >>= fun _ => seq opsR >>= fun _ => (sc (F := F)).run d 0 >>= fun _ => seq ops2 >>= fun _ => pure ⟨⟩) ops1 ops1_sub ops1_fresh (launchContents m d)) $$ [Hb Hheld]
  · isplitl [Hb]; · iexact Hb
    iexact Hheld
  iintro ⟨Hb, Hheld⟩
  ihave Hh := (Entails.of_eq (held_V0 m d)) $$ Hheld
  icases Hh with ⟨Harr, Hoff⟩
  rw [wp_bind]
  iapply (call0 m d)
  isplitr [Hb Harr Ho Hpr Hgh]
  swap
  · isplitl [Hb]; · iexact Hb
    isplitl [Harr Ho Hpr]
    · unfold seg; dsimp only
      isplitl [Harr]; · iexact Harr
      isplitl [Hpr]; · iexists _; iexact Hpr
      iexact Ho
    isplitr; · iapply (SparseCore.Cfg.ctx_levAts κ) $$ Hctx
    iexact Hgh
  unfold seg; dsimp only
  iintro ⟨Hb, Harr, -, Ho⟩
  iapply (wp_seq 𝒱 none Set.univ d SU (fun _ => (sc (F := F)).run d 0 >>= fun _ => seq ops2 >>= fun _ => pure ⟨⟩) opsR opsR_sub opsR_fresh (VR m d)) $$ [Hb Harr Hoff]
  · isplitl [Hb]; · iexact Hb
    rw [held_VR]
    isplitl [Harr]; · iexact Harr
    iexact Hoff
  iintro ⟨Hb, Hheld⟩
  ihave Hst := (Entails.of_eq hR.symm) $$ [Ho Hst]
  · isplitl [Ho] <;> iassumption
  ihave Hh := (Entails.of_eq (held_before m d)) $$ Hheld
  icases Hh with ⟨⟨Hi, Hc, Hr, Hco, Hro⟩, Hrest⟩
  ihave Hg := (st_intro (ivM m) (ctM m) (rtM m) d (V1 m d c4') (V1 m d r4')) $$ [Hi Hc Hr Hco Hro]
  · isplitl [Hi]; · unfold rd; iexists fullShare; iexact Hi
    isplitl [Hc]; · unfold rd; iexists fullShare; iexact Hc
    isplitl [Hr]; · unfold rd; iexists fullShare; iexact Hr
    isplitl [Hco]; · iexact Hco
    iexact Hro
  icases Hg with ⟨Hgo, Hc, Hr⟩
  rw [wp_bind]
  iapply ((K (F := F)).wp_run (D (F := F)) 𝒱 (EH := EH) (P := P (ivM m) (ctM m) (rtM m)) κ d 0) $$ [Hst Hgo Hc Hr Hrest Hb Hts]
  isplitr; · iexact Hctx
  isplitl [Hst]; · iexact Hst
  isplitl [Hgo]; · iexact Hgo
  iintro ⟨Hst, Hdn⟩
  ihave Hdn' := (Entails.of_eq (dn_eq (ivM m) (ctM m) (rtM m) d)) $$ Hdn
  iapply (wp_seq 𝒱 none Set.univ d (SU \ {v3', a3', a2'}) (fun _ => pure ⟨⟩) ops2 ops2_sub ops2_fresh (V2 m d)) $$ [Hb Hdn' Hrest]
  · isplitl [Hb]; · iexact Hb
    rw [held_after]
    isplitl [Hdn']; · iexact Hdn'
    iexact Hrest
  iintro ⟨Hb, Hheld⟩
  rw [wp_pure]; imodintro
  isplitl [Hst]; · iexact Hst
  isplitr [Hb Hts]
  · unfold FIN
    isplitl [Hc]; · iexact Hc
    isplitl [Hr]; · iexact Hr
    iexact Hheld
  isplitl [Hb] <;> iassumption

/-! ## What the final memory holds -/

theorem held_read {d : Dev nD} {S : Finset (DevRef τ sig)} {V : Valuation τ sig (Elt F)} {b : DevRef τ sig} (hb : b ∈ S) (s' : Phys nD τ sig (Elt F)) :
    iprop(held (SparseCore.T d) S V ∗ SI s') ⊢ (⌜s'.mem.mem (d, b) = V b⌝ : sProp 𝕄) := by
  iintro ⟨Hh, HSI⟩
  ihave Hx := (show held (SparseCore.T d) S V ⊢ ((((d, b) : Loc nD τ sig) ↦{fullShare} V b) : sProp 𝕄) from bigSep_elim (Φ := fun b => (((d, b) : Loc nD τ sig) ↦{fullShare} V b : sProp 𝕄)) hb) $$ Hh
  ihave H := (SI_pointsTo_agree (st := s') (ℓ := ((d, b) : Loc nD τ sig)) (I := Finset.univ) (q := fullShare) (f := V b)) $$ [HSI Hx]
  · isplitl [HSI] <;> iassumption
  icases H with %hx
  ipureintro; exact funext fun i => hx i (Finset.mem_univ i)

theorem rd_read {ℓ : Loc nD τ sig} {f : Buf (Elt F) ℓ} (s' : Phys nD τ sig (Elt F)) :
    iprop(rd ℓ f ∗ SI s') ⊢ (⌜s'.mem.mem ℓ = f⌝ : sProp 𝕄) := by
  unfold rd
  iintro ⟨⟨%q, Hx⟩, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem pure_conj {Q : sProp 𝕄} {a b : Prop} (ha : Q ⊢ ⌜a⌝) (hb : Q ⊢ ⌜b⌝) : Q ⊢ (⌜a ∧ b⌝ : sProp 𝕄) :=
  (BIClass.and_intro ha hb).trans pure_and.1

/-- The final memory at one device: the two results, and the arguments unchanged. -/
def fq (d : Dev nD) (s : MemSt nD τ sig (Elt F)) : Prop :=
  s.mem ((SparseCore.T d).loc main_v5) = shapeCast S3x8x100x20 (clsOut (m (cLoc d)) (ivM m d)) shapeCasts_S24x100x20_S3x8x100x20
  ∧ s.mem ((SparseCore.T d).loc main_v7) = shapeCast S3x8x100x5 (extractStridedSlice S24x100x5 ![0, 0, 0] (regOut (m (rLoc d)) (ivM m d)) slices_S24x128x5_S24x100x5_0_0_0 : S24x100x5.Idx → Elt F .f32) shapeCasts_S24x100x5_S3x8x100x5
  ∧ s.mem ((SparseCore.T d).loc main_v2_2) = VR m d (Proc.devRef .tc (main_v2_2 : Ref sig .tc))
  ∧ s.mem ((SparseCore.T d).loc main_v2_1) = VR m d (Proc.devRef .tc (main_v2_1 : Ref sig .tc))
  ∧ s.mem ((SparseCore.T d).loc main_arg0) = m ((SparseCore.T d).loc main_arg0)
  ∧ s.mem ((SparseCore.T d).loc main_arg1) = m ((SparseCore.T d).loc main_arg1)
  ∧ s.mem ((SparseCore.T d).loc main_arg2) = m ((SparseCore.T d).loc main_arg2)
  ∧ s.mem ((SparseCore.T d).loc main_arg3) = m ((SparseCore.T d).loc main_arg3)

theorem hfin (d : Dev nD) (s' : Phys nD τ sig (Elt F)) : iprop(FIN m d ∗ SI s') ⊢ (⌜fq m d s'.mem⌝ : sProp 𝕄) := by
  have hh : ∀ b ∈ SU \ {v3', a3', a2'}, iprop(FIN m d ∗ SI s') ⊢ (⌜s'.mem.mem (d, b) = V3 m d b⌝ : sProp 𝕄) := fun b hb => by
    unfold FIN
    refine BIBase.Entails.trans (Q := iprop(held (SparseCore.T d) (SU \ {v3', a3', a2'}) (V3 m d) ∗ SI s')) ?_ (held_read hb s')
    iintro ⟨⟨-, -, Hh⟩, HSI⟩
    isplitl [Hh] <;> iassumption
  have h3 : iprop(FIN m d ∗ SI s') ⊢ (⌜s'.mem.mem (rLoc d) = rtM m d⌝ : sProp 𝕄) := by
    unfold FIN
    refine BIBase.Entails.trans (Q := iprop(rd (rLoc d) (rtM m d) ∗ SI s')) ?_ (rd_read s')
    iintro ⟨⟨-, Hr, -⟩, HSI⟩
    isplitl [Hr] <;> iassumption
  have h4 : iprop(FIN m d ∗ SI s') ⊢ (⌜s'.mem.mem (cLoc d) = ctM m d⌝ : sProp 𝕄) := by
    unfold FIN
    refine BIBase.Entails.trans (Q := iprop(rd (cLoc d) (ctM m d) ∗ SI s')) ?_ (rd_read s')
    iintro ⟨⟨Hr, -, -⟩, HSI⟩
    isplitl [Hr] <;> iassumption
  unfold fq
  refine pure_conj ((hh (Proc.devRef .tc (main_v5 : Ref sig .tc)) (by decide)).trans (Laws.pure_mono fun h => h.trans (V3_cls m d))) ?_
  refine pure_conj ((hh (Proc.devRef .tc (main_v7 : Ref sig .tc)) (by decide)).trans (Laws.pure_mono fun h => h.trans (V3_reg m d))) ?_
  refine pure_conj ((hh (Proc.devRef .tc (main_v2_2 : Ref sig .tc)) (by decide)).trans (Laws.pure_mono fun h => h.trans ((V3_of m d _ (by decide) (by decide)).trans (V1_of m d _ (by decide))))) ?_
  refine pure_conj ((hh (Proc.devRef .tc (main_v2_1 : Ref sig .tc)) (by decide)).trans (Laws.pure_mono fun h => h.trans ((V3_of m d _ (by decide) (by decide)).trans (V1_of m d _ (by decide))))) ?_
  refine pure_conj ((hh (Proc.devRef .tc (main_arg0 : Ref sig .tc)) (by decide)).trans (Laws.pure_mono fun h => h.trans ((V3_of m d _ (by decide) (by decide)).trans (V1_arg0 m d)))) ?_
  refine pure_conj ((hh (Proc.devRef .tc (main_arg1 : Ref sig .tc)) (by decide)).trans (Laws.pure_mono fun h => h.trans ((V3_of m d _ (by decide) (by decide)).trans (V1_arg1 m d)))) ?_
  exact pure_conj (h3.trans (Laws.pure_mono fun h => h.trans (V1_arg2 m d))) (h4.trans (Laws.pure_mono fun h => h.trans (V1_arg3 m d)))

/-! ## The program's run -/

/-- From any memory whose packed words name cells of the grid, every run ends with the two results gathered, the arguments
    unchanged and every counter at zero. -/
theorem run_main [∀ e, Nonempty (Elt F e)] (hI : ∀ d i, InR (ivM m d i)) :
    θ_run (Cert.KernelIdeal.defs (F := F)) (Cert.KernelIdeal.threads (F := F)) ⟨m, fun _ => 0, ρ⟩ fun r => (∀ d, fq m d r.2) ∧ r.2.sem = fun _ => 0 :=
  SparseCore.Cfg.θ_run_sc_quiescent (K := K (F := F)) (D := D (F := F)) (𝒱 := 𝒱) (EH := EH) (P := P (ivM m) (ctM m) (rtM m)) (A := ∅) facts v₀
    (fun q hq => match q with | 0 => nomatch hq)
    (fun q _ => match q with | 0 => tileObl _ _ _ hI)
    (fun q _ => match q with | 0 => SparseCore.Cfg.VecSplit.of_plain (vecSplit _ _ _))
    m ρ main (fun d => ghost d) (FIN m) (u₀ (F := F)) (sep_elim_left.trans (hu₀ m)) (hmain m ρ) (fun d s' => fq m d s'.mem) (hfin m) _ (fun _ h hz => ⟨h, hz⟩)

end Cert.Proof.K
-- ==== Proof.Pick.lean ====
module

public import Idealize.ShloMosaic.Lib.IdealHost
public import Idealize.ShloMosaic.PureOps.Reduce

/-!
Picking an anchor: a scan that keeps the strictly larger overlap ends at the first anchor of the
largest overlap, which is the least anchor whose overlap equals the maximum.
-/

@[expose] public section

noncomputable section

namespace Cert.Proof.A

open Idealize.ShloMosaic

/-- The overlap of an anchor `q` with the box of half-sides `X`, `Y` about the origin, the box's lower corner `(x, y)` given apart. -/
def ovl (q : Fin 4 → EReal) (x y X Y : EReal) : EReal :=
  Ideal.div (max (min (q 2) X - max (q 0) x) (Ideal.ofBits .f32 0x00000000#32) * max (min (q 3) Y - max (q 1) y) (Ideal.ofBits .f32 0x00000000#32))
    (max ((q 2 - q 0) * (q 3 - q 1) + (X - x) * (Y - y)
      - max (min (q 2) X - max (q 0) x) (Ideal.ofBits .f32 0x00000000#32) * max (min (q 3) Y - max (q 1) y) (Ideal.ofBits .f32 0x00000000#32))
      (Ideal.ofBits .f32 0x2EDBE6FF#32))

theorem eps_pos : (0 : EReal) < Ideal.ofBits .f32 0x2EDBE6FF#32 := by
  have h : Ideal.ofBits .f32 0x2EDBE6FF#32 = ((14411519 * (2 : ℝ) ^ (-57 : ℤ) : ℝ) : EReal) := by
    simp [Ideal.ofBits, Ideal.ieee, -EReal.coe_mul]
  rw [h, ← EReal.coe_zero, EReal.coe_lt_coe_iff]
  positivity

theorem div_nonneg {x y : EReal} (hx : 0 ≤ x) (hy : 0 < y) : 0 ≤ Ideal.div x y := by
  unfold Ideal.div
  rw [if_neg hy.ne']
  exact EReal.mul_nonneg hx (EReal.inv_nonneg_of_nonneg hy.le)

/-- An overlap is not negative. -/
theorem ovl_nonneg (q : Fin 4 → EReal) (x y X Y : EReal) : 0 ≤ ovl q x y X Y := by
  unfold ovl
  refine div_nonneg (EReal.mul_nonneg ?_ ?_) (lt_of_lt_of_le eps_pos (le_max_right _ _))
  · exact le_trans (le_of_eq Ideal.ofBits_zero_f32.symm) (le_max_right _ _)
  · exact le_trans (le_of_eq Ideal.ofBits_zero_f32.symm) (le_max_right _ _)

theorem bot_lt_ovl (q : Fin 4 → EReal) (x y X Y : EReal) : ⊥ < ovl q x y X Y :=
  lt_of_lt_of_le EReal.bot_lt_zero (ovl_nonneg q x y X Y)

/-- The largest of the first overlaps, as the scan keeps it. -/
def best (o : ℕ → EReal) : ℕ → EReal
  | 0 => Ideal.ofBits .f32 0xFF800000#32
  | k + 1 => Scalar.select (Ideal.cmp .ogt (o k) (best o k)) (o k) (best o k)

/-- What the scan keeps beside it: the value `v` of the anchor it last took. -/
def kept {α : Type} (o : ℕ → EReal) (v : ℕ → α) (v0 : α) : ℕ → α
  | 0 => v0
  | k + 1 => Scalar.select (Ideal.cmp .ogt (o k) (best o k)) (v k) (kept o v v0 k)

theorem neg_inf : Ideal.ofBits .f32 0xFF800000#32 = ⊥ := by
  simp [Ideal.ofBits, Ideal.ieee]

theorem sel_gt {α : Type} {x y : EReal} (h : y < x) (a b : α) : Scalar.select (Ideal.cmp .ogt x y) a b = a := by
  simp [Ideal.cmp, h, Scalar.select]

theorem sel_le {α : Type} {x y : EReal} (h : x ≤ y) (a b : α) : Scalar.select (Ideal.cmp .ogt x y) a b = b := by
  simp [Ideal.cmp, not_lt.mpr h, Scalar.select]

/-- The scan ends at the first anchor of the largest overlap. -/
theorem scan (o : ℕ → EReal) (h : ∀ k, ⊥ < o k) (n : ℕ) :
    ∃ a ≤ n, best o (n + 1) = o a ∧ (∀ i ≤ n, o i ≤ o a) ∧ (∀ i < a, o i < o a) ∧
      ∀ (α : Type) (v : ℕ → α) (v0 : α), kept o v v0 (n + 1) = v a := by
  induction n with
  | zero =>
    have hb : best o 0 < o 0 := by rw [best, neg_inf]; exact h 0
    refine ⟨0, le_rfl, ?_, ?_, ?_, ?_⟩
    · exact sel_gt hb _ _
    · intro i hi; rw [Nat.le_zero.mp hi]
    · intro i hi; exact absurd hi (Nat.not_lt_zero i)
    · intro α v v0; exact sel_gt hb _ _
  | succ n ih =>
    obtain ⟨a, ha, hb, hmax, hlt, hk⟩ := ih
    rcases lt_or_ge (o a) (o (n + 1)) with hc | hc
    · have hg : best o (n + 1) < o (n + 1) := by rw [hb]; exact hc
      refine ⟨n + 1, le_rfl, sel_gt hg _ _, ?_, ?_, fun α v v0 => sel_gt hg _ _⟩
      · intro i hi
        rcases Nat.lt_or_ge i (n + 1) with h1 | h1
        · exact (lt_of_le_of_lt (hmax i (by omega)) hc).le
        · rw [show i = n + 1 by omega]
      · intro i hi; exact lt_of_le_of_lt (hmax i (by omega)) hc
    · have hg : o (n + 1) ≤ best o (n + 1) := by rw [hb]; exact hc
      refine ⟨a, by omega, (sel_le hg _ _).trans hb, ?_, hlt, fun α v v0 => (sel_le hg _ _).trans (hk α v v0)⟩
      intro i hi
      rcases Nat.lt_or_ge i (n + 1) with h1 | h1
      · exact hmax i (by omega)
      · rw [show i = n + 1 by omega]; exact hc

/-- The anchor the scan over nine anchors ends at. -/
def pick (o : ℕ → EReal) (h : ∀ k, ⊥ < o k) : Fin 9 := ⟨(scan o h 8).choose, by have := (scan o h 8).choose_spec.1; omega⟩

theorem kept_pick (o : ℕ → EReal) (h : ∀ k, ⊥ < o k) {α : Type} (v : ℕ → α) (v0 : α) : kept o v v0 9 = v (pick o h).val :=
  (scan o h 8).choose_spec.2.2.2.2 α v v0

theorem le_pick (o : ℕ → EReal) (h : ∀ k, ⊥ < o k) (i : Fin 9) : o i.val ≤ o (pick o h).val :=
  (scan o h 8).choose_spec.2.2.1 i.val (by omega)

theorem lt_pick (o : ℕ → EReal) (h : ∀ k, ⊥ < o k) (i : Fin 9) (hi : i < pick o h) : o i.val < o (pick o h).val :=
  (scan o h 8).choose_spec.2.2.2.1 i.val hi

/-- The fold of maxima over nine overlaps is the overlap of the anchor the scan ends at. -/
theorem max_pick (o : ℕ → EReal) (h : ∀ k, ⊥ < o k) :
    (Finset.univ : Finset (Fin 9)).fold (FloatOps.maximumf (F := Ideal) (φ := .f32)) (Ideal.ofBits .f32 0xFF800000#32) (fun k => o k.val) = o (pick o h).val := by
  refine le_antisymm ?_ ?_
  · show (Finset.univ : Finset (Fin 9)).fold max _ _ ≤ _
    rw [Finset.fold_max_le]
    exact ⟨by rw [neg_inf]; exact bot_le, fun i _ => le_pick o h i⟩
  · show _ ≤ (Finset.univ : Finset (Fin 9)).fold max _ _
    rw [Finset.le_fold_max]
    exact Or.inr ⟨pick o h, Finset.mem_univ _, le_rfl⟩

/-- The least anchor whose overlap is the largest is the one the scan ends at. -/
theorem min_pick (o : ℕ → EReal) (h : ∀ k, ⊥ < o k) :
    (Finset.univ : Finset (Fin 9)).fold (IntOp.minsi (w := 32)) 2147483647#32
      (fun k => Scalar.select (Ideal.cmp .oeq (o k.val) (o (pick o h).val)) (BitVec.ofNat 32 k.val) 9#32) = BitVec.ofNat 32 (pick o h).val := by
  have hs : ∀ k : Fin 9, Scalar.select (Ideal.cmp .oeq (o k.val) (o (pick o h).val)) (BitVec.ofNat 32 k.val) 9#32
      = BitVec.ofNat 32 (if o k.val = o (pick o h).val then k.val else 9) := by
    intro k
    by_cases e : o k.val = o (pick o h).val <;> simp [Ideal.cmp, e, Scalar.select]
  have hlt : ∀ k : Fin 9, k < pick o h → o k.val ≠ o (pick o h).val := fun k hk => (lt_pick o h k hk).ne
  simp only [hs]
  generalize pick o h = p at hlt ⊢
  clear hs
  have key : ∀ f : Fin 9 → Bool, (f p = true) → (∀ k < p, f k = false) →
      (Finset.univ : Finset (Fin 9)).fold (IntOp.minsi (w := 32)) 2147483647#32 (fun k => BitVec.ofNat 32 (if f k then k.val else 9)) = BitVec.ofNat 32 p.val := by
    clear hlt; revert p; decide +kernel
  have := key (fun k => decide (o k.val = o p.val)) (by simp) (fun k hk => by simpa using hlt k hk)
  simpa using this

end Cert.Proof.A
-- ==== Proof.Assign.lean ====
module

public import proofs.«01_k».proof.Proof.Main
public import Idealize.ShloMosaic.Lib.Pipeline.Value
public import proofs.«01_k».proof.Proof.Pick

/-!
What one run of the assignment's body stores, written out once for a level: the scan over the nine anchors, the
packed words, the regression targets and the class rows, as functions of the anchor array and the six target rows.
-/

@[expose] public section

noncomputable section

namespace Cert.Proof.A

open Cert.KernelIdeal Cert.KernelIdeal.Gen
open Cert.Proof.K (V0 V0_arg0 VR dats iblk kit ms0_0 hs0_0 ms0_1 hs0_1 ms0_2 hs0_2 ms0_3 hs0_3 ms0_4 hs0_4 outsAt0 after0_2 after0_3 after0_4
  out0_A_2 out0_A_3 out0_A_4 cover0_A_2 cover0_A_3 cover0_A_4)
open Idealize.ShloMosaic Idealize.ShloMosaic.TcCoe Idealize.SL.Sem

variable {F : FTy → Type} [FloatOps F]

/-- A literal at every place. -/
def lit (b : BitVec 32) : FVec F S8x128 .f32 := broadcast S8x128 (Scalar.ofBits .f32 b)

/-- The overlaps of one anchor with every box, the boxes given by their upper corners. -/
def vovl (q : Fin 4 → F .f32) (X Y : FVec F S8x128 .f32) : FVec F S8x128 .f32 :=
  have inter := mulf (maximumf (subf (minimumf (broadcast S8x128 (q 2)) X) (maximumf (broadcast S8x128 (q 0)) (subf (lit 0x00000000#32) X))) (lit 0x00000000#32))
    (maximumf (subf (minimumf (broadcast S8x128 (q 3)) Y) (maximumf (broadcast S8x128 (q 1)) (subf (lit 0x00000000#32) Y))) (lit 0x00000000#32))
  divf inter (maximumf (subf (addf (broadcast S8x128 (Scalar.mulf (Scalar.subf (q 2) (q 0)) (Scalar.subf (q 3) (q 1))))
    (mulf (subf X (subf (lit 0x00000000#32) X)) (subf Y (subf (lit 0x00000000#32) Y)))) inter) (lit 0x2EDBE6FF#32))

/-- The largest overlap among the first anchors. -/
def vbest (o : ℕ → FVec F S8x128 .f32) : ℕ → FVec F S8x128 .f32
  | 0 => lit 0xFF800000#32
  | k + 1 => select (cmpf .ogt (o k) (vbest o k)) (o k) (vbest o k)

/-- What is kept of the anchor taken last. -/
def vkept {e : EltTy} (o : ℕ → FVec F S8x128 .f32) (v : ℕ → Elt F e) (v0 : Elt F e) : ℕ → Vec F S8x128 e
  | 0 => broadcast S8x128 v0
  | k + 1 => select (cmpf .ogt (o k) (vbest o k)) (broadcast S8x128 (v k)) (vkept o v v0 k)

variable (q : Fin 9 → Fin 4 → F .f32) (t : Fin 6 → Vec F S1x8x128 .f32) (s : BitVec 32)

/-- A target row without its leading axis. -/
def row (k : Fin 6) : FVec F S8x128 .f32 := shapeCast S8x128 (t k) shapeCasts_S1x8x128_S8x128

/-- The boxes' widths and heights, and these scaled to a level's grid. -/
def bw : FVec F S8x128 .f32 := subf (row t 2) (row t 0)
def bh : FVec F S8x128 .f32 := subf (row t 3) (row t 1)
def sw : FVec F S8x128 .f32 := mulf (bw t) (lit s)
def sh : FVec F S8x128 .f32 := mulf (bh t) (lit s)

/-- The overlaps of anchor `k` on a level. -/
def vo (k : ℕ) : FVec F S8x128 .f32 := vovl (q (Fin.ofNat 9 k)) (sw t s) (sh t s)

/-- The anchor's number, and its width and height, of the anchor that the scan keeps. -/
def vnum : IVec S8x128 32 := vkept (e := .i32) (vo q t s) (BitVec.ofNat 32) 0#32 9
def vexw : FVec F S8x128 .f32 := vkept (e := .f32) (vo q t s)
  (fun k => Scalar.maximumf (Scalar.subf (q (Fin.ofNat 9 k) 2) (q (Fin.ofNat 9 k) 0)) (Scalar.ofBits .f32 0x3F800000#32)) (Scalar.ofBits .f32 0x3F800000#32) 9
def vexh : FVec F S8x128 .f32 := vkept (e := .f32) (vo q t s)
  (fun k => Scalar.maximumf (Scalar.subf (q (Fin.ofNat 9 k) 3) (q (Fin.ofNat 9 k) 1)) (Scalar.ofBits .f32 0x3F800000#32)) (Scalar.ofBits .f32 0x3F800000#32) 9

/-- A level's packed words. -/
def pack : IVec S1x8x128 32 :=
  shapeCast S1x8x128 (addi (addi (muli (vnum q t s) (broadcast S8x128 16384#32)) (muli (fptosi 32 (sw t s)) (broadcast S8x128 128#32)))
    (fptosi 32 (sh t s))) shapeCasts_S8x128_S1x8x128

/-- The first hundred places of each row. -/
def cut (v : FVec F S8x128 .f32) : FVec F S8x100 .f32 := extractStridedSlice S8x100 ![0, 0] v slices_S8x128_o0_0_S8x100

/-- The sides raised to at least one, a centre, and its distance from its cell. -/
def gw : FVec F S8x128 .f32 := maximumf (bw t) (lit 0x3F800000#32)
def gh : FVec F S8x128 .f32 := maximumf (bh t) (lit 0x3F800000#32)
def ctr (x g : FVec F S8x128 .f32) : FVec F S8x128 .f32 := addf x (mulf (lit 0x3F000000#32) g)
def off (x : FVec F S8x128 .f32) : FVec F S8x128 .f32 := subf x (sitofp .f32 (fptosi 32 x))

/-- A level's regression targets. -/
def regt : FVec F S1x8x100x4 .f32 :=
  shapeCast S1x8x100x4 (concatenate S8x100x4 2
    [⟨S8x100x1, shapeCast S8x100x1 (cut (off (ctr (row t 0) (gw t)))) shapeCasts_S8x100_S8x100x1⟩,
      ⟨S8x100x1, shapeCast S8x100x1 (cut (off (ctr (row t 1) (gh t)))) shapeCasts_S8x100_S8x100x1⟩,
      ⟨S8x100x1, shapeCast S8x100x1 (log (divf (cut (gw t)) (cut (vexw q t s)))) shapeCasts_S8x100_S8x100x1⟩,
      ⟨S8x100x1, shapeCast S8x100x1 (log (divf (cut (gh t)) (cut (vexh q t s)))) shapeCasts_S8x100_S8x100x1⟩]
    concatenates_S8x100x1_S8x100x1_S8x100x1_S8x100x1_S8x100x4_d2) shapeCasts_S8x100x4_S1x8x100x4

/-- A level's class rows. -/
def clst : FVec F S1x8x100x20 .f32 := shapeCast S1x8x100x20 (k0_pay9 (t 4)) shapeCasts_S8x100x20_S1x8x100x20

/-- The anchors and the target rows as the body reads them. -/
def anc (x0 : Vec F S3x9x4 .f32) : Fin 3 → Fin 9 → Fin 4 → F .f32 := fun l k j => x0 (ValueIdx.ix3 l k j)
def trow (x1 : Vec F S6x8x128 .f32) : Fin 6 → Vec F S1x8x128 .f32 := fun r i => x1 (ValueIdx.ix3 r (i 1) (i 2))

section Run

variable (c : Dev nD) (arg0 : Memref sig .tc .smem S3x9x4 .f32) (harg0 : arg0.IsWhole) (arg1 : Memref sig .tc .vmem S6x8x128 .f32) (harg1 : arg1.IsWhole)
  (x0 : Vec F S3x9x4 .f32) (x1 : Vec F S6x8x128 .f32)

theorem inb0 (l : Fin 3) (k : Fin 9) (j : Fin 4) : ∀ a : Fin 3, (![l.val, k.val, j.val] : Fin 3 → ℕ) a + S1x1x1.size a ≤ S3x9x4.size a := by
  revert l k j; decide +kernel

theorem inb1 (r : Fin 6) : ∀ a : Fin 3, (![r.val, 0, 0] : Fin 3 → ℕ) a + S1x8x128.size a ≤ S6x8x128.size a := by
  revert r; decide +kernel

/-- The loads of the body: an anchor's corner, and a target row. -/
def ldq (l : Fin 3) (k : Fin 9) (j : Fin 4) : F .f32 :=
  View.readAt (Elt F) arg0.view (Rect.unit (s := S3x9x4) ![l.val, k.val, j.val] S1x1x1.size (inb0 l k j)).toLoadRect (harg0.unread x0) (Shape.Idx.first (show 0 < S1x1x1.numel by decide))
def ldt (r : Fin 6) : Vec F S1x8x128 .f32 :=
  View.readAt (Elt F) arg1.view (Rect.unit (s := S6x8x128) ![r.val, 0, 0] S1x8x128.size (inb1 r)).toLoadRect (harg1.unread x1)

theorem ldq_eq : ldq arg0 harg0 x0 = anc x0 := by
  funext l k j
  unfold ldq
  rw [View.readAt_eq_ld, harg0.read_unread]
  exact congrArg x0 (funext fun a => Fin.ext (by match a with | ⟨0, _⟩ => rfl | ⟨1, _⟩ => rfl | ⟨2, _⟩ => rfl))

theorem ldt_eq : ldt arg1 harg1 x1 = trow x1 := by
  funext r
  unfold ldt
  rw [View.readAt_eq_ld, harg1.read_unread]
  funext i
  refine congrArg x1 (funext fun a => Fin.ext ?_)
  have hi : (i 0).val = 0 := Nat.lt_one_iff.mp (i 0).isLt
  match a with
  | ⟨0, _⟩ => show r.val + 1 * (i 0).val = r.val; omega
  | ⟨1, _⟩ => show 0 + 1 * (i 1).val = (i 1).val; omega
  | ⟨2, _⟩ => show 0 + 1 * (i 2).val = (i 2).val; omega

/-- The literals that scale a side to half of it on a level's grid. -/
def lvl : Fin 3 → BitVec 32 := ![0x3C800000#32, 0x3D000000#32, 0x3D800000#32]

variable (q3 : Fin 3 → Fin 9 → Fin 4 → F .f32)

/-- The three stored arrays, a level at each leading index. -/
def G2 : Vec F S3x8x128 .i32 := fun j => pack (q3 (j 0)) t (lvl (j 0)) (ValueIdx.ix3 (0 : Fin 1) (j 1) (j 2))
def G3 : Vec F S3x8x100x4 .f32 := fun j => regt (q3 (j 0)) t (lvl (j 0)) (ValueIdx.ix4 (0 : Fin 1) (j 1) (j 2) (j 3))
def G4 : Vec F S3x8x100x20 .f32 := fun j => clst t (ValueIdx.ix4 (0 : Fin 1) (j 1) (j 2) (j 3))

/-- A store of one level covers that level. -/
theorem emb3 {n0 n1 n2 : ℕ} (l : Fin n0) (h) (x : (⟨3, ![1, n1, n2]⟩ : Shape).Idx) :
    (Rect.unit (s := ⟨3, ![n0, n1, n2]⟩) ![l.val, 0, 0] ![1, n1, n2] h).emb x = ValueIdx.ix3 l (x 1) (x 2) ∧ x = ValueIdx.ix3 (0 : Fin 1) (x 1) (x 2) := by
  have hx : (x 0).val = 0 := Nat.lt_one_iff.mp (x 0).isLt
  refine ⟨funext fun a => Fin.ext ?_, funext fun a => Fin.ext ?_⟩
  · match a with
    | ⟨0, _⟩ => show l.val + 1 * (x 0).val = l.val; omega
    | ⟨1, _⟩ => show 0 + 1 * (x 1).val = (x 1).val; omega
    | ⟨2, _⟩ => show 0 + 1 * (x 2).val = (x 2).val; omega
  · match a with
    | ⟨0, _⟩ => exact hx
    | ⟨1, _⟩ => rfl
    | ⟨2, _⟩ => rfl

theorem emb4 {n0 n1 n2 n3 : ℕ} (l : Fin n0) (h) (x : (⟨4, ![1, n1, n2, n3]⟩ : Shape).Idx) :
    (Rect.unit (s := ⟨4, ![n0, n1, n2, n3]⟩) ![l.val, 0, 0, 0] ![1, n1, n2, n3] h).emb x = ValueIdx.ix4 l (x 1) (x 2) (x 3)
      ∧ x = ValueIdx.ix4 (0 : Fin 1) (x 1) (x 2) (x 3) := by
  have hx : (x 0).val = 0 := Nat.lt_one_iff.mp (x 0).isLt
  refine ⟨funext fun a => Fin.ext ?_, funext fun a => Fin.ext ?_⟩
  · match a with
    | ⟨0, _⟩ => show l.val + 1 * (x 0).val = l.val; omega
    | ⟨1, _⟩ => show 0 + 1 * (x 1).val = (x 1).val; omega
    | ⟨2, _⟩ => show 0 + 1 * (x 2).val = (x 2).val; omega
    | ⟨3, _⟩ => show 0 + 1 * (x 3).val = (x 3).val; omega
  · match a with
    | ⟨0, _⟩ => exact hx
    | ⟨1, _⟩ => rfl
    | ⟨2, _⟩ => rfl
    | ⟨3, _⟩ => rfl

variable (arg2 : Memref sig .tc .vmem S3x8x128 .i32) (harg2 : arg2.IsWhole) (arg3 : Memref sig .tc .vmem S3x8x100x4 .f32) (harg3 : arg3.IsWhole)
  (arg4 : Memref sig .tc .vmem S3x8x100x20 .f32) (harg4 : arg4.IsWhole)

theorem forall_three {α : Type} {P : α → Prop} {a b c : α} (ha : P a) (hb : P b) (hc : P c) : ∀ x ∈ [a, b, c], P x := by
  intro x hx
  simp only [List.mem_cons, List.not_mem_nil, or_false] at hx
  rcases hx with rfl | rfl | rfl <;> assumption

theorem out2_eq : out0_A_2 c arg0 harg0 arg1 harg1 arg2 harg2 arg3 harg3 arg4 harg4 x0 x1 = G2 (ldt arg1 harg1 x1) (ldq arg0 harg0 x0) := by
  unfold out0_A_2
  rw [View.read_writes_junk_eq_canon]
  funext y
  refine View.canon_apply_of_pieces _ _ ?_ y (cover0_A_2 c arg0 harg0 arg1 harg1 arg2 harg2 arg3 harg3 arg4 harg4 x0 x1 y)
  have P : ∀ (l : Fin 3) (h) (x : S1x8x128.Idx), pack (ldq arg0 harg0 x0 l) (ldt arg1 harg1 x1) (lvl l) x
      = G2 (ldt arg1 harg1 x1) (ldq arg0 harg0 x0) ((Rect.unit (s := S3x8x128) ![l.val, 0, 0] ![1, 8, 128] h).emb x) := by
    intro l h x
    rw [(emb3 l h x).1, (emb3 l h x).2]; rfl
  exact forall_three (P 2 inb_S3x8x128_S1x8x128_2_0_0) (P 1 inb_S3x8x128_S1x8x128_1_0_0) (P 0 inb_S3x8x128_S1x8x128_0_0_0)

theorem out3_eq : out0_A_3 c arg0 harg0 arg1 harg1 arg2 harg2 arg3 harg3 arg4 harg4 x0 x1 = G3 (ldt arg1 harg1 x1) (ldq arg0 harg0 x0) := by
  unfold out0_A_3
  rw [View.read_writes_junk_eq_canon]
  funext y
  refine View.canon_apply_of_pieces _ _ ?_ y (cover0_A_3 c arg0 harg0 arg1 harg1 arg2 harg2 arg3 harg3 arg4 harg4 x0 x1 y)
  have P : ∀ (l : Fin 3) (h) (x : S1x8x100x4.Idx), regt (ldq arg0 harg0 x0 l) (ldt arg1 harg1 x1) (lvl l) x
      = G3 (ldt arg1 harg1 x1) (ldq arg0 harg0 x0) ((Rect.unit (s := S3x8x100x4) ![l.val, 0, 0, 0] ![1, 8, 100, 4] h).emb x) := by
    intro l h x
    rw [(emb4 l h x).1, (emb4 l h x).2]; rfl
  exact forall_three (P 2 inb_S3x8x100x4_S1x8x100x4_2_0_0_0) (P 1 inb_S3x8x100x4_S1x8x100x4_1_0_0_0) (P 0 inb_S3x8x100x4_S1x8x100x4_0_0_0_0)

theorem out4_eq : out0_A_4 c arg0 harg0 arg1 harg1 arg2 harg2 arg3 harg3 arg4 harg4 x0 x1 = G4 (ldt arg1 harg1 x1) := by
  unfold out0_A_4
  rw [View.read_writes_junk_eq_canon]
  funext y
  refine View.canon_apply_of_pieces _ _ ?_ y (cover0_A_4 c arg0 harg0 arg1 harg1 arg2 harg2 arg3 harg3 arg4 harg4 x0 x1 y)
  have P : ∀ (l : Fin 3) (h) (x : S1x8x100x20.Idx), clst (ldt arg1 harg1 x1) x
      = G4 (ldt arg1 harg1 x1) ((Rect.unit (s := S3x8x100x20) ![l.val, 0, 0, 0] ![1, 8, 100, 20] h).emb x) := by
    intro l h x
    rw [(emb4 l h x).1, (emb4 l h x).2]; rfl
  exact forall_three (P 2 inb_S3x8x100x20_S1x8x100x20_2_0_0_0) (P 1 inb_S3x8x100x20_S1x8x100x20_1_0_0_0) (P 0 inb_S3x8x100x20_S1x8x100x20_0_0_0_0)

end Run

section Arrays

variable (m : (ℓ : Loc nD τ sig) → Buf (Elt F) ℓ)

/-- Each window's block at the one grid point is its whole array. -/
theorem idx_zero0 : ∀ (t : Fin cfg0.N) (a : Fin 3), win0_0.index t a = 0 := (by decide +kernel : ∀ t : Fin grid0.N, _)
theorem idx_zero1 : ∀ (t : Fin cfg0.N) (a : Fin 3), win0_1.index t a = 0 := (by decide +kernel : ∀ t : Fin grid0.N, _)
theorem idx_zero2 : ∀ (t : Fin cfg0.N) (a : Fin 3), win0_2.index t a = 0 := (by decide +kernel : ∀ t : Fin grid0.N, _)
theorem idx_zero3 : ∀ (t : Fin cfg0.N) (a : Fin 4), win0_3.index t a = 0 := (by decide +kernel : ∀ t : Fin grid0.N, _)
theorem idx_zero4 : ∀ (t : Fin cfg0.N) (a : Fin 4), win0_4.index t a = 0 := (by decide +kernel : ∀ t : Fin grid0.N, _)

theorem wemb0 (t : Fin cfg0.N) (j : S3x9x4.Idx) : ((cfg0.win 0).blk t).view.emb j = j := by
  funext a; apply Fin.ext
  show win0_0.index t a * S3x9x4.size a + 1 * (j a).val = (j a).val
  rw [idx_zero0 t a]; omega

theorem wemb1 (t : Fin cfg0.N) (j : S6x8x128.Idx) : ((cfg0.win 1).blk t).view.emb j = j := by
  funext a; apply Fin.ext
  show win0_1.index t a * S6x8x128.size a + 1 * (j a).val = (j a).val
  rw [idx_zero1 t a]; omega

theorem wemb2 (t : Fin cfg0.N) (j : S3x8x128.Idx) : ((cfg0.win 2).blk t).view.emb j = j := by
  funext a; apply Fin.ext
  show win0_2.index t a * S3x8x128.size a + 1 * (j a).val = (j a).val
  rw [idx_zero2 t a]; omega

theorem wemb3 (t : Fin cfg0.N) (j : S3x8x100x4.Idx) : ((cfg0.win 3).blk t).view.emb j = j := by
  funext a; apply Fin.ext
  show win0_3.index t a * S3x8x100x4.size a + 1 * (j a).val = (j a).val
  rw [idx_zero3 t a]; omega

theorem wemb4 (t : Fin cfg0.N) (j : S3x8x100x20.Idx) : ((cfg0.win 4).blk t).view.emb j = j := by
  funext a; apply Fin.ext
  show win0_4.index t a * S3x8x100x20.size a + 1 * (j a).val = (j a).val
  rw [idx_zero4 t a]; omega

theorem iblk0_eq (c : Dev nD) (t : Fin cfg0.N) : iblk m c 0 t = m ((c : Thread nD τ).loc main_arg0) := by
  rw [← V0_arg0 m c]
  funext j; show V0 m c (Proc.devRef .tc main_arg0) (((cfg0.win 0).blk t).view.emb j) = V0 m c (Proc.devRef .tc main_arg0) j; rw [wemb0]

/-- The targets transposed, a row each, and padded to 128 boxes. -/
def tgt (x : Vec F S8x100x6 .f32) : Vec F S6x8x128 .f32 :=
  pad S6x8x128 ![0, 0, 0] ![0, 0, 28] ![0, 0, 0] (transpose S6x8x100 [2, 0, 1] x transposes_S8x100x6_S6x8x100_2_0_1)
    (sitofp .f32 (constantI S_ 32 0#32)) pads_S6x8x100_S6x8x128_000_000_0280 h_S_

theorem V_tgt (c : Dev nD) : V0 m c (Proc.devRef .tc main_v1) = tgt (m ((c : Thread nD τ).loc main_arg1)) := by
  rfl

theorem iblk1_eq (c : Dev nD) (t : Fin cfg0.N) : iblk m c 1 t = tgt (m ((c : Thread nD τ).loc main_arg1)) := by
  rw [← V_tgt m c]
  funext j; show V0 m c (Proc.devRef .tc main_v1) (((cfg0.win 1).blk t).view.emb j) = V0 m c (Proc.devRef .tc main_v1) j; rw [wemb1]

/-- What the one grid point writes back. -/
theorem flushed2_A (c : Dev nD) (t : Fin cfg0.N) :
    (dats m 0 c).flushed 2 t = (cfg0.win 2).cut (grid0.coords t) (out0_A_2 c (ms0_0 t) (hs0_0 t) (ms0_1 t) (hs0_1 t) (ms0_2 t) (hs0_2 t)
      (ms0_3 t) (hs0_3 t) (ms0_4 t) (hs0_4 t) (iblk m c 0 t) (iblk m c 1 t)) := by
  show (cfg0.win 2).cut (grid0.coords t) ((dats m 0 c).after 2 t) = _
  rw [after0_2]; simp only [outsAt0]

theorem flushed3_A (c : Dev nD) (t : Fin cfg0.N) :
    (dats m 0 c).flushed 3 t = (cfg0.win 3).cut (grid0.coords t) (out0_A_3 c (ms0_0 t) (hs0_0 t) (ms0_1 t) (hs0_1 t) (ms0_2 t) (hs0_2 t)
      (ms0_3 t) (hs0_3 t) (ms0_4 t) (hs0_4 t) (iblk m c 0 t) (iblk m c 1 t)) := by
  show (cfg0.win 3).cut (grid0.coords t) ((dats m 0 c).after 3 t) = _
  rw [after0_3]; simp only [outsAt0]

theorem flushed4_A (c : Dev nD) (t : Fin cfg0.N) :
    (dats m 0 c).flushed 4 t = (cfg0.win 4).cut (grid0.coords t) (out0_A_4 c (ms0_0 t) (hs0_0 t) (ms0_1 t) (hs0_1 t) (ms0_2 t) (hs0_2 t)
      (ms0_3 t) (hs0_3 t) (ms0_4 t) (hs0_4 t) (iblk m c 0 t) (iblk m c 1 t)) := by
  show (cfg0.win 4).cut (grid0.coords t) ((dats m 0 c).after 4 t) = _
  rw [after0_4]; simp only [outsAt0]

/-- The three output arrays after the call. -/
theorem final2 (c : Dev nD) : (dats m 0 c).arrAt 2 cfg0.N
    = G2 (trow (tgt (m ((c : Thread nD τ).loc main_arg1)))) (anc (m ((c : Thread nD τ).loc main_arg0))) := by
  refine (dats m 0 c).arrAt_eq_of_cover 2 _ (fun t _ => ?_) (fun i => ⟨(⟨0, by decide⟩ : Fin cfg0.N), flush0_2 _, ?_⟩)
  · rw [flushed2_A, out2_eq, iblk0_eq, iblk1_eq, ldt_eq, ldq_eq]
    funext j
    show _ = G2 _ _ (((cfg0.win 2).blk t).view.emb j)
    rw [wemb2]
  · have h := ((cfg0.win 2).blk (⟨0, by decide⟩ : Fin cfg0.N)).view.emb_mem_set i; rwa [wemb2] at h

theorem final3 (c : Dev nD) : (dats m 0 c).arrAt 3 cfg0.N
    = G3 (trow (tgt (m ((c : Thread nD τ).loc main_arg1)))) (anc (m ((c : Thread nD τ).loc main_arg0))) := by
  refine (dats m 0 c).arrAt_eq_of_cover 3 _ (fun t _ => ?_) (fun i => ⟨(⟨0, by decide⟩ : Fin cfg0.N), flush0_3 _, ?_⟩)
  · rw [flushed3_A, out3_eq, iblk0_eq, iblk1_eq, ldt_eq, ldq_eq]
    funext j
    show _ = G3 _ _ (((cfg0.win 3).blk t).view.emb j)
    rw [wemb3]
  · have h := ((cfg0.win 3).blk (⟨0, by decide⟩ : Fin cfg0.N)).view.emb_mem_set i; rwa [wemb3] at h

theorem final4 (c : Dev nD) : (dats m 0 c).arrAt 4 cfg0.N = G4 (trow (tgt (m ((c : Thread nD τ).loc main_arg1)))) := by
  refine (dats m 0 c).arrAt_eq_of_cover 4 _ (fun t _ => ?_) (fun i => ⟨(⟨0, by decide⟩ : Fin cfg0.N), flush0_4 _, ?_⟩)
  · rw [flushed4_A, out4_eq, iblk1_eq, ldt_eq]
    funext j
    show _ = G4 _ (((cfg0.win 4).blk t).view.emb j)
    rw [wemb4]
  · have h := ((cfg0.win 4).blk (⟨0, by decide⟩ : Fin cfg0.N)).view.emb_mem_set i; rwa [wemb4] at h

theorem VR2 (c : Dev nD) : VR m c (Proc.devRef .tc main_v2_0)
    = G2 (trow (tgt (m ((c : Thread nD τ).loc main_arg1)))) (anc (m ((c : Thread nD τ).loc main_arg0))) :=
  (Pipeline.afterRegion_arr (dats m 0 c) (V0 m c) (kit (F := F)).win.arr_inj 2).trans (final2 m c)

theorem VR3 (c : Dev nD) : VR m c (Proc.devRef .tc main_v2_1)
    = G3 (trow (tgt (m ((c : Thread nD τ).loc main_arg1)))) (anc (m ((c : Thread nD τ).loc main_arg0))) :=
  (Pipeline.afterRegion_arr (dats m 0 c) (V0 m c) (kit (F := F)).win.arr_inj 3).trans (final3 m c)

theorem VR4 (c : Dev nD) : VR m c (Proc.devRef .tc main_v2_2) = G4 (trow (tgt (m ((c : Thread nD τ).loc main_arg1)))) :=
  (Pipeline.afterRegion_arr (dats m 0 c) (V0 m c) (kit (F := F)).win.arr_inj 4).trans (final4 m c)

end Arrays

end Cert.Proof.A

end
-- ==== Proof.Words.lean ====
module

public import proofs.«01_k».proof.Proof.Assign
public import proofs.«01_k».proof.Pre_in_grid
public import Idealize.ShloMosaic.Lib.Pointwise
public import Idealize.ShloMosaic.Lib.ReduceAll
public import Idealize.ShloMosaic.Lib.Pipeline.Value

/-!
The words of the index list in terms of the arguments: what the precondition says of the arguments,
which word stands where, and the kernel's two results at an index.
-/

@[expose] public section

noncomputable section

namespace Cert.Proof.K

open Cert.KernelIdeal Cert.KernelIdeal.Gen

open Idealize.ShloMosaic
open Idealize.ShloMosaic.ValueIdx hiding ix1 ix2 ix3 ix4 ix5 ix6 eq_ix1 eq_ix2

variable {F : FTy → Type} [FloatOps F]

/-- Anchor, column and row packed into one word. -/
def pack (a x y : BitVec 32) : BitVec 32 := IntOp.addi (IntOp.addi (IntOp.muli a 16384#32) (IntOp.muli x 128#32)) y

theorem pack_toNat {a x y : BitVec 32} (ha : a.toNat < 9) (hx : x.toNat < 80) (hy : y.toNat < 80) :
    (pack a x y).toNat = a.toNat * 16384 + x.toNat * 128 + y.toNat := by
  unfold pack IntOp.addi IntOp.muli
  rw [BitVec.toNat_add, BitVec.toNat_add, BitVec.toNat_mul, BitVec.toNat_mul]
  simp only [BitVec.toNat_ofNat]
  omega

theorem wA_toNat (w : BitVec 32) : (wA w).toNat = w.toNat / 16384 := by
  show (IntOp.shrui .vector w 14#32).toNat = _
  unfold IntOp.shrui
  rw [if_pos (by decide)]
  show (w >>> 14).toNat = _
  rw [BitVec.toNat_ushiftRight, Nat.shiftRight_eq_div_pow]

theorem wX_toNat (w : BitVec 32) : (wX w).toNat = w.toNat / 128 % 128 := by
  show (IntOp.andi (IntOp.shrui .vector w 7#32) 127#32).toNat = _
  unfold IntOp.shrui
  rw [if_pos (by decide)]
  show (w >>> 7 &&& 127#32).toNat = _
  rw [BitVec.toNat_and, BitVec.toNat_ushiftRight, Nat.shiftRight_eq_div_pow]
  exact Nat.and_two_pow_sub_one_eq_mod _ 7

theorem wT_toNat (w : BitVec 32) : (wT w).toNat = w.toNat / 8 % 16 := by
  show (IntOp.andi (IntOp.shrui .vector w 3#32) 15#32).toNat = _
  unfold IntOp.shrui
  rw [if_pos (by decide)]
  show (w >>> 3 &&& 15#32).toNat = _
  rw [BitVec.toNat_and, BitVec.toNat_ushiftRight, Nat.shiftRight_eq_div_pow]
  exact Nat.and_two_pow_sub_one_eq_mod _ 4

theorem wS_toNat (w : BitVec 32) : (wS w).toNat = w.toNat % 8 := by
  show (w &&& 7#32).toNat = _
  rw [BitVec.toNat_and]
  exact Nat.and_two_pow_sub_one_eq_mod _ 3

theorem InR_pack {a x y : BitVec 32} (ha : a.toNat < 9) (hx : x.toNat < 80) (hy : y.toNat < 80) : InR (pack a x y) := by
  have := pack_toNat ha hx hy
  refine ⟨?_, ?_, ?_⟩
  · rw [wA_toNat]; omega
  · rw [wX_toNat]; omega
  · rw [wT_toNat]; omega

/-! ## The anchor and the grid cell of a box -/

section Cell

variable (a : Vec F S3x9x4 .f32) (x : Vec F S8x100x6 .f32) (l : Fin 3) (b : Fin 8) (j : Fin 128)

/-- The number of the anchor that a level's scan keeps for a box, and the column and the row of the box's grid cell. -/
def wNum : BitVec 32 := A.vnum (A.anc a l) (A.trow (A.tgt x)) (A.lvl l) (ix2 b j)
def wCol : BitVec 32 := (fptosi 32 (A.sw (A.trow (A.tgt x)) (A.lvl l)) : IVec S8x128 32) (ix2 b j)
def wLin : BitVec 32 := (fptosi 32 (A.sh (A.trow (A.tgt x)) (A.lvl l)) : IVec S8x128 32) (ix2 b j)

theorem vkept_num (o : ℕ → FVec F S8x128 .f32) (i : S8x128.Idx) : ∀ n ≤ 9, (A.vkept (e := .i32) o (BitVec.ofNat 32) 0#32 n i : BitVec 32).toNat < 9
  | 0, _ => by show (0#32).toNat < 9; decide
  | n + 1, h => by
    have hc : ∀ c : BitVec 1, c = 0#1 ∨ c = 1#1 := by decide
    show (Scalar.select (FloatOps.cmpf .ogt (o n i) (A.vbest o n i)) (BitVec.ofNat 32 n) (A.vkept (e := .i32) o (BitVec.ofNat 32) 0#32 n i) : BitVec 32).toNat < 9
    rcases hc (FloatOps.cmpf .ogt (o n i) (A.vbest o n i)) with e | e <;> rw [e]
    · exact vkept_num o i n (by omega)
    · show (BitVec.ofNat 32 n).toNat < 9
      rw [BitVec.toNat_ofNat]; omega

theorem wNum_lt : (wNum a x l b j).toNat < 9 := vkept_num _ _ 9 le_rfl

theorem pack_at : A.pack (A.anc a l) (A.trow (A.tgt x)) (A.lvl l) (ix3 (0 : Fin 1) b j) = pack (wNum a x l b j) (wCol x l b j) (wLin x l b j) := by
  unfold A.pack; pointwise; rfl

end Cell

/-- What the precondition says: on each level every box's column and row is one of eighty. -/
def InGrid (x : Vec F S8x100x6 .f32) : Prop := ∀ l b j, (wCol x l b j).toNat < 80 ∧ (wLin x l b j).toNat < 80

theorem sge_slt {w : BitVec 32} {n : ℕ} (hn : n < 2 ^ 31) (h0 : IntOp.cmpi .sge w 0#32 = 1#1) (h1 : IntOp.cmpi .slt w (BitVec.ofNat 32 n) = 1#1) : w.toNat < n := by
  have hb : ∀ b : Bool, BitVec.ofBool b = 1#1 → b = true := by decide
  have e0 : (0#32).sle w = true := hb _ h0
  have e1 : w.slt (BitVec.ofNat 32 n) = true := hb _ h1
  rw [BitVec.sle_eq_decide, decide_eq_true_eq] at e0
  rw [BitVec.slt_eq_decide, decide_eq_true_eq, BitVec.toInt_eq_toNat_of_lt (x := BitVec.ofNat 32 n) (by rw [BitVec.toNat_ofNat]; omega)] at e1
  rw [BitVec.toNat_ofNat, Nat.mod_eq_of_lt (by omega)] at e1
  have := w.isLt
  rw [show (0#32 : BitVec 32).toInt = 0 from rfl] at e0
  rw [BitVec.toInt_eq_toNat_cond] at e0 e1
  split at e0 <;> omega

section Pre

variable [Cert.Pre_in_grid.Facts]

/-- A row of the padded boxes, as the precondition reads it. -/
def prow (x : FVec F S8x100x6 .f32) (k : ℕ) (hs : (Cert.Pre_in_grid.S8x128x6).Slices ![0, 0, k] Cert.Pre_in_grid.S8x128x1) : FVec F S8x128 .f32 :=
  shapeCast S8x128 (extractStridedSlice Cert.Pre_in_grid.S8x128x1 ![0, 0, k] (Cert.Pre_in_grid.fn_pad (F := F) x (constantI S_ 32 0#32)) hs)
    Cert.Pre_in_grid.Facts.shapeCasts_S8x128x1_S8x128

theorem prow_at (x : FVec F S8x100x6 .f32) (k : Fin 6) (hs) (b : Fin 8) (j : Fin 128) :
    prow x k.val hs (ix2 b j) = A.row (A.trow (A.tgt x)) k (ix2 b j) := by
  have e : A.row (A.trow (A.tgt x)) k (ix2 b j) = A.tgt x (ix3 k b j) := by unfold A.row; pointwise; rfl
  rw [e]
  unfold prow A.tgt Cert.Pre_in_grid.fn_pad; pointwise

/-- What the precondition asks of a level. -/
def okl (x : FVec F S8x100x6 .f32) (s : BitVec 32) : IVec S8x128 1 :=
  have gx : IVec S8x128 32 := fptosi 32 (mulf (subf (prow x 2 Cert.Pre_in_grid.Facts.slices_S8x128x6_S8x128x1_0_0_2) (prow x 0 Cert.Pre_in_grid.Facts.slices_S8x128x6_S8x128x1_0_0_0)) (broadcast S8x128 (Scalar.ofBits .f32 s)))
  have gy : IVec S8x128 32 := fptosi 32 (mulf (subf (prow x 3 Cert.Pre_in_grid.Facts.slices_S8x128x6_S8x128x1_0_0_3) (prow x 1 Cert.Pre_in_grid.Facts.slices_S8x128x6_S8x128x1_0_0_1)) (broadcast S8x128 (Scalar.ofBits .f32 s)))
  andi (andi (andi (cmpi .sge gx (broadcast S8x128 0#32)) (cmpi .slt gx (broadcast S8x128 80#32))) (cmpi .sge gy (broadcast S8x128 0#32))) (cmpi .slt gy (broadcast S8x128 80#32))

theorem okl_at (x : FVec F S8x100x6 .f32) (l : Fin 3) (b : Fin 8) (j : Fin 128) (h : okl x (A.lvl l) (ix2 b j) = 1#1) :
    (wCol x l b j).toNat < 80 ∧ (wLin x l b j).toNat < 80 := by
  have hand : ∀ p q : BitVec 1, IntOp.andi p q = 1#1 → p = 1#1 ∧ q = 1#1 := by decide
  obtain ⟨h, q1⟩ := hand _ _ h
  obtain ⟨h, p1⟩ := hand _ _ h
  obtain ⟨p0, q0⟩ := hand _ _ h
  have ec : (fptosi 32 (mulf (subf (prow x 2 Cert.Pre_in_grid.Facts.slices_S8x128x6_S8x128x1_0_0_2) (prow x 0 Cert.Pre_in_grid.Facts.slices_S8x128x6_S8x128x1_0_0_0)) (broadcast S8x128 (Scalar.ofBits .f32 (A.lvl l)))) : IVec S8x128 32) (ix2 b j) = wCol x l b j := by
    show FloatOps.fptosi 32 (FloatOps.mulf (FloatOps.subf (prow x (2 : Fin 6).val _ (ix2 b j)) (prow x (0 : Fin 6).val _ (ix2 b j))) _) = _
    rw [prow_at, prow_at]; rfl
  have el : (fptosi 32 (mulf (subf (prow x 3 Cert.Pre_in_grid.Facts.slices_S8x128x6_S8x128x1_0_0_3) (prow x 1 Cert.Pre_in_grid.Facts.slices_S8x128x6_S8x128x1_0_0_1)) (broadcast S8x128 (Scalar.ofBits .f32 (A.lvl l)))) : IVec S8x128 32) (ix2 b j) = wLin x l b j := by
    show FloatOps.fptosi 32 (FloatOps.mulf (FloatOps.subf (prow x (3 : Fin 6).val _ (ix2 b j)) (prow x (1 : Fin 6).val _ (ix2 b j))) _) = _
    rw [prow_at, prow_at]; rfl
  refine ⟨?_, ?_⟩
  · rw [← ec]; exact sge_slt (by decide) p0 q0
  · rw [← el]; exact sge_slt (by decide) p1 q1

theorem inGrid_of_pre (a : FVec F S3x9x4 .f32) (x : FVec F S8x100x6 .f32) (r : FVec F S3x8x9x80x80x5 .f32) (c : FVec F S3x8x9x80x80x20 .f32)
    (h : Cert.Pre_in_grid.fn (F := F) a x r c = fun _ => 1#1) : InGrid (F := F) x := by
  have hall := congrFun h (fun a => Fin.elim0 a)
  haveI : Subsingleton (Cert.Pre_in_grid.S_ : Shape).Idx := ⟨fun _ _ => funext fun a => Fin.elim0 a⟩
  have hand : ∀ p q : BitVec 1, IntOp.andi p q = 1#1 → p = 1#1 ∧ q = 1#1 := by decide
  have R : ∀ l : Fin 3, Host.reduce IntOp.andi (okl x (A.lvl l)) (constantI S_ 1 1#1) Cert.Pre_in_grid.Facts.reducesTo_S8x128_S_d0_1 Cert.Pre_in_grid.Facts.h_S_
      (fun a => Fin.elim0 a) = 1#1 := by
    obtain ⟨e, e2⟩ := hand _ _ hall
    obtain ⟨e, e1⟩ := hand _ _ e
    obtain ⟨_, e0⟩ := hand _ _ e
    exact fun l => match l with
      | ⟨0, _⟩ => e0
      | ⟨1, _⟩ => e1
      | ⟨2, _⟩ => e2
  intro l b j
  exact okl_at x l b j (Host.reduce_andi_all _ _ _ _ _ (R l) (ix2 b j))

end Pre

/-! ## The words -/

variable (m : (ℓ : Loc nD τ sig) → Buf (Elt F) ℓ) (d : Dev nD)

/-- The anchors and the boxes. -/
abbrev aM : FVec F S3x9x4 .f32 := m ((SparseCore.T d).loc main_arg0)
abbrev xM : FVec F S8x100x6 .f32 := m ((SparseCore.T d).loc main_arg1)

/-- Word `128 * (8 * l + b) + j` of the list: the packed word of box `j` of image `b` at level `l`. -/
theorem ivM_apply (l : Fin 3) (b : Fin 8) (j : Fin 128) (n : Fin 3072) (hn : n.val = (l.val * 8 + b.val) * 128 + j.val) :
    ivM m d (ix1 n) = pack (wNum (aM m d) (xM m d) l b j) (wCol (xM m d) l b j) (wLin (xM m d) l b j) := by
  rw [ivM_eq, A.VR2]
  rw [shapeCast_apply _ shapeCasts_S3x8x128_S3072 (ix1 n) (ix3 l b j) (by
    rw [Shape.rowMajor_val_three, Shape.rowMajor_val_one]; show (l.val * 8 + b.val) * 128 + j.val = n.val; omega)]
  exact pack_at (aM m d) (xM m d) l b j

theorem ivM_InR (hg : InGrid (xM m d)) (i : S3072.Idx) : InR (ivM m d i) := by
  obtain ⟨n, rfl⟩ : ∃ n : Fin 3072, i = ix1 n := ⟨i 0, eq_ix1 i⟩
  rw [ivM_apply m d ⟨n.val / 1024, by omega⟩ ⟨n.val / 128 % 8, by omega⟩ ⟨n.val % 128, by omega⟩ n (by dsimp only; omega)]
  exact InR_pack (wNum_lt _ _ _ _ _) (hg _ _ _).1 (hg _ _ _).2

/-- A box's place among the padded ones. -/
abbrev up (j : Fin 100) : Fin 128 := j.castLE (by decide)

theorem wid_LL (r : ℕ) (h : r < 32) : wid (LL r) = r := by
  show 2 * (r / 2 % 16) + r % 2 = r
  omega

/-- The row a subcore picks out for target `j`: the table's row at the target's anchor and grid cell. -/
theorem rows_apply {n : ℕ} (ct : (⟨6, ![3, 8, 9, 80, 80, n]⟩ : Shape).Idx → Elt F .f32) (hg : InGrid (xM m d))
    (l : Fin 3) (b : Fin 8) (j : Fin 100) (k : Fin n) (r : ℕ) (hr : r = 8 * l.val + b.val) (q : Fin 128) (hq : q.val = j.val) (qa : Fin 9) (qx qy : Fin 80)
    (h1 : (wNum (aM m d) (xM m d) l b (up j)).toNat = qa.val) (h2 : (wCol (xM m d) l b (up j)).toNat = qx.val) (h3 : (wLin (xM m d) l b (up j)).toNat = qy.val) :
    rows ct (LL r) (words (LL r) (ivM m d)) (ix2 q k) = ct (ValueIdx.ix6 l b qa qx qy k) := by
  have hw : wid (LL r) = r := wid_LL r (by omega)
  have hword : word (words (LL r) (ivM m d)) q.val = pack (wNum (aM m d) (xM m d) l b (up j)) (wCol (xM m d) l b (up j)) (wLin (xM m d) l b (up j)) := by
    show ivM m d (ix1 (Fin.ofNat 3072 (128 * wid (LL r) + (q.val % 128)))) = _
    rw [ivM_apply m d l b q _ (by show (128 * wid (LL r) + q.val % 128) % 3072 = _; rw [hw]; omega)]
    rw [show q = up j from Fin.ext hq]
  have hp := pack_toNat (wNum_lt (aM m d) (xM m d) l b (up j)) (hg l b (up j)).1 (hg l b (up j)).2
  show tgt ct (LL r) (word (words (LL r) (ivM m d)) q.val) (8 * (wT (word (words (LL r) (ivM m d)) q.val)).toNat + (wS (word (words (LL r) (ivM m d)) q.val)).toNat) k = _
  rw [hword]
  unfold tgt
  have := hg l b (up j)
  have := wNum_lt (aM m d) (xM m d) l b (up j)
  congr 1
  have e0 : Fin.ofNat 3 (wid (LL r) / 8) = l := Fin.ext (by show wid (LL r) / 8 % 3 = _; rw [hw]; omega)
  have e1 : Fin.ofNat 8 (wid (LL r) % 8) = b := Fin.ext (by show wid (LL r) % 8 % 8 = _; rw [hw]; omega)
  have e2 : Fin.ofNat 9 (wA (pack (wNum (aM m d) (xM m d) l b (up j)) (wCol (xM m d) l b (up j)) (wLin (xM m d) l b (up j)))).toNat = qa :=
    Fin.ext (by show _ % 9 = _; rw [wA_toNat]; omega)
  have e3 : Fin.ofNat 80 (wX (pack (wNum (aM m d) (xM m d) l b (up j)) (wCol (xM m d) l b (up j)) (wLin (xM m d) l b (up j)))).toNat = qx :=
    Fin.ext (by show _ % 80 = _; rw [wX_toNat]; omega)
  have e4 : Fin.ofNat 80 (8 * (wT (pack (wNum (aM m d) (xM m d) l b (up j)) (wCol (xM m d) l b (up j)) (wLin (xM m d) l b (up j)))).toNat
      + (wS (pack (wNum (aM m d) (xM m d) l b (up j)) (wCol (xM m d) l b (up j)) (wLin (xM m d) l b (up j)))).toNat) = qy :=
    Fin.ext (by show _ % 80 = _; rw [wT_toNat, wS_toNat]; omega)
  rw [e0, e1, e2, e3, e4]

/-- The kernel's picked class scores at (level, image, target, channel). -/
theorem cls_apply (hg : InGrid (xM m d)) (ct : S3x8x9x80x80x20.Idx → Elt F .f32) (l : Fin 3) (b : Fin 8) (j : Fin 100) (k : Fin 20)
    (qa : Fin 9) (qx qy : Fin 80)
    (h1 : (wNum (aM m d) (xM m d) l b (up j)).toNat = qa.val) (h2 : (wCol (xM m d) l b (up j)).toNat = qx.val) (h3 : (wLin (xM m d) l b (up j)).toNat = qy.val) :
    shapeCast S3x8x100x20 (clsOut ct (ivM m d)) shapeCasts_S24x100x20_S3x8x100x20 (ix4 l b j k) = ct (ValueIdx.ix6 l b qa qx qy k) := by
  rw [shapeCast_apply _ shapeCasts_S24x100x20_S3x8x100x20 (ix4 l b j k) (ix3 (⟨8 * l.val + b.val, by omega⟩ : Fin 24) j k) (by
    rw [Shape.rowMajor_val_three, Shape.rowMajor_val_four]
    show ((8 * l.val + b.val) * 100 + j.val) * 20 + k.val = ((l.val * 8 + b.val) * 100 + j.val) * 20 + k.val
    omega)]
  exact rows_apply m d ct hg l b j k (8 * l.val + b.val) rfl (Fin.ofNat 128 j.val) (by show j.val % 128 = _; omega) qa qx qy h1 h2 h3

/-- The kernel's picked box regressions at (level, image, target, channel). -/
theorem reg_apply (hg : InGrid (xM m d)) (rt : S3x8x9x80x80x5.Idx → Elt F .f32) (l : Fin 3) (b : Fin 8) (j : Fin 100) (k : Fin 5)
    (qa : Fin 9) (qx qy : Fin 80)
    (h1 : (wNum (aM m d) (xM m d) l b (up j)).toNat = qa.val) (h2 : (wCol (xM m d) l b (up j)).toNat = qx.val) (h3 : (wLin (xM m d) l b (up j)).toNat = qy.val) :
    shapeCast S3x8x100x5 (extractStridedSlice S24x100x5 ![0, 0, 0] (regOut rt (ivM m d)) slices_S24x128x5_S24x100x5_0_0_0 : S24x100x5.Idx → Elt F .f32)
      shapeCasts_S24x100x5_S3x8x100x5 (ix4 l b j k) = rt (ValueIdx.ix6 l b qa qx qy k) := by
  rw [shapeCast_apply _ shapeCasts_S24x100x5_S3x8x100x5 (ix4 l b j k) (ix3 (⟨8 * l.val + b.val, by omega⟩ : Fin 24) j k) (by
    rw [Shape.rowMajor_val_three, Shape.rowMajor_val_four]
    show ((8 * l.val + b.val) * 100 + j.val) * 5 + k.val = ((l.val * 8 + b.val) * 100 + j.val) * 5 + k.val
    omega)]
  rw [extractStridedSlice_apply _ (regOut rt (ivM m d)) slices_S24x128x5_S24x100x5_0_0_0 _ (ix3 (⟨8 * l.val + b.val, by omega⟩ : Fin 24) (⟨j.val, by omega⟩ : Fin 128) k) (by
    intro a
    match a with
    | ⟨0, _⟩ => exact (Nat.zero_add _).symm
    | ⟨1, _⟩ => exact (Nat.zero_add _).symm
    | ⟨2, _⟩ => exact (Nat.zero_add _).symm)]
  exact rows_apply m d rt hg l b j k (8 * l.val + b.val) rfl ⟨j.val, by omega⟩ rfl qa qx qy h1 h2 h3

end Cert.Proof.K
-- ==== Proof.Level.lean ====
module

public import proofs.«01_k».proof.Proof.Target
public import proofs.«01_k».proof.Proof.Words
public import Idealize.ShloMosaic.Lib.IdealHost

/-!
At the extended reals the assignment's arrays are its reference's. Both are read at an index: the overlaps agree since
the reference's scaled boxes are the kernel's, and the anchor the kernel's scan keeps is the one the reference finds.
-/

@[expose] public section

noncomputable section

namespace Cert.Proof.T

open Cert.ReferenceIdeal Cert.ReferenceIdeal.Gen Cert.ReferenceIdeal.Value
open Idealize.ShloMosaic Idealize.ShloMosaic.TcCoe Idealize.SL.Sem
open Cert.Proof.K (up)
open Cert.Proof.A (lvl ovl best kept pick bot_lt_ovl kept_pick max_pick min_pick)

variable (a : FVec Ideal S3x9x4 .f32) (x : FVec Ideal S8x100x6 .f32) (l : Fin 3) (b : Fin 8)

/-- A box's half sides on a level's grid. -/
def hw (m : Fin 100) : EReal := (x (ix3 b m 2) - x (ix3 b m 0)) * Ideal.ofBits .f32 (lvl l)
def hh (m : Fin 100) : EReal := (x (ix3 b m 3) - x (ix3 b m 1)) * Ideal.ofBits .f32 (lvl l)

/-- The overlaps of a level's anchors with a box. -/
def sc (m : Fin 100) (k : ℕ) : EReal :=
  ovl (fun c => a (ix3 l (Fin.ofNat 9 k) c)) (0 - hw x l b m) (0 - hh x l b m) (hw x l b m) (hh x l b m)

theorem sc_pos (m : Fin 100) (k : ℕ) : ⊥ < sc a x l b m k := bot_lt_ovl _ _ _ _ _

/-- The anchor chosen for a box. -/
def pk (m : Fin 100) : Fin 9 := pick (sc a x l b m) (sc_pos a x l b m)

/-- Half a side over a level's stride is the side times the level's literal. -/
theorem half (W : EReal) : Ideal.div (Ideal.div W (Ideal.ofBits .f32 0x40000000#32)) (Ideal.ofBits .f32 (str l)) = W * Ideal.ofBits .f32 (lvl l) := by
  have h2 : Ideal.ofBits .f32 0x40000000#32 = ((2 : ℝ) : EReal) := by
    simp [Ideal.ofBits, Ideal.ieee, -EReal.coe_mul]; norm_num
  have hs : ∃ s : ℝ, s ≠ 0 ∧ Ideal.ofBits .f32 (str l) = (s : EReal) ∧ Ideal.ofBits .f32 (lvl l) = ((1 / 2 * (1 / s) : ℝ) : EReal) := by
    match l with
    | ⟨0, _⟩ => exact ⟨32, by norm_num, by simp [str, Ideal.ofBits, Ideal.ieee, -EReal.coe_mul]; norm_num, by
        simp [lvl, Ideal.ofBits, Ideal.ieee, -EReal.coe_mul]; norm_num⟩
    | ⟨1, _⟩ => exact ⟨16, by norm_num, by simp [str, Ideal.ofBits, Ideal.ieee, -EReal.coe_mul]; norm_num, by
        simp [lvl, Ideal.ofBits, Ideal.ieee, -EReal.coe_mul]; norm_num⟩
    | ⟨2, _⟩ => exact ⟨8, by norm_num, by simp [str, Ideal.ofBits, Ideal.ieee, -EReal.coe_mul]; norm_num, by
        simp [lvl, Ideal.ofBits, Ideal.ieee, -EReal.coe_mul]; norm_num⟩
  obtain ⟨s, h0, h1, h3⟩ := hs
  rw [h2, h1, h3, Ideal.div_coe h0, Ideal.div_coe (two_ne_zero), mul_assoc, ← EReal.coe_mul]

/-! ### The reference at an index -/

theorem wid_at (T : FVec Ideal S8x100x6 .f32) (m : Fin 100) : wid T (ix2 b m) = T (ix3 b m 2) - T (ix3 b m 0) := by
  unfold wid; pointwise
theorem hei_at (T : FVec Ideal S8x100x6 .f32) (m : Fin 100) : hei T (ix2 b m) = T (ix3 b m 3) - T (ix3 b m 1) := by
  unfold hei; pointwise

theorem box_at (m : Fin 100) :
    let B := box (wid x) (hei x) (str l)
    B (ix3 b m 0) = 0 - hw x l b m ∧ B (ix3 b m 1) = 0 - hh x l b m ∧ B (ix3 b m 2) = hw x l b m ∧ B (ix3 b m 3) = hh x l b m := by
  refine ⟨?_, ?_, ?_, ?_⟩ <;> unfold box <;> pointwise <;> rw [half] <;> simp only [wid_at, hei_at, hw, hh, zero_sub, EReal.neg_mul]

theorem anch_at (k : Fin 9) (c : Fin 4) : anch (img a) l (ix3 b k c) = a (ix3 l k c) := by
  unfold anch img; pointwise

theorem over_at (k : Fin 9) (m : Fin 100) :
    over (anch (img a) l) (box (wid x) (hei x) (str l)) (ix3 b k m) = sc a x l b m k.val := by
  obtain ⟨h0, h1, h2, h3⟩ := box_at x l b m
  unfold over common wh; pointwise
  rw [h0, h1, h2, h3]
  simp only [anch_at]
  unfold sc ovl
  rw [show Fin.ofNat 9 k.val = k from Fin.ext (Nat.mod_eq_of_lt k.isLt), Ideal.ofBits_zero_f32]

theorem top_at (m : Fin 100) :
    top (over (anch (img a) l) (box (wid x) (hei x) (str l))) (ix2 b m) = sc a x l b m (pk a x l b m).val := by
  unfold top
  rw [Host.reduce_eq_fold, Shape.ReducesTo.fold_fiber_r3_a1]
  refine Eq.trans ?_ (max_pick (sc a x l b m) (sc_pos a x l b m))
  exact Finset.fold_congr fun k _ => over_at a x l b k m

theorem nums_at (o : FVec Ideal S8x9x100 .f32) (k : Fin 9) (m : Fin 100) :
    nums o (ix3 b k m) = Scalar.select (Ideal.cmp .oeq (o (ix3 b k m)) (top o (ix2 b m))) (BitVec.ofNat 32 k.val) 9#32 := by
  unfold nums
  pointwise
  rfl

theorem lamx_at (m : Fin 100) : lamx a x l (ix2 b m) = BitVec.ofNat 32 (pk a x l b m).val := by
  unfold lamx amx
  rw [Host.reduce_eq_fold, Shape.ReducesTo.fold_fiber_r3_a1]
  refine Eq.trans ?_ (min_pick (sc a x l b m) (sc_pos a x l b m))
  rw [show constantI S_ 32 2147483647#32 (Shape.Idx.first h_S_) = 2147483647#32 from rfl]
  refine Finset.fold_congr fun k _ => ?_
  exact (nums_at b _ k m).trans (by rw [over_at, top_at]; rfl)

/-- Reading an anchor at an image and a number in range. -/
theorem gath (q : FVec Ideal S8x9x4 .f32) (idx : IVec S8x100x2 32) (m : Fin 100) (c : Fin 4) (q0 : Fin 8) (q1 : Fin 9)
    (h0 : (idx (ix3 b m (0 : Fin 2))).toInt.toNat = q0.val) (h1 : (idx (ix3 b m (1 : Fin 2))).toInt.toNat = q1.val) :
    Host.gather gather_S8x9x4_S8x100x2_S8x100x4_2_01_n_n_01_2_114 q idx (ix3 b m c) = q (ix3 q0 q1 c) := by
  let gd := gather_S8x9x4_S8x100x2_S8x100x4_2_01_n_n_01_2_114
  have hsi : ∀ (i : Fin 2) (h : List.idxOf (i.castSucc : Fin 3) gd.startIndexMap < gd.startIndexMap.length),
      gd.siIdx (ix3 b m c) ⟨List.idxOf (i.castSucc : Fin 3) gd.startIndexMap, h⟩ = ix3 b m i := by
    intro i h
    funext d; refine Fin.ext ?_
    fin_cases i <;> (match d with
    | ⟨0, _⟩ => rfl
    | ⟨1, _⟩ => rfl
    | ⟨2, _⟩ => rfl)
  have hm : ∀ i : Fin 2, (i.castSucc : Fin 3) ∈ ([0, 1] : List (Fin 3)) := by decide
  unfold Host.gather
  congr 1
  funext d
  refine Fin.ext ?_
  show gd.start (ix3 b m c) idx d + gd.batchCoord (ix3 b m c) d + gd.offCoord (ix3 b m c) d = _
  rw [GatherDims.batchCoord_eq_zero _ _ _ List.not_mem_nil]
  have hst : ∀ i : Fin 2, gd.start (ix3 b m c) idx i.castSucc
      = min (idx (ix3 b m i)).toInt.toNat (S8x9x4.size i.castSucc - gd.sliceSizes i.castSucc) := by
    intro i
    unfold GatherDims.start
    rw [dif_pos (show (i.castSucc : Fin 3) ∈ gd.startIndexMap from hm i)]
    rw [hsi i]
  have hoff : ∀ i : Fin 2, gd.offCoord (ix3 b m c) i.castSucc = 0 := fun i =>
    GatherDims.offCoord_eq_zero _ _ _ (fun h => ((GatherDims.mem_sKept _ _).mp h).1 (hm i))
  match d with
  | ⟨0, _⟩ => exact (congrArg₂ (fun p q => p + 0 + q) (hst 0) (hoff 0)).trans (by rw [h0]; show min q0.val (8 - 1) + 0 + 0 = q0.val; omega)
  | ⟨1, _⟩ => exact (congrArg₂ (fun p q => p + 0 + q) (hst 1) (hoff 1)).trans (by rw [h1]; show min q1.val (9 - 1) + 0 + 0 = q1.val; omega)
  | ⟨2, _⟩ =>
    have hs : gd.start (ix3 b m c) idx (2 : Fin 3) = 0 := by
      unfold GatherDims.start
      exact dif_neg (show ¬ (2 : Fin 3) ∈ ([0, 1] : List (Fin 3)) by decide)
    show gd.start (ix3 b m c) idx (2 : Fin 3) + 0 + gd.offCoord (ix3 b m c) (2 : Fin 3) = c.val
    rw [hs]
    have : gd.offCoord (ix3 b m c) (2 : Fin 3) = c.val := by rfl
    omega

/-- The chosen anchor of a box. -/
theorem near_at (m : Fin 100) (c : Fin 4) : near (anch (img a) l) (lamx a x l) imgs (ix3 b m c) = a (ix3 l (pk a x l b m) c) := by
  unfold near
  rw [gath b _ _ m c b (pk a x l b m) ?_ ?_, anch_at]
  · unfold imgs; pointwise
    revert b
    decide +kernel
  · pointwise
    rw [lamx_at]
    generalize pk a x l b m = p
    revert p
    decide +kernel

/-! ### The arrays at an index -/

theorem trow_at (k : Fin 6) (m : Fin 100) : A.trow (F := Ideal) (A.tgt x) k (ix3 0 b (up m)) = x (ix3 b m k) := by
  show A.tgt (F := Ideal) x (ix3 k b (up m)) = _
  unfold A.tgt; pointwise
  exact dif_pos m.isLt

theorem sw_at (m : Fin 100) : A.sw (F := Ideal) (A.trow (A.tgt x)) (lvl l) (ix2 b (up m)) = hw x l b m := by
  unfold A.sw A.bw A.row A.lit; pointwise; simp only [hw, ← trow_at]
theorem sh_at (m : Fin 100) : A.sh (F := Ideal) (A.trow (A.tgt x)) (lvl l) (ix2 b (up m)) = hh x l b m := by
  unfold A.sh A.bh A.row A.lit; pointwise; simp only [hh, ← trow_at]

theorem vbest_at (o : ℕ → FVec Ideal KernelIdeal.S8x128 .f32) (n : ℕ) (i) : A.vbest o n i = best (fun k => o k i) n := by
  induction n with
  | zero => rfl
  | succ n ih => rw [best, ← ih]; rfl

theorem vkept_at {e : EltTy} (o : ℕ → FVec Ideal KernelIdeal.S8x128 .f32) (v : ℕ → Elt Ideal e) (v0) (n : ℕ) (i) :
    A.vkept o v v0 n i = kept (fun k => o k i) v v0 n := by
  induction n with
  | zero => rfl
  | succ n ih => rw [kept, ← ih, ← vbest_at]; rfl

theorem vo_at (m : Fin 100) (k : ℕ) : A.vo (F := Ideal) (A.anc a l) (A.trow (A.tgt x)) (lvl l) k (ix2 b (up m)) = sc a x l b m k := by
  unfold sc
  rw [← sw_at, ← sh_at, ← Ideal.ofBits_zero_f32]; rfl

/-- What the scan keeps is the chosen anchor's. -/
theorem vkept_pk {e : EltTy} (v : ℕ → Elt Ideal e) (v0) (m : Fin 100) :
    A.vkept (A.vo (F := Ideal) (A.anc a l) (A.trow (A.tgt x)) (lvl l)) v v0 9 (ix2 b (up m)) = v (pk a x l b m).val := by
  rw [vkept_at, funext fun k => vo_at a x l b m k, kept_pick _ (sc_pos a x l b m)]; rfl

/-! ### The two sides -/

theorem num_at (m : Fin 100) : K.wNum (F := Ideal) a x l b (up m) = lamx a x l (ix2 b m) := by
  unfold K.wNum A.vnum
  rw [lamx_at]
  exact vkept_pk a x l b _ _ m

theorem col_at (m : Fin 100) : K.wCol (F := Ideal) x l b (up m) = lcol x l (ix2 b m) := by
  have e : K.wCol (F := Ideal) x l b (up m) = FloatOps.fptosi (F := Ideal) (φ := .f32) 32 (hw x l b m) := by rw [← sw_at]; rfl
  rw [e]; unfold lcol grid; pointwise
  rw [half, wid_at]; rfl

theorem lin_at (m : Fin 100) : K.wLin (F := Ideal) x l b (up m) = llin x l (ix2 b m) := by
  have e : K.wLin (F := Ideal) x l b (up m) = FloatOps.fptosi (F := Ideal) (φ := .f32) 32 (hh x l b m) := by rw [← sh_at]; rfl
  rw [e]; unfold llin grid; pointwise
  rw [half, hei_at]; rfl

theorem T1_at (m : Fin 100) (c : Fin 4) : T1 a x (ix4 l b m c) = lenc a x l (ix4 0 b m c) := by
  unfold T1
  match l with
  | ⟨0, _⟩ => pointwise
  | ⟨1, _⟩ => pointwise
  | ⟨2, _⟩ => pointwise

theorem T2_at (m : Fin 100) (c : Fin 20) : T2 x (ix4 l b m c) = hot x (ix4 0 b m c) := by
  unfold T2
  match l with
  | ⟨0, _⟩ => pointwise
  | ⟨1, _⟩ => pointwise
  | ⟨2, _⟩ => pointwise

theorem fin9 (p : Fin 9) : Fin.ofNat 9 p.val = p := Fin.ext (Nat.mod_eq_of_lt p.isLt)

theorem gw_at (m : Fin 100) : A.gw (F := Ideal) (A.trow (A.tgt x)) (ix2 b (up m)) = gtw x (ix2 b m) := by
  unfold A.gw A.bw A.row A.lit gtw; pointwise; simp only [← trow_at]
theorem gh_at (m : Fin 100) : A.gh (F := Ideal) (A.trow (A.tgt x)) (ix2 b (up m)) = gth x (ix2 b m) := by
  unfold A.gh A.bh A.row A.lit gth; pointwise; simp only [← trow_at]

theorem enc_at (m : Fin 100) (c : Fin 4) :
    A.regt (F := Ideal) (A.anc a l) (A.trow (A.tgt x)) (lvl l) (ix4 0 b m c) = lenc a x l (ix4 0 b m c) := by
  have hm : ∀ h, (⟨m.val, h⟩ : Fin 128) = up m := fun _ => rfl
  match c with
  | ⟨0, _⟩ =>
    unfold A.regt A.cut lenc enc A.off A.ctr A.row A.lit cx; pointwise
    simp only [hm, gw_at, trow_at]
  | ⟨1, _⟩ =>
    unfold A.regt A.cut lenc enc A.off A.ctr A.row A.lit cy; pointwise
    simp only [hm, gh_at, trow_at]
  | ⟨2, _⟩ =>
    unfold A.regt A.cut lenc enc A.vexw; pointwise
    rw [hm, gw_at, vkept_pk, fin9, near_at, near_at, ← Ideal.ofBits_one_f32]
    rfl
  | ⟨3, _⟩ =>
    unfold A.regt A.cut lenc enc A.vexh; pointwise
    rw [hm, gh_at, vkept_pk, fin9, near_at, near_at, ← Ideal.ofBits_one_f32]
    rfl

theorem regs_eq : A.G3 (F := Ideal) (A.trow (A.tgt x)) (A.anc a) = T1 a x := by
  funext j
  obtain ⟨l, b, m, c, rfl⟩ : ∃ (l : Fin 3) (b : Fin 8) (m : Fin 100) (c : Fin 4), j = ix4 l b m c :=
    ⟨j 0, j 1, j 2, j 3, funext fun d => match d with | ⟨0, _⟩ => rfl | ⟨1, _⟩ => rfl | ⟨2, _⟩ => rfl | ⟨3, _⟩ => rfl⟩
  exact (enc_at a x l b m c).trans (T1_at a x l b m c).symm

theorem hot_at (m : Fin 100) (c : Fin 20) : A.clst (F := Ideal) (A.trow (A.tgt x)) (ix4 0 b m c) = hot x (ix4 0 b m c) := by
  have hm : ∀ h, (⟨m.val, h⟩ : Fin 128) = up m := fun _ => rfl
  unfold A.clst KernelIdeal.Gen.k0_pay9 hot; pointwise
  rw [hm, trow_at]
  generalize IntOp.cmpi _ _ _ = w
  have hw : w = 0#1 ∨ w = 1#1 := by revert w; decide
  rcases hw with rfl | rfl
  · show (0 : EReal) = (((0 : ℕ) : ℝ) : EReal); simp
  · show (1 : EReal) = (((1 : ℕ) : ℝ) : EReal); simp

theorem classes_eq : A.G4 (F := Ideal) (A.trow (A.tgt x)) = T2 x := by
  funext j
  obtain ⟨l, b, m, c, rfl⟩ : ∃ (l : Fin 3) (b : Fin 8) (m : Fin 100) (c : Fin 20), j = ix4 l b m c :=
    ⟨j 0, j 1, j 2, j 3, funext fun d => match d with | ⟨0, _⟩ => rfl | ⟨1, _⟩ => rfl | ⟨2, _⟩ => rfl | ⟨3, _⟩ => rfl⟩
  exact (hot_at x b m c).trans (T2_at x l b m c).symm

end Cert.Proof.T
-- ==== Proof.Ref.lean ====
module

public import proofs.«01_k».proof.Proof.Target
public import Idealize.ShloMosaic.Lib.ValueIdx
public import Idealize.ShloMosaic.Lib.ValueIdxRank6
public import Idealize.ShloMosaic.Lib.ValueIdxCoords
public import Idealize.ShloMosaic.Lib.Pipeline.Value

/-!
The reference's gathers read at an index: each of its first two results at (level, image, target, channel) is the
table's element at the level, the image, and the target's anchor and grid cell.
-/

@[expose] public section

noncomputable section

namespace Cert.Proof.R

open Cert.ReferenceIdeal Cert.ReferenceIdeal.Gen Cert.ReferenceIdeal.Value

open Idealize.ShloMosaic Idealize.ShloMosaic.TcCoe Idealize.SL.Sem Idealize.ShloMosaic.StableHlo
open Idealize.ShloMosaic.ValueIdx

/-- The dimension numbers of a read of rows of `n` elements at four-component indices. -/
abbrev gd (n : ℕ) (wf : GatherDims.WF ⟨5, ![8, 9, 80, 80, n]⟩ S8x100x4 ⟨3, ![8, 100, n]⟩ [2] [0, 1, 2, 3] [] [0, 1, 2, 3] [] 2 ![1, 1, 1, 1, n]) :
    GatherDims ⟨5, ![8, 9, 80, 80, n]⟩ S8x100x4 ⟨3, ![8, 100, n]⟩ where
  offsetDims := [2]
  collapsedSliceDims := [0, 1, 2, 3]
  operandBatchingDims := []
  startIndicesBatchingDims := []
  startIndexMap := [0, 1, 2, 3]
  indexVectorDim := 2
  sliceSizes := ![1, 1, 1, 1, n]
  wf := wf

/-- The gather at (image, target, channel): the table's element at the four index components, when
    these are in range, and the channel. -/
theorem gath {n : ℕ} {α : Type} (wf) (x : (⟨5, ![8, 9, 80, 80, n]⟩ : Shape).Idx → α) (idx : IVec S8x100x4 32) (b : Fin 8) (j : Fin 100) (k : Fin n)
    (q0 : Fin 8) (q1 : Fin 9) (q2 q3 : Fin 80)
    (h0 : (idx (ValueIdx.ix3 b j (0 : Fin 4))).toInt.toNat = q0.val) (h1 : (idx (ValueIdx.ix3 b j (1 : Fin 4))).toInt.toNat = q1.val)
    (h2 : (idx (ValueIdx.ix3 b j (2 : Fin 4))).toInt.toNat = q2.val) (h3 : (idx (ValueIdx.ix3 b j (3 : Fin 4))).toInt.toNat = q3.val) :
    Host.gather (gd n wf) x idx (ValueIdx.ix3 b j k) = x (ValueIdx.ix5 q0 q1 q2 q3 k) := by
  have hsi : ∀ (i : Fin 4) (h : List.idxOf (i.castSucc : Fin 5) (gd n wf).startIndexMap < (gd n wf).startIndexMap.length),
      (gd n wf).siIdx (ValueIdx.ix3 b j k) ⟨List.idxOf (i.castSucc : Fin 5) (gd n wf).startIndexMap, h⟩ = ValueIdx.ix3 b j i := by
    intro i h
    funext c; refine Fin.ext ?_
    fin_cases i <;> (match c with
    | ⟨0, _⟩ => rfl
    | ⟨1, _⟩ => rfl
    | ⟨2, _⟩ => rfl)
  have hm : ∀ i : Fin 4, (i.castSucc : Fin 5) ∈ ([0, 1, 2, 3] : List (Fin 5)) := by decide
  unfold Host.gather
  congr 1
  funext a
  refine Fin.ext ?_
  show (gd n wf).start (ValueIdx.ix3 b j k) idx a + (gd n wf).batchCoord (ValueIdx.ix3 b j k) a + (gd n wf).offCoord (ValueIdx.ix3 b j k) a = _
  rw [GatherDims.batchCoord_eq_zero _ _ _ List.not_mem_nil]
  have hst : ∀ i : Fin 4, (gd n wf).start (ValueIdx.ix3 b j k) idx i.castSucc
      = min (idx (ValueIdx.ix3 b j i)).toInt.toNat ((⟨5, ![8, 9, 80, 80, n]⟩ : Shape).size i.castSucc - (gd n wf).sliceSizes i.castSucc) := by
    intro i
    unfold GatherDims.start
    rw [dif_pos (show (i.castSucc : Fin 5) ∈ (gd n wf).startIndexMap from hm i)]
    rw [hsi i]
  have hoff : ∀ i : Fin 4, (gd n wf).offCoord (ValueIdx.ix3 b j k) i.castSucc = 0 := fun i =>
    GatherDims.offCoord_eq_zero _ _ _ (fun h => ((GatherDims.mem_sKept _ _).mp h).1 (hm i))
  match a with
  | ⟨0, _⟩ => exact (congrArg₂ (fun p q => p + 0 + q) (hst 0) (hoff 0)).trans (by rw [h0]; show min q0.val (8 - 1) + 0 + 0 = q0.val; omega)
  | ⟨1, _⟩ => exact (congrArg₂ (fun p q => p + 0 + q) (hst 1) (hoff 1)).trans (by rw [h1]; show min q1.val (9 - 1) + 0 + 0 = q1.val; omega)
  | ⟨2, _⟩ => exact (congrArg₂ (fun p q => p + 0 + q) (hst 2) (hoff 2)).trans (by rw [h2]; show min q2.val (80 - 1) + 0 + 0 = q2.val; omega)
  | ⟨3, _⟩ => exact (congrArg₂ (fun p q => p + 0 + q) (hst 3) (hoff 3)).trans (by rw [h3]; show min q3.val (80 - 1) + 0 + 0 = q3.val; omega)
  | ⟨4, _⟩ =>
    have hs : (gd n wf).start (ValueIdx.ix3 b j k) idx (4 : Fin 5) = 0 := by
      unfold GatherDims.start
      rw [dif_neg (show ¬ (4 : Fin 5) ∈ ([0, 1, 2, 3] : List (Fin 5)) by decide)]
    show (gd n wf).start (ValueIdx.ix3 b j k) idx (4 : Fin 5) + 0 + (gd n wf).offCoord (ValueIdx.ix3 b j k) (4 : Fin 5) = k.val
    rw [hs]
    have : (gd n wf).offCoord (ValueIdx.ix3 b j k) (4 : Fin 5) = k.val := by rfl
    omega

/-- The four-component index at each of its components. -/
theorem cat4 (u0 u1 u2 u3 : IVec S8x100x1 32) (h) (b : Fin 8) (j : Fin 100) :
    let c := concatenate S8x100x4 2 [⟨S8x100x1, u0⟩, ⟨S8x100x1, u1⟩, ⟨S8x100x1, u2⟩, ⟨S8x100x1, u3⟩] h
    c (ValueIdx.ix3 b j (0 : Fin 4)) = u0 (ValueIdx.ix3 b j (0 : Fin 1)) ∧ c (ValueIdx.ix3 b j (1 : Fin 4)) = u1 (ValueIdx.ix3 b j (0 : Fin 1))
      ∧ c (ValueIdx.ix3 b j (2 : Fin 4)) = u2 (ValueIdx.ix3 b j (0 : Fin 1)) ∧ c (ValueIdx.ix3 b j (3 : Fin 4)) = u3 (ValueIdx.ix3 b j (0 : Fin 1)) := by
  have hi : ∀ (q : Fin 4) (a : Fin 3), a.cast rfl ≠ (2 : Fin 3) → (ValueIdx.ix3 b j (0 : Fin 1) a).val = (ValueIdx.ix3 b j q (a.cast rfl)).val := by
    intro q a ha
    match a with
    | ⟨0, _⟩ => rfl
    | ⟨1, _⟩ => rfl
    | ⟨2, _⟩ => exact absurd rfl ha
  refine ⟨?_, ?_, ?_, ?_⟩
  · exact concatenate_apply_piece (t := S8x100x4) 2 _ h _ 0 (by simp) S8x100x1 u0 rfl rfl 0 rfl _ (hi 0) rfl
  · exact concatenate_apply_piece (t := S8x100x4) 2 _ h _ 1 (by simp) S8x100x1 u1 rfl rfl 1 rfl _ (hi 1) rfl
  · exact concatenate_apply_piece (t := S8x100x4) 2 _ h _ 2 (by simp) S8x100x1 u2 rfl rfl 2 rfl _ (hi 2) rfl
  · exact concatenate_apply_piece (t := S8x100x4) 2 _ h _ 3 (by simp) S8x100x1 u3 rfl rfl 3 rfl _ (hi 3) rfl

/-- Three levels stacked, read at a level. -/
theorem cat3 {n : ℕ} {α : Type} (u : Fin 3 → (⟨4, ![1, 8, 100, n]⟩ : Shape).Idx → α) (h) (l : Fin 3) (b : Fin 8) (j : Fin 100) (k : Fin n) :
    concatenate (⟨4, ![3, 8, 100, n]⟩ : Shape) 0 [⟨⟨4, ![1, 8, 100, n]⟩, u 0⟩, ⟨⟨4, ![1, 8, 100, n]⟩, u 1⟩, ⟨⟨4, ![1, 8, 100, n]⟩, u 2⟩] h (ValueIdx.ix4 l b j k)
      = u l (ValueIdx.ix4 (0 : Fin 1) b j k) := by
  have hi : ∀ (a : Fin 4), a.cast rfl ≠ (0 : Fin 4) → (ValueIdx.ix4 (0 : Fin 1) b j k a).val = (ValueIdx.ix4 l b j k (a.cast rfl)).val := by
    intro a ha
    match a with
    | ⟨0, _⟩ => exact absurd rfl ha
    | ⟨1, _⟩ => rfl
    | ⟨2, _⟩ => rfl
    | ⟨3, _⟩ => rfl
  match l with
  | ⟨0, _⟩ => exact concatenate_apply_piece (t := ⟨4, ![3, 8, 100, n]⟩) 0 _ h _ 0 (by simp) _ (u 0) rfl rfl 0 rfl _ hi rfl
  | ⟨1, _⟩ => exact concatenate_apply_piece (t := ⟨4, ![3, 8, 100, n]⟩) 0 _ h _ 1 (by simp) _ (u 1) rfl rfl 1 rfl _ hi rfl
  | ⟨2, _⟩ => exact concatenate_apply_piece (t := ⟨4, ![3, 8, 100, n]⟩) 0 _ h _ 2 (by simp) _ (u 2) rfl rfl 2 rfl _ hi rfl

/-- A choice of `a + c` where `a` is negative is `a` where `a` is not. -/
theorem sel {s : Shape} (a z c : IVec s 32) (i : s.Idx) (hz : z i = 0#32) (h : (a i).toNat < 2 ^ 31) :
    select (cmpi .slt a z) (addi a c) a i = a i := by
  have : IntOp.cmpi .slt (a i) (z i) = 0#1 := by
    rw [hz]
    have : (a i).slt 0#32 = false := by
      rw [BitVec.slt_eq_decide, decide_eq_false_iff_not, BitVec.toInt_eq_toNat_of_lt (by omega)]
      simp
    simp [IntOp.cmpi, this]
  show Scalar.select (IntOp.cmpi .slt (a i) (z i)) _ (a i) = a i
  rw [this]; rfl

/-- A level's table, out of the three levels'. -/
theorem slcT {n : ℕ} {α : Type} (x : (⟨6, ![3, 8, 9, 80, 80, n]⟩ : Shape).Idx → α) (l : Fin 3) (hs) (hc)
    (q0 : Fin 8) (q1 : Fin 9) (q2 q3 : Fin 80) (k : Fin n) :
    (shapeCast ⟨5, ![8, 9, 80, 80, n]⟩ (extractStridedSlice ⟨6, ![1, 8, 9, 80, 80, n]⟩ ![l.val, 0, 0, 0, 0, 0] x hs) hc : (⟨5, ![8, 9, 80, 80, n]⟩ : Shape).Idx → α)
      (ValueIdx.ix5 q0 q1 q2 q3 k) = x (ValueIdx.ix6 l q0 q1 q2 q3 k) := by
  rw [shapeCast_apply _ hc (ValueIdx.ix5 q0 q1 q2 q3 k) (ValueIdx.ix6 (0 : Fin 1) q0 q1 q2 q3 k) (by
    rw [Shape.rowMajor_val_six, Shape.rowMajor_val_five]
    show ((((0 * 8 + q0.val) * 9 + q1.val) * 80 + q2.val) * 80 + q3.val) * n + k.val = (((q0.val * 9 + q1.val) * 80 + q2.val) * 80 + q3.val) * n + k.val
    rw [Nat.zero_mul, Nat.zero_add])]
  refine extractStridedSlice_apply _ x hs _ _ fun a => ?_
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm
  | ⟨5, _⟩ => exact (Nat.zero_add _).symm

/-- The image numbers. -/
theorem img (b : Fin 8) (hc) : (shapeCast S8x1 (iotaInDim S8 32 0) hc : IVec S8x1 32) (ValueIdx.ix2 b (0 : Fin 1)) = BitVec.ofNat 32 b.val := by
  rw [shapeCast_apply _ hc (ValueIdx.ix2 b (0 : Fin 1)) (ValueIdx.ix1 b) (by
    rw [Shape.rowMajor_val_one, Shape.rowMajor_val_two]; show b.val = b.val * 1 + 0; omega)]
  rfl

/-- One component of a level's indices: the negative ones moved up by the axis's length. -/
abbrev comp (a : IVec S8x100 32) (c : BitVec 32) : IVec S8x100x1 32 :=
  broadcastInDim S8x100x1 ![0, 1] bcast_S8x100_S8x100x1_0_1 (select (cmpi .slt a (broadcastInDim S8x100 ![] bcast_S_S8x100 (constantI S_ 32 0#32)))
    (addi a (broadcastInDim S8x100 ![] bcast_S_S8x100 (constantI S_ 32 c))) a)

/-- The image component. -/
abbrev compB (a : IVec S8x1 32) (c : BitVec 32) : IVec S8x100x1 32 :=
  broadcastInDim S8x100x1 ![0, 1] bcast_S8x100_S8x100x1_0_1 (broadcastInDim S8x100 ![0, 1] bcast_S8x1_S8x100_0_1
    (select (cmpi .slt a (broadcastInDim S8x1 ![] bcast_S_S8x1 (constantI S_ 32 0#32)))
      (addi a (broadcastInDim S8x1 ![] bcast_S_S8x1 (constantI S_ 32 c))) a))

theorem b3 (v : IVec S8x100 32) (h) (b : Fin 8) (j : Fin 100) :
    broadcastInDim S8x100x1 ![0, 1] h v (ValueIdx.ix3 b j (0 : Fin 1)) = v (ValueIdx.ix2 b j) := by
  unfold broadcastInDim
  refine congrArg v (funext fun a => ?_)
  match a with
  | ⟨0, _⟩ => rfl
  | ⟨1, _⟩ => rfl

theorem b2 (v : IVec S8x1 32) (h) (b : Fin 8) (j : Fin 100) :
    broadcastInDim S8x100 ![0, 1] h v (ValueIdx.ix2 b j) = v (ValueIdx.ix2 b (0 : Fin 1)) := by
  unfold broadcastInDim
  refine congrArg v (funext fun a => ?_)
  match a with
  | ⟨0, _⟩ => rfl
  | ⟨1, _⟩ => rfl

theorem comp_apply (a : IVec S8x100 32) (c : BitVec 32) (b : Fin 8) (j : Fin 100) (h : (a (ValueIdx.ix2 b j)).toNat < 2 ^ 31) :
    comp a c (ValueIdx.ix3 b j (0 : Fin 1)) = a (ValueIdx.ix2 b j) :=
  (b3 _ _ b j).trans (sel _ _ _ _ rfl h)

theorem compB_apply (a : IVec S8x1 32) (c : BitVec 32) (b : Fin 8) (j : Fin 100) (h : (a (ValueIdx.ix2 b (0 : Fin 1))).toNat < 2 ^ 31) :
    compB a c (ValueIdx.ix3 b j (0 : Fin 1)) = a (ValueIdx.ix2 b (0 : Fin 1)) :=
  (b3 _ _ b j).trans ((b2 _ _ b j).trans (sel _ _ _ _ rfl h))

theorem toI (w : BitVec 32) (n : ℕ) (h : w.toNat = n) (hn : n < 2 ^ 31) : w.toInt.toNat = n := by
  rw [BitVec.toInt_eq_toNat_of_lt (by omega)]; simp [h]

/-- One level of a result: the table's rows at the level's indices. -/
abbrev lvl {n : ℕ} {α : Type}
    (wf : GatherDims.WF ⟨5, ![8, 9, 80, 80, n]⟩ S8x100x4 ⟨3, ![8, 100, n]⟩ [2] [0, 1, 2, 3] [] [0, 1, 2, 3] [] 2 ![1, 1, 1, 1, n])
    (hb : (⟨3, ![8, 100, n]⟩ : Shape).BroadcastsInDim ⟨4, ![1, 8, 100, n]⟩ ![1, 2, 3])
    (hs : ∀ l : Fin 3, (⟨6, ![3, 8, 9, 80, 80, n]⟩ : Shape).Slices ![l.val, 0, 0, 0, 0, 0] ⟨6, ![1, 8, 9, 80, 80, n]⟩)
    (hc : (⟨6, ![1, 8, 9, 80, 80, n]⟩ : Shape).ShapeCasts ⟨5, ![8, 9, 80, 80, n]⟩)
    (hk : Shape.Concatenates [S8x100x1, S8x100x1, S8x100x1, S8x100x1] S8x100x4 2) (T : (⟨6, ![3, 8, 9, 80, 80, n]⟩ : Shape).Idx → α) (l : Fin 3)
    (vb : IVec S8x1 32) (va vx vy : IVec S8x100 32) : (⟨4, ![1, 8, 100, n]⟩ : Shape).Idx → α :=
  broadcastInDim ⟨4, ![1, 8, 100, n]⟩ ![1, 2, 3] hb (Host.gather (gd n wf)
    (shapeCast ⟨5, ![8, 9, 80, 80, n]⟩ (extractStridedSlice ⟨6, ![1, 8, 9, 80, 80, n]⟩ ![l.val, 0, 0, 0, 0, 0] T (hs l)) hc)
    (concatenate S8x100x4 2 [⟨S8x100x1, compB vb 8#32⟩, ⟨S8x100x1, comp va 9#32⟩, ⟨S8x100x1, comp vx 80#32⟩, ⟨S8x100x1, comp vy 80#32⟩] hk))

/-- One level of a result at (image, target, channel). -/
theorem lvl_apply {n : ℕ} {α : Type}
    (wf : GatherDims.WF ⟨5, ![8, 9, 80, 80, n]⟩ S8x100x4 ⟨3, ![8, 100, n]⟩ [2] [0, 1, 2, 3] [] [0, 1, 2, 3] [] 2 ![1, 1, 1, 1, n])
    (hb : (⟨3, ![8, 100, n]⟩ : Shape).BroadcastsInDim ⟨4, ![1, 8, 100, n]⟩ ![1, 2, 3])
    (hs : ∀ l : Fin 3, (⟨6, ![3, 8, 9, 80, 80, n]⟩ : Shape).Slices ![l.val, 0, 0, 0, 0, 0] ⟨6, ![1, 8, 9, 80, 80, n]⟩)
    (hc : (⟨6, ![1, 8, 9, 80, 80, n]⟩ : Shape).ShapeCasts ⟨5, ![8, 9, 80, 80, n]⟩)
    (hk : Shape.Concatenates [S8x100x1, S8x100x1, S8x100x1, S8x100x1] S8x100x4 2) (T : (⟨6, ![3, 8, 9, 80, 80, n]⟩ : Shape).Idx → α) (l : Fin 3)
    (vb : IVec S8x1 32) (va vx vy : IVec S8x100 32) (b : Fin 8) (j : Fin 100) (k : Fin n) (qa : Fin 9) (qx qy : Fin 80)
    (h0 : (vb (ValueIdx.ix2 b (0 : Fin 1))).toNat = b.val) (h1 : (va (ValueIdx.ix2 b j)).toNat = qa.val)
    (h2 : (vx (ValueIdx.ix2 b j)).toNat = qx.val) (h3 : (vy (ValueIdx.ix2 b j)).toNat = qy.val) :
    lvl wf hb hs hc hk T l vb va vx vy (ValueIdx.ix4 (0 : Fin 1) b j k) = T (ValueIdx.ix6 l b qa qx qy k) := by
  have hb' : ∀ v : (⟨3, ![8, 100, n]⟩ : Shape).Idx → α,
      broadcastInDim ⟨4, ![1, 8, 100, n]⟩ ![1, 2, 3] hb v (ValueIdx.ix4 (0 : Fin 1) b j k) = v (ValueIdx.ix3 b j k) := by
    intro v
    refine broadcastInDim_apply _ hb v _ _ fun a => ?_
    match a with
    | ⟨0, _⟩ => rfl
    | ⟨1, _⟩ => rfl
    | ⟨2, _⟩ =>
      have := k.isLt
      show k.val = if n = 1 then 0 else k.val
      split <;> omega
  have hcat := cat4 (compB vb 8#32) (comp va 9#32) (comp vx 80#32) (comp vy 80#32) hk b j
  unfold lvl
  rw [hb', gath wf _ _ b j k b qa qx qy, slcT]
  · rw [hcat.1, compB_apply _ _ _ _ (by omega)]; exact toI _ _ h0 (by omega)
  · rw [hcat.2.1, comp_apply _ _ _ _ (by omega)]; exact toI _ _ h1 (by omega)
  · rw [hcat.2.2.1, comp_apply _ _ _ _ (by omega)]; exact toI _ _ h2 (by omega)
  · rw [hcat.2.2.2, comp_apply _ _ _ _ (by omega)]; exact toI _ _ h3 (by omega)

variable {F : FTy → Type} [FloatOps F]

theorem slices6C : ∀ l : Fin 3, S3x8x9x80x80x20.Slices ![l.val, 0, 0, 0, 0, 0] S1x8x9x80x80x20 := fun l =>
  match l with
  | ⟨0, _⟩ => slices_S3x8x9x80x80x20_S1x8x9x80x80x20_0_0_0_0_0_0
  | ⟨1, _⟩ => slices_S3x8x9x80x80x20_S1x8x9x80x80x20_1_0_0_0_0_0
  | ⟨2, _⟩ => slices_S3x8x9x80x80x20_S1x8x9x80x80x20_2_0_0_0_0_0

theorem slices6R : ∀ l : Fin 3, S3x8x9x80x80x5.Slices ![l.val, 0, 0, 0, 0, 0] S1x8x9x80x80x5 := fun l =>
  match l with
  | ⟨0, _⟩ => slices_S3x8x9x80x80x5_S1x8x9x80x80x5_0_0_0_0_0_0
  | ⟨1, _⟩ => slices_S3x8x9x80x80x5_S1x8x9x80x80x5_1_0_0_0_0_0
  | ⟨2, _⟩ => slices_S3x8x9x80x80x5_S1x8x9x80x80x5_2_0_0_0_0_0

/-- The anchors and the boxes. -/
abbrev A0 (V0 : Valuation τ sig (Elt F)) : FVec F S3x9x4 .f32 := V0 (Proc.devRef .tc main_arg0)
abbrev A1 (V0 : Valuation τ sig (Elt F)) : FVec F S8x100x6 .f32 := V0 (Proc.devRef .tc main_arg1)

/-- The class scores picked out, at (level, image, target, channel): the scores' element at the target's anchor and grid cell. -/
theorem cls_apply (V0 : Valuation τ sig (Elt F)) (l : Fin 3) (b : Fin 8) (j : Fin 100) (k : Fin 20) (qa : Fin 9) (qx qy : Fin 80)
    (h1 : (T.lamx (A0 V0) (A1 V0) l (ValueIdx.ix2 b j)).toNat = qa.val) (h2 : (T.lcol (A1 V0) l (ValueIdx.ix2 b j)).toNat = qx.val)
    (h3 : (T.llin (A1 V0) l (ValueIdx.ix2 b j)).toNat = qy.val) :
    (res_main_v739 V0 : FVec F S3x8x100x20 .f32) (ValueIdx.ix4 l b j k)
      = (V0 (Proc.devRef .tc main_arg3) : FVec F S3x8x9x80x80x20 .f32) (ValueIdx.ix6 l b qa qx qy k) := by
  refine (cat3 (fun l => lvl gather_S8x9x80x80x20_S8x100x4_S8x100x20_2_0123_n_n_0123_2_111120_wf bcast_S8x100x20_S1x8x100x20_1_2_3 slices6C
    shapeCasts_S1x8x9x80x80x20_S8x9x80x80x20 concatenates_S8x100x1_S8x100x1_S8x100x1_S8x100x1_S8x100x4_d2
    (V0 (Proc.devRef .tc main_arg3) : FVec F S3x8x9x80x80x20 .f32) l T.imgs (T.lamx (A0 V0) (A1 V0) l) (T.lcol (A1 V0) l) (T.llin (A1 V0) l))
    _ l b j k).trans ?_
  refine lvl_apply _ _ _ _ _ _ l _ _ _ _ b j k qa qx qy ?_ h1 h2 h3
  exact (congrArg BitVec.toNat (img b _)).trans (by rw [BitVec.toNat_ofNat]; omega)

/-- The box regressions picked out, at (level, image, target, channel): the regressions' element at the target's anchor and grid cell. -/
theorem reg_apply (V0 : Valuation τ sig (Elt F)) (l : Fin 3) (b : Fin 8) (j : Fin 100) (k : Fin 5) (qa : Fin 9) (qx qy : Fin 80)
    (h1 : (T.lamx (A0 V0) (A1 V0) l (ValueIdx.ix2 b j)).toNat = qa.val) (h2 : (T.lcol (A1 V0) l (ValueIdx.ix2 b j)).toNat = qx.val)
    (h3 : (T.llin (A1 V0) l (ValueIdx.ix2 b j)).toNat = qy.val) :
    (res_main_v743 V0 : FVec F S3x8x100x5 .f32) (ValueIdx.ix4 l b j k)
      = (V0 (Proc.devRef .tc main_arg2) : FVec F S3x8x9x80x80x5 .f32) (ValueIdx.ix6 l b qa qx qy k) := by
  refine (cat3 (fun l => lvl gather_S8x9x80x80x5_S8x100x4_S8x100x5_2_0123_n_n_0123_2_11115_wf bcast_S8x100x5_S1x8x100x5_1_2_3 slices6R
    shapeCasts_S1x8x9x80x80x5_S8x9x80x80x5 concatenates_S8x100x1_S8x100x1_S8x100x1_S8x100x1_S8x100x4_d2
    (V0 (Proc.devRef .tc main_arg2) : FVec F S3x8x9x80x80x5 .f32) l T.imgs (T.lamx (A0 V0) (A1 V0) l) (T.lcol (A1 V0) l) (T.llin (A1 V0) l))
    _ l b j k).trans ?_
  refine lvl_apply _ _ _ _ _ _ l _ _ _ _ b j k qa qx qy ?_ h1 h2 h3
  exact (congrArg BitVec.toNat (img b _)).trans (by rw [BitVec.toNat_ofNat]; omega)

end Cert.Proof.R
-- ==== Proof.CallTarget.lean ====
module

public import proofs.«01_k».proof.Proof.Gen.AssignmentIdeal.Run
public import Idealize.ShloMosaic.Lib.Pointwise

/-!
The assignment's reference, its three levels written as one: the overlaps of the anchors with the boxes, the least
anchor of the largest overlap, the packed words, the regression targets and the class rows.
-/

@[expose] public section

noncomputable section

namespace Cert.Proof.U

open Cert.AssignmentIdeal Cert.AssignmentIdeal.Gen Cert.AssignmentIdeal.Value
open Idealize.ShloMosaic Idealize.ShloMosaic.TcCoe Idealize.SL.Sem

variable {F : FTy → Type} [FloatOps F]

theorem slicesA : ∀ l : Fin 3, S8x3x9x4.Slices ![0, l.val, 0, 0] S8x1x9x4 := fun l =>
  match l with
  | ⟨0, _⟩ => slices_S8x3x9x4_S8x1x9x4_0_0_0_0
  | ⟨1, _⟩ => slices_S8x3x9x4_S8x1x9x4_0_1_0_0
  | ⟨2, _⟩ => slices_S8x3x9x4_S8x1x9x4_0_2_0_0

/-- The widths and the heights of the boxes. -/
def wid (T : FVec F S8x128x6 .f32) : FVec F S8x128 .f32 :=
  subf (shapeCast _ (extractStridedSlice S8x128x1 ![0, 0, 2] T slices_S8x128x6_S8x128x1_0_0_2) shapeCasts_S8x128x1_S8x128) (shapeCast _
    (extractStridedSlice S8x128x1 ![0, 0, 0] T slices_S8x128x6_S8x128x1_0_0_0) shapeCasts_S8x128x1_S8x128)

def hei (T : FVec F S8x128x6 .f32) : FVec F S8x128 .f32 :=
  subf (shapeCast _ (extractStridedSlice S8x128x1 ![0, 0, 3] T slices_S8x128x6_S8x128x1_0_0_3) shapeCasts_S8x128x1_S8x128) (shapeCast _
    (extractStridedSlice S8x128x1 ![0, 0, 1] T slices_S8x128x6_S8x128x1_0_0_1) shapeCasts_S8x128x1_S8x128)

/-- The boxes moved to the origin and scaled to a level's grid. -/
def box (W H : FVec F S8x128 .f32) (S : BitVec 32) : FVec F S8x128x4 .f32 :=
  Host.divf ((concatenate S8x128x4 2 [⟨S8x128x1, (broadcastInDim S8x128x1 ![0, 1] bcast_S8x128_S8x128x1_0_1 (Host.divf (Host.negf W)
    (broadcastInDim S8x128 ![] bcast_S_S8x128 (constant S_ .f32 0x40000000#32))))⟩, ⟨S8x128x1,
    (broadcastInDim S8x128x1 ![0, 1] bcast_S8x128_S8x128x1_0_1 (Host.divf (Host.negf H) (broadcastInDim S8x128 ![] bcast_S_S8x128
    (constant S_ .f32 0x40000000#32))))⟩, ⟨S8x128x1, (broadcastInDim S8x128x1 ![0, 1] bcast_S8x128_S8x128x1_0_1 (Host.divf W
    (broadcastInDim S8x128 ![] bcast_S_S8x128 (constant S_ .f32 0x40000000#32))))⟩, ⟨S8x128x1,
    (broadcastInDim S8x128x1 ![0, 1] bcast_S8x128_S8x128x1_0_1 (Host.divf H (broadcastInDim S8x128 ![] bcast_S_S8x128
    (constant S_ .f32 0x40000000#32))))⟩] concatenates_S8x128x1_S8x128x1_S8x128x1_S8x128x1_S8x128x4_d2))
    (broadcastInDim S8x128x4 ![] bcast_S_S8x128x4 (constant S_ .f32 S))

/-- The grid cells. -/
def grid (T : FVec F S8x128x6 .f32) (S : BitVec 32) : IVec S8x128x2 32 :=
  fptosi 32 (Host.divf (concatenate S8x128x2 2 [⟨S8x128x1, (broadcastInDim S8x128x1 ![0, 1] bcast_S8x128_S8x128x1_0_1 (Host.divf (wid T)
    (broadcastInDim S8x128 ![] bcast_S_S8x128 (constant S_ .f32 0x40000000#32))))⟩, ⟨S8x128x1,
    (broadcastInDim S8x128x1 ![0, 1] bcast_S8x128_S8x128x1_0_1 (Host.divf (hei T) (broadcastInDim S8x128 ![] bcast_S_S8x128
    (constant S_ .f32 0x40000000#32))))⟩] concatenates_S8x128x1_S8x128x1_S8x128x2_d2) (broadcastInDim S8x128x2 ![] bcast_S_S8x128x2
    (constant S_ .f32 S)))

/-- A level's anchors. -/
def anch (A : FVec F S8x3x9x4 .f32) (l : Fin 3) : FVec F S8x9x4 .f32 :=
  shapeCast _ (extractStridedSlice S8x1x9x4 ![0, l.val, 0, 0] A (slicesA l)) shapeCasts_S8x1x9x4_S8x9x4

/-- The sides of the common parts. -/
def wh (a : FVec F S8x9x4 .f32) (B : FVec F S8x128x4 .f32) : FVec F S8x9x128x2 .f32 :=
  maximumf (subf (minimumf (broadcastInDim S8x9x128x2 ![0, 1, 2, 3] bcast_S8x9x1x2_S8x9x128x2_0_1_2_3
    (broadcastInDim S8x9x1x2 ![0, 1, 3] bcast_S8x9x2_S8x9x1x2_0_1_3 (extractStridedSlice S8x9x2 ![0, 0, 2] a slices_S8x9x4_S8x9x2_0_0_2)))
    (broadcastInDim S8x9x128x2 ![0, 1, 2, 3] bcast_S8x1x128x2_S8x9x128x2_0_1_2_3
    (broadcastInDim S8x1x128x2 ![0, 2, 3] bcast_S8x128x2_S8x1x128x2_0_2_3
    (extractStridedSlice S8x128x2 ![0, 0, 2] B slices_S8x128x4_S8x128x2_0_0_2)))) (maximumf
    (broadcastInDim S8x9x128x2 ![0, 1, 2, 3] bcast_S8x9x1x2_S8x9x128x2_0_1_2_3 (broadcastInDim S8x9x1x2 ![0, 1, 3] bcast_S8x9x2_S8x9x1x2_0_1_3
    (extractStridedSlice S8x9x2 ![0, 0, 0] a slices_S8x9x4_S8x9x2_0_0_0)))
    (broadcastInDim S8x9x128x2 ![0, 1, 2, 3] bcast_S8x1x128x2_S8x9x128x2_0_1_2_3
    (broadcastInDim S8x1x128x2 ![0, 2, 3] bcast_S8x128x2_S8x1x128x2_0_2_3
    (extractStridedSlice S8x128x2 ![0, 0, 0] B slices_S8x128x4_S8x128x2_0_0_0))))) (broadcastInDim S8x9x128x2 ![] bcast_S_S8x9x128x2
    (constant S_ .f32 0x00000000#32))

/-- Their areas. -/
def common (w : FVec F S8x9x128x2 .f32) : FVec F S8x9x128 .f32 :=
  mulf (shapeCast _ (extractStridedSlice S8x9x128x1 ![0, 0, 0, 0] w slices_S8x9x128x2_S8x9x128x1_0_0_0_0) shapeCasts_S8x9x128x1_S8x9x128)
    (shapeCast _ (extractStridedSlice S8x9x128x1 ![0, 0, 0, 1] w slices_S8x9x128x2_S8x9x128x1_0_0_0_1) shapeCasts_S8x9x128x1_S8x9x128)

/-- The overlaps. -/
def over (a : FVec F S8x9x4 .f32) (B : FVec F S8x128x4 .f32) : FVec F S8x9x128 .f32 :=
  Host.divf (common (wh a B)) (maximumf (subf (addf (broadcastInDim S8x9x128 ![0, 1, 2] bcast_S8x9x1_S8x9x128_0_1_2
    (broadcastInDim S8x9x1 ![0, 1] bcast_S8x9_S8x9x1_0_1 (mulf (subf (shapeCast _
    (extractStridedSlice S8x9x1 ![0, 0, 2] a slices_S8x9x4_S8x9x1_0_0_2) shapeCasts_S8x9x1_S8x9) (shapeCast _
    (extractStridedSlice S8x9x1 ![0, 0, 0] a slices_S8x9x4_S8x9x1_0_0_0) shapeCasts_S8x9x1_S8x9)) (subf (shapeCast _
    (extractStridedSlice S8x9x1 ![0, 0, 3] a slices_S8x9x4_S8x9x1_0_0_3) shapeCasts_S8x9x1_S8x9) (shapeCast _
    (extractStridedSlice S8x9x1 ![0, 0, 1] a slices_S8x9x4_S8x9x1_0_0_1) shapeCasts_S8x9x1_S8x9)))))
    (broadcastInDim S8x9x128 ![0, 1, 2] bcast_S8x1x128_S8x9x128_0_1_2 (broadcastInDim S8x1x128 ![0, 2] bcast_S8x128_S8x1x128_0_2 (mulf (subf
    (shapeCast _ (extractStridedSlice S8x128x1 ![0, 0, 2] B slices_S8x128x4_S8x128x1_0_0_2) shapeCasts_S8x128x1_S8x128) (shapeCast _
    (extractStridedSlice S8x128x1 ![0, 0, 0] B slices_S8x128x4_S8x128x1_0_0_0) shapeCasts_S8x128x1_S8x128)) (subf (shapeCast _
    (extractStridedSlice S8x128x1 ![0, 0, 3] B slices_S8x128x4_S8x128x1_0_0_3) shapeCasts_S8x128x1_S8x128) (shapeCast _
    (extractStridedSlice S8x128x1 ![0, 0, 1] B slices_S8x128x4_S8x128x1_0_0_1) shapeCasts_S8x128x1_S8x128)))))) (common (wh a B)))
    (broadcastInDim S8x9x128 ![] bcast_S_S8x9x128 (constant S_ .f32 0x2EDBE6FF#32)))

/-- The largest overlap of each box. -/
def top (o : FVec F S8x9x128 .f32) : FVec F S8x128 .f32 :=
  Host.reduce FloatOps.maximumf o (constant S_ .f32 0xFF800000#32) reducesTo_S8x9x128_S8x128_d1 h_S_

/-- The anchors' numbers where the overlap is the largest, nine elsewhere. -/
def nums (o : FVec F S8x9x128 .f32) : IVec S8x9x128 32 :=
  select (cmpf .oeq o (broadcastInDim S8x9x128 ![0, 1, 2] bcast_S8x1x128_S8x9x128_0_1_2 (broadcastInDim S8x1x128 ![0, 2] bcast_S8x128_S8x1x128_0_2
    (top o)))) (broadcastInDim S8x9x128 ![0, 1, 2] bcast_S1x9x1_S8x9x128_0_1_2 (broadcastInDim S1x9x1 ![1] bcast_S9_S1x9x1_1 (iotaInDim S9 32 0)))
    (broadcastInDim S8x9x128 ![] bcast_S_S8x9x128 (id (constantI S_ 32 9#32)))

/-- The least of these numbers. -/
def amx (o : FVec F S8x9x128 .f32) : IVec S8x128 32 :=
  Host.reduce IntOp.minsi (nums o) (constantI S_ 32 2147483647#32) reducesTo_S8x9x128_S8x128_d1 h_S_

/-- The chosen anchors. -/
def near (a : FVec F S8x9x4 .f32) (g : IVec S8x100 32) (v : IVec S8x1 32) : FVec F S8x100x4 .f32 :=
  Host.gather gather_S8x9x4_S8x100x2_S8x100x4_2_01_n_n_01_2_114 a (concatenate S8x100x2 2 [⟨S8x100x1,
    (broadcastInDim S8x100x1 ![0, 1] bcast_S8x100_S8x100x1_0_1 (broadcastInDim S8x100 ![0, 1] bcast_S8x1_S8x100_0_1 (select (cmpi .slt v
    (broadcastInDim S8x1 ![] bcast_S_S8x1 (constantI S_ 32 0#32))) (addi v (broadcastInDim S8x1 ![] bcast_S_S8x1 (constantI S_ 32 8#32))) v)))⟩,
    ⟨S8x100x1, (broadcastInDim S8x100x1 ![0, 1] bcast_S8x100_S8x100x1_0_1 (select (cmpi .slt g (broadcastInDim S8x100 ![] bcast_S_S8x100
    (constantI S_ 32 0#32))) (addi g (broadcastInDim S8x100 ![] bcast_S_S8x100
    (constantI S_ 32 9#32))) g))⟩] concatenates_S8x100x1_S8x100x1_S8x100x2_d2)

/-- The raised sides of the targets. -/
def gtw (x : FVec F S8x100x6 .f32) : FVec F S8x100 .f32 :=
  maximumf (subf (shapeCast _ (extractStridedSlice S8x100x1 ![0, 0, 2] x slices_S8x100x6_S8x100x1_0_0_2) shapeCasts_S8x100x1_S8x100) (shapeCast _
    (extractStridedSlice S8x100x1 ![0, 0, 0] x slices_S8x100x6_S8x100x1_0_0_0) shapeCasts_S8x100x1_S8x100))
    (broadcastInDim S8x100 ![] bcast_S_S8x100 (constant S_ .f32 0x3F800000#32))

def gth (x : FVec F S8x100x6 .f32) : FVec F S8x100 .f32 :=
  maximumf (subf (shapeCast _ (extractStridedSlice S8x100x1 ![0, 0, 3] x slices_S8x100x6_S8x100x1_0_0_3) shapeCasts_S8x100x1_S8x100) (shapeCast _
    (extractStridedSlice S8x100x1 ![0, 0, 1] x slices_S8x100x6_S8x100x1_0_0_1) shapeCasts_S8x100x1_S8x100))
    (broadcastInDim S8x100 ![] bcast_S_S8x100 (constant S_ .f32 0x3F800000#32))

/-- Their centres. -/
def cx (x : FVec F S8x100x6 .f32) : FVec F S8x100 .f32 :=
  addf (shapeCast _ (extractStridedSlice S8x100x1 ![0, 0, 0] x slices_S8x100x6_S8x100x1_0_0_0) shapeCasts_S8x100x1_S8x100) (mulf
    (broadcastInDim S8x100 ![] bcast_S_S8x100 (constant S_ .f32 0x3F000000#32)) (gtw x))

def cy (x : FVec F S8x100x6 .f32) : FVec F S8x100 .f32 :=
  addf (shapeCast _ (extractStridedSlice S8x100x1 ![0, 0, 1] x slices_S8x100x6_S8x100x1_0_0_1) shapeCasts_S8x100x1_S8x100) (mulf
    (broadcastInDim S8x100 ![] bcast_S_S8x100 (constant S_ .f32 0x3F000000#32)) (gth x))

/-- A level's regression targets. -/
def enc (x : FVec F S8x100x6 .f32) (r : FVec F S8x100x4 .f32) : FVec F S1x8x100x4 .f32 :=
  ((broadcastInDim S1x8x100x4 ![1, 2, 3] bcast_S8x100x4_S1x8x100x4_1_2_3 ((concatenate S8x100x4 2 [⟨S8x100x1,
    ((broadcastInDim S8x100x1 ![0, 1] bcast_S8x100_S8x100x1_0_1 (subf (cx x) (sitofp .f32 (fptosi 32 (cx x))))))⟩, ⟨S8x100x1,
    ((broadcastInDim S8x100x1 ![0, 1] bcast_S8x100_S8x100x1_0_1 (subf (cy x) (sitofp .f32 (fptosi 32 (cy x))))))⟩, ⟨S8x100x1,
    ((broadcastInDim S8x100x1 ![0, 1] bcast_S8x100_S8x100x1_0_1 (Host.log (Host.divf (gtw x) (maximumf (subf (shapeCast _
    (extractStridedSlice S8x100x1 ![0, 0, 2] r slices_S8x100x4_S8x100x1_0_0_2) shapeCasts_S8x100x1_S8x100) (shapeCast _
    (extractStridedSlice S8x100x1 ![0, 0, 0] r slices_S8x100x4_S8x100x1_0_0_0) shapeCasts_S8x100x1_S8x100))
    (broadcastInDim S8x100 ![] bcast_S_S8x100 (constant S_ .f32 0x3F800000#32)))))))⟩, ⟨S8x100x1,
    ((broadcastInDim S8x100x1 ![0, 1] bcast_S8x100_S8x100x1_0_1 (Host.log (Host.divf (gth x) (maximumf (subf (shapeCast _
    (extractStridedSlice S8x100x1 ![0, 0, 3] r slices_S8x100x4_S8x100x1_0_0_3) shapeCasts_S8x100x1_S8x100) (shapeCast _
    (extractStridedSlice S8x100x1 ![0, 0, 1] r slices_S8x100x4_S8x100x1_0_0_1) shapeCasts_S8x100x1_S8x100))
    (broadcastInDim S8x100 ![] bcast_S_S8x100
    (constant S_ .f32 0x3F800000#32)))))))⟩] concatenates_S8x100x1_S8x100x1_S8x100x1_S8x100x1_S8x100x4_d2))))

/-- A level's packed words. -/
def word (g : IVec S8x128 32) (c : IVec S8x128x2 32) : IVec S1x8x128 32 :=
  broadcastInDim S1x8x128 ![1, 2] bcast_S8x128_S1x8x128_1_2 (addi (addi (muli g (broadcastInDim S8x128 ![] bcast_S_S8x128 (constantI S_ 32 16384#32)))
    (muli (shapeCast _ (extractStridedSlice S8x128x1 ![0, 0, 0] c slices_S8x128x2_S8x128x1_0_0_0) shapeCasts_S8x128x1_S8x128)
      (broadcastInDim S8x128 ![] bcast_S_S8x128 (constantI S_ 32 128#32))))
    (shapeCast _ (extractStridedSlice S8x128x1 ![0, 0, 1] c slices_S8x128x2_S8x128x1_0_0_1) shapeCasts_S8x128x1_S8x128))

/-- The class rows. -/
def hot (x : FVec F S8x100x6 .f32) : FVec F S1x8x100x20 .f32 :=
  broadcastInDim S1x8x100x20 ![1, 2, 3] bcast_S8x100x20_S1x8x100x20_1_2_3 (uitofp .f32 (cmpi .eq
    (broadcastInDim S8x100x20 ![0, 1, 2] bcast_S8x100x1_S8x100x20_0_1_2 (broadcastInDim S8x100x1 ![0, 1] bcast_S8x100_S8x100x1_0_1
      (fptosi 32 (shapeCast _ (extractStridedSlice S8x100x1 ![0, 0, 4] x slices_S8x100x6_S8x100x1_0_0_4) shapeCasts_S8x100x1_S8x100))))
    (broadcastInDim S8x100x20 ![0, 1, 2] bcast_S1x1x20_S8x100x20_0_1_2 (iotaInDim S1x1x20 32 2))))

/-- The levels' strides, as literals. -/
def str : Fin 3 → BitVec 32 := ![0x42000000#32, 0x41800000#32, 0x41000000#32]

/-- The anchors for each image, and the boxes padded. -/
def img (A : FVec F S3x9x4 .f32) : FVec F S8x3x9x4 .f32 :=
  broadcastInDim S8x3x9x4 ![0, 1, 2, 3] bcast_S1x3x9x4_S8x3x9x4_0_1_2_3 (broadcastInDim S1x3x9x4 ![1, 2, 3] bcast_S3x9x4_S1x3x9x4_1_2_3 A)
def padded (x : FVec F S8x100x6 .f32) : FVec F S8x128x6 .f32 :=
  pad S8x128x6 ![0, 0, 0] ![0, 28, 0] ![0, 0, 0] x (sitofp .f32 (constantI S_ 32 0#32)) pads_S8x100x6_S8x128x6_000_0280_000 h_S_

/-- The chosen anchors' numbers on a level. -/
def lamx (A : FVec F S3x9x4 .f32) (x : FVec F S8x100x6 .f32) (l : Fin 3) : IVec S8x128 32 :=
  amx (over (anch (img A) l) (box (wid (padded x)) (hei (padded x)) (str l)))

/-- What a level gives to the first and the second result. -/
def lword (A : FVec F S3x9x4 .f32) (x : FVec F S8x100x6 .f32) (l : Fin 3) : IVec S1x8x128 32 := word (lamx A x l) (grid (padded x) (str l))
def lenc (A : FVec F S3x9x4 .f32) (x : FVec F S8x100x6 .f32) (l : Fin 3) : FVec F S1x8x100x4 .f32 :=
  enc x (near (anch (img A) l) (extractStridedSlice S8x100 ![0, 0] (lamx A x l) slices_S8x128_S8x100_0_0) (shapeCast _ (iotaInDim S8 32 0) shapeCasts_S8_S8x1))

/-- The three results. -/
def T0 (A : FVec F S3x9x4 .f32) (x : FVec F S8x100x6 .f32) : IVec S3x8x128 32 :=
  concatenate S3x8x128 0 [⟨S1x8x128, lword A x 0⟩, ⟨S1x8x128, lword A x 1⟩, ⟨S1x8x128, lword A x 2⟩] concatenates_S1x8x128_S1x8x128_S1x8x128_S3x8x128_d0
def T1 (A : FVec F S3x9x4 .f32) (x : FVec F S8x100x6 .f32) : FVec F S3x8x100x4 .f32 :=
  concatenate S3x8x100x4 0 [⟨S1x8x100x4, lenc A x 0⟩, ⟨S1x8x100x4, lenc A x 1⟩, ⟨S1x8x100x4, lenc A x 2⟩] concatenates_S1x8x100x4_S1x8x100x4_S1x8x100x4_S3x8x100x4_d0
def T2 (x : FVec F S8x100x6 .f32) : FVec F S3x8x100x20 .f32 :=
  concatenate S3x8x100x20 0 [⟨S1x8x100x20, hot x⟩, ⟨S1x8x100x20, hot x⟩, ⟨S1x8x100x20, hot x⟩] concatenates_S1x8x100x20_S1x8x100x20_S1x8x100x20_S3x8x100x20_d0

variable (m : (ℓ : Loc nD τ sig) → Buf (Elt F) ℓ) (ρ : Dev nD → PrngReg)

/-- The run ends with these. -/
theorem run_eq : θ_run defs (onTc (τ := τ) (main (F := F))) ⟨m, fun _ => 0, ρ⟩ fun r => ∀ c : Dev nD,
      r.2.mem ((c.tc : Thread nD τ).loc main_v587) = T0 (m ((c.tc : Thread nD τ).loc main_arg0)) (m ((c.tc : Thread nD τ).loc main_arg1))
      ∧ r.2.mem ((c.tc : Thread nD τ).loc main_v591) = T1 (m ((c.tc : Thread nD τ).loc main_arg0)) (m ((c.tc : Thread nD τ).loc main_arg1))
      ∧ r.2.mem ((c.tc : Thread nD τ).loc main_v595) = T2 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1, (h c).2.1, (h c).2.2.1, (h c).2.2.2.1, (h c).2.2.2.2⟩) (run m ρ)

end Cert.Proof.U
-- ==== Proof.CallAssign.lean ====
module

public import proofs.«01_k».proof.Proof.Gen.AssignIdeal.Value
public import proofs.«01_k».proof.Proof.Assign

/-!
What one run of the TensorCore call's body stores, where the call is a program of its own, written out once for a level: the scan over the nine anchors, the
packed words, the regression targets and the class rows, as functions of the anchor array and the six target rows.
-/

@[expose] public section

noncomputable section

namespace Cert.Proof.B

open Cert.AssignIdeal Cert.AssignIdeal.Gen Cert.AssignIdeal.Value
open Idealize.ShloMosaic Idealize.ShloMosaic.TcCoe Idealize.SL.Sem
open Cert.Proof.A (lvl emb3 emb4 forall_three)

variable {F : FTy → Type} [FloatOps F]

/-- A literal at every place. -/
def lit (b : BitVec 32) : FVec F S8x128 .f32 := broadcast S8x128 (Scalar.ofBits .f32 b)

/-- The overlaps of one anchor with every box, the boxes given by their upper corners. -/
def vovl (q : Fin 4 → F .f32) (X Y : FVec F S8x128 .f32) : FVec F S8x128 .f32 :=
  have inter := mulf (maximumf (subf (minimumf (broadcast S8x128 (q 2)) X) (maximumf (broadcast S8x128 (q 0)) (subf (lit 0x00000000#32) X))) (lit 0x00000000#32))
    (maximumf (subf (minimumf (broadcast S8x128 (q 3)) Y) (maximumf (broadcast S8x128 (q 1)) (subf (lit 0x00000000#32) Y))) (lit 0x00000000#32))
  divf inter (maximumf (subf (addf (broadcast S8x128 (Scalar.mulf (Scalar.subf (q 2) (q 0)) (Scalar.subf (q 3) (q 1))))
    (mulf (subf X (subf (lit 0x00000000#32) X)) (subf Y (subf (lit 0x00000000#32) Y)))) inter) (lit 0x2EDBE6FF#32))

/-- The largest overlap among the first anchors. -/
def vbest (o : ℕ → FVec F S8x128 .f32) : ℕ → FVec F S8x128 .f32
  | 0 => lit 0xFF800000#32
  | k + 1 => select (cmpf .ogt (o k) (vbest o k)) (o k) (vbest o k)

/-- What is kept of the anchor taken last. -/
def vkept {e : EltTy} (o : ℕ → FVec F S8x128 .f32) (v : ℕ → Elt F e) (v0 : Elt F e) : ℕ → Vec F S8x128 e
  | 0 => broadcast S8x128 v0
  | k + 1 => select (cmpf .ogt (o k) (vbest o k)) (broadcast S8x128 (v k)) (vkept o v v0 k)

variable (q : Fin 9 → Fin 4 → F .f32) (t : Fin 6 → Vec F S1x8x128 .f32) (s : BitVec 32)

/-- A target row without its leading axis. -/
def row (k : Fin 6) : FVec F S8x128 .f32 := shapeCast S8x128 (t k) shapeCasts_S1x8x128_S8x128

/-- The boxes' widths and heights, and these scaled to a level's grid. -/
def bw : FVec F S8x128 .f32 := subf (row t 2) (row t 0)
def bh : FVec F S8x128 .f32 := subf (row t 3) (row t 1)
def sw : FVec F S8x128 .f32 := mulf (bw t) (lit s)
def sh : FVec F S8x128 .f32 := mulf (bh t) (lit s)

/-- The overlaps of anchor `k` on a level. -/
def vo (k : ℕ) : FVec F S8x128 .f32 := vovl (q (Fin.ofNat 9 k)) (sw t s) (sh t s)

/-- The anchor's number, and its width and height, of the anchor that the scan keeps. -/
def vnum : IVec S8x128 32 := vkept (e := .i32) (vo q t s) (BitVec.ofNat 32) 0#32 9
def vexw : FVec F S8x128 .f32 := vkept (e := .f32) (vo q t s)
  (fun k => Scalar.maximumf (Scalar.subf (q (Fin.ofNat 9 k) 2) (q (Fin.ofNat 9 k) 0)) (Scalar.ofBits .f32 0x3F800000#32)) (Scalar.ofBits .f32 0x3F800000#32) 9
def vexh : FVec F S8x128 .f32 := vkept (e := .f32) (vo q t s)
  (fun k => Scalar.maximumf (Scalar.subf (q (Fin.ofNat 9 k) 3) (q (Fin.ofNat 9 k) 1)) (Scalar.ofBits .f32 0x3F800000#32)) (Scalar.ofBits .f32 0x3F800000#32) 9

/-- A level's packed words. -/
def pack : IVec S1x8x128 32 :=
  shapeCast S1x8x128 (addi (addi (muli (vnum q t s) (broadcast S8x128 16384#32)) (muli (fptosi 32 (sw t s)) (broadcast S8x128 128#32)))
    (fptosi 32 (sh t s))) shapeCasts_S8x128_S1x8x128

/-- The first hundred places of each row. -/
def cut (v : FVec F S8x128 .f32) : FVec F S8x100 .f32 := extractStridedSlice S8x100 ![0, 0] v slices_S8x128_o0_0_S8x100

/-- The sides raised to at least one, a centre, and its distance from its cell. -/
def gw : FVec F S8x128 .f32 := maximumf (bw t) (lit 0x3F800000#32)
def gh : FVec F S8x128 .f32 := maximumf (bh t) (lit 0x3F800000#32)
def ctr (x g : FVec F S8x128 .f32) : FVec F S8x128 .f32 := addf x (mulf (lit 0x3F000000#32) g)
def off (x : FVec F S8x128 .f32) : FVec F S8x128 .f32 := subf x (sitofp .f32 (fptosi 32 x))

/-- A level's regression targets. -/
def regt : FVec F S1x8x100x4 .f32 :=
  shapeCast S1x8x100x4 (concatenate S8x100x4 2
    [⟨S8x100x1, shapeCast S8x100x1 (cut (off (ctr (row t 0) (gw t)))) shapeCasts_S8x100_S8x100x1⟩,
      ⟨S8x100x1, shapeCast S8x100x1 (cut (off (ctr (row t 1) (gh t)))) shapeCasts_S8x100_S8x100x1⟩,
      ⟨S8x100x1, shapeCast S8x100x1 (log (divf (cut (gw t)) (cut (vexw q t s)))) shapeCasts_S8x100_S8x100x1⟩,
      ⟨S8x100x1, shapeCast S8x100x1 (log (divf (cut (gh t)) (cut (vexh q t s)))) shapeCasts_S8x100_S8x100x1⟩]
    concatenates_S8x100x1_S8x100x1_S8x100x1_S8x100x1_S8x100x4_d2) shapeCasts_S8x100x4_S1x8x100x4

/-- A level's class rows. -/
def clst : FVec F S1x8x100x20 .f32 := shapeCast S1x8x100x20 (k0_pay9 (t 4)) shapeCasts_S8x100x20_S1x8x100x20

/-- The anchors and the target rows as the body reads them. -/
def anc (x0 : Vec F S3x9x4 .f32) : Fin 3 → Fin 9 → Fin 4 → F .f32 := fun l k j => x0 (ValueIdx.ix3 l k j)
def trow (x1 : Vec F S6x8x128 .f32) : Fin 6 → Vec F S1x8x128 .f32 := fun r i => x1 (ValueIdx.ix3 r (i 1) (i 2))

section Run

variable (c : Dev nD) (arg0 : Memref sig .tc .smem S3x9x4 .f32) (harg0 : arg0.IsWhole) (arg1 : Memref sig .tc .vmem S6x8x128 .f32) (harg1 : arg1.IsWhole)
  (x0 : Vec F S3x9x4 .f32) (x1 : Vec F S6x8x128 .f32)

theorem inb0 (l : Fin 3) (k : Fin 9) (j : Fin 4) : ∀ a : Fin 3, (![l.val, k.val, j.val] : Fin 3 → ℕ) a + S1x1x1.size a ≤ S3x9x4.size a := by
  revert l k j; decide +kernel

theorem inb1 (r : Fin 6) : ∀ a : Fin 3, (![r.val, 0, 0] : Fin 3 → ℕ) a + S1x8x128.size a ≤ S6x8x128.size a := by
  revert r; decide +kernel

/-- The loads of the body: an anchor's corner, and a target row. -/
def ldq (l : Fin 3) (k : Fin 9) (j : Fin 4) : F .f32 :=
  View.readAt (Elt F) arg0.view (Rect.unit (s := S3x9x4) ![l.val, k.val, j.val] S1x1x1.size (inb0 l k j)).toLoadRect (harg0.unread x0) (Shape.Idx.first (show 0 < S1x1x1.numel by decide))
def ldt (r : Fin 6) : Vec F S1x8x128 .f32 :=
  View.readAt (Elt F) arg1.view (Rect.unit (s := S6x8x128) ![r.val, 0, 0] S1x8x128.size (inb1 r)).toLoadRect (harg1.unread x1)

theorem ldq_eq : ldq arg0 harg0 x0 = anc x0 := by
  funext l k j
  unfold ldq
  rw [View.readAt_eq_ld, harg0.read_unread]
  exact congrArg x0 (funext fun a => Fin.ext (by match a with | ⟨0, _⟩ => rfl | ⟨1, _⟩ => rfl | ⟨2, _⟩ => rfl))

theorem ldt_eq : ldt arg1 harg1 x1 = trow x1 := by
  funext r
  unfold ldt
  rw [View.readAt_eq_ld, harg1.read_unread]
  funext i
  refine congrArg x1 (funext fun a => Fin.ext ?_)
  have hi : (i 0).val = 0 := Nat.lt_one_iff.mp (i 0).isLt
  match a with
  | ⟨0, _⟩ => show r.val + 1 * (i 0).val = r.val; omega
  | ⟨1, _⟩ => show 0 + 1 * (i 1).val = (i 1).val; omega
  | ⟨2, _⟩ => show 0 + 1 * (i 2).val = (i 2).val; omega

variable (q3 : Fin 3 → Fin 9 → Fin 4 → F .f32)

/-- The three stored arrays, a level at each leading index. -/
def G2 : Vec F S3x8x128 .i32 := fun j => pack (q3 (j 0)) t (lvl (j 0)) (ValueIdx.ix3 (0 : Fin 1) (j 1) (j 2))
def G3 : Vec F S3x8x100x4 .f32 := fun j => regt (q3 (j 0)) t (lvl (j 0)) (ValueIdx.ix4 (0 : Fin 1) (j 1) (j 2) (j 3))
def G4 : Vec F S3x8x100x20 .f32 := fun j => clst t (ValueIdx.ix4 (0 : Fin 1) (j 1) (j 2) (j 3))

variable (arg2 : Memref sig .tc .vmem S3x8x128 .i32) (harg2 : arg2.IsWhole) (arg3 : Memref sig .tc .vmem S3x8x100x4 .f32) (harg3 : arg3.IsWhole)
  (arg4 : Memref sig .tc .vmem S3x8x100x20 .f32) (harg4 : arg4.IsWhole)

theorem out2_eq : out0_A_2 c arg0 harg0 arg1 harg1 arg2 harg2 arg3 harg3 arg4 harg4 x0 x1 = G2 (ldt arg1 harg1 x1) (ldq arg0 harg0 x0) := by
  unfold out0_A_2
  rw [View.read_writes_junk_eq_canon]
  funext y
  refine View.canon_apply_of_pieces _ _ ?_ y (cover0_A_2 c arg0 harg0 arg1 harg1 arg2 harg2 arg3 harg3 arg4 harg4 x0 x1 y)
  have P : ∀ (l : Fin 3) (h) (x : S1x8x128.Idx), pack (ldq arg0 harg0 x0 l) (ldt arg1 harg1 x1) (lvl l) x
      = G2 (ldt arg1 harg1 x1) (ldq arg0 harg0 x0) ((Rect.unit (s := S3x8x128) ![l.val, 0, 0] ![1, 8, 128] h).emb x) := by
    intro l h x
    rw [(emb3 l h x).1, (emb3 l h x).2]; rfl
  exact forall_three (P 2 inb_S3x8x128_S1x8x128_2_0_0) (P 1 inb_S3x8x128_S1x8x128_1_0_0) (P 0 inb_S3x8x128_S1x8x128_0_0_0)

theorem out3_eq : out0_A_3 c arg0 harg0 arg1 harg1 arg2 harg2 arg3 harg3 arg4 harg4 x0 x1 = G3 (ldt arg1 harg1 x1) (ldq arg0 harg0 x0) := by
  unfold out0_A_3
  rw [View.read_writes_junk_eq_canon]
  funext y
  refine View.canon_apply_of_pieces _ _ ?_ y (cover0_A_3 c arg0 harg0 arg1 harg1 arg2 harg2 arg3 harg3 arg4 harg4 x0 x1 y)
  have P : ∀ (l : Fin 3) (h) (x : S1x8x100x4.Idx), regt (ldq arg0 harg0 x0 l) (ldt arg1 harg1 x1) (lvl l) x
      = G3 (ldt arg1 harg1 x1) (ldq arg0 harg0 x0) ((Rect.unit (s := S3x8x100x4) ![l.val, 0, 0, 0] ![1, 8, 100, 4] h).emb x) := by
    intro l h x
    rw [(emb4 l h x).1, (emb4 l h x).2]; rfl
  exact forall_three (P 2 inb_S3x8x100x4_S1x8x100x4_2_0_0_0) (P 1 inb_S3x8x100x4_S1x8x100x4_1_0_0_0) (P 0 inb_S3x8x100x4_S1x8x100x4_0_0_0_0)

theorem out4_eq : out0_A_4 c arg0 harg0 arg1 harg1 arg2 harg2 arg3 harg3 arg4 harg4 x0 x1 = G4 (ldt arg1 harg1 x1) := by
  unfold out0_A_4
  rw [View.read_writes_junk_eq_canon]
  funext y
  refine View.canon_apply_of_pieces _ _ ?_ y (cover0_A_4 c arg0 harg0 arg1 harg1 arg2 harg2 arg3 harg3 arg4 harg4 x0 x1 y)
  have P : ∀ (l : Fin 3) (h) (x : S1x8x100x20.Idx), clst (ldt arg1 harg1 x1) x
      = G4 (ldt arg1 harg1 x1) ((Rect.unit (s := S3x8x100x20) ![l.val, 0, 0, 0] ![1, 8, 100, 20] h).emb x) := by
    intro l h x
    rw [(emb4 l h x).1, (emb4 l h x).2]; rfl
  exact forall_three (P 2 inb_S3x8x100x20_S1x8x100x20_2_0_0_0) (P 1 inb_S3x8x100x20_S1x8x100x20_1_0_0_0) (P 0 inb_S3x8x100x20_S1x8x100x20_0_0_0_0)

end Run

section Arrays

variable (m : (ℓ : Loc nD τ sig) → Buf (Elt F) ℓ)

/-- Each window's block at the one grid point is its whole array. -/
theorem idx_zero0 : ∀ (t : Fin cfg0.N) (a : Fin 3), win0_0.index t a = 0 := (by decide +kernel : ∀ t : Fin grid0.N, _)
theorem idx_zero1 : ∀ (t : Fin cfg0.N) (a : Fin 3), win0_1.index t a = 0 := (by decide +kernel : ∀ t : Fin grid0.N, _)
theorem idx_zero2 : ∀ (t : Fin cfg0.N) (a : Fin 3), win0_2.index t a = 0 := (by decide +kernel : ∀ t : Fin grid0.N, _)
theorem idx_zero3 : ∀ (t : Fin cfg0.N) (a : Fin 4), win0_3.index t a = 0 := (by decide +kernel : ∀ t : Fin grid0.N, _)
theorem idx_zero4 : ∀ (t : Fin cfg0.N) (a : Fin 4), win0_4.index t a = 0 := (by decide +kernel : ∀ t : Fin grid0.N, _)

theorem wemb0 (t : Fin cfg0.N) (j : S3x9x4.Idx) : ((cfg0.win 0).blk t).view.emb j = j := by
  funext a; apply Fin.ext
  show win0_0.index t a * S3x9x4.size a + 1 * (j a).val = (j a).val
  rw [idx_zero0 t a]; omega

theorem wemb1 (t : Fin cfg0.N) (j : S6x8x128.Idx) : ((cfg0.win 1).blk t).view.emb j = j := by
  funext a; apply Fin.ext
  show win0_1.index t a * S6x8x128.size a + 1 * (j a).val = (j a).val
  rw [idx_zero1 t a]; omega

theorem wemb2 (t : Fin cfg0.N) (j : S3x8x128.Idx) : ((cfg0.win 2).blk t).view.emb j = j := by
  funext a; apply Fin.ext
  show win0_2.index t a * S3x8x128.size a + 1 * (j a).val = (j a).val
  rw [idx_zero2 t a]; omega

theorem wemb3 (t : Fin cfg0.N) (j : S3x8x100x4.Idx) : ((cfg0.win 3).blk t).view.emb j = j := by
  funext a; apply Fin.ext
  show win0_3.index t a * S3x8x100x4.size a + 1 * (j a).val = (j a).val
  rw [idx_zero3 t a]; omega

theorem wemb4 (t : Fin cfg0.N) (j : S3x8x100x20.Idx) : ((cfg0.win 4).blk t).view.emb j = j := by
  funext a; apply Fin.ext
  show win0_4.index t a * S3x8x100x20.size a + 1 * (j a).val = (j a).val
  rw [idx_zero4 t a]; omega

theorem iblk0_eq (c : Dev nD) (t : Fin cfg0.N) : iblk m c 0 t = m ((c : Thread nD τ).loc main_arg0) := by
  rw [← V_main_arg0 m c]
  funext j; show V m c main_arg0 (((cfg0.win 0).blk t).view.emb j) = V m c main_arg0 j; rw [wemb0]

/-- The targets transposed, a row each, and padded to 128 boxes. -/
def tgt (x : Vec F S8x100x6 .f32) : Vec F S6x8x128 .f32 :=
  pad S6x8x128 ![0, 0, 0] ![0, 0, 28] ![0, 0, 0] (transpose S6x8x100 [2, 0, 1] x transposes_S8x100x6_S6x8x100_2_0_1)
    (sitofp .f32 (constantI S_ 32 0#32)) pads_S6x8x100_S6x8x128_000_000_0280 h_S_

theorem V_tgt (c : Dev nD) : V m c main_v1 = tgt (m ((c : Thread nD τ).loc main_arg1)) := by
  rfl

theorem iblk1_eq (c : Dev nD) (t : Fin cfg0.N) : iblk m c 1 t = tgt (m ((c : Thread nD τ).loc main_arg1)) := by
  rw [← V_tgt m c]
  funext j; show V m c main_v1 (((cfg0.win 1).blk t).view.emb j) = V m c main_v1 j; rw [wemb1]

theorem final2 (c : Dev nD) : (dats m 0 c).arrAt 2 cfg0.N
    = G2 (trow (tgt (m ((c : Thread nD τ).loc main_arg1)))) (anc (m ((c : Thread nD τ).loc main_arg0))) := by
  refine (dats m 0 c).arrAt_eq_of_cover 2 _ (fun t _ => ?_) (fun i => ⟨(⟨0, by decide⟩ : Fin cfg0.N), flush0_2 _, ?_⟩)
  · rw [flushed2_A, out2_eq, iblk0_eq, iblk1_eq, ldt_eq, ldq_eq]
    funext j
    show _ = G2 _ _ (((cfg0.win 2).blk t).view.emb j)
    rw [wemb2]
  · have h := ((cfg0.win 2).blk (⟨0, by decide⟩ : Fin cfg0.N)).view.emb_mem_set i; rwa [wemb2] at h

theorem final3 (c : Dev nD) : (dats m 0 c).arrAt 3 cfg0.N
    = G3 (trow (tgt (m ((c : Thread nD τ).loc main_arg1)))) (anc (m ((c : Thread nD τ).loc main_arg0))) := by
  refine (dats m 0 c).arrAt_eq_of_cover 3 _ (fun t _ => ?_) (fun i => ⟨(⟨0, by decide⟩ : Fin cfg0.N), flush0_3 _, ?_⟩)
  · rw [flushed3_A, out3_eq, iblk0_eq, iblk1_eq, ldt_eq, ldq_eq]
    funext j
    show _ = G3 _ _ (((cfg0.win 3).blk t).view.emb j)
    rw [wemb3]
  · have h := ((cfg0.win 3).blk (⟨0, by decide⟩ : Fin cfg0.N)).view.emb_mem_set i; rwa [wemb3] at h

theorem final4 (c : Dev nD) : (dats m 0 c).arrAt 4 cfg0.N = G4 (trow (tgt (m ((c : Thread nD τ).loc main_arg1)))) := by
  refine (dats m 0 c).arrAt_eq_of_cover 4 _ (fun t _ => ?_) (fun i => ⟨(⟨0, by decide⟩ : Fin cfg0.N), flush0_4 _, ?_⟩)
  · rw [flushed4_A, out4_eq, iblk1_eq, ldt_eq]
    funext j
    show _ = G4 _ (((cfg0.win 4).blk t).view.emb j)
    rw [wemb4]
  · have h := ((cfg0.win 4).blk (⟨0, by decide⟩ : Fin cfg0.N)).view.emb_mem_set i; rwa [wemb4] at h

end Arrays

end Cert.Proof.B

end
-- ==== Proof.CallLevel.lean ====
module

public import proofs.«01_k».proof.Proof.CallTarget
public import proofs.«01_k».proof.Proof.CallAssign
public import Idealize.ShloMosaic.Lib.IdealHost

/-!
At the extended reals the assignment's arrays are its reference's. Both are read at an index: the overlaps agree since
the reference's scaled boxes are the kernel's, and the anchor the kernel's scan keeps is the one the reference finds.
-/

@[expose] public section

noncomputable section

namespace Cert.Proof.U

open Cert.AssignmentIdeal Cert.AssignmentIdeal.Gen Cert.AssignmentIdeal.Value
open Idealize.ShloMosaic Idealize.ShloMosaic.TcCoe Idealize.SL.Sem
open Cert.Proof.A (lvl ovl best kept pick bot_lt_ovl kept_pick max_pick min_pick)

variable (a : FVec Ideal S3x9x4 .f32) (x : FVec Ideal S8x100x6 .f32) (l : Fin 3) (b : Fin 8)

/-- A box's half sides on a level's grid. -/
def hw (m : Fin 128) : EReal := (padded x (ix3 b m 2) - padded x (ix3 b m 0)) * Ideal.ofBits .f32 (lvl l)
def hh (m : Fin 128) : EReal := (padded x (ix3 b m 3) - padded x (ix3 b m 1)) * Ideal.ofBits .f32 (lvl l)

/-- The overlaps of a level's anchors with a box. -/
def sc (m : Fin 128) (k : ℕ) : EReal :=
  ovl (fun c => a (ix3 l (Fin.ofNat 9 k) c)) (0 - hw x l b m) (0 - hh x l b m) (hw x l b m) (hh x l b m)

theorem sc_pos (m : Fin 128) (k : ℕ) : ⊥ < sc a x l b m k := bot_lt_ovl _ _ _ _ _

/-- The anchor chosen for a box. -/
def pk (m : Fin 128) : Fin 9 := pick (sc a x l b m) (sc_pos a x l b m)

/-- Half a side over a level's stride is the side times the level's literal. -/
theorem half (W : EReal) : Ideal.div (Ideal.div W (Ideal.ofBits .f32 0x40000000#32)) (Ideal.ofBits .f32 (str l)) = W * Ideal.ofBits .f32 (lvl l) := by
  have h2 : Ideal.ofBits .f32 0x40000000#32 = ((2 : ℝ) : EReal) := by
    simp [Ideal.ofBits, Ideal.ieee, -EReal.coe_mul]; norm_num
  have hs : ∃ s : ℝ, s ≠ 0 ∧ Ideal.ofBits .f32 (str l) = (s : EReal) ∧ Ideal.ofBits .f32 (lvl l) = ((1 / 2 * (1 / s) : ℝ) : EReal) := by
    match l with
    | ⟨0, _⟩ => exact ⟨32, by norm_num, by simp [str, Ideal.ofBits, Ideal.ieee, -EReal.coe_mul]; norm_num, by
        simp [lvl, Ideal.ofBits, Ideal.ieee, -EReal.coe_mul]; norm_num⟩
    | ⟨1, _⟩ => exact ⟨16, by norm_num, by simp [str, Ideal.ofBits, Ideal.ieee, -EReal.coe_mul]; norm_num, by
        simp [lvl, Ideal.ofBits, Ideal.ieee, -EReal.coe_mul]; norm_num⟩
    | ⟨2, _⟩ => exact ⟨8, by norm_num, by simp [str, Ideal.ofBits, Ideal.ieee, -EReal.coe_mul]; norm_num, by
        simp [lvl, Ideal.ofBits, Ideal.ieee, -EReal.coe_mul]; norm_num⟩
  obtain ⟨s, h0, h1, h3⟩ := hs
  rw [h2, h1, h3, Ideal.div_coe h0, Ideal.div_coe (two_ne_zero), mul_assoc, ← EReal.coe_mul]

/-! ### The reference at an index -/

theorem wid_at (T : FVec Ideal S8x128x6 .f32) (m : Fin 128) : wid T (ix2 b m) = T (ix3 b m 2) - T (ix3 b m 0) := by
  unfold wid; pointwise
theorem hei_at (T : FVec Ideal S8x128x6 .f32) (m : Fin 128) : hei T (ix2 b m) = T (ix3 b m 3) - T (ix3 b m 1) := by
  unfold hei; pointwise

theorem box_at (m : Fin 128) :
    let B := box (wid (padded x)) (hei (padded x)) (str l)
    B (ix3 b m 0) = 0 - hw x l b m ∧ B (ix3 b m 1) = 0 - hh x l b m ∧ B (ix3 b m 2) = hw x l b m ∧ B (ix3 b m 3) = hh x l b m := by
  refine ⟨?_, ?_, ?_, ?_⟩ <;> unfold box <;> pointwise <;> rw [half] <;> simp only [wid_at, hei_at, hw, hh, zero_sub, EReal.neg_mul]

theorem anch_at (k : Fin 9) (c : Fin 4) : anch (img a) l (ix3 b k c) = a (ix3 l k c) := by
  unfold anch img; pointwise

theorem over_at (k : Fin 9) (m : Fin 128) :
    over (anch (img a) l) (box (wid (padded x)) (hei (padded x)) (str l)) (ix3 b k m) = sc a x l b m k.val := by
  obtain ⟨h0, h1, h2, h3⟩ := box_at x l b m
  unfold over common wh; pointwise
  rw [h0, h1, h2, h3]
  simp only [anch_at]
  unfold sc ovl
  rw [show Fin.ofNat 9 k.val = k from Fin.ext (Nat.mod_eq_of_lt k.isLt), Ideal.ofBits_zero_f32]

theorem top_at (m : Fin 128) :
    top (over (anch (img a) l) (box (wid (padded x)) (hei (padded x)) (str l))) (ix2 b m) = sc a x l b m (pk a x l b m).val := by
  unfold top
  rw [Host.reduce_eq_fold, Shape.ReducesTo.fold_fiber_r3_a1]
  refine Eq.trans ?_ (max_pick (sc a x l b m) (sc_pos a x l b m))
  exact Finset.fold_congr fun k _ => over_at a x l b k m

theorem nums_at (o : FVec Ideal S8x9x128 .f32) (k : Fin 9) (m : Fin 128) :
    nums o (ix3 b k m) = Scalar.select (Ideal.cmp .oeq (o (ix3 b k m)) (top o (ix2 b m))) (BitVec.ofNat 32 k.val) 9#32 := by
  unfold nums
  pointwise
  rfl

theorem lamx_at (m : Fin 128) : lamx a x l (ix2 b m) = BitVec.ofNat 32 (pk a x l b m).val := by
  unfold lamx amx
  rw [Host.reduce_eq_fold, Shape.ReducesTo.fold_fiber_r3_a1]
  refine Eq.trans ?_ (min_pick (sc a x l b m) (sc_pos a x l b m))
  rw [show constantI S_ 32 2147483647#32 (Shape.Idx.first h_S_) = 2147483647#32 from rfl]
  refine Finset.fold_congr fun k _ => ?_
  exact (nums_at b _ k m).trans (by rw [over_at, top_at]; rfl)

/-- Reading an anchor at an image and a number in range. -/
theorem gath (q : FVec Ideal S8x9x4 .f32) (idx : IVec S8x100x2 32) (m : Fin 100) (c : Fin 4) (q0 : Fin 8) (q1 : Fin 9)
    (h0 : (idx (ix3 b m (0 : Fin 2))).toInt.toNat = q0.val) (h1 : (idx (ix3 b m (1 : Fin 2))).toInt.toNat = q1.val) :
    Host.gather gather_S8x9x4_S8x100x2_S8x100x4_2_01_n_n_01_2_114 q idx (ix3 b m c) = q (ix3 q0 q1 c) := by
  let gd := gather_S8x9x4_S8x100x2_S8x100x4_2_01_n_n_01_2_114
  have hsi : ∀ (i : Fin 2) (h : List.idxOf (i.castSucc : Fin 3) gd.startIndexMap < gd.startIndexMap.length),
      gd.siIdx (ix3 b m c) ⟨List.idxOf (i.castSucc : Fin 3) gd.startIndexMap, h⟩ = ix3 b m i := by
    intro i h
    funext d; refine Fin.ext ?_
    fin_cases i <;> (match d with
    | ⟨0, _⟩ => rfl
    | ⟨1, _⟩ => rfl
    | ⟨2, _⟩ => rfl)
  have hm : ∀ i : Fin 2, (i.castSucc : Fin 3) ∈ ([0, 1] : List (Fin 3)) := by decide
  unfold Host.gather
  congr 1
  funext d
  refine Fin.ext ?_
  show gd.start (ix3 b m c) idx d + gd.batchCoord (ix3 b m c) d + gd.offCoord (ix3 b m c) d = _
  rw [GatherDims.batchCoord_eq_zero _ _ _ List.not_mem_nil]
  have hst : ∀ i : Fin 2, gd.start (ix3 b m c) idx i.castSucc
      = min (idx (ix3 b m i)).toInt.toNat (S8x9x4.size i.castSucc - gd.sliceSizes i.castSucc) := by
    intro i
    unfold GatherDims.start
    rw [dif_pos (show (i.castSucc : Fin 3) ∈ gd.startIndexMap from hm i)]
    rw [hsi i]
  have hoff : ∀ i : Fin 2, gd.offCoord (ix3 b m c) i.castSucc = 0 := fun i =>
    GatherDims.offCoord_eq_zero _ _ _ (fun h => ((GatherDims.mem_sKept _ _).mp h).1 (hm i))
  match d with
  | ⟨0, _⟩ => exact (congrArg₂ (fun p q => p + 0 + q) (hst 0) (hoff 0)).trans (by rw [h0]; show min q0.val (8 - 1) + 0 + 0 = q0.val; omega)
  | ⟨1, _⟩ => exact (congrArg₂ (fun p q => p + 0 + q) (hst 1) (hoff 1)).trans (by rw [h1]; show min q1.val (9 - 1) + 0 + 0 = q1.val; omega)
  | ⟨2, _⟩ =>
    have hs : gd.start (ix3 b m c) idx (2 : Fin 3) = 0 := by
      unfold GatherDims.start
      exact dif_neg (show ¬ (2 : Fin 3) ∈ ([0, 1] : List (Fin 3)) by decide)
    show gd.start (ix3 b m c) idx (2 : Fin 3) + 0 + gd.offCoord (ix3 b m c) (2 : Fin 3) = c.val
    rw [hs]
    have : gd.offCoord (ix3 b m c) (2 : Fin 3) = c.val := by rfl
    omega

/-- The chosen anchor of a box. -/
theorem near_at (m : Fin 100) (c : Fin 4) :
    near (anch (img a) l) (extractStridedSlice S8x100 ![0, 0] (lamx a x l) slices_S8x128_S8x100_0_0) (shapeCast _ (iotaInDim S8 32 0) shapeCasts_S8_S8x1)
      (ix3 b m c) = a (ix3 l (pk a x l b (m.castLE (by decide))) c) := by
  unfold near
  rw [gath b _ _ m c b (pk a x l b (m.castLE (by decide))) ?_ ?_, anch_at]
  · pointwise
    revert b
    decide +kernel
  · pointwise
    rw [show (⟨m.val, _⟩ : Fin 128) = m.castLE (by decide) from rfl, lamx_at]
    generalize pk a x l b (m.castLE _) = p
    revert p
    decide +kernel

/-! ### The arrays at an index -/

theorem trow_at (k : Fin 6) (m : Fin 128) : B.trow (F := Ideal) (B.tgt x) k (ix3 0 b m) = padded x (ix3 b m k) := by
  show B.tgt (F := Ideal) x (ix3 k b m) = _
  unfold B.tgt padded; pointwise

theorem sw_at (m : Fin 128) : B.sw (F := Ideal) (B.trow (B.tgt x)) (lvl l) (ix2 b m) = hw x l b m := by
  unfold B.sw B.bw B.row B.lit; pointwise; simp only [trow_at, hw]
theorem sh_at (m : Fin 128) : B.sh (F := Ideal) (B.trow (B.tgt x)) (lvl l) (ix2 b m) = hh x l b m := by
  unfold B.sh B.bh B.row B.lit; pointwise; simp only [trow_at, hh]

theorem vbest_at (o : ℕ → FVec Ideal S8x128 .f32) (n : ℕ) (i) : B.vbest o n i = best (fun k => o k i) n := by
  induction n with
  | zero => rfl
  | succ n ih => rw [best, ← ih]; rfl

theorem vkept_at {e : EltTy} (o : ℕ → FVec Ideal S8x128 .f32) (v : ℕ → Elt Ideal e) (v0) (n : ℕ) (i) :
    B.vkept o v v0 n i = kept (fun k => o k i) v v0 n := by
  induction n with
  | zero => rfl
  | succ n ih => rw [kept, ← ih, ← vbest_at]; rfl

theorem vo_at (m : Fin 128) (k : ℕ) : B.vo (F := Ideal) (B.anc a l) (B.trow (B.tgt x)) (lvl l) k (ix2 b m) = sc a x l b m k := by
  unfold sc
  rw [← sw_at, ← sh_at, ← Ideal.ofBits_zero_f32]; rfl

/-- What the scan keeps is the chosen anchor's. -/
theorem vkept_pk {e : EltTy} (v : ℕ → Elt Ideal e) (v0) (m : Fin 128) :
    B.vkept (B.vo (F := Ideal) (B.anc a l) (B.trow (B.tgt x)) (lvl l)) v v0 9 (ix2 b m) = v (pk a x l b m).val := by
  rw [vkept_at, funext fun k => vo_at a x l b m k, kept_pick _ (sc_pos a x l b m)]; rfl

/-! ### The two sides -/

theorem word_at (m : Fin 128) : B.pack (F := Ideal) (B.anc a l) (B.trow (B.tgt x)) (lvl l) (ix3 0 b m) = lword a x l (ix3 0 b m) := by
  unfold B.pack B.vnum lword word grid; pointwise
  rw [vkept_pk, sw_at, sh_at, lamx_at, half, half, wid_at, hei_at]; rfl

theorem T0_at (m : Fin 128) : T0 a x (ix3 l b m) = lword a x l (ix3 0 b m) := by
  unfold T0
  match l with
  | ⟨0, _⟩ => pointwise
  | ⟨1, _⟩ => pointwise
  | ⟨2, _⟩ => pointwise

theorem T1_at (m : Fin 100) (c : Fin 4) : T1 a x (ix4 l b m c) = lenc a x l (ix4 0 b m c) := by
  unfold T1
  match l with
  | ⟨0, _⟩ => pointwise
  | ⟨1, _⟩ => pointwise
  | ⟨2, _⟩ => pointwise

theorem T2_at (m : Fin 100) (c : Fin 20) : T2 x (ix4 l b m c) = hot x (ix4 0 b m c) := by
  unfold T2
  match l with
  | ⟨0, _⟩ => pointwise
  | ⟨1, _⟩ => pointwise
  | ⟨2, _⟩ => pointwise

theorem words_eq : B.G2 (F := Ideal) (B.trow (B.tgt x)) (B.anc a) = T0 a x := by
  funext j
  obtain ⟨l, b, m, rfl⟩ : ∃ (l : Fin 3) (b : Fin 8) (m : Fin 128), j = ix3 l b m :=
    ⟨j 0, j 1, j 2, funext fun d => match d with | ⟨0, _⟩ => rfl | ⟨1, _⟩ => rfl | ⟨2, _⟩ => rfl⟩
  exact (word_at a x l b m).trans (T0_at a x l b m).symm

theorem fin9 (p : Fin 9) : Fin.ofNat 9 p.val = p := Fin.ext (Nat.mod_eq_of_lt p.isLt)

/-- A box of the targets, as the padded ones hold it. -/
theorem padded_at (m : Fin 100) (k : Fin 6) : padded x (ix3 b (m.castLE (by decide)) k) = x (ix3 b m k) := by
  unfold padded; pointwise
  exact dif_pos m.isLt

theorem gw_at (m : Fin 100) : B.gw (F := Ideal) (B.trow (B.tgt x)) (ix2 b (m.castLE (by decide))) = gtw x (ix2 b m) := by
  unfold B.gw B.bw B.row B.lit gtw; pointwise; simp only [trow_at, padded_at]
theorem gh_at (m : Fin 100) : B.gh (F := Ideal) (B.trow (B.tgt x)) (ix2 b (m.castLE (by decide))) = gth x (ix2 b m) := by
  unfold B.gh B.bh B.row B.lit gth; pointwise; simp only [trow_at, padded_at]

theorem enc_at (m : Fin 100) (c : Fin 4) :
    B.regt (F := Ideal) (B.anc a l) (B.trow (B.tgt x)) (lvl l) (ix4 0 b m c) = lenc a x l (ix4 0 b m c) := by
  have hm : ∀ h, (⟨m.val, h⟩ : Fin 128) = m.castLE (by decide) := fun _ => rfl
  match c with
  | ⟨0, _⟩ =>
    unfold B.regt B.cut lenc enc B.off B.ctr B.row B.lit cx; pointwise
    simp only [hm, gw_at, trow_at, padded_at]
  | ⟨1, _⟩ =>
    unfold B.regt B.cut lenc enc B.off B.ctr B.row B.lit cy; pointwise
    simp only [hm, gh_at, trow_at, padded_at]
  | ⟨2, _⟩ =>
    unfold B.regt B.cut lenc enc B.vexw; pointwise
    rw [hm, gw_at, vkept_pk, fin9, near_at, near_at, ← Ideal.ofBits_one_f32]
    rfl
  | ⟨3, _⟩ =>
    unfold B.regt B.cut lenc enc B.vexh; pointwise
    rw [hm, gh_at, vkept_pk, fin9, near_at, near_at, ← Ideal.ofBits_one_f32]
    rfl

theorem regs_eq : B.G3 (F := Ideal) (B.trow (B.tgt x)) (B.anc a) = T1 a x := by
  funext j
  obtain ⟨l, b, m, c, rfl⟩ : ∃ (l : Fin 3) (b : Fin 8) (m : Fin 100) (c : Fin 4), j = ix4 l b m c :=
    ⟨j 0, j 1, j 2, j 3, funext fun d => match d with | ⟨0, _⟩ => rfl | ⟨1, _⟩ => rfl | ⟨2, _⟩ => rfl | ⟨3, _⟩ => rfl⟩
  exact (enc_at a x l b m c).trans (T1_at a x l b m c).symm

theorem hot_at (m : Fin 100) (c : Fin 20) : B.clst (F := Ideal) (B.trow (B.tgt x)) (ix4 0 b m c) = hot x (ix4 0 b m c) := by
  have hm : ∀ h, (⟨m.val, h⟩ : Fin 128) = m.castLE (by decide) := fun _ => rfl
  unfold B.clst AssignIdeal.Gen.k0_pay9 hot; pointwise
  rw [hm, trow_at, padded_at]
  generalize IntOp.cmpi _ _ _ = w
  have hw : w = 0#1 ∨ w = 1#1 := by revert w; decide
  rcases hw with rfl | rfl
  · show (0 : EReal) = (((0 : ℕ) : ℝ) : EReal); simp
  · show (1 : EReal) = (((1 : ℕ) : ℝ) : EReal); simp

theorem classes_eq : B.G4 (F := Ideal) (B.trow (B.tgt x)) = T2 x := by
  funext j
  obtain ⟨l, b, m, c, rfl⟩ : ∃ (l : Fin 3) (b : Fin 8) (m : Fin 100) (c : Fin 20), j = ix4 l b m c :=
    ⟨j 0, j 1, j 2, j 3, funext fun d => match d with | ⟨0, _⟩ => rfl | ⟨1, _⟩ => rfl | ⟨2, _⟩ => rfl | ⟨3, _⟩ => rfl⟩
  exact (hot_at x b m c).trans (T2_at x l b m c).symm

end Cert.Proof.U
-- ==== Proof.lean ====
module

public import proofs.«01_k».proof.Defs
public import proofs.«01_k».proof.Proof.Same
public import proofs.«01_k».proof.Proof.Level
public import proofs.«01_k».proof.Proof.Ref
public import proofs.«01_k».proof.Proof.CallLevel
public import proofs.«01_k».proof.Proof.Gen.Kernel
public import proofs.«01_k».proof.Proof.Gen.KernelIdeal
public import proofs.«01_k».proof.Proof.Gen.ReferenceIdeal
public import proofs.«01_k».proof.Proof.Gen.Pre_in_grid
public import proofs.«01_k».proof.Proof.Gen.Assign
public import proofs.«01_k».proof.Proof.Gen.Assign.Value
public import proofs.«01_k».proof.Proof.Gen.AssignIdeal
public import proofs.«01_k».proof.Proof.Gen.AssignIdeal.Value
public import proofs.«01_k».proof.Proof.Gen.AssignmentIdeal
public import proofs.«01_k».proof.Proof.Gen.AssignmentIdeal.Run

/-!
The claims: the kernel, its TensorCore call and its SparseCore call in one program, runs at both readings of floats
and leaves its arguments as they were, so does the reference, and the two compute the same four arrays. The same of
the TensorCore call alone, for all arguments.
-/

@[expose] public section

noncomputable section

namespace Cert.Proof

open Idealize.ShloMosaic Idealize.SL.Sem

/-- The kernel at machine floats terminates, changes none of its arguments, and leaves every semaphore at zero. -/
theorem frame_kernel : Cert.quiescent_Kernel := fun m ρ hp => by
  have hg : ∀ d, K.InGrid (F := Bits) (K.xM m d) := fun d => K.inGrid_of_pre (F := Bits) _ _ _ _ (hp d)
  have hr := K.run_main (F := Bits) m ρ fun d => K.ivM_InR m d (hg d)
  rw [K.run_eq]
  exact (θ_run Cert.KernelIdeal.defs _ _).mono (fun _ h => ⟨fun c => (h.1 c).2.2.2.2, h.2⟩) hr

/-- The kernel at ideal floats: the same. -/
theorem frame_ideal : Cert.quiescent_KernelIdeal := fun m ρ hp =>
  (θ_run Cert.KernelIdeal.defs _ _).mono (fun _ h => ⟨fun c => (h.1 c).2.2.2.2, h.2⟩)
    (K.run_main (F := Ideal) m ρ fun d => K.ivM_InR m d (K.inGrid_of_pre (F := Ideal) _ _ _ _ (hp d)))

/-- The reference terminates, changes none of its arguments, and uses no semaphore. -/
theorem frame_reference : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (T.run_eq (F := Ideal) m ρ)

/-- The reference under the precondition: it holds of every initial memory. -/
theorem frame_reference_pre : Cert.quiescent_ReferenceIdeal_pre_in_grid := fun m ρ _ => frame_reference m ρ trivial

/-- The class scores the kernel picks out are the reference's. -/
theorem cls_eq (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (hg : K.InGrid (F := Ideal) (K.xM m d)) (ct : FVec Ideal Cert.KernelIdeal.S3x8x9x80x80x20 .f32)
    (h0 : R.A0 V = K.aM m d) (h1 : R.A1 V = K.xM m d)
    (h2 : (V (Proc.devRef .tc Cert.ReferenceIdeal.main_arg3) : FVec Ideal Cert.KernelIdeal.S3x8x9x80x80x20 .f32) = ct) :
    (Cert.ReferenceIdeal.Value.res_main_v739 V : FVec Ideal Cert.KernelIdeal.S3x8x100x20 .f32)
      = shapeCast Cert.KernelIdeal.S3x8x100x20 (K.clsOut ct (K.ivM m d)) Cert.KernelIdeal.Gen.facts.shapeCasts_S24x100x20_S3x8x100x20 := by
  funext y
  obtain ⟨l, b, j, k, rfl⟩ : ∃ (l : Fin 3) (b : Fin 8) (j : Fin 100) (k : Fin 20), y = ValueIdx.ix4 l b j k := ⟨y 0, y 1, y 2, y 3, ValueIdx.eq_ix4 y⟩
  have ga := K.wNum_lt (F := Ideal) (K.aM m d) (K.xM m d) l b (K.up j)
  obtain ⟨gx, gy⟩ := hg l b (K.up j)
  refine (R.cls_apply V l b j k ⟨_, ga⟩ ⟨_, gx⟩ ⟨_, gy⟩ ?_ ?_ ?_).trans ?_
  · rw [h0, h1]; exact congrArg BitVec.toNat (T.num_at _ _ l b j).symm
  · rw [h1]; exact congrArg BitVec.toNat (T.col_at _ l b j).symm
  · rw [h1]; exact congrArg BitVec.toNat (T.lin_at _ l b j).symm
  · exact (congrFun h2 _).trans (K.cls_apply m d hg ct l b j k ⟨_, ga⟩ ⟨_, gx⟩ ⟨_, gy⟩ rfl rfl rfl).symm

/-- The box regressions the kernel picks out are the reference's. -/
theorem reg_eq (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (hg : K.InGrid (F := Ideal) (K.xM m d)) (ct : FVec Ideal Cert.KernelIdeal.S3x8x9x80x80x5 .f32)
    (h0 : R.A0 V = K.aM m d) (h1 : R.A1 V = K.xM m d)
    (h2 : (V (Proc.devRef .tc Cert.ReferenceIdeal.main_arg2) : FVec Ideal Cert.KernelIdeal.S3x8x9x80x80x5 .f32) = ct) :
    (Cert.ReferenceIdeal.Value.res_main_v743 V : FVec Ideal Cert.KernelIdeal.S3x8x100x5 .f32)
      = shapeCast Cert.KernelIdeal.S3x8x100x5 (extractStridedSlice Cert.KernelIdeal.S24x100x5 ![0, 0, 0] (K.regOut (F := Ideal) ct (K.ivM m d))
          Cert.KernelIdeal.Gen.facts.slices_S24x128x5_S24x100x5_0_0_0 : FVec Ideal Cert.KernelIdeal.S24x100x5 .f32) Cert.KernelIdeal.Gen.facts.shapeCasts_S24x100x5_S3x8x100x5 := by
  funext y
  obtain ⟨l, b, j, k, rfl⟩ : ∃ (l : Fin 3) (b : Fin 8) (j : Fin 100) (k : Fin 5), y = ValueIdx.ix4 l b j k := ⟨y 0, y 1, y 2, y 3, ValueIdx.eq_ix4 y⟩
  have ga := K.wNum_lt (F := Ideal) (K.aM m d) (K.xM m d) l b (K.up j)
  obtain ⟨gx, gy⟩ := hg l b (K.up j)
  refine (R.reg_apply V l b j k ⟨_, ga⟩ ⟨_, gx⟩ ⟨_, gy⟩ ?_ ?_ ?_).trans ?_
  · rw [h0, h1]; exact congrArg BitVec.toNat (T.num_at _ _ l b j).symm
  · rw [h1]; exact congrArg BitVec.toNat (T.col_at _ l b j).symm
  · rw [h1]; exact congrArg BitVec.toNat (T.lin_at _ l b j).symm
  · exact (congrFun h2 _).trans (K.reg_apply m d hg ct l b j k ⟨_, ga⟩ ⟨_, gx⟩ ⟨_, gy⟩ rfl rfl rfl).symm

/-- From equal arguments in the grid, the kernel and the reference end with the same class scores, box regressions,
    class rows and regression targets. -/
theorem algebraic : Cert.algebraic_KernelIdeal_ReferenceIdeal := by
  intro m ρ m' ρ' hp hagree
  have hg : ∀ d, K.InGrid (F := Ideal) (K.xM m d) := fun d => K.inGrid_of_pre (F := Ideal) _ _ _ _ (hp d)
  refine ⟨_, _, _, _, (θ_run Cert.KernelIdeal.defs _ _).mono (fun _ h c => h.1 c) (K.run_main (F := Ideal) m ρ fun d => K.ivM_InR m d (hg d)), ?_⟩
  refine (θ_run Cert.ReferenceIdeal.defs _ _).mono (fun _ h c => ?_) (T.run_eq (F := Ideal) m' ρ')
  obtain ⟨e0, e1, e2, e3⟩ := hagree c
  obtain ⟨r0, r1, r2, r3, ra⟩ := h c
  refine ⟨r0.trans ?_, r1.trans ?_, r2.trans ?_, r3.trans ?_, ra⟩
  · exact cls_eq m c _ (hg c) _ e0 e1 e3
  · exact reg_eq m c _ (hg c) _ e0 e1 e2
  · rw [e1]; exact ((A.VR4 (F := Ideal) m c).trans (T.classes_eq _)).symm
  · rw [e0, e1]; exact ((A.VR3 (F := Ideal) m c).trans (T.regs_eq _ _)).symm

/-- The TensorCore call alone at machine floats terminates, changes none of its arguments, and leaves every semaphore at zero. -/
theorem frame_assign : Cert.quiescent_Assign := fun m ρ _ => Cert.Assign.Gen.frame (F := Bits) m ρ

/-- The TensorCore call alone at ideal floats: the same. -/
theorem frame_assign_ideal : Cert.quiescent_AssignIdeal := fun m ρ _ => Cert.AssignIdeal.Gen.frame (F := Ideal) m ρ

/-- Its reference terminates, changes none of its arguments, and uses no semaphore. -/
theorem frame_assignment : Cert.quiescent_AssignmentIdeal := fun m ρ _ =>
  (θ_run Cert.AssignmentIdeal.defs _ _).mono (fun r h => ⟨fun c => (h c).2.2.2, Idealize.ShloMosaic.sem_eq_zero_of_no_sems (by decide) r.2⟩)
    (U.run_eq (F := Ideal) m ρ)

/-- From equal arguments the TensorCore call and its reference end with the same packed words, the same regression targets
    and the same class rows. -/
theorem algebraic_assign : Cert.algebraic_AssignIdeal_AssignmentIdeal := by
  intro m ρ m' ρ' _ hagree
  refine ⟨_, _, _, Cert.AssignIdeal.Value.run_blocks (F := Ideal) m ρ, ?_⟩
  refine (θ_run Cert.AssignmentIdeal.defs _ _).mono (fun _ h c => ?_) (U.run_eq (F := Ideal) m' ρ')
  obtain ⟨e0, e1⟩ := hagree c
  obtain ⟨r0, r1, r2, ra⟩ := h c
  refine ⟨r0.trans ?_, r1.trans ?_, r2.trans ?_, ra⟩
  · rw [e0, e1]; exact ((B.final2 (F := Ideal) m c).trans (U.words_eq _ _)).symm
  · rw [e0, e1]; exact ((B.final3 (F := Ideal) m c).trans (U.regs_eq _ _)).symm
  · rw [e1]; exact ((B.final4 (F := Ideal) m c).trans (U.classes_eq _)).symm

/-- The claims together. -/
theorem claim : Cert.Claim := ⟨Cert.Kernel.Gen.facts, Cert.KernelIdeal.Gen.facts, Cert.ReferenceIdeal.Gen.facts, Cert.Assign.Gen.facts,
  Cert.AssignIdeal.Gen.facts, Cert.AssignmentIdeal.Gen.facts, Cert.Pre_in_grid.Gen.facts,
  frame_kernel, frame_ideal, frame_reference, frame_reference_pre, frame_assign, frame_assign_ideal, frame_assignment,
  trivial, algebraic, trivial, algebraic_assign⟩

end Cert.Proof

end
